-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_DownGrad (m : (ℓ : Loc Cert.DownGrad.nD Cert.DownGrad.τ Cert.DownGrad.sig) → Buf (Elt Bits) ℓ) : Prop :=
  True

def Pre_DownGradIdeal (m : (ℓ : Loc Cert.DownGradIdeal.nD Cert.DownGradIdeal.τ Cert.DownGradIdeal.sig) → Buf (Elt Ideal) ℓ) : Prop :=
  True

def Pre_DownGradRefIdeal (m : (ℓ : Loc Cert.DownGradRefIdeal.nD Cert.DownGradRefIdeal.τ Cert.DownGradRefIdeal.sig) → Buf (Elt Ideal) ℓ) : Prop :=
  True

def Pre_UpBack (m : (ℓ : Loc Cert.UpBack.nD Cert.UpBack.τ Cert.UpBack.sig) → Buf (Elt Bits) ℓ) : Prop :=
  True

def Pre_UpBackIdeal (m : (ℓ : Loc Cert.UpBackIdeal.nD Cert.UpBackIdeal.τ Cert.UpBackIdeal.sig) → Buf (Elt Ideal) ℓ) : Prop :=
  True

def Pre_UpBackRefIdeal (m : (ℓ : Loc Cert.UpBackRefIdeal.nD Cert.UpBackRefIdeal.τ Cert.UpBackRefIdeal.sig) → Buf (Elt Ideal) ℓ) : Prop :=
  True

def Pre_UpGrad (m : (ℓ : Loc Cert.UpGrad.nD Cert.UpGrad.τ Cert.UpGrad.sig) → Buf (Elt Bits) ℓ) : Prop :=
  True

def Pre_UpGradIdeal (m : (ℓ : Loc Cert.UpGradIdeal.nD Cert.UpGradIdeal.τ Cert.UpGradIdeal.sig) → Buf (Elt Ideal) ℓ) : Prop :=
  True

def Pre_UpGradRefIdeal (m : (ℓ : Loc Cert.UpGradRefIdeal.nD Cert.UpGradRefIdeal.τ Cert.UpGradRefIdeal.sig) → Buf (Elt Ideal) ℓ) : Prop :=
  True

def Pre_ActBack (m : (ℓ : Loc Cert.ActBack.nD Cert.ActBack.τ Cert.ActBack.sig) → Buf (Elt Bits) ℓ) : Prop :=
  True

def Pre_ActBackIdeal (m : (ℓ : Loc Cert.ActBackIdeal.nD Cert.ActBackIdeal.τ Cert.ActBackIdeal.sig) → Buf (Elt Ideal) ℓ) : Prop :=
  True

def Pre_ActBackIdeal_act_finite [hPre_act_finite : Cert.Pre_act_finite.Facts] (m : (ℓ : Loc Cert.ActBackIdeal.nD Cert.ActBackIdeal.τ Cert.ActBackIdeal.sig) → Buf (Elt Ideal) ℓ) : Prop :=
  ∀ c : Dev Cert.ActBackIdeal.nD,
    (Cert.Pre_act_finite.fn (F := Ideal) (m ((c.tc : Thread Cert.ActBackIdeal.nD Cert.ActBackIdeal.τ).loc Cert.ActBackIdeal.main_arg0)) (m ((c.tc : Thread Cert.ActBackIdeal.nD Cert.ActBackIdeal.τ).loc Cert.ActBackIdeal.main_arg1)) (m ((c.tc : Thread Cert.ActBackIdeal.nD Cert.ActBackIdeal.τ).loc Cert.ActBackIdeal.main_arg2)) (m ((c.tc : Thread Cert.ActBackIdeal.nD Cert.ActBackIdeal.τ).loc Cert.ActBackIdeal.main_arg3))).1 = (fun _ => 1#1)
    ∧ (Cert.Pre_act_finite.fn (F := Ideal) (m ((c.tc : Thread Cert.ActBackIdeal.nD Cert.ActBackIdeal.τ).loc Cert.ActBackIdeal.main_arg0)) (m ((c.tc : Thread Cert.ActBackIdeal.nD Cert.ActBackIdeal.τ).loc Cert.ActBackIdeal.main_arg1)) (m ((c.tc : Thread Cert.ActBackIdeal.nD Cert.ActBackIdeal.τ).loc Cert.ActBackIdeal.main_arg2)) (m ((c.tc : Thread Cert.ActBackIdeal.nD Cert.ActBackIdeal.τ).loc Cert.ActBackIdeal.main_arg3))).2.1 = (fun _ => 1#1)
    ∧ (Cert.Pre_act_finite.fn (F := Ideal) (m ((c.tc : Thread Cert.ActBackIdeal.nD Cert.ActBackIdeal.τ).loc Cert.ActBackIdeal.main_arg0)) (m ((c.tc : Thread Cert.ActBackIdeal.nD Cert.ActBackIdeal.τ).loc Cert.ActBackIdeal.main_arg1)) (m ((c.tc : Thread Cert.ActBackIdeal.nD Cert.ActBackIdeal.τ).loc Cert.ActBackIdeal.main_arg2)) (m ((c.tc : Thread Cert.ActBackIdeal.nD Cert.ActBackIdeal.τ).loc Cert.ActBackIdeal.main_arg3))).2.2 = (fun _ => 1#1)

def Pre_ActBackRefIdeal (m : (ℓ : Loc Cert.ActBackRefIdeal.nD Cert.ActBackRefIdeal.τ Cert.ActBackRefIdeal.sig) → Buf (Elt Ideal) ℓ) : Prop :=
  True

def Pre_ActBackRefIdeal_act_finite [hPre_act_finite : Cert.Pre_act_finite.Facts] (m : (ℓ : Loc Cert.ActBackRefIdeal.nD Cert.ActBackRefIdeal.τ Cert.ActBackRefIdeal.sig) → Buf (Elt Ideal) ℓ) : Prop :=
  ∀ c : Dev Cert.ActBackRefIdeal.nD,
    (Cert.Pre_act_finite.fn (F := Ideal) (m ((c.tc : Thread Cert.ActBackRefIdeal.nD Cert.ActBackRefIdeal.τ).loc Cert.ActBackRefIdeal.main_arg0)) (m ((c.tc : Thread Cert.ActBackRefIdeal.nD Cert.ActBackRefIdeal.τ).loc Cert.ActBackRefIdeal.main_arg1)) (m ((c.tc : Thread Cert.ActBackRefIdeal.nD Cert.ActBackRefIdeal.τ).loc Cert.ActBackRefIdeal.main_arg2)) (m ((c.tc : Thread Cert.ActBackRefIdeal.nD Cert.ActBackRefIdeal.τ).loc Cert.ActBackRefIdeal.main_arg3))).1 = (fun _ => 1#1)
    ∧ (Cert.Pre_act_finite.fn (F := Ideal) (m ((c.tc : Thread Cert.ActBackRefIdeal.nD Cert.ActBackRefIdeal.τ).loc Cert.ActBackRefIdeal.main_arg0)) (m ((c.tc : Thread Cert.ActBackRefIdeal.nD Cert.ActBackRefIdeal.τ).loc Cert.ActBackRefIdeal.main_arg1)) (m ((c.tc : Thread Cert.ActBackRefIdeal.nD Cert.ActBackRefIdeal.τ).loc Cert.ActBackRefIdeal.main_arg2)) (m ((c.tc : Thread Cert.ActBackRefIdeal.nD Cert.ActBackRefIdeal.τ).loc Cert.ActBackRefIdeal.main_arg3))).2.1 = (fun _ => 1#1)
    ∧ (Cert.Pre_act_finite.fn (F := Ideal) (m ((c.tc : Thread Cert.ActBackRefIdeal.nD Cert.ActBackRefIdeal.τ).loc Cert.ActBackRefIdeal.main_arg0)) (m ((c.tc : Thread Cert.ActBackRefIdeal.nD Cert.ActBackRefIdeal.τ).loc Cert.ActBackRefIdeal.main_arg1)) (m ((c.tc : Thread Cert.ActBackRefIdeal.nD Cert.ActBackRefIdeal.τ).loc Cert.ActBackRefIdeal.main_arg2)) (m ((c.tc : Thread Cert.ActBackRefIdeal.nD Cert.ActBackRefIdeal.τ).loc Cert.ActBackRefIdeal.main_arg3))).2.2 = (fun _ => 1#1)

def Pre_MoBack (m : (ℓ : Loc Cert.MoBack.nD Cert.MoBack.τ Cert.MoBack.sig) → Buf (Elt Bits) ℓ) : Prop :=
  True

def Pre_MoBackIdeal (m : (ℓ : Loc Cert.MoBackIdeal.nD Cert.MoBackIdeal.τ Cert.MoBackIdeal.sig) → Buf (Elt Ideal) ℓ) : Prop :=
  True

def Pre_MoBackRefIdeal (m : (ℓ : Loc Cert.MoBackRefIdeal.nD Cert.MoBackRefIdeal.τ Cert.MoBackRefIdeal.sig) → Buf (Elt Ideal) ℓ) : Prop :=
  True

def Pre_MoGrad (m : (ℓ : Loc Cert.MoGrad.nD Cert.MoGrad.τ Cert.MoGrad.sig) → Buf (Elt Bits) ℓ) : Prop :=
  True

def Pre_MoGradIdeal (m : (ℓ : Loc Cert.MoGradIdeal.nD Cert.MoGradIdeal.τ Cert.MoGradIdeal.sig) → Buf (Elt Ideal) ℓ) : Prop :=
  True

def Pre_MoGradRefIdeal (m : (ℓ : Loc Cert.MoGradRefIdeal.nD Cert.MoGradRefIdeal.τ Cert.MoGradRefIdeal.sig) → Buf (Elt Ideal) ℓ) : Prop :=
  True

def Pre_MqBack (m : (ℓ : Loc Cert.MqBack.nD Cert.MqBack.τ Cert.MqBack.sig) → Buf (Elt Bits) ℓ) : Prop :=
  True

def Pre_MqBackIdeal (m : (ℓ : Loc Cert.MqBackIdeal.nD Cert.MqBackIdeal.τ Cert.MqBackIdeal.sig) → Buf (Elt Ideal) ℓ) : Prop :=
  True

def Pre_MqBackRefIdeal (m : (ℓ : Loc Cert.MqBackRefIdeal.nD Cert.MqBackRefIdeal.τ Cert.MqBackRefIdeal.sig) → Buf (Elt Ideal) ℓ) : Prop :=
  True

def Pre_MqGrad (m : (ℓ : Loc Cert.MqGrad.nD Cert.MqGrad.τ Cert.MqGrad.sig) → Buf (Elt Bits) ℓ) : Prop :=
  True

def Pre_MqGradIdeal (m : (ℓ : Loc Cert.MqGradIdeal.nD Cert.MqGradIdeal.τ Cert.MqGradIdeal.sig) → Buf (Elt Ideal) ℓ) : Prop :=
  True

def Pre_MqGradRefIdeal (m : (ℓ : Loc Cert.MqGradRefIdeal.nD Cert.MqGradRefIdeal.τ Cert.MqGradRefIdeal.sig) → Buf (Elt Ideal) ℓ) : Prop :=
  True

def Pre_OutBack (m : (ℓ : Loc Cert.OutBack.nD Cert.OutBack.τ Cert.OutBack.sig) → Buf (Elt Bits) ℓ) : Prop :=
  True

def Pre_OutBackIdeal (m : (ℓ : Loc Cert.OutBackIdeal.nD Cert.OutBackIdeal.τ Cert.OutBackIdeal.sig) → Buf (Elt Ideal) ℓ) : Prop :=
  True

def Pre_OutBackRefIdeal (m : (ℓ : Loc Cert.OutBackRefIdeal.nD Cert.OutBackRefIdeal.τ Cert.OutBackRefIdeal.sig) → Buf (Elt Ideal) ℓ) : Prop :=
  True

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutGradRefIdeal (m : (ℓ : Loc Cert.OutGradRefIdeal.nD Cert.OutGradRefIdeal.τ Cert.OutGradRefIdeal.sig) → Buf (Elt Ideal) ℓ) : Prop :=
  True

def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InGradRefIdeal (m : (ℓ : Loc Cert.InGradRefIdeal.nD Cert.InGradRefIdeal.τ Cert.InGradRefIdeal.sig) → Buf (Elt Ideal) ℓ) : Prop :=
  True

def Pre_InBack (m : (ℓ : Loc Cert.InBack.nD Cert.InBack.τ Cert.InBack.sig) → Buf (Elt Bits) ℓ) : Prop :=
  True

def Pre_InBackIdeal (m : (ℓ : Loc Cert.InBackIdeal.nD Cert.InBackIdeal.τ Cert.InBackIdeal.sig) → Buf (Elt Ideal) ℓ) : Prop :=
  True

def Pre_InBackRefIdeal (m : (ℓ : Loc Cert.InBackRefIdeal.nD Cert.InBackRefIdeal.τ Cert.InBackRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_MqProj (m : (ℓ : Loc Cert.MqProj.nD Cert.MqProj.τ Cert.MqProj.sig) → Buf (Elt Bits) ℓ) : Prop :=
  True

def Pre_MqProjIdeal (m : (ℓ : Loc Cert.MqProjIdeal.nD Cert.MqProjIdeal.τ Cert.MqProjIdeal.sig) → Buf (Elt Ideal) ℓ) : Prop :=
  True

def Pre_MqProjRefIdeal (m : (ℓ : Loc Cert.MqProjRefIdeal.nD Cert.MqProjRefIdeal.τ Cert.MqProjRefIdeal.sig) → Buf (Elt Ideal) ℓ) : Prop :=
  True

def Pre_MoProj (m : (ℓ : Loc Cert.MoProj.nD Cert.MoProj.τ Cert.MoProj.sig) → Buf (Elt Bits) ℓ) : Prop :=
  True

def Pre_MoProjIdeal (m : (ℓ : Loc Cert.MoProjIdeal.nD Cert.MoProjIdeal.τ Cert.MoProjIdeal.sig) → Buf (Elt Ideal) ℓ) : Prop :=
  True

def Pre_MoProjRefIdeal (m : (ℓ : Loc Cert.MoProjRefIdeal.nD Cert.MoProjRefIdeal.τ Cert.MoProjRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_XAttnBack (m : (ℓ : Loc Cert.XAttnBack.nD Cert.XAttnBack.τ Cert.XAttnBack.sig) → Buf (Elt Bits) ℓ) : Prop :=
  True

def Pre_XAttnBackIdeal (m : (ℓ : Loc Cert.XAttnBackIdeal.nD Cert.XAttnBackIdeal.τ Cert.XAttnBackIdeal.sig) → Buf (Elt Ideal) ℓ) : Prop :=
  True

def Pre_XAttnBackIdeal_xattn_finite [hPre_xattn_finite : Cert.Pre_xattn_finite.Facts] (m : (ℓ : Loc Cert.XAttnBackIdeal.nD Cert.XAttnBackIdeal.τ Cert.XAttnBackIdeal.sig) → Buf (Elt Ideal) ℓ) : Prop :=
  ∀ c : Dev Cert.XAttnBackIdeal.nD,
    (Cert.Pre_xattn_finite.fn (F := Ideal) (m ((c.tc : Thread Cert.XAttnBackIdeal.nD Cert.XAttnBackIdeal.τ).loc Cert.XAttnBackIdeal.main_arg0)) (m ((c.tc : Thread Cert.XAttnBackIdeal.nD Cert.XAttnBackIdeal.τ).loc Cert.XAttnBackIdeal.main_arg1)) (m ((c.tc : Thread Cert.XAttnBackIdeal.nD Cert.XAttnBackIdeal.τ).loc Cert.XAttnBackIdeal.main_arg2)) (m ((c.tc : Thread Cert.XAttnBackIdeal.nD Cert.XAttnBackIdeal.τ).loc Cert.XAttnBackIdeal.main_arg3)) (m ((c.tc : Thread Cert.XAttnBackIdeal.nD Cert.XAttnBackIdeal.τ).loc Cert.XAttnBackIdeal.main_arg4))).1 = (fun _ => 1#1)
    ∧ (Cert.Pre_xattn_finite.fn (F := Ideal) (m ((c.tc : Thread Cert.XAttnBackIdeal.nD Cert.XAttnBackIdeal.τ).loc Cert.XAttnBackIdeal.main_arg0)) (m ((c.tc : Thread Cert.XAttnBackIdeal.nD Cert.XAttnBackIdeal.τ).loc Cert.XAttnBackIdeal.main_arg1)) (m ((c.tc : Thread Cert.XAttnBackIdeal.nD Cert.XAttnBackIdeal.τ).loc Cert.XAttnBackIdeal.main_arg2)) (m ((c.tc : Thread Cert.XAttnBackIdeal.nD Cert.XAttnBackIdeal.τ).loc Cert.XAttnBackIdeal.main_arg3)) (m ((c.tc : Thread Cert.XAttnBackIdeal.nD Cert.XAttnBackIdeal.τ).loc Cert.XAttnBackIdeal.main_arg4))).2 = (fun _ => 1#1)

def Pre_XAttnBackRefIdeal (m : (ℓ : Loc Cert.XAttnBackRefIdeal.nD Cert.XAttnBackRefIdeal.τ Cert.XAttnBackRefIdeal.sig) → Buf (Elt Ideal) ℓ) : Prop :=
  True

def Pre_XAttnBackRefIdeal_xattn_finite [hPre_xattn_finite : Cert.Pre_xattn_finite.Facts] (m : (ℓ : Loc Cert.XAttnBackRefIdeal.nD Cert.XAttnBackRefIdeal.τ Cert.XAttnBackRefIdeal.sig) → Buf (Elt Ideal) ℓ) : Prop :=
  ∀ c : Dev Cert.XAttnBackRefIdeal.nD,
    (Cert.Pre_xattn_finite.fn (F := Ideal) (m ((c.tc : Thread Cert.XAttnBackRefIdeal.nD Cert.XAttnBackRefIdeal.τ).loc Cert.XAttnBackRefIdeal.main_arg0)) (m ((c.tc : Thread Cert.XAttnBackRefIdeal.nD Cert.XAttnBackRefIdeal.τ).loc Cert.XAttnBackRefIdeal.main_arg1)) (m ((c.tc : Thread Cert.XAttnBackRefIdeal.nD Cert.XAttnBackRefIdeal.τ).loc Cert.XAttnBackRefIdeal.main_arg2)) (m ((c.tc : Thread Cert.XAttnBackRefIdeal.nD Cert.XAttnBackRefIdeal.τ).loc Cert.XAttnBackRefIdeal.main_arg3)) (m ((c.tc : Thread Cert.XAttnBackRefIdeal.nD Cert.XAttnBackRefIdeal.τ).loc Cert.XAttnBackRefIdeal.main_arg4))).1 = (fun _ => 1#1)
    ∧ (Cert.Pre_xattn_finite.fn (F := Ideal) (m ((c.tc : Thread Cert.XAttnBackRefIdeal.nD Cert.XAttnBackRefIdeal.τ).loc Cert.XAttnBackRefIdeal.main_arg0)) (m ((c.tc : Thread Cert.XAttnBackRefIdeal.nD Cert.XAttnBackRefIdeal.τ).loc Cert.XAttnBackRefIdeal.main_arg1)) (m ((c.tc : Thread Cert.XAttnBackRefIdeal.nD Cert.XAttnBackRefIdeal.τ).loc Cert.XAttnBackRefIdeal.main_arg2)) (m ((c.tc : Thread Cert.XAttnBackRefIdeal.nD Cert.XAttnBackRefIdeal.τ).loc Cert.XAttnBackRefIdeal.main_arg3)) (m ((c.tc : Thread Cert.XAttnBackRefIdeal.nD Cert.XAttnBackRefIdeal.τ).loc Cert.XAttnBackRefIdeal.main_arg4))).2 = (fun _ => 1#1)

def Pre_XAttnFwd (m : (ℓ : Loc Cert.XAttnFwd.nD Cert.XAttnFwd.τ Cert.XAttnFwd.sig) → Buf (Elt Bits) ℓ) : Prop :=
  True

def Pre_XAttnFwdIdeal (m : (ℓ : Loc Cert.XAttnFwdIdeal.nD Cert.XAttnFwdIdeal.τ Cert.XAttnFwdIdeal.sig) → Buf (Elt Ideal) ℓ) : Prop :=
  True

def Pre_XAttnFwdRefIdeal (m : (ℓ : Loc Cert.XAttnFwdRefIdeal.nD Cert.XAttnFwdRefIdeal.τ Cert.XAttnFwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_DownGrad [hDownGrad : Cert.DownGrad.Facts] : Prop :=
  ∀ (m : (ℓ : Loc Cert.DownGrad.nD Cert.DownGrad.τ Cert.DownGrad.sig) → Buf (Elt Bits) ℓ) (g : Dev Cert.DownGrad.nD → PrngReg), Pre_DownGrad m →
    θ_run (Cert.DownGrad.defs (F := Bits)) (onTc (τ := Cert.DownGrad.τ) (Cert.DownGrad.main (F := Bits))) ⟨m, fun _ => 0, g⟩ (fun r => (∀ c : Dev Cert.DownGrad.nD,
      r.2.mem ((c.tc : Thread Cert.DownGrad.nD Cert.DownGrad.τ).loc Cert.DownGrad.main_arg0) = m ((c.tc : Thread Cert.DownGrad.nD Cert.DownGrad.τ).loc Cert.DownGrad.main_arg0)
      ∧ r.2.mem ((c.tc : Thread Cert.DownGrad.nD Cert.DownGrad.τ).loc Cert.DownGrad.main_arg1) = m ((c.tc : Thread Cert.DownGrad.nD Cert.DownGrad.τ).loc Cert.DownGrad.main_arg1))
      ∧ r.2.sem = fun _ => 0)

def quiescent_DownGradIdeal [hDownGradIdeal : Cert.DownGradIdeal.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ r.2.sem = fun _ => 0)

def quiescent_DownGradRefIdeal [hDownGradRefIdeal : Cert.DownGradRefIdeal.Facts] : Prop :=
  ∀ (m : (ℓ : Loc Cert.DownGradRefIdeal.nD Cert.DownGradRefIdeal.τ Cert.DownGradRefIdeal.sig) → Buf (Elt Ideal) ℓ) (g : Dev Cert.DownGradRefIdeal.nD → PrngReg), Pre_DownGradRefIdeal m →
    θ_run (Cert.DownGradRefIdeal.defs (F := Ideal)) (onTc (τ := Cert.DownGradRefIdeal.τ) (Cert.DownGradRefIdeal.main (F := Ideal))) ⟨m, fun _ => 0, g⟩ (fun r => (∀ c : Dev Cert.DownGradRefIdeal.nD,
      r.2.mem ((c.tc : Thread Cert.DownGradRefIdeal.nD Cert.DownGradRefIdeal.τ).loc Cert.DownGradRefIdeal.main_arg0) = m ((c.tc : Thread Cert.DownGradRefIdeal.nD Cert.DownGradRefIdeal.τ).loc Cert.DownGradRefIdeal.main_arg0)
      ∧ r.2.mem ((c.tc : Thread Cert.DownGradRefIdeal.nD Cert.DownGradRefIdeal.τ).loc Cert.DownGradRefIdeal.main_arg1) = m ((c.tc : Thread Cert.DownGradRefIdeal.nD Cert.DownGradRefIdeal.τ).loc Cert.DownGradRefIdeal.main_arg1))
      ∧ r.2.sem = fun _ => 0)

def quiescent_UpBack [hUpBack : Cert.UpBack.Facts] : Prop :=
  ∀ (m : (ℓ : Loc Cert.UpBack.nD Cert.UpBack.τ Cert.UpBack.sig) → Buf (Elt Bits) ℓ) (g : Dev Cert.UpBack.nD → PrngReg), Pre_UpBack m →
    θ_run (Cert.UpBack.defs (F := Bits)) (onTc (τ := Cert.UpBack.τ) (Cert.UpBack.main (F := Bits))) ⟨m, fun _ => 0, g⟩ (fun r => (∀ c : Dev Cert.UpBack.nD,
      r.2.mem ((c.tc : Thread Cert.UpBack.nD Cert.UpBack.τ).loc Cert.UpBack.main_arg0) = m ((c.tc : Thread Cert.UpBack.nD Cert.UpBack.τ).loc Cert.UpBack.main_arg0)
      ∧ r.2.mem ((c.tc : Thread Cert.UpBack.nD Cert.UpBack.τ).loc Cert.UpBack.main_arg1) = m ((c.tc : Thread Cert.UpBack.nD Cert.UpBack.τ).loc Cert.UpBack.main_arg1))
      ∧ r.2.sem = fun _ => 0)

def quiescent_UpBackIdeal [hUpBackIdeal : Cert.UpBackIdeal.Facts] : Prop :=
  ∀ (m : (ℓ : Loc Cert.UpBackIdeal.nD Cert.UpBackIdeal.τ Cert.UpBackIdeal.sig) → Buf (Elt Ideal) ℓ) (g : Dev Cert.UpBackIdeal.nD → PrngReg), Pre_UpBackIdeal m →
    θ_run (Cert.UpBackIdeal.defs (F := Ideal)) (onTc (τ := Cert.UpBackIdeal.τ) (Cert.UpBackIdeal.main (F := Ideal))) ⟨m, fun _ => 0, g⟩ (fun r => (∀ c : Dev Cert.UpBackIdeal.nD,
      r.2.mem ((c.tc : Thread Cert.UpBackIdeal.nD Cert.UpBackIdeal.τ).loc Cert.UpBackIdeal.main_arg0) = m ((c.tc : Thread Cert.UpBackIdeal.nD Cert.UpBackIdeal.τ).loc Cert.UpBackIdeal.main_arg0)
      ∧ r.2.mem ((c.tc : Thread Cert.UpBackIdeal.nD Cert.UpBackIdeal.τ).loc Cert.UpBackIdeal.main_arg1) = m ((c.tc : Thread Cert.UpBackIdeal.nD Cert.UpBackIdeal.τ).loc Cert.UpBackIdeal.main_arg1))
      ∧ r.2.sem = fun _ => 0)

def quiescent_UpBackRefIdeal [hUpBackRefIdeal : Cert.UpBackRefIdeal.Facts] : Prop :=
  ∀ (m : (ℓ : Loc Cert.UpBackRefIdeal.nD Cert.UpBackRefIdeal.τ Cert.UpBackRefIdeal.sig) → Buf (Elt Ideal) ℓ) (g : Dev Cert.UpBackRefIdeal.nD → PrngReg), Pre_UpBackRefIdeal m →
    θ_run (Cert.UpBackRefIdeal.defs (F := Ideal)) (onTc (τ := Cert.UpBackRefIdeal.τ) (Cert.UpBackRefIdeal.main (F := Ideal))) ⟨m, fun _ => 0, g⟩ (fun r => (∀ c : Dev Cert.UpBackRefIdeal.nD,
      r.2.mem ((c.tc : Thread Cert.UpBackRefIdeal.nD Cert.UpBackRefIdeal.τ).loc Cert.UpBackRefIdeal.main_arg0) = m ((c.tc : Thread Cert.UpBackRefIdeal.nD Cert.UpBackRefIdeal.τ).loc Cert.UpBackRefIdeal.main_arg0)
      ∧ r.2.mem ((c.tc : Thread Cert.UpBackRefIdeal.nD Cert.UpBackRefIdeal.τ).loc Cert.UpBackRefIdeal.main_arg1) = m ((c.tc : Thread Cert.UpBackRefIdeal.nD Cert.UpBackRefIdeal.τ).loc Cert.UpBackRefIdeal.main_arg1))
      ∧ r.2.sem = fun _ => 0)

def quiescent_UpGrad [hUpGrad : Cert.UpGrad.Facts] : Prop :=
  ∀ (m : (ℓ : Loc Cert.UpGrad.nD Cert.UpGrad.τ Cert.UpGrad.sig) → Buf (Elt Bits) ℓ) (g : Dev Cert.UpGrad.nD → PrngReg), Pre_UpGrad m →
    θ_run (Cert.UpGrad.defs (F := Bits)) (onTc (τ := Cert.UpGrad.τ) (Cert.UpGrad.main (F := Bits))) ⟨m, fun _ => 0, g⟩ (fun r => (∀ c : Dev Cert.UpGrad.nD,
      r.2.mem ((c.tc : Thread Cert.UpGrad.nD Cert.UpGrad.τ).loc Cert.UpGrad.main_arg0) = m ((c.tc : Thread Cert.UpGrad.nD Cert.UpGrad.τ).loc Cert.UpGrad.main_arg0)
      ∧ r.2.mem ((c.tc : Thread Cert.UpGrad.nD Cert.UpGrad.τ).loc Cert.UpGrad.main_arg1) = m ((c.tc : Thread Cert.UpGrad.nD Cert.UpGrad.τ).loc Cert.UpGrad.main_arg1))
      ∧ r.2.sem = fun _ => 0)

def quiescent_UpGradIdeal [hUpGradIdeal : Cert.UpGradIdeal.Facts] : Prop :=
  ∀ (m : (ℓ : Loc Cert.UpGradIdeal.nD Cert.UpGradIdeal.τ Cert.UpGradIdeal.sig) → Buf (Elt Ideal) ℓ) (g : Dev Cert.UpGradIdeal.nD → PrngReg), Pre_UpGradIdeal m →
    θ_run (Cert.UpGradIdeal.defs (F := Ideal)) (onTc (τ := Cert.UpGradIdeal.τ) (Cert.UpGradIdeal.main (F := Ideal))) ⟨m, fun _ => 0, g⟩ (fun r => (∀ c : Dev Cert.UpGradIdeal.nD,
      r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
      ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1))
      ∧ r.2.sem = fun _ => 0)

def quiescent_UpGradRefIdeal [hUpGradRefIdeal : Cert.UpGradRefIdeal.Facts] : Prop :=
  ∀ (m : (ℓ : Loc Cert.UpGradRefIdeal.nD Cert.UpGradRefIdeal.τ Cert.UpGradRefIdeal.sig) → Buf (Elt Ideal) ℓ) (g : Dev Cert.UpGradRefIdeal.nD → PrngReg), Pre_UpGradRefIdeal m →
    θ_run (Cert.UpGradRefIdeal.defs (F := Ideal)) (onTc (τ := Cert.UpGradRefIdeal.τ) (Cert.UpGradRefIdeal.main (F := Ideal))) ⟨m, fun _ => 0, g⟩ (fun r => (∀ c : Dev Cert.UpGradRefIdeal.nD,
      r.2.mem ((c.tc : Thread Cert.UpGradRefIdeal.nD Cert.UpGradRefIdeal.τ).loc Cert.UpGradRefIdeal.main_arg0) = m ((c.tc : Thread Cert.UpGradRefIdeal.nD Cert.UpGradRefIdeal.τ).loc Cert.UpGradRefIdeal.main_arg0)
      ∧ r.2.mem ((c.tc : Thread Cert.UpGradRefIdeal.nD Cert.UpGradRefIdeal.τ).loc Cert.UpGradRefIdeal.main_arg1) = m ((c.tc : Thread Cert.UpGradRefIdeal.nD Cert.UpGradRefIdeal.τ).loc Cert.UpGradRefIdeal.main_arg1))
      ∧ r.2.sem = fun _ => 0)

def quiescent_ActBack [hActBack : Cert.ActBack.Facts] : Prop :=
  ∀ (m : (ℓ : Loc Cert.ActBack.nD Cert.ActBack.τ Cert.ActBack.sig) → Buf (Elt Bits) ℓ) (g : Dev Cert.ActBack.nD → PrngReg), Pre_ActBack m →
    θ_run (Cert.ActBack.defs (F := Bits)) (onTc (τ := Cert.ActBack.τ) (Cert.ActBack.main (F := Bits))) ⟨m, fun _ => 0, g⟩ (fun r => (∀ c : Dev Cert.ActBack.nD,
      r.2.mem ((c.tc : Thread Cert.ActBack.nD Cert.ActBack.τ).loc Cert.ActBack.main_arg0) = m ((c.tc : Thread Cert.ActBack.nD Cert.ActBack.τ).loc Cert.ActBack.main_arg0)
      ∧ r.2.mem ((c.tc : Thread Cert.ActBack.nD Cert.ActBack.τ).loc Cert.ActBack.main_arg1) = m ((c.tc : Thread Cert.ActBack.nD Cert.ActBack.τ).loc Cert.ActBack.main_arg1)
      ∧ r.2.mem ((c.tc : Thread Cert.ActBack.nD Cert.ActBack.τ).loc Cert.ActBack.main_arg2) = m ((c.tc : Thread Cert.ActBack.nD Cert.ActBack.τ).loc Cert.ActBack.main_arg2)
      ∧ r.2.mem ((c.tc : Thread Cert.ActBack.nD Cert.ActBack.τ).loc Cert.ActBack.main_arg3) = m ((c.tc : Thread Cert.ActBack.nD Cert.ActBack.τ).loc Cert.ActBack.main_arg3))
      ∧ r.2.sem = fun _ => 0)

def quiescent_ActBackIdeal [hActBackIdeal : Cert.ActBackIdeal.Facts] : Prop :=
  ∀ (m : (ℓ : Loc Cert.ActBackIdeal.nD Cert.ActBackIdeal.τ Cert.ActBackIdeal.sig) → Buf (Elt Ideal) ℓ) (g : Dev Cert.ActBackIdeal.nD → PrngReg), Pre_ActBackIdeal m →
    θ_run (Cert.ActBackIdeal.defs (F := Ideal)) (onTc (τ := Cert.ActBackIdeal.τ) (Cert.ActBackIdeal.main (F := Ideal))) ⟨m, fun _ => 0, g⟩ (fun r => (∀ c : Dev Cert.ActBackIdeal.nD,
      r.2.mem ((c.tc : Thread Cert.ActBackIdeal.nD Cert.ActBackIdeal.τ).loc Cert.ActBackIdeal.main_arg0) = m ((c.tc : Thread Cert.ActBackIdeal.nD Cert.ActBackIdeal.τ).loc Cert.ActBackIdeal.main_arg0)
      ∧ r.2.mem ((c.tc : Thread Cert.ActBackIdeal.nD Cert.ActBackIdeal.τ).loc Cert.ActBackIdeal.main_arg1) = m ((c.tc : Thread Cert.ActBackIdeal.nD Cert.ActBackIdeal.τ).loc Cert.ActBackIdeal.main_arg1)
      ∧ r.2.mem ((c.tc : Thread Cert.ActBackIdeal.nD Cert.ActBackIdeal.τ).loc Cert.ActBackIdeal.main_arg2) = m ((c.tc : Thread Cert.ActBackIdeal.nD Cert.ActBackIdeal.τ).loc Cert.ActBackIdeal.main_arg2)
      ∧ r.2.mem ((c.tc : Thread Cert.ActBackIdeal.nD Cert.ActBackIdeal.τ).loc Cert.ActBackIdeal.main_arg3) = m ((c.tc : Thread Cert.ActBackIdeal.nD Cert.ActBackIdeal.τ).loc Cert.ActBackIdeal.main_arg3))
      ∧ r.2.sem = fun _ => 0)

def quiescent_ActBackIdeal_pre_act_finite [hActBackIdeal : Cert.ActBackIdeal.Facts] [hPre_act_finite : Cert.Pre_act_finite.Facts] : Prop :=
  ∀ (m : (ℓ : Loc Cert.ActBackIdeal.nD Cert.ActBackIdeal.τ Cert.ActBackIdeal.sig) → Buf (Elt Ideal) ℓ) (g : Dev Cert.ActBackIdeal.nD → PrngReg), Pre_ActBackIdeal_act_finite m →
    θ_run (Cert.ActBackIdeal.defs (F := Ideal)) (onTc (τ := Cert.ActBackIdeal.τ) (Cert.ActBackIdeal.main (F := Ideal))) ⟨m, fun _ => 0, g⟩ (fun r => (∀ c : Dev Cert.ActBackIdeal.nD,
      r.2.mem ((c.tc : Thread Cert.ActBackIdeal.nD Cert.ActBackIdeal.τ).loc Cert.ActBackIdeal.main_arg0) = m ((c.tc : Thread Cert.ActBackIdeal.nD Cert.ActBackIdeal.τ).loc Cert.ActBackIdeal.main_arg0)
      ∧ r.2.mem ((c.tc : Thread Cert.ActBackIdeal.nD Cert.ActBackIdeal.τ).loc Cert.ActBackIdeal.main_arg1) = m ((c.tc : Thread Cert.ActBackIdeal.nD Cert.ActBackIdeal.τ).loc Cert.ActBackIdeal.main_arg1)
      ∧ r.2.mem ((c.tc : Thread Cert.ActBackIdeal.nD Cert.ActBackIdeal.τ).loc Cert.ActBackIdeal.main_arg2) = m ((c.tc : Thread Cert.ActBackIdeal.nD Cert.ActBackIdeal.τ).loc Cert.ActBackIdeal.main_arg2)
      ∧ r.2.mem ((c.tc : Thread Cert.ActBackIdeal.nD Cert.ActBackIdeal.τ).loc Cert.ActBackIdeal.main_arg3) = m ((c.tc : Thread Cert.ActBackIdeal.nD Cert.ActBackIdeal.τ).loc Cert.ActBackIdeal.main_arg3))
      ∧ r.2.sem = fun _ => 0)

def quiescent_ActBackRefIdeal [hActBackRefIdeal : Cert.ActBackRefIdeal.Facts] : Prop :=
  ∀ (m : (ℓ : Loc Cert.ActBackRefIdeal.nD Cert.ActBackRefIdeal.τ Cert.ActBackRefIdeal.sig) → Buf (Elt Ideal) ℓ) (g : Dev Cert.ActBackRefIdeal.nD → PrngReg), Pre_ActBackRefIdeal m →
    θ_run (Cert.ActBackRefIdeal.defs (F := Ideal)) (onTc (τ := Cert.ActBackRefIdeal.τ) (Cert.ActBackRefIdeal.main (F := Ideal))) ⟨m, fun _ => 0, g⟩ (fun r => (∀ c : Dev Cert.ActBackRefIdeal.nD,
      r.2.mem ((c.tc : Thread Cert.ActBackRefIdeal.nD Cert.ActBackRefIdeal.τ).loc Cert.ActBackRefIdeal.main_arg0) = m ((c.tc : Thread Cert.ActBackRefIdeal.nD Cert.ActBackRefIdeal.τ).loc Cert.ActBackRefIdeal.main_arg0)
      ∧ r.2.mem ((c.tc : Thread Cert.ActBackRefIdeal.nD Cert.ActBackRefIdeal.τ).loc Cert.ActBackRefIdeal.main_arg1) = m ((c.tc : Thread Cert.ActBackRefIdeal.nD Cert.ActBackRefIdeal.τ).loc Cert.ActBackRefIdeal.main_arg1)
      ∧ r.2.mem ((c.tc : Thread Cert.ActBackRefIdeal.nD Cert.ActBackRefIdeal.τ).loc Cert.ActBackRefIdeal.main_arg2) = m ((c.tc : Thread Cert.ActBackRefIdeal.nD Cert.ActBackRefIdeal.τ).loc Cert.ActBackRefIdeal.main_arg2)
      ∧ r.2.mem ((c.tc : Thread Cert.ActBackRefIdeal.nD Cert.ActBackRefIdeal.τ).loc Cert.ActBackRefIdeal.main_arg3) = m ((c.tc : Thread Cert.ActBackRefIdeal.nD Cert.ActBackRefIdeal.τ).loc Cert.ActBackRefIdeal.main_arg3))
      ∧ r.2.sem = fun _ => 0)

def quiescent_ActBackRefIdeal_pre_act_finite [hActBackRefIdeal : Cert.ActBackRefIdeal.Facts] [hPre_act_finite : Cert.Pre_act_finite.Facts] : Prop :=
  ∀ (m : (ℓ : Loc Cert.ActBackRefIdeal.nD Cert.ActBackRefIdeal.τ Cert.ActBackRefIdeal.sig) → Buf (Elt Ideal) ℓ) (g : Dev Cert.ActBackRefIdeal.nD → PrngReg), Pre_ActBackRefIdeal_act_finite m →
    θ_run (Cert.ActBackRefIdeal.defs (F := Ideal)) (onTc (τ := Cert.ActBackRefIdeal.τ) (Cert.ActBackRefIdeal.main (F := Ideal))) ⟨m, fun _ => 0, g⟩ (fun r => (∀ c : Dev Cert.ActBackRefIdeal.nD,
      r.2.mem ((c.tc : Thread Cert.ActBackRefIdeal.nD Cert.ActBackRefIdeal.τ).loc Cert.ActBackRefIdeal.main_arg0) = m ((c.tc : Thread Cert.ActBackRefIdeal.nD Cert.ActBackRefIdeal.τ).loc Cert.ActBackRefIdeal.main_arg0)
      ∧ r.2.mem ((c.tc : Thread Cert.ActBackRefIdeal.nD Cert.ActBackRefIdeal.τ).loc Cert.ActBackRefIdeal.main_arg1) = m ((c.tc : Thread Cert.ActBackRefIdeal.nD Cert.ActBackRefIdeal.τ).loc Cert.ActBackRefIdeal.main_arg1)
      ∧ r.2.mem ((c.tc : Thread Cert.ActBackRefIdeal.nD Cert.ActBackRefIdeal.τ).loc Cert.ActBackRefIdeal.main_arg2) = m ((c.tc : Thread Cert.ActBackRefIdeal.nD Cert.ActBackRefIdeal.τ).loc Cert.ActBackRefIdeal.main_arg2)
      ∧ r.2.mem ((c.tc : Thread Cert.ActBackRefIdeal.nD Cert.ActBackRefIdeal.τ).loc Cert.ActBackRefIdeal.main_arg3) = m ((c.tc : Thread Cert.ActBackRefIdeal.nD Cert.ActBackRefIdeal.τ).loc Cert.ActBackRefIdeal.main_arg3))
      ∧ r.2.sem = fun _ => 0)

def quiescent_MoBack [hMoBack : Cert.MoBack.Facts] : Prop :=
  ∀ (m : (ℓ : Loc Cert.MoBack.nD Cert.MoBack.τ Cert.MoBack.sig) → Buf (Elt Bits) ℓ) (g : Dev Cert.MoBack.nD → PrngReg), Pre_MoBack m →
    θ_run (Cert.MoBack.defs (F := Bits)) (onTc (τ := Cert.MoBack.τ) (Cert.MoBack.main (F := Bits))) ⟨m, fun _ => 0, g⟩ (fun r => (∀ c : Dev Cert.MoBack.nD,
      r.2.mem ((c.tc : Thread Cert.MoBack.nD Cert.MoBack.τ).loc Cert.MoBack.main_arg0) = m ((c.tc : Thread Cert.MoBack.nD Cert.MoBack.τ).loc Cert.MoBack.main_arg0)
      ∧ r.2.mem ((c.tc : Thread Cert.MoBack.nD Cert.MoBack.τ).loc Cert.MoBack.main_arg1) = m ((c.tc : Thread Cert.MoBack.nD Cert.MoBack.τ).loc Cert.MoBack.main_arg1))
      ∧ r.2.sem = fun _ => 0)

def quiescent_MoBackIdeal [hMoBackIdeal : Cert.MoBackIdeal.Facts] : Prop :=
  ∀ (m : (ℓ : Loc Cert.MoBackIdeal.nD Cert.MoBackIdeal.τ Cert.MoBackIdeal.sig) → Buf (Elt Ideal) ℓ) (g : Dev Cert.MoBackIdeal.nD → PrngReg), Pre_MoBackIdeal m →
    θ_run (Cert.MoBackIdeal.defs (F := Ideal)) (onTc (τ := Cert.MoBackIdeal.τ) (Cert.MoBackIdeal.main (F := Ideal))) ⟨m, fun _ => 0, g⟩ (fun r => (∀ c : Dev Cert.MoBackIdeal.nD,
      r.2.mem ((c.tc : Thread Cert.MoBackIdeal.nD Cert.MoBackIdeal.τ).loc Cert.MoBackIdeal.main_arg0) = m ((c.tc : Thread Cert.MoBackIdeal.nD Cert.MoBackIdeal.τ).loc Cert.MoBackIdeal.main_arg0)
      ∧ r.2.mem ((c.tc : Thread Cert.MoBackIdeal.nD Cert.MoBackIdeal.τ).loc Cert.MoBackIdeal.main_arg1) = m ((c.tc : Thread Cert.MoBackIdeal.nD Cert.MoBackIdeal.τ).loc Cert.MoBackIdeal.main_arg1))
      ∧ r.2.sem = fun _ => 0)

def quiescent_MoBackRefIdeal [hMoBackRefIdeal : Cert.MoBackRefIdeal.Facts] : Prop :=
  ∀ (m : (ℓ : Loc Cert.MoBackRefIdeal.nD Cert.MoBackRefIdeal.τ Cert.MoBackRefIdeal.sig) → Buf (Elt Ideal) ℓ) (g : Dev Cert.MoBackRefIdeal.nD → PrngReg), Pre_MoBackRefIdeal m →
    θ_run (Cert.MoBackRefIdeal.defs (F := Ideal)) (onTc (τ := Cert.MoBackRefIdeal.τ) (Cert.MoBackRefIdeal.main (F := Ideal))) ⟨m, fun _ => 0, g⟩ (fun r => (∀ c : Dev Cert.MoBackRefIdeal.nD,
      r.2.mem ((c.tc : Thread Cert.MoBackRefIdeal.nD Cert.MoBackRefIdeal.τ).loc Cert.MoBackRefIdeal.main_arg0) = m ((c.tc : Thread Cert.MoBackRefIdeal.nD Cert.MoBackRefIdeal.τ).loc Cert.MoBackRefIdeal.main_arg0)
      ∧ r.2.mem ((c.tc : Thread Cert.MoBackRefIdeal.nD Cert.MoBackRefIdeal.τ).loc Cert.MoBackRefIdeal.main_arg1) = m ((c.tc : Thread Cert.MoBackRefIdeal.nD Cert.MoBackRefIdeal.τ).loc Cert.MoBackRefIdeal.main_arg1))
      ∧ r.2.sem = fun _ => 0)

def quiescent_MoGrad [hMoGrad : Cert.MoGrad.Facts] : Prop :=
  ∀ (m : (ℓ : Loc Cert.MoGrad.nD Cert.MoGrad.τ Cert.MoGrad.sig) → Buf (Elt Bits) ℓ) (g : Dev Cert.MoGrad.nD → PrngReg), Pre_MoGrad m →
    θ_run (Cert.MoGrad.defs (F := Bits)) (onTc (τ := Cert.MoGrad.τ) (Cert.MoGrad.main (F := Bits))) ⟨m, fun _ => 0, g⟩ (fun r => (∀ c : Dev Cert.MoGrad.nD,
      r.2.mem ((c.tc : Thread Cert.MoGrad.nD Cert.MoGrad.τ).loc Cert.MoGrad.main_arg0) = m ((c.tc : Thread Cert.MoGrad.nD Cert.MoGrad.τ).loc Cert.MoGrad.main_arg0)
      ∧ r.2.mem ((c.tc : Thread Cert.MoGrad.nD Cert.MoGrad.τ).loc Cert.MoGrad.main_arg1) = m ((c.tc : Thread Cert.MoGrad.nD Cert.MoGrad.τ).loc Cert.MoGrad.main_arg1))
      ∧ r.2.sem = fun _ => 0)

def quiescent_MoGradIdeal [hMoGradIdeal : Cert.MoGradIdeal.Facts] : Prop :=
  ∀ (m : (ℓ : Loc Cert.MoGradIdeal.nD Cert.MoGradIdeal.τ Cert.MoGradIdeal.sig) → Buf (Elt Ideal) ℓ) (g : Dev Cert.MoGradIdeal.nD → PrngReg), Pre_MoGradIdeal m →
    θ_run (Cert.MoGradIdeal.defs (F := Ideal)) (onTc (τ := Cert.MoGradIdeal.τ) (Cert.MoGradIdeal.main (F := Ideal))) ⟨m, fun _ => 0, g⟩ (fun r => (∀ c : Dev Cert.MoGradIdeal.nD,
      r.2.mem ((c.tc : Thread Cert.MoGradIdeal.nD Cert.MoGradIdeal.τ).loc Cert.MoGradIdeal.main_arg0) = m ((c.tc : Thread Cert.MoGradIdeal.nD Cert.MoGradIdeal.τ).loc Cert.MoGradIdeal.main_arg0)
      ∧ r.2.mem ((c.tc : Thread Cert.MoGradIdeal.nD Cert.MoGradIdeal.τ).loc Cert.MoGradIdeal.main_arg1) = m ((c.tc : Thread Cert.MoGradIdeal.nD Cert.MoGradIdeal.τ).loc Cert.MoGradIdeal.main_arg1))
      ∧ r.2.sem = fun _ => 0)

def quiescent_MoGradRefIdeal [hMoGradRefIdeal : Cert.MoGradRefIdeal.Facts] : Prop :=
  ∀ (m : (ℓ : Loc Cert.MoGradRefIdeal.nD Cert.MoGradRefIdeal.τ Cert.MoGradRefIdeal.sig) → Buf (Elt Ideal) ℓ) (g : Dev Cert.MoGradRefIdeal.nD → PrngReg), Pre_MoGradRefIdeal m →
    θ_run (Cert.MoGradRefIdeal.defs (F := Ideal)) (onTc (τ := Cert.MoGradRefIdeal.τ) (Cert.MoGradRefIdeal.main (F := Ideal))) ⟨m, fun _ => 0, g⟩ (fun r => (∀ c : Dev Cert.MoGradRefIdeal.nD,
      r.2.mem ((c.tc : Thread Cert.MoGradRefIdeal.nD Cert.MoGradRefIdeal.τ).loc Cert.MoGradRefIdeal.main_arg0) = m ((c.tc : Thread Cert.MoGradRefIdeal.nD Cert.MoGradRefIdeal.τ).loc Cert.MoGradRefIdeal.main_arg0)
      ∧ r.2.mem ((c.tc : Thread Cert.MoGradRefIdeal.nD Cert.MoGradRefIdeal.τ).loc Cert.MoGradRefIdeal.main_arg1) = m ((c.tc : Thread Cert.MoGradRefIdeal.nD Cert.MoGradRefIdeal.τ).loc Cert.MoGradRefIdeal.main_arg1))
      ∧ r.2.sem = fun _ => 0)

def quiescent_MqBack [hMqBack : Cert.MqBack.Facts] : Prop :=
  ∀ (m : (ℓ : Loc Cert.MqBack.nD Cert.MqBack.τ Cert.MqBack.sig) → Buf (Elt Bits) ℓ) (g : Dev Cert.MqBack.nD → PrngReg), Pre_MqBack m →
    θ_run (Cert.MqBack.defs (F := Bits)) (onTc (τ := Cert.MqBack.τ) (Cert.MqBack.main (F := Bits))) ⟨m, fun _ => 0, g⟩ (fun r => (∀ c : Dev Cert.MqBack.nD,
      r.2.mem ((c.tc : Thread Cert.MqBack.nD Cert.MqBack.τ).loc Cert.MqBack.main_arg0) = m ((c.tc : Thread Cert.MqBack.nD Cert.MqBack.τ).loc Cert.MqBack.main_arg0)
      ∧ r.2.mem ((c.tc : Thread Cert.MqBack.nD Cert.MqBack.τ).loc Cert.MqBack.main_arg1) = m ((c.tc : Thread Cert.MqBack.nD Cert.MqBack.τ).loc Cert.MqBack.main_arg1))
      ∧ r.2.sem = fun _ => 0)

def quiescent_MqBackIdeal [hMqBackIdeal : Cert.MqBackIdeal.Facts] : Prop :=
  ∀ (m : (ℓ : Loc Cert.MqBackIdeal.nD Cert.MqBackIdeal.τ Cert.MqBackIdeal.sig) → Buf (Elt Ideal) ℓ) (g : Dev Cert.MqBackIdeal.nD → PrngReg), Pre_MqBackIdeal m →
    θ_run (Cert.MqBackIdeal.defs (F := Ideal)) (onTc (τ := Cert.MqBackIdeal.τ) (Cert.MqBackIdeal.main (F := Ideal))) ⟨m, fun _ => 0, g⟩ (fun r => (∀ c : Dev Cert.MqBackIdeal.nD,
      r.2.mem ((c.tc : Thread Cert.MqBackIdeal.nD Cert.MqBackIdeal.τ).loc Cert.MqBackIdeal.main_arg0) = m ((c.tc : Thread Cert.MqBackIdeal.nD Cert.MqBackIdeal.τ).loc Cert.MqBackIdeal.main_arg0)
      ∧ r.2.mem ((c.tc : Thread Cert.MqBackIdeal.nD Cert.MqBackIdeal.τ).loc Cert.MqBackIdeal.main_arg1) = m ((c.tc : Thread Cert.MqBackIdeal.nD Cert.MqBackIdeal.τ).loc Cert.MqBackIdeal.main_arg1))
      ∧ r.2.sem = fun _ => 0)

def quiescent_MqBackRefIdeal [hMqBackRefIdeal : Cert.MqBackRefIdeal.Facts] : Prop :=
  ∀ (m : (ℓ : Loc Cert.MqBackRefIdeal.nD Cert.MqBackRefIdeal.τ Cert.MqBackRefIdeal.sig) → Buf (Elt Ideal) ℓ) (g : Dev Cert.MqBackRefIdeal.nD → PrngReg), Pre_MqBackRefIdeal m →
    θ_run (Cert.MqBackRefIdeal.defs (F := Ideal)) (onTc (τ := Cert.MqBackRefIdeal.τ) (Cert.MqBackRefIdeal.main (F := Ideal))) ⟨m, fun _ => 0, g⟩ (fun r => (∀ c : Dev Cert.MqBackRefIdeal.nD,
      r.2.mem ((c.tc : Thread Cert.MqBackRefIdeal.nD Cert.MqBackRefIdeal.τ).loc Cert.MqBackRefIdeal.main_arg0) = m ((c.tc : Thread Cert.MqBackRefIdeal.nD Cert.MqBackRefIdeal.τ).loc Cert.MqBackRefIdeal.main_arg0)
      ∧ r.2.mem ((c.tc : Thread Cert.MqBackRefIdeal.nD Cert.MqBackRefIdeal.τ).loc Cert.MqBackRefIdeal.main_arg1) = m ((c.tc : Thread Cert.MqBackRefIdeal.nD Cert.MqBackRefIdeal.τ).loc Cert.MqBackRefIdeal.main_arg1))
      ∧ r.2.sem = fun _ => 0)

def quiescent_MqGrad [hMqGrad : Cert.MqGrad.Facts] : Prop :=
  ∀ (m : (ℓ : Loc Cert.MqGrad.nD Cert.MqGrad.τ Cert.MqGrad.sig) → Buf (Elt Bits) ℓ) (g : Dev Cert.MqGrad.nD → PrngReg), Pre_MqGrad m →
    θ_run (Cert.MqGrad.defs (F := Bits)) (onTc (τ := Cert.MqGrad.τ) (Cert.MqGrad.main (F := Bits))) ⟨m, fun _ => 0, g⟩ (fun r => (∀ c : Dev Cert.MqGrad.nD,
      r.2.mem ((c.tc : Thread Cert.MqGrad.nD Cert.MqGrad.τ).loc Cert.MqGrad.main_arg0) = m ((c.tc : Thread Cert.MqGrad.nD Cert.MqGrad.τ).loc Cert.MqGrad.main_arg0)
      ∧ r.2.mem ((c.tc : Thread Cert.MqGrad.nD Cert.MqGrad.τ).loc Cert.MqGrad.main_arg1) = m ((c.tc : Thread Cert.MqGrad.nD Cert.MqGrad.τ).loc Cert.MqGrad.main_arg1))
      ∧ r.2.sem = fun _ => 0)

def quiescent_MqGradIdeal [hMqGradIdeal : Cert.MqGradIdeal.Facts] : Prop :=
  ∀ (m : (ℓ : Loc Cert.MqGradIdeal.nD Cert.MqGradIdeal.τ Cert.MqGradIdeal.sig) → Buf (Elt Ideal) ℓ) (g : Dev Cert.MqGradIdeal.nD → PrngReg), Pre_MqGradIdeal m →
    θ_run (Cert.MqGradIdeal.defs (F := Ideal)) (onTc (τ := Cert.MqGradIdeal.τ) (Cert.MqGradIdeal.main (F := Ideal))) ⟨m, fun _ => 0, g⟩ (fun r => (∀ c : Dev Cert.MqGradIdeal.nD,
      r.2.mem ((c.tc : Thread Cert.MqGradIdeal.nD Cert.MqGradIdeal.τ).loc Cert.MqGradIdeal.main_arg0) = m ((c.tc : Thread Cert.MqGradIdeal.nD Cert.MqGradIdeal.τ).loc Cert.MqGradIdeal.main_arg0)
      ∧ r.2.mem ((c.tc : Thread Cert.MqGradIdeal.nD Cert.MqGradIdeal.τ).loc Cert.MqGradIdeal.main_arg1) = m ((c.tc : Thread Cert.MqGradIdeal.nD Cert.MqGradIdeal.τ).loc Cert.MqGradIdeal.main_arg1))
      ∧ r.2.sem = fun _ => 0)

def quiescent_MqGradRefIdeal [hMqGradRefIdeal : Cert.MqGradRefIdeal.Facts] : Prop :=
  ∀ (m : (ℓ : Loc Cert.MqGradRefIdeal.nD Cert.MqGradRefIdeal.τ Cert.MqGradRefIdeal.sig) → Buf (Elt Ideal) ℓ) (g : Dev Cert.MqGradRefIdeal.nD → PrngReg), Pre_MqGradRefIdeal m →
    θ_run (Cert.MqGradRefIdeal.defs (F := Ideal)) (onTc (τ := Cert.MqGradRefIdeal.τ) (Cert.MqGradRefIdeal.main (F := Ideal))) ⟨m, fun _ => 0, g⟩ (fun r => (∀ c : Dev Cert.MqGradRefIdeal.nD,
      r.2.mem ((c.tc : Thread Cert.MqGradRefIdeal.nD Cert.MqGradRefIdeal.τ).loc Cert.MqGradRefIdeal.main_arg0) = m ((c.tc : Thread Cert.MqGradRefIdeal.nD Cert.MqGradRefIdeal.τ).loc Cert.MqGradRefIdeal.main_arg0)
      ∧ r.2.mem ((c.tc : Thread Cert.MqGradRefIdeal.nD Cert.MqGradRefIdeal.τ).loc Cert.MqGradRefIdeal.main_arg1) = m ((c.tc : Thread Cert.MqGradRefIdeal.nD Cert.MqGradRefIdeal.τ).loc Cert.MqGradRefIdeal.main_arg1))
      ∧ r.2.sem = fun _ => 0)

def quiescent_OutBack [hOutBack : Cert.OutBack.Facts] : Prop :=
  ∀ (m : (ℓ : Loc Cert.OutBack.nD Cert.OutBack.τ Cert.OutBack.sig) → Buf (Elt Bits) ℓ) (g : Dev Cert.OutBack.nD → PrngReg), Pre_OutBack m →
    θ_run (Cert.OutBack.defs (F := Bits)) (onTc (τ := Cert.OutBack.τ) (Cert.OutBack.main (F := Bits))) ⟨m, fun _ => 0, g⟩ (fun r => (∀ c : Dev Cert.OutBack.nD,
      r.2.mem ((c.tc : Thread Cert.OutBack.nD Cert.OutBack.τ).loc Cert.OutBack.main_arg0) = m ((c.tc : Thread Cert.OutBack.nD Cert.OutBack.τ).loc Cert.OutBack.main_arg0)
      ∧ r.2.mem ((c.tc : Thread Cert.OutBack.nD Cert.OutBack.τ).loc Cert.OutBack.main_arg1) = m ((c.tc : Thread Cert.OutBack.nD Cert.OutBack.τ).loc Cert.OutBack.main_arg1))
      ∧ r.2.sem = fun _ => 0)

def quiescent_OutBackIdeal [hOutBackIdeal : Cert.OutBackIdeal.Facts] : Prop :=
  ∀ (m : (ℓ : Loc Cert.OutBackIdeal.nD Cert.OutBackIdeal.τ Cert.OutBackIdeal.sig) → Buf (Elt Ideal) ℓ) (g : Dev Cert.OutBackIdeal.nD → PrngReg), Pre_OutBackIdeal m →
    θ_run (Cert.OutBackIdeal.defs (F := Ideal)) (onTc (τ := Cert.OutBackIdeal.τ) (Cert.OutBackIdeal.main (F := Ideal))) ⟨m, fun _ => 0, g⟩ (fun r => (∀ c : Dev Cert.OutBackIdeal.nD,
      r.2.mem ((c.tc : Thread Cert.OutBackIdeal.nD Cert.OutBackIdeal.τ).loc Cert.OutBackIdeal.main_arg0) = m ((c.tc : Thread Cert.OutBackIdeal.nD Cert.OutBackIdeal.τ).loc Cert.OutBackIdeal.main_arg0)
      ∧ r.2.mem ((c.tc : Thread Cert.OutBackIdeal.nD Cert.OutBackIdeal.τ).loc Cert.OutBackIdeal.main_arg1) = m ((c.tc : Thread Cert.OutBackIdeal.nD Cert.OutBackIdeal.τ).loc Cert.OutBackIdeal.main_arg1))
      ∧ r.2.sem = fun _ => 0)

def quiescent_OutBackRefIdeal [hOutBackRefIdeal : Cert.OutBackRefIdeal.Facts] : Prop :=
  ∀ (m : (ℓ : Loc Cert.OutBackRefIdeal.nD Cert.OutBackRefIdeal.τ Cert.OutBackRefIdeal.sig) → Buf (Elt Ideal) ℓ) (g : Dev Cert.OutBackRefIdeal.nD → PrngReg), Pre_OutBackRefIdeal m →
    θ_run (Cert.OutBackRefIdeal.defs (F := Ideal)) (onTc (τ := Cert.OutBackRefIdeal.τ) (Cert.OutBackRefIdeal.main (F := Ideal))) ⟨m, fun _ => 0, g⟩ (fun r => (∀ c : Dev Cert.OutBackRefIdeal.nD,
      r.2.mem ((c.tc : Thread Cert.OutBackRefIdeal.nD Cert.OutBackRefIdeal.τ).loc Cert.OutBackRefIdeal.main_arg0) = m ((c.tc : Thread Cert.OutBackRefIdeal.nD Cert.OutBackRefIdeal.τ).loc Cert.OutBackRefIdeal.main_arg0)
      ∧ r.2.mem ((c.tc : Thread Cert.OutBackRefIdeal.nD Cert.OutBackRefIdeal.τ).loc Cert.OutBackRefIdeal.main_arg1) = m ((c.tc : Thread Cert.OutBackRefIdeal.nD Cert.OutBackRefIdeal.τ).loc Cert.OutBackRefIdeal.main_arg1))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ r.2.sem = fun _ => 0)

def quiescent_OutGradRefIdeal [hOutGradRefIdeal : Cert.OutGradRefIdeal.Facts] : Prop :=
  ∀ (m : (ℓ : Loc Cert.OutGradRefIdeal.nD Cert.OutGradRefIdeal.τ Cert.OutGradRefIdeal.sig) → Buf (Elt Ideal) ℓ) (g : Dev Cert.OutGradRefIdeal.nD → PrngReg), Pre_OutGradRefIdeal m →
    θ_run (Cert.OutGradRefIdeal.defs (F := Ideal)) (onTc (τ := Cert.OutGradRefIdeal.τ) (Cert.OutGradRefIdeal.main (F := Ideal))) ⟨m, fun _ => 0, g⟩ (fun r => (∀ c : Dev Cert.OutGradRefIdeal.nD,
      r.2.mem ((c.tc : Thread Cert.OutGradRefIdeal.nD Cert.OutGradRefIdeal.τ).loc Cert.OutGradRefIdeal.main_arg0) = m ((c.tc : Thread Cert.OutGradRefIdeal.nD Cert.OutGradRefIdeal.τ).loc Cert.OutGradRefIdeal.main_arg0)
      ∧ r.2.mem ((c.tc : Thread Cert.OutGradRefIdeal.nD Cert.OutGradRefIdeal.τ).loc Cert.OutGradRefIdeal.main_arg1) = m ((c.tc : Thread Cert.OutGradRefIdeal.nD Cert.OutGradRefIdeal.τ).loc Cert.OutGradRefIdeal.main_arg1))
      ∧ r.2.sem = fun _ => 0)

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1))
      ∧ r.2.sem = fun _ => 0)

def quiescent_InGradRefIdeal [hInGradRefIdeal : Cert.InGradRefIdeal.Facts] : Prop :=
  ∀ (m : (ℓ : Loc Cert.InGradRefIdeal.nD Cert.InGradRefIdeal.τ Cert.InGradRefIdeal.sig) → Buf (Elt Ideal) ℓ) (g : Dev Cert.InGradRefIdeal.nD → PrngReg), Pre_InGradRefIdeal m →
    θ_run (Cert.InGradRefIdeal.defs (F := Ideal)) (onTc (τ := Cert.InGradRefIdeal.τ) (Cert.InGradRefIdeal.main (F := Ideal))) ⟨m, fun _ => 0, g⟩ (fun r => (∀ c : Dev Cert.InGradRefIdeal.nD,
      r.2.mem ((c.tc : Thread Cert.InGradRefIdeal.nD Cert.InGradRefIdeal.τ).loc Cert.InGradRefIdeal.main_arg0) = m ((c.tc : Thread Cert.InGradRefIdeal.nD Cert.InGradRefIdeal.τ).loc Cert.InGradRefIdeal.main_arg0)
      ∧ r.2.mem ((c.tc : Thread Cert.InGradRefIdeal.nD Cert.InGradRefIdeal.τ).loc Cert.InGradRefIdeal.main_arg1) = m ((c.tc : Thread Cert.InGradRefIdeal.nD Cert.InGradRefIdeal.τ).loc Cert.InGradRefIdeal.main_arg1))
      ∧ r.2.sem = fun _ => 0)

def quiescent_InBack [hInBack : Cert.InBack.Facts] : Prop :=
  ∀ (m : (ℓ : Loc Cert.InBack.nD Cert.InBack.τ Cert.InBack.sig) → Buf (Elt Bits) ℓ) (g : Dev Cert.InBack.nD → PrngReg), Pre_InBack m →
    θ_run (Cert.InBack.defs (F := Bits)) (onTc (τ := Cert.InBack.τ) (Cert.InBack.main (F := Bits))) ⟨m, fun _ => 0, g⟩ (fun r => (∀ c : Dev Cert.InBack.nD,
      r.2.mem ((c.tc : Thread Cert.InBack.nD Cert.InBack.τ).loc Cert.InBack.main_arg0) = m ((c.tc : Thread Cert.InBack.nD Cert.InBack.τ).loc Cert.InBack.main_arg0)
      ∧ r.2.mem ((c.tc : Thread Cert.InBack.nD Cert.InBack.τ).loc Cert.InBack.main_arg1) = m ((c.tc : Thread Cert.InBack.nD Cert.InBack.τ).loc Cert.InBack.main_arg1))
      ∧ r.2.sem = fun _ => 0)

def quiescent_InBackIdeal [hInBackIdeal : Cert.InBackIdeal.Facts] : Prop :=
  ∀ (m : (ℓ : Loc Cert.InBackIdeal.nD Cert.InBackIdeal.τ Cert.InBackIdeal.sig) → Buf (Elt Ideal) ℓ) (g : Dev Cert.InBackIdeal.nD → PrngReg), Pre_InBackIdeal m →
    θ_run (Cert.InBackIdeal.defs (F := Ideal)) (onTc (τ := Cert.InBackIdeal.τ) (Cert.InBackIdeal.main (F := Ideal))) ⟨m, fun _ => 0, g⟩ (fun r => (∀ c : Dev Cert.InBackIdeal.nD,
      r.2.mem ((c.tc : Thread Cert.InBackIdeal.nD Cert.InBackIdeal.τ).loc Cert.InBackIdeal.main_arg0) = m ((c.tc : Thread Cert.InBackIdeal.nD Cert.InBackIdeal.τ).loc Cert.InBackIdeal.main_arg0)
      ∧ r.2.mem ((c.tc : Thread Cert.InBackIdeal.nD Cert.InBackIdeal.τ).loc Cert.InBackIdeal.main_arg1) = m ((c.tc : Thread Cert.InBackIdeal.nD Cert.InBackIdeal.τ).loc Cert.InBackIdeal.main_arg1))
      ∧ r.2.sem = fun _ => 0)

def quiescent_InBackRefIdeal [hInBackRefIdeal : Cert.InBackRefIdeal.Facts] : Prop :=
  ∀ (m : (ℓ : Loc Cert.InBackRefIdeal.nD Cert.InBackRefIdeal.τ Cert.InBackRefIdeal.sig) → Buf (Elt Ideal) ℓ) (g : Dev Cert.InBackRefIdeal.nD → PrngReg), Pre_InBackRefIdeal m →
    θ_run (Cert.InBackRefIdeal.defs (F := Ideal)) (onTc (τ := Cert.InBackRefIdeal.τ) (Cert.InBackRefIdeal.main (F := Ideal))) ⟨m, fun _ => 0, g⟩ (fun r => (∀ c : Dev Cert.InBackRefIdeal.nD,
      r.2.mem ((c.tc : Thread Cert.InBackRefIdeal.nD Cert.InBackRefIdeal.τ).loc Cert.InBackRefIdeal.main_arg0) = m ((c.tc : Thread Cert.InBackRefIdeal.nD Cert.InBackRefIdeal.τ).loc Cert.InBackRefIdeal.main_arg0)
      ∧ r.2.mem ((c.tc : Thread Cert.InBackRefIdeal.nD Cert.InBackRefIdeal.τ).loc Cert.InBackRefIdeal.main_arg1) = m ((c.tc : Thread Cert.InBackRefIdeal.nD Cert.InBackRefIdeal.τ).loc Cert.InBackRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_MqProj [hMqProj : Cert.MqProj.Facts] : Prop :=
  ∀ (m : (ℓ : Loc Cert.MqProj.nD Cert.MqProj.τ Cert.MqProj.sig) → Buf (Elt Bits) ℓ) (g : Dev Cert.MqProj.nD → PrngReg), Pre_MqProj m →
    θ_run (Cert.MqProj.defs (F := Bits)) (onTc (τ := Cert.MqProj.τ) (Cert.MqProj.main (F := Bits))) ⟨m, fun _ => 0, g⟩ (fun r => (∀ c : Dev Cert.MqProj.nD,
      r.2.mem ((c.tc : Thread Cert.MqProj.nD Cert.MqProj.τ).loc Cert.MqProj.main_arg0) = m ((c.tc : Thread Cert.MqProj.nD Cert.MqProj.τ).loc Cert.MqProj.main_arg0)
      ∧ r.2.mem ((c.tc : Thread Cert.MqProj.nD Cert.MqProj.τ).loc Cert.MqProj.main_arg1) = m ((c.tc : Thread Cert.MqProj.nD Cert.MqProj.τ).loc Cert.MqProj.main_arg1))
      ∧ r.2.sem = fun _ => 0)

def quiescent_MqProjIdeal [hMqProjIdeal : Cert.MqProjIdeal.Facts] : Prop :=
  ∀ (m : (ℓ : Loc Cert.MqProjIdeal.nD Cert.MqProjIdeal.τ Cert.MqProjIdeal.sig) → Buf (Elt Ideal) ℓ) (g : Dev Cert.MqProjIdeal.nD → PrngReg), Pre_MqProjIdeal m →
    θ_run (Cert.MqProjIdeal.defs (F := Ideal)) (onTc (τ := Cert.MqProjIdeal.τ) (Cert.MqProjIdeal.main (F := Ideal))) ⟨m, fun _ => 0, g⟩ (fun r => (∀ c : Dev Cert.MqProjIdeal.nD,
      r.2.mem ((c.tc : Thread Cert.MqProjIdeal.nD Cert.MqProjIdeal.τ).loc Cert.MqProjIdeal.main_arg0) = m ((c.tc : Thread Cert.MqProjIdeal.nD Cert.MqProjIdeal.τ).loc Cert.MqProjIdeal.main_arg0)
      ∧ r.2.mem ((c.tc : Thread Cert.MqProjIdeal.nD Cert.MqProjIdeal.τ).loc Cert.MqProjIdeal.main_arg1) = m ((c.tc : Thread Cert.MqProjIdeal.nD Cert.MqProjIdeal.τ).loc Cert.MqProjIdeal.main_arg1))
      ∧ r.2.sem = fun _ => 0)

def quiescent_MqProjRefIdeal [hMqProjRefIdeal : Cert.MqProjRefIdeal.Facts] : Prop :=
  ∀ (m : (ℓ : Loc Cert.MqProjRefIdeal.nD Cert.MqProjRefIdeal.τ Cert.MqProjRefIdeal.sig) → Buf (Elt Ideal) ℓ) (g : Dev Cert.MqProjRefIdeal.nD → PrngReg), Pre_MqProjRefIdeal m →
    θ_run (Cert.MqProjRefIdeal.defs (F := Ideal)) (onTc (τ := Cert.MqProjRefIdeal.τ) (Cert.MqProjRefIdeal.main (F := Ideal))) ⟨m, fun _ => 0, g⟩ (fun r => (∀ c : Dev Cert.MqProjRefIdeal.nD,
      r.2.mem ((c.tc : Thread Cert.MqProjRefIdeal.nD Cert.MqProjRefIdeal.τ).loc Cert.MqProjRefIdeal.main_arg0) = m ((c.tc : Thread Cert.MqProjRefIdeal.nD Cert.MqProjRefIdeal.τ).loc Cert.MqProjRefIdeal.main_arg0)
      ∧ r.2.mem ((c.tc : Thread Cert.MqProjRefIdeal.nD Cert.MqProjRefIdeal.τ).loc Cert.MqProjRefIdeal.main_arg1) = m ((c.tc : Thread Cert.MqProjRefIdeal.nD Cert.MqProjRefIdeal.τ).loc Cert.MqProjRefIdeal.main_arg1))
      ∧ r.2.sem = fun _ => 0)

def quiescent_MoProj [hMoProj : Cert.MoProj.Facts] : Prop :=
  ∀ (m : (ℓ : Loc Cert.MoProj.nD Cert.MoProj.τ Cert.MoProj.sig) → Buf (Elt Bits) ℓ) (g : Dev Cert.MoProj.nD → PrngReg), Pre_MoProj m →
    θ_run (Cert.MoProj.defs (F := Bits)) (onTc (τ := Cert.MoProj.τ) (Cert.MoProj.main (F := Bits))) ⟨m, fun _ => 0, g⟩ (fun r => (∀ c : Dev Cert.MoProj.nD,
      r.2.mem ((c.tc : Thread Cert.MoProj.nD Cert.MoProj.τ).loc Cert.MoProj.main_arg0) = m ((c.tc : Thread Cert.MoProj.nD Cert.MoProj.τ).loc Cert.MoProj.main_arg0)
      ∧ r.2.mem ((c.tc : Thread Cert.MoProj.nD Cert.MoProj.τ).loc Cert.MoProj.main_arg1) = m ((c.tc : Thread Cert.MoProj.nD Cert.MoProj.τ).loc Cert.MoProj.main_arg1)
      ∧ r.2.mem ((c.tc : Thread Cert.MoProj.nD Cert.MoProj.τ).loc Cert.MoProj.main_arg2) = m ((c.tc : Thread Cert.MoProj.nD Cert.MoProj.τ).loc Cert.MoProj.main_arg2))
      ∧ r.2.sem = fun _ => 0)

def quiescent_MoProjIdeal [hMoProjIdeal : Cert.MoProjIdeal.Facts] : Prop :=
  ∀ (m : (ℓ : Loc Cert.MoProjIdeal.nD Cert.MoProjIdeal.τ Cert.MoProjIdeal.sig) → Buf (Elt Ideal) ℓ) (g : Dev Cert.MoProjIdeal.nD → PrngReg), Pre_MoProjIdeal m →
    θ_run (Cert.MoProjIdeal.defs (F := Ideal)) (onTc (τ := Cert.MoProjIdeal.τ) (Cert.MoProjIdeal.main (F := Ideal))) ⟨m, fun _ => 0, g⟩ (fun r => (∀ c : Dev Cert.MoProjIdeal.nD,
      r.2.mem ((c.tc : Thread Cert.MoProjIdeal.nD Cert.MoProjIdeal.τ).loc Cert.MoProjIdeal.main_arg0) = m ((c.tc : Thread Cert.MoProjIdeal.nD Cert.MoProjIdeal.τ).loc Cert.MoProjIdeal.main_arg0)
      ∧ r.2.mem ((c.tc : Thread Cert.MoProjIdeal.nD Cert.MoProjIdeal.τ).loc Cert.MoProjIdeal.main_arg1) = m ((c.tc : Thread Cert.MoProjIdeal.nD Cert.MoProjIdeal.τ).loc Cert.MoProjIdeal.main_arg1)
      ∧ r.2.mem ((c.tc : Thread Cert.MoProjIdeal.nD Cert.MoProjIdeal.τ).loc Cert.MoProjIdeal.main_arg2) = m ((c.tc : Thread Cert.MoProjIdeal.nD Cert.MoProjIdeal.τ).loc Cert.MoProjIdeal.main_arg2))
      ∧ r.2.sem = fun _ => 0)

def quiescent_MoProjRefIdeal [hMoProjRefIdeal : Cert.MoProjRefIdeal.Facts] : Prop :=
  ∀ (m : (ℓ : Loc Cert.MoProjRefIdeal.nD Cert.MoProjRefIdeal.τ Cert.MoProjRefIdeal.sig) → Buf (Elt Ideal) ℓ) (g : Dev Cert.MoProjRefIdeal.nD → PrngReg), Pre_MoProjRefIdeal m →
    θ_run (Cert.MoProjRefIdeal.defs (F := Ideal)) (onTc (τ := Cert.MoProjRefIdeal.τ) (Cert.MoProjRefIdeal.main (F := Ideal))) ⟨m, fun _ => 0, g⟩ (fun r => (∀ c : Dev Cert.MoProjRefIdeal.nD,
      r.2.mem ((c.tc : Thread Cert.MoProjRefIdeal.nD Cert.MoProjRefIdeal.τ).loc Cert.MoProjRefIdeal.main_arg0) = m ((c.tc : Thread Cert.MoProjRefIdeal.nD Cert.MoProjRefIdeal.τ).loc Cert.MoProjRefIdeal.main_arg0)
      ∧ r.2.mem ((c.tc : Thread Cert.MoProjRefIdeal.nD Cert.MoProjRefIdeal.τ).loc Cert.MoProjRefIdeal.main_arg1) = m ((c.tc : Thread Cert.MoProjRefIdeal.nD Cert.MoProjRefIdeal.τ).loc Cert.MoProjRefIdeal.main_arg1)
      ∧ r.2.mem ((c.tc : Thread Cert.MoProjRefIdeal.nD Cert.MoProjRefIdeal.τ).loc Cert.MoProjRefIdeal.main_arg2) = m ((c.tc : Thread Cert.MoProjRefIdeal.nD Cert.MoProjRefIdeal.τ).loc Cert.MoProjRefIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_XAttnBack [hXAttnBack : Cert.XAttnBack.Facts] : Prop :=
  ∀ (m : (ℓ : Loc Cert.XAttnBack.nD Cert.XAttnBack.τ Cert.XAttnBack.sig) → Buf (Elt Bits) ℓ) (g : Dev Cert.XAttnBack.nD → PrngReg), Pre_XAttnBack m →
    θ_run (Cert.XAttnBack.defs (F := Bits)) (onTc (τ := Cert.XAttnBack.τ) (Cert.XAttnBack.main (F := Bits))) ⟨m, fun _ => 0, g⟩ (fun r => (∀ c : Dev Cert.XAttnBack.nD,
      r.2.mem ((c.tc : Thread Cert.XAttnBack.nD Cert.XAttnBack.τ).loc Cert.XAttnBack.main_arg0) = m ((c.tc : Thread Cert.XAttnBack.nD Cert.XAttnBack.τ).loc Cert.XAttnBack.main_arg0)
      ∧ r.2.mem ((c.tc : Thread Cert.XAttnBack.nD Cert.XAttnBack.τ).loc Cert.XAttnBack.main_arg1) = m ((c.tc : Thread Cert.XAttnBack.nD Cert.XAttnBack.τ).loc Cert.XAttnBack.main_arg1)
      ∧ r.2.mem ((c.tc : Thread Cert.XAttnBack.nD Cert.XAttnBack.τ).loc Cert.XAttnBack.main_arg2) = m ((c.tc : Thread Cert.XAttnBack.nD Cert.XAttnBack.τ).loc Cert.XAttnBack.main_arg2)
      ∧ r.2.mem ((c.tc : Thread Cert.XAttnBack.nD Cert.XAttnBack.τ).loc Cert.XAttnBack.main_arg3) = m ((c.tc : Thread Cert.XAttnBack.nD Cert.XAttnBack.τ).loc Cert.XAttnBack.main_arg3)
      ∧ r.2.mem ((c.tc : Thread Cert.XAttnBack.nD Cert.XAttnBack.τ).loc Cert.XAttnBack.main_arg4) = m ((c.tc : Thread Cert.XAttnBack.nD Cert.XAttnBack.τ).loc Cert.XAttnBack.main_arg4))
      ∧ r.2.sem = fun _ => 0)

def quiescent_XAttnBackIdeal [hXAttnBackIdeal : Cert.XAttnBackIdeal.Facts] : Prop :=
  ∀ (m : (ℓ : Loc Cert.XAttnBackIdeal.nD Cert.XAttnBackIdeal.τ Cert.XAttnBackIdeal.sig) → Buf (Elt Ideal) ℓ) (g : Dev Cert.XAttnBackIdeal.nD → PrngReg), Pre_XAttnBackIdeal m →
    θ_run (Cert.XAttnBackIdeal.defs (F := Ideal)) (onTc (τ := Cert.XAttnBackIdeal.τ) (Cert.XAttnBackIdeal.main (F := Ideal))) ⟨m, fun _ => 0, g⟩ (fun r => (∀ c : Dev Cert.XAttnBackIdeal.nD,
      r.2.mem ((c.tc : Thread Cert.XAttnBackIdeal.nD Cert.XAttnBackIdeal.τ).loc Cert.XAttnBackIdeal.main_arg0) = m ((c.tc : Thread Cert.XAttnBackIdeal.nD Cert.XAttnBackIdeal.τ).loc Cert.XAttnBackIdeal.main_arg0)
      ∧ r.2.mem ((c.tc : Thread Cert.XAttnBackIdeal.nD Cert.XAttnBackIdeal.τ).loc Cert.XAttnBackIdeal.main_arg1) = m ((c.tc : Thread Cert.XAttnBackIdeal.nD Cert.XAttnBackIdeal.τ).loc Cert.XAttnBackIdeal.main_arg1)
      ∧ r.2.mem ((c.tc : Thread Cert.XAttnBackIdeal.nD Cert.XAttnBackIdeal.τ).loc Cert.XAttnBackIdeal.main_arg2) = m ((c.tc : Thread Cert.XAttnBackIdeal.nD Cert.XAttnBackIdeal.τ).loc Cert.XAttnBackIdeal.main_arg2)
      ∧ r.2.mem ((c.tc : Thread Cert.XAttnBackIdeal.nD Cert.XAttnBackIdeal.τ).loc Cert.XAttnBackIdeal.main_arg3) = m ((c.tc : Thread Cert.XAttnBackIdeal.nD Cert.XAttnBackIdeal.τ).loc Cert.XAttnBackIdeal.main_arg3)
      ∧ r.2.mem ((c.tc : Thread Cert.XAttnBackIdeal.nD Cert.XAttnBackIdeal.τ).loc Cert.XAttnBackIdeal.main_arg4) = m ((c.tc : Thread Cert.XAttnBackIdeal.nD Cert.XAttnBackIdeal.τ).loc Cert.XAttnBackIdeal.main_arg4))
      ∧ r.2.sem = fun _ => 0)

def quiescent_XAttnBackIdeal_pre_xattn_finite [hXAttnBackIdeal : Cert.XAttnBackIdeal.Facts] [hPre_xattn_finite : Cert.Pre_xattn_finite.Facts] : Prop :=
  ∀ (m : (ℓ : Loc Cert.XAttnBackIdeal.nD Cert.XAttnBackIdeal.τ Cert.XAttnBackIdeal.sig) → Buf (Elt Ideal) ℓ) (g : Dev Cert.XAttnBackIdeal.nD → PrngReg), Pre_XAttnBackIdeal_xattn_finite m →
    θ_run (Cert.XAttnBackIdeal.defs (F := Ideal)) (onTc (τ := Cert.XAttnBackIdeal.τ) (Cert.XAttnBackIdeal.main (F := Ideal))) ⟨m, fun _ => 0, g⟩ (fun r => (∀ c : Dev Cert.XAttnBackIdeal.nD,
      r.2.mem ((c.tc : Thread Cert.XAttnBackIdeal.nD Cert.XAttnBackIdeal.τ).loc Cert.XAttnBackIdeal.main_arg0) = m ((c.tc : Thread Cert.XAttnBackIdeal.nD Cert.XAttnBackIdeal.τ).loc Cert.XAttnBackIdeal.main_arg0)
      ∧ r.2.mem ((c.tc : Thread Cert.XAttnBackIdeal.nD Cert.XAttnBackIdeal.τ).loc Cert.XAttnBackIdeal.main_arg1) = m ((c.tc : Thread Cert.XAttnBackIdeal.nD Cert.XAttnBackIdeal.τ).loc Cert.XAttnBackIdeal.main_arg1)
      ∧ r.2.mem ((c.tc : Thread Cert.XAttnBackIdeal.nD Cert.XAttnBackIdeal.τ).loc Cert.XAttnBackIdeal.main_arg2) = m ((c.tc : Thread Cert.XAttnBackIdeal.nD Cert.XAttnBackIdeal.τ).loc Cert.XAttnBackIdeal.main_arg2)
      ∧ r.2.mem ((c.tc : Thread Cert.XAttnBackIdeal.nD Cert.XAttnBackIdeal.τ).loc Cert.XAttnBackIdeal.main_arg3) = m ((c.tc : Thread Cert.XAttnBackIdeal.nD Cert.XAttnBackIdeal.τ).loc Cert.XAttnBackIdeal.main_arg3)
      ∧ r.2.mem ((c.tc : Thread Cert.XAttnBackIdeal.nD Cert.XAttnBackIdeal.τ).loc Cert.XAttnBackIdeal.main_arg4) = m ((c.tc : Thread Cert.XAttnBackIdeal.nD Cert.XAttnBackIdeal.τ).loc Cert.XAttnBackIdeal.main_arg4))
      ∧ r.2.sem = fun _ => 0)

def quiescent_XAttnBackRefIdeal [hXAttnBackRefIdeal : Cert.XAttnBackRefIdeal.Facts] : Prop :=
  ∀ (m : (ℓ : Loc Cert.XAttnBackRefIdeal.nD Cert.XAttnBackRefIdeal.τ Cert.XAttnBackRefIdeal.sig) → Buf (Elt Ideal) ℓ) (g : Dev Cert.XAttnBackRefIdeal.nD → PrngReg), Pre_XAttnBackRefIdeal m →
    θ_run (Cert.XAttnBackRefIdeal.defs (F := Ideal)) (onTc (τ := Cert.XAttnBackRefIdeal.τ) (Cert.XAttnBackRefIdeal.main (F := Ideal))) ⟨m, fun _ => 0, g⟩ (fun r => (∀ c : Dev Cert.XAttnBackRefIdeal.nD,
      r.2.mem ((c.tc : Thread Cert.XAttnBackRefIdeal.nD Cert.XAttnBackRefIdeal.τ).loc Cert.XAttnBackRefIdeal.main_arg0) = m ((c.tc : Thread Cert.XAttnBackRefIdeal.nD Cert.XAttnBackRefIdeal.τ).loc Cert.XAttnBackRefIdeal.main_arg0)
      ∧ r.2.mem ((c.tc : Thread Cert.XAttnBackRefIdeal.nD Cert.XAttnBackRefIdeal.τ).loc Cert.XAttnBackRefIdeal.main_arg1) = m ((c.tc : Thread Cert.XAttnBackRefIdeal.nD Cert.XAttnBackRefIdeal.τ).loc Cert.XAttnBackRefIdeal.main_arg1)
      ∧ r.2.mem ((c.tc : Thread Cert.XAttnBackRefIdeal.nD Cert.XAttnBackRefIdeal.τ).loc Cert.XAttnBackRefIdeal.main_arg2) = m ((c.tc : Thread Cert.XAttnBackRefIdeal.nD Cert.XAttnBackRefIdeal.τ).loc Cert.XAttnBackRefIdeal.main_arg2)
      ∧ r.2.mem ((c.tc : Thread Cert.XAttnBackRefIdeal.nD Cert.XAttnBackRefIdeal.τ).loc Cert.XAttnBackRefIdeal.main_arg3) = m ((c.tc : Thread Cert.XAttnBackRefIdeal.nD Cert.XAttnBackRefIdeal.τ).loc Cert.XAttnBackRefIdeal.main_arg3)
      ∧ r.2.mem ((c.tc : Thread Cert.XAttnBackRefIdeal.nD Cert.XAttnBackRefIdeal.τ).loc Cert.XAttnBackRefIdeal.main_arg4) = m ((c.tc : Thread Cert.XAttnBackRefIdeal.nD Cert.XAttnBackRefIdeal.τ).loc Cert.XAttnBackRefIdeal.main_arg4))
      ∧ r.2.sem = fun _ => 0)

def quiescent_XAttnBackRefIdeal_pre_xattn_finite [hXAttnBackRefIdeal : Cert.XAttnBackRefIdeal.Facts] [hPre_xattn_finite : Cert.Pre_xattn_finite.Facts] : Prop :=
  ∀ (m : (ℓ : Loc Cert.XAttnBackRefIdeal.nD Cert.XAttnBackRefIdeal.τ Cert.XAttnBackRefIdeal.sig) → Buf (Elt Ideal) ℓ) (g : Dev Cert.XAttnBackRefIdeal.nD → PrngReg), Pre_XAttnBackRefIdeal_xattn_finite m →
    θ_run (Cert.XAttnBackRefIdeal.defs (F := Ideal)) (onTc (τ := Cert.XAttnBackRefIdeal.τ) (Cert.XAttnBackRefIdeal.main (F := Ideal))) ⟨m, fun _ => 0, g⟩ (fun r => (∀ c : Dev Cert.XAttnBackRefIdeal.nD,
      r.2.mem ((c.tc : Thread Cert.XAttnBackRefIdeal.nD Cert.XAttnBackRefIdeal.τ).loc Cert.XAttnBackRefIdeal.main_arg0) = m ((c.tc : Thread Cert.XAttnBackRefIdeal.nD Cert.XAttnBackRefIdeal.τ).loc Cert.XAttnBackRefIdeal.main_arg0)
      ∧ r.2.mem ((c.tc : Thread Cert.XAttnBackRefIdeal.nD Cert.XAttnBackRefIdeal.τ).loc Cert.XAttnBackRefIdeal.main_arg1) = m ((c.tc : Thread Cert.XAttnBackRefIdeal.nD Cert.XAttnBackRefIdeal.τ).loc Cert.XAttnBackRefIdeal.main_arg1)
      ∧ r.2.mem ((c.tc : Thread Cert.XAttnBackRefIdeal.nD Cert.XAttnBackRefIdeal.τ).loc Cert.XAttnBackRefIdeal.main_arg2) = m ((c.tc : Thread Cert.XAttnBackRefIdeal.nD Cert.XAttnBackRefIdeal.τ).loc Cert.XAttnBackRefIdeal.main_arg2)
      ∧ r.2.mem ((c.tc : Thread Cert.XAttnBackRefIdeal.nD Cert.XAttnBackRefIdeal.τ).loc Cert.XAttnBackRefIdeal.main_arg3) = m ((c.tc : Thread Cert.XAttnBackRefIdeal.nD Cert.XAttnBackRefIdeal.τ).loc Cert.XAttnBackRefIdeal.main_arg3)
      ∧ r.2.mem ((c.tc : Thread Cert.XAttnBackRefIdeal.nD Cert.XAttnBackRefIdeal.τ).loc Cert.XAttnBackRefIdeal.main_arg4) = m ((c.tc : Thread Cert.XAttnBackRefIdeal.nD Cert.XAttnBackRefIdeal.τ).loc Cert.XAttnBackRefIdeal.main_arg4))
      ∧ r.2.sem = fun _ => 0)

def quiescent_XAttnFwd [hXAttnFwd : Cert.XAttnFwd.Facts] : Prop :=
  ∀ (m : (ℓ : Loc Cert.XAttnFwd.nD Cert.XAttnFwd.τ Cert.XAttnFwd.sig) → Buf (Elt Bits) ℓ) (g : Dev Cert.XAttnFwd.nD → PrngReg), Pre_XAttnFwd m →
    θ_run (Cert.XAttnFwd.defs (F := Bits)) (onTc (τ := Cert.XAttnFwd.τ) (Cert.XAttnFwd.main (F := Bits))) ⟨m, fun _ => 0, g⟩ (fun r => (∀ c : Dev Cert.XAttnFwd.nD,
      r.2.mem ((c.tc : Thread Cert.XAttnFwd.nD Cert.XAttnFwd.τ).loc Cert.XAttnFwd.main_arg0) = m ((c.tc : Thread Cert.XAttnFwd.nD Cert.XAttnFwd.τ).loc Cert.XAttnFwd.main_arg0)
      ∧ r.2.mem ((c.tc : Thread Cert.XAttnFwd.nD Cert.XAttnFwd.τ).loc Cert.XAttnFwd.main_arg1) = m ((c.tc : Thread Cert.XAttnFwd.nD Cert.XAttnFwd.τ).loc Cert.XAttnFwd.main_arg1)
      ∧ r.2.mem ((c.tc : Thread Cert.XAttnFwd.nD Cert.XAttnFwd.τ).loc Cert.XAttnFwd.main_arg2) = m ((c.tc : Thread Cert.XAttnFwd.nD Cert.XAttnFwd.τ).loc Cert.XAttnFwd.main_arg2)
      ∧ r.2.mem ((c.tc : Thread Cert.XAttnFwd.nD Cert.XAttnFwd.τ).loc Cert.XAttnFwd.main_arg3) = m ((c.tc : Thread Cert.XAttnFwd.nD Cert.XAttnFwd.τ).loc Cert.XAttnFwd.main_arg3))
      ∧ r.2.sem = fun _ => 0)

def quiescent_XAttnFwdIdeal [hXAttnFwdIdeal : Cert.XAttnFwdIdeal.Facts] : Prop :=
  ∀ (m : (ℓ : Loc Cert.XAttnFwdIdeal.nD Cert.XAttnFwdIdeal.τ Cert.XAttnFwdIdeal.sig) → Buf (Elt Ideal) ℓ) (g : Dev Cert.XAttnFwdIdeal.nD → PrngReg), Pre_XAttnFwdIdeal m →
    θ_run (Cert.XAttnFwdIdeal.defs (F := Ideal)) (onTc (τ := Cert.XAttnFwdIdeal.τ) (Cert.XAttnFwdIdeal.main (F := Ideal))) ⟨m, fun _ => 0, g⟩ (fun r => (∀ c : Dev Cert.XAttnFwdIdeal.nD,
      r.2.mem ((c.tc : Thread Cert.XAttnFwdIdeal.nD Cert.XAttnFwdIdeal.τ).loc Cert.XAttnFwdIdeal.main_arg0) = m ((c.tc : Thread Cert.XAttnFwdIdeal.nD Cert.XAttnFwdIdeal.τ).loc Cert.XAttnFwdIdeal.main_arg0)
      ∧ r.2.mem ((c.tc : Thread Cert.XAttnFwdIdeal.nD Cert.XAttnFwdIdeal.τ).loc Cert.XAttnFwdIdeal.main_arg1) = m ((c.tc : Thread Cert.XAttnFwdIdeal.nD Cert.XAttnFwdIdeal.τ).loc Cert.XAttnFwdIdeal.main_arg1)
      ∧ r.2.mem ((c.tc : Thread Cert.XAttnFwdIdeal.nD Cert.XAttnFwdIdeal.τ).loc Cert.XAttnFwdIdeal.main_arg2) = m ((c.tc : Thread Cert.XAttnFwdIdeal.nD Cert.XAttnFwdIdeal.τ).loc Cert.XAttnFwdIdeal.main_arg2)
      ∧ r.2.mem ((c.tc : Thread Cert.XAttnFwdIdeal.nD Cert.XAttnFwdIdeal.τ).loc Cert.XAttnFwdIdeal.main_arg3) = m ((c.tc : Thread Cert.XAttnFwdIdeal.nD Cert.XAttnFwdIdeal.τ).loc Cert.XAttnFwdIdeal.main_arg3))
      ∧ r.2.sem = fun _ => 0)

def quiescent_XAttnFwdRefIdeal [hXAttnFwdRefIdeal : Cert.XAttnFwdRefIdeal.Facts] : Prop :=
  ∀ (m : (ℓ : Loc Cert.XAttnFwdRefIdeal.nD Cert.XAttnFwdRefIdeal.τ Cert.XAttnFwdRefIdeal.sig) → Buf (Elt Ideal) ℓ) (g : Dev Cert.XAttnFwdRefIdeal.nD → PrngReg), Pre_XAttnFwdRefIdeal m →
    θ_run (Cert.XAttnFwdRefIdeal.defs (F := Ideal)) (onTc (τ := Cert.XAttnFwdRefIdeal.τ) (Cert.XAttnFwdRefIdeal.main (F := Ideal))) ⟨m, fun _ => 0, g⟩ (fun r => (∀ c : Dev Cert.XAttnFwdRefIdeal.nD,
      r.2.mem ((c.tc : Thread Cert.XAttnFwdRefIdeal.nD Cert.XAttnFwdRefIdeal.τ).loc Cert.XAttnFwdRefIdeal.main_arg0) = m ((c.tc : Thread Cert.XAttnFwdRefIdeal.nD Cert.XAttnFwdRefIdeal.τ).loc Cert.XAttnFwdRefIdeal.main_arg0)
      ∧ r.2.mem ((c.tc : Thread Cert.XAttnFwdRefIdeal.nD Cert.XAttnFwdRefIdeal.τ).loc Cert.XAttnFwdRefIdeal.main_arg1) = m ((c.tc : Thread Cert.XAttnFwdRefIdeal.nD Cert.XAttnFwdRefIdeal.τ).loc Cert.XAttnFwdRefIdeal.main_arg1)
      ∧ r.2.mem ((c.tc : Thread Cert.XAttnFwdRefIdeal.nD Cert.XAttnFwdRefIdeal.τ).loc Cert.XAttnFwdRefIdeal.main_arg2) = m ((c.tc : Thread Cert.XAttnFwdRefIdeal.nD Cert.XAttnFwdRefIdeal.τ).loc Cert.XAttnFwdRefIdeal.main_arg2)
      ∧ r.2.mem ((c.tc : Thread Cert.XAttnFwdRefIdeal.nD Cert.XAttnFwdRefIdeal.τ).loc Cert.XAttnFwdRefIdeal.main_arg3) = m ((c.tc : Thread Cert.XAttnFwdRefIdeal.nD Cert.XAttnFwdRefIdeal.τ).loc Cert.XAttnFwdRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)) (v2 : (c : Dev Cert.KernelIdeal.nD) → Buf (Elt Ideal) ((c.tc : Thread Cert.KernelIdeal.nD Cert.KernelIdeal.τ).loc Cert.KernelIdeal.main_v28_2)) (v3 : (c : Dev Cert.KernelIdeal.nD) → Buf (Elt Ideal) ((c.tc : Thread Cert.KernelIdeal.nD Cert.KernelIdeal.τ).loc Cert.KernelIdeal.main_v28_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_v28_2) = v2 c
          ∧ r.2.mem ((c.tc : Thread Cert.KernelIdeal.nD Cert.KernelIdeal.τ).loc Cert.KernelIdeal.main_v28_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_v63) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_DownGrad_DownGradIdeal : Prop :=
  True

def algebraic_DownGradIdeal_DownGradRefIdeal [hDownGradIdeal : Cert.DownGradIdeal.Facts] [hDownGradRefIdeal : Cert.DownGradRefIdeal.Facts] : Prop :=
  ∀ (m : (ℓ : Loc Cert.DownGradIdeal.nD Cert.DownGradIdeal.τ Cert.DownGradIdeal.sig) → Buf (Elt Ideal) ℓ) (g : Dev Cert.DownGradIdeal.nD → PrngReg)
    (m' : (ℓ : Loc Cert.DownGradRefIdeal.nD Cert.DownGradRefIdeal.τ Cert.DownGradRefIdeal.sig) → Buf (Elt Ideal) ℓ) (g' : Dev Cert.DownGradRefIdeal.nD → PrngReg), Pre_DownGradIdeal m →
    (∀ c : Dev Cert.DownGradIdeal.nD,
      m' ((c.tc : Thread Cert.DownGradRefIdeal.nD Cert.DownGradRefIdeal.τ).loc Cert.DownGradRefIdeal.main_arg0) = m ((c.tc : Thread Cert.DownGradIdeal.nD Cert.DownGradIdeal.τ).loc Cert.DownGradIdeal.main_arg0)
      ∧ m' ((c.tc : Thread Cert.DownGradRefIdeal.nD Cert.DownGradRefIdeal.τ).loc Cert.DownGradRefIdeal.main_arg1) = m ((c.tc : Thread Cert.DownGradIdeal.nD Cert.DownGradIdeal.τ).loc Cert.DownGradIdeal.main_arg1)) →
    ∃ (v0 : (c : Dev Cert.DownGradIdeal.nD) → Buf (Elt Ideal) ((c.tc : Thread Cert.DownGradIdeal.nD Cert.DownGradIdeal.τ).loc Cert.DownGradIdeal.main_v0)),
      θ_run (Cert.DownGradIdeal.defs (F := Ideal)) (onTc (τ := Cert.DownGradIdeal.τ) (Cert.DownGradIdeal.main (F := Ideal))) ⟨m, fun _ => 0, g⟩ (fun r => ∀ c : Dev Cert.DownGradIdeal.nD,
          r.2.mem ((c.tc : Thread Cert.DownGradIdeal.nD Cert.DownGradIdeal.τ).loc Cert.DownGradIdeal.main_v0) = v0 c
          ∧ r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
          ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ θ_run (Cert.DownGradRefIdeal.defs (F := Ideal)) (onTc (τ := Cert.DownGradRefIdeal.τ) (Cert.DownGradRefIdeal.main (F := Ideal))) ⟨m', fun _ => 0, g'⟩ (fun r => ∀ c : Dev Cert.DownGradRefIdeal.nD,
          r.2.mem ((c.tc : Thread Cert.DownGradRefIdeal.nD Cert.DownGradRefIdeal.τ).loc Cert.DownGradRefIdeal.main_v4) = v0 c
          ∧ r.2.mem ((c.tc : Thread Cert.DownGradRefIdeal.nD Cert.DownGradRefIdeal.τ).loc Cert.DownGradRefIdeal.main_arg0) = m' ((c.tc : Thread Cert.DownGradRefIdeal.nD Cert.DownGradRefIdeal.τ).loc Cert.DownGradRefIdeal.main_arg0)
          ∧ r.2.mem ((c.tc : Thread Cert.DownGradRefIdeal.nD Cert.DownGradRefIdeal.τ).loc Cert.DownGradRefIdeal.main_arg1) = m' ((c.tc : Thread Cert.DownGradRefIdeal.nD Cert.DownGradRefIdeal.τ).loc Cert.DownGradRefIdeal.main_arg1))

def preserves_UpBack_UpBackIdeal : Prop :=
  True

def algebraic_UpBackIdeal_UpBackRefIdeal [hUpBackIdeal : Cert.UpBackIdeal.Facts] [hUpBackRefIdeal : Cert.UpBackRefIdeal.Facts] : Prop :=
  ∀ (m : (ℓ : Loc Cert.UpBackIdeal.nD Cert.UpBackIdeal.τ Cert.UpBackIdeal.sig) → Buf (Elt Ideal) ℓ) (g : Dev Cert.UpBackIdeal.nD → PrngReg)
    (m' : (ℓ : Loc Cert.UpBackRefIdeal.nD Cert.UpBackRefIdeal.τ Cert.UpBackRefIdeal.sig) → Buf (Elt Ideal) ℓ) (g' : Dev Cert.UpBackRefIdeal.nD → PrngReg), Pre_UpBackIdeal m →
    (∀ c : Dev Cert.UpBackIdeal.nD,
      m' ((c.tc : Thread Cert.UpBackRefIdeal.nD Cert.UpBackRefIdeal.τ).loc Cert.UpBackRefIdeal.main_arg0) = m ((c.tc : Thread Cert.UpBackIdeal.nD Cert.UpBackIdeal.τ).loc Cert.UpBackIdeal.main_arg0)
      ∧ m' ((c.tc : Thread Cert.UpBackRefIdeal.nD Cert.UpBackRefIdeal.τ).loc Cert.UpBackRefIdeal.main_arg1) = m ((c.tc : Thread Cert.UpBackIdeal.nD Cert.UpBackIdeal.τ).loc Cert.UpBackIdeal.main_arg1)) →
    ∃ (v0 : (c : Dev Cert.UpBackIdeal.nD) → Buf (Elt Ideal) ((c.tc : Thread Cert.UpBackIdeal.nD Cert.UpBackIdeal.τ).loc Cert.UpBackIdeal.main_v0)),
      θ_run (Cert.UpBackIdeal.defs (F := Ideal)) (onTc (τ := Cert.UpBackIdeal.τ) (Cert.UpBackIdeal.main (F := Ideal))) ⟨m, fun _ => 0, g⟩ (fun r => ∀ c : Dev Cert.UpBackIdeal.nD,
          r.2.mem ((c.tc : Thread Cert.UpBackIdeal.nD Cert.UpBackIdeal.τ).loc Cert.UpBackIdeal.main_v0) = v0 c
          ∧ r.2.mem ((c.tc : Thread Cert.UpBackIdeal.nD Cert.UpBackIdeal.τ).loc Cert.UpBackIdeal.main_arg0) = m ((c.tc : Thread Cert.UpBackIdeal.nD Cert.UpBackIdeal.τ).loc Cert.UpBackIdeal.main_arg0)
          ∧ r.2.mem ((c.tc : Thread Cert.UpBackIdeal.nD Cert.UpBackIdeal.τ).loc Cert.UpBackIdeal.main_arg1) = m ((c.tc : Thread Cert.UpBackIdeal.nD Cert.UpBackIdeal.τ).loc Cert.UpBackIdeal.main_arg1))
      ∧ θ_run (Cert.UpBackRefIdeal.defs (F := Ideal)) (onTc (τ := Cert.UpBackRefIdeal.τ) (Cert.UpBackRefIdeal.main (F := Ideal))) ⟨m', fun _ => 0, g'⟩ (fun r => ∀ c : Dev Cert.UpBackRefIdeal.nD,
          r.2.mem ((c.tc : Thread Cert.UpBackRefIdeal.nD Cert.UpBackRefIdeal.τ).loc Cert.UpBackRefIdeal.main_v9) = v0 c
          ∧ r.2.mem ((c.tc : Thread Cert.UpBackRefIdeal.nD Cert.UpBackRefIdeal.τ).loc Cert.UpBackRefIdeal.main_arg0) = m' ((c.tc : Thread Cert.UpBackRefIdeal.nD Cert.UpBackRefIdeal.τ).loc Cert.UpBackRefIdeal.main_arg0)
          ∧ r.2.mem ((c.tc : Thread Cert.UpBackRefIdeal.nD Cert.UpBackRefIdeal.τ).loc Cert.UpBackRefIdeal.main_arg1) = m' ((c.tc : Thread Cert.UpBackRefIdeal.nD Cert.UpBackRefIdeal.τ).loc Cert.UpBackRefIdeal.main_arg1))

def preserves_UpGrad_UpGradIdeal : Prop :=
  True

def algebraic_UpGradIdeal_UpGradRefIdeal [hUpGradIdeal : Cert.UpGradIdeal.Facts] [hUpGradRefIdeal : Cert.UpGradRefIdeal.Facts] : Prop :=
  ∀ (m : (ℓ : Loc Cert.UpGradIdeal.nD Cert.UpGradIdeal.τ Cert.UpGradIdeal.sig) → Buf (Elt Ideal) ℓ) (g : Dev Cert.UpGradIdeal.nD → PrngReg)
    (m' : (ℓ : Loc Cert.UpGradRefIdeal.nD Cert.UpGradRefIdeal.τ Cert.UpGradRefIdeal.sig) → Buf (Elt Ideal) ℓ) (g' : Dev Cert.UpGradRefIdeal.nD → PrngReg), Pre_UpGradIdeal m →
    (∀ c : Dev Cert.UpGradIdeal.nD,
      m' ((c.tc : Thread Cert.UpGradRefIdeal.nD Cert.UpGradRefIdeal.τ).loc Cert.UpGradRefIdeal.main_arg0) = m ((c.tc : Thread Cert.UpGradIdeal.nD Cert.UpGradIdeal.τ).loc Cert.UpGradIdeal.main_arg0)
      ∧ m' ((c.tc : Thread Cert.UpGradRefIdeal.nD Cert.UpGradRefIdeal.τ).loc Cert.UpGradRefIdeal.main_arg1) = m ((c.tc : Thread Cert.UpGradIdeal.nD Cert.UpGradIdeal.τ).loc Cert.UpGradIdeal.main_arg1)) →
    ∃ (v0 : (c : Dev Cert.UpGradIdeal.nD) → Buf (Elt Ideal) ((c.tc : Thread Cert.UpGradIdeal.nD Cert.UpGradIdeal.τ).loc Cert.UpGradIdeal.main_v0)),
      θ_run (Cert.UpGradIdeal.defs (F := Ideal)) (onTc (τ := Cert.UpGradIdeal.τ) (Cert.UpGradIdeal.main (F := Ideal))) ⟨m, fun _ => 0, g⟩ (fun r => ∀ c : Dev Cert.UpGradIdeal.nD,
          r.2.mem ((c.tc : Thread Cert.UpGradIdeal.nD Cert.UpGradIdeal.τ).loc Cert.UpGradIdeal.main_v0) = v0 c
          ∧ r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
          ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1))
      ∧ θ_run (Cert.UpGradRefIdeal.defs (F := Ideal)) (onTc (τ := Cert.UpGradRefIdeal.τ) (Cert.UpGradRefIdeal.main (F := Ideal))) ⟨m', fun _ => 0, g'⟩ (fun r => ∀ c : Dev Cert.UpGradRefIdeal.nD,
          r.2.mem ((c.tc : Thread Cert.UpGradRefIdeal.nD Cert.UpGradRefIdeal.τ).loc Cert.UpGradRefIdeal.main_v10) = v0 c
          ∧ r.2.mem ((c.tc : Thread Cert.UpGradRefIdeal.nD Cert.UpGradRefIdeal.τ).loc Cert.UpGradRefIdeal.main_arg0) = m' ((c.tc : Thread Cert.UpGradRefIdeal.nD Cert.UpGradRefIdeal.τ).loc Cert.UpGradRefIdeal.main_arg0)
          ∧ r.2.mem ((c.tc : Thread Cert.UpGradRefIdeal.nD Cert.UpGradRefIdeal.τ).loc Cert.UpGradRefIdeal.main_arg1) = m' ((c.tc : Thread Cert.UpGradRefIdeal.nD Cert.UpGradRefIdeal.τ).loc Cert.UpGradRefIdeal.main_arg1))

def preserves_ActBack_ActBackIdeal : Prop :=
  True

def algebraic_ActBackIdeal_ActBackRefIdeal_pre_act_finite [hActBackIdeal : Cert.ActBackIdeal.Facts] [hActBackRefIdeal : Cert.ActBackRefIdeal.Facts] [hPre_act_finite : Cert.Pre_act_finite.Facts] : Prop :=
  ∀ (m : (ℓ : Loc Cert.ActBackIdeal.nD Cert.ActBackIdeal.τ Cert.ActBackIdeal.sig) → Buf (Elt Ideal) ℓ) (g : Dev Cert.ActBackIdeal.nD → PrngReg)
    (m' : (ℓ : Loc Cert.ActBackRefIdeal.nD Cert.ActBackRefIdeal.τ Cert.ActBackRefIdeal.sig) → Buf (Elt Ideal) ℓ) (g' : Dev Cert.ActBackRefIdeal.nD → PrngReg), Pre_ActBackIdeal_act_finite m →
    (∀ c : Dev Cert.ActBackIdeal.nD,
      m' ((c.tc : Thread Cert.ActBackRefIdeal.nD Cert.ActBackRefIdeal.τ).loc Cert.ActBackRefIdeal.main_arg0) = m ((c.tc : Thread Cert.ActBackIdeal.nD Cert.ActBackIdeal.τ).loc Cert.ActBackIdeal.main_arg0)
      ∧ m' ((c.tc : Thread Cert.ActBackRefIdeal.nD Cert.ActBackRefIdeal.τ).loc Cert.ActBackRefIdeal.main_arg1) = m ((c.tc : Thread Cert.ActBackIdeal.nD Cert.ActBackIdeal.τ).loc Cert.ActBackIdeal.main_arg1)
      ∧ m' ((c.tc : Thread Cert.ActBackRefIdeal.nD Cert.ActBackRefIdeal.τ).loc Cert.ActBackRefIdeal.main_arg2) = m ((c.tc : Thread Cert.ActBackIdeal.nD Cert.ActBackIdeal.τ).loc Cert.ActBackIdeal.main_arg2)
      ∧ m' ((c.tc : Thread Cert.ActBackRefIdeal.nD Cert.ActBackRefIdeal.τ).loc Cert.ActBackRefIdeal.main_arg3) = m ((c.tc : Thread Cert.ActBackIdeal.nD Cert.ActBackIdeal.τ).loc Cert.ActBackIdeal.main_arg3)) →
    ∃ (v0 : (c : Dev Cert.ActBackIdeal.nD) → Buf (Elt Ideal) ((c.tc : Thread Cert.ActBackIdeal.nD Cert.ActBackIdeal.τ).loc Cert.ActBackIdeal.main_v0)),
      θ_run (Cert.ActBackIdeal.defs (F := Ideal)) (onTc (τ := Cert.ActBackIdeal.τ) (Cert.ActBackIdeal.main (F := Ideal))) ⟨m, fun _ => 0, g⟩ (fun r => ∀ c : Dev Cert.ActBackIdeal.nD,
          r.2.mem ((c.tc : Thread Cert.ActBackIdeal.nD Cert.ActBackIdeal.τ).loc Cert.ActBackIdeal.main_v0) = v0 c
          ∧ r.2.mem ((c.tc : Thread Cert.ActBackIdeal.nD Cert.ActBackIdeal.τ).loc Cert.ActBackIdeal.main_arg0) = m ((c.tc : Thread Cert.ActBackIdeal.nD Cert.ActBackIdeal.τ).loc Cert.ActBackIdeal.main_arg0)
          ∧ r.2.mem ((c.tc : Thread Cert.ActBackIdeal.nD Cert.ActBackIdeal.τ).loc Cert.ActBackIdeal.main_arg1) = m ((c.tc : Thread Cert.ActBackIdeal.nD Cert.ActBackIdeal.τ).loc Cert.ActBackIdeal.main_arg1)
          ∧ r.2.mem ((c.tc : Thread Cert.ActBackIdeal.nD Cert.ActBackIdeal.τ).loc Cert.ActBackIdeal.main_arg2) = m ((c.tc : Thread Cert.ActBackIdeal.nD Cert.ActBackIdeal.τ).loc Cert.ActBackIdeal.main_arg2)
          ∧ r.2.mem ((c.tc : Thread Cert.ActBackIdeal.nD Cert.ActBackIdeal.τ).loc Cert.ActBackIdeal.main_arg3) = m ((c.tc : Thread Cert.ActBackIdeal.nD Cert.ActBackIdeal.τ).loc Cert.ActBackIdeal.main_arg3))
      ∧ θ_run (Cert.ActBackRefIdeal.defs (F := Ideal)) (onTc (τ := Cert.ActBackRefIdeal.τ) (Cert.ActBackRefIdeal.main (F := Ideal))) ⟨m', fun _ => 0, g'⟩ (fun r => ∀ c : Dev Cert.ActBackRefIdeal.nD,
          r.2.mem ((c.tc : Thread Cert.ActBackRefIdeal.nD Cert.ActBackRefIdeal.τ).loc Cert.ActBackRefIdeal.main_v13) = v0 c
          ∧ r.2.mem ((c.tc : Thread Cert.ActBackRefIdeal.nD Cert.ActBackRefIdeal.τ).loc Cert.ActBackRefIdeal.main_arg0) = m' ((c.tc : Thread Cert.ActBackRefIdeal.nD Cert.ActBackRefIdeal.τ).loc Cert.ActBackRefIdeal.main_arg0)
          ∧ r.2.mem ((c.tc : Thread Cert.ActBackRefIdeal.nD Cert.ActBackRefIdeal.τ).loc Cert.ActBackRefIdeal.main_arg1) = m' ((c.tc : Thread Cert.ActBackRefIdeal.nD Cert.ActBackRefIdeal.τ).loc Cert.ActBackRefIdeal.main_arg1)
          ∧ r.2.mem ((c.tc : Thread Cert.ActBackRefIdeal.nD Cert.ActBackRefIdeal.τ).loc Cert.ActBackRefIdeal.main_arg2) = m' ((c.tc : Thread Cert.ActBackRefIdeal.nD Cert.ActBackRefIdeal.τ).loc Cert.ActBackRefIdeal.main_arg2)
          ∧ r.2.mem ((c.tc : Thread Cert.ActBackRefIdeal.nD Cert.ActBackRefIdeal.τ).loc Cert.ActBackRefIdeal.main_arg3) = m' ((c.tc : Thread Cert.ActBackRefIdeal.nD Cert.ActBackRefIdeal.τ).loc Cert.ActBackRefIdeal.main_arg3))

def preserves_MoBack_MoBackIdeal : Prop :=
  True

def algebraic_MoBackIdeal_MoBackRefIdeal [hMoBackIdeal : Cert.MoBackIdeal.Facts] [hMoBackRefIdeal : Cert.MoBackRefIdeal.Facts] : Prop :=
  ∀ (m : (ℓ : Loc Cert.MoBackIdeal.nD Cert.MoBackIdeal.τ Cert.MoBackIdeal.sig) → Buf (Elt Ideal) ℓ) (g : Dev Cert.MoBackIdeal.nD → PrngReg)
    (m' : (ℓ : Loc Cert.MoBackRefIdeal.nD Cert.MoBackRefIdeal.τ Cert.MoBackRefIdeal.sig) → Buf (Elt Ideal) ℓ) (g' : Dev Cert.MoBackRefIdeal.nD → PrngReg), Pre_MoBackIdeal m →
    (∀ c : Dev Cert.MoBackIdeal.nD,
      m' ((c.tc : Thread Cert.MoBackRefIdeal.nD Cert.MoBackRefIdeal.τ).loc Cert.MoBackRefIdeal.main_arg0) = m ((c.tc : Thread Cert.MoBackIdeal.nD Cert.MoBackIdeal.τ).loc Cert.MoBackIdeal.main_arg0)
      ∧ m' ((c.tc : Thread Cert.MoBackRefIdeal.nD Cert.MoBackRefIdeal.τ).loc Cert.MoBackRefIdeal.main_arg1) = m ((c.tc : Thread Cert.MoBackIdeal.nD Cert.MoBackIdeal.τ).loc Cert.MoBackIdeal.main_arg1)) →
    ∃ (v0 : (c : Dev Cert.MoBackIdeal.nD) → Buf (Elt Ideal) ((c.tc : Thread Cert.MoBackIdeal.nD Cert.MoBackIdeal.τ).loc Cert.MoBackIdeal.main_v0)),
      θ_run (Cert.MoBackIdeal.defs (F := Ideal)) (onTc (τ := Cert.MoBackIdeal.τ) (Cert.MoBackIdeal.main (F := Ideal))) ⟨m, fun _ => 0, g⟩ (fun r => ∀ c : Dev Cert.MoBackIdeal.nD,
          r.2.mem ((c.tc : Thread Cert.MoBackIdeal.nD Cert.MoBackIdeal.τ).loc Cert.MoBackIdeal.main_v0) = v0 c
          ∧ r.2.mem ((c.tc : Thread Cert.MoBackIdeal.nD Cert.MoBackIdeal.τ).loc Cert.MoBackIdeal.main_arg0) = m ((c.tc : Thread Cert.MoBackIdeal.nD Cert.MoBackIdeal.τ).loc Cert.MoBackIdeal.main_arg0)
          ∧ r.2.mem ((c.tc : Thread Cert.MoBackIdeal.nD Cert.MoBackIdeal.τ).loc Cert.MoBackIdeal.main_arg1) = m ((c.tc : Thread Cert.MoBackIdeal.nD Cert.MoBackIdeal.τ).loc Cert.MoBackIdeal.main_arg1))
      ∧ θ_run (Cert.MoBackRefIdeal.defs (F := Ideal)) (onTc (τ := Cert.MoBackRefIdeal.τ) (Cert.MoBackRefIdeal.main (F := Ideal))) ⟨m', fun _ => 0, g'⟩ (fun r => ∀ c : Dev Cert.MoBackRefIdeal.nD,
          r.2.mem ((c.tc : Thread Cert.MoBackRefIdeal.nD Cert.MoBackRefIdeal.τ).loc Cert.MoBackRefIdeal.main_v4) = v0 c
          ∧ r.2.mem ((c.tc : Thread Cert.MoBackRefIdeal.nD Cert.MoBackRefIdeal.τ).loc Cert.MoBackRefIdeal.main_arg0) = m' ((c.tc : Thread Cert.MoBackRefIdeal.nD Cert.MoBackRefIdeal.τ).loc Cert.MoBackRefIdeal.main_arg0)
          ∧ r.2.mem ((c.tc : Thread Cert.MoBackRefIdeal.nD Cert.MoBackRefIdeal.τ).loc Cert.MoBackRefIdeal.main_arg1) = m' ((c.tc : Thread Cert.MoBackRefIdeal.nD Cert.MoBackRefIdeal.τ).loc Cert.MoBackRefIdeal.main_arg1))

def preserves_MoGrad_MoGradIdeal : Prop :=
  True

def algebraic_MoGradIdeal_MoGradRefIdeal [hMoGradIdeal : Cert.MoGradIdeal.Facts] [hMoGradRefIdeal : Cert.MoGradRefIdeal.Facts] : Prop :=
  ∀ (m : (ℓ : Loc Cert.MoGradIdeal.nD Cert.MoGradIdeal.τ Cert.MoGradIdeal.sig) → Buf (Elt Ideal) ℓ) (g : Dev Cert.MoGradIdeal.nD → PrngReg)
    (m' : (ℓ : Loc Cert.MoGradRefIdeal.nD Cert.MoGradRefIdeal.τ Cert.MoGradRefIdeal.sig) → Buf (Elt Ideal) ℓ) (g' : Dev Cert.MoGradRefIdeal.nD → PrngReg), Pre_MoGradIdeal m →
    (∀ c : Dev Cert.MoGradIdeal.nD,
      m' ((c.tc : Thread Cert.MoGradRefIdeal.nD Cert.MoGradRefIdeal.τ).loc Cert.MoGradRefIdeal.main_arg0) = m ((c.tc : Thread Cert.MoGradIdeal.nD Cert.MoGradIdeal.τ).loc Cert.MoGradIdeal.main_arg0)
      ∧ m' ((c.tc : Thread Cert.MoGradRefIdeal.nD Cert.MoGradRefIdeal.τ).loc Cert.MoGradRefIdeal.main_arg1) = m ((c.tc : Thread Cert.MoGradIdeal.nD Cert.MoGradIdeal.τ).loc Cert.MoGradIdeal.main_arg1)) →
    ∃ (v0 : (c : Dev Cert.MoGradIdeal.nD) → Buf (Elt Ideal) ((c.tc : Thread Cert.MoGradIdeal.nD Cert.MoGradIdeal.τ).loc Cert.MoGradIdeal.main_v0)),
      θ_run (Cert.MoGradIdeal.defs (F := Ideal)) (onTc (τ := Cert.MoGradIdeal.τ) (Cert.MoGradIdeal.main (F := Ideal))) ⟨m, fun _ => 0, g⟩ (fun r => ∀ c : Dev Cert.MoGradIdeal.nD,
          r.2.mem ((c.tc : Thread Cert.MoGradIdeal.nD Cert.MoGradIdeal.τ).loc Cert.MoGradIdeal.main_v0) = v0 c
          ∧ r.2.mem ((c.tc : Thread Cert.MoGradIdeal.nD Cert.MoGradIdeal.τ).loc Cert.MoGradIdeal.main_arg0) = m ((c.tc : Thread Cert.MoGradIdeal.nD Cert.MoGradIdeal.τ).loc Cert.MoGradIdeal.main_arg0)
          ∧ r.2.mem ((c.tc : Thread Cert.MoGradIdeal.nD Cert.MoGradIdeal.τ).loc Cert.MoGradIdeal.main_arg1) = m ((c.tc : Thread Cert.MoGradIdeal.nD Cert.MoGradIdeal.τ).loc Cert.MoGradIdeal.main_arg1))
      ∧ θ_run (Cert.MoGradRefIdeal.defs (F := Ideal)) (onTc (τ := Cert.MoGradRefIdeal.τ) (Cert.MoGradRefIdeal.main (F := Ideal))) ⟨m', fun _ => 0, g'⟩ (fun r => ∀ c : Dev Cert.MoGradRefIdeal.nD,
          r.2.mem ((c.tc : Thread Cert.MoGradRefIdeal.nD Cert.MoGradRefIdeal.τ).loc Cert.MoGradRefIdeal.main_v4) = v0 c
          ∧ r.2.mem ((c.tc : Thread Cert.MoGradRefIdeal.nD Cert.MoGradRefIdeal.τ).loc Cert.MoGradRefIdeal.main_arg0) = m' ((c.tc : Thread Cert.MoGradRefIdeal.nD Cert.MoGradRefIdeal.τ).loc Cert.MoGradRefIdeal.main_arg0)
          ∧ r.2.mem ((c.tc : Thread Cert.MoGradRefIdeal.nD Cert.MoGradRefIdeal.τ).loc Cert.MoGradRefIdeal.main_arg1) = m' ((c.tc : Thread Cert.MoGradRefIdeal.nD Cert.MoGradRefIdeal.τ).loc Cert.MoGradRefIdeal.main_arg1))

def preserves_MqBack_MqBackIdeal : Prop :=
  True

def algebraic_MqBackIdeal_MqBackRefIdeal [hMqBackIdeal : Cert.MqBackIdeal.Facts] [hMqBackRefIdeal : Cert.MqBackRefIdeal.Facts] : Prop :=
  ∀ (m : (ℓ : Loc Cert.MqBackIdeal.nD Cert.MqBackIdeal.τ Cert.MqBackIdeal.sig) → Buf (Elt Ideal) ℓ) (g : Dev Cert.MqBackIdeal.nD → PrngReg)
    (m' : (ℓ : Loc Cert.MqBackRefIdeal.nD Cert.MqBackRefIdeal.τ Cert.MqBackRefIdeal.sig) → Buf (Elt Ideal) ℓ) (g' : Dev Cert.MqBackRefIdeal.nD → PrngReg), Pre_MqBackIdeal m →
    (∀ c : Dev Cert.MqBackIdeal.nD,
      m' ((c.tc : Thread Cert.MqBackRefIdeal.nD Cert.MqBackRefIdeal.τ).loc Cert.MqBackRefIdeal.main_arg0) = m ((c.tc : Thread Cert.MqBackIdeal.nD Cert.MqBackIdeal.τ).loc Cert.MqBackIdeal.main_arg0)
      ∧ m' ((c.tc : Thread Cert.MqBackRefIdeal.nD Cert.MqBackRefIdeal.τ).loc Cert.MqBackRefIdeal.main_arg1) = m ((c.tc : Thread Cert.MqBackIdeal.nD Cert.MqBackIdeal.τ).loc Cert.MqBackIdeal.main_arg1)) →
    ∃ (v0 : (c : Dev Cert.MqBackIdeal.nD) → Buf (Elt Ideal) ((c.tc : Thread Cert.MqBackIdeal.nD Cert.MqBackIdeal.τ).loc Cert.MqBackIdeal.main_v0)),
      θ_run (Cert.MqBackIdeal.defs (F := Ideal)) (onTc (τ := Cert.MqBackIdeal.τ) (Cert.MqBackIdeal.main (F := Ideal))) ⟨m, fun _ => 0, g⟩ (fun r => ∀ c : Dev Cert.MqBackIdeal.nD,
          r.2.mem ((c.tc : Thread Cert.MqBackIdeal.nD Cert.MqBackIdeal.τ).loc Cert.MqBackIdeal.main_v0) = v0 c
          ∧ r.2.mem ((c.tc : Thread Cert.MqBackIdeal.nD Cert.MqBackIdeal.τ).loc Cert.MqBackIdeal.main_arg0) = m ((c.tc : Thread Cert.MqBackIdeal.nD Cert.MqBackIdeal.τ).loc Cert.MqBackIdeal.main_arg0)
          ∧ r.2.mem ((c.tc : Thread Cert.MqBackIdeal.nD Cert.MqBackIdeal.τ).loc Cert.MqBackIdeal.main_arg1) = m ((c.tc : Thread Cert.MqBackIdeal.nD Cert.MqBackIdeal.τ).loc Cert.MqBackIdeal.main_arg1))
      ∧ θ_run (Cert.MqBackRefIdeal.defs (F := Ideal)) (onTc (τ := Cert.MqBackRefIdeal.τ) (Cert.MqBackRefIdeal.main (F := Ideal))) ⟨m', fun _ => 0, g'⟩ (fun r => ∀ c : Dev Cert.MqBackRefIdeal.nD,
          r.2.mem ((c.tc : Thread Cert.MqBackRefIdeal.nD Cert.MqBackRefIdeal.τ).loc Cert.MqBackRefIdeal.main_v4) = v0 c
          ∧ r.2.mem ((c.tc : Thread Cert.MqBackRefIdeal.nD Cert.MqBackRefIdeal.τ).loc Cert.MqBackRefIdeal.main_arg0) = m' ((c.tc : Thread Cert.MqBackRefIdeal.nD Cert.MqBackRefIdeal.τ).loc Cert.MqBackRefIdeal.main_arg0)
          ∧ r.2.mem ((c.tc : Thread Cert.MqBackRefIdeal.nD Cert.MqBackRefIdeal.τ).loc Cert.MqBackRefIdeal.main_arg1) = m' ((c.tc : Thread Cert.MqBackRefIdeal.nD Cert.MqBackRefIdeal.τ).loc Cert.MqBackRefIdeal.main_arg1))

def preserves_MqGrad_MqGradIdeal : Prop :=
  True

def algebraic_MqGradIdeal_MqGradRefIdeal [hMqGradIdeal : Cert.MqGradIdeal.Facts] [hMqGradRefIdeal : Cert.MqGradRefIdeal.Facts] : Prop :=
  ∀ (m : (ℓ : Loc Cert.MqGradIdeal.nD Cert.MqGradIdeal.τ Cert.MqGradIdeal.sig) → Buf (Elt Ideal) ℓ) (g : Dev Cert.MqGradIdeal.nD → PrngReg)
    (m' : (ℓ : Loc Cert.MqGradRefIdeal.nD Cert.MqGradRefIdeal.τ Cert.MqGradRefIdeal.sig) → Buf (Elt Ideal) ℓ) (g' : Dev Cert.MqGradRefIdeal.nD → PrngReg), Pre_MqGradIdeal m →
    (∀ c : Dev Cert.MqGradIdeal.nD,
      m' ((c.tc : Thread Cert.MqGradRefIdeal.nD Cert.MqGradRefIdeal.τ).loc Cert.MqGradRefIdeal.main_arg0) = m ((c.tc : Thread Cert.MqGradIdeal.nD Cert.MqGradIdeal.τ).loc Cert.MqGradIdeal.main_arg0)
      ∧ m' ((c.tc : Thread Cert.MqGradRefIdeal.nD Cert.MqGradRefIdeal.τ).loc Cert.MqGradRefIdeal.main_arg1) = m ((c.tc : Thread Cert.MqGradIdeal.nD Cert.MqGradIdeal.τ).loc Cert.MqGradIdeal.main_arg1)) →
    ∃ (v0 : (c : Dev Cert.MqGradIdeal.nD) → Buf (Elt Ideal) ((c.tc : Thread Cert.MqGradIdeal.nD Cert.MqGradIdeal.τ).loc Cert.MqGradIdeal.main_v0)),
      θ_run (Cert.MqGradIdeal.defs (F := Ideal)) (onTc (τ := Cert.MqGradIdeal.τ) (Cert.MqGradIdeal.main (F := Ideal))) ⟨m, fun _ => 0, g⟩ (fun r => ∀ c : Dev Cert.MqGradIdeal.nD,
          r.2.mem ((c.tc : Thread Cert.MqGradIdeal.nD Cert.MqGradIdeal.τ).loc Cert.MqGradIdeal.main_v0) = v0 c
          ∧ r.2.mem ((c.tc : Thread Cert.MqGradIdeal.nD Cert.MqGradIdeal.τ).loc Cert.MqGradIdeal.main_arg0) = m ((c.tc : Thread Cert.MqGradIdeal.nD Cert.MqGradIdeal.τ).loc Cert.MqGradIdeal.main_arg0)
          ∧ r.2.mem ((c.tc : Thread Cert.MqGradIdeal.nD Cert.MqGradIdeal.τ).loc Cert.MqGradIdeal.main_arg1) = m ((c.tc : Thread Cert.MqGradIdeal.nD Cert.MqGradIdeal.τ).loc Cert.MqGradIdeal.main_arg1))
      ∧ θ_run (Cert.MqGradRefIdeal.defs (F := Ideal)) (onTc (τ := Cert.MqGradRefIdeal.τ) (Cert.MqGradRefIdeal.main (F := Ideal))) ⟨m', fun _ => 0, g'⟩ (fun r => ∀ c : Dev Cert.MqGradRefIdeal.nD,
          r.2.mem ((c.tc : Thread Cert.MqGradRefIdeal.nD Cert.MqGradRefIdeal.τ).loc Cert.MqGradRefIdeal.main_v5) = v0 c
          ∧ r.2.mem ((c.tc : Thread Cert.MqGradRefIdeal.nD Cert.MqGradRefIdeal.τ).loc Cert.MqGradRefIdeal.main_arg0) = m' ((c.tc : Thread Cert.MqGradRefIdeal.nD Cert.MqGradRefIdeal.τ).loc Cert.MqGradRefIdeal.main_arg0)
          ∧ r.2.mem ((c.tc : Thread Cert.MqGradRefIdeal.nD Cert.MqGradRefIdeal.τ).loc Cert.MqGradRefIdeal.main_arg1) = m' ((c.tc : Thread Cert.MqGradRefIdeal.nD Cert.MqGradRefIdeal.τ).loc Cert.MqGradRefIdeal.main_arg1))

def preserves_OutBack_OutBackIdeal : Prop :=
  True

def algebraic_OutBackIdeal_OutBackRefIdeal [hOutBackIdeal : Cert.OutBackIdeal.Facts] [hOutBackRefIdeal : Cert.OutBackRefIdeal.Facts] : Prop :=
  ∀ (m : (ℓ : Loc Cert.OutBackIdeal.nD Cert.OutBackIdeal.τ Cert.OutBackIdeal.sig) → Buf (Elt Ideal) ℓ) (g : Dev Cert.OutBackIdeal.nD → PrngReg)
    (m' : (ℓ : Loc Cert.OutBackRefIdeal.nD Cert.OutBackRefIdeal.τ Cert.OutBackRefIdeal.sig) → Buf (Elt Ideal) ℓ) (g' : Dev Cert.OutBackRefIdeal.nD → PrngReg), Pre_OutBackIdeal m →
    (∀ c : Dev Cert.OutBackIdeal.nD,
      m' ((c.tc : Thread Cert.OutBackRefIdeal.nD Cert.OutBackRefIdeal.τ).loc Cert.OutBackRefIdeal.main_arg0) = m ((c.tc : Thread Cert.OutBackIdeal.nD Cert.OutBackIdeal.τ).loc Cert.OutBackIdeal.main_arg0)
      ∧ m' ((c.tc : Thread Cert.OutBackRefIdeal.nD Cert.OutBackRefIdeal.τ).loc Cert.OutBackRefIdeal.main_arg1) = m ((c.tc : Thread Cert.OutBackIdeal.nD Cert.OutBackIdeal.τ).loc Cert.OutBackIdeal.main_arg1)) →
    ∃ (v0 : (c : Dev Cert.OutBackIdeal.nD) → Buf (Elt Ideal) ((c.tc : Thread Cert.OutBackIdeal.nD Cert.OutBackIdeal.τ).loc Cert.OutBackIdeal.main_v0)),
      θ_run (Cert.OutBackIdeal.defs (F := Ideal)) (onTc (τ := Cert.OutBackIdeal.τ) (Cert.OutBackIdeal.main (F := Ideal))) ⟨m, fun _ => 0, g⟩ (fun r => ∀ c : Dev Cert.OutBackIdeal.nD,
          r.2.mem ((c.tc : Thread Cert.OutBackIdeal.nD Cert.OutBackIdeal.τ).loc Cert.OutBackIdeal.main_v0) = v0 c
          ∧ r.2.mem ((c.tc : Thread Cert.OutBackIdeal.nD Cert.OutBackIdeal.τ).loc Cert.OutBackIdeal.main_arg0) = m ((c.tc : Thread Cert.OutBackIdeal.nD Cert.OutBackIdeal.τ).loc Cert.OutBackIdeal.main_arg0)
          ∧ r.2.mem ((c.tc : Thread Cert.OutBackIdeal.nD Cert.OutBackIdeal.τ).loc Cert.OutBackIdeal.main_arg1) = m ((c.tc : Thread Cert.OutBackIdeal.nD Cert.OutBackIdeal.τ).loc Cert.OutBackIdeal.main_arg1))
      ∧ θ_run (Cert.OutBackRefIdeal.defs (F := Ideal)) (onTc (τ := Cert.OutBackRefIdeal.τ) (Cert.OutBackRefIdeal.main (F := Ideal))) ⟨m', fun _ => 0, g'⟩ (fun r => ∀ c : Dev Cert.OutBackRefIdeal.nD,
          r.2.mem ((c.tc : Thread Cert.OutBackRefIdeal.nD Cert.OutBackRefIdeal.τ).loc Cert.OutBackRefIdeal.main_v3) = v0 c
          ∧ r.2.mem ((c.tc : Thread Cert.OutBackRefIdeal.nD Cert.OutBackRefIdeal.τ).loc Cert.OutBackRefIdeal.main_arg0) = m' ((c.tc : Thread Cert.OutBackRefIdeal.nD Cert.OutBackRefIdeal.τ).loc Cert.OutBackRefIdeal.main_arg0)
          ∧ r.2.mem ((c.tc : Thread Cert.OutBackRefIdeal.nD Cert.OutBackRefIdeal.τ).loc Cert.OutBackRefIdeal.main_arg1) = m' ((c.tc : Thread Cert.OutBackRefIdeal.nD Cert.OutBackRefIdeal.τ).loc Cert.OutBackRefIdeal.main_arg1))

def preserves_OutGrad_OutGradIdeal : Prop :=
  True

def algebraic_OutGradIdeal_OutGradRefIdeal [hOutGradIdeal : Cert.OutGradIdeal.Facts] [hOutGradRefIdeal : Cert.OutGradRefIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradRefIdeal.nD Cert.OutGradRefIdeal.τ Cert.OutGradRefIdeal.sig) → Buf (Elt Ideal) ℓ) (g' : Dev Cert.OutGradRefIdeal.nD → PrngReg), Pre_OutGradIdeal m →
    (∀ c : Dev Cert.OutGradIdeal.nD,
      m' ((c.tc : Thread Cert.OutGradRefIdeal.nD Cert.OutGradRefIdeal.τ).loc Cert.OutGradRefIdeal.main_arg0) = m ((c.tc : Thread Cert.OutGradIdeal.nD Cert.OutGradIdeal.τ).loc Cert.OutGradIdeal.main_arg0)
      ∧ m' ((c.tc : Thread Cert.OutGradRefIdeal.nD Cert.OutGradRefIdeal.τ).loc Cert.OutGradRefIdeal.main_arg1) = m ((c.tc : Thread Cert.OutGradIdeal.nD Cert.OutGradIdeal.τ).loc Cert.OutGradIdeal.main_arg1)) →
    ∃ (v0 : (c : Dev Cert.OutGradIdeal.nD) → Buf (Elt Ideal) ((c.tc : Thread Cert.OutGradIdeal.nD Cert.OutGradIdeal.τ).loc Cert.OutGradIdeal.main_v0)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v0) = v0 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ θ_run (Cert.OutGradRefIdeal.defs (F := Ideal)) (onTc (τ := Cert.OutGradRefIdeal.τ) (Cert.OutGradRefIdeal.main (F := Ideal))) ⟨m', fun _ => 0, g'⟩ (fun r => ∀ c : Dev Cert.OutGradRefIdeal.nD,
          r.2.mem ((c.tc : Thread Cert.OutGradRefIdeal.nD Cert.OutGradRefIdeal.τ).loc Cert.OutGradRefIdeal.main_v4) = v0 c
          ∧ r.2.mem ((c.tc : Thread Cert.OutGradRefIdeal.nD Cert.OutGradRefIdeal.τ).loc Cert.OutGradRefIdeal.main_arg0) = m' ((c.tc : Thread Cert.OutGradRefIdeal.nD Cert.OutGradRefIdeal.τ).loc Cert.OutGradRefIdeal.main_arg0)
          ∧ r.2.mem ((c.tc : Thread Cert.OutGradRefIdeal.nD Cert.OutGradRefIdeal.τ).loc Cert.OutGradRefIdeal.main_arg1) = m' ((c.tc : Thread Cert.OutGradRefIdeal.nD Cert.OutGradRefIdeal.τ).loc Cert.OutGradRefIdeal.main_arg1))

def preserves_InGrad_InGradIdeal : Prop :=
  True

def algebraic_InGradIdeal_InGradRefIdeal [hInGradIdeal : Cert.InGradIdeal.Facts] [hInGradRefIdeal : Cert.InGradRefIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InGradRefIdeal.nD Cert.InGradRefIdeal.τ Cert.InGradRefIdeal.sig) → Buf (Elt Ideal) ℓ) (g' : Dev Cert.InGradRefIdeal.nD → PrngReg), Pre_InGradIdeal m →
    (∀ c : Dev Cert.InGradIdeal.nD,
      m' ((c.tc : Thread Cert.InGradRefIdeal.nD Cert.InGradRefIdeal.τ).loc Cert.InGradRefIdeal.main_arg0) = m ((c.tc : Thread Cert.InGradIdeal.nD Cert.InGradIdeal.τ).loc Cert.InGradIdeal.main_arg0)
      ∧ m' ((c.tc : Thread Cert.InGradRefIdeal.nD Cert.InGradRefIdeal.τ).loc Cert.InGradRefIdeal.main_arg1) = m ((c.tc : Thread Cert.InGradIdeal.nD Cert.InGradIdeal.τ).loc Cert.InGradIdeal.main_arg1)) →
    ∃ (v0 : (c : Dev Cert.InGradIdeal.nD) → Buf (Elt Ideal) ((c.tc : Thread Cert.InGradIdeal.nD Cert.InGradIdeal.τ).loc Cert.InGradIdeal.main_v0)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v0) = v0 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1))
      ∧ θ_run (Cert.InGradRefIdeal.defs (F := Ideal)) (onTc (τ := Cert.InGradRefIdeal.τ) (Cert.InGradRefIdeal.main (F := Ideal))) ⟨m', fun _ => 0, g'⟩ (fun r => ∀ c : Dev Cert.InGradRefIdeal.nD,
          r.2.mem ((c.tc : Thread Cert.InGradRefIdeal.nD Cert.InGradRefIdeal.τ).loc Cert.InGradRefIdeal.main_v5) = v0 c
          ∧ r.2.mem ((c.tc : Thread Cert.InGradRefIdeal.nD Cert.InGradRefIdeal.τ).loc Cert.InGradRefIdeal.main_arg0) = m' ((c.tc : Thread Cert.InGradRefIdeal.nD Cert.InGradRefIdeal.τ).loc Cert.InGradRefIdeal.main_arg0)
          ∧ r.2.mem ((c.tc : Thread Cert.InGradRefIdeal.nD Cert.InGradRefIdeal.τ).loc Cert.InGradRefIdeal.main_arg1) = m' ((c.tc : Thread Cert.InGradRefIdeal.nD Cert.InGradRefIdeal.τ).loc Cert.InGradRefIdeal.main_arg1))

def preserves_InBack_InBackIdeal : Prop :=
  True

def algebraic_InBackIdeal_InBackRefIdeal [hInBackIdeal : Cert.InBackIdeal.Facts] [hInBackRefIdeal : Cert.InBackRefIdeal.Facts] : Prop :=
  ∀ (m : (ℓ : Loc Cert.InBackIdeal.nD Cert.InBackIdeal.τ Cert.InBackIdeal.sig) → Buf (Elt Ideal) ℓ) (g : Dev Cert.InBackIdeal.nD → PrngReg)
    (m' : (ℓ : Loc Cert.InBackRefIdeal.nD Cert.InBackRefIdeal.τ Cert.InBackRefIdeal.sig) → Buf (Elt Ideal) ℓ) (g' : Dev Cert.InBackRefIdeal.nD → PrngReg), Pre_InBackIdeal m →
    (∀ c : Dev Cert.InBackIdeal.nD,
      m' ((c.tc : Thread Cert.InBackRefIdeal.nD Cert.InBackRefIdeal.τ).loc Cert.InBackRefIdeal.main_arg0) = m ((c.tc : Thread Cert.InBackIdeal.nD Cert.InBackIdeal.τ).loc Cert.InBackIdeal.main_arg0)
      ∧ m' ((c.tc : Thread Cert.InBackRefIdeal.nD Cert.InBackRefIdeal.τ).loc Cert.InBackRefIdeal.main_arg1) = m ((c.tc : Thread Cert.InBackIdeal.nD Cert.InBackIdeal.τ).loc Cert.InBackIdeal.main_arg1)) →
    ∃ (v0 : (c : Dev Cert.InBackIdeal.nD) → Buf (Elt Ideal) ((c.tc : Thread Cert.InBackIdeal.nD Cert.InBackIdeal.τ).loc Cert.InBackIdeal.main_v0)),
      θ_run (Cert.InBackIdeal.defs (F := Ideal)) (onTc (τ := Cert.InBackIdeal.τ) (Cert.InBackIdeal.main (F := Ideal))) ⟨m, fun _ => 0, g⟩ (fun r => ∀ c : Dev Cert.InBackIdeal.nD,
          r.2.mem ((c.tc : Thread Cert.InBackIdeal.nD Cert.InBackIdeal.τ).loc Cert.InBackIdeal.main_v0) = v0 c
          ∧ r.2.mem ((c.tc : Thread Cert.InBackIdeal.nD Cert.InBackIdeal.τ).loc Cert.InBackIdeal.main_arg0) = m ((c.tc : Thread Cert.InBackIdeal.nD Cert.InBackIdeal.τ).loc Cert.InBackIdeal.main_arg0)
          ∧ r.2.mem ((c.tc : Thread Cert.InBackIdeal.nD Cert.InBackIdeal.τ).loc Cert.InBackIdeal.main_arg1) = m ((c.tc : Thread Cert.InBackIdeal.nD Cert.InBackIdeal.τ).loc Cert.InBackIdeal.main_arg1))
      ∧ θ_run (Cert.InBackRefIdeal.defs (F := Ideal)) (onTc (τ := Cert.InBackRefIdeal.τ) (Cert.InBackRefIdeal.main (F := Ideal))) ⟨m', fun _ => 0, g'⟩ (fun r => ∀ c : Dev Cert.InBackRefIdeal.nD,
          r.2.mem ((c.tc : Thread Cert.InBackRefIdeal.nD Cert.InBackRefIdeal.τ).loc Cert.InBackRefIdeal.main_v4) = v0 c
          ∧ r.2.mem ((c.tc : Thread Cert.InBackRefIdeal.nD Cert.InBackRefIdeal.τ).loc Cert.InBackRefIdeal.main_arg0) = m' ((c.tc : Thread Cert.InBackRefIdeal.nD Cert.InBackRefIdeal.τ).loc Cert.InBackRefIdeal.main_arg0)
          ∧ r.2.mem ((c.tc : Thread Cert.InBackRefIdeal.nD Cert.InBackRefIdeal.τ).loc Cert.InBackRefIdeal.main_arg1) = m' ((c.tc : Thread Cert.InBackRefIdeal.nD Cert.InBackRefIdeal.τ).loc Cert.InBackRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v2) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_MqProj_MqProjIdeal : Prop :=
  True

def algebraic_MqProjIdeal_MqProjRefIdeal [hMqProjIdeal : Cert.MqProjIdeal.Facts] [hMqProjRefIdeal : Cert.MqProjRefIdeal.Facts] : Prop :=
  ∀ (m : (ℓ : Loc Cert.MqProjIdeal.nD Cert.MqProjIdeal.τ Cert.MqProjIdeal.sig) → Buf (Elt Ideal) ℓ) (g : Dev Cert.MqProjIdeal.nD → PrngReg)
    (m' : (ℓ : Loc Cert.MqProjRefIdeal.nD Cert.MqProjRefIdeal.τ Cert.MqProjRefIdeal.sig) → Buf (Elt Ideal) ℓ) (g' : Dev Cert.MqProjRefIdeal.nD → PrngReg), Pre_MqProjIdeal m →
    (∀ c : Dev Cert.MqProjIdeal.nD,
      m' ((c.tc : Thread Cert.MqProjRefIdeal.nD Cert.MqProjRefIdeal.τ).loc Cert.MqProjRefIdeal.main_arg0) = m ((c.tc : Thread Cert.MqProjIdeal.nD Cert.MqProjIdeal.τ).loc Cert.MqProjIdeal.main_arg0)
      ∧ m' ((c.tc : Thread Cert.MqProjRefIdeal.nD Cert.MqProjRefIdeal.τ).loc Cert.MqProjRefIdeal.main_arg1) = m ((c.tc : Thread Cert.MqProjIdeal.nD Cert.MqProjIdeal.τ).loc Cert.MqProjIdeal.main_arg1)) →
    ∃ (v0 : (c : Dev Cert.MqProjIdeal.nD) → Buf (Elt Ideal) ((c.tc : Thread Cert.MqProjIdeal.nD Cert.MqProjIdeal.τ).loc Cert.MqProjIdeal.main_v0)),
      θ_run (Cert.MqProjIdeal.defs (F := Ideal)) (onTc (τ := Cert.MqProjIdeal.τ) (Cert.MqProjIdeal.main (F := Ideal))) ⟨m, fun _ => 0, g⟩ (fun r => ∀ c : Dev Cert.MqProjIdeal.nD,
          r.2.mem ((c.tc : Thread Cert.MqProjIdeal.nD Cert.MqProjIdeal.τ).loc Cert.MqProjIdeal.main_v0) = v0 c
          ∧ r.2.mem ((c.tc : Thread Cert.MqProjIdeal.nD Cert.MqProjIdeal.τ).loc Cert.MqProjIdeal.main_arg0) = m ((c.tc : Thread Cert.MqProjIdeal.nD Cert.MqProjIdeal.τ).loc Cert.MqProjIdeal.main_arg0)
          ∧ r.2.mem ((c.tc : Thread Cert.MqProjIdeal.nD Cert.MqProjIdeal.τ).loc Cert.MqProjIdeal.main_arg1) = m ((c.tc : Thread Cert.MqProjIdeal.nD Cert.MqProjIdeal.τ).loc Cert.MqProjIdeal.main_arg1))
      ∧ θ_run (Cert.MqProjRefIdeal.defs (F := Ideal)) (onTc (τ := Cert.MqProjRefIdeal.τ) (Cert.MqProjRefIdeal.main (F := Ideal))) ⟨m', fun _ => 0, g'⟩ (fun r => ∀ c : Dev Cert.MqProjRefIdeal.nD,
          r.2.mem ((c.tc : Thread Cert.MqProjRefIdeal.nD Cert.MqProjRefIdeal.τ).loc Cert.MqProjRefIdeal.main_v2) = v0 c
          ∧ r.2.mem ((c.tc : Thread Cert.MqProjRefIdeal.nD Cert.MqProjRefIdeal.τ).loc Cert.MqProjRefIdeal.main_arg0) = m' ((c.tc : Thread Cert.MqProjRefIdeal.nD Cert.MqProjRefIdeal.τ).loc Cert.MqProjRefIdeal.main_arg0)
          ∧ r.2.mem ((c.tc : Thread Cert.MqProjRefIdeal.nD Cert.MqProjRefIdeal.τ).loc Cert.MqProjRefIdeal.main_arg1) = m' ((c.tc : Thread Cert.MqProjRefIdeal.nD Cert.MqProjRefIdeal.τ).loc Cert.MqProjRefIdeal.main_arg1))

def preserves_MoProj_MoProjIdeal : Prop :=
  True

def algebraic_MoProjIdeal_MoProjRefIdeal [hMoProjIdeal : Cert.MoProjIdeal.Facts] [hMoProjRefIdeal : Cert.MoProjRefIdeal.Facts] : Prop :=
  ∀ (m : (ℓ : Loc Cert.MoProjIdeal.nD Cert.MoProjIdeal.τ Cert.MoProjIdeal.sig) → Buf (Elt Ideal) ℓ) (g : Dev Cert.MoProjIdeal.nD → PrngReg)
    (m' : (ℓ : Loc Cert.MoProjRefIdeal.nD Cert.MoProjRefIdeal.τ Cert.MoProjRefIdeal.sig) → Buf (Elt Ideal) ℓ) (g' : Dev Cert.MoProjRefIdeal.nD → PrngReg), Pre_MoProjIdeal m →
    (∀ c : Dev Cert.MoProjIdeal.nD,
      m' ((c.tc : Thread Cert.MoProjRefIdeal.nD Cert.MoProjRefIdeal.τ).loc Cert.MoProjRefIdeal.main_arg0) = m ((c.tc : Thread Cert.MoProjIdeal.nD Cert.MoProjIdeal.τ).loc Cert.MoProjIdeal.main_arg0)
      ∧ m' ((c.tc : Thread Cert.MoProjRefIdeal.nD Cert.MoProjRefIdeal.τ).loc Cert.MoProjRefIdeal.main_arg1) = m ((c.tc : Thread Cert.MoProjIdeal.nD Cert.MoProjIdeal.τ).loc Cert.MoProjIdeal.main_arg1)
      ∧ m' ((c.tc : Thread Cert.MoProjRefIdeal.nD Cert.MoProjRefIdeal.τ).loc Cert.MoProjRefIdeal.main_arg2) = m ((c.tc : Thread Cert.MoProjIdeal.nD Cert.MoProjIdeal.τ).loc Cert.MoProjIdeal.main_arg2)) →
    ∃ (v0 : (c : Dev Cert.MoProjIdeal.nD) → Buf (Elt Ideal) ((c.tc : Thread Cert.MoProjIdeal.nD Cert.MoProjIdeal.τ).loc Cert.MoProjIdeal.main_v0)),
      θ_run (Cert.MoProjIdeal.defs (F := Ideal)) (onTc (τ := Cert.MoProjIdeal.τ) (Cert.MoProjIdeal.main (F := Ideal))) ⟨m, fun _ => 0, g⟩ (fun r => ∀ c : Dev Cert.MoProjIdeal.nD,
          r.2.mem ((c.tc : Thread Cert.MoProjIdeal.nD Cert.MoProjIdeal.τ).loc Cert.MoProjIdeal.main_v0) = v0 c
          ∧ r.2.mem ((c.tc : Thread Cert.MoProjIdeal.nD Cert.MoProjIdeal.τ).loc Cert.MoProjIdeal.main_arg0) = m ((c.tc : Thread Cert.MoProjIdeal.nD Cert.MoProjIdeal.τ).loc Cert.MoProjIdeal.main_arg0)
          ∧ r.2.mem ((c.tc : Thread Cert.MoProjIdeal.nD Cert.MoProjIdeal.τ).loc Cert.MoProjIdeal.main_arg1) = m ((c.tc : Thread Cert.MoProjIdeal.nD Cert.MoProjIdeal.τ).loc Cert.MoProjIdeal.main_arg1)
          ∧ r.2.mem ((c.tc : Thread Cert.MoProjIdeal.nD Cert.MoProjIdeal.τ).loc Cert.MoProjIdeal.main_arg2) = m ((c.tc : Thread Cert.MoProjIdeal.nD Cert.MoProjIdeal.τ).loc Cert.MoProjIdeal.main_arg2))
      ∧ θ_run (Cert.MoProjRefIdeal.defs (F := Ideal)) (onTc (τ := Cert.MoProjRefIdeal.τ) (Cert.MoProjRefIdeal.main (F := Ideal))) ⟨m', fun _ => 0, g'⟩ (fun r => ∀ c : Dev Cert.MoProjRefIdeal.nD,
          r.2.mem ((c.tc : Thread Cert.MoProjRefIdeal.nD Cert.MoProjRefIdeal.τ).loc Cert.MoProjRefIdeal.main_v3) = v0 c
          ∧ r.2.mem ((c.tc : Thread Cert.MoProjRefIdeal.nD Cert.MoProjRefIdeal.τ).loc Cert.MoProjRefIdeal.main_arg0) = m' ((c.tc : Thread Cert.MoProjRefIdeal.nD Cert.MoProjRefIdeal.τ).loc Cert.MoProjRefIdeal.main_arg0)
          ∧ r.2.mem ((c.tc : Thread Cert.MoProjRefIdeal.nD Cert.MoProjRefIdeal.τ).loc Cert.MoProjRefIdeal.main_arg1) = m' ((c.tc : Thread Cert.MoProjRefIdeal.nD Cert.MoProjRefIdeal.τ).loc Cert.MoProjRefIdeal.main_arg1)
          ∧ r.2.mem ((c.tc : Thread Cert.MoProjRefIdeal.nD Cert.MoProjRefIdeal.τ).loc Cert.MoProjRefIdeal.main_arg2) = m' ((c.tc : Thread Cert.MoProjRefIdeal.nD Cert.MoProjRefIdeal.τ).loc Cert.MoProjRefIdeal.main_arg2))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0_0)) (v1 : (c : Dev Cert.FfnUpIdeal.nD) → Buf (Elt Ideal) ((c.tc : Thread Cert.FfnUpIdeal.nD Cert.FfnUpIdeal.τ).loc Cert.FfnUpIdeal.main_v0_1)) (v2 : (c : Dev Cert.FfnUpIdeal.nD) → Buf (Elt Ideal) ((c.tc : Thread Cert.FfnUpIdeal.nD Cert.FfnUpIdeal.τ).loc Cert.FfnUpIdeal.main_v0_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0_0) = v0 c
          ∧ r.2.mem ((c.tc : Thread Cert.FfnUpIdeal.nD Cert.FfnUpIdeal.τ).loc Cert.FfnUpIdeal.main_v0_1) = v1 c
          ∧ r.2.mem ((c.tc : Thread Cert.FfnUpIdeal.nD Cert.FfnUpIdeal.τ).loc Cert.FfnUpIdeal.main_v0_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v5) = v0 c
          ∧ r.2.mem ((c.tc : Thread Cert.FfnUpRefIdeal.nD Cert.FfnUpRefIdeal.τ).loc Cert.FfnUpRefIdeal.main_v6) = v1 c
          ∧ r.2.mem ((c.tc : Thread Cert.FfnUpRefIdeal.nD Cert.FfnUpRefIdeal.τ).loc Cert.FfnUpRefIdeal.main_v9) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v3) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_XAttnBack_XAttnBackIdeal : Prop :=
  True

def algebraic_XAttnBackIdeal_XAttnBackRefIdeal_pre_xattn_finite [hXAttnBackIdeal : Cert.XAttnBackIdeal.Facts] [hXAttnBackRefIdeal : Cert.XAttnBackRefIdeal.Facts] [hPre_xattn_finite : Cert.Pre_xattn_finite.Facts] : Prop :=
  ∀ (m : (ℓ : Loc Cert.XAttnBackIdeal.nD Cert.XAttnBackIdeal.τ Cert.XAttnBackIdeal.sig) → Buf (Elt Ideal) ℓ) (g : Dev Cert.XAttnBackIdeal.nD → PrngReg)
    (m' : (ℓ : Loc Cert.XAttnBackRefIdeal.nD Cert.XAttnBackRefIdeal.τ Cert.XAttnBackRefIdeal.sig) → Buf (Elt Ideal) ℓ) (g' : Dev Cert.XAttnBackRefIdeal.nD → PrngReg), Pre_XAttnBackIdeal_xattn_finite m →
    (∀ c : Dev Cert.XAttnBackIdeal.nD,
      m' ((c.tc : Thread Cert.XAttnBackRefIdeal.nD Cert.XAttnBackRefIdeal.τ).loc Cert.XAttnBackRefIdeal.main_arg0) = m ((c.tc : Thread Cert.XAttnBackIdeal.nD Cert.XAttnBackIdeal.τ).loc Cert.XAttnBackIdeal.main_arg0)
      ∧ m' ((c.tc : Thread Cert.XAttnBackRefIdeal.nD Cert.XAttnBackRefIdeal.τ).loc Cert.XAttnBackRefIdeal.main_arg1) = m ((c.tc : Thread Cert.XAttnBackIdeal.nD Cert.XAttnBackIdeal.τ).loc Cert.XAttnBackIdeal.main_arg1)
      ∧ m' ((c.tc : Thread Cert.XAttnBackRefIdeal.nD Cert.XAttnBackRefIdeal.τ).loc Cert.XAttnBackRefIdeal.main_arg2) = m ((c.tc : Thread Cert.XAttnBackIdeal.nD Cert.XAttnBackIdeal.τ).loc Cert.XAttnBackIdeal.main_arg2)
      ∧ m' ((c.tc : Thread Cert.XAttnBackRefIdeal.nD Cert.XAttnBackRefIdeal.τ).loc Cert.XAttnBackRefIdeal.main_arg3) = m ((c.tc : Thread Cert.XAttnBackIdeal.nD Cert.XAttnBackIdeal.τ).loc Cert.XAttnBackIdeal.main_arg3)
      ∧ m' ((c.tc : Thread Cert.XAttnBackRefIdeal.nD Cert.XAttnBackRefIdeal.τ).loc Cert.XAttnBackRefIdeal.main_arg4) = m ((c.tc : Thread Cert.XAttnBackIdeal.nD Cert.XAttnBackIdeal.τ).loc Cert.XAttnBackIdeal.main_arg4)) →
    ∃ (v0 : (c : Dev Cert.XAttnBackIdeal.nD) → Buf (Elt Ideal) ((c.tc : Thread Cert.XAttnBackIdeal.nD Cert.XAttnBackIdeal.τ).loc Cert.XAttnBackIdeal.main_v0_0)) (v1 : (c : Dev Cert.XAttnBackIdeal.nD) → Buf (Elt Ideal) ((c.tc : Thread Cert.XAttnBackIdeal.nD Cert.XAttnBackIdeal.τ).loc Cert.XAttnBackIdeal.main_v0_1)) (v2 : (c : Dev Cert.XAttnBackIdeal.nD) → Buf (Elt Ideal) ((c.tc : Thread Cert.XAttnBackIdeal.nD Cert.XAttnBackIdeal.τ).loc Cert.XAttnBackIdeal.main_v0_2)) (v3 : (c : Dev Cert.XAttnBackIdeal.nD) → Buf (Elt Ideal) ((c.tc : Thread Cert.XAttnBackIdeal.nD Cert.XAttnBackIdeal.τ).loc Cert.XAttnBackIdeal.main_v0_3)),
      θ_run (Cert.XAttnBackIdeal.defs (F := Ideal)) (onTc (τ := Cert.XAttnBackIdeal.τ) (Cert.XAttnBackIdeal.main (F := Ideal))) ⟨m, fun _ => 0, g⟩ (fun r => ∀ c : Dev Cert.XAttnBackIdeal.nD,
          r.2.mem ((c.tc : Thread Cert.XAttnBackIdeal.nD Cert.XAttnBackIdeal.τ).loc Cert.XAttnBackIdeal.main_v0_0) = v0 c
          ∧ r.2.mem ((c.tc : Thread Cert.XAttnBackIdeal.nD Cert.XAttnBackIdeal.τ).loc Cert.XAttnBackIdeal.main_v0_1) = v1 c
          ∧ r.2.mem ((c.tc : Thread Cert.XAttnBackIdeal.nD Cert.XAttnBackIdeal.τ).loc Cert.XAttnBackIdeal.main_v0_2) = v2 c
          ∧ r.2.mem ((c.tc : Thread Cert.XAttnBackIdeal.nD Cert.XAttnBackIdeal.τ).loc Cert.XAttnBackIdeal.main_v0_3) = v3 c
          ∧ r.2.mem ((c.tc : Thread Cert.XAttnBackIdeal.nD Cert.XAttnBackIdeal.τ).loc Cert.XAttnBackIdeal.main_arg0) = m ((c.tc : Thread Cert.XAttnBackIdeal.nD Cert.XAttnBackIdeal.τ).loc Cert.XAttnBackIdeal.main_arg0)
          ∧ r.2.mem ((c.tc : Thread Cert.XAttnBackIdeal.nD Cert.XAttnBackIdeal.τ).loc Cert.XAttnBackIdeal.main_arg1) = m ((c.tc : Thread Cert.XAttnBackIdeal.nD Cert.XAttnBackIdeal.τ).loc Cert.XAttnBackIdeal.main_arg1)
          ∧ r.2.mem ((c.tc : Thread Cert.XAttnBackIdeal.nD Cert.XAttnBackIdeal.τ).loc Cert.XAttnBackIdeal.main_arg2) = m ((c.tc : Thread Cert.XAttnBackIdeal.nD Cert.XAttnBackIdeal.τ).loc Cert.XAttnBackIdeal.main_arg2)
          ∧ r.2.mem ((c.tc : Thread Cert.XAttnBackIdeal.nD Cert.XAttnBackIdeal.τ).loc Cert.XAttnBackIdeal.main_arg3) = m ((c.tc : Thread Cert.XAttnBackIdeal.nD Cert.XAttnBackIdeal.τ).loc Cert.XAttnBackIdeal.main_arg3)
          ∧ r.2.mem ((c.tc : Thread Cert.XAttnBackIdeal.nD Cert.XAttnBackIdeal.τ).loc Cert.XAttnBackIdeal.main_arg4) = m ((c.tc : Thread Cert.XAttnBackIdeal.nD Cert.XAttnBackIdeal.τ).loc Cert.XAttnBackIdeal.main_arg4))
      ∧ θ_run (Cert.XAttnBackRefIdeal.defs (F := Ideal)) (onTc (τ := Cert.XAttnBackRefIdeal.τ) (Cert.XAttnBackRefIdeal.main (F := Ideal))) ⟨m', fun _ => 0, g'⟩ (fun r => ∀ c : Dev Cert.XAttnBackRefIdeal.nD,
          r.2.mem ((c.tc : Thread Cert.XAttnBackRefIdeal.nD Cert.XAttnBackRefIdeal.τ).loc Cert.XAttnBackRefIdeal.main_v104) = v0 c
          ∧ r.2.mem ((c.tc : Thread Cert.XAttnBackRefIdeal.nD Cert.XAttnBackRefIdeal.τ).loc Cert.XAttnBackRefIdeal.main_v81) = v1 c
          ∧ r.2.mem ((c.tc : Thread Cert.XAttnBackRefIdeal.nD Cert.XAttnBackRefIdeal.τ).loc Cert.XAttnBackRefIdeal.main_v80) = v2 c
          ∧ r.2.mem ((c.tc : Thread Cert.XAttnBackRefIdeal.nD Cert.XAttnBackRefIdeal.τ).loc Cert.XAttnBackRefIdeal.main_v88) = v3 c
          ∧ r.2.mem ((c.tc : Thread Cert.XAttnBackRefIdeal.nD Cert.XAttnBackRefIdeal.τ).loc Cert.XAttnBackRefIdeal.main_arg0) = m' ((c.tc : Thread Cert.XAttnBackRefIdeal.nD Cert.XAttnBackRefIdeal.τ).loc Cert.XAttnBackRefIdeal.main_arg0)
          ∧ r.2.mem ((c.tc : Thread Cert.XAttnBackRefIdeal.nD Cert.XAttnBackRefIdeal.τ).loc Cert.XAttnBackRefIdeal.main_arg1) = m' ((c.tc : Thread Cert.XAttnBackRefIdeal.nD Cert.XAttnBackRefIdeal.τ).loc Cert.XAttnBackRefIdeal.main_arg1)
          ∧ r.2.mem ((c.tc : Thread Cert.XAttnBackRefIdeal.nD Cert.XAttnBackRefIdeal.τ).loc Cert.XAttnBackRefIdeal.main_arg2) = m' ((c.tc : Thread Cert.XAttnBackRefIdeal.nD Cert.XAttnBackRefIdeal.τ).loc Cert.XAttnBackRefIdeal.main_arg2)
          ∧ r.2.mem ((c.tc : Thread Cert.XAttnBackRefIdeal.nD Cert.XAttnBackRefIdeal.τ).loc Cert.XAttnBackRefIdeal.main_arg3) = m' ((c.tc : Thread Cert.XAttnBackRefIdeal.nD Cert.XAttnBackRefIdeal.τ).loc Cert.XAttnBackRefIdeal.main_arg3)
          ∧ r.2.mem ((c.tc : Thread Cert.XAttnBackRefIdeal.nD Cert.XAttnBackRefIdeal.τ).loc Cert.XAttnBackRefIdeal.main_arg4) = m' ((c.tc : Thread Cert.XAttnBackRefIdeal.nD Cert.XAttnBackRefIdeal.τ).loc Cert.XAttnBackRefIdeal.main_arg4))

def preserves_XAttnFwd_XAttnFwdIdeal : Prop :=
  True

def algebraic_XAttnFwdIdeal_XAttnFwdRefIdeal [hXAttnFwdIdeal : Cert.XAttnFwdIdeal.Facts] [hXAttnFwdRefIdeal : Cert.XAttnFwdRefIdeal.Facts] : Prop :=
  ∀ (m : (ℓ : Loc Cert.XAttnFwdIdeal.nD Cert.XAttnFwdIdeal.τ Cert.XAttnFwdIdeal.sig) → Buf (Elt Ideal) ℓ) (g : Dev Cert.XAttnFwdIdeal.nD → PrngReg)
    (m' : (ℓ : Loc Cert.XAttnFwdRefIdeal.nD Cert.XAttnFwdRefIdeal.τ Cert.XAttnFwdRefIdeal.sig) → Buf (Elt Ideal) ℓ) (g' : Dev Cert.XAttnFwdRefIdeal.nD → PrngReg), Pre_XAttnFwdIdeal m →
    (∀ c : Dev Cert.XAttnFwdIdeal.nD,
      m' ((c.tc : Thread Cert.XAttnFwdRefIdeal.nD Cert.XAttnFwdRefIdeal.τ).loc Cert.XAttnFwdRefIdeal.main_arg0) = m ((c.tc : Thread Cert.XAttnFwdIdeal.nD Cert.XAttnFwdIdeal.τ).loc Cert.XAttnFwdIdeal.main_arg0)
      ∧ m' ((c.tc : Thread Cert.XAttnFwdRefIdeal.nD Cert.XAttnFwdRefIdeal.τ).loc Cert.XAttnFwdRefIdeal.main_arg1) = m ((c.tc : Thread Cert.XAttnFwdIdeal.nD Cert.XAttnFwdIdeal.τ).loc Cert.XAttnFwdIdeal.main_arg1)
      ∧ m' ((c.tc : Thread Cert.XAttnFwdRefIdeal.nD Cert.XAttnFwdRefIdeal.τ).loc Cert.XAttnFwdRefIdeal.main_arg2) = m ((c.tc : Thread Cert.XAttnFwdIdeal.nD Cert.XAttnFwdIdeal.τ).loc Cert.XAttnFwdIdeal.main_arg2)
      ∧ m' ((c.tc : Thread Cert.XAttnFwdRefIdeal.nD Cert.XAttnFwdRefIdeal.τ).loc Cert.XAttnFwdRefIdeal.main_arg3) = m ((c.tc : Thread Cert.XAttnFwdIdeal.nD Cert.XAttnFwdIdeal.τ).loc Cert.XAttnFwdIdeal.main_arg3)) →
    ∃ (v0 : (c : Dev Cert.XAttnFwdIdeal.nD) → Buf (Elt Ideal) ((c.tc : Thread Cert.XAttnFwdIdeal.nD Cert.XAttnFwdIdeal.τ).loc Cert.XAttnFwdIdeal.main_v0)),
      θ_run (Cert.XAttnFwdIdeal.defs (F := Ideal)) (onTc (τ := Cert.XAttnFwdIdeal.τ) (Cert.XAttnFwdIdeal.main (F := Ideal))) ⟨m, fun _ => 0, g⟩ (fun r => ∀ c : Dev Cert.XAttnFwdIdeal.nD,
          r.2.mem ((c.tc : Thread Cert.XAttnFwdIdeal.nD Cert.XAttnFwdIdeal.τ).loc Cert.XAttnFwdIdeal.main_v0) = v0 c
          ∧ r.2.mem ((c.tc : Thread Cert.XAttnFwdIdeal.nD Cert.XAttnFwdIdeal.τ).loc Cert.XAttnFwdIdeal.main_arg0) = m ((c.tc : Thread Cert.XAttnFwdIdeal.nD Cert.XAttnFwdIdeal.τ).loc Cert.XAttnFwdIdeal.main_arg0)
          ∧ r.2.mem ((c.tc : Thread Cert.XAttnFwdIdeal.nD Cert.XAttnFwdIdeal.τ).loc Cert.XAttnFwdIdeal.main_arg1) = m ((c.tc : Thread Cert.XAttnFwdIdeal.nD Cert.XAttnFwdIdeal.τ).loc Cert.XAttnFwdIdeal.main_arg1)
          ∧ r.2.mem ((c.tc : Thread Cert.XAttnFwdIdeal.nD Cert.XAttnFwdIdeal.τ).loc Cert.XAttnFwdIdeal.main_arg2) = m ((c.tc : Thread Cert.XAttnFwdIdeal.nD Cert.XAttnFwdIdeal.τ).loc Cert.XAttnFwdIdeal.main_arg2)
          ∧ r.2.mem ((c.tc : Thread Cert.XAttnFwdIdeal.nD Cert.XAttnFwdIdeal.τ).loc Cert.XAttnFwdIdeal.main_arg3) = m ((c.tc : Thread Cert.XAttnFwdIdeal.nD Cert.XAttnFwdIdeal.τ).loc Cert.XAttnFwdIdeal.main_arg3))
      ∧ θ_run (Cert.XAttnFwdRefIdeal.defs (F := Ideal)) (onTc (τ := Cert.XAttnFwdRefIdeal.τ) (Cert.XAttnFwdRefIdeal.main (F := Ideal))) ⟨m', fun _ => 0, g'⟩ (fun r => ∀ c : Dev Cert.XAttnFwdRefIdeal.nD,
          r.2.mem ((c.tc : Thread Cert.XAttnFwdRefIdeal.nD Cert.XAttnFwdRefIdeal.τ).loc Cert.XAttnFwdRefIdeal.main_v36) = v0 c
          ∧ r.2.mem ((c.tc : Thread Cert.XAttnFwdRefIdeal.nD Cert.XAttnFwdRefIdeal.τ).loc Cert.XAttnFwdRefIdeal.main_arg0) = m' ((c.tc : Thread Cert.XAttnFwdRefIdeal.nD Cert.XAttnFwdRefIdeal.τ).loc Cert.XAttnFwdRefIdeal.main_arg0)
          ∧ r.2.mem ((c.tc : Thread Cert.XAttnFwdRefIdeal.nD Cert.XAttnFwdRefIdeal.τ).loc Cert.XAttnFwdRefIdeal.main_arg1) = m' ((c.tc : Thread Cert.XAttnFwdRefIdeal.nD Cert.XAttnFwdRefIdeal.τ).loc Cert.XAttnFwdRefIdeal.main_arg1)
          ∧ r.2.mem ((c.tc : Thread Cert.XAttnFwdRefIdeal.nD Cert.XAttnFwdRefIdeal.τ).loc Cert.XAttnFwdRefIdeal.main_arg2) = m' ((c.tc : Thread Cert.XAttnFwdRefIdeal.nD Cert.XAttnFwdRefIdeal.τ).loc Cert.XAttnFwdRefIdeal.main_arg2)
          ∧ r.2.mem ((c.tc : Thread Cert.XAttnFwdRefIdeal.nD Cert.XAttnFwdRefIdeal.τ).loc Cert.XAttnFwdRefIdeal.main_arg3) = m' ((c.tc : Thread Cert.XAttnFwdRefIdeal.nD Cert.XAttnFwdRefIdeal.τ).loc Cert.XAttnFwdRefIdeal.main_arg3))

def Claim : Prop :=
  ∃ (hKernel : Cert.Kernel.Facts) (hKernelIdeal : Cert.KernelIdeal.Facts) (hReferenceIdeal : Cert.ReferenceIdeal.Facts) (hDownGrad : Cert.DownGrad.Facts) (hDownGradIdeal : Cert.DownGradIdeal.Facts) (hDownGradRefIdeal : Cert.DownGradRefIdeal.Facts) (hUpBack : Cert.UpBack.Facts) (hUpBackIdeal : Cert.UpBackIdeal.Facts) (hUpBackRefIdeal : Cert.UpBackRefIdeal.Facts) (hUpGrad : Cert.UpGrad.Facts) (hUpGradIdeal : Cert.UpGradIdeal.Facts) (hUpGradRefIdeal : Cert.UpGradRefIdeal.Facts) (hActBack : Cert.ActBack.Facts) (hActBackIdeal : Cert.ActBackIdeal.Facts) (hActBackRefIdeal : Cert.ActBackRefIdeal.Facts) (hMoBack : Cert.MoBack.Facts) (hMoBackIdeal : Cert.MoBackIdeal.Facts) (hMoBackRefIdeal : Cert.MoBackRefIdeal.Facts) (hMoGrad : Cert.MoGrad.Facts) (hMoGradIdeal : Cert.MoGradIdeal.Facts) (hMoGradRefIdeal : Cert.MoGradRefIdeal.Facts) (hMqBack : Cert.MqBack.Facts) (hMqBackIdeal : Cert.MqBackIdeal.Facts) (hMqBackRefIdeal : Cert.MqBackRefIdeal.Facts) (hMqGrad : Cert.MqGrad.Facts) (hMqGradIdeal : Cert.MqGradIdeal.Facts) (hMqGradRefIdeal : Cert.MqGradRefIdeal.Facts) (hOutBack : Cert.OutBack.Facts) (hOutBackIdeal : Cert.OutBackIdeal.Facts) (hOutBackRefIdeal : Cert.OutBackRefIdeal.Facts) (hOutGrad : Cert.OutGrad.Facts) (hOutGradIdeal : Cert.OutGradIdeal.Facts) (hOutGradRefIdeal : Cert.OutGradRefIdeal.Facts) (hInGrad : Cert.InGrad.Facts) (hInGradIdeal : Cert.InGradIdeal.Facts) (hInGradRefIdeal : Cert.InGradRefIdeal.Facts) (hInBack : Cert.InBack.Facts) (hInBackIdeal : Cert.InBackIdeal.Facts) (hInBackRefIdeal : Cert.InBackRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hMqProj : Cert.MqProj.Facts) (hMqProjIdeal : Cert.MqProjIdeal.Facts) (hMqProjRefIdeal : Cert.MqProjRefIdeal.Facts) (hMoProj : Cert.MoProj.Facts) (hMoProjIdeal : Cert.MoProjIdeal.Facts) (hMoProjRefIdeal : Cert.MoProjRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hXAttnBack : Cert.XAttnBack.Facts) (hXAttnBackIdeal : Cert.XAttnBackIdeal.Facts) (hXAttnBackRefIdeal : Cert.XAttnBackRefIdeal.Facts) (hXAttnFwd : Cert.XAttnFwd.Facts) (hXAttnFwdIdeal : Cert.XAttnFwdIdeal.Facts) (hXAttnFwdRefIdeal : Cert.XAttnFwdRefIdeal.Facts) (hPre_finite : Cert.Pre_finite.Facts) (hPre_act_finite : Cert.Pre_act_finite.Facts) (hPre_xattn_finite : Cert.Pre_xattn_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownGrad (hDownGrad := hDownGrad)
    ∧ quiescent_DownGradIdeal (hDownGradIdeal := hDownGradIdeal)
    ∧ quiescent_DownGradRefIdeal (hDownGradRefIdeal := hDownGradRefIdeal)
    ∧ quiescent_UpBack (hUpBack := hUpBack)
    ∧ quiescent_UpBackIdeal (hUpBackIdeal := hUpBackIdeal)
    ∧ quiescent_UpBackRefIdeal (hUpBackRefIdeal := hUpBackRefIdeal)
    ∧ quiescent_UpGrad (hUpGrad := hUpGrad)
    ∧ quiescent_UpGradIdeal (hUpGradIdeal := hUpGradIdeal)
    ∧ quiescent_UpGradRefIdeal (hUpGradRefIdeal := hUpGradRefIdeal)
    ∧ quiescent_ActBack (hActBack := hActBack)
    ∧ quiescent_ActBackIdeal (hActBackIdeal := hActBackIdeal)
    ∧ quiescent_ActBackIdeal_pre_act_finite (hActBackIdeal := hActBackIdeal) (hPre_act_finite := hPre_act_finite)
    ∧ quiescent_ActBackRefIdeal (hActBackRefIdeal := hActBackRefIdeal)
    ∧ quiescent_ActBackRefIdeal_pre_act_finite (hActBackRefIdeal := hActBackRefIdeal) (hPre_act_finite := hPre_act_finite)
    ∧ quiescent_MoBack (hMoBack := hMoBack)
    ∧ quiescent_MoBackIdeal (hMoBackIdeal := hMoBackIdeal)
    ∧ quiescent_MoBackRefIdeal (hMoBackRefIdeal := hMoBackRefIdeal)
    ∧ quiescent_MoGrad (hMoGrad := hMoGrad)
    ∧ quiescent_MoGradIdeal (hMoGradIdeal := hMoGradIdeal)
    ∧ quiescent_MoGradRefIdeal (hMoGradRefIdeal := hMoGradRefIdeal)
    ∧ quiescent_MqBack (hMqBack := hMqBack)
    ∧ quiescent_MqBackIdeal (hMqBackIdeal := hMqBackIdeal)
    ∧ quiescent_MqBackRefIdeal (hMqBackRefIdeal := hMqBackRefIdeal)
    ∧ quiescent_MqGrad (hMqGrad := hMqGrad)
    ∧ quiescent_MqGradIdeal (hMqGradIdeal := hMqGradIdeal)
    ∧ quiescent_MqGradRefIdeal (hMqGradRefIdeal := hMqGradRefIdeal)
    ∧ quiescent_OutBack (hOutBack := hOutBack)
    ∧ quiescent_OutBackIdeal (hOutBackIdeal := hOutBackIdeal)
    ∧ quiescent_OutBackRefIdeal (hOutBackRefIdeal := hOutBackRefIdeal)
    ∧ quiescent_OutGrad (hOutGrad := hOutGrad)
    ∧ quiescent_OutGradIdeal (hOutGradIdeal := hOutGradIdeal)
    ∧ quiescent_OutGradRefIdeal (hOutGradRefIdeal := hOutGradRefIdeal)
    ∧ quiescent_InGrad (hInGrad := hInGrad)
    ∧ quiescent_InGradIdeal (hInGradIdeal := hInGradIdeal)
    ∧ quiescent_InGradRefIdeal (hInGradRefIdeal := hInGradRefIdeal)
    ∧ quiescent_InBack (hInBack := hInBack)
    ∧ quiescent_InBackIdeal (hInBackIdeal := hInBackIdeal)
    ∧ quiescent_InBackRefIdeal (hInBackRefIdeal := hInBackRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_MqProj (hMqProj := hMqProj)
    ∧ quiescent_MqProjIdeal (hMqProjIdeal := hMqProjIdeal)
    ∧ quiescent_MqProjRefIdeal (hMqProjRefIdeal := hMqProjRefIdeal)
    ∧ quiescent_MoProj (hMoProj := hMoProj)
    ∧ quiescent_MoProjIdeal (hMoProjIdeal := hMoProjIdeal)
    ∧ quiescent_MoProjRefIdeal (hMoProjRefIdeal := hMoProjRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_XAttnBack (hXAttnBack := hXAttnBack)
    ∧ quiescent_XAttnBackIdeal (hXAttnBackIdeal := hXAttnBackIdeal)
    ∧ quiescent_XAttnBackIdeal_pre_xattn_finite (hXAttnBackIdeal := hXAttnBackIdeal) (hPre_xattn_finite := hPre_xattn_finite)
    ∧ quiescent_XAttnBackRefIdeal (hXAttnBackRefIdeal := hXAttnBackRefIdeal)
    ∧ quiescent_XAttnBackRefIdeal_pre_xattn_finite (hXAttnBackRefIdeal := hXAttnBackRefIdeal) (hPre_xattn_finite := hPre_xattn_finite)
    ∧ quiescent_XAttnFwd (hXAttnFwd := hXAttnFwd)
    ∧ quiescent_XAttnFwdIdeal (hXAttnFwdIdeal := hXAttnFwdIdeal)
    ∧ quiescent_XAttnFwdRefIdeal (hXAttnFwdRefIdeal := hXAttnFwdRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DownGrad_DownGradIdeal
    ∧ algebraic_DownGradIdeal_DownGradRefIdeal (hDownGradIdeal := hDownGradIdeal) (hDownGradRefIdeal := hDownGradRefIdeal)
    ∧ preserves_UpBack_UpBackIdeal
    ∧ algebraic_UpBackIdeal_UpBackRefIdeal (hUpBackIdeal := hUpBackIdeal) (hUpBackRefIdeal := hUpBackRefIdeal)
    ∧ preserves_UpGrad_UpGradIdeal
    ∧ algebraic_UpGradIdeal_UpGradRefIdeal (hUpGradIdeal := hUpGradIdeal) (hUpGradRefIdeal := hUpGradRefIdeal)
    ∧ preserves_ActBack_ActBackIdeal
    ∧ algebraic_ActBackIdeal_ActBackRefIdeal_pre_act_finite (hActBackIdeal := hActBackIdeal) (hActBackRefIdeal := hActBackRefIdeal) (hPre_act_finite := hPre_act_finite)
    ∧ preserves_MoBack_MoBackIdeal
    ∧ algebraic_MoBackIdeal_MoBackRefIdeal (hMoBackIdeal := hMoBackIdeal) (hMoBackRefIdeal := hMoBackRefIdeal)
    ∧ preserves_MoGrad_MoGradIdeal
    ∧ algebraic_MoGradIdeal_MoGradRefIdeal (hMoGradIdeal := hMoGradIdeal) (hMoGradRefIdeal := hMoGradRefIdeal)
    ∧ preserves_MqBack_MqBackIdeal
    ∧ algebraic_MqBackIdeal_MqBackRefIdeal (hMqBackIdeal := hMqBackIdeal) (hMqBackRefIdeal := hMqBackRefIdeal)
    ∧ preserves_MqGrad_MqGradIdeal
    ∧ algebraic_MqGradIdeal_MqGradRefIdeal (hMqGradIdeal := hMqGradIdeal) (hMqGradRefIdeal := hMqGradRefIdeal)
    ∧ preserves_OutBack_OutBackIdeal
    ∧ algebraic_OutBackIdeal_OutBackRefIdeal (hOutBackIdeal := hOutBackIdeal) (hOutBackRefIdeal := hOutBackRefIdeal)
    ∧ preserves_OutGrad_OutGradIdeal
    ∧ algebraic_OutGradIdeal_OutGradRefIdeal (hOutGradIdeal := hOutGradIdeal) (hOutGradRefIdeal := hOutGradRefIdeal)
    ∧ preserves_InGrad_InGradIdeal
    ∧ algebraic_InGradIdeal_InGradRefIdeal (hInGradIdeal := hInGradIdeal) (hInGradRefIdeal := hInGradRefIdeal)
    ∧ preserves_InBack_InBackIdeal
    ∧ algebraic_InBackIdeal_InBackRefIdeal (hInBackIdeal := hInBackIdeal) (hInBackRefIdeal := hInBackRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_MqProj_MqProjIdeal
    ∧ algebraic_MqProjIdeal_MqProjRefIdeal (hMqProjIdeal := hMqProjIdeal) (hMqProjRefIdeal := hMqProjRefIdeal)
    ∧ preserves_MoProj_MoProjIdeal
    ∧ algebraic_MoProjIdeal_MoProjRefIdeal (hMoProjIdeal := hMoProjIdeal) (hMoProjRefIdeal := hMoProjRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_XAttnBack_XAttnBackIdeal
    ∧ algebraic_XAttnBackIdeal_XAttnBackRefIdeal_pre_xattn_finite (hXAttnBackIdeal := hXAttnBackIdeal) (hXAttnBackRefIdeal := hXAttnBackRefIdeal) (hPre_xattn_finite := hPre_xattn_finite)
    ∧ preserves_XAttnFwd_XAttnFwdIdeal
    ∧ algebraic_XAttnFwdIdeal_XAttnFwdRefIdeal (hXAttnFwdIdeal := hXAttnFwdIdeal) (hXAttnFwdRefIdeal := hXAttnFwdRefIdeal)
-- ==== Pre_act_finite.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  bitsLt_bf16_f32 : FTy.bits .bf16 < FTy.bits .f32
  bcast_S_S2816x1024 : S_.BroadcastsInDim S2816x1024 (![] : Fin 0 → Fin S2816x1024.rank)
  bcast_S_S8192x2816 : S_.BroadcastsInDim S8192x2816 (![] : Fin 0 → Fin S8192x2816.rank)

variable [Facts]

def fn {F : FTy → Type} [FloatOps F] (main_arg0 : FVec F S8192x1024 .f32) (main_arg1 : FVec F S2816x1024 .bf16) (main_arg2 : FVec F S8192x2816 .bf16) (main_arg3 : FVec F S8192x2816 .bf16) : IVec S8192x1024 1 × IVec S2816x1024 1 × IVec S8192x2816 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S2816x1024 .f32 := (extf .f32 · bitsLt_bf16_f32) main_arg1
  let main_v4 : FVec F S2816x1024 .f32 := Host.absf main_v3
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_v7 : FVec F S8192x2816 .f32 := (extf .f32 · bitsLt_bf16_f32) main_arg3
  let main_v8 : FVec F S8192x2816 .f32 := Host.absf main_v7
  let main_cst_1 : FVec F S_ .f32 := constant S_ .f32 0x7F800000#32
  let main_v9 : FVec F S8192x2816 .f32 := broadcastInDim S8192x2816 ![] bcast_S_S8192x2816 main_cst_1
  let main_v10 : IVec S8192x2816 1 := cmpf .olt main_v8 main_v9
  (main_v2, main_v6, main_v10)
-- ==== Pre_finite.lean ====
abbrev S8192x3200 : Shape := ⟨2, ![8192, 3200]⟩
abbrev S8192x256 : Shape := ⟨2, ![8192, 256]⟩
abbrev S8192x512 : Shape := ⟨2, ![8192, 512]⟩
abbrev S8192x1024 : Shape := ⟨2, ![8192, 1024]⟩
abbrev S_ : Shape := ⟨0, ![]⟩

class Facts : Prop where
  slices_S8192x3200_S8192x1024_0_0 : S8192x3200.Slices ![0, 0] S8192x1024
  bcast_S_S8192x1024 : S_.BroadcastsInDim S8192x1024 (![] : Fin 0 → Fin S8192x1024.rank)
  bcast_S_S8192x256 : S_.BroadcastsInDim S8192x256 (![] : Fin 0 → Fin S8192x256.rank)
  bcast_S_S8192x512 : S_.BroadcastsInDim S8192x512 (![] : Fin 0 → Fin S8192x512.rank)

variable [Facts]

def fn {F : FTy → Type} [FloatOps F] (main_arg0 : FVec F S8192x3200 .f32) (main_arg1 : FVec F S8192x256 .f32) (main_arg2 : FVec F S8192x512 .f32) : IVec S8192x1024 1 × IVec S8192x256 1 × IVec S8192x512 1 :=
  let main_v0 : FVec F S8192x1024 .f32 := (extractStridedSlice S8192x1024 ![0, 0] · slices_S8192x3200_S8192x1024_0_0) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_v7 : FVec F S8192x512 .f32 := Host.absf main_arg2
  let main_cst_1 : FVec F S_ .f32 := constant S_ .f32 0x7F800000#32
  let main_v8 : FVec F S8192x512 .f32 := broadcastInDim S8192x512 ![] bcast_S_S8192x512 main_cst_1
  let main_v9 : IVec S8192x512 1 := cmpf .olt main_v7 main_v8
  (main_v3, main_v6, main_v9)
-- ==== Pre_xattn_finite.lean ====
abbrev S8192x1024 : Shape := ⟨2, ![8192, 1024]⟩
abbrev S256x1024 : Shape := ⟨2, ![256, 1024]⟩
abbrev S1x256 : Shape := ⟨2, ![1, 256]⟩
abbrev S_ : Shape := ⟨0, ![]⟩

class Facts : Prop where
  bitsLt_bf16_f32 : FTy.bits .bf16 < FTy.bits .f32
  bcast_S_S256x1024 : S_.BroadcastsInDim S256x1024 (![] : Fin 0 → Fin S256x1024.rank)
  bcast_S_S1x256 : S_.BroadcastsInDim S1x256 (![] : Fin 0 → Fin S1x256.rank)

variable [Facts]

def fn {F : FTy → Type} [FloatOps F] (main_arg0 : FVec F S8192x1024 .f32) (main_arg1 : FVec F S8192x1024 .bf16) (main_arg2 : FVec F S256x1024 .bf16) (main_arg3 : FVec F S256x1024 .bf16) (main_arg4 : FVec F S1x256 .f32) : IVec S256x1024 1 × IVec S1x256 1 :=
  let main_v0 : FVec F S256x1024 .f32 := (extf .f32 · bitsLt_bf16_f32) main_arg2
  let main_v1 : FVec F S256x1024 .f32 := Host.absf main_v0
  let main_cst : FVec F S_ .f32 := constant S_ .f32 0x7F800000#32
  let main_v2 : FVec F S256x1024 .f32 := broadcastInDim S256x1024 ![] bcast_S_S256x1024 main_cst
  let main_v3 : IVec S256x1024 1 := cmpf .olt main_v1 main_v2
  let main_v4 : FVec F S1x256 .f32 := Host.absf main_arg4
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  (main_v3, main_v6)
-- ==== Kernel.lean ====
abbrev S8192x3200 : Shape := ⟨2, ![8192, 3200]⟩
abbrev S8192x256 : Shape := ⟨2, ![8192, 256]⟩
abbrev S8192x512 : Shape := ⟨2, ![8192, 512]⟩
abbrev S8192x4x64 : Shape := ⟨3, ![8192, 4, 64]⟩
abbrev S8192x4x128 : Shape := ⟨3, ![8192, 4, 128]⟩
abbrev S_ : Shape := ⟨0, ![]⟩
abbrev S1x4x64 : Shape := ⟨3, ![1, 4, 64]⟩
abbrev S127x4x64 : Shape := ⟨3, ![127, 4, 64]⟩
abbrev S128x4x64 : Shape := ⟨3, ![128, 4, 64]⟩
abbrev S128x8192 : Shape := ⟨2, ![128, 8192]⟩
abbrev S128x8192x1x1 : Shape := ⟨4, ![128, 8192, 1, 1]⟩
abbrev S128x1x4x64 : Shape := ⟨4, ![128, 1, 4, 64]⟩
abbrev S1x8192x4x64 : Shape := ⟨4, ![1, 8192, 4, 64]⟩
abbrev S128x8192x4x64 : Shape := ⟨4, ![128, 8192, 4, 64]⟩
abbrev S4x128x128x64 : Shape := ⟨4, ![4, 128, 128, 64]⟩
abbrev S128x4x64x128 : Shape := ⟨4, ![128, 4, 64, 128]⟩
abbrev S256x256 : Shape := ⟨2, ![256, 256]⟩
abbrev S256x512 : Shape := ⟨2, ![256, 512]⟩
abbrev S4x4x64x128 : Shape := ⟨4, ![4, 4, 64, 128]⟩
abbrev S4x64x128 : Shape := ⟨3, ![4, 64, 128]⟩
abbrev S64x128 : Shape := ⟨2, ![64, 128]⟩
abbrev S8x128 : Shape := ⟨2, ![8, 128]⟩
abbrev S64x64 : Shape := ⟨2, ![64, 64]⟩
abbrev S1x64x128 : Shape := ⟨3, ![1, 64, 128]⟩
abbrev S64x256 : Shape := ⟨2, ![64, 256]⟩
abbrev S1x1x64x128 : Shape := ⟨4, ![1, 1, 64, 128]⟩
abbrev S1x64 : Shape := ⟨2, ![1, 64]⟩
abbrev S64 : Shape := ⟨1, ![64]⟩
abbrev S8x64 : Shape := ⟨2, ![8, 64]⟩

abbrev nBuf : Space → Nat
  | .hbm => 47
  | .vmem => 21
  | .smem => 0
  | _ => 0

abbrev bufTy : (tb : Table) → Fin (tcTables nBuf tb) → BufTy
  | .hbm, ⟨0, _⟩ => ⟨S8192x3200, .f32⟩
  | .hbm, ⟨1, _⟩ => ⟨S8192x256, .f32⟩
  | .hbm, ⟨2, _⟩ => ⟨S8192x512, .f32⟩
  | .hbm, ⟨3, _⟩ => ⟨S8192x256, .f32⟩
  | .hbm, ⟨4, _⟩ => ⟨S8192x4x64, .f32⟩
  | .hbm, ⟨5, _⟩ => ⟨S8192x512, .f32⟩
  | .hbm, ⟨6, _⟩ => ⟨S8192x4x128, .f32⟩
  | .hbm, ⟨7, _⟩ => ⟨S8192x4x64, .f32⟩
  | .hbm, ⟨8, _⟩ => ⟨S_, .f32⟩
  | .hbm, ⟨9, _⟩ => ⟨S_, .f32⟩
  | .hbm, ⟨10, _⟩ => ⟨S8192x4x64, .f32⟩
  | .hbm, ⟨11, _⟩ => ⟨S_, .f32⟩
  | .hbm, ⟨12, _⟩ => ⟨S1x4x64, .f32⟩
  | .hbm, ⟨13, _⟩ => ⟨S127x4x64, .f32⟩
  | .hbm, ⟨14, _⟩ => ⟨S128x4x64, .f32⟩
  | .hbm, ⟨15, _⟩ => ⟨S128x8192, .i32⟩
  | .hbm, ⟨16, _⟩ => ⟨S128x8192, .i32⟩
  | .hbm, ⟨17, _⟩ => ⟨S_, .i32⟩
  | .hbm, ⟨18, _⟩ => ⟨S128x8192, .i32⟩
  | .hbm, ⟨19, _⟩ => ⟨S128x8192, .i32⟩
  | .hbm, ⟨20, _⟩ => ⟨S128x8192, .i1⟩
  | .hbm, ⟨21, _⟩ => ⟨S128x8192x1x1, .i1⟩
  | .hbm, ⟨22, _⟩ => ⟨S128x1x4x64, .f32⟩
  | .hbm, ⟨23, _⟩ => ⟨S1x8192x4x64, .f32⟩
  | .hbm, ⟨24, _⟩ => ⟨S128x8192x4x64, .f32⟩
  | .hbm, ⟨25, _⟩ => ⟨S128x8192x4x64, .f32⟩
  | .hbm, ⟨26, _⟩ => ⟨S128x8192x4x64, .f32⟩
  | .hbm, ⟨27, _⟩ => ⟨S_, .f32⟩
  | .hbm, ⟨28, _⟩ => ⟨S_, .f32⟩
  | .hbm, ⟨29, _⟩ => ⟨S128x8192x4x64, .i1⟩
  | .hbm, ⟨30, _⟩ => ⟨S128x8192x4x64, .f32⟩
  | .hbm, ⟨31, _⟩ => ⟨S128x8192x4x64, .f32⟩
  | .hbm, ⟨32, _⟩ => ⟨S128x8192x4x64, .f32⟩
  | .hbm, ⟨33, _⟩ => ⟨S_, .f32⟩
  | .hbm, ⟨34, _⟩ => ⟨S_, .f32⟩
  | .hbm, ⟨35, _⟩ => ⟨S128x8192x4x64, .i1⟩
  | .hbm, ⟨36, _⟩ => ⟨S128x8192x4x64, .f32⟩
  | .hbm, ⟨37, _⟩ => ⟨S128x8192x4x64, .f32⟩
  | .hbm, ⟨38, _⟩ => ⟨S1x8192x4x64, .f32⟩
  | .hbm, ⟨39, _⟩ => ⟨S128x8192x4x64, .f32⟩
  | .hbm, ⟨40, _⟩ => ⟨S128x8192x4x64, .f32⟩
  | .hbm, ⟨41, _⟩ => ⟨S4x128x128x64, .f32⟩
  | .hbm, ⟨42, _⟩ => ⟨S128x4x64x128, .f32⟩
  | .hbm, ⟨43, _⟩ => ⟨S8192x256, .f32⟩
  | .hbm, ⟨44, _⟩ => ⟨S8192x256, .f32⟩
  | .hbm, ⟨45, _⟩ => ⟨S8192x512, .f32⟩
  | .hbm, ⟨46, _⟩ => ⟨S8192x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x512, .f32⟩
  | .local _ .vmem, ⟨5, _⟩ => ⟨S256x512, .f32⟩
  | .local _ .vmem, ⟨6, _⟩ => ⟨S256x256, .f32⟩
  | .local _ .vmem, ⟨7, _⟩ => ⟨S256x256, .f32⟩
  | .local _ .vmem, ⟨8, _⟩ => ⟨S256x512, .f32⟩
  | .local _ .vmem, ⟨9, _⟩ => ⟨S256x512, .f32⟩
  | .local _ .vmem, ⟨10, _⟩ => ⟨S4x4x64x128, .f32⟩
  | .local _ .vmem, ⟨11, _⟩ => ⟨S4x4x64x128, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x512, .f32⟩
  | .local _ .vmem, ⟨17, _⟩ => ⟨S256x512, .f32⟩
  | .local _ .vmem, ⟨18, _⟩ => ⟨S256x256, .f32⟩
  | .local _ .vmem, ⟨19, _⟩ => ⟨S256x256, .f32⟩
  | .local _ .vmem, ⟨20, _⟩ => ⟨S4x64x128, .f32⟩
  | _, _ => ⟨S8192x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_cst : Ref sig .tc := ⟨.hbm, 8, rfl⟩
abbrev main_call0_v0 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28_0 : Ref sig .tc := ⟨.hbm, 43, rfl⟩
abbrev main_v28_1 : Ref sig .tc := ⟨.hbm, 44, rfl⟩
abbrev main_v28_2 : Ref sig .tc := ⟨.hbm, 45, rfl⟩
abbrev main_v28_3 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x4x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S8192x3200 : Shape := ⟨2, ![8192, 3200]⟩
abbrev S8192x256 : Shape := ⟨2, ![8192, 256]⟩
abbrev S8192x512 : Shape := ⟨2, ![8192, 512]⟩
abbrev S8192x4x64 : Shape := ⟨3, ![8192, 4, 64]⟩
abbrev S_ : Shape := ⟨0, ![]⟩
abbrev S8192x4x128 : Shape := ⟨3, ![8192, 4, 128]⟩
abbrev S8192x8192 : Shape := ⟨2, ![8192, 8192]⟩
abbrev S8192x8192x1x1 : Shape := ⟨4, ![8192, 8192, 1, 1]⟩
abbrev S8192x1x4x64 : Shape := ⟨4, ![8192, 1, 4, 64]⟩
abbrev S1x8192x4x64 : Shape := ⟨4, ![1, 8192, 4, 64]⟩
abbrev S8192x8192x4x64 : Shape := ⟨4, ![8192, 8192, 4, 64]⟩
abbrev S8192x8192x4 : Shape := ⟨3, ![8192, 8192, 4]⟩
abbrev S4x128x8192 : Shape := ⟨3, ![4, 128, 8192]⟩
abbrev S4x8192x8192 : Shape := ⟨3, ![4, 8192, 8192]⟩

abbrev nBuf : Space → Nat
  | .hbm => 103
  | .vmem => 0
  | .smem => 0
  | _ => 0

abbrev bufTy : (tb : Table) → Fin (tcTables nBuf tb) → BufTy
  | .hbm, ⟨0, _⟩ => ⟨S8192x3200, .f32⟩
  | .hbm, ⟨1, _⟩ => ⟨S8192x256, .f32⟩
  | .hbm, ⟨2, _⟩ => ⟨S8192x512, .f32⟩
  | .hbm, ⟨3, _⟩ => ⟨S8192x256, .f32⟩
  | .hbm, ⟨4, _⟩ => ⟨S8192x256, .f32⟩
  | .hbm, ⟨5, _⟩ => ⟨S8192x512, .f32⟩
  | .hbm, ⟨6, _⟩ => ⟨S8192x4x64, .f32⟩
  | .hbm, ⟨7, _⟩ => ⟨S_, .f32⟩
  | .hbm, ⟨8, _⟩ => ⟨S8192x4x64, .f32⟩
  | .hbm, ⟨9, _⟩ => ⟨S8192x4x64, .f32⟩
  | .hbm, ⟨10, _⟩ => ⟨S8192x4x64, .f32⟩
  | .hbm, ⟨11, _⟩ => ⟨S8192x4x128, .f32⟩
  | .hbm, ⟨12, _⟩ => ⟨S8192x4x64, .f32⟩
  | .hbm, ⟨13, _⟩ => ⟨S_, .f32⟩
  | .hbm, ⟨14, _⟩ => ⟨S_, .f32⟩
  | .hbm, ⟨15, _⟩ => ⟨S8192x4x64, .f32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S8192x8192x1x1, .i1⟩
  | .hbm, ⟨20, _⟩ => ⟨S8192x1x4x64, .f32⟩
  | .hbm, ⟨21, _⟩ => ⟨S1x8192x4x64, .f32⟩
  | .hbm, ⟨22, _⟩ => ⟨S8192x8192x4x64, .f32⟩
  | .hbm, ⟨23, _⟩ => ⟨S8192x8192x4x64, .f32⟩
  | .hbm, ⟨24, _⟩ => ⟨S8192x8192x4x64, .f32⟩
  | .hbm, ⟨25, _⟩ => ⟨S_, .f32⟩
  | .hbm, ⟨26, _⟩ => ⟨S_, .f32⟩
  | .hbm, ⟨27, _⟩ => ⟨S8192x8192x4x64, .i1⟩
  | .hbm, ⟨28, _⟩ => ⟨S8192x8192x4x64, .f32⟩
  | .hbm, ⟨29, _⟩ => ⟨S8192x8192x4x64, .f32⟩
  | .hbm, ⟨30, _⟩ => ⟨S_, .f32⟩
  | .hbm, ⟨31, _⟩ => ⟨S8192x8192x4x64, .f32⟩
  | .hbm, ⟨32, _⟩ => ⟨S8192x8192x4x64, .f32⟩
  | .hbm, ⟨33, _⟩ => ⟨S_, .f32⟩
  | .hbm, ⟨34, _⟩ => ⟨S_, .f32⟩
  | .hbm, ⟨35, _⟩ => ⟨S8192x8192x4x64, .i1⟩
  | .hbm, ⟨36, _⟩ => ⟨S8192x8192x4x64, .f32⟩
  | .hbm, ⟨37, _⟩ => ⟨S8192x8192x4x64, .f32⟩
  | .hbm, ⟨38, _⟩ => ⟨S_, .f32⟩
  | .hbm, ⟨39, _⟩ => ⟨S8192x8192x4x64, .f32⟩
  | .hbm, ⟨40, _⟩ => ⟨S8192x1x4x64, .f32⟩
  | .hbm, ⟨41, _⟩ => ⟨S1x8192x4x64, .f32⟩
  | .hbm, ⟨42, _⟩ => ⟨S8192x8192x4x64, .f32⟩
  | .hbm, ⟨43, _⟩ => ⟨S8192x8192x4x64, .f32⟩
  | .hbm, ⟨44, _⟩ => ⟨S8192x8192x4x64, .f32⟩
  | .hbm, ⟨45, _⟩ => ⟨S8192x8192x4x64, .f32⟩
  | .hbm, ⟨46, _⟩ => ⟨S_, .f32⟩
  | .hbm, ⟨47, _⟩ => ⟨S8192x8192x4, .f32⟩
  | .hbm, ⟨48, _⟩ => ⟨S4x128x8192, .f32⟩
  | .hbm, ⟨49, _⟩ => ⟨S8192x4x128, .f32⟩
  | .hbm, ⟨50, _⟩ => ⟨S8192x512, .f32⟩
  | .hbm, ⟨51, _⟩ => ⟨S8192x4x128, .f32⟩
  | .hbm, ⟨52, _⟩ => ⟨S4x128x8192, .f32⟩
  | .hbm, ⟨53, _⟩ => ⟨S4x8192x8192, .f32⟩
  | .hbm, ⟨54, _⟩ => ⟨S8192x8192x4, .f32⟩
  | .hbm, ⟨55, _⟩ => ⟨S4x128x8192, .f32⟩
  | .hbm, ⟨56, _⟩ => ⟨S8192x4x128, .f32⟩
  | .hbm, ⟨57, _⟩ => ⟨S8192x8192x4x64, .f32⟩
  | .hbm, ⟨58, _⟩ => ⟨S8192x8192x4x64, .f32⟩
  | .hbm, ⟨59, _⟩ => ⟨S8192x8192x4x64, .f32⟩
  | .hbm, ⟨60, _⟩ => ⟨S8192x8192x4x64, .f32⟩
  | .hbm, ⟨61, _⟩ => ⟨S8192x8192x4x64, .f32⟩
  | .hbm, ⟨62, _⟩ => ⟨S_, .f32⟩
  | .hbm, ⟨63, _⟩ => ⟨S8192x4x64, .f32⟩
  | .hbm, ⟨64, _⟩ => ⟨S1x8192x4x64, .f32⟩
  | .hbm, ⟨65, _⟩ => ⟨S8192x8192x4x64, .f32⟩
  | .hbm, ⟨66, _⟩ => ⟨S8192x8192x4x64, .f32⟩
  | .hbm, ⟨67, _⟩ => ⟨S_, .f32⟩
  | .hbm, ⟨68, _⟩ => ⟨S8192x4x64, .f32⟩
  | .hbm, ⟨69, _⟩ => ⟨S8192x1x4x64, .f32⟩
  | .hbm, ⟨70, _⟩ => ⟨S_, .f32⟩
  | .hbm, ⟨71, _⟩ => ⟨S8192x4x64, .f32⟩
  | .hbm, ⟨72, _⟩ => ⟨S_, .f32⟩
  | .hbm, ⟨73, _⟩ => ⟨S8192x4x64, .f32⟩
  | .hbm, ⟨74, _⟩ => ⟨S_, .f32⟩
  | .hbm, ⟨75, _⟩ => ⟨S8192x8192x4x64, .f32⟩
  | .hbm, ⟨76, _⟩ => ⟨S8192x8192x4x64, .f32⟩
  | .hbm, ⟨77, _⟩ => ⟨S8192x8192x4x64, .f32⟩
  | .hbm, ⟨78, _⟩ => ⟨S_, .f32⟩
  | .hbm, ⟨79, _⟩ => ⟨S8192x8192x4x64, .f32⟩
  | .hbm, ⟨80, _⟩ => ⟨S8192x8192x4x64, .f32⟩
  | .hbm, ⟨81, _⟩ => ⟨S_, .f32⟩
  | .hbm, ⟨82, _⟩ => ⟨S8192x4x64, .f32⟩
  | .hbm, ⟨83, _⟩ => ⟨S8192x1x4x64, .f32⟩
  | .hbm, ⟨84, _⟩ => ⟨S8192x8192x4x64, .f32⟩
  | .hbm, ⟨85, _⟩ => ⟨S_, .f32⟩
  | .hbm, ⟨86, _⟩ => ⟨S8192x4x64, .f32⟩
  | .hbm, ⟨87, _⟩ => ⟨S1x8192x4x64, .f32⟩
  | .hbm, ⟨88, _⟩ => ⟨S_, .f32⟩
  | .hbm, ⟨89, _⟩ => ⟨S8192x4x64, .f32⟩
  | .hbm, ⟨90, _⟩ => ⟨S_, .f32⟩
  | .hbm, ⟨91, _⟩ => ⟨S8192x4x64, .f32⟩
  | .hbm, ⟨92, _⟩ => ⟨S8192x4x64, .f32⟩
  | .hbm, ⟨93, _⟩ => ⟨S_, .f32⟩
  | .hbm, ⟨94, _⟩ => ⟨S_, .f32⟩
  | .hbm, ⟨95, _⟩ => ⟨S8192x4x64, .f32⟩
  | .hbm, ⟨96, _⟩ => ⟨S8192x256, .f32⟩
  | .hbm, ⟨97, _⟩ => ⟨S8192x512, .f32⟩
  | .hbm, ⟨98, _⟩ => ⟨S8192x256, .f32⟩
  | .hbm, ⟨99, _⟩ => ⟨S_, .f32⟩
  | .hbm, ⟨100, _⟩ => ⟨S8192x4x64, .f32⟩
  | .hbm, ⟨101, _⟩ => ⟨S8192x4x64, .f32⟩
  | .hbm, ⟨102, _⟩ => ⟨S8192x256, .f32⟩
  | _, _ => ⟨S8192x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_cst : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call1_v0 : Ref sig .tc := ⟨.hbm, 26, rfl⟩
abbrev main_v19_1 : Ref sig .tc := ⟨.hbm, 27, rfl⟩
abbrev main_call1_v2 : Ref sig .tc := ⟨.hbm, 28, rfl⟩
abbrev main_v19_0 : Ref sig .tc := ⟨.hbm, 29, rfl⟩
abbrev main_call1_cst : Ref sig .tc := ⟨.hbm, 30, rfl⟩
abbrev main_v19_2 : Ref sig .tc := ⟨.hbm, 31, rfl⟩
abbrev main_v20 : Ref sig .tc := ⟨.hbm, 32, rfl⟩
abbrev main_cst_1 : Ref sig .tc := ⟨.hbm, 33, rfl⟩
abbrev main_call2_v0 : Ref sig .tc := ⟨.hbm, 34, rfl⟩
abbrev main_v21_1 : Ref sig .tc := ⟨.hbm, 35, rfl⟩
abbrev main_call2_v2 : Ref sig .tc := ⟨.hbm, 36, rfl⟩
abbrev main_v21_0 : Ref sig .tc := ⟨.hbm, 37, rfl⟩
abbrev main_call2_cst : Ref sig .tc := ⟨.hbm, 38, rfl⟩
abbrev main_v21_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_3 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_4 : Ref sig .tc := ⟨.hbm, 67, rfl⟩
abbrev main_v47 : Ref sig .tc := ⟨.hbm, 68, rfl⟩
abbrev main_v48 : Ref sig .tc := ⟨.hbm, 69, rfl⟩
abbrev main_cst_5 : Ref sig .tc := ⟨.hbm, 70, rfl⟩
abbrev main_v49 : Ref sig .tc := ⟨.hbm, 71, rfl⟩
abbrev main_cst_6 : Ref sig .tc := ⟨.hbm, 72, rfl⟩
abbrev main_v50 : Ref sig .tc := ⟨.hbm, 73, rfl⟩
abbrev main_call3_cst : Ref sig .tc := ⟨.hbm, 74, rfl⟩
abbrev main_call3_v0 : Ref sig .tc := ⟨.hbm, 75, rfl⟩
abbrev main_v51 : Ref sig .tc := ⟨.hbm, 76, rfl⟩
abbrev main_v52 : Ref sig .tc := ⟨.hbm, 77, rfl⟩
abbrev main_call4_cst : Ref sig .tc := ⟨.hbm, 78, rfl⟩
abbrev main_call4_v0 : Ref sig .tc := ⟨.hbm, 79, rfl⟩
abbrev main_v53 : Ref sig .tc := ⟨.hbm, 80, rfl⟩
abbrev main_cst_7 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_8 : Ref sig .tc := ⟨.hbm, 85, rfl⟩
abbrev main_v57 : Ref sig .tc := ⟨.hbm, 86, rfl⟩
abbrev main_v58 : Ref sig .tc := ⟨.hbm, 87, rfl⟩
abbrev main_cst_9 : Ref sig .tc := ⟨.hbm, 88, rfl⟩
abbrev main_v59 : Ref sig .tc := ⟨.hbm, 89, rfl⟩
abbrev main_cst_10 : Ref sig .tc := ⟨.hbm, 90, rfl⟩
abbrev main_v60 : Ref sig .tc := ⟨.hbm, 91, rfl⟩
abbrev main_v61 : Ref sig .tc := ⟨.hbm, 92, rfl⟩
abbrev main_call5_cst : Ref sig .tc := ⟨.hbm, 93, rfl⟩
abbrev main_call5_v0 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_11 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩

abbrev nD : Nat := 1
abbrev τ : Topo := Topo.v7x

variable {F : FTy → Type} [FloatOps F]
-- ==== DownGrad.lean ====
abbrev S8192x2816 : Shape := ⟨2, ![8192, 2816]⟩
abbrev S8192x1024 : Shape := ⟨2, ![8192, 1024]⟩
abbrev S2816x1024 : Shape := ⟨2, ![2816, 1024]⟩
abbrev S512x1408 : Shape := ⟨2, ![512, 1408]⟩
abbrev S512x1024 : Shape := ⟨2, ![512, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .f32⟩
  | .local _ .vmem, ⟨0, _⟩ => ⟨S512x1408, .bf16⟩
  | .local _ .vmem, ⟨1, _⟩ => ⟨S512x1408, .bf16⟩
  | .local _ .vmem, ⟨2, _⟩ => ⟨S512x1024, .f32⟩
  | .local _ .vmem, ⟨3, _⟩ => ⟨S512x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond3 (i : grid0.Coords) : BitVec 1 :=
  let arg2 : BitVec 32 := BitVec.ofNat 32 (i 2).val
  let c15_i32 : BitVec 32 := 15#32
  let v10 : BitVec 1 := Scalar.cmpi .eq arg2 c15_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownGradRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S1024x2816, .f32⟩
  | .hbm, ⟨7, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpBack.lean ====
abbrev S2x8192x2816 : Shape := ⟨3, ![2, 8192, 2816]⟩
abbrev S1024x5632 : Shape := ⟨2, ![1024, 5632]⟩
abbrev S8192x1024 : Shape := ⟨2, ![8192, 1024]⟩
abbrev S1x1024x1408 : Shape := ⟨3, ![1, 1024, 1408]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2x8192x2816, .bf16⟩
  | .hbm, ⟨1, _⟩ => ⟨S1024x5632, .bf16⟩
  | .hbm, ⟨2, _⟩ => ⟨S8192x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpBackRefIdeal.lean ====
abbrev S2x8192x2816 : Shape := ⟨3, ![2, 8192, 2816]⟩
abbrev S1024x5632 : Shape := ⟨2, ![1024, 5632]⟩
abbrev S1x8192x2816 : Shape := ⟨3, ![1, 8192, 2816]⟩
abbrev S8192x2816 : Shape := ⟨2, ![8192, 2816]⟩
abbrev S8192x5632 : Shape := ⟨2, ![8192, 5632]⟩
abbrev S_ : Shape := ⟨0, ![]⟩
abbrev S8192x1024 : Shape := ⟨2, ![8192, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S1024x5632, .bf16⟩
  | .hbm, ⟨2, _⟩ => ⟨S1x8192x2816, .bf16⟩
  | .hbm, ⟨3, _⟩ => ⟨S8192x2816, .bf16⟩
  | .hbm, ⟨4, _⟩ => ⟨S1x8192x2816, .bf16⟩
  | .hbm, ⟨5, _⟩ => ⟨S8192x2816, .bf16⟩
  | .hbm, ⟨6, _⟩ => ⟨S8192x5632, .bf16⟩
  | .hbm, ⟨7, _⟩ => ⟨S8192x5632, .f32⟩
  | .hbm, ⟨8, _⟩ => ⟨S_, .f32⟩
  | .hbm, ⟨9, _⟩ => ⟨S8192x1024, .f32⟩
  | .hbm, ⟨10, _⟩ => ⟨S1024x5632, .f32⟩
  | .hbm, ⟨11, _⟩ => ⟨S8192x5632, .f32⟩
  | .hbm, ⟨12, _⟩ => ⟨S8192x1024, .f32⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== UpGrad.lean ====
abbrev S8192x1024 : Shape := ⟨2, ![8192, 1024]⟩
abbrev S2x8192x2816 : Shape := ⟨3, ![2, 8192, 2816]⟩
abbrev S1024x5632 : Shape := ⟨2, ![1024, 5632]⟩
abbrev S512x1024 : Shape := ⟨2, ![512, 1024]⟩
abbrev S1x512x1408 : Shape := ⟨3, ![1, 512, 1408]⟩
abbrev S1024x1408 : Shape := ⟨2, ![1024, 1408]⟩
abbrev S512x1408 : Shape := ⟨2, ![512, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S1024x5632, .f32⟩
  | .local _ .vmem, ⟨0, _⟩ => ⟨S512x1024, .bf16⟩
  | .local _ .vmem, ⟨1, _⟩ => ⟨S512x1024, .bf16⟩
  | .local _ .vmem, ⟨2, _⟩ => ⟨S1x512x1408, .bf16⟩
  | .local _ .vmem, ⟨3, _⟩ => ⟨S1x512x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 16], ![false, false, false]⟩

def k0_cond3 (i : grid0.Coords) : BitVec 1 :=
  let arg2 : BitVec 32 := BitVec.ofNat 32 (i 2).val
  let c15_i32 : BitVec 32 := 15#32
  let v10 : BitVec 1 := Scalar.cmpi .eq arg2 c15_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpGradRefIdeal.lean ====
abbrev S8192x1024 : Shape := ⟨2, ![8192, 1024]⟩
abbrev S2x8192x2816 : Shape := ⟨3, ![2, 8192, 2816]⟩
abbrev S1x8192x2816 : Shape := ⟨3, ![1, 8192, 2816]⟩
abbrev S8192x2816 : Shape := ⟨2, ![8192, 2816]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S1x8192x2816, .bf16⟩
  | .hbm, ⟨3, _⟩ => ⟨S8192x2816, .bf16⟩
  | .hbm, ⟨4, _⟩ => ⟨S1x8192x2816, .bf16⟩
  | .hbm, ⟨5, _⟩ => ⟨S8192x2816, .bf16⟩
  | .hbm, ⟨6, _⟩ => ⟨S8192x5632, .bf16⟩
  | .hbm, ⟨7, _⟩ => ⟨S8192x5632, .f32⟩
  | .hbm, ⟨8, _⟩ => ⟨S_, .f32⟩
  | .hbm, ⟨9, _⟩ => ⟨S1024x5632, .f32⟩
  | .hbm, ⟨10, _⟩ => ⟨S8192x1024, .f32⟩
  | .hbm, ⟨11, _⟩ => ⟨S8192x5632, .f32⟩
  | .hbm, ⟨12, _⟩ => ⟨S5632x1024, .f32⟩
  | .hbm, ⟨13, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== ActBack.lean ====
abbrev S8192x1024 : Shape := ⟨2, ![8192, 1024]⟩
abbrev S2816x1024 : Shape := ⟨2, ![2816, 1024]⟩
abbrev S8192x2816 : Shape := ⟨2, ![8192, 2816]⟩
abbrev S2x8192x2816 : Shape := ⟨3, ![2, 8192, 2816]⟩
abbrev S512x1024 : Shape := ⟨2, ![512, 1024]⟩
abbrev S1408x1024 : Shape := ⟨2, ![1408, 1024]⟩
abbrev S512x1408 : Shape := ⟨2, ![512, 1408]⟩
abbrev S2x512x1408 : Shape := ⟨3, ![2, 512, 1408]⟩
abbrev S1x512x1408 : Shape := ⟨3, ![1, 512, 1408]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S2x8192x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S2x512x1408, .bf16⟩
  | .local _ .vmem, ⟨9, _⟩ => ⟨S2x512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ActBackRefIdeal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩
abbrev S1x8192x2816 : Shape := ⟨3, ![1, 8192, 2816]⟩
abbrev S2x8192x2816 : Shape := ⟨3, ![2, 8192, 2816]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .f32⟩
  | .hbm, ⟨5, _⟩ => ⟨S8192x2816, .f32⟩
  | .hbm, ⟨6, _⟩ => ⟨S2816x1024, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S1x8192x2816, .f32⟩
  | .hbm, ⟨30, _⟩ => ⟨S1x8192x2816, .f32⟩
  | .hbm, ⟨31, _⟩ => ⟨S2x8192x2816, .f32⟩
  | .hbm, ⟨32, _⟩ => ⟨S2x8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== MoBack.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MoBackRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MoGrad.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v10 : BitVec 1 := Scalar.cmpi .eq arg2 c15_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MoGradRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MqBack.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MqBackRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MqGrad.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MqGradRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutBack.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutBackRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutGrad.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v10 : BitVec 1 := Scalar.cmpi .eq arg2 c15_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutGradRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InGrad.lean ====
abbrev S8192x1024 : Shape := ⟨2, ![8192, 1024]⟩
abbrev S8192x3200 : Shape := ⟨2, ![8192, 3200]⟩
abbrev S1024x3200 : Shape := ⟨2, ![1024, 3200]⟩
abbrev S512x1024 : Shape := ⟨2, ![512, 1024]⟩
abbrev S512x640 : Shape := ⟨2, ![512, 640]⟩
abbrev S1024x640 : Shape := ⟨2, ![1024, 640]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3200, .bf16⟩
  | .hbm, ⟨2, _⟩ => ⟨S1024x3200, .f32⟩
  | .local _ .vmem, ⟨0, _⟩ => ⟨S512x1024, .bf16⟩
  | .local _ .vmem, ⟨1, _⟩ => ⟨S512x1024, .bf16⟩
  | .local _ .vmem, ⟨2, _⟩ => ⟨S512x640, .bf16⟩
  | .local _ .vmem, ⟨3, _⟩ => ⟨S512x640, .bf16⟩
  | .local _ .vmem, ⟨4, _⟩ => ⟨S1024x640, .f32⟩
  | .local _ .vmem, ⟨5, _⟩ => ⟨S1024x640, .f32⟩
  | .local _ .vmem, ⟨6, _⟩ => ⟨S1024x640, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGradRefIdeal.lean ====
abbrev S8192x1024 : Shape := ⟨2, ![8192, 1024]⟩
abbrev S8192x3200 : Shape := ⟨2, ![8192, 3200]⟩
abbrev S_ : Shape := ⟨0, ![]⟩
abbrev S1024x3200 : Shape := ⟨2, ![1024, 3200]⟩
abbrev S3200x1024 : Shape := ⟨2, ![3200, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3200, .bf16⟩
  | .hbm, ⟨2, _⟩ => ⟨S_, .f32⟩
  | .hbm, ⟨3, _⟩ => ⟨S1024x3200, .f32⟩
  | .hbm, ⟨4, _⟩ => ⟨S8192x1024, .f32⟩
  | .hbm, ⟨5, _⟩ => ⟨S8192x3200, .f32⟩
  | .hbm, ⟨6, _⟩ => ⟨S8192x3200, .f32⟩
  | .hbm, ⟨7, _⟩ => ⟨S3200x1024, .f32⟩
  | .hbm, ⟨8, _⟩ => ⟨S1024x3200, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InBack.lean ====
abbrev S8192x3200 : Shape := ⟨2, ![8192, 3200]⟩
abbrev S1024x3200 : Shape := ⟨2, ![1024, 3200]⟩
abbrev S8192x1024 : Shape := ⟨2, ![8192, 1024]⟩
abbrev S1024x640 : Shape := ⟨2, ![1024, 640]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3200, .bf16⟩
  | .hbm, ⟨1, _⟩ => ⟨S1024x3200, .bf16⟩
  | .hbm, ⟨2, _⟩ => ⟨S8192x1024, .f32⟩
  | .local _ .vmem, ⟨0, _⟩ => ⟨S1024x640, .bf16⟩
  | .local _ .vmem, ⟨1, _⟩ => ⟨S1024x640, .bf16⟩
  | .local _ .vmem, ⟨2, _⟩ => ⟨S1024x640, .bf16⟩
  | .local _ .vmem, ⟨3, _⟩ => ⟨S1024x640, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InBackRefIdeal.lean ====
abbrev S8192x3200 : Shape := ⟨2, ![8192, 3200]⟩
abbrev S1024x3200 : Shape := ⟨2, ![1024, 3200]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x3200, .bf16⟩
  | .hbm, ⟨1, _⟩ => ⟨S1024x3200, .bf16⟩
  | .hbm, ⟨2, _⟩ => ⟨S_, .f32⟩
  | .hbm, ⟨3, _⟩ => ⟨S8192x1024, .f32⟩
  | .hbm, ⟨4, _⟩ => ⟨S1024x3200, .f32⟩
  | .hbm, ⟨5, _⟩ => ⟨S8192x3200, .f32⟩
  | .hbm, ⟨6, _⟩ => ⟨S8192x3200, .f32⟩
  | .hbm, ⟨7, _⟩ => ⟨S8192x1024, .f32⟩
  | _, _ => ⟨S8192x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InProj.lean ====
abbrev S8192x1024 : Shape := ⟨2, ![8192, 1024]⟩
abbrev S1024x3200 : Shape := ⟨2, ![1024, 3200]⟩
abbrev S8192x3200 : Shape := ⟨2, ![8192, 3200]⟩
abbrev S1024x1024 : Shape := ⟨2, ![1024, 1024]⟩
abbrev S1024x640 : Shape := ⟨2, ![1024, 640]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3200, .bf16⟩
  | .hbm, ⟨2, _⟩ => ⟨S8192x3200, .f32⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .f32⟩
  | .local _ .vmem, ⟨5, _⟩ => ⟨S1024x640, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S8192x1024 : Shape := ⟨2, ![8192, 1024]⟩
abbrev S1024x3200 : Shape := ⟨2, ![1024, 3200]⟩
abbrev S8192x3200 : Shape := ⟨2, ![8192, 3200]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3200, .bf16⟩
  | .hbm, ⟨2, _⟩ => ⟨S8192x1024, .f32⟩
  | .hbm, ⟨3, _⟩ => ⟨S1024x3200, .f32⟩
  | .hbm, ⟨4, _⟩ => ⟨S8192x3200, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutProj.lean ====
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MqProj.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MqProjRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MoProj.lean ====
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MoProjRefIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnUp.lean ====
abbrev S8192x1024 : Shape := ⟨2, ![8192, 1024]⟩
abbrev S1024x5632 : Shape := ⟨2, ![1024, 5632]⟩
abbrev S8192x2816 : Shape := ⟨2, ![8192, 2816]⟩
abbrev S1024x1024 : Shape := ⟨2, ![1024, 1024]⟩
abbrev S1024x1408 : Shape := ⟨2, ![1024, 1408]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpRefIdeal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x2816, .f32⟩
  | .hbm, ⟨6, _⟩ => ⟨S8192x2816, .f32⟩
  | .hbm, ⟨7, _⟩ => ⟨S8192x2816, .bf16⟩
  | .hbm, ⟨8, _⟩ => ⟨S8192x2816, .bf16⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== FfnDown.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== XAttnBack.lean ====
abbrev S8192x1024 : Shape := ⟨2, ![8192, 1024]⟩
abbrev S256x1024 : Shape := ⟨2, ![256, 1024]⟩
abbrev S1x256 : Shape := ⟨2, ![1, 256]⟩
abbrev S256x256 : Shape := ⟨2, ![256, 256]⟩
abbrev S256 : Shape := ⟨1, ![256]⟩
abbrev S256x1 : Shape := ⟨2, ![256, 1]⟩

abbrev nBuf : Space → Nat
  | .hbm => 9
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S256x1024, .bf16⟩
  | .hbm, ⟨3, _⟩ => ⟨S256x1024, .bf16⟩
  | .hbm, ⟨4, _⟩ => ⟨S1x256, .f32⟩
  | .hbm, ⟨5, _⟩ => ⟨S8192x1024, .bf16⟩
  | .hbm, ⟨6, _⟩ => ⟨S256x1024, .f32⟩
  | .hbm, ⟨7, _⟩ => ⟨S256x1024, .f32⟩
  | .hbm, ⟨8, _⟩ => ⟨S1x256, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1x256, .f32⟩
  | .local _ .vmem, ⟨7, _⟩ => ⟨S256x1024, .bf16⟩
  | .local _ .vmem, ⟨8, _⟩ => ⟨S256x1024, .bf16⟩
  | .local _ .vmem, ⟨9, _⟩ => ⟨S256x1024, .f32⟩
  | .local _ .vmem, ⟨10, _⟩ => ⟨S256x1024, .f32⟩
  | .local _ .vmem, ⟨11, _⟩ => ⟨S1x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== XAttnBackRefIdeal.lean ====
abbrev S8192x1024 : Shape := ⟨2, ![8192, 1024]⟩
abbrev S256x1024 : Shape := ⟨2, ![256, 1024]⟩
abbrev S1x256 : Shape := ⟨2, ![1, 256]⟩
abbrev S8192x4x256 : Shape := ⟨3, ![8192, 4, 256]⟩
abbrev S_ : Shape := ⟨0, ![]⟩
abbrev S8192x4 : Shape := ⟨2, ![8192, 4]⟩
abbrev S8192x4x1 : Shape := ⟨3, ![8192, 4, 1]⟩
abbrev S256 : Shape := ⟨1, ![256]⟩
abbrev S1x1x256 : Shape := ⟨3, ![1, 1, 256]⟩
abbrev S256x4x256 : Shape := ⟨3, ![256, 4, 256]⟩
abbrev S4x8192x256 : Shape := ⟨3, ![4, 8192, 256]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩

abbrev nBuf : Space → Nat
  | .hbm => 133
  | .vmem => 0
  | .smem => 0
  | _ => 0

abbrev hbmTy0_0 (i : Nat) : BufTy := match i % 128 with
  | 0 => ⟨S8192x1024, .f32⟩
  | 1 => ⟨S8192x1024, .bf16⟩
  | 2 => ⟨S256x1024, .bf16⟩
  | 3 => ⟨S256x1024, .bf16⟩
  | 4 => ⟨S1x256, .f32⟩
  | 5 => ⟨S256x1024, .f32⟩
  | 6 => ⟨S256x1024, .f32⟩
  | 7 => ⟨S8192x4x256, .f32⟩
  | 8 => ⟨S8192x4x256, .f32⟩
  | 9 => ⟨S_, .f32⟩
  | 10 => ⟨S8192x4, .f32⟩
  | 11 => ⟨S8192x4x1, .f32⟩
  | 12 => ⟨S_, .f32⟩
  | 13 => ⟨S8192x4x1, .f32⟩
  | 14 => ⟨S8192x4x1, .f32⟩
  | 15 => ⟨S_, .f32⟩
  | 16 => ⟨S8192x4x1, .f32⟩
  | 17 => ⟨S8192x4x1, .f32⟩
  | 18 => ⟨S8192x4x1, .f32⟩
  | 19 => ⟨S8192x4x1, .f32⟩
  | 20 => ⟨S_, .f32⟩
  | 21 => ⟨S8192x4x1, .f32⟩
  | 22 => ⟨S8192x4x1, .f32⟩
  | 23 => ⟨S8192x4x256, .f32⟩
  | 24 => ⟨S8192x4x256, .f32⟩
  | 25 => ⟨S256, .f32⟩
  | 26 => ⟨S1x1x256, .f32⟩
  | 27 => ⟨S8192x4x256, .f32⟩
  | 28 => ⟨S8192x4x256, .f32⟩
  | 29 => ⟨S256x4x256, .f32⟩
  | 30 => ⟨S256x4x256, .f32⟩
  | 31 => ⟨S4x8192x256, .f32⟩
  | 32 => ⟨S_, .f32⟩
  | 33 => ⟨S4x8192x256, .f32⟩
  | 34 => ⟨S4x8192x256, .f32⟩
  | 35 => ⟨S_, .f32⟩
  | 36 => ⟨S4x8192, .f32⟩
  | 37 => ⟨S4x8192x1, .f32⟩
  | 38 => ⟨S4x8192x256, .f32⟩
  | 39 => ⟨S4x8192x256, .i1⟩
  | 40 => ⟨S4x8192x256, .f32⟩
  | 41 => ⟨S_, .f32⟩
  | 42 => ⟨S4x8192, .f32⟩
  | 43 => ⟨S_, .f32⟩
  | 44 => ⟨S4x8192, .f32⟩
  | 45 => ⟨S4x8192, .f32⟩
  | 46 => ⟨S_, .f32⟩
  | 47 => ⟨S4x8192, .f32⟩
  | 48 => ⟨S4x8192, .i1⟩
  | 49 => ⟨S_, .f32⟩
  | 50 => ⟨S4x8192, .f32⟩
  | 51 => ⟨S4x8192, .i1⟩
  | 52 => ⟨S_, .f32⟩
  | 53 => ⟨S4x8192, .f32⟩
  | 54 => ⟨S_, .f32⟩
  | 55 => ⟨S4x8192, .f32⟩
  | 56 => ⟨S_, .f32⟩
  | 57 => ⟨S4x8192, .f32⟩
  | 58 => ⟨S4x8192, .f32⟩
  | 59 => ⟨S4x8192, .f32⟩
  | 60 => ⟨S4x8192x1, .f32⟩
  | 61 => ⟨S4x8192x256, .f32⟩
  | 62 => ⟨S4x8192x256, .f32⟩
  | 63 => ⟨S4x8192x256, .f32⟩
  | 64 => ⟨S_, .f32⟩
  | 65 => ⟨S4x8192, .f32⟩
  | 66 => ⟨S4x8192x1, .f32⟩
  | 67 => ⟨S4x8192x256, .f32⟩
  | 68 => ⟨S4x8192x256, .f32⟩
  | 69 => ⟨S4x8192x1, .f32⟩
  | 70 => ⟨S_, .f32⟩
  | 71 => ⟨S4x8192x1, .f32⟩
  | 72 => ⟨S4x8192x1, .f32⟩
  | 73 => ⟨S4x256x8192, .f32⟩
  | 74 => ⟨S8192x4x256, .f32⟩
  | 75 => ⟨S8192x1024, .f32⟩
  | 76 => ⟨S8192x1024, .f32⟩
  | 77 => ⟨S8192x4x256, .f32⟩
  | 78 => ⟨S4x256x8192, .f32⟩
  | 79 => ⟨S4x8192x256, .f32⟩
  | 80 => ⟨S4x256x256, .f32⟩
  | 81 => ⟨S256x4x256, .f32⟩
  | 82 => ⟨S4x8192x256, .f32⟩
  | 83 => ⟨S4x8192x256, .f32⟩
  | 84 => ⟨S4x8192x256, .f32⟩
  | 85 => ⟨S_, .f32⟩
  | 86 => ⟨S4x8192, .f32⟩
  | 87 => ⟨S4x8192x1, .f32⟩
  | 88 => ⟨S4x8192x1, .f32⟩
  | 89 => ⟨S4x8192x256, .f32⟩
  | 90 => ⟨S4x8192x256, .f32⟩
  | 91 => ⟨S_, .f32⟩
  | 92 => ⟨S4x8192, .f32⟩
  | 93 => ⟨S4x8192x256, .f32⟩
  | 94 => ⟨S4x8192x256, .f32⟩
  | 95 => ⟨S4x8192x256, .f32⟩
  | 96 => ⟨S_, .f32⟩
  | 97 => ⟨S4x8192x256, .f32⟩
  | 98 => ⟨S4x8192x256, .f32⟩
  | 99 => ⟨S4x256x256, .f32⟩
  | 100 => ⟨S256x4x256, .f32⟩
  | 101 => ⟨S4x8192x256, .f32⟩
  | 102 => ⟨S8192x4x256, .f32⟩
  | 103 => ⟨S256x1024, .f32⟩
  | 104 => ⟨S256x1024, .f32⟩
  | 105 => ⟨S8192x4x256, .f32⟩
  | 106 => ⟨S_, .f32⟩
  | 107 => ⟨S256, .f32⟩
  | 108 => ⟨S1x1x256, .f32⟩
  | 109 => ⟨S8192x4x256, .f32⟩
  | 110 => ⟨S8192x4x256, .f32⟩
  | 111 => ⟨S_, .f32⟩
  | 112 => ⟨S256, .f32⟩
  | 113 => ⟨S1x256, .f32⟩
  | 114 => ⟨S8192x4x256, .f32⟩
  | 115 => ⟨S_, .f32⟩
  | 116 => ⟨S8192x4, .f32⟩
  | 117 => ⟨S8192x4x1, .f32⟩
  | 118 => ⟨S8192x4x256, .f32⟩
  | 119 => ⟨S8192x4x256, .f32⟩
  | 120 => ⟨S8192x4x1, .f32⟩
  | 121 => ⟨S_, .f32⟩
  | 122 => ⟨S8192x4x1, .f32⟩
  | 123 => ⟨S8192x4x1, .f32⟩
  | 124 => ⟨S_, .f32⟩
  | 125 => ⟨S8192x4, .f32⟩
  | 126 => ⟨S8192x4x256, .f32⟩
  | 127 => ⟨S8192x4x256, .f32⟩
  | _ => ⟨S8192x1024, .f32⟩

abbrev hbmTy0_1 (i : Nat) : BufTy := match i % 128 with
  | 0 => ⟨S8192x4x256, .f32⟩
  | 1 => ⟨S8192x4x256, .f32⟩
  | 2 => ⟨S8192x4x256, .f32⟩
  | 3 => ⟨S8192x1024, .f32⟩
  | 4 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_cst_11 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_12 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_13 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_14 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_15 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_16 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_17 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_18 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_19 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_cst_20 : Ref sig .tc := ⟨.hbm, 121, rfl⟩
abbrev main_v95 : Ref sig .tc := ⟨.hbm, 122, rfl⟩
abbrev main_v96 : Ref sig .tc := ⟨.hbm, 123, rfl⟩
abbrev main_cst_21 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩

abbrev nD : Nat := 1
abbrev τ : Topo := Topo.v7x

variable {F : FTy → Type} [FloatOps F]
-- ==== XAttnFwd.lean ====
abbrev S8192x1024 : Shape := ⟨2, ![8192, 1024]⟩
abbrev S256x1024 : Shape := ⟨2, ![256, 1024]⟩
abbrev S1x256 : Shape := ⟨2, ![1, 256]⟩
abbrev S256x256 : Shape := ⟨2, ![256, 256]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S256x1024, .bf16⟩
  | .hbm, ⟨2, _⟩ => ⟨S256x1024, .bf16⟩
  | .hbm, ⟨3, _⟩ => ⟨S1x256, .f32⟩
  | .hbm, ⟨4, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x256, .f32⟩
  | .local _ .vmem, ⟨5, _⟩ => ⟨S256x1024, .bf16⟩
  | .local _ .vmem, ⟨6, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== XAttnFwdRefIdeal.lean ====
abbrev S8192x1024 : Shape := ⟨2, ![8192, 1024]⟩
abbrev S256x1024 : Shape := ⟨2, ![256, 1024]⟩
abbrev S1x256 : Shape := ⟨2, ![1, 256]⟩
abbrev S8192x4x256 : Shape := ⟨3, ![8192, 4, 256]⟩
abbrev S_ : Shape := ⟨0, ![]⟩
abbrev S8192x4 : Shape := ⟨2, ![8192, 4]⟩
abbrev S8192x4x1 : Shape := ⟨3, ![8192, 4, 1]⟩
abbrev S256 : Shape := ⟨1, ![256]⟩
abbrev S1x1x256 : Shape := ⟨3, ![1, 1, 256]⟩
abbrev S256x4x256 : Shape := ⟨3, ![256, 4, 256]⟩
abbrev S4x8192x256 : Shape := ⟨3, ![4, 8192, 256]⟩
abbrev S4x8192 : Shape := ⟨2, ![4, 8192]⟩
abbrev S4x8192x1 : Shape := ⟨3, ![4, 8192, 1]⟩
abbrev S4x256x8192 : Shape := ⟨3, ![4, 256, 8192]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S256x1024, .bf16⟩
  | .hbm, ⟨2, _⟩ => ⟨S256x1024, .bf16⟩
  | .hbm, ⟨3, _⟩ => ⟨S1x256, .f32⟩
  | .hbm, ⟨4, _⟩ => ⟨S256x1024, .f32⟩
  | .hbm, ⟨5, _⟩ => ⟨S256x1024, .f32⟩
  | .hbm, ⟨6, _⟩ => ⟨S8192x4x256, .f32⟩
  | .hbm, ⟨7, _⟩ => ⟨S8192x4x256, .f32⟩
  | .hbm, ⟨8, _⟩ => ⟨S_, .f32⟩
  | .hbm, ⟨9, _⟩ => ⟨S8192x4, .f32⟩
  | .hbm, ⟨10, _⟩ => ⟨S8192x4x1, .f32⟩
  | .hbm, ⟨11, _⟩ => ⟨S_, .f32⟩
  | .hbm, ⟨12, _⟩ => ⟨S8192x4x1, .f32⟩
  | .hbm, ⟨13, _⟩ => ⟨S8192x4x1, .f32⟩
  | .hbm, ⟨14, _⟩ => ⟨S_, .f32⟩
  | .hbm, ⟨15, _⟩ => ⟨S8192x4x1, .f32⟩
  | .hbm, ⟨16, _⟩ => ⟨S8192x4x1, .f32⟩
  | .hbm, ⟨17, _⟩ => ⟨S8192x4x1, .f32⟩
  | .hbm, ⟨18, _⟩ => ⟨S8192x4x256, .f32⟩
  | .hbm, ⟨19, _⟩ => ⟨S8192x4x256, .f32⟩
  | .hbm, ⟨20, _⟩ => ⟨S256, .f32⟩
  | .hbm, ⟨21, _⟩ => ⟨S1x1x256, .f32⟩
  | .hbm, ⟨22, _⟩ => ⟨S8192x4x256, .f32⟩
  | .hbm, ⟨23, _⟩ => ⟨S8192x4x256, .f32⟩
  | .hbm, ⟨24, _⟩ => ⟨S256x4x256, .f32⟩
  | .hbm, ⟨25, _⟩ => ⟨S256x4x256, .f32⟩
  | .hbm, ⟨26, _⟩ => ⟨S4x8192x256, .f32⟩
  | .hbm, ⟨27, _⟩ => ⟨S_, .f32⟩
  | .hbm, ⟨28, _⟩ => ⟨S4x8192x256, .f32⟩
  | .hbm, ⟨29, _⟩ => ⟨S4x8192x256, .f32⟩
  | .hbm, ⟨30, _⟩ => ⟨S_, .f32⟩
  | .hbm, ⟨31, _⟩ => ⟨S4x8192, .f32⟩
  | .hbm, ⟨32, _⟩ => ⟨S_, .f32⟩
  | .hbm, ⟨33, _⟩ => ⟨S4x8192, .f32⟩
  | .hbm, ⟨34, _⟩ => ⟨S4x8192, .f32⟩
  | .hbm, ⟨35, _⟩ => ⟨S4x8192x1, .f32⟩
  | .hbm, ⟨36, _⟩ => ⟨S4x8192x256, .f32⟩
  | .hbm, ⟨37, _⟩ => ⟨S4x8192x256, .f32⟩
  | .hbm, ⟨38, _⟩ => ⟨S4x8192x256, .f32⟩
  | .hbm, ⟨39, _⟩ => ⟨S_, .f32⟩
  | .hbm, ⟨40, _⟩ => ⟨S4x8192, .f32⟩
  | .hbm, ⟨41, _⟩ => ⟨S4x8192x1, .f32⟩
  | .hbm, ⟨42, _⟩ => ⟨S4x8192x256, .f32⟩
  | .hbm, ⟨43, _⟩ => ⟨S4x8192x256, .f32⟩
  | .hbm, ⟨44, _⟩ => ⟨S4x256x8192, .f32⟩
  | .hbm, ⟨45, _⟩ => ⟨S8192x4x256, .f32⟩
  | .hbm, ⟨46, _⟩ => ⟨S8192x1024, .f32⟩
  | .hbm, ⟨47, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Proof.Chunk.lean ====
/- One chunk and head of the kernel's body as functions of the blocks it loads: the same operations in the same
   order as the body, each written once, and the pieces the body stores (`pieces…_B`, `pieces…_A`) as these
   functions of what it loads. -/
module

public import proofs.«01_k».proof.Proof.Gen.KernelIdeal.Value

@[expose] public section

set_option maxRecDepth 16384

noncomputable section

namespace Cert.KernelIdeal.Chunk

open Cert.KernelIdeal Cert.KernelIdeal.Gen Idealize.ShloMosaic Idealize.ShloMosaic.TcCoe Idealize.SL.Sem

variable {F : FTy → Type} [FloatOps F]

/-! ## Constants and masks -/

/-- The bf16 ones the chunk's decay is summed against. -/
def ones16 : FVec F S64x128 .bf16 := broadcast S64x128 (Scalar.ofBits .bf16 0x3F80#16)

/-- The f32 ones the rows of `s * ds` are summed against. -/
def ones8 : FVec F S8x128 .f32 := broadcast S8x128 (Scalar.ofBits .f32 0x3F800000#32)

/-- The chunk's last row. -/
def lastRow : IVec S64x64 1 :=
  cmpi .eq (iota .tc S64x64 32 [0] iota_S64x64_d0_w32) (broadcast S64x64 63#32)

/-- Column at most row. -/
def mask : IVec S64x64 1 :=
  cmpi .sle (iota .tc S64x64 32 [1] iota_S64x64_d1_w32) (iota .tc S64x64 32 [0] iota_S64x64_d0_w32)

/-- Row at most column. -/
def maskT : IVec S64x64 1 :=
  cmpi .sge (iota .tc S64x64 32 [1] iota_S64x64_d1_w32) (iota .tc S64x64 32 [0] iota_S64x64_d0_w32)

def tri : FVec F S64x64 .bf16 := truncf .bf16 (sitofp .f32 (extui 32 mask natLt_1_32)) bitsLt_bf16_f32
def triT : FVec F S64x64 .bf16 := truncf .bf16 (sitofp .f32 (extui 32 maskT natLt_1_32)) bitsLt_bf16_f32

/-! ## The three-way split: high, middle and low part of a value -/

def hi {s : Shape} (x : FVec F s .f32) : FVec F s .bf16 := truncf .bf16 x bitsLt_bf16_f32
def rest {s : Shape} (x : FVec F s .f32) : FVec F s .f32 := subf x (extf .f32 (hi x) bitsLt_bf16_f32)

/-! ## The chunk's decays -/

/-- The running sum of the chunk's log gates, all heads. -/
def bAll (g : FVec F S64x256 .f32) : FVec F S64x256 .f32 :=
  addf (addf
    (matmul dot_S64x64_S64x256_S64x256_1_0_0_1_n_n none tri (hi g) (constant S64x256 .f32 0x00000000#32))
    (matmul dot_S64x64_S64x256_S64x256_1_0_0_1_n_n none tri (hi (rest g)) (constant S64x256 .f32 0x00000000#32)))
    (matmul dot_S64x64_S64x256_S64x256_1_0_0_1_n_n none tri (hi (rest (rest g))) (constant S64x256 .f32 0x00000000#32))

theorem slices_head (h : Fin 4) : S64x256.Slices ![0, 64 * h.val] S64x64 := by
  fin_cases h
  · exact slices_S64x256_o0_0_S64x64
  · exact slices_S64x256_o0_64_S64x64
  · exact slices_S64x256_o0_128_S64x64
  · exact slices_S64x256_o0_192_S64x64

/-- One head's columns. -/
def cols (h : Fin 4) (x : FVec F S64x256 .f32) : FVec F S64x64 .f32 :=
  extractStridedSlice S64x64 ![0, 64 * h.val] x (slices_head h)

/-- The chunk's whole decay, along the values' columns. -/
def ebl (g : FVec F S64x64 .f32) : FVec F S64x128 .f32 :=
  exp (addf (addf
    (matmul dot_S64x64_S64x128_S64x128_0_0_1_1_n_n none (hi g) ones16 (constant S64x128 .f32 0x00000000#32))
    (matmul dot_S64x64_S64x128_S64x128_0_0_1_1_n_n none (hi (rest g)) ones16 (constant S64x128 .f32 0x00000000#32)))
    (matmul dot_S64x64_S64x128_S64x128_0_0_1_1_n_n none (hi (rest (rest g))) ones16 (constant S64x128 .f32 0x00000000#32)))

def row63 (b : FVec F S64x64 .f32) : FVec F S64x64 .f32 :=
  broadcastTo S64x64 (extractStridedSlice S1x64 ![63, 0] b slices_S64x64_o63_0_S1x64) broadcasts_S1x64_S64x64
def row32 (b : FVec F S64x64 .f32) : FVec F S64x64 .f32 :=
  broadcastTo S64x64 (extractStridedSlice S1x64 ![32, 0] b slices_S64x64_o32_0_S1x64) broadcasts_S1x64_S64x64

def ekd (b : FVec F S64x64 .f32) : FVec F S64x64 .f32 := exp (subf (row63 b) b)
def eq32 (b : FVec F S64x64 .f32) : FVec F S64x64 .f32 := exp (subf b (row32 b))
def ek32 (b : FVec F S64x64 .f32) : FVec F S64x64 .f32 := exp (subf (row32 b) b)
def scl (q : FVec F S64x64 .f32) : FVec F S64x64 .f32 :=
  mulf q (broadcast S64x64 (Scalar.ofBits .f32 0x3E000000#32))

/-! ## The chunk's gradients. `q` is scaled; `b` and `g` are the head's columns of the running sums and the gates -/

def aMat (q k b : FVec F S64x64 .f32) : FVec F S64x64 .f32 :=
  select mask (matmul dot_S64x64_S64x64_S64x64_1_1_0_0_n_n none (hi (mulf q (eq32 b))) (hi (mulf k (ek32 b)))
    (constant S64x64 .f32 0x00000000#32)) (broadcast S64x64 (Scalar.ofBits .f32 0x00000000#32))

def dMat (v o : FVec F S64x128 .f32) : FVec F S64x64 .f32 :=
  select mask (matmul dot_S64x128_S64x128_S64x64_1_1_0_0_n_n none (hi o) (hi v) (constant S64x64 .f32 0x00000000#32))
    (broadcast S64x64 (Scalar.ofBits .f32 0x00000000#32))

def dq (k b : FVec F S64x64 .f32) (v o s : FVec F S64x128 .f32) : FVec F S64x64 .f32 :=
  addf (mulf (matmul dot_S64x128_S64x128_S64x64_1_1_0_0_n_n none (hi o) (hi s) (constant S64x64 .f32 0x00000000#32)) (exp b))
    (mulf (matmul dot_S64x64_S64x64_S64x64_1_0_0_1_n_n none (hi (dMat v o)) (hi (mulf k (ek32 b)))
      (constant S64x64 .f32 0x00000000#32)) (eq32 b))

def dk0 (b : FVec F S64x64 .f32) (v d : FVec F S64x128 .f32) : FVec F S64x64 .f32 :=
  mulf (matmul dot_S64x128_S64x128_S64x64_1_1_0_0_n_n none (hi v) (hi d) (constant S64x64 .f32 0x00000000#32)) (ekd b)

def dk (q b : FVec F S64x64 .f32) (v o d : FVec F S64x128 .f32) : FVec F S64x64 .f32 :=
  addf (dk0 b v d)
    (mulf (matmul dot_S64x64_S64x64_S64x64_0_0_1_1_n_n none (hi (dMat v o)) (hi (mulf q (eq32 b)))
      (constant S64x64 .f32 0x00000000#32)) (ek32 b))

def dv (q k b : FVec F S64x64 .f32) (o d : FVec F S64x128 .f32) : FVec F S64x128 .f32 :=
  addf (matmul dot_S64x64_S64x128_S64x128_1_0_0_1_n_n none (hi (mulf k (ekd b))) (hi d) (constant S64x128 .f32 0x00000000#32))
    (matmul dot_S64x64_S64x128_S64x128_0_0_1_1_n_n none (hi (aMat q k b)) (hi o) (constant S64x128 .f32 0x00000000#32))

/-- The sum of `x` along its columns, by the ones' rows. -/
def sum8 (x : FVec F S64x128 .f32) : FVec F S8x64 .f32 :=
  addf (matmul dot_S8x128_S64x128_S8x64_1_1_0_0_n_n none (hi ones8) (hi x) (constant S8x64 .f32 0x00000000#32))
    (addf (matmul dot_S8x128_S64x128_S8x64_1_1_0_0_n_n none (hi ones8) (hi (rest x)) (constant S8x64 .f32 0x00000000#32))
      (matmul dot_S8x128_S64x128_S8x64_1_1_0_0_n_n none (hi (rest ones8)) (hi x) (constant S8x64 .f32 0x00000000#32)))

def dbl (k b g : FVec F S64x64 .f32) (v s d : FVec F S64x128 .f32) : FVec F S1x64 .f32 :=
  addf (shapeCast S1x64 (multiReduction .add [0] S64 (mulf (dk0 b v d) k) 0x00000000#32 reduces_S64x64_S64 (.inl rfl) rfl)
      shapeCasts_S64_S1x64)
    (extractStridedSlice S1x64 ![0, 0] (sum8 (mulf (mulf (ebl g) s) d)) slices_S8x64_o0_0_S1x64)

def db (q k b g : FVec F S64x64 .f32) (v o s d : FVec F S64x128 .f32) : FVec F S64x64 .f32 :=
  addf (subf (mulf q (dq k b v o s)) (mulf k (dk q b v o d)))
    (select lastRow (broadcastTo S64x64 (shapeCast S1x64 (dbl k b g v s d) shapeCasts_S1x64_S1x64) broadcasts_S1x64_S64x64)
      (broadcast S64x64 (Scalar.ofBits .f32 0x00000000#32)))

/-- The reverse running sum inside the chunk. -/
def revSum (x : FVec F S64x64 .f32) : FVec F S64x64 .f32 :=
  addf (addf
    (matmul dot_S64x64_S64x64_S64x64_1_0_0_1_n_n none triT (hi x) (constant S64x64 .f32 0x00000000#32))
    (matmul dot_S64x64_S64x64_S64x64_1_0_0_1_n_n none triT (hi (rest x)) (constant S64x64 .f32 0x00000000#32)))
    (matmul dot_S64x64_S64x64_S64x64_1_0_0_1_n_n none triT (hi (rest (rest x))) (constant S64x64 .f32 0x00000000#32))

def dg (q k b g : FVec F S64x64 .f32) (v o s d : FVec F S64x128 .f32) : FVec F S64x64 .f32 :=
  revSum (db q k b g v o s d)

/-- The gradient of the state before the chunk. -/
def ds (q b g : FVec F S64x64 .f32) (o d : FVec F S64x128 .f32) : FVec F S64x128 .f32 :=
  addf (matmul dot_S64x64_S64x128_S64x128_0_0_1_1_n_n none (hi (mulf q (exp b))) (hi o) (constant S64x128 .f32 0x00000000#32))
    (mulf (ebl g) d)

end Cert.KernelIdeal.Chunk
-- ==== Proof.Pieces.lean ====
/- What the body stores, as pieces: one chunk and head at a time the functions of `Chunk` of what it loads. -/
module

public import proofs.«01_k».proof.Proof.Chunk

@[expose] public section

set_option maxRecDepth 65536

noncomputable section

namespace Cert.KernelIdeal.Chunk

open Cert.KernelIdeal Cert.KernelIdeal.Gen Idealize.ShloMosaic Idealize.ShloMosaic.TcCoe Idealize.SL.Sem

variable {F : FTy → Type} [FloatOps F]

/-! ## The rectangles the body loads and stores -/

theorem inbA (ci h : Fin 4) : ∀ a, (![64 * ci.val, 64 * h.val] : Fin 2 → Nat) a + S64x64.size a ≤ S256x256.size a := by
  intro a; fin_cases a <;> simp <;> omega
theorem inbB (ci h : Fin 4) : ∀ a, (![64 * ci.val, 128 * h.val] : Fin 2 → Nat) a + S64x128.size a ≤ S256x512.size a := by
  intro a; fin_cases a <;> simp <;> omega
theorem inbG (ci : Fin 4) : ∀ a, (![64 * ci.val, 0] : Fin 2 → Nat) a + S64x256.size a ≤ S256x256.size a := by
  intro a; fin_cases a <;> simp <;> omega
theorem inbS (ci h : Fin 4) : ∀ a, (![ci.val, h.val, 0, 0] : Fin 4 → Nat) a + S1x1x64x128.size a ≤ S4x4x64x128.size a := by
  intro a; fin_cases a <;> simp <;> omega
theorem inbD (h : Fin 4) : ∀ a, (![h.val, 0, 0] : Fin 3 → Nat) a + S1x64x128.size a ≤ S4x64x128.size a := by
  intro a; fin_cases a <;> simp <;> omega

abbrev rA (ci h : Fin 4) : Rect S256x256 := Rect.unit ![64 * ci.val, 64 * h.val] S64x64.size (inbA ci h)
abbrev rB (ci h : Fin 4) : Rect S256x512 := Rect.unit ![64 * ci.val, 128 * h.val] S64x128.size (inbB ci h)
abbrev rG (ci : Fin 4) : Rect S256x256 := Rect.unit ![64 * ci.val, 0] S64x256.size (inbG ci)
abbrev rS (ci h : Fin 4) : Rect S4x4x64x128 := Rect.unit ![ci.val, h.val, 0, 0] S1x1x64x128.size (inbS ci h)
abbrev rD (h : Fin 4) : Rect S4x64x128 := Rect.unit ![h.val, 0, 0] S1x64x128.size (inbD h)

/-- What a load of the rectangle `R` reads. -/
def rd {s : Shape} (arg : Memref sig .tc .vmem s .f32) (harg : arg.IsWhole) (x : Vec F s .f32) (R : Rect s) :
    R.shape.Idx → Elt F .f32 := View.readAt (Elt F) arg.view R.toLoadRect (harg.unread x)

/-! ## What the body loads, by chunk and head, and what it stores -/

/-- The blocks the body loads: queries, keys, values, log gates, incoming gradient, saved states; and the state's
    gradient it finds in its scratch. -/
structure Blocks (F : FTy → Type) where
  q : Fin 4 → Fin 4 → FVec F S64x64 .f32
  k : Fin 4 → Fin 4 → FVec F S64x64 .f32
  v : Fin 4 → Fin 4 → FVec F S64x128 .f32
  g : Fin 4 → FVec F S64x256 .f32
  o : Fin 4 → Fin 4 → FVec F S64x128 .f32
  s : Fin 4 → Fin 4 → FVec F S1x1x64x128 .f32
  d : Fin 4 → FVec F S1x64x128 .f32

variable (B : Blocks F) (ci h : Fin 4)

namespace Blocks

/-- The state's gradient before chunk `ci` from the one after it. -/
def next (d : FVec F S64x128 .f32) : FVec F S64x128 .f32 :=
  ds (scl (B.q ci h)) (cols h (bAll (B.g ci))) (cols h (B.g ci)) (B.o ci h) d

def d3 : FVec F S64x128 .f32 := shapeCast S64x128 (B.d h) shapeCasts_S1x64x128_S64x128
def d2 : FVec F S64x128 .f32 := B.next 3 h (B.d3 h)
def d1 : FVec F S64x128 .f32 := B.next 2 h (B.d2 h)
def d0 : FVec F S64x128 .f32 := B.next 1 h (B.d1 h)

/-- The state's gradient after chunk `ci`. -/
def da : FVec F S64x128 .f32 := ![B.d0 h, B.d1 h, B.d2 h, B.d3 h] ci

/-- The saved state of chunk `ci`. -/
def st : FVec F S64x128 .f32 := shapeCast S64x128 (B.s ci h) shapeCasts_S1x1x64x128_S64x128

def outQ : FVec F S64x64 .f32 :=
  scl (dq (B.k ci h) (cols h (bAll (B.g ci))) (B.v ci h) (B.o ci h) (B.st ci h))
def outK : FVec F S64x64 .f32 :=
  dk (scl (B.q ci h)) (cols h (bAll (B.g ci))) (B.v ci h) (B.o ci h) (B.da ci h)
def outV : FVec F S64x128 .f32 :=
  dv (scl (B.q ci h)) (B.k ci h) (cols h (bAll (B.g ci))) (B.o ci h) (B.da ci h)
def outG : FVec F S64x64 .f32 :=
  dg (scl (B.q ci h)) (B.k ci h) (cols h (bAll (B.g ci))) (cols h (B.g ci)) (B.v ci h) (B.o ci h) (B.st ci h) (B.da ci h)
def outD : FVec F S1x64x128 .f32 := shapeCast S1x64x128 (B.next 0 h (B.d0 h)) shapeCasts_S64x128_S1x64x128

end Blocks

def piecesQ : List (View.Piece (Elt F) S256x256 .f32) :=
  [⟨rA 0 3, B.outQ 0 3⟩, ⟨rA 0 2, B.outQ 0 2⟩, ⟨rA 0 1, B.outQ 0 1⟩, ⟨rA 0 0, B.outQ 0 0⟩,
   ⟨rA 1 3, B.outQ 1 3⟩, ⟨rA 1 2, B.outQ 1 2⟩, ⟨rA 1 1, B.outQ 1 1⟩, ⟨rA 1 0, B.outQ 1 0⟩,
   ⟨rA 2 3, B.outQ 2 3⟩, ⟨rA 2 2, B.outQ 2 2⟩, ⟨rA 2 1, B.outQ 2 1⟩, ⟨rA 2 0, B.outQ 2 0⟩,
   ⟨rA 3 3, B.outQ 3 3⟩, ⟨rA 3 2, B.outQ 3 2⟩, ⟨rA 3 1, B.outQ 3 1⟩, ⟨rA 3 0, B.outQ 3 0⟩]

def piecesK : List (View.Piece (Elt F) S256x256 .f32) :=
  [⟨rA 0 3, B.outK 0 3⟩, ⟨rA 0 2, B.outK 0 2⟩, ⟨rA 0 1, B.outK 0 1⟩, ⟨rA 0 0, B.outK 0 0⟩,
   ⟨rA 1 3, B.outK 1 3⟩, ⟨rA 1 2, B.outK 1 2⟩, ⟨rA 1 1, B.outK 1 1⟩, ⟨rA 1 0, B.outK 1 0⟩,
   ⟨rA 2 3, B.outK 2 3⟩, ⟨rA 2 2, B.outK 2 2⟩, ⟨rA 2 1, B.outK 2 1⟩, ⟨rA 2 0, B.outK 2 0⟩,
   ⟨rA 3 3, B.outK 3 3⟩, ⟨rA 3 2, B.outK 3 2⟩, ⟨rA 3 1, B.outK 3 1⟩, ⟨rA 3 0, B.outK 3 0⟩]

def piecesV : List (View.Piece (Elt F) S256x512 .f32) :=
  [⟨rB 0 3, B.outV 0 3⟩, ⟨rB 0 2, B.outV 0 2⟩, ⟨rB 0 1, B.outV 0 1⟩, ⟨rB 0 0, B.outV 0 0⟩,
   ⟨rB 1 3, B.outV 1 3⟩, ⟨rB 1 2, B.outV 1 2⟩, ⟨rB 1 1, B.outV 1 1⟩, ⟨rB 1 0, B.outV 1 0⟩,
   ⟨rB 2 3, B.outV 2 3⟩, ⟨rB 2 2, B.outV 2 2⟩, ⟨rB 2 1, B.outV 2 1⟩, ⟨rB 2 0, B.outV 2 0⟩,
   ⟨rB 3 3, B.outV 3 3⟩, ⟨rB 3 2, B.outV 3 2⟩, ⟨rB 3 1, B.outV 3 1⟩, ⟨rB 3 0, B.outV 3 0⟩]

def piecesG : List (View.Piece (Elt F) S256x256 .f32) :=
  [⟨rA 0 3, B.outG 0 3⟩, ⟨rA 0 2, B.outG 0 2⟩, ⟨rA 0 1, B.outG 0 1⟩, ⟨rA 0 0, B.outG 0 0⟩,
   ⟨rA 1 3, B.outG 1 3⟩, ⟨rA 1 2, B.outG 1 2⟩, ⟨rA 1 1, B.outG 1 1⟩, ⟨rA 1 0, B.outG 1 0⟩,
   ⟨rA 2 3, B.outG 2 3⟩, ⟨rA 2 2, B.outG 2 2⟩, ⟨rA 2 1, B.outG 2 1⟩, ⟨rA 2 0, B.outG 2 0⟩,
   ⟨rA 3 3, B.outG 3 3⟩, ⟨rA 3 2, B.outG 3 2⟩, ⟨rA 3 1, B.outG 3 1⟩, ⟨rA 3 0, B.outG 3 0⟩]

def piecesD : List (View.Piece (Elt F) S4x64x128 .f32) :=
  [⟨rD 3, B.outD 3⟩, ⟨rD 2, B.outD 2⟩, ⟨rD 1, B.outD 1⟩, ⟨rD 0, B.outD 0⟩]

/-- The blocks of a point, the scratch's slices given. -/
def blocks (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S256x512 .f32) (harg5 : arg5.IsWhole) (arg6 : Memref sig .tc .vmem S4x4x64x128 .f32) (harg6 : arg6.IsWhole)
    (x0 : Vec F S256x256 .f32) (x1 : Vec F S256x256 .f32) (x2 : Vec F S256x512 .f32) (x3 : Vec F S256x256 .f32)
    (x4 : Vec F S256x512 .f32) (x5 : Vec F S4x4x64x128 .f32) (d : Fin 4 → FVec F S1x64x128 .f32) : Blocks F where
  q ci h := rd arg1 harg1 x0 (rA ci h)
  k ci h := rd arg2 harg2 x1 (rA ci h)
  v ci h := rd arg3 harg3 x2 (rB ci h)
  g ci := rd arg4 harg4 x3 (rG ci)
  o ci h := rd arg5 harg5 x4 (rB ci h)
  s ci h := rd arg6 harg6 x5 (rS ci h)
  d := d

variable (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S256x512 .f32) (harg5 : arg5.IsWhole) (arg6 : Memref sig .tc .vmem S4x4x64x128 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x512 .f32) (harg9 : arg9.IsWhole) (arg10 : Memref sig .tc .vmem S256x256 .f32) (harg10 : arg10.IsWhole) (arg11 : Memref sig .tc .vmem S4x64x128 .f32) (harg11 : arg11.IsWhole)
    (x0 : Vec F S256x256 .f32) (x1 : Vec F S256x256 .f32) (x2 : Vec F S256x512 .f32) (x3 : Vec F S256x256 .f32)
    (x4 : Vec F S256x512 .f32) (x5 : Vec F S4x4x64x128 .f32)

theorem piecesQ_B (hc0 : ¬cond0_0 i) (xs0 : Vec F S4x64x128 .f32) :
    (kernelRun0_B c i arg1 harg1 arg2 harg2 arg3 harg3 arg4 harg4 arg5 harg5 arg6 harg6 arg7 harg7 arg8 harg8 arg9 harg9 arg10 harg10 arg11 harg11 hc0 x0 x1 x2 x3 x4 x5 xs0).1 =
      piecesQ (blocks arg1 harg1 arg2 harg2 arg3 harg3 arg4 harg4 arg5 harg5 arg6 harg6 x0 x1 x2 x3 x4 x5 (fun h => rd arg11 harg11 xs0 (rD h))) := by sl_kernel_rfl

theorem piecesK_B (hc0 : ¬cond0_0 i) (xs0 : Vec F S4x64x128 .f32) :
    (kernelRun0_B c i arg1 harg1 arg2 harg2 arg3 harg3 arg4 harg4 arg5 harg5 arg6 harg6 arg7 harg7 arg8 harg8 arg9 harg9 arg10 harg10 arg11 harg11 hc0 x0 x1 x2 x3 x4 x5 xs0).2.1 =
      piecesK (blocks arg1 harg1 arg2 harg2 arg3 harg3 arg4 harg4 arg5 harg5 arg6 harg6 x0 x1 x2 x3 x4 x5 (fun h => rd arg11 harg11 xs0 (rD h))) := by sl_kernel_rfl

theorem piecesV_B (hc0 : ¬cond0_0 i) (xs0 : Vec F S4x64x128 .f32) :
    (kernelRun0_B c i arg1 harg1 arg2 harg2 arg3 harg3 arg4 harg4 arg5 harg5 arg6 harg6 arg7 harg7 arg8 harg8 arg9 harg9 arg10 harg10 arg11 harg11 hc0 x0 x1 x2 x3 x4 x5 xs0).2.2.1 =
      piecesV (blocks arg1 harg1 arg2 harg2 arg3 harg3 arg4 harg4 arg5 harg5 arg6 harg6 x0 x1 x2 x3 x4 x5 (fun h => rd arg11 harg11 xs0 (rD h))) := by sl_kernel_rfl

theorem piecesG_B (hc0 : ¬cond0_0 i) (xs0 : Vec F S4x64x128 .f32) :
    (kernelRun0_B c i arg1 harg1 arg2 harg2 arg3 harg3 arg4 harg4 arg5 harg5 arg6 harg6 arg7 harg7 arg8 harg8 arg9 harg9 arg10 harg10 arg11 harg11 hc0 x0 x1 x2 x3 x4 x5 xs0).2.2.2.1 =
      piecesG (blocks arg1 harg1 arg2 harg2 arg3 harg3 arg4 harg4 arg5 harg5 arg6 harg6 x0 x1 x2 x3 x4 x5 (fun h => rd arg11 harg11 xs0 (rD h))) := by sl_kernel_rfl

theorem piecesD_B (hc0 : ¬cond0_0 i) (xs0 : Vec F S4x64x128 .f32) :
    (kernelRun0_B c i arg1 harg1 arg2 harg2 arg3 harg3 arg4 harg4 arg5 harg5 arg6 harg6 arg7 harg7 arg8 harg8 arg9 harg9 arg10 harg10 arg11 harg11 hc0 x0 x1 x2 x3 x4 x5 xs0).2.2.2.2.1 =
      piecesD (blocks arg1 harg1 arg2 harg2 arg3 harg3 arg4 harg4 arg5 harg5 arg6 harg6 x0 x1 x2 x3 x4 x5 (fun h => rd arg11 harg11 xs0 (rD h))) := by sl_kernel_rfl

theorem piecesQ_A (hc0 : cond0_0 i) :
    (kernelRun0_A c i arg1 harg1 arg2 harg2 arg3 harg3 arg4 harg4 arg5 harg5 arg6 harg6 arg7 harg7 arg8 harg8 arg9 harg9 arg10 harg10 arg11 harg11 hc0 x0 x1 x2 x3 x4 x5).1 =
      piecesQ (blocks arg1 harg1 arg2 harg2 arg3 harg3 arg4 harg4 arg5 harg5 arg6 harg6 x0 x1 x2 x3 x4 x5 ![kernelRun0_A.sl.v8 c arg11, kernelRun0_A.sl.v10 c arg11, kernelRun0_A.sl.v12 c arg11, kernelRun0_A.sl.v14 c arg11]) := by sl_kernel_rfl

theorem piecesK_A (hc0 : cond0_0 i) :
    (kernelRun0_A c i arg1 harg1 arg2 harg2 arg3 harg3 arg4 harg4 arg5 harg5 arg6 harg6 arg7 harg7 arg8 harg8 arg9 harg9 arg10 harg10 arg11 harg11 hc0 x0 x1 x2 x3 x4 x5).2.1 =
      piecesK (blocks arg1 harg1 arg2 harg2 arg3 harg3 arg4 harg4 arg5 harg5 arg6 harg6 x0 x1 x2 x3 x4 x5 ![kernelRun0_A.sl.v8 c arg11, kernelRun0_A.sl.v10 c arg11, kernelRun0_A.sl.v12 c arg11, kernelRun0_A.sl.v14 c arg11]) := by sl_kernel_rfl

theorem piecesV_A (hc0 : cond0_0 i) :
    (kernelRun0_A c i arg1 harg1 arg2 harg2 arg3 harg3 arg4 harg4 arg5 harg5 arg6 harg6 arg7 harg7 arg8 harg8 arg9 harg9 arg10 harg10 arg11 harg11 hc0 x0 x1 x2 x3 x4 x5).2.2.1 =
      piecesV (blocks arg1 harg1 arg2 harg2 arg3 harg3 arg4 harg4 arg5 harg5 arg6 harg6 x0 x1 x2 x3 x4 x5 ![kernelRun0_A.sl.v8 c arg11, kernelRun0_A.sl.v10 c arg11, kernelRun0_A.sl.v12 c arg11, kernelRun0_A.sl.v14 c arg11]) := by sl_kernel_rfl

theorem piecesG_A (hc0 : cond0_0 i) :
    (kernelRun0_A c i arg1 harg1 arg2 harg2 arg3 harg3 arg4 harg4 arg5 harg5 arg6 harg6 arg7 harg7 arg8 harg8 arg9 harg9 arg10 harg10 arg11 harg11 hc0 x0 x1 x2 x3 x4 x5).2.2.2.1 =
      piecesG (blocks arg1 harg1 arg2 harg2 arg3 harg3 arg4 harg4 arg5 harg5 arg6 harg6 x0 x1 x2 x3 x4 x5 ![kernelRun0_A.sl.v8 c arg11, kernelRun0_A.sl.v10 c arg11, kernelRun0_A.sl.v12 c arg11, kernelRun0_A.sl.v14 c arg11]) := by sl_kernel_rfl

theorem piecesD_A (hc0 : cond0_0 i) :
    (kernelRun0_A c i arg1 harg1 arg2 harg2 arg3 harg3 arg4 harg4 arg5 harg5 arg6 harg6 arg7 harg7 arg8 harg8 arg9 harg9 arg10 harg10 arg11 harg11 hc0 x0 x1 x2 x3 x4 x5).2.2.2.2.1 =
      piecesD (blocks arg1 harg1 arg2 harg2 arg3 harg3 arg4 harg4 arg5 harg5 arg6 harg6 x0 x1 x2 x3 x4 x5 ![kernelRun0_A.sl.v8 c arg11, kernelRun0_A.sl.v10 c arg11, kernelRun0_A.sl.v12 c arg11, kernelRun0_A.sl.v14 c arg11]) ++ kernelRun0_A.sl.HS0_1 := by sl_kernel_rfl

end Cert.KernelIdeal.Chunk
-- ==== Proof.Lift.lean ====
/- Blocks of real numbers: a block of extended reals all of whose entries are real, given by a function of the row and
   column as natural numbers, and what the chunk's operations do to such blocks. -/
module

public import proofs.«01_k».proof.Proof.Chunk
public import Idealize.ShloMosaic.Lib.Pointwise
public import Idealize.ShloMosaic.Lib.IdealHost

@[expose] public section

set_option maxRecDepth 16384

open Finset

noncomputable section

namespace Cert.KernelIdeal.Chunk

open Cert.KernelIdeal Cert.KernelIdeal.Gen Idealize.ShloMosaic Idealize.ShloMosaic.TcCoe Idealize.SL.Sem

/-- The block whose entry at row `i` and column `j` is the real number `f i j`. -/
def up2 {m n : ℕ} {φ : FTy} (f : ℕ → ℕ → ℝ) : FVec Ideal ⟨2, ![m, n]⟩ φ := fun y => ((f (y 0).val (y 1).val : ℝ) : EReal)

theorem up2_congr {m n : ℕ} {φ : FTy} {f g : ℕ → ℕ → ℝ} (h : ∀ i < m, ∀ j < n, f i j = g i j) :
    (up2 f : FVec Ideal ⟨2, ![m, n]⟩ φ) = up2 g :=
  funext fun y => congrArg _ (h _ (y 0).isLt _ (y 1).isLt)

theorem coe_sum_fin {n : ℕ} (f : ℕ → ℝ) : (∑ k : Fin n, ((f k.val : ℝ) : EReal)) = ((∑ k ∈ range n, f k : ℝ) : EReal) := by
  rw [← Fin.sum_univ_eq_sum_range]
  exact (map_sum (⟨⟨Real.toEReal, EReal.coe_zero⟩, EReal.coe_add⟩ : ℝ →+ EReal) _ _).symm

variable {m n : ℕ} {φ : FTy} (f g : ℕ → ℕ → ℝ)

theorem addf_up2 : addf (up2 f : FVec Ideal ⟨2, ![m, n]⟩ φ) (up2 g) = up2 fun i j => f i j + g i j :=
  funext fun _ => (EReal.coe_add _ _).symm
theorem subf_up2 : subf (up2 f : FVec Ideal ⟨2, ![m, n]⟩ φ) (up2 g) = up2 fun i j => f i j - g i j :=
  funext fun _ => (EReal.coe_sub _ _).symm
theorem mulf_up2 : mulf (up2 f : FVec Ideal ⟨2, ![m, n]⟩ φ) (up2 g) = up2 fun i j => f i j * g i j :=
  funext fun _ => (EReal.coe_mul _ _).symm
theorem exp_up2 : exp (up2 f : FVec Ideal ⟨2, ![m, n]⟩ φ) = up2 fun i j => Real.exp (f i j) :=
  funext fun _ => rfl
theorem hi_up2 : hi (up2 f : FVec Ideal ⟨2, ![m, n]⟩ .f32) = up2 f := rfl
theorem rest_up2 : rest (up2 f : FVec Ideal ⟨2, ![m, n]⟩ .f32) = up2 fun _ _ => 0 :=
  funext fun _ => by
    show ((_ : ℝ) : EReal) - ((_ : ℝ) : EReal) = _
    rw [← EReal.coe_sub, sub_self]; rfl

theorem ones16_up2 : (ones16 : FVec Ideal S64x128 .bf16) = up2 fun _ _ => 1 :=
  funext fun _ => Ideal.ofBits_one_bf16
theorem ones8_up2 : (ones8 : FVec Ideal S8x128 .f32) = up2 fun _ _ => 1 :=
  funext fun _ => Ideal.ofBits_one_f32
theorem zeros_up2 : (broadcast S64x64 (Scalar.ofBits .f32 0x00000000#32) : FVec Ideal S64x64 .f32) = up2 fun _ _ => 0 :=
  funext fun _ => Ideal.ofBits_zero_f32

theorem ofBits_eighth : Ideal.ofBits .f32 0x3E000000#32 = ((1 / 8 : ℝ) : EReal) := by
  simp [Ideal.ofBits, Ideal.ieee, -EReal.coe_mul]; norm_num

theorem eighth_up2 : (broadcast S64x64 (Scalar.ofBits .f32 0x3E000000#32) : FVec Ideal S64x64 .f32) = up2 fun _ _ => 1 / 8 :=
  funext fun _ => ofBits_eighth

theorem up2_apply (a : Fin m) (b : Fin n) : (up2 f : FVec Ideal ⟨2, ![m, n]⟩ φ) (ix2 a b) = ((f a.val b.val : ℝ) : EReal) := rfl

/-! ## The masks -/

theorem sle_small : ∀ a b : Fin 64, IntOp.cmpi .sle (BitVec.ofNat 32 b.val) (BitVec.ofNat 32 a.val) =
    if b.val ≤ a.val then 1#1 else 0#1 := by decide +kernel
theorem sge_small : ∀ a b : Fin 64, IntOp.cmpi .sge (BitVec.ofNat 32 b.val) (BitVec.ofNat 32 a.val) =
    if a.val ≤ b.val then 1#1 else 0#1 := by decide +kernel
theorem eq_small : ∀ a : Fin 64, IntOp.cmpi .eq (BitVec.ofNat 32 a.val) 63#32 =
    if a.val = 63 then 1#1 else 0#1 := by decide +kernel

theorem mask_apply (a b : Fin 64) : mask (ix2 a b) = if b.val ≤ a.val then 1#1 else 0#1 := by
  unfold mask
  pointwise
  exact sle_small a b
theorem maskT_apply (a b : Fin 64) : maskT (ix2 a b) = if a.val ≤ b.val then 1#1 else 0#1 := by
  unfold maskT
  pointwise
  exact sge_small a b
theorem lastRow_apply (a b : Fin 64) : lastRow (ix2 a b) = if a.val = 63 then 1#1 else 0#1 := by
  unfold lastRow
  pointwise
  exact eq_small a

theorem select_mask : select mask (up2 f : FVec Ideal S64x64 .f32) (up2 g) = up2 fun i j => if j ≤ i then f i j else g i j := by
  funext y
  idx_vars y
  show Scalar.select (mask (ix2 y0 y1)) _ _ = _
  rw [mask_apply]
  simp only [up2_apply, Scalar.select]
  split_ifs <;> simp_all

theorem select_lastRow : select lastRow (up2 f : FVec Ideal S64x64 .f32) (up2 g) = up2 fun i j => if i = 63 then f i j else g i j := by
  funext y
  idx_vars y
  show Scalar.select (lastRow (ix2 y0 y1)) _ _ = _
  rw [lastRow_apply]
  simp only [up2_apply, Scalar.select]
  split_ifs <;> simp_all

theorem sitofp_one : FloatOps.sitofp (F := Ideal) .f32 (1#32) = 1 := by
  show (((1#32).toInt : ℝ) : EReal) = 1
  norm_num
theorem sitofp_zero : FloatOps.sitofp (F := Ideal) .f32 (0#32) = 0 := by
  show (((0#32).toInt : ℝ) : EReal) = 0
  norm_num

theorem tri_up2 : (tri : FVec Ideal S64x64 .bf16) = up2 fun i j => if j ≤ i then 1 else 0 := by
  funext y
  idx_vars y
  unfold tri
  pointwise
  rw [mask_apply, up2_apply]
  split_ifs <;> simp [sitofp_one, sitofp_zero]

theorem triT_up2 : (triT : FVec Ideal S64x64 .bf16) = up2 fun i j => if i ≤ j then 1 else 0 := by
  funext y
  idx_vars y
  unfold triT
  pointwise
  rw [maskT_apply, up2_apply]
  split_ifs <;> simp [sitofp_one, sitofp_zero]

/-! ## Rows, columns and sums -/

theorem cols_up2 (h : Fin 4) : cols h (up2 f : FVec Ideal S64x256 .f32) = up2 fun i j => f i (64 * h.val + j) := by
  funext y
  idx_vars y
  fin_cases h <;> (unfold cols; pointwise; simp [up2]; try (congr 1; omega))

theorem row63_up2 : row63 (up2 f : FVec Ideal S64x64 .f32) = up2 fun _ j => f 63 j := by
  funext y
  idx_vars y
  unfold row63
  pointwise
  rfl

theorem row32_up2 : row32 (up2 f : FVec Ideal S64x64 .f32) = up2 fun _ j => f 32 j := by
  funext y
  idx_vars y
  unfold row32
  pointwise
  rfl

theorem colSum_up2 : shapeCast S1x64 (multiReduction .add [0] S64 (up2 f : FVec Ideal S64x64 .f32) 0x00000000#32
      reduces_S64x64_S64 (.inl rfl) rfl) shapeCasts_S64_S1x64 = (up2 fun _ j => ∑ k ∈ range 64, f k j : FVec Ideal S1x64 .f32) := by
  funext y
  idx_vars y
  pointwise
  simp only [up2_apply]
  exact coe_sum_fin fun k => f k y1.val

theorem slice8_up2 : extractStridedSlice S1x64 ![0, 0] (up2 f : FVec Ideal S8x64 .f32) slices_S8x64_o0_0_S1x64 =
    (up2 f : FVec Ideal S1x64 .f32) := by
  funext y
  idx_vars y
  pointwise
  simp [up2]

theorem spread_up2 : broadcastTo S64x64 (shapeCast S1x64 (up2 f : FVec Ideal S1x64 .f32) shapeCasts_S1x64_S1x64) broadcasts_S1x64_S64x64 =
    (up2 fun _ j => f 0 j : FVec Ideal S64x64 .f32) := by
  funext y
  idx_vars y
  pointwise
  rfl

/-! ## The products -/

theorem matmul_256 :
    matmul dot_S64x64_S64x256_S64x256_1_0_0_1_n_n none (up2 f : FVec Ideal S64x64 .bf16) (up2 g : FVec Ideal S64x256 .bf16)
      (constant S64x256 .f32 0x00000000#32) = up2 fun i j => ∑ k ∈ range 64, f i k * g k j := by
  funext y
  idx_vars y
  pointwise
  simp only [up2_apply, ← EReal.coe_mul]
  exact coe_sum_fin fun k => f y0.val k * g k y1.val

theorem matmul_nn128 :
    matmul dot_S64x64_S64x128_S64x128_1_0_0_1_n_n none (up2 f : FVec Ideal S64x64 .bf16) (up2 g : FVec Ideal S64x128 .bf16)
      (constant S64x128 .f32 0x00000000#32) = up2 fun i j => ∑ k ∈ range 64, f i k * g k j := by
  funext y
  idx_vars y
  pointwise
  simp only [up2_apply, ← EReal.coe_mul]
  exact coe_sum_fin fun k => f y0.val k * g k y1.val

theorem matmul_tn128 :
    matmul dot_S64x64_S64x128_S64x128_0_0_1_1_n_n none (up2 f : FVec Ideal S64x64 .bf16) (up2 g : FVec Ideal S64x128 .bf16)
      (constant S64x128 .f32 0x00000000#32) = up2 fun i j => ∑ k ∈ range 64, f k i * g k j := by
  funext y
  idx_vars y
  pointwise
  simp only [up2_apply, ← EReal.coe_mul]
  exact coe_sum_fin fun k => f k y0.val * g k y1.val

theorem matmul_nt128 :
    matmul dot_S64x128_S64x128_S64x64_1_1_0_0_n_n none (up2 f : FVec Ideal S64x128 .bf16) (up2 g : FVec Ideal S64x128 .bf16)
      (constant S64x64 .f32 0x00000000#32) = up2 fun i j => ∑ k ∈ range 128, f i k * g j k := by
  funext y
  idx_vars y
  pointwise
  simp only [up2_apply, ← EReal.coe_mul]
  exact coe_sum_fin fun k => f y0.val k * g y1.val k

theorem matmul_ones8 :
    matmul dot_S8x128_S64x128_S8x64_1_1_0_0_n_n none (up2 f : FVec Ideal S8x128 .bf16) (up2 g : FVec Ideal S64x128 .bf16)
      (constant S8x64 .f32 0x00000000#32) = up2 fun i j => ∑ k ∈ range 128, f i k * g j k := by
  funext y
  idx_vars y
  pointwise
  simp only [up2_apply, ← EReal.coe_mul]
  exact coe_sum_fin fun k => f y0.val k * g y1.val k

theorem matmul_nt64 :
    matmul dot_S64x64_S64x64_S64x64_1_1_0_0_n_n none (up2 f : FVec Ideal S64x64 .bf16) (up2 g : FVec Ideal S64x64 .bf16)
      (constant S64x64 .f32 0x00000000#32) = up2 fun i j => ∑ k ∈ range 64, f i k * g j k := by
  funext y
  idx_vars y
  pointwise
  simp only [up2_apply, ← EReal.coe_mul]
  exact coe_sum_fin fun k => f y0.val k * g y1.val k

theorem matmul_nn64 :
    matmul dot_S64x64_S64x64_S64x64_1_0_0_1_n_n none (up2 f : FVec Ideal S64x64 .bf16) (up2 g : FVec Ideal S64x64 .bf16)
      (constant S64x64 .f32 0x00000000#32) = up2 fun i j => ∑ k ∈ range 64, f i k * g k j := by
  funext y
  idx_vars y
  pointwise
  simp only [up2_apply, ← EReal.coe_mul]
  exact coe_sum_fin fun k => f y0.val k * g k y1.val

theorem matmul_tn64 :
    matmul dot_S64x64_S64x64_S64x64_0_0_1_1_n_n none (up2 f : FVec Ideal S64x64 .bf16) (up2 g : FVec Ideal S64x64 .bf16)
      (constant S64x64 .f32 0x00000000#32) = up2 fun i j => ∑ k ∈ range 64, f k i * g k j := by
  funext y
  idx_vars y
  pointwise
  simp only [up2_apply, ← EReal.coe_mul]
  exact coe_sum_fin fun k => f k y0.val * g k y1.val

end Cert.KernelIdeal.Chunk
-- ==== Proof.Gla.lean ====
/- The gradient of gated linear attention over the reals, for one head: the quadratic form the reference
   differentiates, and the chunked form of the kernel, which meets it chunk by chunk.

   Rows are natural numbers: `q t d` (already scaled), `k t d`, the log gates `g t d`, the values `v t e` and the
   incoming gradient `o t e`. A chunk has 64 rows. -/
module

public import Mathlib.Analysis.SpecialFunctions.Exp

@[expose] public section

open Finset

noncomputable section

namespace Gla

variable (T : ℕ) (q k g v o : ℕ → ℕ → ℝ)

/-- The running sum of the log gates up to and including row `t`. -/
def cum (t d : ℕ) : ℝ := ∑ s ∈ range (t + 1), g s d

/-- The running sum of the log gates before chunk `n`. -/
def start (n d : ℕ) : ℝ := ∑ s ∈ range (64 * n), g s d

/-- How much of row `s` is left at row `t`, channel `d`. -/
def decay (t s d : ℕ) : ℝ := if s ≤ t then Real.exp (cum g t d - cum g s d) else 0

/-- The attention weight of row `t` on row `s`. -/
def att (t s : ℕ) : ℝ := ∑ d ∈ range 64, q t d * k s d * decay g t s d

/-- The gradient of the attention weight. -/
def datt (t s : ℕ) : ℝ := ∑ e ∈ range 128, o t e * v s e

/-- One summand of the gate's gradient: the weight's gradient times its term. -/
def flow (t s d : ℕ) : ℝ := datt v o t s * (q t d * k s d * decay g t s d)

/-- The gradient with respect to the values. -/
def refV (s e : ℕ) : ℝ := ∑ t ∈ range T, att q k g t s * o t e

/-- The gradient with respect to the scaled queries. -/
def refQ (t d : ℕ) : ℝ := ∑ s ∈ range T, datt v o t s * (k s d * decay g t s d)

/-- The gradient with respect to the keys. -/
def refK (s d : ℕ) : ℝ := ∑ t ∈ range T, datt v o t s * (q t d * decay g t s d)

/-- The gradient with respect to the running sums. -/
def refC (t d : ℕ) : ℝ := ∑ s ∈ range T, flow q k g v o t s d - ∑ s ∈ range T, flow q k g v o s t d

/-- The gradient with respect to the log gates: the reverse running sum of `refC`. -/
def refG (t d : ℕ) : ℝ := ∑ u ∈ Ico t T, refC T q k g v o u d

/-- The state the rows before chunk `n` leave. -/
def state (n d e : ℕ) : ℝ := ∑ s ∈ range (64 * n), Real.exp (start g n d - cum g s d) * k s d * v s e

/-- The gradient of the state the rows of chunk `n` and before leave, from the rows after. -/
def dstate (n d e : ℕ) : ℝ :=
  ∑ t ∈ Ico (64 * (n + 1)) T, Real.exp (cum g t d - start g (n + 1) d) * q t d * o t e

/-- The running sum of the log gates inside chunk `n`. -/
def loc (n i d : ℕ) : ℝ := ∑ j ∈ range (i + 1), g (64 * n + j) d

/-- The whole log gate of chunk `n`. -/
def tot (n d : ℕ) : ℝ := ∑ j ∈ range 64, g (64 * n + j) d

theorem cum_eq (n i d : ℕ) : cum g (64 * n + i) d = start g n d + loc g n i d := by
  unfold cum start loc
  rw [add_assoc, sum_range_add]

theorem start_succ (n d : ℕ) : start g (n + 1) d = start g n d + tot g n d := by
  unfold start tot
  rw [show 64 * (n + 1) = 64 * n + 64 by ring, sum_range_add]

theorem loc_last (n d : ℕ) : loc g n 63 d = tot g n d := rfl

/-! ## The kernel's chunk -/

/-- The weight of row `i` on row `j` of chunk `n`, about the chunk's row 32. -/
def inA (n i j : ℕ) : ℝ :=
  if j ≤ i then ∑ d ∈ range 64, (q (64 * n + i) d * Real.exp (loc g n i d - loc g n 32 d)) *
    (k (64 * n + j) d * Real.exp (loc g n 32 d - loc g n j d)) else 0

/-- The gradient of that weight. -/
def inD (n i j : ℕ) : ℝ := if j ≤ i then datt v o (64 * n + i) (64 * n + j) else 0

/-- The kernel's gradient of the scaled queries. -/
def chQ (S : ℕ → ℕ → ℝ) (n i d : ℕ) : ℝ :=
  (∑ e ∈ range 128, o (64 * n + i) e * S d e) * Real.exp (loc g n i d) +
    (∑ j ∈ range 64, inD v o n i j * (k (64 * n + j) d * Real.exp (loc g n 32 d - loc g n j d))) *
      Real.exp (loc g n i d - loc g n 32 d)

/-- The part of the keys' gradient that comes through the state. -/
def chK0 (D : ℕ → ℕ → ℝ) (n j d : ℕ) : ℝ :=
  (∑ e ∈ range 128, v (64 * n + j) e * D d e) * Real.exp (loc g n 63 d - loc g n j d)

/-- The kernel's gradient of the keys. -/
def chK (D : ℕ → ℕ → ℝ) (n j d : ℕ) : ℝ :=
  chK0 g v D n j d +
    (∑ i ∈ range 64, inD v o n i j * (q (64 * n + i) d * Real.exp (loc g n i d - loc g n 32 d))) *
      Real.exp (loc g n 32 d - loc g n j d)

/-- The kernel's gradient of the values. -/
def chV (D : ℕ → ℕ → ℝ) (n j e : ℕ) : ℝ :=
  (∑ d ∈ range 64, (k (64 * n + j) d * Real.exp (loc g n 63 d - loc g n j d)) * D d e) +
    ∑ i ∈ range 64, inA q k g n i j * o (64 * n + i) e

/-- The kernel's gradient of the chunk's last running sum. -/
def chL (S D : ℕ → ℕ → ℝ) (n d : ℕ) : ℝ :=
  (∑ j ∈ range 64, chK0 g v D n j d * k (64 * n + j) d) +
    ∑ e ∈ range 128, Real.exp (tot g n d) * S d e * D d e

/-- The kernel's gradient of the log gates. -/
def chG (S D : ℕ → ℕ → ℝ) (n i d : ℕ) : ℝ :=
  ∑ j ∈ range 64, (if i ≤ j then 1 else 0) *
    (q (64 * n + j) d * chQ k g v o S n j d - k (64 * n + j) d * chK q g v o D n j d +
      if j = 63 then chL k g v S D n d else 0)

/-- The kernel's gradient of the state before the chunk. -/
def chD (D : ℕ → ℕ → ℝ) (n d e : ℕ) : ℝ :=
  (∑ i ∈ range 64, (q (64 * n + i) d * Real.exp (loc g n i d)) * o (64 * n + i) e) +
    Real.exp (tot g n d) * D d e

/-! ## The chunk against the quadratic form -/

theorem decay_of_le {t s : ℕ} (h : s ≤ t) (d : ℕ) : decay g t s d = Real.exp (cum g t d - cum g s d) := if_pos h

theorem decay_of_lt {t s : ℕ} (h : t < s) (d : ℕ) : decay g t s d = 0 := if_neg (by omega)

/-- Inside a chunk the decay is the product of the two factors about row 32. -/
theorem decay_in (n i j d : ℕ) :
    decay g (64 * n + i) (64 * n + j) d =
      if j ≤ i then Real.exp (loc g n i d - loc g n 32 d) * Real.exp (loc g n 32 d - loc g n j d) else 0 := by
  unfold decay
  simp only [add_le_add_iff_left]
  split_ifs
  · rw [← Real.exp_add, cum_eq, cum_eq]; congr 1; ring
  · rfl

theorem inA_eq (n i j : ℕ) : inA q k g n i j = att q k g (64 * n + i) (64 * n + j) := by
  unfold inA att
  simp only [decay_in]
  split_ifs
  · exact sum_congr rfl fun d _ => by ring
  · simp

/-- A sum over all rows splits into the rows before a chunk, its own, and the rows after. -/
theorem sum_split (n : ℕ) (h : 64 * (n + 1) ≤ T) (f : ℕ → ℝ) :
    ∑ t ∈ range T, f t =
      ∑ t ∈ range (64 * n), f t + ∑ i ∈ range 64, f (64 * n + i) + ∑ t ∈ Ico (64 * (n + 1)) T, f t := by
  rw [← sum_range_add_sum_Ico f h, show 64 * (n + 1) = 64 * n + 64 by ring, sum_range_add]

theorem chQ_eq (n i d : ℕ) (h : 64 * (n + 1) ≤ T) (hi : i < 64) :
    chQ k g v o (state k g v n) n i d = refQ T k g v o (64 * n + i) d := by
  unfold chQ refQ
  rw [sum_split T n h]
  have h3 : ∑ s ∈ Ico (64 * (n + 1)) T, datt v o (64 * n + i) s * (k s d * decay g (64 * n + i) s d) = 0 :=
    sum_eq_zero fun s hs => by
      rw [decay_of_lt g (by have := (mem_Ico.mp hs).1; omega)]; simp
  rw [h3, add_zero]
  congr 1
  · unfold state datt
    simp only [sum_mul, mul_sum]
    rw [sum_comm]
    refine sum_congr rfl fun s hs => ?_
    rw [decay_of_le g (by have := mem_range.mp hs; omega), cum_eq,
      show start g n d + loc g n i d - cum g s d = (start g n d - cum g s d) + loc g n i d by ring, Real.exp_add]
    exact sum_congr rfl fun e _ => by ring
  · rw [sum_mul]
    refine sum_congr rfl fun j _ => ?_
    rw [decay_in]
    unfold inD
    split_ifs
    · ring
    · simp

theorem chK0_eq (n j d : ℕ) :
    chK0 g v (dstate T q g o n) n j d =
      ∑ t ∈ Ico (64 * (n + 1)) T, datt v o t (64 * n + j) * (q t d * Real.exp (cum g t d - cum g (64 * n + j) d)) := by
  unfold chK0 dstate datt
  simp only [sum_mul, mul_sum]
  rw [sum_comm]
  refine sum_congr rfl fun t _ => ?_
  rw [loc_last, show cum g t d - cum g (64 * n + j) d =
    (cum g t d - start g (n + 1) d) + (tot g n d - loc g n j d) by rw [cum_eq, start_succ]; ring, Real.exp_add]
  exact sum_congr rfl fun e _ => by ring

theorem chK0_flow (n j d : ℕ) (hj : j < 64) :
    chK0 g v (dstate T q g o n) n j d =
      ∑ t ∈ Ico (64 * (n + 1)) T, datt v o t (64 * n + j) * (q t d * decay g t (64 * n + j) d) := by
  rw [chK0_eq T q g v o n j d]
  refine sum_congr rfl fun t ht => ?_
  rw [decay_of_le g (by have := (mem_Ico.mp ht).1; omega)]

theorem chK_eq (n j d : ℕ) (h : 64 * (n + 1) ≤ T) (hj : j < 64) :
    chK q g v o (dstate T q g o n) n j d = refK T q g v o (64 * n + j) d := by
  unfold chK refK
  rw [sum_split T n h, chK0_flow T q g v o n j d hj]
  have h1 : ∑ t ∈ range (64 * n), datt v o t (64 * n + j) * (q t d * decay g t (64 * n + j) d) = 0 :=
    sum_eq_zero fun t ht => by
      rw [decay_of_lt g (by have := mem_range.mp ht; omega)]; simp
  rw [h1, zero_add, add_comm]
  congr 1
  rw [sum_mul]
  refine sum_congr rfl fun i _ => ?_
  rw [decay_in]
  unfold inD
  split_ifs
  · ring
  · simp

theorem chV_eq (n j e : ℕ) (h : 64 * (n + 1) ≤ T) (hj : j < 64) :
    chV q k g o (dstate T q g o n) n j e = refV T q k g o (64 * n + j) e := by
  unfold chV refV
  rw [sum_split T n h]
  have h1 : ∑ t ∈ range (64 * n), att q k g t (64 * n + j) * o t e = 0 :=
    sum_eq_zero fun t ht => by
      have ht := mem_range.mp ht
      have : att q k g t (64 * n + j) = 0 := sum_eq_zero fun d _ => by rw [decay_of_lt g (by omega)]; simp
      rw [this]; simp
  rw [h1, zero_add, add_comm]
  congr 1
  · exact sum_congr rfl fun i _ => by rw [inA_eq]
  · unfold dstate att
    simp only [sum_mul, mul_sum]
    rw [sum_comm]
    refine sum_congr rfl fun t ht => sum_congr rfl fun d _ => ?_
    rw [decay_of_le g (by have := (mem_Ico.mp ht).1; omega), loc_last,
      show cum g t d - cum g (64 * n + j) d =
        (cum g t d - start g (n + 1) d) + (tot g n d - loc g n j d) by rw [cum_eq, start_succ]; ring, Real.exp_add]
    ring

/-- The gradient of the running sum at a row is the query's share minus the key's. -/
theorem refC_eq (t d : ℕ) :
    refC T q k g v o t d = q t d * refQ T k g v o t d - k t d * refK T q g v o t d := by
  unfold refC refQ refK flow
  simp only [mul_sum]
  congr 1 <;> exact sum_congr rfl fun s _ => by ring

theorem state_dstate (n d : ℕ) :
    ∑ e ∈ range 128, Real.exp (tot g n d) * state k g v n d e * dstate T q g o n d e =
      ∑ t ∈ Ico (64 * (n + 1)) T, ∑ s ∈ range (64 * n), flow q k g v o t s d := by
  unfold state dstate flow datt
  simp only [mul_sum, sum_mul]
  rw [sum_comm]
  refine sum_congr rfl fun t ht => ?_
  rw [sum_comm]
  refine sum_congr rfl fun s hs => ?_
  rw [decay_of_le g (by have := (mem_Ico.mp ht).1; have := mem_range.mp hs; omega),
    show cum g t d - cum g s d =
      tot g n d + (start g n d - cum g s d) + (cum g t d - start g (n + 1) d) by rw [start_succ]; ring,
    Real.exp_add, Real.exp_add]
  exact sum_congr rfl fun e _ => by ring

/-- What the rows after a chunk add to the reverse running sum is what the kernel puts at the chunk's last row. -/
theorem chL_eq (n d : ℕ) (h : 64 * (n + 1) ≤ T) :
    chL k g v (state k g v n) (dstate T q g o n) n d =
      ∑ u ∈ Ico (64 * (n + 1)) T, refC T q k g v o u d := by
  unfold chL refC
  rw [state_dstate, sum_sub_distrib]
  have e1 : ∀ F : ℕ → ℕ → ℝ, ∑ u ∈ Ico (64 * (n + 1)) T, ∑ s ∈ range T, F u s =
      ∑ u ∈ Ico (64 * (n + 1)) T, ∑ s ∈ range (64 * (n + 1)), F u s +
        ∑ u ∈ Ico (64 * (n + 1)) T, ∑ s ∈ Ico (64 * (n + 1)) T, F u s := fun F => by
    rw [← sum_add_distrib]
    exact sum_congr rfl fun u _ => (sum_range_add_sum_Ico _ h).symm
  rw [e1, e1 (fun u s => flow q k g v o s u d)]
  have e2 : ∑ u ∈ Ico (64 * (n + 1)) T, ∑ s ∈ range (64 * (n + 1)), flow q k g v o s u d = 0 :=
    sum_eq_zero fun u hu => sum_eq_zero fun s hs => by
      unfold flow
      rw [decay_of_lt g (by have := (mem_Ico.mp hu).1; have := mem_range.mp hs; omega)]; simp
  have e3 : ∑ u ∈ Ico (64 * (n + 1)) T, ∑ s ∈ Ico (64 * (n + 1)) T, flow q k g v o s u d =
      ∑ u ∈ Ico (64 * (n + 1)) T, ∑ s ∈ Ico (64 * (n + 1)) T, flow q k g v o u s d := sum_comm
  rw [e2, e3, zero_add, add_sub_cancel_right]
  have e4 : ∀ u, ∑ s ∈ range (64 * (n + 1)), flow q k g v o u s d =
      ∑ s ∈ range (64 * n), flow q k g v o u s d + ∑ j ∈ range 64, flow q k g v o u (64 * n + j) d := fun u => by
    rw [show 64 * (n + 1) = 64 * n + 64 by ring, sum_range_add]
  simp only [e4]
  rw [sum_add_distrib, add_comm]
  congr 1
  rw [sum_comm]
  refine sum_congr rfl fun j hj => ?_
  rw [chK0_flow T q g v o n j d (mem_range.mp hj), sum_mul]
  exact sum_congr rfl fun t _ => by unfold flow; ring

theorem chG_eq (n i d : ℕ) (h : 64 * (n + 1) ≤ T) (hi : i < 64) :
    chG q k g v o (state k g v n) (dstate T q g o n) n i d = refG T q k g v o (64 * n + i) d := by
  unfold chG refG
  have h0 : ∀ j ∈ range 64, (if i ≤ j then (1 : ℝ) else 0) *
      (q (64 * n + j) d * chQ k g v o (state k g v n) n j d - k (64 * n + j) d * chK q g v o (dstate T q g o n) n j d +
        if j = 63 then chL k g v (state k g v n) (dstate T q g o n) n d else 0) =
      (if i ≤ j then refC T q k g v o (64 * n + j) d else 0) +
        if j = 63 then ∑ u ∈ Ico (64 * (n + 1)) T, refC T q k g v o u d else 0 := fun j hj => by
    have hj := mem_range.mp hj
    rw [chQ_eq T k g v o n j d h hj, chK_eq T q g v o n j d h hj, chL_eq T q k g v o n d h, refC_eq]
    by_cases hij : i ≤ j
    · simp [hij]
    · have : j ≠ 63 := by omega
      simp [hij, this]
  rw [sum_congr rfl h0, sum_add_distrib, sum_ite_eq' (range 64) 63, if_pos (by simp),
    ← sum_Ico_consecutive _ (show 64 * n + i ≤ 64 * (n + 1) by omega) h]
  congr 1
  rw [← sum_filter, show (range 64).filter (fun j => i ≤ j) = Ico i 64 by ext j; simp; omega,
    sum_Ico_add (fun t => refC T q k g v o t d) i 64 (64 * n)]
  congr 2 <;> ring

theorem chD_eq (n d e : ℕ) (h : 64 * (n + 2) ≤ T) :
    chD q g o (dstate T q g o (n + 1)) (n + 1) d e = dstate T q g o n d e := by
  unfold chD dstate
  rw [← sum_Ico_consecutive _ (show 64 * (n + 1) ≤ 64 * (n + 1 + 1) by omega) (show 64 * (n + 1 + 1) ≤ T by omega)]
  congr 1
  · rw [sum_Ico_eq_sum_range, show 64 * (n + 1 + 1) - 64 * (n + 1) = 64 by omega]
    refine sum_congr rfl fun i _ => ?_
    rw [cum_eq, add_sub_cancel_left]; ring
  · rw [mul_sum]
    refine sum_congr rfl fun t _ => ?_
    rw [show cum g t d - start g (n + 1) d = tot g (n + 1) d + (cum g t d - start g (n + 1 + 1) d) by
      rw [start_succ g (n + 1)]; ring, Real.exp_add]
    ring

theorem dstate_last (n d e : ℕ) (h : 64 * (n + 1) = T) : dstate T q g o n d e = 0 := by
  unfold dstate; rw [h]; simp

end Gla
-- ==== Proof.ChunkReal.lean ====
/- One chunk and head over the reals: on blocks of real numbers the functions of `Chunk` are the chunk of `Gla`. -/
module

public import proofs.«01_k».proof.Proof.Lift
public import proofs.«01_k».proof.Proof.Gla

@[expose] public section

set_option maxRecDepth 16384

open Finset

noncomputable section

namespace Cert.KernelIdeal.Chunk

open Cert.KernelIdeal Cert.KernelIdeal.Gen Idealize.ShloMosaic Idealize.ShloMosaic.TcCoe Idealize.SL.Sem

variable (q k g v o S D : ℕ → ℕ → ℝ) (n : ℕ)

/-- Rows of chunk `n`. -/
def rows (x : ℕ → ℕ → ℝ) (i j : ℕ) : ℝ := x (64 * n + i) j

theorem sum_mask (x : ℕ → ℝ) (i : ℕ) (hi : i < 64) :
    ∑ j ∈ range 64, (if j ≤ i then (1 : ℝ) else 0) * x j = ∑ j ∈ range (i + 1), x j := by
  simp only [ite_mul, one_mul, zero_mul]
  rw [← sum_filter]
  congr 1
  ext j
  simp
  omega

theorem bAll_real (x : ℕ → ℕ → ℝ) :
    bAll (up2 x : FVec Ideal S64x256 .f32) = up2 fun i j => ∑ r ∈ range (i + 1), x r j := by
  unfold bAll
  simp only [tri_up2, hi_up2, rest_up2, matmul_256, addf_up2]
  refine up2_congr fun i hi j _ => ?_
  simp only [mul_zero, sum_const_zero, add_zero, sub_self]
  exact sum_mask (fun r => x r j) i hi

theorem ebl_real : ebl (up2 (rows n g) : FVec Ideal S64x64 .f32) = up2 fun i _ => Real.exp (Gla.tot g n i) := by
  unfold ebl
  simp only [ones16_up2, hi_up2, rest_up2, matmul_tn128, addf_up2, exp_up2]
  refine up2_congr fun i hi j _ => ?_
  simp [Gla.tot, rows]

theorem ekd_real : ekd (up2 (Gla.loc g n) : FVec Ideal S64x64 .f32) =
    up2 fun i j => Real.exp (Gla.loc g n 63 j - Gla.loc g n i j) := by
  unfold ekd
  simp only [row63_up2, subf_up2, exp_up2]

theorem eq32_real : eq32 (up2 (Gla.loc g n) : FVec Ideal S64x64 .f32) =
    up2 fun i j => Real.exp (Gla.loc g n i j - Gla.loc g n 32 j) := by
  unfold eq32
  simp only [row32_up2, subf_up2, exp_up2]

theorem ek32_real : ek32 (up2 (Gla.loc g n) : FVec Ideal S64x64 .f32) =
    up2 fun i j => Real.exp (Gla.loc g n 32 j - Gla.loc g n i j) := by
  unfold ek32
  simp only [row32_up2, subf_up2, exp_up2]

theorem aMat_real : aMat (up2 (rows n q) : FVec Ideal S64x64 .f32) (up2 (rows n k)) (up2 (Gla.loc g n)) = up2 (Gla.inA q k g n) := by
  unfold aMat
  simp only [eq32_real, ek32_real, mulf_up2, hi_up2, matmul_nt64, zeros_up2, select_mask]
  rfl

theorem dMat_real : dMat (up2 (rows n v) : FVec Ideal S64x128 .f32) (up2 (rows n o)) = up2 (Gla.inD v o n) := by
  unfold dMat
  simp only [hi_up2, matmul_nt128, zeros_up2, select_mask]
  rfl

theorem dq_real : dq (up2 (rows n k) : FVec Ideal S64x64 .f32) (up2 (Gla.loc g n)) (up2 (rows n v)) (up2 (rows n o)) (up2 S) =
    up2 (Gla.chQ k g v o S n) := by
  unfold dq
  simp only [dMat_real, eq32_real, ek32_real, mulf_up2, hi_up2, matmul_nt128, matmul_nn64, exp_up2, addf_up2]
  rfl

theorem dk0_real : dk0 (up2 (Gla.loc g n) : FVec Ideal S64x64 .f32) (up2 (rows n v)) (up2 D) = up2 (Gla.chK0 g v D n) := by
  unfold dk0
  simp only [ekd_real, mulf_up2, hi_up2, matmul_nt128]
  rfl

theorem dk_real : dk (up2 (rows n q) : FVec Ideal S64x64 .f32) (up2 (Gla.loc g n)) (up2 (rows n v)) (up2 (rows n o)) (up2 D) =
    up2 (Gla.chK q g v o D n) := by
  unfold dk
  simp only [dk0_real, dMat_real, eq32_real, ek32_real, mulf_up2, hi_up2, matmul_tn64, addf_up2]
  rfl

theorem dv_real : dv (up2 (rows n q) : FVec Ideal S64x64 .f32) (up2 (rows n k)) (up2 (Gla.loc g n)) (up2 (rows n o)) (up2 D) =
    up2 (Gla.chV q k g o D n) := by
  unfold dv
  simp only [aMat_real, ekd_real, mulf_up2, hi_up2, matmul_nn128, matmul_tn128, addf_up2]
  rfl

theorem dbl_real : dbl (up2 (rows n k) : FVec Ideal S64x64 .f32) (up2 (Gla.loc g n)) (up2 (rows n g)) (up2 (rows n v)) (up2 S) (up2 D) =
    up2 fun _ j => Gla.chL k g v S D n j := by
  unfold dbl sum8
  simp only [dk0_real, ebl_real, mulf_up2, ones8_up2, hi_up2, rest_up2, matmul_ones8, addf_up2, slice8_up2]
  rw [colSum_up2, addf_up2]
  refine up2_congr fun i _ j _ => ?_
  simp [Gla.chL, rows]

theorem dg_real : dg (up2 (rows n q) : FVec Ideal S64x64 .f32) (up2 (rows n k)) (up2 (Gla.loc g n)) (up2 (rows n g))
      (up2 (rows n v)) (up2 (rows n o)) (up2 S) (up2 D) = up2 (Gla.chG q k g v o S D n) := by
  unfold dg revSum db
  simp only [dq_real, dk_real, dbl_real, spread_up2, zeros_up2, select_lastRow, mulf_up2, subf_up2, addf_up2, triT_up2,
    hi_up2, rest_up2, matmul_nn64]
  refine up2_congr fun i _ j _ => ?_
  simp only [mul_zero, sum_const_zero, add_zero]
  rfl

theorem ds_real : ds (up2 (rows n q) : FVec Ideal S64x64 .f32) (up2 (Gla.loc g n)) (up2 (rows n g)) (up2 (rows n o)) (up2 D) =
    up2 (Gla.chD q g o D n) := by
  unfold ds
  simp only [ebl_real, mulf_up2, exp_up2, hi_up2, matmul_tn128, addf_up2]
  rfl

theorem scl_real (x : ℕ → ℕ → ℝ) : scl (up2 x : FVec Ideal S64x64 .f32) = up2 fun i j => x i j * (1 / 8) := by
  unfold scl
  rw [eighth_up2, mulf_up2]

end Cert.KernelIdeal.Chunk
-- ==== Proof.Point.lean ====
/- One grid point over the reals: where the blocks it loads are real numbers, the saved states are the rows' before and
   the scratch holds the gradient of the state after the point's last chunk, the point stores the reference's gradients
   and leaves the state's gradient of the chunk before. -/
module

public import proofs.«01_k».proof.Proof.Pieces
public import proofs.«01_k».proof.Proof.ChunkReal
public import Idealize.ShloMosaic.Lib.WholeRead

@[expose] public section

set_option maxRecDepth 16384

open Finset

noncomputable section

namespace Cert.KernelIdeal.Chunk

open Cert.KernelIdeal Cert.KernelIdeal.Gen Idealize.ShloMosaic Idealize.ShloMosaic.TcCoe Idealize.SL.Sem

/-- The real arrays the gradient is taken at: queries, keys, values, log gates and the incoming gradient, rows by
    columns, the heads' columns side by side. -/
structure Data where
  Q : ℕ → ℕ → ℝ
  K : ℕ → ℕ → ℝ
  V : ℕ → ℕ → ℝ
  G : ℕ → ℕ → ℝ
  O : ℕ → ℕ → ℝ

namespace Data

variable (X : Data) (h : ℕ)

/-- One head's scaled queries. -/
def q (t d : ℕ) : ℝ := X.Q t (64 * h + d) * (1 / 8)
def k (t d : ℕ) : ℝ := X.K t (64 * h + d)
def v (t e : ℕ) : ℝ := X.V t (128 * h + e)
def g (t d : ℕ) : ℝ := X.G t (64 * h + d)
def o (t e : ℕ) : ℝ := X.O t (128 * h + e)

/-- The gradients, rows by columns. -/
def resQ (t c : ℕ) : ℝ := Gla.refQ 8192 (X.k (c / 64)) (X.g (c / 64)) (X.v (c / 64)) (X.o (c / 64)) t (c % 64) * (1 / 8)
def resK (t c : ℕ) : ℝ := Gla.refK 8192 (X.q (c / 64)) (X.g (c / 64)) (X.v (c / 64)) (X.o (c / 64)) t (c % 64)
def resV (t c : ℕ) : ℝ := Gla.refV 8192 (X.q (c / 128)) (X.k (c / 128)) (X.g (c / 128)) (X.o (c / 128)) t (c % 128)
def resG (t c : ℕ) : ℝ :=
  Gla.refG 8192 (X.q (c / 64)) (X.k (c / 64)) (X.g (c / 64)) (X.v (c / 64)) (X.o (c / 64)) t (c % 64)

/-- The state before chunk `n`, and the gradient of the state after it. -/
def st (n : ℕ) : ℕ → ℕ → ℝ := Gla.state (X.k h) (X.g h) (X.v h) n
def ds (n : ℕ) : ℕ → ℕ → ℝ := Gla.dstate 8192 (X.q h) (X.g h) (X.o h) n

end Data

/-- A block of rank 3, of rank 4, of real numbers. -/
def up3 {l m n : ℕ} {φ : FTy} (f : ℕ → ℕ → ℕ → ℝ) : FVec Ideal ⟨3, ![l, m, n]⟩ φ :=
  fun y => ((f (y 0).val (y 1).val (y 2).val : ℝ) : EReal)
def up4 {k l m n : ℕ} {φ : FTy} (f : ℕ → ℕ → ℕ → ℕ → ℝ) : FVec Ideal ⟨4, ![k, l, m, n]⟩ φ :=
  fun y => ((f (y 0).val (y 1).val (y 2).val (y 3).val : ℝ) : EReal)

/-! ## What a load reads -/

theorem rd_A (arg : Memref sig .tc .vmem S256x256 .f32) (harg : arg.IsWhole) (f : ℕ → ℕ → ℝ) (ci h : Fin 4) :
    (rd (F := Ideal) arg harg (up2 f : FVec Ideal S256x256 .f32) (rA ci h) : FVec Ideal S64x64 .f32) = (up2 fun i j => f (64 * ci.val + i) (64 * h.val + j) : FVec Ideal S64x64 .f32) := by
  funext y
  unfold rd
  rw [Memref.IsWhole.readAt_unread]
  show ((f (64 * ci.val + 1 * (y 0).val) (64 * h.val + 1 * (y 1).val) : ℝ) : EReal) = _
  simp only [one_mul]; rfl

theorem rd_B (arg : Memref sig .tc .vmem S256x512 .f32) (harg : arg.IsWhole) (f : ℕ → ℕ → ℝ) (ci h : Fin 4) :
    (rd (F := Ideal) arg harg (up2 f : FVec Ideal S256x512 .f32) (rB ci h) : FVec Ideal S64x128 .f32) = (up2 fun i j => f (64 * ci.val + i) (128 * h.val + j) : FVec Ideal S64x128 .f32) := by
  funext y
  unfold rd
  rw [Memref.IsWhole.readAt_unread]
  show ((f (64 * ci.val + 1 * (y 0).val) (128 * h.val + 1 * (y 1).val) : ℝ) : EReal) = _
  simp only [one_mul]; rfl

theorem rd_G (arg : Memref sig .tc .vmem S256x256 .f32) (harg : arg.IsWhole) (f : ℕ → ℕ → ℝ) (ci : Fin 4) :
    (rd (F := Ideal) arg harg (up2 f : FVec Ideal S256x256 .f32) (rG ci) : FVec Ideal S64x256 .f32) = (up2 fun i j => f (64 * ci.val + i) j : FVec Ideal S64x256 .f32) := by
  funext y
  unfold rd
  rw [Memref.IsWhole.readAt_unread]
  show ((f (64 * ci.val + 1 * (y 0).val) (0 + 1 * (y 1).val) : ℝ) : EReal) = _
  simp only [one_mul, zero_add]; rfl

theorem rd_S (arg : Memref sig .tc .vmem S4x4x64x128 .f32) (harg : arg.IsWhole) (f : ℕ → ℕ → ℕ → ℕ → ℝ) (ci h : Fin 4) :
    (rd (F := Ideal) arg harg (up4 f : FVec Ideal S4x4x64x128 .f32) (rS ci h) : FVec Ideal S1x1x64x128 .f32) =
      (up4 fun a b i j => f (ci.val + a) (h.val + b) i j : FVec Ideal S1x1x64x128 .f32) := by
  funext y
  unfold rd
  rw [Memref.IsWhole.readAt_unread]
  show ((f (ci.val + 1 * (y 0).val) (h.val + 1 * (y 1).val) (0 + 1 * (y 2).val) (0 + 1 * (y 3).val) : ℝ) : EReal) = _
  simp only [one_mul, zero_add]; rfl

theorem rd_D (arg : Memref sig .tc .vmem S4x64x128 .f32) (harg : arg.IsWhole) (f : ℕ → ℕ → ℕ → ℝ) (h : Fin 4) :
    (rd (F := Ideal) arg harg (up3 f : FVec Ideal S4x64x128 .f32) (rD h) : FVec Ideal S1x64x128 .f32) = (up3 fun a i j => f (h.val + a) i j : FVec Ideal S1x64x128 .f32) := by
  funext y
  unfold rd
  rw [Memref.IsWhole.readAt_unread]
  show ((f (h.val + 1 * (y 0).val) (0 + 1 * (y 1).val) (0 + 1 * (y 2).val) : ℝ) : EReal) = _
  simp only [one_mul, zero_add]; rfl

theorem cast_S (f : ℕ → ℕ → ℕ → ℕ → ℝ) :
    shapeCast S64x128 (up4 f : FVec Ideal S1x1x64x128 .f32) shapeCasts_S1x1x64x128_S64x128 = up2 fun i j => f 0 0 i j := by
  funext y
  idx_vars y
  pointwise
  rfl

theorem cast_D (f : ℕ → ℕ → ℕ → ℝ) :
    shapeCast S64x128 (up3 f : FVec Ideal S1x64x128 .f32) shapeCasts_S1x64x128_S64x128 = up2 fun i j => f 0 i j := by
  funext y
  idx_vars y
  pointwise
  rfl

theorem cast_D' (f : ℕ → ℕ → ℝ) :
    shapeCast S1x64x128 (up2 f : FVec Ideal S64x128 .f32) shapeCasts_S64x128_S1x64x128 = up3 fun _ i j => f i j := by
  funext y
  idx_vars y
  pointwise
  rfl

/-! ## The point's chunks -/

/-- The blocks a point loads are the data's: `b` is the block of 256 rows. -/
structure Blocks.Of (B : Blocks Ideal) (X : Data) (b : ℕ) : Prop where
  q : ∀ ci h, B.q ci h = up2 fun i j => X.Q (64 * (4 * b + ci.val) + i) (64 * h.val + j)
  k : ∀ ci h, B.k ci h = up2 (rows (4 * b + ci.val) (X.k h.val))
  v : ∀ ci h, B.v ci h = up2 (rows (4 * b + ci.val) (X.v h.val))
  g : ∀ ci, B.g ci = up2 fun i j => X.G (64 * (4 * b + ci.val) + i) j
  o : ∀ ci h, B.o ci h = up2 (rows (4 * b + ci.val) (X.o h.val))
  s : ∀ ci h, B.st ci h = up2 (X.st h.val (4 * b + ci.val))
  d : ∀ h, B.d3 h = up2 (X.ds h.val (4 * b + 3))

namespace Blocks.Of

variable {B : Blocks Ideal} {X : Data} {b : ℕ} (H : B.Of X b) (hb : b < 32) (ci h : Fin 4)
include H

theorem q' : scl (B.q ci h) = up2 (rows (4 * b + ci.val) (X.q h.val)) := by
  rw [H.q, scl_real]; rfl

theorem b' : cols h (bAll (B.g ci)) = up2 (Gla.loc (X.g h.val) (4 * b + ci.val)) := by
  rw [H.g, bAll_real, cols_up2]; rfl

theorem g' : cols h (B.g ci) = up2 (rows (4 * b + ci.val) (X.g h.val)) := by
  rw [H.g, cols_up2]; rfl

include hb

theorem next (n : ℕ) (hn : n + 1 = 4 * b + ci.val) (d : FVec Ideal S64x128 .f32) (hd : d = up2 (X.ds h.val (4 * b + ci.val))) :
    B.next ci h d = up2 (X.ds h.val n) := by
  have hci := ci.isLt
  unfold Blocks.next
  rw [H.q', H.b', H.g', H.o, hd, ds_real, ← hn]
  exact up2_congr fun i _ j _ => Gla.chD_eq 8192 _ _ _ n i j (by omega)

theorem d2 : B.d2 h = up2 (X.ds h.val (4 * b + 2)) := H.next hb 3 h _ rfl _ (H.d h)
theorem d1 : B.d1 h = up2 (X.ds h.val (4 * b + 1)) := H.next hb 2 h _ rfl _ (H.d2 hb h)
theorem d0 : B.d0 h = up2 (X.ds h.val (4 * b + 0)) := H.next hb 1 h _ rfl _ (H.d1 hb h)

theorem da : B.da ci h = up2 (X.ds h.val (4 * b + ci.val)) := by
  fin_cases ci
  · exact H.d0 hb h
  · exact H.d1 hb h
  · exact H.d2 hb h
  · exact H.d h

theorem outQ : B.outQ ci h = up2 fun i j => X.resQ (256 * b + (64 * ci.val + i)) (64 * h.val + j) := by
  have hci := ci.isLt
  unfold Blocks.outQ
  rw [H.k, H.b', H.v, H.o, H.s, dq_real, scl_real]
  refine up2_congr fun i hi j hj => ?_
  unfold Data.resQ
  rw [show (64 * h.val + j) / 64 = h.val by omega, show (64 * h.val + j) % 64 = j by omega,
    show 256 * b + (64 * ci.val + i) = 64 * (4 * b + ci.val) + i by omega]
  exact congrArg (· * (1 / 8)) (Gla.chQ_eq 8192 _ _ _ _ _ i j (by omega) hi)

theorem outK : B.outK ci h = up2 fun i j => X.resK (256 * b + (64 * ci.val + i)) (64 * h.val + j) := by
  have hci := ci.isLt
  unfold Blocks.outK
  rw [H.q', H.b', H.v, H.o, H.da hb, dk_real]
  refine up2_congr fun i hi j hj => ?_
  unfold Data.resK
  rw [show (64 * h.val + j) / 64 = h.val by omega, show (64 * h.val + j) % 64 = j by omega,
    show 256 * b + (64 * ci.val + i) = 64 * (4 * b + ci.val) + i by omega]
  exact Gla.chK_eq 8192 _ _ _ _ _ i j (by omega) hi

theorem outV : B.outV ci h = up2 fun i j => X.resV (256 * b + (64 * ci.val + i)) (128 * h.val + j) := by
  have hci := ci.isLt
  unfold Blocks.outV
  rw [H.q', H.k, H.b', H.o, H.da hb, dv_real]
  refine up2_congr fun i hi j hj => ?_
  unfold Data.resV
  rw [show (128 * h.val + j) / 128 = h.val by omega, show (128 * h.val + j) % 128 = j by omega,
    show 256 * b + (64 * ci.val + i) = 64 * (4 * b + ci.val) + i by omega]
  exact Gla.chV_eq 8192 _ _ _ _ _ i j (by omega) hi

theorem outG : B.outG ci h = up2 fun i j => X.resG (256 * b + (64 * ci.val + i)) (64 * h.val + j) := by
  have hci := ci.isLt
  unfold Blocks.outG
  rw [H.q', H.k, H.b', H.g', H.v, H.o, H.s, H.da hb, dg_real]
  refine up2_congr fun i hi j hj => ?_
  unfold Data.resG
  rw [show (64 * h.val + j) / 64 = h.val by omega, show (64 * h.val + j) % 64 = j by omega,
    show 256 * b + (64 * ci.val + i) = 64 * (4 * b + ci.val) + i by omega]
  exact Gla.chG_eq 8192 _ _ _ _ _ _ i j (by omega) hi

theorem outD (n : ℕ) (hn : n + 1 = 4 * b) : B.outD h = up3 fun _ i j => X.ds h.val n i j := by
  unfold Blocks.outD
  rw [H.next hb 0 h n hn _ (H.d0 hb h), cast_D']

end Blocks.Of

/-! ## The point's stores -/

section Stores

variable {B : Blocks Ideal} {X : Data} {b : ℕ} (H : B.Of X b) (hb : b < 32)
include H hb

theorem storeQ : ∀ p ∈ piecesQ B, ∀ x, p.2 x = (up2 fun i j => X.resQ (256 * b + i) j : FVec Ideal S256x256 .f32) (p.1.emb x) := by
  have e : ∀ (ci h : Fin 4) x, B.outQ ci h x = (up2 fun i j => X.resQ (256 * b + i) j : FVec Ideal S256x256 .f32) ((rA ci h).emb x) :=
    fun ci h x => by
      rw [H.outQ hb]
      show _ = ((X.resQ (256 * b + (64 * ci.val + 1 * (x 0).val)) (64 * h.val + 1 * (x 1).val) : ℝ) : EReal)
      simp only [one_mul]; rfl
  intro p hp
  simp only [piecesQ, List.mem_cons, List.not_mem_nil, or_false] at hp
  rcases hp with rfl | rfl | rfl | rfl | rfl | rfl | rfl | rfl | rfl | rfl | rfl | rfl | rfl | rfl | rfl | rfl <;> exact e _ _

theorem storeK : ∀ p ∈ piecesK B, ∀ x, p.2 x = (up2 fun i j => X.resK (256 * b + i) j : FVec Ideal S256x256 .f32) (p.1.emb x) := by
  have e : ∀ (ci h : Fin 4) x, B.outK ci h x = (up2 fun i j => X.resK (256 * b + i) j : FVec Ideal S256x256 .f32) ((rA ci h).emb x) :=
    fun ci h x => by
      rw [H.outK hb]
      show _ = ((X.resK (256 * b + (64 * ci.val + 1 * (x 0).val)) (64 * h.val + 1 * (x 1).val) : ℝ) : EReal)
      simp only [one_mul]; rfl
  intro p hp
  simp only [piecesK, List.mem_cons, List.not_mem_nil, or_false] at hp
  rcases hp with rfl | rfl | rfl | rfl | rfl | rfl | rfl | rfl | rfl | rfl | rfl | rfl | rfl | rfl | rfl | rfl <;> exact e _ _

theorem storeV : ∀ p ∈ piecesV B, ∀ x, p.2 x = (up2 fun i j => X.resV (256 * b + i) j : FVec Ideal S256x512 .f32) (p.1.emb x) := by
  have e : ∀ (ci h : Fin 4) x, B.outV ci h x = (up2 fun i j => X.resV (256 * b + i) j : FVec Ideal S256x512 .f32) ((rB ci h).emb x) :=
    fun ci h x => by
      rw [H.outV hb]
      show _ = ((X.resV (256 * b + (64 * ci.val + 1 * (x 0).val)) (128 * h.val + 1 * (x 1).val) : ℝ) : EReal)
      simp only [one_mul]; rfl
  intro p hp
  simp only [piecesV, List.mem_cons, List.not_mem_nil, or_false] at hp
  rcases hp with rfl | rfl | rfl | rfl | rfl | rfl | rfl | rfl | rfl | rfl | rfl | rfl | rfl | rfl | rfl | rfl <;> exact e _ _

theorem storeG : ∀ p ∈ piecesG B, ∀ x, p.2 x = (up2 fun i j => X.resG (256 * b + i) j : FVec Ideal S256x256 .f32) (p.1.emb x) := by
  have e : ∀ (ci h : Fin 4) x, B.outG ci h x = (up2 fun i j => X.resG (256 * b + i) j : FVec Ideal S256x256 .f32) ((rA ci h).emb x) :=
    fun ci h x => by
      rw [H.outG hb]
      show _ = ((X.resG (256 * b + (64 * ci.val + 1 * (x 0).val)) (64 * h.val + 1 * (x 1).val) : ℝ) : EReal)
      simp only [one_mul]; rfl
  intro p hp
  simp only [piecesG, List.mem_cons, List.not_mem_nil, or_false] at hp
  rcases hp with rfl | rfl | rfl | rfl | rfl | rfl | rfl | rfl | rfl | rfl | rfl | rfl | rfl | rfl | rfl | rfl <;> exact e _ _

theorem storeD (n : ℕ) (hn : n + 1 = 4 * b) :
    ∀ p ∈ piecesD B, ∀ x, p.2 x = (up3 fun h i j => X.ds h n i j : FVec Ideal S4x64x128 .f32) (p.1.emb x) := by
  have e : ∀ (h : Fin 4) x, B.outD h x = (up3 fun h i j => X.ds h n i j : FVec Ideal S4x64x128 .f32) ((rD h).emb x) :=
    fun h x => by
      rw [H.outD hb h n hn]
      have h0 : (x 0).val = 0 := by have := (x 0).isLt; change _ < 1 at this; omega
      show _ = ((X.ds (h.val + 1 * (x 0).val) n (0 + 1 * (x 1).val) (0 + 1 * (x 2).val) : ℝ) : EReal)
      simp only [one_mul, zero_add, h0, add_zero]; rfl
  intro p hp
  simp only [piecesD, List.mem_cons, List.not_mem_nil, or_false] at hp
  rcases hp with rfl | rfl | rfl | rfl <;> exact e _

end Stores

end Cert.KernelIdeal.Chunk
-- ==== Proof.Reads.lean ====
/- The blocks a grid point finds in its windows, where the arrays hold real numbers. -/
module

public import proofs.«01_k».proof.Proof.Point
public import Idealize.ShloMosaic.Lib.Claim
public import Idealize.ShloMosaic.Lib.Pipeline.ValueKit

@[expose] public section

set_option maxRecDepth 16384

open Finset

noncomputable section

namespace Cert.KernelIdeal.Chunk

open Cert.KernelIdeal Cert.KernelIdeal.Gen Idealize.ShloMosaic Idealize.ShloMosaic.TcCoe Idealize.SL.Sem

theorem idx : ∀ t : Fin cfg0.N, win0_0.index t = ![31 - t.val, 0] ∧ win0_1.index t = ![31 - t.val, 1] ∧
    win0_2.index t = ![31 - t.val, 1] ∧ win0_3.index t = ![31 - t.val, 0] ∧ win0_4.index t = ![31 - t.val, 0] ∧
    win0_5.index t = ![31 - t.val, 0, 0, 0] ∧ win0_6.index t = ![31 - t.val, 0] ∧ win0_7.index t = ![31 - t.val, 0] ∧
    win0_8.index t = ![31 - t.val, 0] ∧ win0_9.index t = ![31 - t.val, 0] :=
  (by decide +kernel : ∀ t : Fin grid0.N, _)

variable (m : (ℓ : Loc nD τ sig) → Buf (Elt Ideal) ℓ) (c : Dev nD)

/-- The arrays the region finds hold the data's real numbers; the saved states are the data's. -/
structure Holds (X : Data) : Prop where
  Q : ∀ (t : Fin 8192) (j : Fin 256), m ((c : Thread nD τ).loc main_arg0) (ix2 t ⟨j.val, by omega⟩) = ((X.Q t.val j.val : ℝ) : EReal)
  K : ∀ (t : Fin 8192) (j : Fin 256), m ((c : Thread nD τ).loc main_arg0) (ix2 t ⟨256 + j.val, by omega⟩) = ((X.K t.val j.val : ℝ) : EReal)
  V : ∀ (t : Fin 8192) (j : Fin 512), m ((c : Thread nD τ).loc main_arg0) (ix2 t ⟨512 + j.val, by omega⟩) = ((X.V t.val j.val : ℝ) : EReal)
  G : m ((c : Thread nD τ).loc main_arg1) = (up2 X.G : FVec Ideal S8192x256 .f32)
  O : m ((c : Thread nD τ).loc main_arg2) = (up2 X.O : FVec Ideal S8192x512 .f32)
  S : Gen.V m c main_v27 = (up4 fun n h r e => X.st h n r e : FVec Ideal S128x4x64x128 .f32)

variable {m c} {X : Data} (H : Holds m c X) (t : Fin cfg0.N)
include H

theorem read0 : X0_0 m c t = (up2 fun i j => X.Q (256 * (31 - t.val) + i) j : FVec Ideal S256x256 .f32) := by
  funext y
  unfold X0_0 Pipeline.Window.fill
  rw [dif_pos (moved0_0 t y)]
  have ht : t.val < 32 := lt_of_lt_of_eq t.isLt (show cfg0.N = 32 from N_0)
  have h0 : (y 0).val < 256 := (y 0).isLt
  refine Eq.trans ?_ (H.Q ⟨256 * (31 - t.val) + (y 0).val, by omega⟩ ⟨(y 1).val, (y 1).isLt⟩)
  blk_ext [iblk, V_main_arg0, idx t]

theorem read1 : X0_1 m c t = (up2 fun i j => X.K (256 * (31 - t.val) + i) j : FVec Ideal S256x256 .f32) := by
  funext y
  unfold X0_1 Pipeline.Window.fill
  rw [dif_pos (moved0_1 t y)]
  have ht : t.val < 32 := lt_of_lt_of_eq t.isLt (show cfg0.N = 32 from N_0)
  have h0 : (y 0).val < 256 := (y 0).isLt
  refine Eq.trans ?_ (H.K ⟨256 * (31 - t.val) + (y 0).val, by omega⟩ ⟨(y 1).val, (y 1).isLt⟩)
  blk_ext [iblk, V_main_arg0, idx t]

theorem read2 : X0_2 m c t = (up2 fun i j => X.V (256 * (31 - t.val) + i) j : FVec Ideal S256x512 .f32) := by
  funext y
  unfold X0_2 Pipeline.Window.fill
  rw [dif_pos (moved0_2 t y)]
  have ht : t.val < 32 := lt_of_lt_of_eq t.isLt (show cfg0.N = 32 from N_0)
  have h0 : (y 0).val < 256 := (y 0).isLt
  refine Eq.trans ?_ (H.V ⟨256 * (31 - t.val) + (y 0).val, by omega⟩ ⟨(y 1).val, (y 1).isLt⟩)
  blk_ext [iblk, V_main_arg0, idx t]

theorem read3 : iblk m c 3 t = (up2 fun i j => X.G (256 * (31 - t.val) + i) j : FVec Ideal S256x256 .f32) := by
  funext y
  have ht : t.val < 32 := lt_of_lt_of_eq t.isLt (show cfg0.N = 32 from N_0)
  have h0 : (y 0).val < 256 := (y 0).isLt
  refine Eq.trans (b := m ((c : Thread nD τ).loc main_arg1) (ix2 ⟨256 * (31 - t.val) + (y 0).val, by omega⟩ ⟨(y 1).val, (y 1).isLt⟩)) ?_ ?_
  · blk_ext [iblk, V_main_arg1, idx t]
  · rw [H.G]; rfl

theorem read4 : iblk m c 4 t = (up2 fun i j => X.O (256 * (31 - t.val) + i) j : FVec Ideal S256x512 .f32) := by
  funext y
  have ht : t.val < 32 := lt_of_lt_of_eq t.isLt (show cfg0.N = 32 from N_0)
  have h0 : (y 0).val < 256 := (y 0).isLt
  refine Eq.trans (b := m ((c : Thread nD τ).loc main_arg2) (ix2 ⟨256 * (31 - t.val) + (y 0).val, by omega⟩ ⟨(y 1).val, (y 1).isLt⟩)) ?_ ?_
  · blk_ext [iblk, V_main_arg2, idx t]
  · rw [H.O]; rfl

theorem read5 : iblk m c 5 t =
    (up4 fun n h r e => X.st h (4 * (31 - t.val) + n) r e : FVec Ideal S4x4x64x128 .f32) := by
  funext y
  have ht : t.val < 32 := lt_of_lt_of_eq t.isLt (show cfg0.N = 32 from N_0)
  have h0 : (y 0).val < 4 := (y 0).isLt
  refine Eq.trans (b := Gen.V m c main_v27 (ix4 ⟨4 * (31 - t.val) + (y 0).val, by omega⟩ ⟨(y 1).val, (y 1).isLt⟩
    ⟨(y 2).val, (y 2).isLt⟩ ⟨(y 3).val, (y 3).isLt⟩)) ?_ ?_
  · unfold iblk
    rw [View.read_apply]
    refine congrArg (Gen.V m c main_v27) ?_
    blk_ext [idx t]
  · rw [H.S]; rfl

/-- The blocks a point loads are the data's, given the scratch. -/
theorem blocks_of (arg1 : Memref sig .tc .vmem S256x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S256x512 .f32) (harg5 : arg5.IsWhole) (arg6 : Memref sig .tc .vmem S4x4x64x128 .f32) (harg6 : arg6.IsWhole)
    (d : Fin 4 → FVec Ideal S1x64x128 .f32)
    (hd : ∀ h, d h = up3 fun a i j => X.ds (h.val + a) (4 * (31 - t.val) + 3) i j) :
    (blocks arg1 harg1 arg2 harg2 arg3 harg3 arg4 harg4 arg5 harg5 arg6 harg6 (X0_0 m c t) (X0_1 m c t) (X0_2 m c t)
      (iblk m c 3 t) (iblk m c 4 t) (iblk m c 5 t) d).Of X (31 - t.val) := by
  rw [read0 H, read1 H, read2 H, read3 H, read4 H, read5 H]
  constructor
  · intro ci h
    refine (rd_A _ _ _ ci h).trans (up2_congr fun i _ j _ => ?_)
    rw [show 256 * (31 - t.val) + (64 * ci.val + i) = 64 * (4 * (31 - t.val) + ci.val) + i by omega]
  · intro ci h
    refine (rd_A _ _ _ ci h).trans (up2_congr fun i _ j _ => ?_)
    rw [show 256 * (31 - t.val) + (64 * ci.val + i) = 64 * (4 * (31 - t.val) + ci.val) + i by omega]; rfl
  · intro ci h
    refine (rd_B _ _ _ ci h).trans (up2_congr fun i _ j _ => ?_)
    rw [show 256 * (31 - t.val) + (64 * ci.val + i) = 64 * (4 * (31 - t.val) + ci.val) + i by omega]; rfl
  · intro ci
    refine (rd_G _ _ _ ci).trans (up2_congr fun i _ j _ => ?_)
    rw [show 256 * (31 - t.val) + (64 * ci.val + i) = 64 * (4 * (31 - t.val) + ci.val) + i by omega]
  · intro ci h
    refine (rd_B _ _ _ ci h).trans (up2_congr fun i _ j _ => ?_)
    rw [show 256 * (31 - t.val) + (64 * ci.val + i) = 64 * (4 * (31 - t.val) + ci.val) + i by omega]; rfl
  · intro ci h
    unfold Blocks.st
    refine (congrArg (fun x => shapeCast S64x128 x shapeCasts_S1x1x64x128_S64x128) (rd_S _ _ _ ci h)).trans ?_
    rw [cast_S]; rfl
  · intro h
    unfold Blocks.d3
    refine (congrArg (fun x => shapeCast S64x128 x shapeCasts_S1x64x128_S64x128) (hd h)).trans ?_
    rw [cast_D]; rfl

end Cert.KernelIdeal.Chunk
-- ==== Proof.Sweep.lean ====
/- The sweep over the grid: the points go through the blocks of rows backwards, the scratch carrying the gradient of the
   state; each point writes the reference's gradients of its rows. -/
module

public import proofs.«01_k».proof.Proof.Reads
public import Idealize.ShloMosaic.Lib.Writes
public import Idealize.ShloMosaic.Lib.Pipeline.ReadBack

@[expose] public section

set_option maxRecDepth 16384

open Finset

noncomputable section

namespace Cert.KernelIdeal.Chunk

open Cert.KernelIdeal Cert.KernelIdeal.Gen Idealize.ShloMosaic Idealize.ShloMosaic.TcCoe Idealize.SL.Sem

theorem coverD (B : Blocks Ideal) (y : S4x64x128.Idx) : ∃ p ∈ piecesD B, y ∈ p.1.set :=
  View.cover_of_tiledL (piecesD B) S1x64x128.size (by sl_kernel_rfl) y

theorem coverQ (B : Blocks Ideal) (y : S256x256.Idx) : ∃ p ∈ piecesQ B, y ∈ p.1.set :=
  View.cover_of_tiledL (piecesQ B) S64x64.size (by sl_kernel_rfl) y
theorem coverK (B : Blocks Ideal) (y : S256x256.Idx) : ∃ p ∈ piecesK B, y ∈ p.1.set :=
  View.cover_of_tiledL (piecesK B) S64x64.size (by sl_kernel_rfl) y
theorem coverV (B : Blocks Ideal) (y : S256x512.Idx) : ∃ p ∈ piecesV B, y ∈ p.1.set :=
  View.cover_of_tiledL (piecesV B) S64x128.size (by sl_kernel_rfl) y
theorem coverG (B : Blocks Ideal) (y : S256x256.Idx) : ∃ p ∈ piecesG B, y ∈ p.1.set :=
  View.cover_of_tiledL (piecesG B) S64x64.size (by sl_kernel_rfl) y

/-- The slices of the freshly zeroed scratch. -/
theorem zeroed (c : Dev nD) (arg11 : Memref sig .tc .vmem S4x64x128 .f32) (h : Fin 4) :
    (![kernelRun0_A.sl.v8 (F := Ideal) c arg11, kernelRun0_A.sl.v10 (F := Ideal) c arg11, kernelRun0_A.sl.v12 (F := Ideal) c arg11,
      kernelRun0_A.sl.v14 (F := Ideal) c arg11] : Fin 4 → FVec Ideal S1x64x128 .f32) h = up3 fun _ _ _ => 0 := by
  have e : ∀ y, (k0_pay6 (F := Ideal)) y = 0 := fun y => by
    unfold k0_pay6; pointwise
  funext y
  fin_cases h
  · show kernelRun0_A.sl.v8 (F := Ideal) c arg11 y = 0
    unfold kernelRun0_A.sl.v8 kernelRun0_A.sl.HS0_1
    rw [View.readCov_fill _ _ _ _ _ (by decide)]
    exact e _
  · show kernelRun0_A.sl.v10 (F := Ideal) c arg11 y = 0
    unfold kernelRun0_A.sl.v10 kernelRun0_A.sl.HS0_1
    rw [View.readCov_fill _ _ _ _ _ (by decide)]
    exact e _
  · show kernelRun0_A.sl.v12 (F := Ideal) c arg11 y = 0
    unfold kernelRun0_A.sl.v12 kernelRun0_A.sl.HS0_1
    rw [View.readCov_fill _ _ _ _ _ (by decide)]
    exact e _
  · show kernelRun0_A.sl.v14 (F := Ideal) c arg11 y = 0
    unfold kernelRun0_A.sl.v14 kernelRun0_A.sl.HS0_1
    rw [View.readCov_fill _ _ _ _ _ (by decide)]
    exact e _

variable {m : (ℓ : Loc nD τ sig) → Buf (Elt Ideal) ℓ} {c : Dev nD} {X : Data} (H : Holds m c X)
include H

/-- The first point finds zeros, the gradient of the state after the last chunk. -/
theorem scratch_zero (t : Fin cfg0.N) (ht : t.val = 0) (arg11 : Memref sig .tc .vmem S4x64x128 .f32) (h : Fin 4) :
    (![kernelRun0_A.sl.v8 (F := Ideal) c arg11, kernelRun0_A.sl.v10 (F := Ideal) c arg11, kernelRun0_A.sl.v12 (F := Ideal) c arg11,
      kernelRun0_A.sl.v14 (F := Ideal) c arg11] : Fin 4 → FVec Ideal S1x64x128 .f32) h =
      up3 fun a i j => X.ds (h.val + a) (4 * (31 - t.val) + 3) i j := by
  clear H
  rw [zeroed, ht]
  funext y
  show ((0 : ℝ) : EReal) = ((X.ds _ _ _ _ : ℝ) : EReal)
  unfold Data.ds
  rw [Gla.dstate_last 8192 _ _ _ _ _ _ (by norm_num)]

/-- After point `n` the scratch holds the gradient of the state before its block of rows. -/
theorem scratch (n : ℕ) (hn : n < cfg0.N) (h31 : n < 31) :
    (outsAt0 m c n hn).2.2.2.2 = (up3 fun h i j => X.ds h (4 * (31 - n) - 1) i j : FVec Ideal S4x64x128 .f32) := by
  induction n with
  | zero =>
    rw [outsAt0_A m c ⟨0, hn⟩ rfl]
    dsimp only
    unfold sout0_A_0
    rw [piecesD_A, View.writes_append]
    funext y
    refine View.read_writes_apply_of_pieces _ _ _ _ (storeD (b := 31 - 0) (X := X) ?_ (by omega) _ (by omega)) y (coverD _ y)
    exact blocks_of H ⟨0, hn⟩ _ _ _ _ _ _ _ _ _ _ _ _ _ fun h => scratch_zero H ⟨0, hn⟩ rfl _ h
  | succ n ih =>
    have e := outsAt0_B m c ⟨n + 1, hn⟩ (by dsimp only; omega)
    dsimp only at e
    rw [e]
    dsimp only
    unfold sout0_B_0
    rw [piecesD_B]
    funext y
    refine View.read_writes_apply_of_pieces _ _ _ _ (storeD (b := 31 - (n + 1)) (X := X) ?_ (by omega) _ (by omega)) y (coverD _ y)
    refine blocks_of H ⟨n + 1, hn⟩ _ _ _ _ _ _ _ _ _ _ _ _ _ fun h => ?_
    have e' := ih (by omega) (by omega)
    refine (congrArg (fun x => rd (F := Ideal) scM0_0 (Memref.isWhole_whole _) x (rD h)) e').trans ?_
    refine (rd_D _ _ _ h).trans ?_
    rw [show 4 * (31 - n) - 1 = 4 * (31 - (n + 1)) + 3 by omega]

/-- What a later point finds in the scratch. -/
theorem scratch_pos (t : Fin cfg0.N) (ht : ¬t.val % 32 = 0) (h : Fin 4) :
    rd (F := Ideal) scM0_0 (Memref.isWhole_whole _) (outsAt0 m c (t.val - 1) (Nat.lt_of_le_of_lt (Nat.sub_le _ _) t.isLt)).2.2.2.2 (rD h) =
      (up3 fun a i j => X.ds (h.val + a) (4 * (31 - t.val) + 3) i j : FVec Ideal S1x64x128 .f32) := by
  have hN : t.val < 32 := lt_of_lt_of_eq t.isLt (show cfg0.N = 32 from N_0)
  refine (congrArg (fun x => rd (F := Ideal) scM0_0 (Memref.isWhole_whole _) x (rD h))
    (scratch H (t.val - 1) (Nat.lt_of_le_of_lt (Nat.sub_le _ _) t.isLt) (by omega))).trans ?_
  refine (rd_D _ _ _ h).trans ?_
  rw [show 4 * (31 - (t.val - 1)) - 1 = 4 * (31 - t.val) + 3 by omega]

/-! ## What each point leaves in the outputs -/

theorem outsQ (t : Fin cfg0.N) :
    (outsAt0 m c t.val t.isLt).1 = (up2 fun i j => X.resQ (256 * (31 - t.val) + i) j : FVec Ideal S256x256 .f32) := by
  funext y
  by_cases ht : t.val % 32 = 0
  · have h0 : t.val = 0 := by have := lt_of_lt_of_eq t.isLt (show cfg0.N = 32 from N_0); omega
    rw [outsAt0_A m c t ht]
    dsimp only
    unfold out0_A_6
    rw [piecesQ_A]
    refine View.read_writes_apply_of_pieces _ _ _ _ (storeQ (b := 31 - t.val) (X := X) ?_ (by omega)) y (coverQ _ y)
    exact blocks_of H t _ _ _ _ _ _ _ _ _ _ _ _ _ fun h => scratch_zero H t h0 _ h
  · rw [outsAt0_B m c t ht]
    dsimp only
    unfold out0_B_6
    rw [piecesQ_B]
    refine View.read_writes_apply_of_pieces _ _ _ _ (storeQ (b := 31 - t.val) (X := X) ?_ (by omega)) y (coverQ _ y)
    exact blocks_of H t _ _ _ _ _ _ _ _ _ _ _ _ _ fun h => scratch_pos H t ht h

theorem outsK (t : Fin cfg0.N) :
    (outsAt0 m c t.val t.isLt).2.1 = (up2 fun i j => X.resK (256 * (31 - t.val) + i) j : FVec Ideal S256x256 .f32) := by
  funext y
  by_cases ht : t.val % 32 = 0
  · have h0 : t.val = 0 := by have := lt_of_lt_of_eq t.isLt (show cfg0.N = 32 from N_0); omega
    rw [outsAt0_A m c t ht]
    dsimp only
    unfold out0_A_7
    rw [piecesK_A]
    refine View.read_writes_apply_of_pieces _ _ _ _ (storeK (b := 31 - t.val) (X := X) ?_ (by omega)) y (coverK _ y)
    exact blocks_of H t _ _ _ _ _ _ _ _ _ _ _ _ _ fun h => scratch_zero H t h0 _ h
  · rw [outsAt0_B m c t ht]
    dsimp only
    unfold out0_B_7
    rw [piecesK_B]
    refine View.read_writes_apply_of_pieces _ _ _ _ (storeK (b := 31 - t.val) (X := X) ?_ (by omega)) y (coverK _ y)
    exact blocks_of H t _ _ _ _ _ _ _ _ _ _ _ _ _ fun h => scratch_pos H t ht h

theorem outsV (t : Fin cfg0.N) :
    (outsAt0 m c t.val t.isLt).2.2.1 = (up2 fun i j => X.resV (256 * (31 - t.val) + i) j : FVec Ideal S256x512 .f32) := by
  funext y
  by_cases ht : t.val % 32 = 0
  · have h0 : t.val = 0 := by have := lt_of_lt_of_eq t.isLt (show cfg0.N = 32 from N_0); omega
    rw [outsAt0_A m c t ht]
    dsimp only
    unfold out0_A_8
    rw [piecesV_A]
    refine View.read_writes_apply_of_pieces _ _ _ _ (storeV (b := 31 - t.val) (X := X) ?_ (by omega)) y (coverV _ y)
    exact blocks_of H t _ _ _ _ _ _ _ _ _ _ _ _ _ fun h => scratch_zero H t h0 _ h
  · rw [outsAt0_B m c t ht]
    dsimp only
    unfold out0_B_8
    rw [piecesV_B]
    refine View.read_writes_apply_of_pieces _ _ _ _ (storeV (b := 31 - t.val) (X := X) ?_ (by omega)) y (coverV _ y)
    exact blocks_of H t _ _ _ _ _ _ _ _ _ _ _ _ _ fun h => scratch_pos H t ht h

theorem outsG (t : Fin cfg0.N) :
    (outsAt0 m c t.val t.isLt).2.2.2.1 = (up2 fun i j => X.resG (256 * (31 - t.val) + i) j : FVec Ideal S256x256 .f32) := by
  funext y
  by_cases ht : t.val % 32 = 0
  · have h0 : t.val = 0 := by have := lt_of_lt_of_eq t.isLt (show cfg0.N = 32 from N_0); omega
    rw [outsAt0_A m c t ht]
    dsimp only
    unfold out0_A_9
    rw [piecesG_A]
    refine View.read_writes_apply_of_pieces _ _ _ _ (storeG (b := 31 - t.val) (X := X) ?_ (by omega)) y (coverG _ y)
    exact blocks_of H t _ _ _ _ _ _ _ _ _ _ _ _ _ fun h => scratch_zero H t h0 _ h
  · rw [outsAt0_B m c t ht]
    dsimp only
    unfold out0_B_9
    rw [piecesG_B]
    refine View.read_writes_apply_of_pieces _ _ _ _ (storeG (b := 31 - t.val) (X := X) ?_ (by omega)) y (coverG _ y)
    exact blocks_of H t _ _ _ _ _ _ _ _ _ _ _ _ _ fun h => scratch_pos H t ht h

/-! ## The arrays after the run -/

theorem finalQ : (dats m 0 c).arrAt 6 cfg0.N = (up2 X.resQ : FVec Ideal S8192x256 .f32) := by
  refine (dats m 0 c).arrAt_eq_of_covers 6 _ (by decide +kernel) fun t hf y => ?_
  have ht : t.val < 32 := lt_of_lt_of_eq t.isLt (show cfg0.N = 32 from N_0)
  blk_simp
  rw [after0_6, outsQ H]
  have e0 : (((win0_6.blk t).view.emb y) 0).val = 256 * (31 - t.val) + (y 0).val := by
    blk_simp [idx t]; omega
  have e1 : (((win0_6.blk t).view.emb y) 1).val = (y 1).val := by
    blk_simp [idx t]
  show ((X.resQ (256 * (31 - t.val) + (y 0).val) (y 1).val : ℝ) : EReal) = ((X.resQ _ _ : ℝ) : EReal)
  rw [e0, e1]

theorem finalK : (dats m 0 c).arrAt 7 cfg0.N = (up2 X.resK : FVec Ideal S8192x256 .f32) := by
  refine (dats m 0 c).arrAt_eq_of_covers 7 _ (by decide +kernel) fun t hf y => ?_
  have ht : t.val < 32 := lt_of_lt_of_eq t.isLt (show cfg0.N = 32 from N_0)
  blk_simp
  rw [after0_7, outsK H]
  have e0 : (((win0_7.blk t).view.emb y) 0).val = 256 * (31 - t.val) + (y 0).val := by
    blk_simp [idx t]; omega
  have e1 : (((win0_7.blk t).view.emb y) 1).val = (y 1).val := by
    blk_simp [idx t]
  show ((X.resK (256 * (31 - t.val) + (y 0).val) (y 1).val : ℝ) : EReal) = ((X.resK _ _ : ℝ) : EReal)
  rw [e0, e1]

theorem finalV : (dats m 0 c).arrAt 8 cfg0.N = (up2 X.resV : FVec Ideal S8192x512 .f32) := by
  refine (dats m 0 c).arrAt_eq_of_covers 8 _ (by decide +kernel) fun t hf y => ?_
  have ht : t.val < 32 := lt_of_lt_of_eq t.isLt (show cfg0.N = 32 from N_0)
  blk_simp
  rw [after0_8, outsV H]
  have e0 : (((win0_8.blk t).view.emb y) 0).val = 256 * (31 - t.val) + (y 0).val := by
    blk_simp [idx t]; omega
  have e1 : (((win0_8.blk t).view.emb y) 1).val = (y 1).val := by
    blk_simp [idx t]
  show ((X.resV (256 * (31 - t.val) + (y 0).val) (y 1).val : ℝ) : EReal) = ((X.resV _ _ : ℝ) : EReal)
  rw [e0, e1]

theorem finalG : (dats m 0 c).arrAt 9 cfg0.N = (up2 X.resG : FVec Ideal S8192x256 .f32) := by
  refine (dats m 0 c).arrAt_eq_of_covers 9 _ (by decide +kernel) fun t hf y => ?_
  have ht : t.val < 32 := lt_of_lt_of_eq t.isLt (show cfg0.N = 32 from N_0)
  blk_simp
  rw [after0_9, outsG H]
  have e0 : (((win0_9.blk t).view.emb y) 0).val = 256 * (31 - t.val) + (y 0).val := by
    blk_simp [idx t]; omega
  have e1 : (((win0_9.blk t).view.emb y) 1).val = (y 1).val := by
    blk_simp [idx t]
  show ((X.resG (256 * (31 - t.val) + (y 0).val) (y 1).val : ℝ) : EReal) = ((X.resG _ _ : ℝ) : EReal)
  rw [e0, e1]

end Cert.KernelIdeal.Chunk
-- ==== Proof.Sums.lean ====
/- The host's running sums down the rows of a block of reals, forward and backward. -/
module

public import proofs.«01_k».proof.Proof.Point

@[expose] public section

set_option maxRecDepth 16384

open Finset

noncomputable section

namespace Cert.KernelIdeal.Chunk

open Idealize.ShloMosaic Idealize.ShloMosaic.TcCoe Idealize.SL.Sem

theorem toInt_small {a : ℕ} (h : a < 2 ^ 31) : (BitVec.ofNat 32 a).toInt = a := by
  have e : (BitVec.ofNat 32 a).toNat = a := by rw [BitVec.toNat_ofNat]; omega
  rw [BitVec.toInt_eq_toNat_of_lt (by omega), e]

/-- Words of small naturals compare as the naturals. -/
theorem slt_nat {a b : ℕ} (ha : a < 2 ^ 31) (hb : b < 2 ^ 31) :
    IntOp.cmpi .slt (BitVec.ofNat 32 a) (BitVec.ofNat 32 b) = if a < b then 1#1 else 0#1 := by
  unfold IntOp.cmpi
  dsimp only
  rw [BitVec.slt, toInt_small ha, toInt_small hb]
  by_cases h : a < b <;> simp [h]
theorem sge_nat {a b : ℕ} (ha : a < 2 ^ 31) (hb : b < 2 ^ 31) :
    IntOp.cmpi .sge (BitVec.ofNat 32 a) (BitVec.ofNat 32 b) = if b ≤ a then 1#1 else 0#1 := by
  unfold IntOp.cmpi
  dsimp only
  rw [BitVec.sle, toInt_small ha, toInt_small hb]
  by_cases h : b ≤ a <;> simp [h]

theorem foldl_add_sum {n : ℕ} (f : Fin n → EReal) (v : EReal) :
    (List.finRange n).foldl (fun r i => r + f i) v = v + ∑ i, f i := by
  have h : ∀ (l : List (Fin n)) (v : EReal), l.foldl (fun r i => r + f i) v = v + (l.map f).sum := by
    intro l
    induction l with
    | nil => intro v; simp
    | cons a l ih => intro v; simp only [List.foldl_cons, List.map_cons, List.sum_cons, ih, add_assoc]
  rw [h, ← List.ofFn_eq_map, List.sum_ofFn]

/-- The positions of a window that is one column high are its rows. -/
def rowsEquiv : (⟨3, ![8192, 1, 1]⟩ : Shape).Idx ≃ Fin 8192 where
  toFun q := ⟨(q 0).val, (q 0).isLt⟩
  invFun a := fun i => match i with
    | ⟨0, _⟩ => ⟨a.val, a.isLt⟩
    | ⟨1, _⟩ => ⟨0, Nat.one_pos⟩
    | ⟨2, _⟩ => ⟨0, Nat.one_pos⟩
  left_inv q := funext fun i => Fin.ext (by
    match i with
    | ⟨0, _⟩ => rfl
    | ⟨1, _⟩ => have h : (q 1).val < 1 := (q 1).isLt; show 0 = (q 1).val; omega
    | ⟨2, _⟩ => have h : (q 2).val < 1 := (q 2).isLt; show 0 = (q 2).val; omega)
  right_inv a := rfl

/-- A running sum's window at one element, read as a sum over the window's rows: `A` rows of padding before. -/
theorem window_sum {u : Shape} (A B : ℕ) (f : ℕ → ℕ → ℕ → ℝ) (init : u.Idx → EReal)
    (h : (⟨3, ![8192, 4, 64]⟩ : Shape).ReduceWindows ![8192, 1, 1] ![1, 1, 1] ![A, 0, 0] ![B, 0, 0] ⟨3, ![8192, 4, 64]⟩)
    (hu : 0 < u.numel) (h0 : init (Shape.Idx.first hu) = 0) (j : (⟨3, ![8192, 4, 64]⟩ : Shape).Idx) :
    (Host.reduceWindowAdd (F := Ideal) (φ := .f32) ![8192, 1, 1] ![1, 1, 1] ![A, 0, 0] ![B, 0, 0] (up3 f) init h hu) j =
      ((∑ n ∈ range 8192, if A ≤ (j 0).val + n ∧ (j 0).val + n - A < 8192 then f ((j 0).val + n - A) (j 1).val (j 2).val else 0 : ℝ) : EReal) := by
  unfold Host.reduceWindowAdd
  rw [h0, Ideal.hostReduceWindowAdd_def]
  unfold Ideal.hostReduceWindowAdd Host.reduceWindow
  dsimp only
  rw [foldl_add_sum, zero_add, ← coe_sum_fin]
  rw [← Equiv.sum_comp ((⟨3, ![8192, 1, 1]⟩ : Shape).rowMajor), ← Equiv.sum_comp rowsEquiv.symm]
  refine Finset.sum_congr rfl fun n _ => ?_
  simp only [Equiv.symm_apply_apply]
  have hj1 : (j 1).val < 4 := (j 1).isLt
  have hj2 : (j 2).val < 64 := (j 2).isLt
  by_cases hc : A ≤ (j 0).val + n.val ∧ (j 0).val + n.val - A < 8192
  · rw [if_pos hc, dif_pos]
    · show ((f _ _ _ : ℝ) : EReal) = _
      congr 2
      · show (j 0).val * 1 + n.val - A = _; rw [Nat.mul_one]
      · show (j 1).val * 1 + 0 - 0 = (j 1).val; omega
      · show (j 2).val * 1 + 0 - 0 = (j 2).val; omega
    · intro a
      match a with
      | ⟨0, _⟩ => show A ≤ (j 0).val * 1 + n.val ∧ (j 0).val * 1 + n.val - A < 8192; rw [Nat.mul_one]; exact hc
      | ⟨1, _⟩ => show 0 ≤ (j 1).val * 1 + 0 ∧ (j 1).val * 1 + 0 - 0 < 4; omega
      | ⟨2, _⟩ => show 0 ≤ (j 2).val * 1 + 0 ∧ (j 2).val * 1 + 0 - 0 < 64; omega
  · rw [if_neg hc, dif_neg]
    · rfl
    · intro hin
      have := hin 0
      change A ≤ (j 0).val * 1 + n.val ∧ (j 0).val * 1 + n.val - A < 8192 at this
      rw [Nat.mul_one] at this
      exact hc this

/-- The forward running sum. -/
theorem cumsum_up3 {u : Shape} (f : ℕ → ℕ → ℕ → ℝ) (init : u.Idx → EReal)
    (h : (⟨3, ![8192, 4, 64]⟩ : Shape).ReduceWindows ![8192, 1, 1] ![1, 1, 1] ![8191, 0, 0] ![0, 0, 0] ⟨3, ![8192, 4, 64]⟩)
    (hu : 0 < u.numel) (h0 : init (Shape.Idx.first hu) = 0) :
    Host.reduceWindowAdd (F := Ideal) (φ := .f32) ![8192, 1, 1] ![1, 1, 1] ![8191, 0, 0] ![0, 0, 0] (up3 f) init h hu =
      (up3 fun t a d => ∑ s ∈ range (t + 1), f s a d : FVec Ideal ⟨3, ![8192, 4, 64]⟩ .f32) := by
  funext j
  refine (window_sum 8191 0 f init h hu h0 j).trans ?_
  have hj : (j 0).val < 8192 := (j 0).isLt
  refine congrArg (fun r : ℝ => (r : EReal)) ?_
  generalize (j 0).val = t at hj
  rw [show 8192 = (8191 - t) + (t + 1) by omega, sum_range_add, sum_eq_zero, zero_add]
  · refine sum_congr rfl fun n hn => ?_
    have := mem_range.1 hn
    rw [if_pos (by omega)]
    have e : t + (8191 - t + n) - 8191 = n := by omega
    rw [e]
  · intro n hn
    have := mem_range.1 hn
    rw [if_neg (by omega)]

/-- The backward running sum. -/
theorem revsum_up3 {u : Shape} (f : ℕ → ℕ → ℕ → ℝ) (init : u.Idx → EReal)
    (h : (⟨3, ![8192, 4, 64]⟩ : Shape).ReduceWindows ![8192, 1, 1] ![1, 1, 1] ![0, 0, 0] ![8191, 0, 0] ⟨3, ![8192, 4, 64]⟩)
    (hu : 0 < u.numel) (h0 : init (Shape.Idx.first hu) = 0) :
    Host.reduceWindowAdd (F := Ideal) (φ := .f32) ![8192, 1, 1] ![1, 1, 1] ![0, 0, 0] ![8191, 0, 0] (up3 f) init h hu =
      (up3 fun t a d => ∑ s ∈ Ico t 8192, f s a d : FVec Ideal ⟨3, ![8192, 4, 64]⟩ .f32) := by
  funext j
  refine (window_sum 0 8191 f init h hu h0 j).trans ?_
  have hj : (j 0).val < 8192 := (j 0).isLt
  refine congrArg (fun r : ℝ => (r : EReal)) ?_
  generalize (j 0).val = t at hj
  show _ = ∑ s ∈ Ico t 8192, f s (j 1).val (j 2).val
  rw [sum_Ico_eq_sum_range, show range 8192 = range ((8192 - t) + t) by congr 1; omega, sum_range_add, add_comm, sum_eq_zero, zero_add]
  · refine sum_congr rfl fun n hn => ?_
    have := mem_range.1 hn
    rw [if_pos (by omega)]
    rfl
  · intro n hn
    rw [if_neg (by omega)]

end Cert.KernelIdeal.Chunk

end
-- ==== Proof.RefA.lean ====
/- The reference's arrays over the reals: the attention weights, their gradient, and the values' gradient. -/
module

public import proofs.«01_k».proof.Proof.Sums
public import proofs.«01_k».proof.Proof.Gen.ReferenceIdeal.Read

@[expose] public section

set_option maxRecDepth 16384

open Finset

noncomputable section

namespace Cert.ReferenceIdeal.Reals

open Cert.ReferenceIdeal Cert.ReferenceIdeal.Read Cert.KernelIdeal.Chunk Idealize.ShloMosaic Idealize.ShloMosaic.TcCoe Idealize.SL.Sem

/-- The argument array's queries, keys and values are the data's. -/
structure Args (X : Data) (x : FVec Ideal S8192x3200 .f32) : Prop where
  Q : ∀ (t : Fin 8192) (j : Fin 256), x (ix2 t ⟨j.val, by omega⟩) = ((X.Q t.val j.val : ℝ) : EReal)
  K : ∀ (t : Fin 8192) (j : Fin 256), x (ix2 t ⟨256 + j.val, by omega⟩) = ((X.K t.val j.val : ℝ) : EReal)
  V : ∀ (t : Fin 8192) (j : Fin 512), x (ix2 t ⟨512 + j.val, by omega⟩) = ((X.V t.val j.val : ℝ) : EReal)

theorem coe3 {a b : ℝ} (h : a = b) : ((a : ℝ) : EReal) = ((b : ℝ) : EReal) := congrArg _ h

variable {X : Data} {x0 : FVec Ideal S8192x3200 .f32} (H : Args X x0)
include H

theorem up_v5 : val_main_v5 (F := Ideal) x0 = (up3 fun t h d => X.q h t d : FVec Ideal S8192x4x64 .f32) := by
  unfold val_main_v5 val_main_v3 val_main_v0 val_main_v4 val_main_cst
  funext y
  idx_vars y
  pointwise
  have e : x0 (ix2 y0 ⟨y1.val * 64 + y2.val, by omega⟩) = ((X.Q y0.val (64 * y1.val + y2.val) : ℝ) : EReal) :=
    Eq.trans (congrArg (fun j => x0 (ix2 y0 j)) (Fin.ext (by show y1.val * 64 + y2.val = 64 * y1.val + y2.val; omega)))
      (H.Q y0 ⟨64 * y1.val + y2.val, by omega⟩)
  rw [e, ofBits_eighth]
  exact (EReal.coe_mul _ _).symm

theorem up_v6 : val_main_v6 (F := Ideal) x0 = (up3 fun t h d => X.k h t d : FVec Ideal S8192x4x64 .f32) := by
  unfold val_main_v6 val_main_v1
  funext y
  idx_vars y
  pointwise
  refine Eq.trans ?_ (H.K y0 ⟨64 * y1.val + y2.val, by omega⟩)
  exact congrArg (fun j => x0 (ix2 y0 j)) (Fin.ext (by show 256 + (y1.val * 64 + y2.val) = 256 + (64 * y1.val + y2.val); omega))

theorem up_v7 : val_main_v7 (F := Ideal) x0 = (up3 fun t h e => X.v h t e : FVec Ideal S8192x4x128 .f32) := by
  unfold val_main_v7 val_main_v2
  funext y
  idx_vars y
  pointwise
  refine Eq.trans ?_ (H.V y0 ⟨128 * y1.val + y2.val, by omega⟩)
  exact congrArg (fun j => x0 (ix2 y0 j)) (Fin.ext (by show 512 + (y1.val * 128 + y2.val) = 512 + (128 * y1.val + y2.val); omega))

theorem up_v26 : val_main_v26 (F := Ideal) x0 = (up4 fun t s h d => X.q h t d * X.k h s d : FVec Ideal S8192x8192x4x64 .f32) := by
  unfold val_main_v26 val_main_v24 val_main_v25 val_main_v22 val_main_v23
  rw [up_v5 H, up_v6 H]
  funext y
  idx_vars y
  pointwise
  exact (EReal.coe_mul _ _).symm

omit H

theorem up_v8 : val_main_v8 (F := Ideal) (up2 (φ := .f32) X.G) = (up3 fun t h d => X.g h t d : FVec Ideal S8192x4x64 .f32) := by
  unfold val_main_v8
  funext y
  idx_vars y
  pointwise
  show ((X.G _ _ : ℝ) : EReal) = ((X.G _ _ : ℝ) : EReal)
  congr 2
  simp only [ix2, ix3]
  omega

theorem zero_call0 (i : S_.Idx) : val_main_call0_v0 (F := Ideal) i = 0 := Ideal.ofBits_zero_f32

theorem up_v9 : val_main_v9 (F := Ideal) (up2 (φ := .f32) X.G) =
    (up3 fun t h d => Gla.cum (X.g h) t d : FVec Ideal S8192x4x64 .f32) := by
  unfold val_main_v9
  rw [up_v8]
  exact cumsum_up3 (fun t h d => X.g h t d) _ _ Gen.h_S_ (zero_call0 _)

theorem mask_apply (t s : Fin 8192) (h : Fin 4) (d : Fin 64) :
    val_main_v19_1 (F := Ideal) (ix4 t s h d) = if s.val ≤ t.val then 1#1 else 0#1 := by
  unfold val_main_v19_1 val_main_v13 val_main_v12 val_main_v10 val_main_v11
  pointwise
  exact sge_nat (by omega) (by omega)

theorem mask_eq : val_main_v21_1 (F := Ideal) = val_main_v19_1 (F := Ideal) := rfl

theorem up_v18 : val_main_v18 (F := Ideal) (up2 (φ := .f32) X.G) =
    (up4 fun t s h d => Gla.cum (X.g h) t d - Gla.cum (X.g h) s d : FVec Ideal S8192x8192x4x64 .f32) := by
  unfold val_main_v18 val_main_v16 val_main_v17 val_main_v14 val_main_v15
  rw [up_v9]
  funext y
  idx_vars y
  pointwise
  exact (EReal.coe_sub _ _).symm

theorem zero_call1 (i : S8192x8192x4x64.Idx) : val_main_call1_v2 (F := Ideal) i = 0 := Ideal.ofBits_zero_f32
theorem zero_call2 (i : S8192x8192x4x64.Idx) : val_main_call2_v2 (F := Ideal) i = 0 := Ideal.ofBits_zero_f32
theorem zero_call3 (i : S8192x8192x4x64.Idx) : val_main_call3_v0 (F := Ideal) i = 0 := Ideal.ofBits_zero_f32
theorem zero_call4 (i : S8192x8192x4x64.Idx) : val_main_call4_v0 (F := Ideal) i = 0 := Ideal.ofBits_zero_f32

/-- The exponential the reference takes, 1 above the diagonal. -/
theorem up_v20 : val_main_v20 (F := Ideal) (up2 (φ := .f32) X.G) =
    (up4 fun t s h d => Real.exp (if s ≤ t then Gla.cum (X.g h) t d - Gla.cum (X.g h) s d else 0) :
      FVec Ideal S8192x8192x4x64 .f32) := by
  unfold val_main_v20 val_main_v19_0
  rw [up_v18]
  funext y
  idx_vars y
  pointwise
  rw [mask_apply, zero_call1]
  show _ = ((Real.exp (if y1.val ≤ y0.val then _ else 0) : ℝ) : EReal)
  by_cases h : y1.val ≤ y0.val
  · rw [if_pos h, if_pos h]; rfl
  · rw [if_neg h, if_neg h]; rfl

theorem up_v21 : val_main_v21_0 (F := Ideal) (up2 (φ := .f32) X.G) =
    (up4 fun t s h d => Gla.decay (X.g h) t s d : FVec Ideal S8192x8192x4x64 .f32) := by
  unfold val_main_v21_0
  rw [up_v20, mask_eq]
  funext y
  idx_vars y
  pointwise
  rw [mask_apply, zero_call2]
  show _ = ((Gla.decay (X.g y2.val) y0.val y1.val y3.val : ℝ) : EReal)
  unfold Gla.decay
  by_cases h : y1.val ≤ y0.val
  · rw [if_pos h, if_pos h]
    show ((Real.exp (if y1.val ≤ y0.val then _ else 0) : ℝ) : EReal) = _
    rw [if_pos h]
    rfl
  · rw [if_neg h, if_neg h]; rfl

theorem up_v33 : val_main_v33 (F := Ideal) (up2 (φ := .f32) X.O) = (up3 fun h e t => X.o h t e : FVec Ideal S4x128x8192 .f32) := by
  unfold val_main_v33 val_main_v32
  funext y
  idx_vars y
  pointwise
  show ((X.O _ _ : ℝ) : EReal) = ((X.O _ _ : ℝ) : EReal)
  congr 2
  simp only [ix2, ix3]
  omega

include H

/-- The gradient of the attention weights. -/
theorem up_v35 : val_main_v35 (F := Ideal) x0 (up2 (φ := .f32) X.O) =
    (up3 fun t s h => Gla.datt (X.v h) (X.o h) t s : FVec Ideal S8192x8192x4 .f32) := by
  unfold val_main_v35 val_main_v34
  rw [up_v7 H, up_v33]
  funext y
  idx_vars y
  pointwise
  refine Eq.trans (Finset.sum_congr rfl fun e _ => (EReal.coe_mul _ _).symm)
    (coe_sum_fin fun e => X.o y2.val y0.val e * X.v y2.val y1.val e)

/-- The attention weights. -/
theorem up_v28 : val_main_v28 (F := Ideal) x0 (up2 (φ := .f32) X.G) =
    (up3 fun t s h => Gla.att (X.q h) (X.k h) (X.g h) t s : FVec Ideal S8192x8192x4 .f32) := by
  unfold val_main_v28 val_main_v27 val_main_cst_2
  rw [up_v26 H, up_v21]
  funext y
  idx_vars y
  pointwise
  refine Eq.trans (Finset.sum_congr rfl fun d _ => (EReal.coe_mul _ _).symm)
    (coe_sum_fin fun d => X.q y2.val y0.val d * X.k y2.val y1.val d * Gla.decay (X.g y2.val) y0.val y1.val d)

/-- The values' gradient. -/
theorem up_v64 : val_main_v64 (F := Ideal) x0 (up2 (φ := .f32) X.G) (up2 (φ := .f32) X.O) =
    (up2 X.resV : FVec Ideal S8192x512 .f32) := by
  unfold val_main_v64 val_main_v37 val_main_v36
  rw [up_v33, up_v28 H]
  funext y
  idx_vars y
  pointwise
  refine Eq.trans (Finset.sum_congr rfl fun t _ => (EReal.coe_mul _ _).symm)
    ((coe_sum_fin fun t => X.o (y1.val / 128) t (y1.val % 128) *
      Gla.att (X.q (y1.val / 128)) (X.k (y1.val / 128)) (X.g (y1.val / 128)) t y0.val).trans (coe3 ?_))
  exact Finset.sum_congr rfl fun t _ => mul_comm _ _

end Cert.ReferenceIdeal.Reals

end
-- ==== Proof.RefB.lean ====
/- The reference's gradients of the queries, the keys and the log gates over the reals. -/
module

public import proofs.«01_k».proof.Proof.RefA

@[expose] public section

set_option maxRecDepth 16384

open Finset

noncomputable section

namespace Cert.ReferenceIdeal.Reals

open Cert.ReferenceIdeal Cert.ReferenceIdeal.Read Cert.KernelIdeal.Chunk Idealize.ShloMosaic Idealize.ShloMosaic.TcCoe Idealize.SL.Sem

variable {X : Data} {x0 : FVec Ideal S8192x3200 .f32} (H : Args X x0)
include H

theorem up_v38 : val_main_v38 (F := Ideal) x0 (up2 (φ := .f32) X.O) =
    (up4 fun t s h _ => Gla.datt (X.v h) (X.o h) t s : FVec Ideal S8192x8192x4x64 .f32) := by
  unfold val_main_v38
  rw [up_v35 H]
  funext y
  idx_vars y
  pointwise
  rfl

theorem up_v40 : val_main_v40 (F := Ideal) x0 (up2 (φ := .f32) X.G) (up2 (φ := .f32) X.O) =
    (up4 fun t s h d => Gla.datt (X.v h) (X.o h) t s * Gla.decay (X.g h) t s d : FVec Ideal S8192x8192x4x64 .f32) := by
  unfold val_main_v40
  rw [up_v38 H, up_v21]
  funext y
  idx_vars y
  pointwise
  exact (EReal.coe_mul _ _).symm

/-- The keys' gradient. -/
theorem up_v65 : val_main_v65 (F := Ideal) x0 (up2 (φ := .f32) X.G) (up2 (φ := .f32) X.O) =
    (up2 X.resK : FVec Ideal S8192x256 .f32) := by
  unfold val_main_v65 val_main_v49 val_main_v44 val_main_v43 val_main_v42 val_main_v41 val_main_v22 val_main_cst_3 val_main_cst_5
  rw [up_v40 H, up_v5 H]
  funext y
  idx_vars y
  pointwise
  rw [Fin.sum_univ_one]
  refine Eq.trans (Finset.sum_congr rfl fun t _ => (EReal.coe_mul _ _).symm)
    ((coe_sum_fin fun t => X.q (y1.val / 64) t (y1.val % 64) *
      (Gla.datt (X.v (y1.val / 64)) (X.o (y1.val / 64)) t y0.val * Gla.decay (X.g (y1.val / 64)) t y0.val (y1.val % 64))).trans (coe3 ?_))
  show _ = X.resK y0.val y1.val
  unfold Data.resK Gla.refK
  exact Finset.sum_congr rfl fun t _ => by ring

/-- The queries' gradient. -/
theorem up_v68 : val_main_v68 (F := Ideal) x0 (up2 (φ := .f32) X.G) (up2 (φ := .f32) X.O) =
    (up2 X.resQ : FVec Ideal S8192x256 .f32) := by
  unfold val_main_v68 val_main_v67 val_main_v66 val_main_cst_11 val_main_v50 val_main_v48 val_main_v47 val_main_v46 val_main_v45
    val_main_v23 val_main_cst_4 val_main_cst_6
  rw [up_v40 H, up_v6 H]
  funext y
  idx_vars y
  pointwise
  rw [Fin.sum_univ_one, ofBits_eighth]
  refine Eq.trans (congrArg (fun z : EReal => z * ((1 / 8 : ℝ) : EReal)) (Eq.trans (Finset.sum_congr rfl fun s _ => (EReal.coe_mul _ _).symm)
    (coe_sum_fin fun s => Gla.datt (X.v (y1.val / 64)) (X.o (y1.val / 64)) y0.val s *
      Gla.decay (X.g (y1.val / 64)) y0.val s (y1.val % 64) * X.k (y1.val / 64) s (y1.val % 64)))) ((EReal.coe_mul _ _).symm.trans (coe3 ?_))
  show _ = X.resQ y0.val y1.val
  unfold Data.resQ Gla.refQ
  rw [Finset.sum_congr rfl fun s _ => mul_right_comm _ _ _]
  exact congrArg (fun z : ℝ => z * (1 / 8)) (Finset.sum_congr rfl fun s _ => by ring)

omit H in
theorem sel1 (a b : EReal) : Scalar.select 1#1 a b = a := rfl
omit H in
theorem sel0 (a b : EReal) : Scalar.select 0#1 a b = b := rfl

theorem up_v53 : val_main_v53 (F := Ideal) x0 (up2 (φ := .f32) X.G) (up2 (φ := .f32) X.O) =
    (up4 fun t s h d => Gla.flow (X.q h) (X.k h) (X.g h) (X.v h) (X.o h) t s d : FVec Ideal S8192x8192x4x64 .f32) := by
  unfold val_main_v53 val_main_v52 val_main_v51 val_main_v39
  rw [up_v26 H, up_v38 H, up_v20, mask_eq]
  funext y
  idx_vars y
  pointwise
  rw [mask_apply, zero_call4, zero_call3]
  show _ = ((Gla.flow _ _ _ _ _ y0.val y1.val y3.val : ℝ) : EReal)
  unfold Gla.flow Gla.decay
  by_cases h : y1.val ≤ y0.val
  · rw [if_pos h, if_pos h, sel1, sel1]
    show ((_ : ℝ) : EReal) * ((_ : ℝ) : EReal) * ((Real.exp (if y1.val ≤ y0.val then _ else 0) : ℝ) : EReal) = _
    rw [if_pos h, ← EReal.coe_mul, ← EReal.coe_mul]
    refine coe3 ?_
    show X.q y2.val y0.val y3.val * X.k y2.val y1.val y3.val * Gla.datt (X.v y2.val) (X.o y2.val) y0.val y1.val * Real.exp (Gla.cum (X.g y2.val) y0.val y3.val - Gla.cum (X.g y2.val) y1.val y3.val) =
      Gla.datt (X.v y2.val) (X.o y2.val) y0.val y1.val * (X.q y2.val y0.val y3.val * X.k y2.val y1.val y3.val * Real.exp (Gla.cum (X.g y2.val) y0.val y3.val - Gla.cum (X.g y2.val) y1.val y3.val))
    ring
  · rw [if_neg h, if_neg h, sel0]
    exact (congrArg _ (by rw [mul_zero, mul_zero])).trans EReal.coe_zero |>.symm

theorem up_v61 : val_main_v61 (F := Ideal) x0 (up2 (φ := .f32) X.G) (up2 (φ := .f32) X.O) =
    (up3 fun t h d => Gla.refC 8192 (X.q h) (X.k h) (X.g h) (X.v h) (X.o h) t d : FVec Ideal S8192x4x64 .f32) := by
  unfold val_main_v61 val_main_v60 val_main_v59 val_main_v58 val_main_v57 val_main_v56 val_main_v55 val_main_v54
    val_main_cst_7 val_main_cst_8 val_main_cst_9 val_main_cst_10
  rw [up_v53 H]
  funext y
  idx_vars y
  pointwise
  rw [Fin.sum_univ_one, Fin.sum_univ_one]
  refine Eq.trans (congrArg₂ (· + ·)
    (Eq.trans (Finset.sum_congr rfl fun u _ => (EReal.coe_neg _).symm)
      (coe_sum_fin fun u => -Gla.flow (X.q y1.val) (X.k y1.val) (X.g y1.val) (X.v y1.val) (X.o y1.val) u y0.val y2.val))
    (coe_sum_fin fun s => Gla.flow (X.q y1.val) (X.k y1.val) (X.g y1.val) (X.v y1.val) (X.o y1.val) y0.val s y2.val))
    ((EReal.coe_add _ _).symm.trans (coe3 ?_))
  show _ = Gla.refC 8192 (X.q y1.val) (X.k y1.val) (X.g y1.val) (X.v y1.val) (X.o y1.val) y0.val y2.val
  unfold Gla.refC
  rw [Finset.sum_neg_distrib]
  ring

/-- The log gates' gradient. -/
theorem up_v63 : val_main_v63 (F := Ideal) x0 (up2 (φ := .f32) X.G) (up2 (φ := .f32) X.O) =
    (up2 X.resG : FVec Ideal S8192x256 .f32) := by
  unfold val_main_v63 val_main_v62
  have z : ∀ i : S_.Idx, val_main_call5_v0 (F := Ideal) i = 0 := fun _ => Ideal.ofBits_zero_f32
  rw [up_v61 H, revsum_up3 (fun t h d => Gla.refC 8192 (X.q h) (X.k h) (X.g h) (X.v h) (X.o h) t d) _ _ Gen.h_S_ (z _)]
  funext y
  idx_vars y
  pointwise
  rfl

end Cert.ReferenceIdeal.Reals

end
-- ==== Proof.States.lean ====
/- The saved states the host works out before the region: the closed form of the state before each chunk. -/
module

public import proofs.«01_k».proof.Proof.Reads
public import proofs.«01_k».proof.Proof.Sums

@[expose] public section

set_option maxRecDepth 16384

open Finset

noncomputable section

namespace Cert.KernelIdeal.Chunk

open Cert.KernelIdeal Cert.KernelIdeal.Gen Idealize.ShloMosaic Idealize.ShloMosaic.TcCoe Idealize.SL.Sem

/-! ## The host's operations, as printed -/

variable {F : FTy → Type} [FloatOps F]

/-- A zero of every shape the host selects against. -/
def zero0 : FVec F S_ .f32 := constant S_ .f32 0x00000000#32

def hostK (x : FVec F S8192x3200 .f32) : FVec F S8192x4x64 .f32 :=
  shapeCast S8192x4x64 (extractStridedSlice S8192x256 ![0, 256] x slices_S8192x3200_S8192x256_0_256) shapeCasts_S8192x256_S8192x4x64
def hostV (x : FVec F S8192x3200 .f32) : FVec F S8192x4x128 .f32 :=
  shapeCast S8192x4x128 (extractStridedSlice S8192x512 ![0, 512] x slices_S8192x3200_S8192x512_0_512) shapeCasts_S8192x512_S8192x4x128
def hostG (g : FVec F S8192x256 .f32) : FVec F S8192x4x64 .f32 := shapeCast S8192x4x64 g shapeCasts_S8192x256_S8192x4x64
/-- The running sums of the log gates. -/
def hostB (g : FVec F S8192x4x64 .f32) : FVec F S8192x4x64 .f32 :=
  Host.reduceWindowAdd ![8192, 1, 1] ![1, 1, 1] ![8191, 0, 0] ![0, 0, 0] g (broadcastInDim S_ ![] bcast_S_S_ (zero0 (F := F)))
    reduceWindows_S8192x4x64_S8192x4x64_w8192s1p8191_0_w1s1p0_0_w1s1p0_0 h_S_
/-- The running sum before each chunk: zero, then every 64th. -/
def hostStart (b : FVec F S8192x4x64 .f32) : FVec F S128x4x64 .f32 :=
  concatenate S128x4x64 0 [⟨S1x4x64, broadcastInDim S1x4x64 ![] bcast_S_S1x4x64 (zero0 (F := F))⟩,
    ⟨S127x4x64, Host.slice S127x4x64 ![63, 0, 0] ![64, 1, 1] b slicesBy_S8192x4x64_S127x4x64_63s64_0s1_0s1⟩] concatenates_S1x4x64_S127x4x64_S128x4x64_d0
/-- Which rows lie before which chunk. -/
def hostSeen : IVec S128x8192 1 :=
  cmpi .slt (iotaInDim S128x8192 32 1) (muli (broadcastInDim S128x8192 ![] bcast_S_S128x8192 (constantI S_ 32 64#32)) (iotaInDim S128x8192 32 0))
def hostMask : IVec S128x8192x4x64 1 :=
  broadcastInDim S128x8192x4x64 ![0, 1, 2, 3] bcast_S128x8192x1x1_S128x8192x4x64_0_1_2_3
    (broadcastInDim S128x8192x1x1 ![0, 1] bcast_S128x8192_S128x8192x1x1_0_1 hostSeen)
def hostZero : FVec F S128x8192x4x64 .f32 := broadcastInDim S128x8192x4x64 ![] bcast_S_S128x8192x4x64 (zero0 (F := F))
/-- The log of what is left of a row at a chunk's start. -/
def hostDiff (b : FVec F S8192x4x64 .f32) : FVec F S128x8192x4x64 .f32 :=
  subf (broadcastInDim S128x8192x4x64 ![0, 1, 2, 3] bcast_S128x1x4x64_S128x8192x4x64_0_1_2_3
      (broadcastInDim S128x1x4x64 ![0, 2, 3] bcast_S128x4x64_S128x1x4x64_0_2_3 (hostStart b)))
    (broadcastInDim S128x8192x4x64 ![0, 1, 2, 3] bcast_S1x8192x4x64_S128x8192x4x64_0_1_2_3
      (broadcastInDim S1x8192x4x64 ![1, 2, 3] bcast_S8192x4x64_S1x8192x4x64_1_2_3 b))
def hostLeft (b : FVec F S8192x4x64 .f32) : FVec F S128x8192x4x64 .f32 :=
  select hostMask (Host.exp (select hostMask (hostDiff b) hostZero)) hostZero
def hostKeys (k b : FVec F S8192x4x64 .f32) : FVec F S128x8192x4x64 .f32 :=
  mulf (hostLeft b) (broadcastInDim S128x8192x4x64 ![0, 1, 2, 3] bcast_S1x8192x4x64_S128x8192x4x64_0_1_2_3
    (broadcastInDim S1x8192x4x64 ![1, 2, 3] bcast_S8192x4x64_S1x8192x4x64_1_2_3 k))
def hostStates (v : FVec F S8192x4x128 .f32) (w : FVec F S128x8192x4x64 .f32) : FVec F S128x4x64x128 .f32 :=
  transpose S128x4x64x128 [2, 0, 3, 1] (Host.dotGeneral dot_S8192x4x128_S128x8192x4x64_S4x128x128x64_0_1_2_03_1_2 none v w)
    transposes_S4x128x128x64_S128x4x64x128_2_0_3_1

theorem entry (m : (ℓ : Loc nD τ sig) → Buf (Elt F) ℓ) (c : Dev nD) :
    Gen.V m c main_v27 = hostStates (hostV (m ((c : Thread nD τ).loc main_arg0)))
      (hostKeys (hostK (m ((c : Thread nD τ).loc main_arg0))) (hostB (hostG (m ((c : Thread nD τ).loc main_arg1))))) := by
  show StableHlo.after (List.flatten [hostOps0, hostOps0_1, hostOps0_2, hostOps0_3, hostOps0_4, hostOps0_5, hostOps0_6]) _ _ = _
  simp only [hostOps0, hostOps0_1, hostOps0_2, hostOps0_3, hostOps0_4, hostOps0_5, hostOps0_6, List.flatten_cons, List.flatten_nil,
    List.cons_append, List.nil_append, StableHlo.TRef.binary, StableHlo.TRef.nullary, StableHlo.TRef.ternary, StableHlo.TRef.unary,
    StableHlo.TRef.toBuf, StableHlo.TRef.ofBuf, cast_eq]
  after_results_simp <;> rfl

/-! ## Their values -/

theorem zero0_eq (i : S_.Idx) : zero0 (F := Ideal) i = 0 := Ideal.ofBits_zero_f32

theorem hostK_apply (x : FVec Ideal S8192x3200 .f32) (t : Fin 8192) (h : Fin 4) (d : Fin 64) :
    hostK x (ix3 t h d) = x (ix2 t ⟨256 + (64 * h.val + d.val), by omega⟩) := by
  unfold hostK
  pointwise
  exact congrArg (fun j => x (ix2 t j)) (Fin.ext (by show 256 + (h.val * 64 + d.val) = 256 + (64 * h.val + d.val); omega))

theorem hostV_apply (x : FVec Ideal S8192x3200 .f32) (t : Fin 8192) (h : Fin 4) (e : Fin 128) :
    hostV x (ix3 t h e) = x (ix2 t ⟨512 + (128 * h.val + e.val), by omega⟩) := by
  unfold hostV
  pointwise
  exact congrArg (fun j => x (ix2 t j)) (Fin.ext (by show 512 + (h.val * 128 + e.val) = 512 + (128 * h.val + e.val); omega))

theorem hostG_up (f : ℕ → ℕ → ℝ) :
    hostG (up2 f : FVec Ideal S8192x256 .f32) = (up3 fun t h d => f t (64 * h + d) : FVec Ideal S8192x4x64 .f32) := by
  funext y
  idx_vars y
  unfold hostG
  pointwise
  show ((f _ _ : ℝ) : EReal) = ((f _ _ : ℝ) : EReal)
  congr 2
  simp only [ix2, ix3]
  omega

theorem hostMask_apply (n : Fin 128) (s : Fin 8192) (h : Fin 4) (d : Fin 64) :
    hostMask (ix4 n s h d) = if s.val < 64 * n.val then 1#1 else 0#1 := by
  unfold hostMask hostSeen
  pointwise
  have e : IntOp.muli (64#32) (BitVec.ofNat 32 n.val) = BitVec.ofNat 32 (64 * n.val) := by
    show 64#32 * BitVec.ofNat 32 n.val = _
    rw [BitVec.ofNat_mul]
  rw [e]
  have hn := n.isLt
  have hs := s.isLt
  exact slt_nat (by omega) (by omega)

theorem hostStart_apply (b : FVec Ideal S8192x4x64 .f32) (n : Fin 128) (h : Fin 4) (d : Fin 64) :
    hostStart b (ix3 n h d) = if n.val < 1 then 0 else b (ix3 ⟨63 + 64 * (n.val - 1), by omega⟩ h d) := by
  unfold hostStart
  pointwise
  split_ifs <;> first | exact zero0_eq _ | rfl

theorem hostDiff_apply (b : FVec Ideal S8192x4x64 .f32) (n : Fin 128) (s : Fin 8192) (h : Fin 4) (d : Fin 64) :
    hostDiff b (ix4 n s h d) = hostStart b (ix3 n h d) - b (ix3 s h d) := by
  unfold hostDiff
  pointwise

theorem hostStates_apply (v : FVec Ideal S8192x4x128 .f32) (w : FVec Ideal S128x8192x4x64 .f32) (n : Fin 128) (h : Fin 4)
    (d : Fin 64) (e : Fin 128) : hostStates v w (ix4 n h d e) = ∑ s : Fin 8192, v (ix3 s h e) * w (ix4 n s h d) := by
  unfold hostStates
  pointwise

theorem hostB_up (f : ℕ → ℕ → ℕ → ℝ) : hostB (up3 f : FVec Ideal S8192x4x64 .f32) =
    (up3 fun t h d => ∑ s ∈ range (t + 1), f s h d : FVec Ideal S8192x4x64 .f32) :=
  cumsum_up3 f _ _ h_S_ (zero0_eq _)

theorem hostKeys_apply (k b : FVec Ideal S8192x4x64 .f32) (n : Fin 128) (s : Fin 8192) (h : Fin 4) (d : Fin 64) :
    hostKeys k b (ix4 n s h d) =
      (if s.val < 64 * n.val then Ideal.exp (hostStart b (ix3 n h d) - b (ix3 s h d)) else 0) * k (ix3 s h d) := by
  have hz : hostZero (F := Ideal) (ix4 n s h d) = 0 := Ideal.ofBits_zero_f32
  have hm := hostMask_apply n s h d
  have hd := hostDiff_apply b n s h d
  unfold hostKeys hostLeft
  pointwise
  rw [hm, hd, hz]
  split_ifs <;> rfl

/-- What the host finds before the region is the closed form. -/
theorem states_up (X : Data) (x : FVec Ideal S8192x3200 .f32)
    (hK : ∀ (t : Fin 8192) (j : Fin 256), x (ix2 t ⟨256 + j.val, by omega⟩) = ((X.K t.val j.val : ℝ) : EReal))
    (hV : ∀ (t : Fin 8192) (j : Fin 512), x (ix2 t ⟨512 + j.val, by omega⟩) = ((X.V t.val j.val : ℝ) : EReal)) :
    hostStates (hostV x) (hostKeys (hostK x) (hostB (hostG (up2 X.G)))) =
      (up4 fun n h r e => X.st h n r e : FVec Ideal S128x4x64x128 .f32) := by
  funext y
  idx_vars y
  rw [hostStates_apply, hostG_up, hostB_up]
  have step : ∀ s : Fin 8192, hostV x (ix3 s y1 y3) * hostKeys (hostK x) (up3 fun t h d => ∑ s ∈ range (t + 1), X.G s (64 * h + d)) (ix4 y0 s y1 y2) =
      ((if s.val < 64 * y0.val then Real.exp (Gla.start (X.g y1.val) y0.val y2.val - Gla.cum (X.g y1.val) s.val y2.val) *
        X.k y1.val s.val y2.val * X.v y1.val s.val y3.val else 0 : ℝ) : EReal) := by
    intro s
    rw [hostKeys_apply, hostV_apply, hostK_apply, hV s ⟨128 * y1.val + y3.val, by omega⟩, hK s ⟨64 * y1.val + y2.val, by omega⟩]
    rw [hostStart_apply]
    have e1 : (if y0.val < 1 then (0 : EReal) else (up3 (φ := .f32) (fun t h d => ∑ s ∈ range (t + 1), X.G s (64 * h + d)) : FVec Ideal S8192x4x64 .f32)
        (ix3 ⟨63 + 64 * (y0.val - 1), by omega⟩ y1 y2)) = ((Gla.start (X.g y1.val) y0.val y2.val : ℝ) : EReal) := by
      unfold Gla.start
      split_ifs with hn
      · rw [show y0.val = 0 by omega]; simp
      · show ((∑ s ∈ range (63 + 64 * (y0.val - 1) + 1), X.G s (64 * y1.val + y2.val) : ℝ) : EReal) = _
        rw [show 63 + 64 * (y0.val - 1) + 1 = 64 * y0.val by omega]
        rfl
    rw [e1]
    change ((X.v y1.val s.val y3.val : ℝ) : EReal) * ((if s.val < 64 * y0.val then Ideal.exp (((Gla.start (X.g y1.val) y0.val y2.val : ℝ) : EReal) -
      ((Gla.cum (X.g y1.val) s.val y2.val : ℝ) : EReal)) else 0) * ((X.k y1.val s.val y2.val : ℝ) : EReal)) = _
    rw [← EReal.coe_sub]
    split_ifs
    · show ((_ : ℝ) : EReal) * (((Real.exp _ : ℝ) : EReal) * ((_ : ℝ) : EReal)) = _
      rw [← EReal.coe_mul, ← EReal.coe_mul]
      congr 1
      ring
    · rw [zero_mul, mul_zero, EReal.coe_zero]
  refine (Finset.sum_congr rfl fun s _ => step s).trans ((coe_sum_fin fun s => if s < 64 * y0.val then
    Real.exp (Gla.start (X.g y1.val) y0.val y2.val - Gla.cum (X.g y1.val) s y2.val) * X.k y1.val s y2.val * X.v y1.val s y3.val else 0).trans ?_)
  refine congrArg (fun r : ℝ => (r : EReal)) ?_
  show _ = Gla.state (X.k y1.val) (X.g y1.val) (X.v y1.val) y0.val y2.val y3.val
  unfold Gla.state
  rw [← Finset.sum_filter]
  refine Finset.sum_congr (Finset.ext fun s => ?_) fun _ _ => rfl
  have hn := y0.isLt
  rw [Finset.mem_filter, Finset.mem_range, Finset.mem_range]
  omega

end Cert.KernelIdeal.Chunk

end
-- ==== Proof.Pre.lean ====
/- The precondition: every entry the gradient reads is a real number. -/
module

public import proofs.«01_k».proof.Proof.States
public import proofs.«01_k».proof.Proof.RefA
public import proofs.«01_k».proof.Proof.Gen.Pre_finite

@[expose] public section

set_option maxRecDepth 16384

noncomputable section

namespace Cert.Proof.Finite

open Cert.KernelIdeal.Chunk Idealize.ShloMosaic Idealize.ShloMosaic.TcCoe Idealize.SL.Sem

theorem ofBits_top : Ideal.ofBits .f32 0x7F800000#32 = ⊤ := by
  simp [Ideal.ofBits, Ideal.ieee]

/-- An extended real whose absolute value is below infinity is a real number. -/
theorem real_of_abs (x : EReal) (h : Ideal.cmp .olt (max x (-x)) (Ideal.ofBits .f32 0x7F800000#32) = 1#1) :
    x = ((x.toReal : ℝ) : EReal) := by
  rw [ofBits_top] at h
  have h' : max x (-x) < ⊤ := by
    by_contra hc
    simp [Ideal.cmp, hc] at h
  refine (EReal.coe_toReal ?_ ?_).symm
  · rintro rfl; simp at h'
  · rintro rfl; simp at h'

/-- The data an argument triple holds. -/
def data (x : FVec Ideal Cert.KernelIdeal.S8192x3200 .f32) (g : FVec Ideal Cert.KernelIdeal.S8192x256 .f32)
    (o : FVec Ideal Cert.KernelIdeal.S8192x512 .f32) : Data where
  Q t j := if h : t < 8192 ∧ j < 256 then (x (ix2 ⟨t, h.1⟩ ⟨j, by omega⟩)).toReal else 0
  K t j := if h : t < 8192 ∧ j < 256 then (x (ix2 ⟨t, h.1⟩ ⟨256 + j, by omega⟩)).toReal else 0
  V t j := if h : t < 8192 ∧ j < 512 then (x (ix2 ⟨t, h.1⟩ ⟨512 + j, by omega⟩)).toReal else 0
  G t j := if h : t < 8192 ∧ j < 256 then (g (ix2 ⟨t, h.1⟩ ⟨j, h.2⟩)).toReal else 0
  O t j := if h : t < 8192 ∧ j < 512 then (o (ix2 ⟨t, h.1⟩ ⟨j, h.2⟩)).toReal else 0

variable {x : FVec Ideal Cert.KernelIdeal.S8192x3200 .f32} {g : FVec Ideal Cert.KernelIdeal.S8192x256 .f32}
  {o : FVec Ideal Cert.KernelIdeal.S8192x512 .f32}

theorem x_real (h : (Cert.Pre_finite.fn (F := Ideal) x g o).1 = fun _ => 1#1) (t : Fin 8192) (j : Fin 3200) (hj : j.val < 1024) :
    x (ix2 t j) = (((x (ix2 t j)).toReal : ℝ) : EReal) := by
  have e := congrFun h (ix2 t ⟨j.val, hj⟩)
  simp only [Cert.Pre_finite.fn] at e
  refine real_of_abs _ (Eq.trans ?_ e)
  pointwise
  rfl

theorem g_real (h : (Cert.Pre_finite.fn (F := Ideal) x g o).2.1 = fun _ => 1#1) (t : Fin 8192) (j : Fin 256) :
    g (ix2 t j) = (((g (ix2 t j)).toReal : ℝ) : EReal) := by
  have e := congrFun h (ix2 t j)
  simp only [Cert.Pre_finite.fn] at e
  refine real_of_abs _ (Eq.trans ?_ e)
  pointwise
  rfl

theorem o_real (h : (Cert.Pre_finite.fn (F := Ideal) x g o).2.2 = fun _ => 1#1) (t : Fin 8192) (j : Fin 512) :
    o (ix2 t j) = (((o (ix2 t j)).toReal : ℝ) : EReal) := by
  have e := congrFun h (ix2 t j)
  simp only [Cert.Pre_finite.fn] at e
  refine real_of_abs _ (Eq.trans ?_ e)
  pointwise
  rfl

theorem g_up (h : (Cert.Pre_finite.fn (F := Ideal) x g o).2.1 = fun _ => 1#1) :
    g = (up2 (data x g o).G : FVec Ideal Cert.KernelIdeal.S8192x256 .f32) := by
  funext y
  idx_vars y
  refine (g_real h y0 y1).trans (congrArg (fun r : ℝ => (r : EReal)) ?_)
  show _ = (data x g o).G y0.val y1.val
  simp [data]

theorem o_up (h : (Cert.Pre_finite.fn (F := Ideal) x g o).2.2 = fun _ => 1#1) :
    o = (up2 (data x g o).O : FVec Ideal Cert.KernelIdeal.S8192x512 .f32) := by
  funext y
  idx_vars y
  refine (o_real h y0 y1).trans (congrArg (fun r : ℝ => (r : EReal)) ?_)
  show _ = (data x g o).O y0.val y1.val
  simp [data]

theorem args (h : (Cert.Pre_finite.fn (F := Ideal) x g o).1 = fun _ => 1#1) :
    Cert.ReferenceIdeal.Reals.Args (data x g o) x where
  Q t j := (x_real h t ⟨j.val, by omega⟩ (by show j.val < 1024; omega)).trans
    (congrArg (fun r : ℝ => (r : EReal)) (by simp [data]))
  K t j := (x_real h t ⟨256 + j.val, by omega⟩ (by show 256 + j.val < 1024; omega)).trans
    (congrArg (fun r : ℝ => (r : EReal)) (by simp [data]))
  V t j := (x_real h t ⟨512 + j.val, by omega⟩ (by show 512 + j.val < 1024; omega)).trans
    (congrArg (fun r : ℝ => (r : EReal)) (by simp [data]))

end Cert.Proof.Finite

end
-- ==== Proof.Final.lean ====
/- The two runs, joined: under the precondition the arrays the gradient kernel leaves are the reference's, entry by entry. -/
module

public import proofs.«01_k».proof.Defs
public import proofs.«01_k».proof.Proof.Sweep
public import proofs.«01_k».proof.Proof.RefB
public import proofs.«01_k».proof.Proof.Pre
public import proofs.«01_k».proof.Proof.Gen.ReferenceIdeal.Run
public import proofs.«01_k».proof.Proof.Gen.ReferenceIdeal.Read
public import Idealize.ShloMosaic.Lib.Claim

@[expose] public section

set_option maxRecDepth 16384

noncomputable section

namespace Cert.Proof.Final

open Cert.KernelIdeal.Chunk Cert.Proof.Finite Idealize.ShloMosaic Idealize.ShloMosaic.TcCoe Idealize.SL.Sem

section
open Cert.KernelIdeal

/-- What the precondition says of one device's memory, in the form the kernel's proof reads it. -/
theorem holds (m : (ℓ : Loc nD τ sig) → Buf (Elt Ideal) ℓ) (c : Dev nD) (h : Cert.Pre_KernelIdeal_finite m) :
    Holds m c (data (m ((c : Thread nD τ).loc main_arg0)) (m ((c : Thread nD τ).loc main_arg1)) (m ((c : Thread nD τ).loc main_arg2))) where
  Q := (args (h c).1).Q
  K := (args (h c).1).K
  V := (args (h c).1).V
  G := g_up (h c).2.1
  O := o_up (h c).2.2
  S := by
    rw [entry m c]
    have e := states_up (data (m ((c : Thread nD τ).loc main_arg0)) (m ((c : Thread nD τ).loc main_arg1)) (m ((c : Thread nD τ).loc main_arg2)))
      (m ((c : Thread nD τ).loc main_arg0)) (args (h c).1).K (args (h c).1).V
    rw [← g_up (h c).2.1] at e
    exact e

end

section
open Cert.ReferenceIdeal Cert.ReferenceIdeal.Read Cert.ReferenceIdeal.Reals

variable {x : FVec Ideal S8192x3200 .f32} {g : FVec Ideal S8192x256 .f32} {o : FVec Ideal S8192x512 .f32}
  (h : (Cert.Pre_finite.fn (F := Ideal) x g o).1 = (fun _ => 1#1) ∧ (Cert.Pre_finite.fn (F := Ideal) x g o).2.1 = (fun _ => 1#1)
    ∧ (Cert.Pre_finite.fn (F := Ideal) x g o).2.2 = fun _ => 1#1)
include h

/-! The reference's four results, of arguments the precondition holds of. -/

theorem refQ : val_main_v68 (F := Ideal) x g o = (up2 (data x g o).resQ : FVec Ideal S8192x256 .f32) := by
  have e := up_v68 (args h.1)
  rwa [← g_up h.2.1, ← o_up h.2.2] at e
theorem refK : val_main_v65 (F := Ideal) x g o = (up2 (data x g o).resK : FVec Ideal S8192x256 .f32) := by
  have e := up_v65 (args h.1)
  rwa [← g_up h.2.1, ← o_up h.2.2] at e
theorem refV : val_main_v64 (F := Ideal) x g o = (up2 (data x g o).resV : FVec Ideal S8192x512 .f32) := by
  have e := up_v64 (args h.1)
  rwa [← g_up h.2.1, ← o_up h.2.2] at e
theorem refG : val_main_v63 (F := Ideal) x g o = (up2 (data x g o).resG : FVec Ideal S8192x256 .f32) := by
  have e := up_v63 (args h.1)
  rwa [← g_up h.2.1, ← o_up h.2.2] at e

end

section
open Cert.ReferenceIdeal

/-- The reference's run, its results named. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v68) =
        Read.val_main_v68 (m ((c : Thread nD τ).loc main_arg0)) (m ((c : Thread nD τ).loc main_arg1)) (m ((c : Thread nD τ).loc main_arg2))
      ∧ r.2.mem ((c : Thread nD τ).loc main_v65) =
        Read.val_main_v65 (m ((c : Thread nD τ).loc main_arg0)) (m ((c : Thread nD τ).loc main_arg1)) (m ((c : Thread nD τ).loc main_arg2))
      ∧ r.2.mem ((c : Thread nD τ).loc main_v64) =
        Read.val_main_v64 (m ((c : Thread nD τ).loc main_arg0)) (m ((c : Thread nD τ).loc main_arg1)) (m ((c : Thread nD τ).loc main_arg2))
      ∧ r.2.mem ((c : Thread nD τ).loc main_v63) =
        Read.val_main_v63 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (Value.run (F := Ideal) m ρ)
  obtain ⟨h1, h2, h3, h4, h5⟩ := h c
  exact ⟨h1.trans (Read.val_main_v68_eq _ _ _), h2.trans (Read.val_main_v65_eq _ _ _), h3.trans (Read.val_main_v64_eq _ _ _),
    h4.trans (Read.val_main_v63_eq _ _), h5⟩

end

/-- On finite arguments the kernel's four gradients are the reference's. -/
theorem algebraic : Cert.algebraic_KernelIdeal_ReferenceIdeal_pre_finite := by
  intro m g m' g' hpre hagree
  refine ⟨fun c => (Cert.KernelIdeal.Gen.dats m 0 c).arrAt 6 Cert.KernelIdeal.cfg0.N,
    fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N, ?_, ?_⟩
  · exact Cert.KernelIdeal.Value.run_blocks m g
  · refine (θ_run Cert.ReferenceIdeal.defs _ _).mono (fun r h c => ?_) (ref_run m' g')
    obtain ⟨h1, h2, h3, h4, h5⟩ := h c
    obtain ⟨a0, a1, a2⟩ := hagree c
    rw [a0, a1, a2] at h1 h2 h3 h4
    have H := holds m c hpre
    exact ⟨h1.trans ((refQ (hpre c)).trans (Cert.KernelIdeal.Chunk.finalQ H).symm),
      h2.trans ((refK (hpre c)).trans (Cert.KernelIdeal.Chunk.finalK H).symm),
      h3.trans ((refV (hpre c)).trans (Cert.KernelIdeal.Chunk.finalV H).symm),
      h4.trans ((refG (hpre c)).trans (Cert.KernelIdeal.Chunk.finalG H).symm), h5⟩

end Cert.Proof.Final

end
-- ==== Proof.Blocked.lean ====
/- A long sum taken block by block: sums over rows numbered by natural numbers, an array read at natural numbers. -/
module

public import Idealize.ShloMosaic.Lib.Pointwise
public import Idealize.ShloMosaic.Lib.IdealHost

@[expose] public section

open Finset

noncomputable section

namespace Blocked

open Idealize.ShloMosaic

/-- The entry of a matrix at row `i` and column `j`, and `0` outside it. -/
def at2 {m n : ℕ} {φ : FTy} (x : FVec Ideal ⟨2, ![m, n]⟩ φ) (i j : ℕ) : EReal :=
  if h : i < m ∧ j < n then x (ix2 ⟨i, h.1⟩ ⟨j, h.2⟩) else 0

/-- The entry of a stack of matrices at `a`, row `i` and column `j`, and `0` outside it. -/
def at3 {l m n : ℕ} {φ : FTy} (x : FVec Ideal ⟨3, ![l, m, n]⟩ φ) (a i j : ℕ) : EReal :=
  if h : a < l ∧ i < m ∧ j < n then x (ix3 ⟨a, h.1⟩ ⟨i, h.2.1⟩ ⟨j, h.2.2⟩) else 0

theorem at2_of {m n : ℕ} {φ : FTy} (x : FVec Ideal ⟨2, ![m, n]⟩ φ) {i j : ℕ} (hi : i < m) (hj : j < n) :
    at2 x i j = x (ix2 ⟨i, hi⟩ ⟨j, hj⟩) := dif_pos ⟨hi, hj⟩

theorem at3_of {l m n : ℕ} {φ : FTy} (x : FVec Ideal ⟨3, ![l, m, n]⟩ φ) {a i j : ℕ} (ha : a < l) (hi : i < m) (hj : j < n) :
    at3 x a i j = x (ix3 ⟨a, ha⟩ ⟨i, hi⟩ ⟨j, hj⟩) := dif_pos ⟨ha, hi, hj⟩

/-- The sum over one more block of `b` terms is the sum so far and the block's sum. -/
theorem sum_next {b : ℕ} (f : ℕ → EReal) (k : ℕ) :
    ∑ r ∈ range (b * k), f r + ∑ r : Fin b, f (b * k + r.val) = ∑ r ∈ range (b * (k + 1)), f r := by
  rw [Fin.sum_univ_eq_sum_range (fun r => f (b * k + r)), Nat.mul_succ, Finset.sum_range_add]

theorem sum_first {b : ℕ} (f : ℕ → EReal) :
    ∑ r : Fin b, f (b * 0 + r.val) = ∑ r ∈ range (b * (0 + 1)), f r := by
  have h := sum_next (b := b) f 0
  simpa using h

/-- A sum over all the indices as a sum over natural numbers. -/
theorem sum_all {n : ℕ} (f : ℕ → EReal) : ∑ r : Fin n, f r.val = ∑ r ∈ range n, f r :=
  Fin.sum_univ_eq_sum_range f n

end Blocked

end
-- ==== Proof.DownGrad.lean ====
/- The gradient of the down projection: the kernel adds the products of sixteen blocks of 512 rows in a scratch block, and
   leaves the product over all 8192 rows. -/
module

public import proofs.«01_k».proof.Defs
public import proofs.«01_k».proof.Proof.Blocked
public import proofs.«01_k».proof.Proof.Gen.DownGradIdeal.Value
public import proofs.«01_k».proof.Proof.Gen.DownGradRefIdeal.Run
public import proofs.«01_k».proof.Proof.Gen.DownGradRefIdeal.Read
public import Idealize.ShloMosaic.Lib.Pipeline.ValueKit
public import Idealize.ShloMosaic.Lib.Pipeline.ReadBack
public import Idealize.ShloMosaic.Lib.Claim

@[expose] public section

set_option maxRecDepth 16384

open Finset

noncomputable section

namespace Cert.DownGradIdeal.Product

open Cert.DownGradIdeal Cert.DownGradIdeal.Gen Idealize.ShloMosaic Idealize.ShloMosaic.TcCoe Idealize.SL.Sem Blocked

theorem hz : (![0, 0] : Fin 2 → ℕ) = fun _ => 0 := by decide

/-- A block's product, entry by entry. -/
theorem block_product (x0 : Vec Ideal S512x1408 .bf16) (x1 : Vec Ideal S512x1024 .f32) (a : Fin 1408) (b : Fin 1024) :
    k0_pay1 (F := Ideal) x0 x1 (ix2 a b) = ∑ r : Fin 512, x0 (ix2 r a) * x1 (ix2 r b) := by
  unfold k0_pay1
  pointwise

section
variable (c : Dev nD) (i : grid0.Coords) (arg3 : Memref sig .tc .vmem S512x1408 .bf16) (harg3 : arg3.IsWhole)
  (arg4 : Memref sig .tc .vmem S512x1024 .f32) (harg4 : arg4.IsWhole) (arg5 : Memref sig .tc .vmem S1408x1024 .f32) (harg5 : arg5.IsWhole)
  (arg6 : Memref sig .tc .vmem S1408x1024 .f32) (harg6 : arg6.IsWhole) (x0 : Vec Ideal S512x1408 .bf16) (x1 : Vec Ideal S512x1024 .f32)
  (xs : Vec Ideal S1408x1024 .f32)

/-- The first point of a sweep leaves its block's product in the scratch. -/
theorem scratch_A (hc0 : cond0_0 i) (hc1 : ¬cond0_1 i) (hc2 : ¬cond0_2 i) :
    sout0_A_0 (F := Ideal) c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_cons_unit_zero (S := S1408x1024) hz]
  unfold k0_pay2
  simp only [View.readAt_eq_ld, harg3.read_unread, harg4.read_unread, View.ld_unit_zero (S := S512x1408) hz,
    View.ld_unit_zero (S := S512x1024) hz, shapeCast_self]

/-- A later point adds its block's product. -/
theorem scratch_B (hc0 : ¬cond0_0 i) (hc1 : cond0_1 i) (hc2 : ¬cond0_2 i) :
    sout0_B_0 (F := Ideal) c i arg3 harg3 arg4 harg4 arg5 harg5 arg6 harg6 hc0 hc1 hc2 x0 x1 xs = addf xs (k0_pay1 x0 x1) := by
  unfold sout0_B_0
  rw [View.read_writes_eq_canon _ _ _ (scover0_B_0 c i arg3 harg3 arg4 harg4 arg5 harg5 arg6 harg6 hc0 hc1 hc2 x0 x1 xs)]
  unfold kernelRun0_B
  dsimp only
  sl_unfold_words
  rw [View.canon_cons_unit_zero (S := S1408x1024) hz]
  unfold k0_pay3
  simp only [View.readAt_eq_ld, harg3.read_unread, harg4.read_unread, harg6.read_unread, View.ld_unit_zero (S := S512x1408) hz,
    View.ld_unit_zero (S := S512x1024) hz, View.ld_unit_zero (S := S1408x1024) hz, shapeCast_self]

/-- The last point of a sweep writes out the scratch with its block's product added. -/
theorem out_C (hc0 : ¬cond0_0 i) (hc1 : cond0_1 i) (hc2 : cond0_2 i) :
    out0_C_2 (F := Ideal) c i arg3 harg3 arg4 harg4 arg5 harg5 arg6 harg6 hc0 hc1 hc2 x0 x1 xs = addf xs (k0_pay1 x0 x1) := by
  unfold out0_C_2
  rw [View.read_writes_eq_canon _ _ _ (cover0_C_2 c i arg3 harg3 arg4 harg4 arg5 harg5 arg6 harg6 hc0 hc1 hc2 x0 x1 xs)]
  unfold kernelRun0_C
  dsimp only
  sl_unfold_words
  rw [View.canon_cons_unit_zero (S := S1408x1024) hz, View.readCov_unit_zero (S := S1408x1024) _ hz]
  unfold k0_pay3
  simp only [View.readAt_eq_ld, harg3.read_unread, harg4.read_unread, harg6.read_unread, View.ld_unit_zero (S := S512x1408) hz,
    View.ld_unit_zero (S := S512x1024) hz, View.ld_unit_zero (S := S1408x1024) hz, shapeCast_self]
end

theorem idx : ∀ t : Fin cfg0.N, win0_0.index t = ![t.val % 16, t.val / 16] ∧ win0_1.index t = ![t.val % 16, 0] ∧
    win0_2.index t = ![t.val / 16, 0] :=
  (by decide +kernel : ∀ t : Fin grid0.N, _)

variable (m : (ℓ : Loc nD τ sig) → Buf (Elt Ideal) ℓ) (c : Dev nD)

/-- The first operand, and the second. -/
abbrev X0 : FVec Ideal S8192x2816 .bf16 := m ((c : Thread nD τ).loc main_arg0)
abbrev X1 : FVec Ideal S8192x1024 .f32 := m ((c : Thread nD τ).loc main_arg1)

theorem read0 (t : Fin cfg0.N) (r : Fin 512) (a : Fin 1408) :
    iblk m c 0 t (ix2 r a) = at2 (X0 m c) (512 * (t.val % 16) + r.val) (1408 * (t.val / 16) + a.val) := by
  have ht : t.val < 32 := lt_of_lt_of_eq t.isLt (show cfg0.N = 32 from N_0)
  rw [at2_of _ (by omega) (by omega)]
  blk_ext [iblk, V_main_arg0, idx t]

theorem read1 (t : Fin cfg0.N) (r : Fin 512) (b : Fin 1024) :
    iblk m c 1 t (ix2 r b) = at2 (X1 m c) (512 * (t.val % 16) + r.val) b.val := by
  have ht : t.val < 32 := lt_of_lt_of_eq t.isLt (show cfg0.N = 32 from N_0)
  rw [at2_of _ (by omega) (by omega)]
  blk_ext [iblk, V_main_arg1, idx t]

/-- A term of the product of the two operands, and the part of the product from the first `n` rows. -/
def term (i j r : ℕ) : EReal := at2 (X0 m c) r i * at2 (X1 m c) r j
def part (n i j : ℕ) : EReal := ∑ r ∈ range n, term m c i j r

theorem block_part (t : Fin cfg0.N) (a : Fin 1408) (b : Fin 1024) :
    k0_pay1 (F := Ideal) (iblk m c 0 t) (iblk m c 1 t) (ix2 a b) =
      ∑ r : Fin 512, term m c (1408 * (t.val / 16) + a.val) b.val (512 * (t.val % 16) + r.val) := by
  rw [block_product]
  exact Finset.sum_congr rfl fun r _ => by rw [read0, read1]; rfl

/-- After point `t`, not the last of its sweep, the scratch holds the part of the product so far. -/
theorem scratch (n : ℕ) (hn : n < cfg0.N) (h15 : n % 16 ≠ 15) (a : Fin 1408) (b : Fin 1024) :
    (outsAt0 m c n hn).2 (ix2 a b) = part m c (512 * (n % 16 + 1)) (1408 * (n / 16) + a.val) b.val := by
  induction n with
  | zero =>
    rw [outsAt0_A m c ⟨0, hn⟩ (by simp) (by simp) (by simp)]
    dsimp only
    rw [scratch_A, block_part]
    exact sum_first (term m c _ _)
  | succ n ih =>
    by_cases h0 : (n + 1) % 16 = 0
    · have e := outsAt0_A m c ⟨n + 1, hn⟩ h0 (by dsimp only; omega) (by dsimp only; omega)
      dsimp only at e
      rw [e]
      dsimp only
      rw [scratch_A, block_part]
      dsimp only
      rw [h0]
      exact sum_first (term m c _ _)
    · have e := outsAt0_B m c ⟨n + 1, hn⟩ h0 (by dsimp only; omega) h15
      dsimp only at e
      rw [e]
      dsimp only
      rw [scratch_B]
      refine (congrArg₂ (· + ·) (ih (by omega) (by omega)) (block_part m c ⟨n + 1, hn⟩ a b)).trans ?_
      dsimp only
      rw [show (n + 1) / 16 = n / 16 by omega, show (n + 1) % 16 = n % 16 + 1 by omega]
      exact sum_next (term m c _ _) _

/-- What the last point of a sweep writes out. -/
theorem flushed (t : Fin cfg0.N) (ht : t.val % 16 = 15) (a : Fin 1408) (b : Fin 1024) :
    (outsAt0 m c t.val t.isLt).1 (ix2 a b) = part m c 8192 (1408 * (t.val / 16) + a.val) b.val := by
  rw [outsAt0_C m c t (by omega) (by omega) ht]
  dsimp only
  rw [out_C]
  have hN : t.val < 32 := lt_of_lt_of_eq t.isLt (show cfg0.N = 32 from N_0)
  refine (congrArg₂ (· + ·) (scratch m c (t.val - 1) (by omega) (by omega) a b) (block_part m c t a b)).trans ?_
  rw [show (t.val - 1) / 16 = t.val / 16 by omega, show (t.val - 1) % 16 = 14 by omega, ht]
  exact sum_next (term m c _ _) _

/-- The result array: the product. -/
theorem final : (dats m 0 c).arrAt 2 cfg0.N =
    (fun y => part m c 8192 (y 0).val (y 1).val : FVec Ideal S2816x1024 .f32) := by
  refine Eq.trans (b := Value.G2 m c) (Value.final2 m c) ?_
  funext y
  idx_vars y
  unfold Value.G2
  have hp : Value.pt2Of (ix2 y0 y1) < cfg0.N := by
    rw [show cfg0.N = 32 from N_0]
    show 16 * (1 * (y0.val / 1408 - 0) + 1 * (y1.val / 1024 - 0)) + 15 < 32
    omega
  rw [dif_pos hp]
  have e := flushed m c ⟨_, hp⟩ (by show (16 * _ + 15) % 16 = 15; omega) ⟨y0.val % 1408, Nat.mod_lt _ (by decide)⟩ ⟨y1.val % 1024, Nat.mod_lt _ (by decide)⟩
  rw [Value.outsAt0_sweep] at e
  refine Eq.trans ?_ (e.trans ?_)
  · refine congrArg (Prod.fst _) ?_
    funext a
    match a with
    | ⟨0, _⟩ => rfl
    | ⟨1, _⟩ => rfl
  · show part m c 8192 (1408 * ((16 * (1 * (y0.val / 1408 - 0) + 1 * (y1.val / 1024 - 0)) + 15) / 16) + y0.val % 1408) (y1.val % 1024) = _
    rw [show 1408 * ((16 * (1 * (y0.val / 1408 - 0) + 1 * (y1.val / 1024 - 0)) + 15) / 16) + y0.val % 1408 = y0.val by omega,
      show y1.val % 1024 = y1.val by omega]

/-- The reference's result, entry by entry. -/
theorem ref (x0 : FVec Ideal S8192x2816 .bf16) (x1 : FVec Ideal S8192x1024 .f32) (i : Fin 2816) (j : Fin 1024) :
    DownGradRefIdeal.Read.val_main_v4 (F := Ideal) x0 x1 (ix2 i j) = ∑ r ∈ range 8192, at2 x0 r i.val * at2 x1 r j.val := by
  unfold DownGradRefIdeal.Read.val_main_v4 DownGradRefIdeal.Read.val_main_v3
  pointwise
  rw [← sum_all]
  refine Finset.sum_congr rfl fun r _ => ?_
  rw [at2_of _ r.isLt i.isLt, at2_of _ r.isLt j.isLt, mul_comm]
  rfl

end Cert.DownGradIdeal.Product

namespace Cert.Proof.DownGrad

open Idealize.ShloMosaic Idealize.ShloMosaic.TcCoe Idealize.SL.Sem

/-- The kernel's result is the reference's. -/
theorem algebraic : Cert.algebraic_DownGradIdeal_DownGradRefIdeal := by
  pair_intro
  · run_from Cert.DownGradIdeal.Value.run_blocks m g
  · run_from Cert.DownGradRefIdeal.Value.run m' g'
    rw [Cert.DownGradIdeal.Product.final m c]
    funext y
    idx_vars y
    exact Cert.DownGradIdeal.Product.ref _ _ y0 y1

end Cert.Proof.DownGrad

end
-- ==== Proof.UpBack.lean ====
/- The gradient of the input of the gate and up projections: the kernel adds the products of four blocks of 1408 of the
   5632 columns, the gate's and the up projection's, and leaves the product over them all. -/
module

public import proofs.«01_k».proof.Defs
public import proofs.«01_k».proof.Proof.Blocked
public import proofs.«01_k».proof.Proof.Gen.UpBackIdeal.Value
public import proofs.«01_k».proof.Proof.Gen.UpBackRefIdeal.Run
public import proofs.«01_k».proof.Proof.Gen.UpBackRefIdeal.Read
public import Idealize.ShloMosaic.Lib.Pipeline.ValueKit
public import Idealize.ShloMosaic.Lib.Pipeline.ReadBack
public import Idealize.ShloMosaic.Lib.Claim

@[expose] public section

set_option maxRecDepth 16384

open Finset

noncomputable section

namespace Cert.UpBackIdeal.Product

open Cert.UpBackIdeal Cert.UpBackIdeal.Gen Idealize.ShloMosaic Idealize.ShloMosaic.TcCoe Idealize.SL.Sem Blocked

theorem hz : (![0, 0] : Fin 2 → ℕ) = fun _ => 0 := by decide
theorem hz3 : (![0, 0, 0] : Fin 3 → ℕ) = fun _ => 0 := by decide

/-- A block's product, entry by entry. -/
theorem block_product (x0 : Vec Ideal S1x1024x1408 .bf16) (x1 : Vec Ideal S1024x1408 .bf16) (a : Fin 1024) (b : Fin 1024) :
    k0_pay1 (F := Ideal) x0 x1 (ix2 a b) = ∑ r : Fin 1408, x0 (ix3 (0 : Fin 1) a r) * x1 (ix2 b r) := by
  unfold k0_pay1
  pointwise

section
variable (c : Dev nD) (i : grid0.Coords) (arg3 : Memref sig .tc .vmem S1x1024x1408 .bf16) (harg3 : arg3.IsWhole)
  (arg4 : Memref sig .tc .vmem S1024x1408 .bf16) (harg4 : arg4.IsWhole) (arg5 : Memref sig .tc .vmem S1024x1024 .f32) (harg5 : arg5.IsWhole)
  (arg6 : Memref sig .tc .vmem S1024x1024 .f32) (harg6 : arg6.IsWhole) (x0 : Vec Ideal S1x1024x1408 .bf16) (x1 : Vec Ideal S1024x1408 .bf16)
  (xs : Vec Ideal S1024x1024 .f32)

/-- The first point of a sweep leaves its block's product in the scratch. -/
theorem scratch_A (hc0 : cond0_0 i) (hc1 : ¬cond0_1 i) (hc2 : ¬cond0_2 i) :
    sout0_A_0 (F := Ideal) c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_cons_unit_zero (S := S1024x1024) hz]
  unfold k0_pay2
  simp only [View.readAt_eq_ld, harg3.read_unread, harg4.read_unread, View.ld_unit_zero (S := S1x1024x1408) hz3, View.ld_unit_zero (S := S1024x1408) hz, shapeCast_self]

/-- A later point adds its block's product. -/
theorem scratch_B (hc0 : ¬cond0_0 i) (hc1 : cond0_1 i) (hc2 : ¬cond0_2 i) :
    sout0_B_0 (F := Ideal) c i arg3 harg3 arg4 harg4 arg5 harg5 arg6 harg6 hc0 hc1 hc2 x0 x1 xs = addf xs (k0_pay1 x0 x1) := by
  unfold sout0_B_0
  rw [View.read_writes_eq_canon _ _ _ (scover0_B_0 c i arg3 harg3 arg4 harg4 arg5 harg5 arg6 harg6 hc0 hc1 hc2 x0 x1 xs)]
  unfold kernelRun0_B
  dsimp only
  sl_unfold_words
  rw [View.canon_cons_unit_zero (S := S1024x1024) hz]
  unfold k0_pay3
  simp only [View.readAt_eq_ld, harg3.read_unread, harg4.read_unread, harg6.read_unread, View.ld_unit_zero (S := S1x1024x1408) hz3, View.ld_unit_zero (S := S1024x1408) hz, View.ld_unit_zero (S := S1024x1024) hz, shapeCast_self]

/-- The last point of a sweep writes out the scratch with its block's product added. -/
theorem out_C (hc0 : ¬cond0_0 i) (hc1 : cond0_1 i) (hc2 : cond0_2 i) :
    out0_C_2 (F := Ideal) c i arg3 harg3 arg4 harg4 arg5 harg5 arg6 harg6 hc0 hc1 hc2 x0 x1 xs = (addf xs (k0_pay1 x0 x1) : FVec Ideal S1024x1024 .f32) := by
  unfold out0_C_2
  rw [View.read_writes_eq_canon _ _ _ (cover0_C_2 c i arg3 harg3 arg4 harg4 arg5 harg5 arg6 harg6 hc0 hc1 hc2 x0 x1 xs)]
  unfold kernelRun0_C
  dsimp only
  sl_unfold_words
  rw [View.canon_cons_unit_zero (S := S1024x1024) hz, View.readCov_unit_zero (S := S1024x1024) _ hz]
  unfold k0_pay3
  simp only [View.readAt_eq_ld, harg3.read_unread, harg4.read_unread, harg6.read_unread, View.ld_unit_zero (S := S1x1024x1408) hz3, View.ld_unit_zero (S := S1024x1408) hz, View.ld_unit_zero (S := S1024x1024) hz, shapeCast_self]
end

theorem idx : ∀ t : Fin cfg0.N, win0_0.index t = ![t.val % 4 / 2, t.val / 4, t.val % 4 % 2] ∧ win0_1.index t = ![0, t.val % 4] ∧
    win0_2.index t = ![t.val / 4, 0] :=
  (by decide +kernel : ∀ t : Fin grid0.N, _)

variable (m : (ℓ : Loc nD τ sig) → Buf (Elt Ideal) ℓ) (c : Dev nD)

/-- The first operand, and the second. -/
abbrev X0 : FVec Ideal S2x8192x2816 .bf16 := m ((c : Thread nD τ).loc main_arg0)
abbrev X1 : FVec Ideal S1024x5632 .bf16 := m ((c : Thread nD τ).loc main_arg1)

theorem read0 (t : Fin cfg0.N) (a : Fin 1024) (r : Fin 1408) :
    iblk m c 0 t (ix3 (0 : Fin 1) a r) = at3 (X0 m c) (t.val % 4 / 2) (1024 * (t.val / 4) + a.val) (1408 * (t.val % 4 % 2) + r.val) := by
  have ht : t.val < 32 := lt_of_lt_of_eq t.isLt (show cfg0.N = 32 from N_0)
  rw [at3_of _ (by omega) (by omega) (by omega)]
  blk_ext [iblk, V_main_arg0, idx t]

theorem read1 (t : Fin cfg0.N) (b : Fin 1024) (r : Fin 1408) :
    iblk m c 1 t (ix2 b r) = at2 (X1 m c) b.val (1408 * (t.val % 4) + r.val) := by
  have ht : t.val < 32 := lt_of_lt_of_eq t.isLt (show cfg0.N = 32 from N_0)
  rw [at2_of _ (by omega) (by omega)]
  blk_ext [iblk, V_main_arg1, idx t]

/-- A term of the product of the two operands, and the part of the product from its first `n` terms. -/
def term (i j r : ℕ) : EReal := at3 (X0 m c) (r / 2816) i (r % 2816) * at2 (X1 m c) j r
def part (n i j : ℕ) : EReal := ∑ r ∈ range n, term m c i j r

theorem block_part (t : Fin cfg0.N) (a : Fin 1024) (b : Fin 1024) :
    k0_pay1 (F := Ideal) (iblk m c 0 t) (iblk m c 1 t) (ix2 a b) =
      ∑ r : Fin 1408, term m c (1024 * (t.val / 4) + a.val) (b.val) (1408 * (t.val % 4) + r.val) := by
  have ht : t.val < 32 := lt_of_lt_of_eq t.isLt (show cfg0.N = 32 from N_0)
  rw [block_product]
  refine Finset.sum_congr rfl fun r _ => ?_
  rw [read0, read1]
  unfold term
  rw [show (1408 * (t.val % 4) + r.val) / 2816 = t.val % 4 / 2 by omega,
    show (1408 * (t.val % 4) + r.val) % 2816 = 1408 * (t.val % 4 % 2) + r.val by omega]

/-- After point `n`, not the last of its sweep, the scratch holds the part of the product so far. -/
theorem scratch (n : ℕ) (hn : n < cfg0.N) (hl : n % 4 ≠ 3) (a : Fin 1024) (b : Fin 1024) :
    (outsAt0 m c n hn).2 (ix2 a b) = part m c (1408 * (n % 4 + 1)) (1024 * (n / 4) + a.val) (b.val) := by
  induction n with
  | zero =>
    rw [outsAt0_A m c ⟨0, hn⟩ (by simp) (by simp) (by simp)]
    dsimp only
    rw [scratch_A, block_part]
    exact sum_first (term m c _ _)
  | succ n ih =>
    by_cases h0 : (n + 1) % 4 = 0
    · have e := outsAt0_A m c ⟨n + 1, hn⟩ h0 (by dsimp only; omega) (by dsimp only; omega)
      dsimp only at e
      rw [e]
      dsimp only
      rw [scratch_A, block_part]
      dsimp only
      rw [h0]
      exact sum_first (term m c _ _)
    · have e := outsAt0_B m c ⟨n + 1, hn⟩ h0 (by dsimp only; omega) hl
      dsimp only at e
      rw [e]
      dsimp only
      rw [scratch_B]
      refine (congrArg₂ (· + ·) (ih (by omega) (by omega)) (block_part m c ⟨n + 1, hn⟩ a b)).trans ?_
      dsimp only
      rw [show (n + 1) / 4 = n / 4 by omega, show (n + 1) % 4 = n % 4 + 1 by omega]
      exact sum_next (term m c _ _) _

/-- What the last point of a sweep writes out. -/
theorem flushed (t : Fin cfg0.N) (ht : t.val % 4 = 3) (a : Fin 1024) (b : Fin 1024) :
    (outsAt0 m c t.val t.isLt).1 (ix2 a b) = part m c 5632 (1024 * (t.val / 4) + a.val) (b.val) := by
  have hN : t.val < 32 := lt_of_lt_of_eq t.isLt (show cfg0.N = 32 from N_0)
  rw [outsAt0_C m c t (by omega) (by omega) ht]
  dsimp only
  rw [out_C]
  refine (congrArg₂ (· + ·) (scratch m c (t.val - 1) (by omega) (by omega) a b) (block_part m c t a b)).trans ?_
  rw [show (t.val - 1) / 4 = t.val / 4 by omega, show (t.val - 1) % 4 = 2 by omega, ht]
  exact sum_next (term m c _ _) _

/-- The result array: the product. -/
theorem final : (dats m 0 c).arrAt 2 cfg0.N =
    (fun y => part m c 5632 (y 0).val (y 1).val : FVec Ideal S8192x1024 .f32) := by
  refine Eq.trans (b := Value.G2 m c) (Value.final2 m c) ?_
  funext y
  idx_vars y
  unfold Value.G2
  have hq : Value.pt2Of (ix2 y0 y1) = 4 * (1 * (y0.val / 1024) + y1.val / 1024) + 3 := by
    show 4 * (_ * (y0.val / 1024 - 0) + 1 * (y1.val / 1024 - 0)) + 3 = _
    omega
  have hp : Value.pt2Of (ix2 y0 y1) < cfg0.N := by
    rw [show cfg0.N = 32 from N_0, hq]
    omega
  rw [dif_pos hp]
  have e := flushed m c ⟨_, hp⟩ (by dsimp only; rw [hq]; omega) ⟨y0.val % 1024, Nat.mod_lt _ (by decide)⟩ ⟨y1.val % 1024, Nat.mod_lt _ (by decide)⟩
  rw [Value.outsAt0_sweep] at e
  refine Eq.trans ?_ (e.trans ?_)
  · refine congrArg (Prod.fst _) ?_
    funext a
    match a with
    | ⟨0, _⟩ => rfl
    | ⟨1, _⟩ => rfl
  · dsimp only
    rw [hq]
    refine congrArg₂ (part m c 5632) ?_ ?_
    · show 1024 * ((4 * (1 * (y0.val / 1024) + y1.val / 1024) + 3) / 4) + y0.val % 1024 = y0.val
      omega
    · show y1.val % 1024 = y1.val
      omega

/-- The reference's result, entry by entry. -/
theorem ref (i : Fin 8192) (j : Fin 1024) :
    UpBackRefIdeal.Read.val_main_v9 (F := Ideal) (X0 m c) (X1 m c) (ix2 i j) = part m c 5632 i.val j.val := by
  unfold UpBackRefIdeal.Read.val_main_v9 UpBackRefIdeal.Read.val_main_v5 UpBackRefIdeal.Read.val_main_v7 UpBackRefIdeal.Read.val_main_v4
    UpBackRefIdeal.Read.val_main_v3 UpBackRefIdeal.Read.val_main_v2 UpBackRefIdeal.Read.val_main_v1 UpBackRefIdeal.Read.val_main_v0
  pointwise
  show _ = ∑ r ∈ range (2816 + 2816), term m c i.val j.val r
  rw [Finset.sum_range_add, ← Fin.sum_univ_eq_sum_range, ← Fin.sum_univ_eq_sum_range (fun r => term m c i.val j.val (2816 + r))]
  refine congrArg₂ (· + ·) (Finset.sum_congr rfl fun r _ => ?_) (Finset.sum_congr rfl fun r _ => ?_)
  · unfold term
    rw [show r.val / 2816 = 0 by omega, show r.val % 2816 = r.val by omega, at3_of _ (by omega) i.isLt r.isLt,
      at2_of _ j.isLt (by omega)]
    rfl
  · unfold term
    rw [show (2816 + r.val) / 2816 = 1 by omega, show (2816 + r.val) % 2816 = r.val by omega, at3_of _ (by omega) i.isLt r.isLt,
      at2_of _ j.isLt (by omega)]
    rfl

end Cert.UpBackIdeal.Product

namespace Cert.Proof.UpBack

open Idealize.ShloMosaic Idealize.ShloMosaic.TcCoe Idealize.SL.Sem

/-- The kernel's result is the reference's. -/
theorem algebraic : Cert.algebraic_UpBackIdeal_UpBackRefIdeal := by
  pair_intro
  · run_from Cert.UpBackIdeal.Value.run_blocks m g
  · run_from Cert.UpBackRefIdeal.Value.run m' g'
    rw [Cert.UpBackIdeal.Product.final m c]
    funext y
    idx_vars y
    exact Cert.UpBackIdeal.Product.ref m c y0 y1

end Cert.Proof.UpBack

end
-- ==== Proof.UpGrad.lean ====
/- The gradient of the gate and up projections: the kernel adds the products of sixteen blocks of 512 rows, and leaves the
   product over all 8192 rows. -/
module

public import proofs.«01_k».proof.Defs
public import proofs.«01_k».proof.Proof.Blocked
public import proofs.«01_k».proof.Proof.Gen.UpGradIdeal.Value
public import proofs.«01_k».proof.Proof.Gen.UpGradRefIdeal.Run
public import proofs.«01_k».proof.Proof.Gen.UpGradRefIdeal.Read
public import Idealize.ShloMosaic.Lib.Pipeline.ValueKit
public import Idealize.ShloMosaic.Lib.Pipeline.ReadBack
public import Idealize.ShloMosaic.Lib.Claim

@[expose] public section

set_option maxRecDepth 16384

open Finset

noncomputable section

namespace Cert.UpGradIdeal.Product

open Cert.UpGradIdeal Cert.UpGradIdeal.Gen Idealize.ShloMosaic Idealize.ShloMosaic.TcCoe Idealize.SL.Sem Blocked

theorem hz : (![0, 0] : Fin 2 → ℕ) = fun _ => 0 := by decide
theorem hz3 : (![0, 0, 0] : Fin 3 → ℕ) = fun _ => 0 := by decide

/-- A block's product, entry by entry. -/
theorem block_product (x0 : Vec Ideal S512x1024 .bf16) (x1 : Vec Ideal S1x512x1408 .bf16) (a : Fin 1024) (b : Fin 1408) :
    k0_pay1 (F := Ideal) x0 x1 (ix2 a b) = ∑ r : Fin 512, x0 (ix2 r a) * x1 (ix3 (0 : Fin 1) r b) := by
  unfold k0_pay1
  pointwise

section
variable (c : Dev nD) (i : grid0.Coords) (arg3 : Memref sig .tc .vmem S512x1024 .bf16) (harg3 : arg3.IsWhole)
  (arg4 : Memref sig .tc .vmem S1x512x1408 .bf16) (harg4 : arg4.IsWhole) (arg5 : Memref sig .tc .vmem S1024x1408 .f32) (harg5 : arg5.IsWhole)
  (arg6 : Memref sig .tc .vmem S1024x1408 .f32) (harg6 : arg6.IsWhole) (x0 : Vec Ideal S512x1024 .bf16) (x1 : Vec Ideal S1x512x1408 .bf16)
  (xs : Vec Ideal S1024x1408 .f32)

/-- The first point of a sweep leaves its block's product in the scratch. -/
theorem scratch_A (hc0 : cond0_0 i) (hc1 : ¬cond0_1 i) (hc2 : ¬cond0_2 i) :
    sout0_A_0 (F := Ideal) c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_cons_unit_zero (S := S1024x1408) hz]
  unfold k0_pay2
  simp only [View.readAt_eq_ld, harg3.read_unread, harg4.read_unread, View.ld_unit_zero (S := S512x1024) hz, View.ld_unit_zero (S := S1x512x1408) hz3, shapeCast_self]

/-- A later point adds its block's product. -/
theorem scratch_B (hc0 : ¬cond0_0 i) (hc1 : cond0_1 i) (hc2 : ¬cond0_2 i) :
    sout0_B_0 (F := Ideal) c i arg3 harg3 arg4 harg4 arg5 harg5 arg6 harg6 hc0 hc1 hc2 x0 x1 xs = addf xs (k0_pay1 x0 x1) := by
  unfold sout0_B_0
  rw [View.read_writes_eq_canon _ _ _ (scover0_B_0 c i arg3 harg3 arg4 harg4 arg5 harg5 arg6 harg6 hc0 hc1 hc2 x0 x1 xs)]
  unfold kernelRun0_B
  dsimp only
  sl_unfold_words
  rw [View.canon_cons_unit_zero (S := S1024x1408) hz]
  unfold k0_pay3
  simp only [View.readAt_eq_ld, harg3.read_unread, harg4.read_unread, harg6.read_unread, View.ld_unit_zero (S := S512x1024) hz, View.ld_unit_zero (S := S1x512x1408) hz3, View.ld_unit_zero (S := S1024x1408) hz, shapeCast_self]

/-- The last point of a sweep writes out the scratch with its block's product added. -/
theorem out_C (hc0 : ¬cond0_0 i) (hc1 : cond0_1 i) (hc2 : cond0_2 i) :
    out0_C_2 (F := Ideal) c i arg3 harg3 arg4 harg4 arg5 harg5 arg6 harg6 hc0 hc1 hc2 x0 x1 xs = (addf xs (k0_pay1 x0 x1) : FVec Ideal S1024x1408 .f32) := by
  unfold out0_C_2
  rw [View.read_writes_eq_canon _ _ _ (cover0_C_2 c i arg3 harg3 arg4 harg4 arg5 harg5 arg6 harg6 hc0 hc1 hc2 x0 x1 xs)]
  unfold kernelRun0_C
  dsimp only
  sl_unfold_words
  rw [View.canon_cons_unit_zero (S := S1024x1408) hz, View.readCov_unit_zero (S := S1024x1408) _ hz]
  unfold k0_pay3
  simp only [View.readAt_eq_ld, harg3.read_unread, harg4.read_unread, harg6.read_unread, View.ld_unit_zero (S := S512x1024) hz, View.ld_unit_zero (S := S1x512x1408) hz3, View.ld_unit_zero (S := S1024x1408) hz, shapeCast_self]
end

theorem idx : ∀ t : Fin cfg0.N, win0_0.index t = ![t.val % 16, 0] ∧ win0_1.index t = ![t.val / 16 / 2, t.val % 16, t.val / 16 % 2] ∧
    win0_2.index t = ![0, t.val / 16] :=
  (by decide +kernel : ∀ t : Fin grid0.N, _)

variable (m : (ℓ : Loc nD τ sig) → Buf (Elt Ideal) ℓ) (c : Dev nD)

/-- The first operand, and the second. -/
abbrev X0 : FVec Ideal S8192x1024 .bf16 := m ((c : Thread nD τ).loc main_arg0)
abbrev X1 : FVec Ideal S2x8192x2816 .bf16 := m ((c : Thread nD τ).loc main_arg1)

theorem read0 (t : Fin cfg0.N) (r : Fin 512) (a : Fin 1024) :
    iblk m c 0 t (ix2 r a) = at2 (X0 m c) (512 * (t.val % 16) + r.val) a.val := by
  have ht : t.val < 64 := lt_of_lt_of_eq t.isLt (show cfg0.N = 64 from N_0)
  rw [at2_of _ (by omega) (by omega)]
  blk_ext [iblk, V_main_arg0, idx t]

theorem read1 (t : Fin cfg0.N) (r : Fin 512) (b : Fin 1408) :
    iblk m c 1 t (ix3 (0 : Fin 1) r b) = at3 (X1 m c) (t.val / 16 / 2) (512 * (t.val % 16) + r.val) (1408 * (t.val / 16 % 2) + b.val) := by
  have ht : t.val < 64 := lt_of_lt_of_eq t.isLt (show cfg0.N = 64 from N_0)
  rw [at3_of _ (by omega) (by omega) (by omega)]
  blk_ext [iblk, V_main_arg1, idx t]

/-- A term of the product of the two operands, and the part of the product from its first `n` terms. -/
def term (i j r : ℕ) : EReal := at2 (X0 m c) r i * at3 (X1 m c) (j / 2816) r (j % 2816)
def part (n i j : ℕ) : EReal := ∑ r ∈ range n, term m c i j r

theorem block_part (t : Fin cfg0.N) (a : Fin 1024) (b : Fin 1408) :
    k0_pay1 (F := Ideal) (iblk m c 0 t) (iblk m c 1 t) (ix2 a b) =
      ∑ r : Fin 512, term m c (a.val) (1408 * (t.val / 16) + b.val) (512 * (t.val % 16) + r.val) := by
  have ht : t.val < 64 := lt_of_lt_of_eq t.isLt (show cfg0.N = 64 from N_0)
  rw [block_product]
  refine Finset.sum_congr rfl fun r _ => ?_
  rw [read0, read1]
  unfold term
  rw [show (1408 * (t.val / 16) + b.val) / 2816 = t.val / 16 / 2 by omega,
    show (1408 * (t.val / 16) + b.val) % 2816 = 1408 * (t.val / 16 % 2) + b.val by omega]

/-- After point `n`, not the last of its sweep, the scratch holds the part of the product so far. -/
theorem scratch (n : ℕ) (hn : n < cfg0.N) (hl : n % 16 ≠ 15) (a : Fin 1024) (b : Fin 1408) :
    (outsAt0 m c n hn).2 (ix2 a b) = part m c (512 * (n % 16 + 1)) (a.val) (1408 * (n / 16) + b.val) := by
  induction n with
  | zero =>
    rw [outsAt0_A m c ⟨0, hn⟩ (by simp) (by simp) (by simp)]
    dsimp only
    rw [scratch_A, block_part]
    exact sum_first (term m c _ _)
  | succ n ih =>
    by_cases h0 : (n + 1) % 16 = 0
    · have e := outsAt0_A m c ⟨n + 1, hn⟩ h0 (by dsimp only; omega) (by dsimp only; omega)
      dsimp only at e
      rw [e]
      dsimp only
      rw [scratch_A, block_part]
      dsimp only
      rw [h0]
      exact sum_first (term m c _ _)
    · have e := outsAt0_B m c ⟨n + 1, hn⟩ h0 (by dsimp only; omega) hl
      dsimp only at e
      rw [e]
      dsimp only
      rw [scratch_B]
      refine (congrArg₂ (· + ·) (ih (by omega) (by omega)) (block_part m c ⟨n + 1, hn⟩ a b)).trans ?_
      dsimp only
      rw [show (n + 1) / 16 = n / 16 by omega, show (n + 1) % 16 = n % 16 + 1 by omega]
      exact sum_next (term m c _ _) _

/-- What the last point of a sweep writes out. -/
theorem flushed (t : Fin cfg0.N) (ht : t.val % 16 = 15) (a : Fin 1024) (b : Fin 1408) :
    (outsAt0 m c t.val t.isLt).1 (ix2 a b) = part m c 8192 (a.val) (1408 * (t.val / 16) + b.val) := by
  have hN : t.val < 64 := lt_of_lt_of_eq t.isLt (show cfg0.N = 64 from N_0)
  rw [outsAt0_C m c t (by omega) (by omega) ht]
  dsimp only
  rw [out_C]
  refine (congrArg₂ (· + ·) (scratch m c (t.val - 1) (by omega) (by omega) a b) (block_part m c t a b)).trans ?_
  rw [show (t.val - 1) / 16 = t.val / 16 by omega, show (t.val - 1) % 16 = 14 by omega, ht]
  exact sum_next (term m c _ _) _

/-- The result array: the product. -/
theorem final : (dats m 0 c).arrAt 2 cfg0.N =
    (fun y => part m c 8192 (y 0).val (y 1).val : FVec Ideal S1024x5632 .f32) := by
  refine Eq.trans (b := Value.G2 m c) (Value.final2 m c) ?_
  funext y
  idx_vars y
  unfold Value.G2
  have hq : Value.pt2Of (ix2 y0 y1) = 16 * (4 * (y0.val / 1024) + y1.val / 1408) + 15 := by
    show 16 * (_ * (y0.val / 1024 - 0) + 1 * (y1.val / 1408 - 0)) + 15 = _
    omega
  have hp : Value.pt2Of (ix2 y0 y1) < cfg0.N := by
    rw [show cfg0.N = 64 from N_0, hq]
    omega
  rw [dif_pos hp]
  have e := flushed m c ⟨_, hp⟩ (by dsimp only; rw [hq]; omega) ⟨y0.val % 1024, Nat.mod_lt _ (by decide)⟩ ⟨y1.val % 1408, Nat.mod_lt _ (by decide)⟩
  rw [Value.outsAt0_sweep] at e
  refine Eq.trans ?_ (e.trans ?_)
  · refine congrArg (Prod.fst _) ?_
    funext a
    match a with
    | ⟨0, _⟩ => rfl
    | ⟨1, _⟩ => rfl
  · dsimp only
    rw [hq]
    refine congrArg₂ (part m c 8192) ?_ ?_
    · show y0.val % 1024 = y0.val
      omega
    · show 1408 * ((16 * (4 * (y0.val / 1024) + y1.val / 1408) + 15) / 16) + y1.val % 1408 = y1.val
      omega

/-- The reference's result, entry by entry. -/
theorem ref (i : Fin 1024) (j : Fin 5632) :
    UpGradRefIdeal.Read.val_main_v10 (F := Ideal) (X0 m c) (X1 m c) (ix2 i j) = part m c 8192 i.val j.val := by
  unfold UpGradRefIdeal.Read.val_main_v10 UpGradRefIdeal.Read.val_main_v9 UpGradRefIdeal.Read.val_main_v5
    UpGradRefIdeal.Read.val_main_v7 UpGradRefIdeal.Read.val_main_v4 UpGradRefIdeal.Read.val_main_v3 UpGradRefIdeal.Read.val_main_v2
    UpGradRefIdeal.Read.val_main_v1 UpGradRefIdeal.Read.val_main_v0
  pointwise
  unfold part
  rw [← sum_all (n := 8192) (term m c i.val j.val)]
  refine Finset.sum_congr rfl fun r _ => ?_
  unfold term
  rw [mul_comm, at2_of _ r.isLt i.isLt]
  refine congrArg (_ * ·) ?_
  by_cases h : j.val < 2816
  · rw [dif_pos h, show j.val / 2816 = 0 by omega, show j.val % 2816 = j.val by omega, at3_of _ (by omega) r.isLt h]
    rfl
  · have h' : j.val - 2816 < 2816 := by omega
    rw [dif_neg h, show j.val / 2816 = 1 by omega, show j.val % 2816 = j.val - 2816 by omega, at3_of _ (by omega) r.isLt h']
    rfl

end Cert.UpGradIdeal.Product

namespace Cert.Proof.UpGrad

open Idealize.ShloMosaic Idealize.ShloMosaic.TcCoe Idealize.SL.Sem

/-- The kernel's result is the reference's. -/
theorem algebraic : Cert.algebraic_UpGradIdeal_UpGradRefIdeal := by
  pair_intro
  · run_from Cert.UpGradIdeal.Value.run_blocks m g
  · run_from Cert.UpGradRefIdeal.Value.run m' g'
    rw [Cert.UpGradIdeal.Product.final m c]
    funext y
    idx_vars y
    exact Cert.UpGradIdeal.Product.ref m c y0 y1

end Cert.Proof.UpGrad

end
-- ==== Proof.Entries.lean ====
/- Real entries: an extended real below infinity is a real number, and sums, exponentials and quotients of real numbers
   are real numbers. -/
module

public import Idealize.ShloMosaic.Lib.Pointwise
public import Idealize.ShloMosaic.Lib.IdealHost

@[expose] public section

noncomputable section

namespace Entries

open Idealize.ShloMosaic

theorem ofBits_top : Ideal.ofBits .f32 0x7F800000#32 = ⊤ := by
  simp [Ideal.ofBits, Ideal.ieee]

/-- An extended real whose absolute value is below infinity is a real number. -/
theorem real_of_abs (x : EReal) (h : Ideal.cmp .olt (max x (-x)) (Ideal.ofBits .f32 0x7F800000#32) = 1#1) :
    x = ((x.toReal : ℝ) : EReal) := by
  rw [ofBits_top] at h
  have h' : max x (-x) < ⊤ := by
    by_contra hc
    simp [Ideal.cmp, hc] at h
  refine (EReal.coe_toReal ?_ ?_).symm
  · rintro rfl; simp at h'
  · rintro rfl; simp at h'

theorem coe_sum {ι : Type*} (s : Finset ι) (f : ι → ℝ) : (∑ k ∈ s, ((f k : ℝ) : EReal)) = ((∑ k ∈ s, f k : ℝ) : EReal) :=
  (map_sum (⟨⟨Real.toEReal, EReal.coe_zero⟩, EReal.coe_add⟩ : ℝ →+ EReal) _ _).symm

theorem coe_div (x y : ℝ) (h : y ≠ 0) : Ideal.div (x : EReal) (y : EReal) = ((x / y : ℝ) : EReal) := by
  rw [Ideal.div_coe h, ← EReal.coe_mul]
  congr 1
  ring

theorem one_coe : Ideal.ofBits .f32 0x3F800000#32 = ((1 : ℝ) : EReal) := Ideal.ofBits_one_f32
theorem zero_coe : Ideal.ofBits .f32 0x00000000#32 = ((0 : ℝ) : EReal) := Ideal.ofBits_zero_f32

/-- The logistic function. -/
def logistic (x : ℝ) : ℝ := 1 / (1 + Real.exp (-x))

/-- The logistic function computed from the exponential of a number that is not positive. -/
theorem logistic_of_abs (x : ℝ) :
    (if 0 ≤ x then (1 : ℝ) else Real.exp (0 - max x (-x))) / (1 + Real.exp (0 - max x (-x))) = logistic x := by
  unfold logistic
  split_ifs with h
  · rw [max_eq_left (by linarith), zero_sub]
  · rw [max_eq_right (by linarith), zero_sub, neg_neg, Real.exp_neg]
    have := Real.exp_pos x
    field_simp
    ring

/-- The logistic function of an extended real. -/
def elogistic : EReal → EReal
  | ⊥ => 0
  | ⊤ => 1
  | (x : ℝ) => (logistic x : EReal)

theorem elogistic_bot : elogistic ⊥ = 0 := rfl
theorem elogistic_top : elogistic ⊤ = 1 := rfl
theorem exp_bot : Ideal.exp ⊥ = 0 := rfl
theorem exp_top : Ideal.exp ⊤ = ⊤ := rfl

theorem elogistic_coe (x : ℝ) : elogistic (x : EReal) = (logistic x : EReal) := rfl

/-- The logistic function as the kernels compute it. -/
theorem elogistic_of_abs (x : EReal) :
    Ideal.div (Scalar.select (Ideal.cmp .oge x (Ideal.ofBits .f32 0x00000000#32)) (Ideal.ofBits .f32 0x3F800000#32)
      (Ideal.exp (Ideal.ofBits .f32 0x00000000#32 - max x (-x))))
      (Ideal.ofBits .f32 0x3F800000#32 + Ideal.exp (Ideal.ofBits .f32 0x00000000#32 - max x (-x))) = elogistic x := by
  rw [zero_coe, one_coe]
  have h1 : Ideal.div (1 : EReal) ((1 : ℝ) : EReal) = 1 := by
    have := coe_div 1 1 one_ne_zero
    simpa using this
  have h0 : Ideal.div (0 : EReal) ((1 : ℝ) : EReal) = 0 := by
    have := coe_div 0 1 one_ne_zero
    simpa using this
  match x with
  | ⊥ =>
    have e : Ideal.exp (((0 : ℝ) : EReal) - max (⊥ : EReal) (-⊥)) = 0 := by simp [exp_bot, exp_top]
    rw [e, add_zero]
    simpa [Scalar.select, Ideal.cmp, elogistic_bot, elogistic_top] using h0
  | ⊤ =>
    have e : Ideal.exp (((0 : ℝ) : EReal) - max (⊤ : EReal) (-⊤)) = 0 := by simp [exp_bot, exp_top]
    rw [e, add_zero]
    simpa [Scalar.select, Ideal.cmp, elogistic_bot, elogistic_top] using h1
  | (g : ℝ) =>
    have em : max (g : EReal) (-(g : EReal)) = ((max g (-g) : ℝ) : EReal) := by
      rw [← EReal.coe_neg]; exact (EReal.coe_strictMono.monotone.map_max).symm
    have es : Scalar.select (Ideal.cmp .oge (g : EReal) ((0 : ℝ) : EReal)) ((1 : ℝ) : EReal) ((Real.exp (0 - max g (-g)) : ℝ) : EReal)
        = ((if 0 ≤ g then (1 : ℝ) else Real.exp (0 - max g (-g)) : ℝ) : EReal) := by
      by_cases h : 0 ≤ g
      · simp [Scalar.select, Ideal.cmp, h]
      · simp [Scalar.select, Ideal.cmp, h]
    rw [em, ← EReal.coe_sub, Ideal.exp_coe, es, ← EReal.coe_add,
      coe_div _ _ (by have := Real.exp_pos (0 - max g (-g)); linarith), logistic_of_abs]
    rfl

/-- The logistic function as the references compute it. -/
theorem elogistic_of_neg (x : EReal) :
    Ideal.div (Ideal.ofBits .f32 0x3F800000#32) (Ideal.ofBits .f32 0x3F800000#32 + Ideal.exp (-x)) = elogistic x := by
  rw [one_coe]
  match x with
  | ⊥ =>
    have e : Ideal.exp (-(⊥ : EReal)) = ⊤ := by simp [exp_bot, exp_top]
    rw [e, EReal.coe_add_top]
    simp [Ideal.div, elogistic_bot]
  | ⊤ =>
    have e : Ideal.exp (-(⊤ : EReal)) = 0 := by simp [exp_bot, exp_top]
    rw [e, add_zero, coe_div _ _ one_ne_zero]
    simp [elogistic_bot, elogistic_top]
  | (g : ℝ) =>
    rw [← EReal.coe_neg, Ideal.exp_coe, ← EReal.coe_add, coe_div _ _ (by have := Real.exp_pos (-g); linarith)]
    rfl

/-- The gradient of the gate, the reference's sum of two terms and the kernel's product. -/
theorem gate_gradient (z u : ℝ) (g : EReal) :
    (z : EReal) * u * elogistic g + g * ((z : EReal) * u) * (elogistic g * (((1 : ℝ) : EReal) - elogistic g)) =
      (z : EReal) * u * (elogistic g * (((1 : ℝ) : EReal) + g * (((1 : ℝ) : EReal) - elogistic g))) := by
  match g with
  | ⊥ => simp [elogistic_bot, elogistic_top]
  | ⊤ =>
    have e : (1 : EReal) - 1 = 0 := by
      rw [← EReal.coe_one, ← EReal.coe_sub, sub_self, EReal.coe_zero]
    simp [elogistic_top, e]
  | (g : ℝ) =>
    rw [elogistic_coe]
    simp only [← EReal.coe_mul, ← EReal.coe_add, ← EReal.coe_sub]
    congr 1
    ring

end Entries

end
-- ==== Proof.ActBack.lean ====
/- The gradient of the gated activation x ↦ silu(gate)·up before the down projection: the kernel writes, block by block,
   the gate's gradient dz·up·s·(1 + gate·(1 − s)) and the up projection's dz·gate·s, with dz the product of the incoming
   gradient and the down projection and s the logistic function of the gate. -/
module

public import proofs.«01_k».proof.Defs
public import proofs.«01_k».proof.Proof.Blocked
public import proofs.«01_k».proof.Proof.Entries
public import proofs.«01_k».proof.Proof.Gen.Pre_act_finite
public import proofs.«01_k».proof.Proof.Gen.ActBackIdeal.Value
public import proofs.«01_k».proof.Proof.Gen.ActBackRefIdeal.Run
public import proofs.«01_k».proof.Proof.Gen.ActBackRefIdeal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.ActBackIdeal.Gated

open Cert.ActBackIdeal Cert.ActBackIdeal.Gen Idealize.ShloMosaic Idealize.ShloMosaic.TcCoe Idealize.SL.Sem Blocked Entries

theorem hz : (![0, 0] : Fin 2 → ℕ) = fun _ => 0 := by decide

/-! ## One entry of a block -/

/-- The gate's gradient, and the up projection's, of one entry. -/
def gateGrad (z u : ℝ) (g : EReal) : EReal := (z : EReal) * u * (elogistic g * (((1 : ℝ) : EReal) + g * (((1 : ℝ) : EReal) - elogistic g)))
def upGrad (z : ℝ) (g : EReal) : EReal := (z : EReal) * (g * elogistic g)

section
variable (x0 : Vec Ideal S512x1024 .f32) (x1 : Vec Ideal S1408x1024 .bf16) (x2 x3 : Vec Ideal S512x1408 .bf16) (a : Fin 512) (b : Fin 1408)

theorem product_apply : k0_pay2 (F := Ideal) x0 x1 (ix2 a b) = ∑ r : Fin 1024, x0 (ix2 a r) * x1 (ix2 b r) := by
  unfold k0_pay2
  pointwise

/-- The kernel's logistic function of an entry. -/
theorem logistic_apply : k0_pay4 (F := Ideal) x2 (ix2 a b) = elogistic (x2 (ix2 a b)) :=
  elogistic_of_abs (x2 (ix2 a b))

variable {x0 x1 x2 x3 a b} {z u : ℝ} {g : EReal} (hz : k0_pay2 (F := Ideal) x0 x1 (ix2 a b) = (z : EReal))
  (hg : x2 (ix2 a b) = g) (hu : x3 (ix2 a b) = (u : EReal))

include hz hg hu in
theorem gate_entry : k0_pay5 (F := Ideal) x0 x1 x2 x3 (ix3 (0 : Fin 1) a b) =
    gateGrad z u g := by
  have e : k0_pay5 (F := Ideal) x0 x1 x2 x3 (ix3 (0 : Fin 1) a b) =
      k0_pay2 (F := Ideal) x0 x1 (ix2 a b) * x3 (ix2 a b) * (k0_pay4 (F := Ideal) x2 (ix2 a b) *
        (Ideal.ofBits .f32 0x3F800000#32 + x2 (ix2 a b) * (Ideal.ofBits .f32 0x3F800000#32 - k0_pay4 (F := Ideal) x2 (ix2 a b)))) := by
    unfold k0_pay5
    generalize k0_pay2 (F := Ideal) x0 x1 = p
    generalize k0_pay4 (F := Ideal) x2 = q
    unfold k0_pay3
    pointwise
  rw [e, logistic_apply, hz, hu, hg, one_coe]
  rfl

include hz hg in
theorem up_entry : k0_pay1 (F := Ideal) (k0_pay6 (F := Ideal) x0 x1 x2) (ix3 (0 : Fin 1) a b) =
    upGrad z g := by
  have e : k0_pay1 (F := Ideal) (k0_pay6 (F := Ideal) x0 x1 x2) (ix3 (0 : Fin 1) a b) =
      k0_pay2 (F := Ideal) x0 x1 (ix2 a b) * (x2 (ix2 a b) * k0_pay4 (F := Ideal) x2 (ix2 a b)) := by
    unfold k0_pay1 k0_pay6
    generalize k0_pay2 (F := Ideal) x0 x1 = p
    generalize k0_pay4 (F := Ideal) x2 = q
    unfold k0_pay3
    pointwise
  rw [e, logistic_apply, hz, hg]
  rfl

/-- The block the body leaves. -/
theorem out_gate (x0 : Vec Ideal S512x1024 .f32) (x1 : Vec Ideal S1408x1024 .bf16) (x2 x3 : Vec Ideal S512x1408 .bf16) (a : Fin 512) (b : Fin 1408) :
    out0_4 (F := Ideal) x0 x1 x2 x3 (ix3 (0 : Fin 2) a b) = k0_pay5 (F := Ideal) x0 x1 x2 x3 (ix3 (0 : Fin 1) a b) := by
  have h : ix3 (0 : Fin 2) a b = r0_3.emb (ix3 (0 : Fin 1) a b) := by
    funext d
    match d with
    | ⟨0, _⟩ => exact Fin.ext rfl
    | ⟨1, _⟩ => exact Fin.ext (by show a.val = 0 + 1 * a.val; omega)
    | ⟨2, _⟩ => exact Fin.ext (by show b.val = 0 + 1 * b.val; omega)
  unfold out0_4
  rw [View.canon_cons_of_not_mem _ _ (by
    intro hm
    have hx := (Rect.mem_set_unit (inb := inb_S2x512x1408_S1x512x1408_1_0_0).mp hm (0 : Fin 3)).1
    exact absurd hx (by show ¬((1 : ℕ) ≤ 0); omega)), h, View.canon_cons_emb]
  simp only [View.ld_unit_zero (S := S512x1024) hz, View.ld_unit_zero (S := S1408x1024) hz, View.ld_unit_zero (S := S512x1408) hz]

end

theorem out_up (x0 : Vec Ideal S512x1024 .f32) (x1 : Vec Ideal S1408x1024 .bf16) (x2 x3 : Vec Ideal S512x1408 .bf16) (a : Fin 512) (b : Fin 1408) :
    out0_4 (F := Ideal) x0 x1 x2 x3 (ix3 (1 : Fin 2) a b) = k0_pay1 (F := Ideal) (k0_pay6 (F := Ideal) x0 x1 x2) (ix3 (0 : Fin 1) a b) := by
  have h : ix3 (1 : Fin 2) a b = r0_4.emb (ix3 (0 : Fin 1) a b) := by
    funext d
    match d with
    | ⟨0, _⟩ => exact Fin.ext rfl
    | ⟨1, _⟩ => exact Fin.ext (by show a.val = 0 + 1 * a.val; omega)
    | ⟨2, _⟩ => exact Fin.ext (by show b.val = 0 + 1 * b.val; omega)
  unfold out0_4
  rw [h, View.canon_cons_emb]
  simp only [View.ld_unit_zero (S := S512x1024) hz, View.ld_unit_zero (S := S1408x1024) hz, View.ld_unit_zero (S := S512x1408) hz]

/-! ## The arrays -/

theorem idx : ∀ t : Fin cfg0.N, win0_0.index t = ![t.val / 2, 0] ∧ win0_1.index t = ![t.val % 2, 0] ∧
    win0_2.index t = ![t.val / 2, t.val % 2] ∧ win0_3.index t = ![t.val / 2, t.val % 2] ∧ win0_4.index t = ![0, t.val / 2, t.val % 2] :=
  (by decide +kernel : ∀ t : Fin grid0.N, _)

theorem idx4 (t : Fin cfg0.N) : win0_4.index t = ![0, t.val / 2, t.val % 2] := (idx t).2.2.2.2

variable (m : (ℓ : Loc nD τ sig) → Buf (Elt Ideal) ℓ) (c : Dev nD)

/-- The arguments: the incoming gradient, the down projection, the gate and the up projection's values. -/
abbrev X0 : FVec Ideal S8192x1024 .f32 := m ((c : Thread nD τ).loc main_arg0)
abbrev X1 : FVec Ideal S2816x1024 .bf16 := m ((c : Thread nD τ).loc main_arg1)
abbrev X2 : FVec Ideal S8192x2816 .bf16 := m ((c : Thread nD τ).loc main_arg2)
abbrev X3 : FVec Ideal S8192x2816 .bf16 := m ((c : Thread nD τ).loc main_arg3)

theorem read0 (t : Fin cfg0.N) (a : Fin 512) (r : Fin 1024) :
    iblk m c 0 t (ix2 a r) = at2 (X0 m c) (512 * (t.val / 2) + a.val) r.val := by
  have ht : t.val < 32 := lt_of_lt_of_eq t.isLt (show cfg0.N = 32 from N_0)
  rw [at2_of _ (by omega) (by omega)]
  blk_ext [iblk, V_main_arg0, idx t]
theorem read1 (t : Fin cfg0.N) (b : Fin 1408) (r : Fin 1024) :
    iblk m c 1 t (ix2 b r) = at2 (X1 m c) (1408 * (t.val % 2) + b.val) r.val := by
  have ht : t.val < 32 := lt_of_lt_of_eq t.isLt (show cfg0.N = 32 from N_0)
  rw [at2_of _ (by omega) (by omega)]
  blk_ext [iblk, V_main_arg1, idx t]
theorem read2 (t : Fin cfg0.N) (a : Fin 512) (b : Fin 1408) :
    iblk m c 2 t (ix2 a b) = at2 (X2 m c) (512 * (t.val / 2) + a.val) (1408 * (t.val % 2) + b.val) := by
  have ht : t.val < 32 := lt_of_lt_of_eq t.isLt (show cfg0.N = 32 from N_0)
  rw [at2_of _ (by omega) (by omega)]
  blk_ext [iblk, V_main_arg2, idx t]
theorem read3 (t : Fin cfg0.N) (a : Fin 512) (b : Fin 1408) :
    iblk m c 3 t (ix2 a b) = at2 (X3 m c) (512 * (t.val / 2) + a.val) (1408 * (t.val % 2) + b.val) := by
  have ht : t.val < 32 := lt_of_lt_of_eq t.isLt (show cfg0.N = 32 from N_0)
  rw [at2_of _ (by omega) (by omega)]
  blk_ext [iblk, V_main_arg3, idx t]

/-- Every entry of the arguments but the gate is a real number. -/
structure Reals : Prop where
  h0 : ∀ i j, X0 m c (ix2 i j) = (((X0 m c (ix2 i j)).toReal : ℝ) : EReal)
  h1 : ∀ i j, X1 m c (ix2 i j) = (((X1 m c (ix2 i j)).toReal : ℝ) : EReal)
  h3 : ∀ i j, X3 m c (ix2 i j) = (((X3 m c (ix2 i j)).toReal : ℝ) : EReal)

theorem at2_real {p n : ℕ} {φ : FTy} {x : FVec Ideal ⟨2, ![p, n]⟩ φ} (h : ∀ i j, x (ix2 i j) = (((x (ix2 i j)).toReal : ℝ) : EReal)) (i j : ℕ) :
    at2 x i j = (((at2 x i j).toReal : ℝ) : EReal) := by
  unfold at2
  split_ifs
  · exact h _ _
  · simp

/-- The product's entry and the up projection's, as real numbers. -/
def dz (i j : ℕ) : ℝ := ∑ r : Fin 1024, (at2 (X0 m c) i r.val).toReal * (at2 (X1 m c) j r.val).toReal
def up (i j : ℕ) : ℝ := (at2 (X3 m c) i j).toReal

/-- The result's entry. -/
def res (h i j : ℕ) : EReal :=
  if h = 0 then gateGrad (dz m c i j) (up m c i j) (at2 (X2 m c) i j) else upGrad (dz m c i j) (at2 (X2 m c) i j)

variable {m c} (H : Reals m c)
include H

theorem dz_coe (i j : ℕ) : (∑ r : Fin 1024, at2 (X0 m c) i r.val * at2 (X1 m c) j r.val) = ((dz m c i j : ℝ) : EReal) := by
  unfold dz
  rw [← coe_sum]
  refine Finset.sum_congr rfl fun r _ => ?_
  rw [EReal.coe_mul, ← at2_real H.h0, ← at2_real H.h1]

theorem flushed (t : Fin cfg0.N) (h : Fin 2) (a : Fin 512) (b : Fin 1408) :
    out0_4 (F := Ideal) (iblk m c 0 t) (iblk m c 1 t) (iblk m c 2 t) (iblk m c 3 t) (ix3 h a b) =
      res m c h.val (512 * (t.val / 2) + a.val) (1408 * (t.val % 2) + b.val) := by
  have ez : k0_pay2 (F := Ideal) (iblk m c 0 t) (iblk m c 1 t) (ix2 a b) =
      ((dz m c (512 * (t.val / 2) + a.val) (1408 * (t.val % 2) + b.val) : ℝ) : EReal) := by
    rw [product_apply, ← dz_coe H]
    exact Finset.sum_congr rfl fun r _ => congrArg₂ (· * ·) (read0 m c t a r) (read1 m c t b r)
  have eg := read2 m c t a b
  have eu : iblk m c 3 t (ix2 a b) = ((up m c (512 * (t.val / 2) + a.val) (1408 * (t.val % 2) + b.val) : ℝ) : EReal) :=
    (read3 m c t a b).trans (at2_real H.h3 _ _)
  match h with
  | ⟨0, _⟩ => exact (out_gate _ _ _ _ a b).trans (gate_entry ez eg eu)
  | ⟨1, _⟩ => exact (out_up _ _ _ _ a b).trans (up_entry ez eg)

/-- The result array. -/
theorem final : (dats m 0 c).arrAt 4 cfg0.N =
    (fun y => res m c (y 0).val (y 1).val (y 2).val : FVec Ideal S2x8192x2816 .bf16) := by
  refine (dats m 0 c).arrAt_eq_of_covers 4 _ (by decide +kernel) fun t hf y => ?_
  have ht : t.val < 32 := lt_of_lt_of_eq t.isLt (show cfg0.N = 32 from N_0)
  blk_simp
  rw [after0_4]
  have e0 : win0_4.index t 0 * 2 + (y 0).val = (y 0).val := by rw [idx4 t]; show 0 * 2 + _ = _; omega
  have e1 : win0_4.index t 1 * 512 + (y 1).val = 512 * (t.val / 2) + (y 1).val := by rw [idx4 t]; show t.val / 2 * 512 + _ = _; omega
  have e2 : win0_4.index t 2 * 1408 + (y 2).val = 1408 * (t.val % 2) + (y 2).val := by rw [idx4 t]; show t.val % 2 * 1408 + _ = _; omega
  rw [e0, e1, e2]
  refine Eq.trans ?_ (flushed H t (y 0) (y 1) (y 2))
  refine congrArg _ ?_
  funext d
  match d with
  | ⟨0, _⟩ => rfl
  | ⟨1, _⟩ => rfl
  | ⟨2, _⟩ => rfl

/-! ## The reference -/

section
variable (x0 : FVec Ideal S8192x1024 .f32) (x1 : FVec Ideal S2816x1024 .bf16) (x2 x3 : FVec Ideal S8192x2816 .bf16)
  (i : Fin 8192) (j : Fin 2816)

omit H in
theorem ref_logistic : ActBackRefIdeal.Read.val_main_v3_2 (F := Ideal) x2 (ix2 i j) = elogistic (x2 (ix2 i j)) := by
  have e : ActBackRefIdeal.Read.val_main_v3_2 (F := Ideal) x2 (ix2 i j) =
      Ideal.div (Ideal.ofBits .f32 0x3F800000#32) (Ideal.ofBits .f32 0x3F800000#32 + Ideal.exp (-x2 (ix2 i j))) := by
    unfold ActBackRefIdeal.Read.val_main_v3_2 ActBackRefIdeal.Read.val_main_call0_v4 ActBackRefIdeal.Read.val_main_call0_v3
      ActBackRefIdeal.Read.val_main_call0_v2 ActBackRefIdeal.Read.val_main_call0_v1 ActBackRefIdeal.Read.val_main_call0_v0
      ActBackRefIdeal.Read.val_main_v0 ActBackRefIdeal.Read.val_main_call0_cst ActBackRefIdeal.Read.val_main_call0_cst_0
    pointwise
  rw [e, elogistic_of_neg]

omit H in
theorem ref_product :
    ActBackRefIdeal.Read.val_main_v6 (F := Ideal) x0 x1 (ix2 i j) = ∑ r : Fin 1024, x0 (ix2 i r) * x1 (ix2 j r) := by
  unfold ActBackRefIdeal.Read.val_main_v6 ActBackRefIdeal.Read.val_main_v2
  pointwise

variable {x0 x1 x2 x3 i j} {z u : ℝ} {g : EReal} (hz : ActBackRefIdeal.Read.val_main_v6 (F := Ideal) x0 x1 (ix2 i j) = (z : EReal))
  (hg : x2 (ix2 i j) = g) (hu : x3 (ix2 i j) = (u : EReal))

omit H in
include hz hg hu in
theorem ref_gate : ActBackRefIdeal.Read.val_main_v9 (F := Ideal) x0 x1 x2 x3 (ix2 i j) =
    gateGrad z u g := by
  have e : ActBackRefIdeal.Read.val_main_v9 (F := Ideal) x0 x1 x2 x3 (ix2 i j) =
      ActBackRefIdeal.Read.val_main_v6 (F := Ideal) x0 x1 (ix2 i j) * x3 (ix2 i j) * ActBackRefIdeal.Read.val_main_v3_2 (F := Ideal) x2 (ix2 i j)
      + x2 (ix2 i j) * (ActBackRefIdeal.Read.val_main_v6 (F := Ideal) x0 x1 (ix2 i j) * x3 (ix2 i j)) *
        (ActBackRefIdeal.Read.val_main_v3_2 (F := Ideal) x2 (ix2 i j) *
          (Ideal.ofBits .f32 0x3F800000#32 - ActBackRefIdeal.Read.val_main_v3_2 (F := Ideal) x2 (ix2 i j))) := by
    unfold ActBackRefIdeal.Read.val_main_v9 ActBackRefIdeal.Read.val_main_call1_v1 ActBackRefIdeal.Read.val_main_call1_v2
      ActBackRefIdeal.Read.val_main_call1_v0 ActBackRefIdeal.Read.val_main_v8 ActBackRefIdeal.Read.val_main_v3_1
      ActBackRefIdeal.Read.val_main_call0_v7 ActBackRefIdeal.Read.val_main_call0_v6
    generalize ActBackRefIdeal.Read.val_main_v6 (F := Ideal) x0 x1 = p
    generalize ActBackRefIdeal.Read.val_main_v3_2 (F := Ideal) x2 = q
    unfold ActBackRefIdeal.Read.val_main_v0 ActBackRefIdeal.Read.val_main_v1 ActBackRefIdeal.Read.val_main_call0_cst_1
    pointwise
  rw [e, ref_logistic, hz, hu, hg, one_coe, gate_gradient]
  rfl

omit H in
include hz hg in
theorem ref_up : ActBackRefIdeal.Read.val_main_v7 (F := Ideal) x0 x1 x2 (ix2 i j) = upGrad z g := by
  have e : ActBackRefIdeal.Read.val_main_v7 (F := Ideal) x0 x1 x2 (ix2 i j) =
      x2 (ix2 i j) * ActBackRefIdeal.Read.val_main_v3_2 (F := Ideal) x2 (ix2 i j) * ActBackRefIdeal.Read.val_main_v6 (F := Ideal) x0 x1 (ix2 i j) := by
    unfold ActBackRefIdeal.Read.val_main_v7 ActBackRefIdeal.Read.val_main_v3_0
    generalize ActBackRefIdeal.Read.val_main_v6 (F := Ideal) x0 x1 = p
    generalize ActBackRefIdeal.Read.val_main_v3_2 (F := Ideal) x2 = q
    unfold ActBackRefIdeal.Read.val_main_v0
    pointwise
  rw [e, ref_logistic, hz, hg]
  exact mul_comm _ _

omit H in
/-- The two gradients, stacked. -/
theorem ref_stack (h : Fin 2) : ActBackRefIdeal.Read.val_main_v13 (F := Ideal) x0 x1 x2 x3 (ix3 h i j) =
    if h.val < 1 then ActBackRefIdeal.Read.val_main_v9 (F := Ideal) x0 x1 x2 x3 (ix2 i j)
    else ActBackRefIdeal.Read.val_main_v7 (F := Ideal) x0 x1 x2 (ix2 i j) := by
  unfold ActBackRefIdeal.Read.val_main_v13 ActBackRefIdeal.Read.val_main_v12 ActBackRefIdeal.Read.val_main_v10 ActBackRefIdeal.Read.val_main_v11
  generalize ActBackRefIdeal.Read.val_main_v9 (F := Ideal) x0 x1 x2 x3 = p
  generalize ActBackRefIdeal.Read.val_main_v7 (F := Ideal) x0 x1 x2 = q
  pointwise
  rfl
end

theorem ref (h : Fin 2) (i : Fin 8192) (j : Fin 2816) :
    ActBackRefIdeal.Read.val_main_v13 (F := Ideal) (X0 m c) (X1 m c) (X2 m c) (X3 m c) (ix3 h i j) =
      res m c h.val i.val j.val := by
  have ez : ActBackRefIdeal.Read.val_main_v6 (F := Ideal) (X0 m c) (X1 m c) (ix2 i j) = ((dz m c i.val j.val : ℝ) : EReal) := by
    rw [ref_product, ← dz_coe H]
    exact Finset.sum_congr rfl fun r _ => congrArg₂ (· * ·) (at2_of _ i.isLt r.isLt).symm (at2_of _ j.isLt r.isLt).symm
  have eg : X2 m c (ix2 i j) = at2 (X2 m c) i.val j.val := (at2_of _ i.isLt j.isLt).symm
  have eu : X3 m c (ix2 i j) = ((up m c i.val j.val : ℝ) : EReal) :=
    (at2_of _ i.isLt j.isLt).symm.trans (at2_real H.h3 _ _)
  rw [ref_stack]
  match h with
  | ⟨0, _⟩ => exact ref_gate ez eg eu
  | ⟨1, _⟩ => exact ref_up ez eg

end Cert.ActBackIdeal.Gated

namespace Cert.Proof.ActBack

open Cert.ActBackIdeal.Gated Entries Idealize.ShloMosaic Idealize.ShloMosaic.TcCoe Idealize.SL.Sem

section
open Cert.ActBackIdeal

/-- What the precondition says of one device's memory. -/
theorem reals {m : (ℓ : Loc nD τ sig) → Buf (Elt Ideal) ℓ} (h : Cert.Pre_ActBackIdeal_act_finite m) (c : Dev nD) : Reals m c := by
  obtain ⟨p0, p1, p3⟩ := h c
  constructor
  · intro i j
    have e := congrFun p0 (ix2 i j)
    simp only [Cert.Pre_act_finite.fn] at e
    refine real_of_abs _ (Eq.trans ?_ e)
    pointwise
    rfl
  · intro i j
    have e := congrFun p1 (ix2 i j)
    simp only [Cert.Pre_act_finite.fn] at e
    refine real_of_abs _ (Eq.trans ?_ e)
    pointwise
    rfl
  · intro i j
    have e := congrFun p3 (ix2 i j)
    simp only [Cert.Pre_act_finite.fn] at e
    refine real_of_abs _ (Eq.trans ?_ e)
    pointwise
    rfl

end

section
open Cert.ActBackRefIdeal

/-- The reference's run, its result named. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v13) =
        Read.val_main_v13 (m ((c : Thread nD τ).loc main_arg0)) (m ((c : Thread nD τ).loc main_arg1)) (m ((c : Thread nD τ).loc main_arg2))
          (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (Value.run (F := Ideal) m ρ)
  obtain ⟨h1, h2⟩ := h c
  exact ⟨h1.trans (Read.val_main_v13_eq _ _ _ _), h2⟩

end

/-- On finite arguments the kernel's result is the reference's. -/
theorem algebraic : Cert.algebraic_ActBackIdeal_ActBackRefIdeal_pre_act_finite := by
  intro m g m' g' hpre hagree
  refine ⟨fun c => (Cert.ActBackIdeal.Gen.dats m 0 c).arrAt 4 Cert.ActBackIdeal.cfg0.N, ?_, ?_⟩
  · exact Cert.ActBackIdeal.Value.run_blocks m g
  · refine (θ_run Cert.ActBackRefIdeal.defs _ _).mono (fun r h c => ?_) (ref_run m' g')
    obtain ⟨h1, h2⟩ := h c
    obtain ⟨a0, a1, a2, a3⟩ := hagree c
    rw [a0, a1, a2, a3] at h1
    have H := reals hpre c
    refine ⟨h1.trans (Eq.trans ?_ (final H).symm), h2⟩
    funext y
    idx_vars y
    exact ref H y0 y1 y2

end Cert.Proof.ActBack

end
-- ==== Proof.MoBack.lean ====
/- The gradient of the input of the cross-attention's output projection, in eight blocks of rows. -/
module

public import proofs.«01_k».proof.Defs
public import proofs.«01_k».proof.Proof.Blocked
public import proofs.«01_k».proof.Proof.Gen.MoBackIdeal.Value
public import proofs.«01_k».proof.Proof.Gen.MoBackRefIdeal.Run
public import proofs.«01_k».proof.Proof.Gen.MoBackRefIdeal.Read
public import Idealize.ShloMosaic.Lib.Pipeline.ValueKit
public import Idealize.ShloMosaic.Lib.Pipeline.ReadBack
public import Idealize.ShloMosaic.Lib.Claim

@[expose] public section

set_option maxRecDepth 16384

open Finset

noncomputable section

namespace Cert.MoBackIdeal.Product

open Cert.MoBackIdeal Cert.MoBackIdeal.Gen Idealize.ShloMosaic Idealize.ShloMosaic.TcCoe Idealize.SL.Sem Blocked

theorem hz : (![0, 0] : Fin 2 → ℕ) = fun _ => 0 := by decide

/-- A block's product, entry by entry. -/
theorem block_product (x0 : Vec Ideal S1024x1024 .f32) (x1 : Vec Ideal S1024x1024 .bf16) (a : Fin 1024) (b : Fin 1024) :
    k0_pay1 (F := Ideal) x0 x1 (ix2 a b) = (∑ r : Fin 1024, x0 (ix2 a r) * x1 (ix2 b r)) := by
  unfold k0_pay1
  pointwise

/-- The block the body leaves. -/
theorem out (x0 : Vec Ideal S1024x1024 .f32) (x1 : Vec Ideal S1024x1024 .bf16) :
    out0_2 (F := Ideal) x0 x1 = k0_pay1 (F := Ideal) x0 x1 := by
  unfold out0_2
  rw [View.canon_cons_unit_zero (S := S1024x1024) hz]
  simp only [View.ld_unit_zero (S := S1024x1024) hz]

theorem idx : ∀ t : Fin cfg0.N, win0_0.index t = ![t.val, 0] ∧ win0_1.index t = ![0, 0] ∧
    win0_2.index t = ![t.val, 0] :=
  (by decide +kernel : ∀ t : Fin grid0.N, _)

theorem idx_out : ∀ t : Fin cfg0.N, win0_2.index t 0 = t.val ∧ win0_2.index t 1 = 0 :=
  (by decide +kernel : ∀ t : Fin grid0.N, _)

variable (m : (ℓ : Loc nD τ sig) → Buf (Elt Ideal) ℓ) (c : Dev nD)

/-- The operands. -/
abbrev X0 : FVec Ideal S8192x1024 .f32 := m ((c : Thread nD τ).loc main_arg0)
abbrev X1 : FVec Ideal S1024x1024 .bf16 := m ((c : Thread nD τ).loc main_arg1)

theorem read0 (t : Fin cfg0.N) (a : Fin 1024) (r : Fin 1024) :
    iblk m c 0 t (ix2 a r) = at2 (X0 m c) (1024 * t.val + a.val) r.val := by
  have ht : t.val < 8 := lt_of_lt_of_eq t.isLt (show cfg0.N = 8 from N_0)
  rw [at2_of _ (by omega) (by omega)]
  blk_ext [iblk, V_main_arg0, idx t]

theorem read1 (t : Fin cfg0.N) (b : Fin 1024) (r : Fin 1024) :
    iblk m c 1 t (ix2 b r) = at2 (X1 m c) (b.val) r.val := by
  have ht : t.val < 8 := lt_of_lt_of_eq t.isLt (show cfg0.N = 8 from N_0)
  rw [at2_of _ (by omega) (by omega)]
  blk_ext [iblk, V_main_arg1, idx t]

/-- The result's entry. -/
def res (i j : ℕ) : EReal := (∑ r : Fin 1024, at2 (X0 m c) i r.val * at2 (X1 m c) j r.val)

theorem flushed (t : Fin cfg0.N) (a : Fin 1024) (b : Fin 1024) :
    out0_2 (F := Ideal) (iblk m c 0 t) (iblk m c 1 t) (ix2 a b) = res m c (1024 * t.val + a.val) (b.val) := by
  rw [out, block_product]
  refine Finset.sum_congr rfl fun r _ => congrArg₂ (· * ·) (read0 m c t a r) (read1 m c t b r)

/-- The result array. -/
theorem final : (dats m 0 c).arrAt 2 cfg0.N =
    (fun y => res m c (y 0).val (y 1).val : FVec Ideal S8192x1024 .bf16) := by
  refine (dats m 0 c).arrAt_eq_of_covers 2 _ (by decide +kernel) fun t hf y => ?_
  have ht : t.val < 8 := lt_of_lt_of_eq t.isLt (show cfg0.N = 8 from N_0)
  blk_simp
  rw [after0_2]
  have e0 : win0_2.index t 0 * 1024 + (y 0).val = 1024 * t.val + (y 0).val := by
    have h := (idx_out t).1; omega
  have e1 : win0_2.index t 1 * 1024 + (y 1).val = (y 1).val := by
    have h := (idx_out t).2; omega
  rw [e0, e1]
  refine Eq.trans ?_ (flushed m c t (y 0) (y 1))
  refine congrArg _ ?_
  funext d
  match d with
  | ⟨0, _⟩ => rfl
  | ⟨1, _⟩ => rfl

/-- The reference's result, entry by entry. -/
theorem ref (i : Fin 8192) (j : Fin 1024) :
    MoBackRefIdeal.Read.val_main_v4 (F := Ideal) (X0 m c) (X1 m c) (ix2 i j) = res m c i.val j.val := by
  unfold MoBackRefIdeal.Read.val_main_v4 MoBackRefIdeal.Read.val_main_v3 MoBackRefIdeal.Read.val_main_v1
  pointwise
  unfold res
  refine Finset.sum_congr rfl fun r _ => ?_
  rw [at2_of _ i.isLt r.isLt, at2_of _ j.isLt r.isLt]

end Cert.MoBackIdeal.Product

namespace Cert.Proof.MoBack

open Idealize.ShloMosaic Idealize.ShloMosaic.TcCoe Idealize.SL.Sem

/-- The kernel's result is the reference's. -/
theorem algebraic : Cert.algebraic_MoBackIdeal_MoBackRefIdeal := by
  pair_intro
  · run_from Cert.MoBackIdeal.Value.run_blocks m g
  · run_from Cert.MoBackRefIdeal.Value.run m' g'
    rw [Cert.MoBackIdeal.Product.final m c]
    funext y
    idx_vars y
    exact Cert.MoBackIdeal.Product.ref m c y0 y1

end Cert.Proof.MoBack

end
-- ==== Proof.MoGrad.lean ====
/- The gradient of the cross-attention's output weight: the kernel adds the products of sixteen blocks of 512 rows, and leaves the
   product over all 8192 rows. -/
module

public import proofs.«01_k».proof.Defs
public import proofs.«01_k».proof.Proof.Blocked
public import proofs.«01_k».proof.Proof.Gen.MoGradIdeal.Value
public import proofs.«01_k».proof.Proof.Gen.MoGradRefIdeal.Run
public import proofs.«01_k».proof.Proof.Gen.MoGradRefIdeal.Read
public import Idealize.ShloMosaic.Lib.Pipeline.ValueKit
public import Idealize.ShloMosaic.Lib.Pipeline.ReadBack
public import Idealize.ShloMosaic.Lib.Claim

@[expose] public section

set_option maxRecDepth 16384

open Finset

noncomputable section

namespace Cert.MoGradIdeal.Product

open Cert.MoGradIdeal Cert.MoGradIdeal.Gen Idealize.ShloMosaic Idealize.ShloMosaic.TcCoe Idealize.SL.Sem Blocked

theorem hz : (![0, 0] : Fin 2 → ℕ) = fun _ => 0 := by decide
theorem hz3 : (![0, 0, 0] : Fin 3 → ℕ) = fun _ => 0 := by decide

/-- A block's product, entry by entry. -/
theorem block_product (x0 : Vec Ideal S512x1024 .bf16) (x1 : Vec Ideal S512x1024 .f32) (a : Fin 1024) (b : Fin 1024) :
    k0_pay1 (F := Ideal) x0 x1 (ix2 a b) = ∑ r : Fin 512, x0 (ix2 r a) * x1 (ix2 r b) := by
  unfold k0_pay1
  pointwise

section
variable (c : Dev nD) (i : grid0.Coords) (arg3 : Memref sig .tc .vmem S512x1024 .bf16) (harg3 : arg3.IsWhole)
  (arg4 : Memref sig .tc .vmem S512x1024 .f32) (harg4 : arg4.IsWhole) (arg5 : Memref sig .tc .vmem S1024x1024 .f32) (harg5 : arg5.IsWhole)
  (arg6 : Memref sig .tc .vmem S1024x1024 .f32) (harg6 : arg6.IsWhole) (x0 : Vec Ideal S512x1024 .bf16) (x1 : Vec Ideal S512x1024 .f32)
  (xs : Vec Ideal S1024x1024 .f32)

/-- The first point of a sweep leaves its block's product in the scratch. -/
theorem scratch_A (hc0 : cond0_0 i) (hc1 : ¬cond0_1 i) (hc2 : ¬cond0_2 i) :
    sout0_A_0 (F := Ideal) c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_cons_unit_zero (S := S1024x1024) hz]
  unfold k0_pay2
  simp only [View.readAt_eq_ld, harg3.read_unread, harg4.read_unread, View.ld_unit_zero (S := S512x1024) hz, shapeCast_self]

/-- A later point adds its block's product. -/
theorem scratch_B (hc0 : ¬cond0_0 i) (hc1 : cond0_1 i) (hc2 : ¬cond0_2 i) :
    sout0_B_0 (F := Ideal) c i arg3 harg3 arg4 harg4 arg5 harg5 arg6 harg6 hc0 hc1 hc2 x0 x1 xs = addf xs (k0_pay1 x0 x1) := by
  unfold sout0_B_0
  rw [View.read_writes_eq_canon _ _ _ (scover0_B_0 c i arg3 harg3 arg4 harg4 arg5 harg5 arg6 harg6 hc0 hc1 hc2 x0 x1 xs)]
  unfold kernelRun0_B
  dsimp only
  sl_unfold_words
  rw [View.canon_cons_unit_zero (S := S1024x1024) hz]
  unfold k0_pay3
  simp only [View.readAt_eq_ld, harg3.read_unread, harg4.read_unread, harg6.read_unread, View.ld_unit_zero (S := S512x1024) hz, View.ld_unit_zero (S := S1024x1024) hz, shapeCast_self]

/-- The last point of a sweep writes out the scratch with its block's product added. -/
theorem out_C (hc0 : ¬cond0_0 i) (hc1 : cond0_1 i) (hc2 : cond0_2 i) :
    out0_C_2 (F := Ideal) c i arg3 harg3 arg4 harg4 arg5 harg5 arg6 harg6 hc0 hc1 hc2 x0 x1 xs = (addf xs (k0_pay1 x0 x1) : FVec Ideal S1024x1024 .f32) := by
  unfold out0_C_2
  rw [View.read_writes_eq_canon _ _ _ (cover0_C_2 c i arg3 harg3 arg4 harg4 arg5 harg5 arg6 harg6 hc0 hc1 hc2 x0 x1 xs)]
  unfold kernelRun0_C
  dsimp only
  sl_unfold_words
  rw [View.canon_cons_unit_zero (S := S1024x1024) hz, View.readCov_unit_zero (S := S1024x1024) _ hz]
  unfold k0_pay3
  simp only [View.readAt_eq_ld, harg3.read_unread, harg4.read_unread, harg6.read_unread, View.ld_unit_zero (S := S512x1024) hz, View.ld_unit_zero (S := S1024x1024) hz, shapeCast_self]
end

theorem idx : ∀ t : Fin cfg0.N, win0_0.index t = ![t.val % 16, 0] ∧ win0_1.index t = ![t.val % 16, 0] ∧
    win0_2.index t = ![0, 0] :=
  (by decide +kernel : ∀ t : Fin grid0.N, _)

variable (m : (ℓ : Loc nD τ sig) → Buf (Elt Ideal) ℓ) (c : Dev nD)

/-- The first operand, and the second. -/
abbrev X0 : FVec Ideal S8192x1024 .bf16 := m ((c : Thread nD τ).loc main_arg0)
abbrev X1 : FVec Ideal S8192x1024 .f32 := m ((c : Thread nD τ).loc main_arg1)

theorem read0 (t : Fin cfg0.N) (r : Fin 512) (a : Fin 1024) :
    iblk m c 0 t (ix2 r a) = at2 (X0 m c) (512 * (t.val % 16) + r.val) a.val := by
  have ht : t.val < 16 := lt_of_lt_of_eq t.isLt (show cfg0.N = 16 from N_0)
  rw [at2_of _ (by omega) (by omega)]
  blk_ext [iblk, V_main_arg0, idx t]

theorem read1 (t : Fin cfg0.N) (r : Fin 512) (b : Fin 1024) :
    iblk m c 1 t (ix2 r b) = at2 (X1 m c) (512 * (t.val % 16) + r.val) (b.val) := by
  have ht : t.val < 16 := lt_of_lt_of_eq t.isLt (show cfg0.N = 16 from N_0)
  rw [at2_of _ (by omega) (by omega)]
  blk_ext [iblk, V_main_arg1, idx t]

/-- A term of the product of the two operands, and the part of the product from its first `n` terms. -/
def term (i j r : ℕ) : EReal := at2 (X0 m c) r i * at2 (X1 m c) r j
def part (n i j : ℕ) : EReal := ∑ r ∈ range n, term m c i j r

theorem block_part (t : Fin cfg0.N) (a : Fin 1024) (b : Fin 1024) :
    k0_pay1 (F := Ideal) (iblk m c 0 t) (iblk m c 1 t) (ix2 a b) =
      ∑ r : Fin 512, term m c (a.val) (b.val) (512 * (t.val % 16) + r.val) := by
  have ht : t.val < 16 := lt_of_lt_of_eq t.isLt (show cfg0.N = 16 from N_0)
  rw [block_product]
  refine Finset.sum_congr rfl fun r _ => ?_
  rw [read0, read1]
  rfl

/-- After point `n`, not the last of its sweep, the scratch holds the part of the product so far. -/
theorem scratch (n : ℕ) (hn : n < cfg0.N) (hl : n % 16 ≠ 15) (a : Fin 1024) (b : Fin 1024) :
    (outsAt0 m c n hn).2 (ix2 a b) = part m c (512 * (n % 16 + 1)) (a.val) (b.val) := by
  induction n with
  | zero =>
    rw [outsAt0_A m c ⟨0, hn⟩ (by simp) (by simp) (by simp)]
    dsimp only
    rw [scratch_A, block_part]
    exact sum_first (term m c _ _)
  | succ n ih =>
    have hN : n + 1 < 16 := lt_of_lt_of_eq hn (show cfg0.N = 16 from N_0)
    by_cases h0 : (n + 1) % 16 = 0
    · have e := outsAt0_A m c ⟨n + 1, hn⟩ h0 (by dsimp only; omega) (by dsimp only; omega)
      dsimp only at e
      rw [e]
      dsimp only
      rw [scratch_A, block_part]
      dsimp only
      rw [h0]
      exact sum_first (term m c _ _)
    · have e := outsAt0_B m c ⟨n + 1, hn⟩ h0 (by dsimp only; omega) hl
      dsimp only at e
      rw [e]
      dsimp only
      rw [scratch_B]
      refine (congrArg₂ (· + ·) (ih (by omega) (by omega)) (block_part m c ⟨n + 1, hn⟩ a b)).trans ?_
      dsimp only
      rw [show (n + 1) % 16 = n % 16 + 1 by omega]
      exact sum_next (term m c _ _) _

/-- What the last point of a sweep writes out. -/
theorem flushed (t : Fin cfg0.N) (ht : t.val % 16 = 15) (a : Fin 1024) (b : Fin 1024) :
    (outsAt0 m c t.val t.isLt).1 (ix2 a b) = part m c 8192 (a.val) (b.val) := by
  have hN : t.val < 16 := lt_of_lt_of_eq t.isLt (show cfg0.N = 16 from N_0)
  rw [outsAt0_C m c t (by omega) (by omega) ht]
  dsimp only
  rw [out_C]
  refine (congrArg₂ (· + ·) (scratch m c (t.val - 1) (by omega) (by omega) a b) (block_part m c t a b)).trans ?_
  rw [show (t.val - 1) % 16 = 14 by omega, ht]
  exact sum_next (term m c _ _) _

/-- The result array: the product. -/
theorem final : (dats m 0 c).arrAt 2 cfg0.N =
    (fun y => part m c 8192 (y 0).val (y 1).val : FVec Ideal S1024x1024 .f32) := by
  refine Eq.trans (b := Value.G2 m c) (Value.final2 m c) ?_
  funext y
  idx_vars y
  unfold Value.G2
  have hq : Value.pt2Of (ix2 y0 y1) = 16 * (1 * (y0.val / 1024) + y1.val / 1024) + 15 := by
    show 16 * (_ * (y0.val / 1024 - 0) + 1 * (y1.val / 1024 - 0)) + 15 = _
    omega
  have hp : Value.pt2Of (ix2 y0 y1) < cfg0.N := by
    rw [show cfg0.N = 16 from N_0, hq]
    omega
  rw [dif_pos hp]
  have e := flushed m c ⟨_, hp⟩ (by dsimp only; rw [hq]; omega) ⟨y0.val % 1024, Nat.mod_lt _ (by decide)⟩ ⟨y1.val % 1024, Nat.mod_lt _ (by decide)⟩
  rw [Value.outsAt0_sweep] at e
  refine Eq.trans ?_ (e.trans ?_)
  · refine congrArg (Prod.fst _) ?_
    funext a
    match a with
    | ⟨0, _⟩ => rfl
    | ⟨1, _⟩ => rfl
  · dsimp only
    refine congrArg₂ (part m c 8192) ?_ ?_
    · show y0.val % 1024 = y0.val
      omega
    · show y1.val % 1024 = y1.val
      omega

/-- The reference's result, entry by entry. -/
theorem ref (i : Fin 1024) (j : Fin 1024) :
    MoGradRefIdeal.Read.val_main_v4 (F := Ideal) (X0 m c) (X1 m c) (ix2 i j) = part m c 8192 i.val j.val := by
  unfold MoGradRefIdeal.Read.val_main_v4 MoGradRefIdeal.Read.val_main_v3 MoGradRefIdeal.Read.val_main_v1
  pointwise
  unfold part
  rw [← sum_all (n := 8192) (term m c i.val j.val)]
  refine Finset.sum_congr rfl fun r _ => ?_
  unfold term
  rw [mul_comm, at2_of _ r.isLt i.isLt, at2_of _ r.isLt j.isLt]

end Cert.MoGradIdeal.Product

namespace Cert.Proof.MoGrad

open Idealize.ShloMosaic Idealize.ShloMosaic.TcCoe Idealize.SL.Sem

/-- The kernel's result is the reference's. -/
theorem algebraic : Cert.algebraic_MoGradIdeal_MoGradRefIdeal := by
  pair_intro
  · run_from Cert.MoGradIdeal.Value.run_blocks m g
  · run_from Cert.MoGradRefIdeal.Value.run m' g'
    rw [Cert.MoGradIdeal.Product.final m c]
    funext y
    idx_vars y
    exact Cert.MoGradIdeal.Product.ref m c y0 y1

end Cert.Proof.MoGrad

end
-- ==== Proof.MqBack.lean ====
/- The gradient of the input of the cross-attention's query projection, in eight blocks of rows. -/
module

public import proofs.«01_k».proof.Defs
public import proofs.«01_k».proof.Proof.Blocked
public import proofs.«01_k».proof.Proof.Gen.MqBackIdeal.Value
public import proofs.«01_k».proof.Proof.Gen.MqBackRefIdeal.Run
public import proofs.«01_k».proof.Proof.Gen.MqBackRefIdeal.Read
public import Idealize.ShloMosaic.Lib.Pipeline.ValueKit
public import Idealize.ShloMosaic.Lib.Pipeline.ReadBack
public import Idealize.ShloMosaic.Lib.Claim

@[expose] public section

set_option maxRecDepth 16384

open Finset

noncomputable section

namespace Cert.MqBackIdeal.Product

open Cert.MqBackIdeal Cert.MqBackIdeal.Gen Idealize.ShloMosaic Idealize.ShloMosaic.TcCoe Idealize.SL.Sem Blocked

theorem hz : (![0, 0] : Fin 2 → ℕ) = fun _ => 0 := by decide

/-- A block's product, entry by entry. -/
theorem block_product (x0 : Vec Ideal S1024x1024 .bf16) (x1 : Vec Ideal S1024x1024 .bf16) (a : Fin 1024) (b : Fin 1024) :
    k0_pay1 (F := Ideal) x0 x1 (ix2 a b) = (∑ r : Fin 1024, x0 (ix2 a r) * x1 (ix2 b r)) := by
  unfold k0_pay1
  pointwise

/-- The block the body leaves. -/
theorem out (x0 : Vec Ideal S1024x1024 .bf16) (x1 : Vec Ideal S1024x1024 .bf16) :
    out0_2 (F := Ideal) x0 x1 = k0_pay1 (F := Ideal) x0 x1 := by
  unfold out0_2
  rw [View.canon_cons_unit_zero (S := S1024x1024) hz]
  simp only [View.ld_unit_zero (S := S1024x1024) hz]

theorem idx : ∀ t : Fin cfg0.N, win0_0.index t = ![t.val, 0] ∧ win0_1.index t = ![0, 0] ∧
    win0_2.index t = ![t.val, 0] :=
  (by decide +kernel : ∀ t : Fin grid0.N, _)

theorem idx_out : ∀ t : Fin cfg0.N, win0_2.index t 0 = t.val ∧ win0_2.index t 1 = 0 :=
  (by decide +kernel : ∀ t : Fin grid0.N, _)

variable (m : (ℓ : Loc nD τ sig) → Buf (Elt Ideal) ℓ) (c : Dev nD)

/-- The operands. -/
abbrev X0 : FVec Ideal S8192x1024 .bf16 := m ((c : Thread nD τ).loc main_arg0)
abbrev X1 : FVec Ideal S1024x1024 .bf16 := m ((c : Thread nD τ).loc main_arg1)

theorem read0 (t : Fin cfg0.N) (a : Fin 1024) (r : Fin 1024) :
    iblk m c 0 t (ix2 a r) = at2 (X0 m c) (1024 * t.val + a.val) r.val := by
  have ht : t.val < 8 := lt_of_lt_of_eq t.isLt (show cfg0.N = 8 from N_0)
  rw [at2_of _ (by omega) (by omega)]
  blk_ext [iblk, V_main_arg0, idx t]

theorem read1 (t : Fin cfg0.N) (b : Fin 1024) (r : Fin 1024) :
    iblk m c 1 t (ix2 b r) = at2 (X1 m c) (b.val) r.val := by
  have ht : t.val < 8 := lt_of_lt_of_eq t.isLt (show cfg0.N = 8 from N_0)
  rw [at2_of _ (by omega) (by omega)]
  blk_ext [iblk, V_main_arg1, idx t]

/-- The result's entry. -/
def res (i j : ℕ) : EReal := (∑ r : Fin 1024, at2 (X0 m c) i r.val * at2 (X1 m c) j r.val)

theorem flushed (t : Fin cfg0.N) (a : Fin 1024) (b : Fin 1024) :
    out0_2 (F := Ideal) (iblk m c 0 t) (iblk m c 1 t) (ix2 a b) = res m c (1024 * t.val + a.val) (b.val) := by
  rw [out, block_product]
  refine Finset.sum_congr rfl fun r _ => congrArg₂ (· * ·) (read0 m c t a r) (read1 m c t b r)

/-- The result array. -/
theorem final : (dats m 0 c).arrAt 2 cfg0.N =
    (fun y => res m c (y 0).val (y 1).val : FVec Ideal S8192x1024 .f32) := by
  refine (dats m 0 c).arrAt_eq_of_covers 2 _ (by decide +kernel) fun t hf y => ?_
  have ht : t.val < 8 := lt_of_lt_of_eq t.isLt (show cfg0.N = 8 from N_0)
  blk_simp
  rw [after0_2]
  have e0 : win0_2.index t 0 * 1024 + (y 0).val = 1024 * t.val + (y 0).val := by
    have h := (idx_out t).1; omega
  have e1 : win0_2.index t 1 * 1024 + (y 1).val = (y 1).val := by
    have h := (idx_out t).2; omega
  rw [e0, e1]
  refine Eq.trans ?_ (flushed m c t (y 0) (y 1))
  refine congrArg _ ?_
  funext d
  match d with
  | ⟨0, _⟩ => rfl
  | ⟨1, _⟩ => rfl

/-- The reference's result, entry by entry. -/
theorem ref (i : Fin 8192) (j : Fin 1024) :
    MqBackRefIdeal.Read.val_main_v4 (F := Ideal) (X0 m c) (X1 m c) (ix2 i j) = res m c i.val j.val := by
  unfold MqBackRefIdeal.Read.val_main_v4 MqBackRefIdeal.Read.val_main_v3 MqBackRefIdeal.Read.val_main_v1
  pointwise
  unfold res
  refine Finset.sum_congr rfl fun r _ => ?_
  rw [at2_of _ i.isLt r.isLt, at2_of _ j.isLt r.isLt]

end Cert.MqBackIdeal.Product

namespace Cert.Proof.MqBack

open Idealize.ShloMosaic Idealize.ShloMosaic.TcCoe Idealize.SL.Sem

/-- The kernel's result is the reference's. -/
theorem algebraic : Cert.algebraic_MqBackIdeal_MqBackRefIdeal := by
  pair_intro
  · run_from Cert.MqBackIdeal.Value.run_blocks m g
  · run_from Cert.MqBackRefIdeal.Value.run m' g'
    rw [Cert.MqBackIdeal.Product.final m c]
    funext y
    idx_vars y
    exact Cert.MqBackIdeal.Product.ref m c y0 y1

end Cert.Proof.MqBack

end
-- ==== Proof.MqGrad.lean ====
/- The gradient of the cross-attention's query weight: the kernel adds the products of sixteen blocks of 512 rows, and leaves the
   product over all 8192 rows. -/
module

public import proofs.«01_k».proof.Defs
public import proofs.«01_k».proof.Proof.Blocked
public import proofs.«01_k».proof.Proof.Gen.MqGradIdeal.Value
public import proofs.«01_k».proof.Proof.Gen.MqGradRefIdeal.Run
public import proofs.«01_k».proof.Proof.Gen.MqGradRefIdeal.Read
public import Idealize.ShloMosaic.Lib.Pipeline.ValueKit
public import Idealize.ShloMosaic.Lib.Pipeline.ReadBack
public import Idealize.ShloMosaic.Lib.Claim

@[expose] public section

set_option maxRecDepth 16384

open Finset

noncomputable section

namespace Cert.MqGradIdeal.Product

open Cert.MqGradIdeal Cert.MqGradIdeal.Gen Idealize.ShloMosaic Idealize.ShloMosaic.TcCoe Idealize.SL.Sem Blocked

theorem hz : (![0, 0] : Fin 2 → ℕ) = fun _ => 0 := by decide
theorem hz3 : (![0, 0, 0] : Fin 3 → ℕ) = fun _ => 0 := by decide

/-- A block's product, entry by entry. -/
theorem block_product (x0 : Vec Ideal S512x1024 .bf16) (x1 : Vec Ideal S512x1024 .bf16) (a : Fin 1024) (b : Fin 1024) :
    k0_pay1 (F := Ideal) x0 x1 (ix2 a b) = ∑ r : Fin 512, x0 (ix2 r a) * x1 (ix2 r b) := by
  unfold k0_pay1
  pointwise

section
variable (c : Dev nD) (i : grid0.Coords) (arg3 : Memref sig .tc .vmem S512x1024 .bf16) (harg3 : arg3.IsWhole)
  (arg4 : Memref sig .tc .vmem S512x1024 .bf16) (harg4 : arg4.IsWhole) (arg5 : Memref sig .tc .vmem S1024x1024 .f32) (harg5 : arg5.IsWhole)
  (arg6 : Memref sig .tc .vmem S1024x1024 .f32) (harg6 : arg6.IsWhole) (x0 : Vec Ideal S512x1024 .bf16) (x1 : Vec Ideal S512x1024 .bf16)
  (xs : Vec Ideal S1024x1024 .f32)

/-- The first point of a sweep leaves its block's product in the scratch. -/
theorem scratch_A (hc0 : cond0_0 i) (hc1 : ¬cond0_1 i) (hc2 : ¬cond0_2 i) :
    sout0_A_0 (F := Ideal) c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_cons_unit_zero (S := S1024x1024) hz]
  unfold k0_pay2
  simp only [View.readAt_eq_ld, harg3.read_unread, harg4.read_unread, View.ld_unit_zero (S := S512x1024) hz, shapeCast_self]

/-- A later point adds its block's product. -/
theorem scratch_B (hc0 : ¬cond0_0 i) (hc1 : cond0_1 i) (hc2 : ¬cond0_2 i) :
    sout0_B_0 (F := Ideal) c i arg3 harg3 arg4 harg4 arg5 harg5 arg6 harg6 hc0 hc1 hc2 x0 x1 xs = addf xs (k0_pay1 x0 x1) := by
  unfold sout0_B_0
  rw [View.read_writes_eq_canon _ _ _ (scover0_B_0 c i arg3 harg3 arg4 harg4 arg5 harg5 arg6 harg6 hc0 hc1 hc2 x0 x1 xs)]
  unfold kernelRun0_B
  dsimp only
  sl_unfold_words
  rw [View.canon_cons_unit_zero (S := S1024x1024) hz]
  unfold k0_pay3
  simp only [View.readAt_eq_ld, harg3.read_unread, harg4.read_unread, harg6.read_unread, View.ld_unit_zero (S := S512x1024) hz, View.ld_unit_zero (S := S1024x1024) hz, shapeCast_self]

/-- The last point of a sweep writes out the scratch with its block's product added. -/
theorem out_C (hc0 : ¬cond0_0 i) (hc1 : cond0_1 i) (hc2 : cond0_2 i) :
    out0_C_2 (F := Ideal) c i arg3 harg3 arg4 harg4 arg5 harg5 arg6 harg6 hc0 hc1 hc2 x0 x1 xs = (addf xs (k0_pay1 x0 x1) : FVec Ideal S1024x1024 .f32) := by
  unfold out0_C_2
  rw [View.read_writes_eq_canon _ _ _ (cover0_C_2 c i arg3 harg3 arg4 harg4 arg5 harg5 arg6 harg6 hc0 hc1 hc2 x0 x1 xs)]
  unfold kernelRun0_C
  dsimp only
  sl_unfold_words
  rw [View.canon_cons_unit_zero (S := S1024x1024) hz, View.readCov_unit_zero (S := S1024x1024) _ hz]
  unfold k0_pay3
  simp only [View.readAt_eq_ld, harg3.read_unread, harg4.read_unread, harg6.read_unread, View.ld_unit_zero (S := S512x1024) hz, View.ld_unit_zero (S := S1024x1024) hz, shapeCast_self]
end

theorem idx : ∀ t : Fin cfg0.N, win0_0.index t = ![t.val % 16, 0] ∧ win0_1.index t = ![t.val % 16, 0] ∧
    win0_2.index t = ![0, 0] :=
  (by decide +kernel : ∀ t : Fin grid0.N, _)

variable (m : (ℓ : Loc nD τ sig) → Buf (Elt Ideal) ℓ) (c : Dev nD)

/-- The first operand, and the second. -/
abbrev X0 : FVec Ideal S8192x1024 .bf16 := m ((c : Thread nD τ).loc main_arg0)
abbrev X1 : FVec Ideal S8192x1024 .bf16 := m ((c : Thread nD τ).loc main_arg1)

theorem read0 (t : Fin cfg0.N) (r : Fin 512) (a : Fin 1024) :
    iblk m c 0 t (ix2 r a) = at2 (X0 m c) (512 * (t.val % 16) + r.val) a.val := by
  have ht : t.val < 16 := lt_of_lt_of_eq t.isLt (show cfg0.N = 16 from N_0)
  rw [at2_of _ (by omega) (by omega)]
  blk_ext [iblk, V_main_arg0, idx t]

theorem read1 (t : Fin cfg0.N) (r : Fin 512) (b : Fin 1024) :
    iblk m c 1 t (ix2 r b) = at2 (X1 m c) (512 * (t.val % 16) + r.val) (b.val) := by
  have ht : t.val < 16 := lt_of_lt_of_eq t.isLt (show cfg0.N = 16 from N_0)
  rw [at2_of _ (by omega) (by omega)]
  blk_ext [iblk, V_main_arg1, idx t]

/-- A term of the product of the two operands, and the part of the product from its first `n` terms. -/
def term (i j r : ℕ) : EReal := at2 (X0 m c) r i * at2 (X1 m c) r j
def part (n i j : ℕ) : EReal := ∑ r ∈ range n, term m c i j r

theorem block_part (t : Fin cfg0.N) (a : Fin 1024) (b : Fin 1024) :
    k0_pay1 (F := Ideal) (iblk m c 0 t) (iblk m c 1 t) (ix2 a b) =
      ∑ r : Fin 512, term m c (a.val) (b.val) (512 * (t.val % 16) + r.val) := by
  have ht : t.val < 16 := lt_of_lt_of_eq t.isLt (show cfg0.N = 16 from N_0)
  rw [block_product]
  refine Finset.sum_congr rfl fun r _ => ?_
  rw [read0, read1]
  rfl

/-- After point `n`, not the last of its sweep, the scratch holds the part of the product so far. -/
theorem scratch (n : ℕ) (hn : n < cfg0.N) (hl : n % 16 ≠ 15) (a : Fin 1024) (b : Fin 1024) :
    (outsAt0 m c n hn).2 (ix2 a b) = part m c (512 * (n % 16 + 1)) (a.val) (b.val) := by
  induction n with
  | zero =>
    rw [outsAt0_A m c ⟨0, hn⟩ (by simp) (by simp) (by simp)]
    dsimp only
    rw [scratch_A, block_part]
    exact sum_first (term m c _ _)
  | succ n ih =>
    have hN : n + 1 < 16 := lt_of_lt_of_eq hn (show cfg0.N = 16 from N_0)
    by_cases h0 : (n + 1) % 16 = 0
    · have e := outsAt0_A m c ⟨n + 1, hn⟩ h0 (by dsimp only; omega) (by dsimp only; omega)
      dsimp only at e
      rw [e]
      dsimp only
      rw [scratch_A, block_part]
      dsimp only
      rw [h0]
      exact sum_first (term m c _ _)
    · have e := outsAt0_B m c ⟨n + 1, hn⟩ h0 (by dsimp only; omega) hl
      dsimp only at e
      rw [e]
      dsimp only
      rw [scratch_B]
      refine (congrArg₂ (· + ·) (ih (by omega) (by omega)) (block_part m c ⟨n + 1, hn⟩ a b)).trans ?_
      dsimp only
      rw [show (n + 1) % 16 = n % 16 + 1 by omega]
      exact sum_next (term m c _ _) _

/-- What the last point of a sweep writes out. -/
theorem flushed (t : Fin cfg0.N) (ht : t.val % 16 = 15) (a : Fin 1024) (b : Fin 1024) :
    (outsAt0 m c t.val t.isLt).1 (ix2 a b) = part m c 8192 (a.val) (b.val) := by
  have hN : t.val < 16 := lt_of_lt_of_eq t.isLt (show cfg0.N = 16 from N_0)
  rw [outsAt0_C m c t (by omega) (by omega) ht]
  dsimp only
  rw [out_C]
  refine (congrArg₂ (· + ·) (scratch m c (t.val - 1) (by omega) (by omega) a b) (block_part m c t a b)).trans ?_
  rw [show (t.val - 1) % 16 = 14 by omega, ht]
  exact sum_next (term m c _ _) _

/-- The result array: the product. -/
theorem final : (dats m 0 c).arrAt 2 cfg0.N =
    (fun y => part m c 8192 (y 0).val (y 1).val : FVec Ideal S1024x1024 .f32) := by
  refine Eq.trans (b := Value.G2 m c) (Value.final2 m c) ?_
  funext y
  idx_vars y
  unfold Value.G2
  have hq : Value.pt2Of (ix2 y0 y1) = 16 * (1 * (y0.val / 1024) + y1.val / 1024) + 15 := by
    show 16 * (_ * (y0.val / 1024 - 0) + 1 * (y1.val / 1024 - 0)) + 15 = _
    omega
  have hp : Value.pt2Of (ix2 y0 y1) < cfg0.N := by
    rw [show cfg0.N = 16 from N_0, hq]
    omega
  rw [dif_pos hp]
  have e := flushed m c ⟨_, hp⟩ (by dsimp only; rw [hq]; omega) ⟨y0.val % 1024, Nat.mod_lt _ (by decide)⟩ ⟨y1.val % 1024, Nat.mod_lt _ (by decide)⟩
  rw [Value.outsAt0_sweep] at e
  refine Eq.trans ?_ (e.trans ?_)
  · refine congrArg (Prod.fst _) ?_
    funext a
    match a with
    | ⟨0, _⟩ => rfl
    | ⟨1, _⟩ => rfl
  · dsimp only
    refine congrArg₂ (part m c 8192) ?_ ?_
    · show y0.val % 1024 = y0.val
      omega
    · show y1.val % 1024 = y1.val
      omega

/-- The reference's result, entry by entry. -/
theorem ref (i : Fin 1024) (j : Fin 1024) :
    MqGradRefIdeal.Read.val_main_v5 (F := Ideal) (X0 m c) (X1 m c) (ix2 i j) = part m c 8192 i.val j.val := by
  unfold MqGradRefIdeal.Read.val_main_v5 MqGradRefIdeal.Read.val_main_v4 MqGradRefIdeal.Read.val_main_v3 MqGradRefIdeal.Read.val_main_v1
  pointwise
  unfold part
  rw [← sum_all (n := 8192) (term m c i.val j.val)]
  refine Finset.sum_congr rfl fun r _ => ?_
  unfold term
  rw [mul_comm, at2_of _ r.isLt i.isLt, at2_of _ r.isLt j.isLt]

end Cert.MqGradIdeal.Product

namespace Cert.Proof.MqGrad

open Idealize.ShloMosaic Idealize.ShloMosaic.TcCoe Idealize.SL.Sem

/-- The kernel's result is the reference's. -/
theorem algebraic : Cert.algebraic_MqGradIdeal_MqGradRefIdeal := by
  pair_intro
  · run_from Cert.MqGradIdeal.Value.run_blocks m g
  · run_from Cert.MqGradRefIdeal.Value.run m' g'
    rw [Cert.MqGradIdeal.Product.final m c]
    funext y
    idx_vars y
    exact Cert.MqGradIdeal.Product.ref m c y0 y1

end Cert.Proof.MqGrad

end
-- ==== Proof.OutBack.lean ====
/- The gradient of the input of the mixer's output projection, in eight blocks of rows. -/
module

public import proofs.«01_k».proof.Defs
public import proofs.«01_k».proof.Proof.Blocked
public import proofs.«01_k».proof.Proof.Gen.OutBackIdeal.Value
public import proofs.«01_k».proof.Proof.Gen.OutBackRefIdeal.Run
public import proofs.«01_k».proof.Proof.Gen.OutBackRefIdeal.Read
public import Idealize.ShloMosaic.Lib.Pipeline.ValueKit
public import Idealize.ShloMosaic.Lib.Pipeline.ReadBack
public import Idealize.ShloMosaic.Lib.Claim

@[expose] public section

set_option maxRecDepth 16384

open Finset

noncomputable section

namespace Cert.OutBackIdeal.Product

open Cert.OutBackIdeal Cert.OutBackIdeal.Gen Idealize.ShloMosaic Idealize.ShloMosaic.TcCoe Idealize.SL.Sem Blocked

theorem hz : (![0, 0] : Fin 2 → ℕ) = fun _ => 0 := by decide

/-- A block's product, entry by entry. -/
theorem block_product (x0 : Vec Ideal S1024x1024 .f32) (x1 : Vec Ideal S1024x1024 .bf16) (a : Fin 1024) (b : Fin 1024) :
    k0_pay1 (F := Ideal) x0 x1 (ix2 a b) = (∑ r : Fin 1024, x0 (ix2 a r) * x1 (ix2 b r)) := by
  unfold k0_pay1
  pointwise

/-- The block the body leaves. -/
theorem out (x0 : Vec Ideal S1024x1024 .f32) (x1 : Vec Ideal S1024x1024 .bf16) :
    out0_2 (F := Ideal) x0 x1 = k0_pay1 (F := Ideal) x0 x1 := by
  unfold out0_2
  rw [View.canon_cons_unit_zero (S := S1024x1024) hz]
  simp only [View.ld_unit_zero (S := S1024x1024) hz]

theorem idx : ∀ t : Fin cfg0.N, win0_0.index t = ![t.val, 0] ∧ win0_1.index t = ![0, 0] ∧
    win0_2.index t = ![t.val, 0] :=
  (by decide +kernel : ∀ t : Fin grid0.N, _)

theorem idx_out : ∀ t : Fin cfg0.N, win0_2.index t 0 = t.val ∧ win0_2.index t 1 = 0 :=
  (by decide +kernel : ∀ t : Fin grid0.N, _)

variable (m : (ℓ : Loc nD τ sig) → Buf (Elt Ideal) ℓ) (c : Dev nD)

/-- The operands. -/
abbrev X0 : FVec Ideal S8192x1024 .f32 := m ((c : Thread nD τ).loc main_arg0)
abbrev X1 : FVec Ideal S1024x1024 .bf16 := m ((c : Thread nD τ).loc main_arg1)

theorem read0 (t : Fin cfg0.N) (a : Fin 1024) (r : Fin 1024) :
    iblk m c 0 t (ix2 a r) = at2 (X0 m c) (1024 * t.val + a.val) r.val := by
  have ht : t.val < 8 := lt_of_lt_of_eq t.isLt (show cfg0.N = 8 from N_0)
  rw [at2_of _ (by omega) (by omega)]
  blk_ext [iblk, V_main_arg0, idx t]

theorem read1 (t : Fin cfg0.N) (b : Fin 1024) (r : Fin 1024) :
    iblk m c 1 t (ix2 b r) = at2 (X1 m c) (b.val) r.val := by
  have ht : t.val < 8 := lt_of_lt_of_eq t.isLt (show cfg0.N = 8 from N_0)
  rw [at2_of _ (by omega) (by omega)]
  blk_ext [iblk, V_main_arg1, idx t]

/-- The result's entry. -/
def res (i j : ℕ) : EReal := (∑ r : Fin 1024, at2 (X0 m c) i r.val * at2 (X1 m c) j r.val)

theorem flushed (t : Fin cfg0.N) (a : Fin 1024) (b : Fin 1024) :
    out0_2 (F := Ideal) (iblk m c 0 t) (iblk m c 1 t) (ix2 a b) = res m c (1024 * t.val + a.val) (b.val) := by
  rw [out, block_product]
  refine Finset.sum_congr rfl fun r _ => congrArg₂ (· * ·) (read0 m c t a r) (read1 m c t b r)

/-- The result array. -/
theorem final : (dats m 0 c).arrAt 2 cfg0.N =
    (fun y => res m c (y 0).val (y 1).val : FVec Ideal S8192x1024 .f32) := by
  refine (dats m 0 c).arrAt_eq_of_covers 2 _ (by decide +kernel) fun t hf y => ?_
  have ht : t.val < 8 := lt_of_lt_of_eq t.isLt (show cfg0.N = 8 from N_0)
  blk_simp
  rw [after0_2]
  have e0 : win0_2.index t 0 * 1024 + (y 0).val = 1024 * t.val + (y 0).val := by
    have h := (idx_out t).1; omega
  have e1 : win0_2.index t 1 * 1024 + (y 1).val = (y 1).val := by
    have h := (idx_out t).2; omega
  rw [e0, e1]
  refine Eq.trans ?_ (flushed m c t (y 0) (y 1))
  refine congrArg _ ?_
  funext d
  match d with
  | ⟨0, _⟩ => rfl
  | ⟨1, _⟩ => rfl

/-- The reference's result, entry by entry. -/
theorem ref (i : Fin 8192) (j : Fin 1024) :
    OutBackRefIdeal.Read.val_main_v3 (F := Ideal) (X0 m c) (X1 m c) (ix2 i j) = res m c i.val j.val := by
  unfold OutBackRefIdeal.Read.val_main_v3 OutBackRefIdeal.Read.val_main_v1
  pointwise
  unfold res
  refine Finset.sum_congr rfl fun r _ => ?_
  rw [at2_of _ i.isLt r.isLt, at2_of _ j.isLt r.isLt]

end Cert.OutBackIdeal.Product

namespace Cert.Proof.OutBack

open Idealize.ShloMosaic Idealize.ShloMosaic.TcCoe Idealize.SL.Sem

/-- The kernel's result is the reference's. -/
theorem algebraic : Cert.algebraic_OutBackIdeal_OutBackRefIdeal := by
  pair_intro
  · run_from Cert.OutBackIdeal.Value.run_blocks m g
  · run_from Cert.OutBackRefIdeal.Value.run m' g'
    rw [Cert.OutBackIdeal.Product.final m c]
    funext y
    idx_vars y
    exact Cert.OutBackIdeal.Product.ref m c y0 y1

end Cert.Proof.OutBack

end
-- ==== Proof.OutGrad.lean ====
/- The gradient of the mixer's output weight: the kernel adds the products of sixteen blocks of 512 rows, and leaves the
   product over all 8192 rows. -/
module

public import proofs.«01_k».proof.Defs
public import proofs.«01_k».proof.Proof.Blocked
public import proofs.«01_k».proof.Proof.Gen.OutGradIdeal.Value
public import proofs.«01_k».proof.Proof.Gen.OutGradRefIdeal.Run
public import proofs.«01_k».proof.Proof.Gen.OutGradRefIdeal.Read
public import Idealize.ShloMosaic.Lib.Pipeline.ValueKit
public import Idealize.ShloMosaic.Lib.Pipeline.ReadBack
public import Idealize.ShloMosaic.Lib.Claim

@[expose] public section

set_option maxRecDepth 16384

open Finset

noncomputable section

namespace Cert.OutGradIdeal.Product

open Cert.OutGradIdeal Cert.OutGradIdeal.Gen Idealize.ShloMosaic Idealize.ShloMosaic.TcCoe Idealize.SL.Sem Blocked

theorem hz : (![0, 0] : Fin 2 → ℕ) = fun _ => 0 := by decide
theorem hz3 : (![0, 0, 0] : Fin 3 → ℕ) = fun _ => 0 := by decide

/-- A block's product, entry by entry. -/
theorem block_product (x0 : Vec Ideal S512x1024 .bf16) (x1 : Vec Ideal S512x1024 .f32) (a : Fin 1024) (b : Fin 1024) :
    k0_pay1 (F := Ideal) x0 x1 (ix2 a b) = ∑ r : Fin 512, x0 (ix2 r a) * x1 (ix2 r b) := by
  unfold k0_pay1
  pointwise

section
variable (c : Dev nD) (i : grid0.Coords) (arg3 : Memref sig .tc .vmem S512x1024 .bf16) (harg3 : arg3.IsWhole)
  (arg4 : Memref sig .tc .vmem S512x1024 .f32) (harg4 : arg4.IsWhole) (arg5 : Memref sig .tc .vmem S1024x1024 .f32) (harg5 : arg5.IsWhole)
  (arg6 : Memref sig .tc .vmem S1024x1024 .f32) (harg6 : arg6.IsWhole) (x0 : Vec Ideal S512x1024 .bf16) (x1 : Vec Ideal S512x1024 .f32)
  (xs : Vec Ideal S1024x1024 .f32)

/-- The first point of a sweep leaves its block's product in the scratch. -/
theorem scratch_A (hc0 : cond0_0 i) (hc1 : ¬cond0_1 i) (hc2 : ¬cond0_2 i) :
    sout0_A_0 (F := Ideal) c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_cons_unit_zero (S := S1024x1024) hz]
  unfold k0_pay2
  simp only [View.readAt_eq_ld, harg3.read_unread, harg4.read_unread, View.ld_unit_zero (S := S512x1024) hz, shapeCast_self]

/-- A later point adds its block's product. -/
theorem scratch_B (hc0 : ¬cond0_0 i) (hc1 : cond0_1 i) (hc2 : ¬cond0_2 i) :
    sout0_B_0 (F := Ideal) c i arg3 harg3 arg4 harg4 arg5 harg5 arg6 harg6 hc0 hc1 hc2 x0 x1 xs = addf xs (k0_pay1 x0 x1) := by
  unfold sout0_B_0
  rw [View.read_writes_eq_canon _ _ _ (scover0_B_0 c i arg3 harg3 arg4 harg4 arg5 harg5 arg6 harg6 hc0 hc1 hc2 x0 x1 xs)]
  unfold kernelRun0_B
  dsimp only
  sl_unfold_words
  rw [View.canon_cons_unit_zero (S := S1024x1024) hz]
  unfold k0_pay3
  simp only [View.readAt_eq_ld, harg3.read_unread, harg4.read_unread, harg6.read_unread, View.ld_unit_zero (S := S512x1024) hz, View.ld_unit_zero (S := S1024x1024) hz, shapeCast_self]

/-- The last point of a sweep writes out the scratch with its block's product added. -/
theorem out_C (hc0 : ¬cond0_0 i) (hc1 : cond0_1 i) (hc2 : cond0_2 i) :
    out0_C_2 (F := Ideal) c i arg3 harg3 arg4 harg4 arg5 harg5 arg6 harg6 hc0 hc1 hc2 x0 x1 xs = (addf xs (k0_pay1 x0 x1) : FVec Ideal S1024x1024 .f32) := by
  unfold out0_C_2
  rw [View.read_writes_eq_canon _ _ _ (cover0_C_2 c i arg3 harg3 arg4 harg4 arg5 harg5 arg6 harg6 hc0 hc1 hc2 x0 x1 xs)]
  unfold kernelRun0_C
  dsimp only
  sl_unfold_words
  rw [View.canon_cons_unit_zero (S := S1024x1024) hz, View.readCov_unit_zero (S := S1024x1024) _ hz]
  unfold k0_pay3
  simp only [View.readAt_eq_ld, harg3.read_unread, harg4.read_unread, harg6.read_unread, View.ld_unit_zero (S := S512x1024) hz, View.ld_unit_zero (S := S1024x1024) hz, shapeCast_self]
end

theorem idx : ∀ t : Fin cfg0.N, win0_0.index t = ![t.val % 16, 0] ∧ win0_1.index t = ![t.val % 16, 0] ∧
    win0_2.index t = ![0, 0] :=
  (by decide +kernel : ∀ t : Fin grid0.N, _)

variable (m : (ℓ : Loc nD τ sig) → Buf (Elt Ideal) ℓ) (c : Dev nD)

/-- The first operand, and the second. -/
abbrev X0 : FVec Ideal S8192x1024 .bf16 := m ((c : Thread nD τ).loc main_arg0)
abbrev X1 : FVec Ideal S8192x1024 .f32 := m ((c : Thread nD τ).loc main_arg1)

theorem read0 (t : Fin cfg0.N) (r : Fin 512) (a : Fin 1024) :
    iblk m c 0 t (ix2 r a) = at2 (X0 m c) (512 * (t.val % 16) + r.val) a.val := by
  have ht : t.val < 16 := lt_of_lt_of_eq t.isLt (show cfg0.N = 16 from N_0)
  rw [at2_of _ (by omega) (by omega)]
  blk_ext [iblk, V_main_arg0, idx t]

theorem read1 (t : Fin cfg0.N) (r : Fin 512) (b : Fin 1024) :
    iblk m c 1 t (ix2 r b) = at2 (X1 m c) (512 * (t.val % 16) + r.val) (b.val) := by
  have ht : t.val < 16 := lt_of_lt_of_eq t.isLt (show cfg0.N = 16 from N_0)
  rw [at2_of _ (by omega) (by omega)]
  blk_ext [iblk, V_main_arg1, idx t]

/-- A term of the product of the two operands, and the part of the product from its first `n` terms. -/
def term (i j r : ℕ) : EReal := at2 (X0 m c) r i * at2 (X1 m c) r j
def part (n i j : ℕ) : EReal := ∑ r ∈ range n, term m c i j r

theorem block_part (t : Fin cfg0.N) (a : Fin 1024) (b : Fin 1024) :
    k0_pay1 (F := Ideal) (iblk m c 0 t) (iblk m c 1 t) (ix2 a b) =
      ∑ r : Fin 512, term m c (a.val) (b.val) (512 * (t.val % 16) + r.val) := by
  have ht : t.val < 16 := lt_of_lt_of_eq t.isLt (show cfg0.N = 16 from N_0)
  rw [block_product]
  refine Finset.sum_congr rfl fun r _ => ?_
  rw [read0, read1]
  rfl

/-- After point `n`, not the last of its sweep, the scratch holds the part of the product so far. -/
theorem scratch (n : ℕ) (hn : n < cfg0.N) (hl : n % 16 ≠ 15) (a : Fin 1024) (b : Fin 1024) :
    (outsAt0 m c n hn).2 (ix2 a b) = part m c (512 * (n % 16 + 1)) (a.val) (b.val) := by
  induction n with
  | zero =>
    rw [outsAt0_A m c ⟨0, hn⟩ (by simp) (by simp) (by simp)]
    dsimp only
    rw [scratch_A, block_part]
    exact sum_first (term m c _ _)
  | succ n ih =>
    have hN : n + 1 < 16 := lt_of_lt_of_eq hn (show cfg0.N = 16 from N_0)
    by_cases h0 : (n + 1) % 16 = 0
    · have e := outsAt0_A m c ⟨n + 1, hn⟩ h0 (by dsimp only; omega) (by dsimp only; omega)
      dsimp only at e
      rw [e]
      dsimp only
      rw [scratch_A, block_part]
      dsimp only
      rw [h0]
      exact sum_first (term m c _ _)
    · have e := outsAt0_B m c ⟨n + 1, hn⟩ h0 (by dsimp only; omega) hl
      dsimp only at e
      rw [e]
      dsimp only
      rw [scratch_B]
      refine (congrArg₂ (· + ·) (ih (by omega) (by omega)) (block_part m c ⟨n + 1, hn⟩ a b)).trans ?_
      dsimp only
      rw [show (n + 1) % 16 = n % 16 + 1 by omega]
      exact sum_next (term m c _ _) _

/-- What the last point of a sweep writes out. -/
theorem flushed (t : Fin cfg0.N) (ht : t.val % 16 = 15) (a : Fin 1024) (b : Fin 1024) :
    (outsAt0 m c t.val t.isLt).1 (ix2 a b) = part m c 8192 (a.val) (b.val) := by
  have hN : t.val < 16 := lt_of_lt_of_eq t.isLt (show cfg0.N = 16 from N_0)
  rw [outsAt0_C m c t (by omega) (by omega) ht]
  dsimp only
  rw [out_C]
  refine (congrArg₂ (· + ·) (scratch m c (t.val - 1) (by omega) (by omega) a b) (block_part m c t a b)).trans ?_
  rw [show (t.val - 1) % 16 = 14 by omega, ht]
  exact sum_next (term m c _ _) _

/-- The result array: the product. -/
theorem final : (dats m 0 c).arrAt 2 cfg0.N =
    (fun y => part m c 8192 (y 0).val (y 1).val : FVec Ideal S1024x1024 .f32) := by
  refine Eq.trans (b := Value.G2 m c) (Value.final2 m c) ?_
  funext y
  idx_vars y
  unfold Value.G2
  have hq : Value.pt2Of (ix2 y0 y1) = 16 * (1 * (y0.val / 1024) + y1.val / 1024) + 15 := by
    show 16 * (_ * (y0.val / 1024 - 0) + 1 * (y1.val / 1024 - 0)) + 15 = _
    omega
  have hp : Value.pt2Of (ix2 y0 y1) < cfg0.N := by
    rw [show cfg0.N = 16 from N_0, hq]
    omega
  rw [dif_pos hp]
  have e := flushed m c ⟨_, hp⟩ (by dsimp only; rw [hq]; omega) ⟨y0.val % 1024, Nat.mod_lt _ (by decide)⟩ ⟨y1.val % 1024, Nat.mod_lt _ (by decide)⟩
  rw [Value.outsAt0_sweep] at e
  refine Eq.trans ?_ (e.trans ?_)
  · refine congrArg (Prod.fst _) ?_
    funext a
    match a with
    | ⟨0, _⟩ => rfl
    | ⟨1, _⟩ => rfl
  · dsimp only
    refine congrArg₂ (part m c 8192) ?_ ?_
    · show y0.val % 1024 = y0.val
      omega
    · show y1.val % 1024 = y1.val
      omega

/-- The reference's result, entry by entry. -/
theorem ref (i : Fin 1024) (j : Fin 1024) :
    OutGradRefIdeal.Read.val_main_v4 (F := Ideal) (X0 m c) (X1 m c) (ix2 i j) = part m c 8192 i.val j.val := by
  unfold OutGradRefIdeal.Read.val_main_v4 OutGradRefIdeal.Read.val_main_v3 OutGradRefIdeal.Read.val_main_v1
  pointwise
  unfold part
  rw [← sum_all (n := 8192) (term m c i.val j.val)]
  refine Finset.sum_congr rfl fun r _ => ?_
  unfold term
  rw [mul_comm, at2_of _ r.isLt i.isLt, at2_of _ r.isLt j.isLt]

end Cert.OutGradIdeal.Product

namespace Cert.Proof.OutGrad

open Idealize.ShloMosaic Idealize.ShloMosaic.TcCoe Idealize.SL.Sem

/-- The kernel's result is the reference's. -/
theorem algebraic : Cert.algebraic_OutGradIdeal_OutGradRefIdeal := by
  pair_intro
  · run_from Cert.OutGradIdeal.Value.run_blocks m g
  · run_from Cert.OutGradRefIdeal.Value.run m' g'
    rw [Cert.OutGradIdeal.Product.final m c]
    funext y
    idx_vars y
    exact Cert.OutGradIdeal.Product.ref m c y0 y1

end Cert.Proof.OutGrad

end
-- ==== Proof.InGrad.lean ====
/- The gradient of the input projection's weight: the kernel adds the products of sixteen blocks of 512 rows, and leaves the
   product over all 8192 rows. -/
module

public import proofs.«01_k».proof.Defs
public import proofs.«01_k».proof.Proof.Blocked
public import proofs.«01_k».proof.Proof.Gen.InGradIdeal.Value
public import proofs.«01_k».proof.Proof.Gen.InGradRefIdeal.Run
public import proofs.«01_k».proof.Proof.Gen.InGradRefIdeal.Read
public import Idealize.ShloMosaic.Lib.Pipeline.ValueKit
public import Idealize.ShloMosaic.Lib.Pipeline.ReadBack
public import Idealize.ShloMosaic.Lib.Claim

@[expose] public section

set_option maxRecDepth 16384

open Finset

noncomputable section

namespace Cert.InGradIdeal.Product

open Cert.InGradIdeal Cert.InGradIdeal.Gen Idealize.ShloMosaic Idealize.ShloMosaic.TcCoe Idealize.SL.Sem Blocked

theorem hz : (![0, 0] : Fin 2 → ℕ) = fun _ => 0 := by decide
theorem hz3 : (![0, 0, 0] : Fin 3 → ℕ) = fun _ => 0 := by decide

/-- A block's product, entry by entry. -/
theorem block_product (x0 : Vec Ideal S512x1024 .bf16) (x1 : Vec Ideal S512x640 .bf16) (a : Fin 1024) (b : Fin 640) :
    k0_pay1 (F := Ideal) x0 x1 (ix2 a b) = ∑ r : Fin 512, x0 (ix2 r a) * x1 (ix2 r b) := by
  unfold k0_pay1
  pointwise

section
variable (c : Dev nD) (i : grid0.Coords) (arg3 : Memref sig .tc .vmem S512x1024 .bf16) (harg3 : arg3.IsWhole)
  (arg4 : Memref sig .tc .vmem S512x640 .bf16) (harg4 : arg4.IsWhole) (arg5 : Memref sig .tc .vmem S1024x640 .f32) (harg5 : arg5.IsWhole)
  (arg6 : Memref sig .tc .vmem S1024x640 .f32) (harg6 : arg6.IsWhole) (x0 : Vec Ideal S512x1024 .bf16) (x1 : Vec Ideal S512x640 .bf16)
  (xs : Vec Ideal S1024x640 .f32)

/-- The first point of a sweep leaves its block's product in the scratch. -/
theorem scratch_A (hc0 : cond0_0 i) (hc1 : ¬cond0_1 i) (hc2 : ¬cond0_2 i) :
    sout0_A_0 (F := Ideal) c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_cons_unit_zero (S := S1024x640) hz]
  unfold k0_pay2
  simp only [View.readAt_eq_ld, harg3.read_unread, harg4.read_unread, View.ld_unit_zero (S := S512x1024) hz, View.ld_unit_zero (S := S512x640) hz, shapeCast_self]

/-- A later point adds its block's product. -/
theorem scratch_B (hc0 : ¬cond0_0 i) (hc1 : cond0_1 i) (hc2 : ¬cond0_2 i) :
    sout0_B_0 (F := Ideal) c i arg3 harg3 arg4 harg4 arg5 harg5 arg6 harg6 hc0 hc1 hc2 x0 x1 xs = addf xs (k0_pay1 x0 x1) := by
  unfold sout0_B_0
  rw [View.read_writes_eq_canon _ _ _ (scover0_B_0 c i arg3 harg3 arg4 harg4 arg5 harg5 arg6 harg6 hc0 hc1 hc2 x0 x1 xs)]
  unfold kernelRun0_B
  dsimp only
  sl_unfold_words
  rw [View.canon_cons_unit_zero (S := S1024x640) hz]
  unfold k0_pay3
  simp only [View.readAt_eq_ld, harg3.read_unread, harg4.read_unread, harg6.read_unread, View.ld_unit_zero (S := S512x1024) hz, View.ld_unit_zero (S := S512x640) hz, View.ld_unit_zero (S := S1024x640) hz, shapeCast_self]

/-- The last point of a sweep writes out the scratch with its block's product added. -/
theorem out_C (hc0 : ¬cond0_0 i) (hc1 : cond0_1 i) (hc2 : cond0_2 i) :
    out0_C_2 (F := Ideal) c i arg3 harg3 arg4 harg4 arg5 harg5 arg6 harg6 hc0 hc1 hc2 x0 x1 xs = (addf xs (k0_pay1 x0 x1) : FVec Ideal S1024x640 .f32) := by
  unfold out0_C_2
  rw [View.read_writes_eq_canon _ _ _ (cover0_C_2 c i arg3 harg3 arg4 harg4 arg5 harg5 arg6 harg6 hc0 hc1 hc2 x0 x1 xs)]
  unfold kernelRun0_C
  dsimp only
  sl_unfold_words
  rw [View.canon_cons_unit_zero (S := S1024x640) hz, View.readCov_unit_zero (S := S1024x640) _ hz]
  unfold k0_pay3
  simp only [View.readAt_eq_ld, harg3.read_unread, harg4.read_unread, harg6.read_unread, View.ld_unit_zero (S := S512x1024) hz, View.ld_unit_zero (S := S512x640) hz, View.ld_unit_zero (S := S1024x640) hz, shapeCast_self]
end

theorem idx : ∀ t : Fin cfg0.N, win0_0.index t = ![t.val % 16, 0] ∧ win0_1.index t = ![t.val % 16, t.val / 16] ∧
    win0_2.index t = ![0, t.val / 16] :=
  (by decide +kernel : ∀ t : Fin grid0.N, _)

variable (m : (ℓ : Loc nD τ sig) → Buf (Elt Ideal) ℓ) (c : Dev nD)

/-- The first operand, and the second. -/
abbrev X0 : FVec Ideal S8192x1024 .bf16 := m ((c : Thread nD τ).loc main_arg0)
abbrev X1 : FVec Ideal S8192x3200 .bf16 := m ((c : Thread nD τ).loc main_arg1)

theorem read0 (t : Fin cfg0.N) (r : Fin 512) (a : Fin 1024) :
    iblk m c 0 t (ix2 r a) = at2 (X0 m c) (512 * (t.val % 16) + r.val) a.val := by
  have ht : t.val < 80 := lt_of_lt_of_eq t.isLt (show cfg0.N = 80 from N_0)
  rw [at2_of _ (by omega) (by omega)]
  blk_ext [iblk, V_main_arg0, idx t]

theorem read1 (t : Fin cfg0.N) (r : Fin 512) (b : Fin 640) :
    iblk m c 1 t (ix2 r b) = at2 (X1 m c) (512 * (t.val % 16) + r.val) (640 * (t.val / 16) + b.val) := by
  have ht : t.val < 80 := lt_of_lt_of_eq t.isLt (show cfg0.N = 80 from N_0)
  rw [at2_of _ (by omega) (by omega)]
  blk_ext [iblk, V_main_arg1, idx t]

/-- A term of the product of the two operands, and the part of the product from its first `n` terms. -/
def term (i j r : ℕ) : EReal := at2 (X0 m c) r i * at2 (X1 m c) r j
def part (n i j : ℕ) : EReal := ∑ r ∈ range n, term m c i j r

theorem block_part (t : Fin cfg0.N) (a : Fin 1024) (b : Fin 640) :
    k0_pay1 (F := Ideal) (iblk m c 0 t) (iblk m c 1 t) (ix2 a b) =
      ∑ r : Fin 512, term m c (a.val) (640 * (t.val / 16) + b.val) (512 * (t.val % 16) + r.val) := by
  have ht : t.val < 80 := lt_of_lt_of_eq t.isLt (show cfg0.N = 80 from N_0)
  rw [block_product]
  refine Finset.sum_congr rfl fun r _ => ?_
  rw [read0, read1]
  rfl

/-- After point `n`, not the last of its sweep, the scratch holds the part of the product so far. -/
theorem scratch (n : ℕ) (hn : n < cfg0.N) (hl : n % 16 ≠ 15) (a : Fin 1024) (b : Fin 640) :
    (outsAt0 m c n hn).2 (ix2 a b) = part m c (512 * (n % 16 + 1)) (a.val) (640 * (n / 16) + b.val) := by
  induction n with
  | zero =>
    rw [outsAt0_A m c ⟨0, hn⟩ (by simp) (by simp) (by simp)]
    dsimp only
    rw [scratch_A, block_part]
    exact sum_first (term m c _ _)
  | succ n ih =>
    have hN : n + 1 < 80 := lt_of_lt_of_eq hn (show cfg0.N = 80 from N_0)
    by_cases h0 : (n + 1) % 16 = 0
    · have e := outsAt0_A m c ⟨n + 1, hn⟩ h0 (by dsimp only; omega) (by dsimp only; omega)
      dsimp only at e
      rw [e]
      dsimp only
      rw [scratch_A, block_part]
      dsimp only
      rw [h0]
      exact sum_first (term m c _ _)
    · have e := outsAt0_B m c ⟨n + 1, hn⟩ h0 (by dsimp only; omega) hl
      dsimp only at e
      rw [e]
      dsimp only
      rw [scratch_B]
      refine (congrArg₂ (· + ·) (ih (by omega) (by omega)) (block_part m c ⟨n + 1, hn⟩ a b)).trans ?_
      dsimp only
      rw [show (n + 1) / 16 = n / 16 by omega, show (n + 1) % 16 = n % 16 + 1 by omega]
      exact sum_next (term m c _ _) _

/-- What the last point of a sweep writes out. -/
theorem flushed (t : Fin cfg0.N) (ht : t.val % 16 = 15) (a : Fin 1024) (b : Fin 640) :
    (outsAt0 m c t.val t.isLt).1 (ix2 a b) = part m c 8192 (a.val) (640 * (t.val / 16) + b.val) := by
  have hN : t.val < 80 := lt_of_lt_of_eq t.isLt (show cfg0.N = 80 from N_0)
  rw [outsAt0_C m c t (by omega) (by omega) ht]
  dsimp only
  rw [out_C]
  refine (congrArg₂ (· + ·) (scratch m c (t.val - 1) (by omega) (by omega) a b) (block_part m c t a b)).trans ?_
  rw [show (t.val - 1) / 16 = t.val / 16 by omega, show (t.val - 1) % 16 = 14 by omega, ht]
  exact sum_next (term m c _ _) _

/-- The result array: the product. -/
theorem final : (dats m 0 c).arrAt 2 cfg0.N =
    (fun y => part m c 8192 (y 0).val (y 1).val : FVec Ideal S1024x3200 .f32) := by
  refine Eq.trans (b := Value.G2 m c) (Value.final2 m c) ?_
  funext y
  idx_vars y
  unfold Value.G2
  have hq : Value.pt2Of (ix2 y0 y1) = 16 * (5 * (y0.val / 1024) + y1.val / 640) + 15 := by
    show 16 * (_ * (y0.val / 1024 - 0) + 1 * (y1.val / 640 - 0)) + 15 = _
    omega
  have hp : Value.pt2Of (ix2 y0 y1) < cfg0.N := by
    rw [show cfg0.N = 80 from N_0, hq]
    omega
  rw [dif_pos hp]
  have e := flushed m c ⟨_, hp⟩ (by dsimp only; rw [hq]; omega) ⟨y0.val % 1024, Nat.mod_lt _ (by decide)⟩ ⟨y1.val % 640, Nat.mod_lt _ (by decide)⟩
  rw [Value.outsAt0_sweep] at e
  refine Eq.trans ?_ (e.trans ?_)
  · refine congrArg (Prod.fst _) ?_
    funext a
    match a with
    | ⟨0, _⟩ => rfl
    | ⟨1, _⟩ => rfl
  · dsimp only
    rw [hq]
    refine congrArg₂ (part m c 8192) ?_ ?_
    · show y0.val % 1024 = y0.val
      omega
    · show 640 * ((16 * (5 * (y0.val / 1024) + y1.val / 640) + 15) / 16) + y1.val % 640 = y1.val
      omega

/-- The reference's result, entry by entry. -/
theorem ref (i : Fin 1024) (j : Fin 3200) :
    InGradRefIdeal.Read.val_main_v5 (F := Ideal) (X0 m c) (X1 m c) (ix2 i j) = part m c 8192 i.val j.val := by
  unfold InGradRefIdeal.Read.val_main_v5 InGradRefIdeal.Read.val_main_v4 InGradRefIdeal.Read.val_main_v3 InGradRefIdeal.Read.val_main_v1
  pointwise
  unfold part
  rw [← sum_all (n := 8192) (term m c i.val j.val)]
  refine Finset.sum_congr rfl fun r _ => ?_
  unfold term
  rw [mul_comm, at2_of _ r.isLt i.isLt, at2_of _ r.isLt j.isLt]

end Cert.InGradIdeal.Product

namespace Cert.Proof.InGrad

open Idealize.ShloMosaic Idealize.ShloMosaic.TcCoe Idealize.SL.Sem

/-- The kernel's result is the reference's. -/
theorem algebraic : Cert.algebraic_InGradIdeal_InGradRefIdeal := by
  pair_intro
  · run_from Cert.InGradIdeal.Value.run_blocks m g
  · run_from Cert.InGradRefIdeal.Value.run m' g'
    rw [Cert.InGradIdeal.Product.final m c]
    funext y
    idx_vars y
    exact Cert.InGradIdeal.Product.ref m c y0 y1

end Cert.Proof.InGrad

end
-- ==== Proof.InBack.lean ====
/- The gradient of the input of the input projection: the kernel adds the products of five blocks of 640 of the 3200
   columns, and leaves the product over them all. -/
module

public import proofs.«01_k».proof.Defs
public import proofs.«01_k».proof.Proof.Blocked
public import proofs.«01_k».proof.Proof.Gen.InBackIdeal.Value
public import proofs.«01_k».proof.Proof.Gen.InBackRefIdeal.Run
public import proofs.«01_k».proof.Proof.Gen.InBackRefIdeal.Read
public import Idealize.ShloMosaic.Lib.Pipeline.ValueKit
public import Idealize.ShloMosaic.Lib.Pipeline.ReadBack
public import Idealize.ShloMosaic.Lib.Claim

@[expose] public section

set_option maxRecDepth 16384

open Finset

noncomputable section

namespace Cert.InBackIdeal.Product

open Cert.InBackIdeal Cert.InBackIdeal.Gen Idealize.ShloMosaic Idealize.ShloMosaic.TcCoe Idealize.SL.Sem Blocked

theorem hz : (![0, 0] : Fin 2 → ℕ) = fun _ => 0 := by decide
theorem hz3 : (![0, 0, 0] : Fin 3 → ℕ) = fun _ => 0 := by decide

/-- A block's product, entry by entry. -/
theorem block_product (x0 : Vec Ideal S1024x640 .bf16) (x1 : Vec Ideal S1024x640 .bf16) (a : Fin 1024) (b : Fin 1024) :
    k0_pay1 (F := Ideal) x0 x1 (ix2 a b) = ∑ r : Fin 640, x0 (ix2 a r) * x1 (ix2 b r) := by
  unfold k0_pay1
  pointwise

section
variable (c : Dev nD) (i : grid0.Coords) (arg3 : Memref sig .tc .vmem S1024x640 .bf16) (harg3 : arg3.IsWhole)
  (arg4 : Memref sig .tc .vmem S1024x640 .bf16) (harg4 : arg4.IsWhole) (arg5 : Memref sig .tc .vmem S1024x1024 .f32) (harg5 : arg5.IsWhole)
  (arg6 : Memref sig .tc .vmem S1024x1024 .f32) (harg6 : arg6.IsWhole) (x0 : Vec Ideal S1024x640 .bf16) (x1 : Vec Ideal S1024x640 .bf16)
  (xs : Vec Ideal S1024x1024 .f32)

/-- The first point of a sweep leaves its block's product in the scratch. -/
theorem scratch_A (hc0 : cond0_0 i) (hc1 : ¬cond0_1 i) (hc2 : ¬cond0_2 i) :
    sout0_A_0 (F := Ideal) c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_cons_unit_zero (S := S1024x1024) hz]
  unfold k0_pay2
  simp only [View.readAt_eq_ld, harg3.read_unread, harg4.read_unread, View.ld_unit_zero (S := S1024x640) hz, shapeCast_self]

/-- A later point adds its block's product. -/
theorem scratch_B (hc0 : ¬cond0_0 i) (hc1 : cond0_1 i) (hc2 : ¬cond0_2 i) :
    sout0_B_0 (F := Ideal) c i arg3 harg3 arg4 harg4 arg5 harg5 arg6 harg6 hc0 hc1 hc2 x0 x1 xs = addf xs (k0_pay1 x0 x1) := by
  unfold sout0_B_0
  rw [View.read_writes_eq_canon _ _ _ (scover0_B_0 c i arg3 harg3 arg4 harg4 arg5 harg5 arg6 harg6 hc0 hc1 hc2 x0 x1 xs)]
  unfold kernelRun0_B
  dsimp only
  sl_unfold_words
  rw [View.canon_cons_unit_zero (S := S1024x1024) hz]
  unfold k0_pay3
  simp only [View.readAt_eq_ld, harg3.read_unread, harg4.read_unread, harg6.read_unread, View.ld_unit_zero (S := S1024x640) hz, View.ld_unit_zero (S := S1024x1024) hz, shapeCast_self]

/-- The last point of a sweep writes out the scratch with its block's product added. -/
theorem out_C (hc0 : ¬cond0_0 i) (hc1 : cond0_1 i) (hc2 : cond0_2 i) :
    out0_C_2 (F := Ideal) c i arg3 harg3 arg4 harg4 arg5 harg5 arg6 harg6 hc0 hc1 hc2 x0 x1 xs = (addf xs (k0_pay1 x0 x1) : FVec Ideal S1024x1024 .f32) := by
  unfold out0_C_2
  rw [View.read_writes_eq_canon _ _ _ (cover0_C_2 c i arg3 harg3 arg4 harg4 arg5 harg5 arg6 harg6 hc0 hc1 hc2 x0 x1 xs)]
  unfold kernelRun0_C
  dsimp only
  sl_unfold_words
  rw [View.canon_cons_unit_zero (S := S1024x1024) hz, View.readCov_unit_zero (S := S1024x1024) _ hz]
  unfold k0_pay3
  simp only [View.readAt_eq_ld, harg3.read_unread, harg4.read_unread, harg6.read_unread, View.ld_unit_zero (S := S1024x640) hz, View.ld_unit_zero (S := S1024x1024) hz, shapeCast_self]
end

theorem idx : ∀ t : Fin cfg0.N, win0_0.index t = ![t.val / 5, t.val % 5] ∧ win0_1.index t = ![0, t.val % 5] ∧
    win0_2.index t = ![t.val / 5, 0] :=
  (by decide +kernel : ∀ t : Fin grid0.N, _)

variable (m : (ℓ : Loc nD τ sig) → Buf (Elt Ideal) ℓ) (c : Dev nD)

/-- The first operand, and the second. -/
abbrev X0 : FVec Ideal S8192x3200 .bf16 := m ((c : Thread nD τ).loc main_arg0)
abbrev X1 : FVec Ideal S1024x3200 .bf16 := m ((c : Thread nD τ).loc main_arg1)

theorem read0 (t : Fin cfg0.N) (a : Fin 1024) (r : Fin 640) :
    iblk m c 0 t (ix2 a r) = at2 (X0 m c) (1024 * (t.val / 5) + a.val) (640 * (t.val % 5) + r.val) := by
  have ht : t.val < 40 := lt_of_lt_of_eq t.isLt (show cfg0.N = 40 from N_0)
  rw [at2_of _ (by omega) (by omega)]
  blk_ext [iblk, V_main_arg0, idx t]

theorem read1 (t : Fin cfg0.N) (b : Fin 1024) (r : Fin 640) :
    iblk m c 1 t (ix2 b r) = at2 (X1 m c) b.val (640 * (t.val % 5) + r.val) := by
  have ht : t.val < 40 := lt_of_lt_of_eq t.isLt (show cfg0.N = 40 from N_0)
  rw [at2_of _ (by omega) (by omega)]
  blk_ext [iblk, V_main_arg1, idx t]

/-- A term of the product of the two operands, and the part of the product from its first `n` terms. -/
def term (i j r : ℕ) : EReal := at2 (X0 m c) i r * at2 (X1 m c) j r
def part (n i j : ℕ) : EReal := ∑ r ∈ range n, term m c i j r

theorem block_part (t : Fin cfg0.N) (a : Fin 1024) (b : Fin 1024) :
    k0_pay1 (F := Ideal) (iblk m c 0 t) (iblk m c 1 t) (ix2 a b) =
      ∑ r : Fin 640, term m c (1024 * (t.val / 5) + a.val) (b.val) (640 * (t.val % 5) + r.val) := by
  have ht : t.val < 40 := lt_of_lt_of_eq t.isLt (show cfg0.N = 40 from N_0)
  rw [block_product]
  refine Finset.sum_congr rfl fun r _ => ?_
  rw [read0, read1]
  rfl

/-- After point `n`, not the last of its sweep, the scratch holds the part of the product so far. -/
theorem scratch (n : ℕ) (hn : n < cfg0.N) (hl : n % 5 ≠ 4) (a : Fin 1024) (b : Fin 1024) :
    (outsAt0 m c n hn).2 (ix2 a b) = part m c (640 * (n % 5 + 1)) (1024 * (n / 5) + a.val) (b.val) := by
  induction n with
  | zero =>
    rw [outsAt0_A m c ⟨0, hn⟩ (by simp) (by simp) (by simp)]
    dsimp only
    rw [scratch_A, block_part]
    exact sum_first (term m c _ _)
  | succ n ih =>
    have hN : n + 1 < 40 := lt_of_lt_of_eq hn (show cfg0.N = 40 from N_0)
    by_cases h0 : (n + 1) % 5 = 0
    · have e := outsAt0_A m c ⟨n + 1, hn⟩ h0 (by dsimp only; omega) (by dsimp only; omega)
      dsimp only at e
      rw [e]
      dsimp only
      rw [scratch_A, block_part]
      dsimp only
      rw [h0]
      exact sum_first (term m c _ _)
    · have e := outsAt0_B m c ⟨n + 1, hn⟩ h0 (by dsimp only; omega) hl
      dsimp only at e
      rw [e]
      dsimp only
      rw [scratch_B]
      refine (congrArg₂ (· + ·) (ih (by omega) (by omega)) (block_part m c ⟨n + 1, hn⟩ a b)).trans ?_
      dsimp only
      rw [show (n + 1) / 5 = n / 5 by omega, show (n + 1) % 5 = n % 5 + 1 by omega]
      exact sum_next (term m c _ _) _

/-- What the last point of a sweep writes out. -/
theorem flushed (t : Fin cfg0.N) (ht : t.val % 5 = 4) (a : Fin 1024) (b : Fin 1024) :
    (outsAt0 m c t.val t.isLt).1 (ix2 a b) = part m c 3200 (1024 * (t.val / 5) + a.val) (b.val) := by
  have hN : t.val < 40 := lt_of_lt_of_eq t.isLt (show cfg0.N = 40 from N_0)
  rw [outsAt0_C m c t (by omega) (by omega) ht]
  dsimp only
  rw [out_C]
  refine (congrArg₂ (· + ·) (scratch m c (t.val - 1) (by omega) (by omega) a b) (block_part m c t a b)).trans ?_
  rw [show (t.val - 1) / 5 = t.val / 5 by omega, show (t.val - 1) % 5 = 3 by omega, ht]
  exact sum_next (term m c _ _) _

/-- The result array: the product. -/
theorem final : (dats m 0 c).arrAt 2 cfg0.N =
    (fun y => part m c 3200 (y 0).val (y 1).val : FVec Ideal S8192x1024 .f32) := by
  refine Eq.trans (b := Value.G2 m c) (Value.final2 m c) ?_
  funext y
  idx_vars y
  unfold Value.G2
  have hq : Value.pt2Of (ix2 y0 y1) = 5 * (1 * (y0.val / 1024) + y1.val / 1024) + 4 := by
    show 5 * (_ * (y0.val / 1024 - 0) + 1 * (y1.val / 1024 - 0)) + 4 = _
    omega
  have hp : Value.pt2Of (ix2 y0 y1) < cfg0.N := by
    rw [show cfg0.N = 40 from N_0, hq]
    omega
  rw [dif_pos hp]
  have e := flushed m c ⟨_, hp⟩ (by dsimp only; rw [hq]; omega) ⟨y0.val % 1024, Nat.mod_lt _ (by decide)⟩ ⟨y1.val % 1024, Nat.mod_lt _ (by decide)⟩
  rw [Value.outsAt0_sweep] at e
  refine Eq.trans ?_ (e.trans ?_)
  · refine congrArg (Prod.fst _) ?_
    funext a
    match a with
    | ⟨0, _⟩ => rfl
    | ⟨1, _⟩ => rfl
  · dsimp only
    rw [hq]
    refine congrArg₂ (part m c 3200) ?_ ?_
    · show 1024 * ((5 * (1 * (y0.val / 1024) + y1.val / 1024) + 4) / 5) + y0.val % 1024 = y0.val
      omega
    · show y1.val % 1024 = y1.val
      omega

/-- The reference's result, entry by entry. -/
theorem ref (i : Fin 8192) (j : Fin 1024) :
    InBackRefIdeal.Read.val_main_v4 (F := Ideal) (X0 m c) (X1 m c) (ix2 i j) = part m c 3200 i.val j.val := by
  unfold InBackRefIdeal.Read.val_main_v4 InBackRefIdeal.Read.val_main_v3 InBackRefIdeal.Read.val_main_v1
  pointwise
  unfold part
  rw [← sum_all (n := 3200) (term m c i.val j.val)]
  refine Finset.sum_congr rfl fun r _ => ?_
  unfold term
  rw [at2_of _ i.isLt r.isLt, at2_of _ j.isLt r.isLt]

end Cert.InBackIdeal.Product

namespace Cert.Proof.InBack

open Idealize.ShloMosaic Idealize.ShloMosaic.TcCoe Idealize.SL.Sem

/-- The kernel's result is the reference's. -/
theorem algebraic : Cert.algebraic_InBackIdeal_InBackRefIdeal := by
  pair_intro
  · run_from Cert.InBackIdeal.Value.run_blocks m g
  · run_from Cert.InBackRefIdeal.Value.run m' g'
    rw [Cert.InBackIdeal.Product.final m c]
    funext y
    idx_vars y
    exact Cert.InBackIdeal.Product.ref m c y0 y1

end Cert.Proof.InBack

end
-- ==== Proof.InProj.lean ====
/- The input projection, in eight blocks of rows by five of columns. -/
module

public import proofs.«01_k».proof.Defs
public import proofs.«01_k».proof.Proof.Blocked
public import proofs.«01_k».proof.Proof.Gen.InProjIdeal.Value
public import proofs.«01_k».proof.Proof.Gen.InProjRefIdeal.Run
public import proofs.«01_k».proof.Proof.Gen.InProjRefIdeal.Read
public import Idealize.ShloMosaic.Lib.Pipeline.ValueKit
public import Idealize.ShloMosaic.Lib.Pipeline.ReadBack
public import Idealize.ShloMosaic.Lib.Claim

@[expose] public section

set_option maxRecDepth 16384

open Finset

noncomputable section

namespace Cert.InProjIdeal.Product

open Cert.InProjIdeal Cert.InProjIdeal.Gen Idealize.ShloMosaic Idealize.ShloMosaic.TcCoe Idealize.SL.Sem Blocked

theorem hz : (![0, 0] : Fin 2 → ℕ) = fun _ => 0 := by decide

/-- A block's product, entry by entry. -/
theorem block_product (x0 : Vec Ideal S1024x1024 .bf16) (x1 : Vec Ideal S1024x640 .bf16) (a : Fin 1024) (b : Fin 640) :
    k0_pay1 (F := Ideal) x0 x1 (ix2 a b) = (∑ r : Fin 1024, x0 (ix2 a r) * x1 (ix2 r b)) := by
  unfold k0_pay1
  pointwise

/-- The block the body leaves. -/
theorem out (x0 : Vec Ideal S1024x1024 .bf16) (x1 : Vec Ideal S1024x640 .bf16) :
    out0_2 (F := Ideal) x0 x1 = k0_pay1 (F := Ideal) x0 x1 := by
  unfold out0_2
  rw [View.canon_cons_unit_zero (S := S1024x640) hz]
  simp only [View.ld_unit_zero (S := S1024x1024) hz, View.ld_unit_zero (S := S1024x640) hz]

theorem idx : ∀ t : Fin cfg0.N, win0_0.index t = ![t.val / 5, 0] ∧ win0_1.index t = ![0, t.val % 5] ∧
    win0_2.index t = ![t.val / 5, t.val % 5] :=
  (by decide +kernel : ∀ t : Fin grid0.N, _)

theorem idx_out : ∀ t : Fin cfg0.N, win0_2.index t 0 = t.val / 5 ∧ win0_2.index t 1 = t.val % 5 :=
  (by decide +kernel : ∀ t : Fin grid0.N, _)

variable (m : (ℓ : Loc nD τ sig) → Buf (Elt Ideal) ℓ) (c : Dev nD)

/-- The operands. -/
abbrev X0 : FVec Ideal S8192x1024 .bf16 := m ((c : Thread nD τ).loc main_arg0)
abbrev X1 : FVec Ideal S1024x3200 .bf16 := m ((c : Thread nD τ).loc main_arg1)

theorem read0 (t : Fin cfg0.N) (a : Fin 1024) (r : Fin 1024) :
    iblk m c 0 t (ix2 a r) = at2 (X0 m c) (1024 * (t.val / 5) + a.val) r.val := by
  have ht : t.val < 40 := lt_of_lt_of_eq t.isLt (show cfg0.N = 40 from N_0)
  rw [at2_of _ (by omega) (by omega)]
  blk_ext [iblk, V_main_arg0, idx t]

theorem read1 (t : Fin cfg0.N) (b : Fin 640) (r : Fin 1024) :
    iblk m c 1 t (ix2 r b) = at2 (X1 m c) r.val (640 * (t.val % 5) + b.val) := by
  have ht : t.val < 40 := lt_of_lt_of_eq t.isLt (show cfg0.N = 40 from N_0)
  rw [at2_of _ (by omega) (by omega)]
  blk_ext [iblk, V_main_arg1, idx t]

/-- The result's entry. -/
def res (i j : ℕ) : EReal := (∑ r : Fin 1024, at2 (X0 m c) i r.val * at2 (X1 m c) r.val j)

theorem flushed (t : Fin cfg0.N) (a : Fin 1024) (b : Fin 640) :
    out0_2 (F := Ideal) (iblk m c 0 t) (iblk m c 1 t) (ix2 a b) = res m c (1024 * (t.val / 5) + a.val) (640 * (t.val % 5) + b.val) := by
  rw [out, block_product]
  refine Finset.sum_congr rfl fun r _ => congrArg₂ (· * ·) (read0 m c t a r) (read1 m c t b r)

/-- The result array. -/
theorem final : (dats m 0 c).arrAt 2 cfg0.N =
    (fun y => res m c (y 0).val (y 1).val : FVec Ideal S8192x3200 .f32) := by
  refine (dats m 0 c).arrAt_eq_of_covers 2 _ (by decide +kernel) fun t hf y => ?_
  have ht : t.val < 40 := lt_of_lt_of_eq t.isLt (show cfg0.N = 40 from N_0)
  blk_simp
  rw [after0_2]
  have e0 : win0_2.index t 0 * 1024 + (y 0).val = 1024 * (t.val / 5) + (y 0).val := by
    have h := (idx_out t).1; omega
  have e1 : win0_2.index t 1 * 640 + (y 1).val = 640 * (t.val % 5) + (y 1).val := by
    have h := (idx_out t).2; omega
  rw [e0, e1]
  refine Eq.trans ?_ (flushed m c t (y 0) (y 1))
  refine congrArg _ ?_
  funext d
  match d with
  | ⟨0, _⟩ => rfl
  | ⟨1, _⟩ => rfl

/-- The reference's result, entry by entry. -/
theorem ref (i : Fin 8192) (j : Fin 3200) :
    InProjRefIdeal.Read.val_main_v2 (F := Ideal) (X0 m c) (X1 m c) (ix2 i j) = res m c i.val j.val := by
  unfold InProjRefIdeal.Read.val_main_v2 InProjRefIdeal.Read.val_main_v0 InProjRefIdeal.Read.val_main_v1
  pointwise
  unfold res
  refine Finset.sum_congr rfl fun r _ => ?_
  rw [at2_of _ i.isLt r.isLt, at2_of _ r.isLt j.isLt]

end Cert.InProjIdeal.Product

namespace Cert.Proof.InProj

open Idealize.ShloMosaic Idealize.ShloMosaic.TcCoe Idealize.SL.Sem

/-- The kernel's result is the reference's. -/
theorem algebraic : Cert.algebraic_InProjIdeal_InProjRefIdeal := by
  pair_intro
  · run_from Cert.InProjIdeal.Value.run_blocks m g
  · run_from Cert.InProjRefIdeal.Value.run m' g'
    rw [Cert.InProjIdeal.Product.final m c]
    funext y
    idx_vars y
    exact Cert.InProjIdeal.Product.ref m c y0 y1

end Cert.Proof.InProj

end
-- ==== Proof.OutProj.lean ====
/- The mixer's output projection, added to the residual stream, in eight blocks of rows. -/
module

public import proofs.«01_k».proof.Defs
public import proofs.«01_k».proof.Proof.Blocked
public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Pipeline.ValueKit
public import Idealize.ShloMosaic.Lib.Pipeline.ReadBack
public import Idealize.ShloMosaic.Lib.Claim

@[expose] public section

set_option maxRecDepth 16384

open Finset

noncomputable section

namespace Cert.OutProjIdeal.Product

open Cert.OutProjIdeal Cert.OutProjIdeal.Gen Idealize.ShloMosaic Idealize.ShloMosaic.TcCoe Idealize.SL.Sem Blocked

theorem hz : (![0, 0] : Fin 2 → ℕ) = fun _ => 0 := by decide

/-- A block's product, entry by entry, with the residual added. -/
theorem block_product (x0 : Vec Ideal S1024x1024 .bf16) (x1 : Vec Ideal S1024x1024 .bf16) (x2 : Vec Ideal S1024x1024 .f32) (a : Fin 1024) (b : Fin 1024) :
    k0_pay1 (F := Ideal) x0 x1 x2 (ix2 a b) = (∑ r : Fin 1024, x0 (ix2 a r) * x1 (ix2 r b)) + x2 (ix2 a b) := by
  unfold k0_pay1
  pointwise

/-- The block the body leaves. -/
theorem out (x0 : Vec Ideal S1024x1024 .bf16) (x1 : Vec Ideal S1024x1024 .bf16) (x2 : Vec Ideal S1024x1024 .f32) :
    out0_3 (F := Ideal) x0 x1 x2 = k0_pay1 (F := Ideal) x0 x1 x2 := by
  unfold out0_3
  rw [View.canon_cons_unit_zero (S := S1024x1024) hz]
  simp only [View.ld_unit_zero (S := S1024x1024) hz]

theorem idx : ∀ t : Fin cfg0.N, win0_0.index t = ![t.val, 0] ∧ win0_1.index t = ![0, 0] ∧ win0_2.index t = ![t.val, 0] ∧
    win0_3.index t = ![t.val, 0] :=
  (by decide +kernel : ∀ t : Fin grid0.N, _)

theorem idx_out : ∀ t : Fin cfg0.N, win0_3.index t 0 = t.val ∧ win0_3.index t 1 = 0 :=
  (by decide +kernel : ∀ t : Fin grid0.N, _)

variable (m : (ℓ : Loc nD τ sig) → Buf (Elt Ideal) ℓ) (c : Dev nD)

/-- The operands, and the residual. -/
abbrev X0 : FVec Ideal S8192x1024 .bf16 := m ((c : Thread nD τ).loc main_arg0)
abbrev X1 : FVec Ideal S1024x1024 .bf16 := m ((c : Thread nD τ).loc main_arg1)
abbrev X2 : FVec Ideal S8192x1024 .f32 := m ((c : Thread nD τ).loc main_arg2)

theorem read0 (t : Fin cfg0.N) (a : Fin 1024) (r : Fin 1024) :
    iblk m c 0 t (ix2 a r) = at2 (X0 m c) (1024 * t.val + a.val) r.val := by
  have ht : t.val < 8 := lt_of_lt_of_eq t.isLt (show cfg0.N = 8 from N_0)
  rw [at2_of _ (by omega) (by omega)]
  blk_ext [iblk, V_main_arg0, idx t]

theorem read1 (t : Fin cfg0.N) (b : Fin 1024) (r : Fin 1024) :
    iblk m c 1 t (ix2 r b) = at2 (X1 m c) r.val (b.val) := by
  have ht : t.val < 8 := lt_of_lt_of_eq t.isLt (show cfg0.N = 8 from N_0)
  rw [at2_of _ (by omega) (by omega)]
  blk_ext [iblk, V_main_arg1, idx t]

theorem read2 (t : Fin cfg0.N) (a : Fin 1024) (b : Fin 1024) :
    iblk m c 2 t (ix2 a b) = at2 (X2 m c) (1024 * t.val + a.val) (b.val) := by
  have ht : t.val < 8 := lt_of_lt_of_eq t.isLt (show cfg0.N = 8 from N_0)
  rw [at2_of _ (by omega) (by omega)]
  blk_ext [iblk, V_main_arg2, idx t]

/-- The result's entry. -/
def res (i j : ℕ) : EReal := (∑ r : Fin 1024, at2 (X0 m c) i r.val * at2 (X1 m c) r.val j) + at2 (X2 m c) i j

theorem flushed (t : Fin cfg0.N) (a : Fin 1024) (b : Fin 1024) :
    out0_3 (F := Ideal) (iblk m c 0 t) (iblk m c 1 t) (iblk m c 2 t) (ix2 a b) = res m c (1024 * t.val + a.val) (b.val) := by
  rw [out, block_product]
  refine congrArg₂ (· + ·) (Finset.sum_congr rfl fun r _ => congrArg₂ (· * ·) (read0 m c t a r) (read1 m c t b r)) (read2 m c t a b)

/-- The result array. -/
theorem final : (dats m 0 c).arrAt 3 cfg0.N =
    (fun y => res m c (y 0).val (y 1).val : FVec Ideal S8192x1024 .f32) := by
  refine (dats m 0 c).arrAt_eq_of_covers 3 _ (by decide +kernel) fun t hf y => ?_
  have ht : t.val < 8 := lt_of_lt_of_eq t.isLt (show cfg0.N = 8 from N_0)
  blk_simp
  rw [after0_3]
  have e0 : win0_3.index t 0 * 1024 + (y 0).val = 1024 * t.val + (y 0).val := by
    have h := (idx_out t).1; omega
  have e1 : win0_3.index t 1 * 1024 + (y 1).val = (y 1).val := by
    have h := (idx_out t).2; omega
  rw [e0, e1]
  refine Eq.trans ?_ (flushed m c t (y 0) (y 1))
  refine congrArg _ ?_
  funext d
  match d with
  | ⟨0, _⟩ => rfl
  | ⟨1, _⟩ => rfl

/-- The reference's result, entry by entry. -/
theorem ref (i : Fin 8192) (j : Fin 1024) :
    OutProjRefIdeal.Read.val_main_v3 (F := Ideal) (X0 m c) (X1 m c) (X2 m c) (ix2 i j) = res m c i.val j.val := by
  unfold OutProjRefIdeal.Read.val_main_v3 OutProjRefIdeal.Read.val_main_v2 OutProjRefIdeal.Read.val_main_v0 OutProjRefIdeal.Read.val_main_v1
  pointwise
  unfold res
  rw [add_comm, at2_of (X2 m c) i.isLt j.isLt]
  refine congrArg (· + _) (Finset.sum_congr rfl fun r _ => ?_)
  rw [at2_of _ i.isLt r.isLt, at2_of _ r.isLt j.isLt]

end Cert.OutProjIdeal.Product

namespace Cert.Proof.OutProj

open Idealize.ShloMosaic Idealize.ShloMosaic.TcCoe Idealize.SL.Sem

/-- The kernel's result is the reference's. -/
theorem algebraic : Cert.algebraic_OutProjIdeal_OutProjRefIdeal := by
  pair_intro
  · run_from Cert.OutProjIdeal.Value.run_blocks m g
  · run_from Cert.OutProjRefIdeal.Value.run m' g'
    rw [Cert.OutProjIdeal.Product.final m c]
    funext y
    idx_vars y
    exact Cert.OutProjIdeal.Product.ref m c y0 y1

end Cert.Proof.OutProj

end
-- ==== Proof.MqProj.lean ====
/- The cross-attention's query projection, in eight blocks of rows. -/
module

public import proofs.«01_k».proof.Defs
public import proofs.«01_k».proof.Proof.Blocked
public import proofs.«01_k».proof.Proof.Gen.MqProjIdeal.Value
public import proofs.«01_k».proof.Proof.Gen.MqProjRefIdeal.Run
public import proofs.«01_k».proof.Proof.Gen.MqProjRefIdeal.Read
public import Idealize.ShloMosaic.Lib.Pipeline.ValueKit
public import Idealize.ShloMosaic.Lib.Pipeline.ReadBack
public import Idealize.ShloMosaic.Lib.Claim

@[expose] public section

set_option maxRecDepth 16384

open Finset

noncomputable section

namespace Cert.MqProjIdeal.Product

open Cert.MqProjIdeal Cert.MqProjIdeal.Gen Idealize.ShloMosaic Idealize.ShloMosaic.TcCoe Idealize.SL.Sem Blocked

theorem hz : (![0, 0] : Fin 2 → ℕ) = fun _ => 0 := by decide

/-- A block's product, entry by entry. -/
theorem block_product (x0 : Vec Ideal S1024x1024 .bf16) (x1 : Vec Ideal S1024x1024 .bf16) (a : Fin 1024) (b : Fin 1024) :
    k0_pay1 (F := Ideal) x0 x1 (ix2 a b) = (∑ r : Fin 1024, x0 (ix2 a r) * x1 (ix2 r b)) := by
  unfold k0_pay1
  pointwise

/-- The block the body leaves. -/
theorem out (x0 : Vec Ideal S1024x1024 .bf16) (x1 : Vec Ideal S1024x1024 .bf16) :
    out0_2 (F := Ideal) x0 x1 = k0_pay1 (F := Ideal) x0 x1 := by
  unfold out0_2
  rw [View.canon_cons_unit_zero (S := S1024x1024) hz]
  simp only [View.ld_unit_zero (S := S1024x1024) hz]

theorem idx : ∀ t : Fin cfg0.N, win0_0.index t = ![t.val, 0] ∧ win0_1.index t = ![0, 0] ∧
    win0_2.index t = ![t.val, 0] :=
  (by decide +kernel : ∀ t : Fin grid0.N, _)

theorem idx_out : ∀ t : Fin cfg0.N, win0_2.index t 0 = t.val ∧ win0_2.index t 1 = 0 :=
  (by decide +kernel : ∀ t : Fin grid0.N, _)

variable (m : (ℓ : Loc nD τ sig) → Buf (Elt Ideal) ℓ) (c : Dev nD)

/-- The operands. -/
abbrev X0 : FVec Ideal S8192x1024 .bf16 := m ((c : Thread nD τ).loc main_arg0)
abbrev X1 : FVec Ideal S1024x1024 .bf16 := m ((c : Thread nD τ).loc main_arg1)

theorem read0 (t : Fin cfg0.N) (a : Fin 1024) (r : Fin 1024) :
    iblk m c 0 t (ix2 a r) = at2 (X0 m c) (1024 * t.val + a.val) r.val := by
  have ht : t.val < 8 := lt_of_lt_of_eq t.isLt (show cfg0.N = 8 from N_0)
  rw [at2_of _ (by omega) (by omega)]
  blk_ext [iblk, V_main_arg0, idx t]

theorem read1 (t : Fin cfg0.N) (b : Fin 1024) (r : Fin 1024) :
    iblk m c 1 t (ix2 r b) = at2 (X1 m c) r.val (b.val) := by
  have ht : t.val < 8 := lt_of_lt_of_eq t.isLt (show cfg0.N = 8 from N_0)
  rw [at2_of _ (by omega) (by omega)]
  blk_ext [iblk, V_main_arg1, idx t]

/-- The result's entry. -/
def res (i j : ℕ) : EReal := (∑ r : Fin 1024, at2 (X0 m c) i r.val * at2 (X1 m c) r.val j)

theorem flushed (t : Fin cfg0.N) (a : Fin 1024) (b : Fin 1024) :
    out0_2 (F := Ideal) (iblk m c 0 t) (iblk m c 1 t) (ix2 a b) = res m c (1024 * t.val + a.val) (b.val) := by
  rw [out, block_product]
  refine Finset.sum_congr rfl fun r _ => congrArg₂ (· * ·) (read0 m c t a r) (read1 m c t b r)

/-- The result array. -/
theorem final : (dats m 0 c).arrAt 2 cfg0.N =
    (fun y => res m c (y 0).val (y 1).val : FVec Ideal S8192x1024 .f32) := by
  refine (dats m 0 c).arrAt_eq_of_covers 2 _ (by decide +kernel) fun t hf y => ?_
  have ht : t.val < 8 := lt_of_lt_of_eq t.isLt (show cfg0.N = 8 from N_0)
  blk_simp
  rw [after0_2]
  have e0 : win0_2.index t 0 * 1024 + (y 0).val = 1024 * t.val + (y 0).val := by
    have h := (idx_out t).1; omega
  have e1 : win0_2.index t 1 * 1024 + (y 1).val = (y 1).val := by
    have h := (idx_out t).2; omega
  rw [e0, e1]
  refine Eq.trans ?_ (flushed m c t (y 0) (y 1))
  refine congrArg _ ?_
  funext d
  match d with
  | ⟨0, _⟩ => rfl
  | ⟨1, _⟩ => rfl

/-- The reference's result, entry by entry. -/
theorem ref (i : Fin 8192) (j : Fin 1024) :
    MqProjRefIdeal.Read.val_main_v2 (F := Ideal) (X0 m c) (X1 m c) (ix2 i j) = res m c i.val j.val := by
  unfold MqProjRefIdeal.Read.val_main_v2 MqProjRefIdeal.Read.val_main_v0 MqProjRefIdeal.Read.val_main_v1
  pointwise
  unfold res
  refine Finset.sum_congr rfl fun r _ => ?_
  rw [at2_of _ i.isLt r.isLt, at2_of _ r.isLt j.isLt]

end Cert.MqProjIdeal.Product

namespace Cert.Proof.MqProj

open Idealize.ShloMosaic Idealize.ShloMosaic.TcCoe Idealize.SL.Sem

/-- The kernel's result is the reference's. -/
theorem algebraic : Cert.algebraic_MqProjIdeal_MqProjRefIdeal := by
  pair_intro
  · run_from Cert.MqProjIdeal.Value.run_blocks m g
  · run_from Cert.MqProjRefIdeal.Value.run m' g'
    rw [Cert.MqProjIdeal.Product.final m c]
    funext y
    idx_vars y
    exact Cert.MqProjIdeal.Product.ref m c y0 y1

end Cert.Proof.MqProj

end
-- ==== Proof.MoProj.lean ====
/- The cross-attention's output projection, added to the residual stream, in eight blocks of rows. -/
module

public import proofs.«01_k».proof.Defs
public import proofs.«01_k».proof.Proof.Blocked
public import proofs.«01_k».proof.Proof.Gen.MoProjIdeal.Value
public import proofs.«01_k».proof.Proof.Gen.MoProjRefIdeal.Run
public import proofs.«01_k».proof.Proof.Gen.MoProjRefIdeal.Read
public import Idealize.ShloMosaic.Lib.Pipeline.ValueKit
public import Idealize.ShloMosaic.Lib.Pipeline.ReadBack
public import Idealize.ShloMosaic.Lib.Claim

@[expose] public section

set_option maxRecDepth 16384

open Finset

noncomputable section

namespace Cert.MoProjIdeal.Product

open Cert.MoProjIdeal Cert.MoProjIdeal.Gen Idealize.ShloMosaic Idealize.ShloMosaic.TcCoe Idealize.SL.Sem Blocked

theorem hz : (![0, 0] : Fin 2 → ℕ) = fun _ => 0 := by decide

/-- A block's product, entry by entry, with the residual added. -/
theorem block_product (x0 : Vec Ideal S1024x1024 .bf16) (x1 : Vec Ideal S1024x1024 .bf16) (x2 : Vec Ideal S1024x1024 .f32) (a : Fin 1024) (b : Fin 1024) :
    k0_pay1 (F := Ideal) x0 x1 x2 (ix2 a b) = (∑ r : Fin 1024, x0 (ix2 a r) * x1 (ix2 r b)) + x2 (ix2 a b) := by
  unfold k0_pay1
  pointwise

/-- The block the body leaves. -/
theorem out (x0 : Vec Ideal S1024x1024 .bf16) (x1 : Vec Ideal S1024x1024 .bf16) (x2 : Vec Ideal S1024x1024 .f32) :
    out0_3 (F := Ideal) x0 x1 x2 = k0_pay1 (F := Ideal) x0 x1 x2 := by
  unfold out0_3
  rw [View.canon_cons_unit_zero (S := S1024x1024) hz]
  simp only [View.ld_unit_zero (S := S1024x1024) hz]

theorem idx : ∀ t : Fin cfg0.N, win0_0.index t = ![t.val, 0] ∧ win0_1.index t = ![0, 0] ∧ win0_2.index t = ![t.val, 0] ∧
    win0_3.index t = ![t.val, 0] :=
  (by decide +kernel : ∀ t : Fin grid0.N, _)

theorem idx_out : ∀ t : Fin cfg0.N, win0_3.index t 0 = t.val ∧ win0_3.index t 1 = 0 :=
  (by decide +kernel : ∀ t : Fin grid0.N, _)

variable (m : (ℓ : Loc nD τ sig) → Buf (Elt Ideal) ℓ) (c : Dev nD)

/-- The operands, and the residual. -/
abbrev X0 : FVec Ideal S8192x1024 .bf16 := m ((c : Thread nD τ).loc main_arg0)
abbrev X1 : FVec Ideal S1024x1024 .bf16 := m ((c : Thread nD τ).loc main_arg1)
abbrev X2 : FVec Ideal S8192x1024 .f32 := m ((c : Thread nD τ).loc main_arg2)

theorem read0 (t : Fin cfg0.N) (a : Fin 1024) (r : Fin 1024) :
    iblk m c 0 t (ix2 a r) = at2 (X0 m c) (1024 * t.val + a.val) r.val := by
  have ht : t.val < 8 := lt_of_lt_of_eq t.isLt (show cfg0.N = 8 from N_0)
  rw [at2_of _ (by omega) (by omega)]
  blk_ext [iblk, V_main_arg0, idx t]

theorem read1 (t : Fin cfg0.N) (b : Fin 1024) (r : Fin 1024) :
    iblk m c 1 t (ix2 r b) = at2 (X1 m c) r.val (b.val) := by
  have ht : t.val < 8 := lt_of_lt_of_eq t.isLt (show cfg0.N = 8 from N_0)
  rw [at2_of _ (by omega) (by omega)]
  blk_ext [iblk, V_main_arg1, idx t]

theorem read2 (t : Fin cfg0.N) (a : Fin 1024) (b : Fin 1024) :
    iblk m c 2 t (ix2 a b) = at2 (X2 m c) (1024 * t.val + a.val) (b.val) := by
  have ht : t.val < 8 := lt_of_lt_of_eq t.isLt (show cfg0.N = 8 from N_0)
  rw [at2_of _ (by omega) (by omega)]
  blk_ext [iblk, V_main_arg2, idx t]

/-- The result's entry. -/
def res (i j : ℕ) : EReal := (∑ r : Fin 1024, at2 (X0 m c) i r.val * at2 (X1 m c) r.val j) + at2 (X2 m c) i j

theorem flushed (t : Fin cfg0.N) (a : Fin 1024) (b : Fin 1024) :
    out0_3 (F := Ideal) (iblk m c 0 t) (iblk m c 1 t) (iblk m c 2 t) (ix2 a b) = res m c (1024 * t.val + a.val) (b.val) := by
  rw [out, block_product]
  refine congrArg₂ (· + ·) (Finset.sum_congr rfl fun r _ => congrArg₂ (· * ·) (read0 m c t a r) (read1 m c t b r)) (read2 m c t a b)

/-- The result array. -/
theorem final : (dats m 0 c).arrAt 3 cfg0.N =
    (fun y => res m c (y 0).val (y 1).val : FVec Ideal S8192x1024 .f32) := by
  refine (dats m 0 c).arrAt_eq_of_covers 3 _ (by decide +kernel) fun t hf y => ?_
  have ht : t.val < 8 := lt_of_lt_of_eq t.isLt (show cfg0.N = 8 from N_0)
  blk_simp
  rw [after0_3]
  have e0 : win0_3.index t 0 * 1024 + (y 0).val = 1024 * t.val + (y 0).val := by
    have h := (idx_out t).1; omega
  have e1 : win0_3.index t 1 * 1024 + (y 1).val = (y 1).val := by
    have h := (idx_out t).2; omega
  rw [e0, e1]
  refine Eq.trans ?_ (flushed m c t (y 0) (y 1))
  refine congrArg _ ?_
  funext d
  match d with
  | ⟨0, _⟩ => rfl
  | ⟨1, _⟩ => rfl

/-- The reference's result, entry by entry. -/
theorem ref (i : Fin 8192) (j : Fin 1024) :
    MoProjRefIdeal.Read.val_main_v3 (F := Ideal) (X0 m c) (X1 m c) (X2 m c) (ix2 i j) = res m c i.val j.val := by
  unfold MoProjRefIdeal.Read.val_main_v3 MoProjRefIdeal.Read.val_main_v2 MoProjRefIdeal.Read.val_main_v0 MoProjRefIdeal.Read.val_main_v1
  pointwise
  unfold res
  rw [add_comm, at2_of (X2 m c) i.isLt j.isLt]
  refine congrArg (· + _) (Finset.sum_congr rfl fun r _ => ?_)
  rw [at2_of _ i.isLt r.isLt, at2_of _ r.isLt j.isLt]

end Cert.MoProjIdeal.Product

namespace Cert.Proof.MoProj

open Idealize.ShloMosaic Idealize.ShloMosaic.TcCoe Idealize.SL.Sem

/-- The kernel's result is the reference's. -/
theorem algebraic : Cert.algebraic_MoProjIdeal_MoProjRefIdeal := by
  pair_intro
  · run_from Cert.MoProjIdeal.Value.run_blocks m g
  · run_from Cert.MoProjRefIdeal.Value.run m' g'
    rw [Cert.MoProjIdeal.Product.final m c]
    funext y
    idx_vars y
    exact Cert.MoProjIdeal.Product.ref m c y0 y1

end Cert.Proof.MoProj

end
-- ==== Proof.FfnUp.lean ====
/- The channel mixer's gate and up projections and their activation, in eight blocks of rows by two of columns: the kernel's logistic
   function is of the gate's magnitude, the reference's of the gate. -/
module

public import proofs.«01_k».proof.Defs
public import proofs.«01_k».proof.Proof.Blocked
public import proofs.«01_k».proof.Proof.Entries
public import proofs.«01_k».proof.Proof.Gen.FfnUpIdeal.Value
public import proofs.«01_k».proof.Proof.Gen.FfnUpRefIdeal.Run
public import proofs.«01_k».proof.Proof.Gen.FfnUpRefIdeal.Read
public import Idealize.ShloMosaic.Lib.Pipeline.ValueKit
public import Idealize.ShloMosaic.Lib.Pipeline.ReadBack
public import Idealize.ShloMosaic.Lib.Claim

@[expose] public section

set_option maxRecDepth 16384

open Finset

noncomputable section

namespace Cert.FfnUpIdeal.Gated

open Cert.FfnUpIdeal Cert.FfnUpIdeal.Gen Idealize.ShloMosaic Idealize.ShloMosaic.TcCoe Idealize.SL.Sem Blocked Entries

theorem hz : (![0, 0] : Fin 2 → ℕ) = fun _ => 0 := by decide

/-! ## One entry of a block -/

section
variable (x0 : Vec Ideal S1024x1024 .bf16) (x1 x2 : Vec Ideal S1024x1408 .bf16) (a : Fin 1024) (b : Fin 1408)

theorem gate_product : k0_pay1 (F := Ideal) x0 x1 (ix2 a b) = ∑ r : Fin 1024, x0 (ix2 a r) * x1 (ix2 r b) := by
  unfold k0_pay1
  pointwise

theorem up_product : k0_pay2 (F := Ideal) x0 x2 (ix2 a b) = ∑ r : Fin 1024, x0 (ix2 a r) * x2 (ix2 r b) := by
  unfold k0_pay2
  pointwise

theorem gate_entry : k0_pay3 (F := Ideal) x0 x1 (ix2 a b) = k0_pay1 (F := Ideal) x0 x1 (ix2 a b) := rfl
theorem up_entry : k0_pay4 (F := Ideal) x0 x2 (ix2 a b) = k0_pay2 (F := Ideal) x0 x2 (ix2 a b) := rfl

theorem act_entry : k0_pay5 (F := Ideal) x0 x1 x2 (ix2 a b) =
    k0_pay1 (F := Ideal) x0 x1 (ix2 a b) * elogistic (k0_pay1 (F := Ideal) x0 x1 (ix2 a b)) * k0_pay2 (F := Ideal) x0 x2 (ix2 a b) := by
  unfold k0_pay5
  generalize k0_pay1 (F := Ideal) x0 x1 = p
  generalize k0_pay2 (F := Ideal) x0 x2 = q
  exact congrArg (fun s => p (ix2 a b) * s * q (ix2 a b)) (elogistic_of_abs (p (ix2 a b)))

/-- The blocks the body leaves. -/
theorem out_gate : out0_3 (F := Ideal) x0 x1 x2 = k0_pay3 (F := Ideal) x0 x1 := by
  unfold out0_3
  rw [View.canon_cons_unit_zero (S := S1024x1408) hz]
  simp only [View.ld_unit_zero (S := S1024x1024) hz, View.ld_unit_zero (S := S1024x1408) hz]
theorem out_up : out0_4 (F := Ideal) x0 x1 x2 = k0_pay4 (F := Ideal) x0 x2 := by
  unfold out0_4
  rw [View.canon_cons_unit_zero (S := S1024x1408) hz]
  simp only [View.ld_unit_zero (S := S1024x1024) hz, View.ld_unit_zero (S := S1024x1408) hz]
theorem out_act : out0_5 (F := Ideal) x0 x1 x2 = k0_pay5 (F := Ideal) x0 x1 x2 := by
  unfold out0_5
  rw [View.canon_cons_unit_zero (S := S1024x1408) hz]
  simp only [View.ld_unit_zero (S := S1024x1024) hz, View.ld_unit_zero (S := S1024x1408) hz]

end

/-! ## The arrays -/

theorem idx_in : ∀ t : Fin cfg0.N, win0_0.index t = ![t.val / 2, 0] ∧ win0_1.index t = ![0, t.val % 2] ∧
    win0_2.index t = ![0, t.val % 2 + 2] :=
  (by decide +kernel : ∀ t : Fin grid0.N, _)
theorem idx3 : ∀ t : Fin cfg0.N, win0_3.index t 0 = t.val / 2 ∧ win0_3.index t 1 = t.val % 2 :=
  (by decide +kernel : ∀ t : Fin grid0.N, _)
theorem idx4 : ∀ t : Fin cfg0.N, win0_4.index t 0 = t.val / 2 ∧ win0_4.index t 1 = t.val % 2 :=
  (by decide +kernel : ∀ t : Fin grid0.N, _)
theorem idx5 : ∀ t : Fin cfg0.N, win0_5.index t 0 = t.val / 2 ∧ win0_5.index t 1 = t.val % 2 :=
  (by decide +kernel : ∀ t : Fin grid0.N, _)

variable (m : (ℓ : Loc nD τ sig) → Buf (Elt Ideal) ℓ) (c : Dev nD)

/-- The normalised input, and the weight of gate and up side by side. -/
abbrev X0 : FVec Ideal S8192x1024 .bf16 := m ((c : Thread nD τ).loc main_arg0)
abbrev X1 : FVec Ideal S1024x5632 .bf16 := m ((c : Thread nD τ).loc main_arg1)

theorem read0 (t : Fin cfg0.N) (a : Fin 1024) (r : Fin 1024) :
    iblk m c 0 t (ix2 a r) = at2 (X0 m c) (1024 * (t.val / 2) + a.val) r.val := by
  have ht : t.val < 16 := lt_of_lt_of_eq t.isLt (show cfg0.N = 16 from N_0)
  rw [at2_of _ (by omega) (by omega)]
  blk_ext [iblk, V_main_arg0, idx_in t]
theorem read1 (t : Fin cfg0.N) (r : Fin 1024) (b : Fin 1408) :
    iblk m c 1 t (ix2 r b) = at2 (X1 m c) r.val (1408 * (t.val % 2) + b.val) := by
  have ht : t.val < 16 := lt_of_lt_of_eq t.isLt (show cfg0.N = 16 from N_0)
  rw [at2_of _ (by omega) (by omega)]
  blk_ext [iblk, V_main_arg1, idx_in t]
theorem read2 (t : Fin cfg0.N) (r : Fin 1024) (b : Fin 1408) :
    iblk m c 2 t (ix2 r b) = at2 (X1 m c) r.val (2816 + (1408 * (t.val % 2) + b.val)) := by
  have ht : t.val < 16 := lt_of_lt_of_eq t.isLt (show cfg0.N = 16 from N_0)
  rw [at2_of _ (by omega) (by omega)]
  blk_ext [iblk, V_main_arg1, idx_in t]

/-- The entries of the three results. -/
def gate (i j : ℕ) : EReal := ∑ r : Fin 1024, at2 (X0 m c) i r.val * at2 (X1 m c) r.val j
def up (i j : ℕ) : EReal := ∑ r : Fin 1024, at2 (X0 m c) i r.val * at2 (X1 m c) r.val (2816 + j)
def act (i j : ℕ) : EReal := gate m c i j * elogistic (gate m c i j) * up m c i j

theorem block_gate (t : Fin cfg0.N) (a : Fin 1024) (b : Fin 1408) : k0_pay1 (F := Ideal) (iblk m c 0 t) (iblk m c 1 t) (ix2 a b) =
    gate m c (1024 * (t.val / 2) + a.val) (1408 * (t.val % 2) + b.val) := by
  rw [gate_product]
  exact Finset.sum_congr rfl fun r _ => congrArg₂ (· * ·) (read0 m c t a r) (read1 m c t r b)
theorem block_up (t : Fin cfg0.N) (a : Fin 1024) (b : Fin 1408) : k0_pay2 (F := Ideal) (iblk m c 0 t) (iblk m c 2 t) (ix2 a b) =
    up m c (1024 * (t.val / 2) + a.val) (1408 * (t.val % 2) + b.val) := by
  rw [up_product]
  exact Finset.sum_congr rfl fun r _ => congrArg₂ (· * ·) (read0 m c t a r) (read2 m c t r b)

theorem flushed3 (t : Fin cfg0.N) (a : Fin 1024) (b : Fin 1408) :
    out0_3 (F := Ideal) (iblk m c 0 t) (iblk m c 1 t) (iblk m c 2 t) (ix2 a b) =
      gate m c (1024 * (t.val / 2) + a.val) (1408 * (t.val % 2) + b.val) := by
  rw [out_gate, gate_entry, block_gate]
theorem flushed4 (t : Fin cfg0.N) (a : Fin 1024) (b : Fin 1408) :
    out0_4 (F := Ideal) (iblk m c 0 t) (iblk m c 1 t) (iblk m c 2 t) (ix2 a b) =
      up m c (1024 * (t.val / 2) + a.val) (1408 * (t.val % 2) + b.val) := by
  rw [out_up, up_entry, block_up]
theorem flushed5 (t : Fin cfg0.N) (a : Fin 1024) (b : Fin 1408) :
    out0_5 (F := Ideal) (iblk m c 0 t) (iblk m c 1 t) (iblk m c 2 t) (ix2 a b) =
      act m c (1024 * (t.val / 2) + a.val) (1408 * (t.val % 2) + b.val) := by
  rw [out_act, act_entry, block_gate, block_up]
  rfl

/-! The result arrays. -/

theorem final3 : (dats m 0 c).arrAt 3 cfg0.N =
    (fun y => gate m c (y 0).val (y 1).val : FVec Ideal S8192x2816 .bf16) := by
  refine (dats m 0 c).arrAt_eq_of_covers 3 _ (by decide +kernel) fun t hf y => ?_
  have ht : t.val < 16 := lt_of_lt_of_eq t.isLt (show cfg0.N = 16 from N_0)
  blk_simp
  rw [after0_3]
  have e0 : win0_3.index t 0 * 1024 + (y 0).val = 1024 * (t.val / 2) + (y 0).val := by
    have h := (idx3 t).1; omega
  have e1 : win0_3.index t 1 * 1408 + (y 1).val = 1408 * (t.val % 2) + (y 1).val := by
    have h := (idx3 t).2; omega
  rw [e0, e1]
  refine Eq.trans ?_ (flushed3 m c t (y 0) (y 1))
  refine congrArg _ ?_
  funext d
  match d with
  | ⟨0, _⟩ => rfl
  | ⟨1, _⟩ => rfl

theorem final4 : (dats m 0 c).arrAt 4 cfg0.N =
    (fun y => up m c (y 0).val (y 1).val : FVec Ideal S8192x2816 .bf16) := by
  refine (dats m 0 c).arrAt_eq_of_covers 4 _ (by decide +kernel) fun t hf y => ?_
  have ht : t.val < 16 := lt_of_lt_of_eq t.isLt (show cfg0.N = 16 from N_0)
  blk_simp
  rw [after0_4]
  have e0 : win0_4.index t 0 * 1024 + (y 0).val = 1024 * (t.val / 2) + (y 0).val := by
    have h := (idx4 t).1; omega
  have e1 : win0_4.index t 1 * 1408 + (y 1).val = 1408 * (t.val % 2) + (y 1).val := by
    have h := (idx4 t).2; omega
  rw [e0, e1]
  refine Eq.trans ?_ (flushed4 m c t (y 0) (y 1))
  refine congrArg _ ?_
  funext d
  match d with
  | ⟨0, _⟩ => rfl
  | ⟨1, _⟩ => rfl

theorem final5 : (dats m 0 c).arrAt 5 cfg0.N =
    (fun y => act m c (y 0).val (y 1).val : FVec Ideal S8192x2816 .bf16) := by
  refine (dats m 0 c).arrAt_eq_of_covers 5 _ (by decide +kernel) fun t hf y => ?_
  have ht : t.val < 16 := lt_of_lt_of_eq t.isLt (show cfg0.N = 16 from N_0)
  blk_simp
  rw [after0_5]
  have e0 : win0_5.index t 0 * 1024 + (y 0).val = 1024 * (t.val / 2) + (y 0).val := by
    have h := (idx5 t).1; omega
  have e1 : win0_5.index t 1 * 1408 + (y 1).val = 1408 * (t.val % 2) + (y 1).val := by
    have h := (idx5 t).2; omega
  rw [e0, e1]
  refine Eq.trans ?_ (flushed5 m c t (y 0) (y 1))
  refine congrArg _ ?_
  funext d
  match d with
  | ⟨0, _⟩ => rfl
  | ⟨1, _⟩ => rfl

/-! ## The reference -/

section
variable (i : Fin 8192)

theorem ref_product (j : Fin 5632) : FfnUpRefIdeal.Read.val_main_v2 (F := Ideal) (X0 m c) (X1 m c) (ix2 i j) =
    ∑ r : Fin 1024, at2 (X0 m c) i.val r.val * at2 (X1 m c) r.val j.val := by
  unfold FfnUpRefIdeal.Read.val_main_v2 FfnUpRefIdeal.Read.val_main_v1 FfnUpRefIdeal.Read.val_main_v0
  pointwise
  refine Finset.sum_congr rfl fun r _ => ?_
  rw [at2_of _ i.isLt r.isLt, at2_of _ r.isLt j.isLt]

variable (j : Fin 2816)

theorem ref_gate32 : FfnUpRefIdeal.Read.val_main_v3 (F := Ideal) (X0 m c) (X1 m c) (ix2 i j) = gate m c i.val j.val := by
  have e : FfnUpRefIdeal.Read.val_main_v3 (F := Ideal) (X0 m c) (X1 m c) (ix2 i j) =
      FfnUpRefIdeal.Read.val_main_v2 (F := Ideal) (X0 m c) (X1 m c) (ix2 i (⟨j.val, by omega⟩ : Fin 5632)) := by
    unfold FfnUpRefIdeal.Read.val_main_v3
    generalize FfnUpRefIdeal.Read.val_main_v2 (F := Ideal) (X0 m c) (X1 m c) = p
    pointwise
  rw [e, ref_product]
  rfl

theorem ref_up32 : FfnUpRefIdeal.Read.val_main_v4 (F := Ideal) (X0 m c) (X1 m c) (ix2 i j) = up m c i.val j.val := by
  have e : FfnUpRefIdeal.Read.val_main_v4 (F := Ideal) (X0 m c) (X1 m c) (ix2 i j) =
      FfnUpRefIdeal.Read.val_main_v2 (F := Ideal) (X0 m c) (X1 m c) (ix2 i (⟨2816 + j.val, by omega⟩ : Fin 5632)) := by
    unfold FfnUpRefIdeal.Read.val_main_v4
    generalize FfnUpRefIdeal.Read.val_main_v2 (F := Ideal) (X0 m c) (X1 m c) = p
    pointwise
  rw [e, ref_product]
  rfl

theorem ref_gate : FfnUpRefIdeal.Read.val_main_v5 (F := Ideal) (X0 m c) (X1 m c) (ix2 i j) = gate m c i.val j.val := ref_gate32 m c i j
theorem ref_up : FfnUpRefIdeal.Read.val_main_v6 (F := Ideal) (X0 m c) (X1 m c) (ix2 i j) = up m c i.val j.val := ref_up32 m c i j

theorem ref_act : FfnUpRefIdeal.Read.val_main_v9 (F := Ideal) (X0 m c) (X1 m c) (ix2 i j) = act m c i.val j.val := by
  have e : FfnUpRefIdeal.Read.val_main_v9 (F := Ideal) (X0 m c) (X1 m c) (ix2 i j) =
      FfnUpRefIdeal.Read.val_main_v3 (F := Ideal) (X0 m c) (X1 m c) (ix2 i j) *
        Ideal.div (Ideal.ofBits .f32 0x3F800000#32)
          (Ideal.ofBits .f32 0x3F800000#32 + Ideal.exp (-FfnUpRefIdeal.Read.val_main_v3 (F := Ideal) (X0 m c) (X1 m c) (ix2 i j))) *
        FfnUpRefIdeal.Read.val_main_v4 (F := Ideal) (X0 m c) (X1 m c) (ix2 i j) := by
    unfold FfnUpRefIdeal.Read.val_main_v9 FfnUpRefIdeal.Read.val_main_v8 FfnUpRefIdeal.Read.val_main_v7 FfnUpRefIdeal.Read.val_main_call0_v5
      FfnUpRefIdeal.Read.val_main_call0_v4 FfnUpRefIdeal.Read.val_main_call0_v3 FfnUpRefIdeal.Read.val_main_call0_v2
      FfnUpRefIdeal.Read.val_main_call0_v1 FfnUpRefIdeal.Read.val_main_call0_v0 FfnUpRefIdeal.Read.val_main_call0_cst
      FfnUpRefIdeal.Read.val_main_call0_cst_0
    generalize FfnUpRefIdeal.Read.val_main_v3 (F := Ideal) (X0 m c) (X1 m c) = p
    generalize FfnUpRefIdeal.Read.val_main_v4 (F := Ideal) (X0 m c) (X1 m c) = q
    rfl
  rw [e, elogistic_of_neg, ref_gate32, ref_up32]
  rfl

end

end Cert.FfnUpIdeal.Gated

namespace Cert.Proof.FfnUp

open Idealize.ShloMosaic Idealize.ShloMosaic.TcCoe Idealize.SL.Sem

/-- The kernel's three results are the reference's. -/
theorem algebraic : Cert.algebraic_FfnUpIdeal_FfnUpRefIdeal := by
  pair_intro
  · run_from Cert.FfnUpIdeal.Value.run_blocks m g
  · run_from Cert.FfnUpRefIdeal.Value.run m' g'
    · rw [Cert.FfnUpIdeal.Gated.final3 m c]
      funext y
      idx_vars y
      exact Cert.FfnUpIdeal.Gated.ref_gate m c y0 y1
    · rw [Cert.FfnUpIdeal.Gated.final4 m c]
      funext y
      idx_vars y
      exact Cert.FfnUpIdeal.Gated.ref_up m c y0 y1
    · rw [Cert.FfnUpIdeal.Gated.final5 m c]
      funext y
      idx_vars y
      exact Cert.FfnUpIdeal.Gated.ref_act m c y0 y1

end Cert.Proof.FfnUp

end
-- ==== Proof.FfnDown.lean ====
/- The channel mixer's down projection, added to the residual stream: the kernel adds the products of two blocks of 1408 of the
   2816 hidden columns, and leaves the product over them all with the residual added. -/
module

public import proofs.«01_k».proof.Defs
public import proofs.«01_k».proof.Proof.Blocked
public import proofs.«01_k».proof.Proof.Gen.FfnDownIdeal.Value
public import proofs.«01_k».proof.Proof.Gen.FfnDownRefIdeal.Run
public import proofs.«01_k».proof.Proof.Gen.FfnDownRefIdeal.Read
public import Idealize.ShloMosaic.Lib.Pipeline.ValueKit
public import Idealize.ShloMosaic.Lib.Pipeline.ReadBack
public import Idealize.ShloMosaic.Lib.Claim

@[expose] public section

set_option maxRecDepth 16384

open Finset

noncomputable section

namespace Cert.FfnDownIdeal.Product

open Cert.FfnDownIdeal Cert.FfnDownIdeal.Gen Idealize.ShloMosaic Idealize.ShloMosaic.TcCoe Idealize.SL.Sem Blocked

theorem hz : (![0, 0] : Fin 2 → ℕ) = fun _ => 0 := by decide
theorem hz3 : (![0, 0, 0] : Fin 3 → ℕ) = fun _ => 0 := by decide

/-- A block's product, entry by entry. -/
theorem block_product (x0 : Vec Ideal S1024x1408 .bf16) (x1 : Vec Ideal S1408x1024 .bf16) (a : Fin 1024) (b : Fin 1024) :
    k0_pay1 (F := Ideal) x0 x1 (ix2 a b) = ∑ r : Fin 1408, x0 (ix2 a r) * x1 (ix2 r b) := by
  unfold k0_pay1
  pointwise

section
variable (c : Dev nD) (i : grid0.Coords) (arg3 : Memref sig .tc .vmem S1024x1408 .bf16) (harg3 : arg3.IsWhole)
  (arg4 : Memref sig .tc .vmem S1408x1024 .bf16) (harg4 : arg4.IsWhole) (arg5 : Memref sig .tc .vmem S1024x1024 .f32) (harg5 : arg5.IsWhole)
  (arg6 : Memref sig .tc .vmem S1024x1024 .f32) (harg6 : arg6.IsWhole)
  (arg7 : Memref sig .tc .vmem S1024x1024 .f32) (harg7 : arg7.IsWhole) (x0 : Vec Ideal S1024x1408 .bf16) (x1 : Vec Ideal S1408x1024 .bf16)
  (x2 xs : Vec Ideal S1024x1024 .f32)

/-- The first point of a sweep leaves its block's product in the scratch. -/
theorem scratch_A (hc0 : cond0_0 i) (hc1 : ¬cond0_1 i) (hc2 : ¬cond0_2 i) :
    sout0_A_0 (F := Ideal) c i arg3 harg3 arg4 harg4 arg5 harg5 arg6 harg6 arg7 harg7 hc0 hc1 hc2 x0 x1 x2 = k0_pay1 x0 x1 := by
  unfold sout0_A_0
  rw [View.read_writes_eq_canon _ _ _ (scover0_A_0 c i arg3 harg3 arg4 harg4 arg5 harg5 arg6 harg6 arg7 harg7 hc0 hc1 hc2 x0 x1 x2)]
  unfold kernelRun0_A
  dsimp only
  sl_unfold_words
  rw [View.canon_cons_unit_zero (S := S1024x1024) hz]
  unfold k0_pay2
  simp only [View.readAt_eq_ld, harg3.read_unread, harg4.read_unread, View.ld_unit_zero (S := S1024x1408) hz, View.ld_unit_zero (S := S1408x1024) hz, shapeCast_self]

/-- The last point of a sweep writes out the scratch with its block's product added. -/
theorem out_C (hc0 : ¬cond0_0 i) (hc1 : cond0_1 i) (hc2 : cond0_2 i) :
    out0_B_3 (F := Ideal) c i arg3 harg3 arg4 harg4 arg5 harg5 arg6 harg6 arg7 harg7 hc0 hc1 hc2 x0 x1 x2 xs = (addf (addf xs (k0_pay1 x0 x1)) x2 : FVec Ideal S1024x1024 .f32) := by
  unfold out0_B_3
  rw [View.read_writes_eq_canon _ _ _ (cover0_B_3 c i arg3 harg3 arg4 harg4 arg5 harg5 arg6 harg6 arg7 harg7 hc0 hc1 hc2 x0 x1 x2 xs)]
  unfold kernelRun0_B
  dsimp only
  sl_unfold_words
  rw [View.canon_cons_unit_zero (S := S1024x1024) hz, View.readCov_unit_zero (S := S1024x1024) _ hz]
  unfold k0_pay4 k0_pay3
  simp only [View.readAt_eq_ld, harg3.read_unread, harg4.read_unread, harg5.read_unread, harg7.read_unread, View.ld_unit_zero (S := S1024x1408) hz, View.ld_unit_zero (S := S1408x1024) hz, View.ld_unit_zero (S := S1024x1024) hz, shapeCast_self]
end

theorem idx : ∀ t : Fin cfg0.N, win0_0.index t = ![t.val / 2, t.val % 2] ∧ win0_1.index t = ![t.val % 2, 0] ∧
    win0_2.index t = ![t.val / 2, 0] ∧ win0_3.index t = ![t.val / 2, 0] :=
  (by decide +kernel : ∀ t : Fin grid0.N, _)

variable (m : (ℓ : Loc nD τ sig) → Buf (Elt Ideal) ℓ) (c : Dev nD)

/-- The two operands, and the residual. -/
abbrev X0 : FVec Ideal S8192x2816 .bf16 := m ((c : Thread nD τ).loc main_arg0)
abbrev X1 : FVec Ideal S2816x1024 .bf16 := m ((c : Thread nD τ).loc main_arg1)
abbrev X2 : FVec Ideal S8192x1024 .f32 := m ((c : Thread nD τ).loc main_arg2)

theorem read2 (t : Fin cfg0.N) (a b : Fin 1024) :
    iblk m c 2 t (ix2 a b) = at2 (X2 m c) (1024 * (t.val / 2) + a.val) b.val := by
  have ht : t.val < 16 := lt_of_lt_of_eq t.isLt (show cfg0.N = 16 from N_0)
  rw [at2_of _ (by omega) (by omega)]
  blk_ext [iblk, V_main_arg2, idx t]

theorem read0 (t : Fin cfg0.N) (a : Fin 1024) (r : Fin 1408) :
    iblk m c 0 t (ix2 a r) = at2 (X0 m c) (1024 * (t.val / 2) + a.val) (1408 * (t.val % 2) + r.val) := by
  have ht : t.val < 16 := lt_of_lt_of_eq t.isLt (show cfg0.N = 16 from N_0)
  rw [at2_of _ (by omega) (by omega)]
  blk_ext [iblk, V_main_arg0, idx t]

theorem read1 (t : Fin cfg0.N) (r : Fin 1408) (b : Fin 1024) :
    iblk m c 1 t (ix2 r b) = at2 (X1 m c) (1408 * (t.val % 2) + r.val) b.val := by
  have ht : t.val < 16 := lt_of_lt_of_eq t.isLt (show cfg0.N = 16 from N_0)
  rw [at2_of _ (by omega) (by omega)]
  blk_ext [iblk, V_main_arg1, idx t]

/-- A term of the product of the two operands, and the part of the product from its first `n` terms. -/
def term (i j r : ℕ) : EReal := at2 (X0 m c) i r * at2 (X1 m c) r j
def part (n i j : ℕ) : EReal := ∑ r ∈ range n, term m c i j r

/-- The result's entry. -/
def res (i j : ℕ) : EReal := part m c 2816 i j + at2 (X2 m c) i j

theorem block_part (t : Fin cfg0.N) (a : Fin 1024) (b : Fin 1024) :
    k0_pay1 (F := Ideal) (iblk m c 0 t) (iblk m c 1 t) (ix2 a b) =
      ∑ r : Fin 1408, term m c (1024 * (t.val / 2) + a.val) (b.val) (1408 * (t.val % 2) + r.val) := by
  have ht : t.val < 16 := lt_of_lt_of_eq t.isLt (show cfg0.N = 16 from N_0)
  rw [block_product]
  refine Finset.sum_congr rfl fun r _ => ?_
  rw [read0, read1]
  rfl

/-- After point `n`, not the last of its sweep, the scratch holds the part of the product so far. -/
theorem scratch (n : ℕ) (hn : n < cfg0.N) (hl : n % 2 ≠ 1) (a : Fin 1024) (b : Fin 1024) :
    (outsAt0 m c n hn).2 (ix2 a b) = part m c (1408 * (n % 2 + 1)) (1024 * (n / 2) + a.val) (b.val) := by
  induction n with
  | zero =>
    rw [outsAt0_A m c ⟨0, hn⟩ (by simp) (by simp) (by simp)]
    dsimp only
    rw [scratch_A, block_part]
    exact sum_first (term m c _ _)
  | succ n ih =>
    have hN : n + 1 < 16 := lt_of_lt_of_eq hn (show cfg0.N = 16 from N_0)
    by_cases h0 : (n + 1) % 2 = 0
    · have e := outsAt0_A m c ⟨n + 1, hn⟩ h0 (by dsimp only; omega) (by dsimp only; omega)
      dsimp only at e
      rw [e]
      dsimp only
      rw [scratch_A, block_part]
      dsimp only
      rw [h0]
      exact sum_first (term m c _ _)
    · omega

/-- What the last point of a sweep writes out. -/
theorem flushed (t : Fin cfg0.N) (ht : t.val % 2 = 1) (a : Fin 1024) (b : Fin 1024) :
    (outsAt0 m c t.val t.isLt).1 (ix2 a b) = res m c (1024 * (t.val / 2) + a.val) (b.val) := by
  have hN : t.val < 16 := lt_of_lt_of_eq t.isLt (show cfg0.N = 16 from N_0)
  rw [outsAt0_B m c t (by omega) (by omega) ht]
  dsimp only
  rw [out_C]
  refine congrArg₂ (· + ·) ?_ (read2 m c t a b)
  refine (congrArg₂ (· + ·) (scratch m c (t.val - 1) (by omega) (by omega) a b) (block_part m c t a b)).trans ?_
  rw [show (t.val - 1) / 2 = t.val / 2 by omega, show (t.val - 1) % 2 = 0 by omega, ht]
  exact sum_next (term m c _ _) _

/-- The result array: the product. -/
theorem final : (dats m 0 c).arrAt 3 cfg0.N =
    (fun y => res m c (y 0).val (y 1).val : FVec Ideal S8192x1024 .f32) := by
  refine Eq.trans (b := Value.G3 m c) (Value.final3 m c) ?_
  funext y
  idx_vars y
  unfold Value.G3
  have hq : Value.pt3Of (ix2 y0 y1) = 2 * (1 * (y0.val / 1024) + y1.val / 1024) + 1 := by
    show 2 * (_ * (y0.val / 1024 - 0) + 1 * (y1.val / 1024 - 0)) + 1 = _
    omega
  have hp : Value.pt3Of (ix2 y0 y1) < cfg0.N := by
    rw [show cfg0.N = 16 from N_0, hq]
    omega
  rw [dif_pos hp]
  have e := flushed m c ⟨_, hp⟩ (by dsimp only; rw [hq]; omega) ⟨y0.val % 1024, Nat.mod_lt _ (by decide)⟩ ⟨y1.val % 1024, Nat.mod_lt _ (by decide)⟩
  rw [Value.outsAt0_sweep] at e
  refine Eq.trans ?_ (e.trans ?_)
  · refine congrArg (Prod.fst _) ?_
    funext a
    match a with
    | ⟨0, _⟩ => rfl
    | ⟨1, _⟩ => rfl
  · dsimp only
    rw [hq]
    refine congrArg₂ (res m c) ?_ ?_
    · show 1024 * ((2 * (1 * (y0.val / 1024) + y1.val / 1024) + 1) / 2) + y0.val % 1024 = y0.val
      omega
    · show y1.val % 1024 = y1.val
      omega

/-- The reference's result, entry by entry. -/
theorem ref (i : Fin 8192) (j : Fin 1024) :
    FfnDownRefIdeal.Read.val_main_v3 (F := Ideal) (X0 m c) (X1 m c) (X2 m c) (ix2 i j) = res m c i.val j.val := by
  unfold FfnDownRefIdeal.Read.val_main_v3 FfnDownRefIdeal.Read.val_main_v2 FfnDownRefIdeal.Read.val_main_v1 FfnDownRefIdeal.Read.val_main_v0
  pointwise
  unfold res part
  rw [add_comm, at2_of (X2 m c) i.isLt j.isLt, ← sum_all (n := 2816) (term m c i.val j.val)]
  refine congrArg (· + _) (Finset.sum_congr rfl fun r _ => ?_)
  unfold term
  rw [at2_of _ i.isLt r.isLt, at2_of _ r.isLt j.isLt]

end Cert.FfnDownIdeal.Product

namespace Cert.Proof.FfnDown

open Idealize.ShloMosaic Idealize.ShloMosaic.TcCoe Idealize.SL.Sem

/-- The kernel's result is the reference's. -/
theorem algebraic : Cert.algebraic_FfnDownIdeal_FfnDownRefIdeal := by
  pair_intro
  · run_from Cert.FfnDownIdeal.Value.run_blocks m g
  · run_from Cert.FfnDownRefIdeal.Value.run m' g'
    rw [Cert.FfnDownIdeal.Product.final m c]
    funext y
    idx_vars y
    exact Cert.FfnDownIdeal.Product.ref m c y0 y1

end Cert.Proof.FfnDown

end
-- ==== Proof.Heads.lean ====
/- The constants of the cross-attention, and the mean square of a row of real numbers with the inverse of its root. -/
module

public import proofs.«01_k».proof.Proof.Entries

@[expose] public section

noncomputable section

namespace Heads

open Idealize.ShloMosaic Entries

/-- The stabiliser of the root mean square. -/
def eps : ℝ := 8796093 / 8796093022208

theorem eps_coe : Ideal.ofBits .f32 0x358637BD#32 = ((eps : ℝ) : EReal) := by
  unfold eps
  simp [Ideal.ofBits, Ideal.ieee]
  norm_num
  rw [← EReal.coe_mul]
  norm_num

theorem c256_coe : Ideal.ofBits .f32 0x43800000#32 = ((256 : ℝ) : EReal) := by
  simp [Ideal.ofBits, Ideal.ieee]
  norm_num
  rw [← EReal.coe_mul]
  norm_num

theorem c16_coe : Ideal.ofBits .f32 0x41800000#32 = ((16 : ℝ) : EReal) := by
  simp [Ideal.ofBits, Ideal.ieee]
  norm_num
  rw [← EReal.coe_mul]
  norm_num

theorem sixteenth_coe : Ideal.ofBits .f32 0x3D800000#32 = ((1 / 16 : ℝ) : EReal) := by
  simp [Ideal.ofBits, Ideal.ieee]
  norm_num
  rw [← EReal.coe_mul]
  norm_num

theorem neg_half_coe : Ideal.ofBits .f32 0xBF000000#32 = ((-1 / 2 : ℝ) : EReal) := by
  simp [Ideal.ofBits, Ideal.ieee]
  norm_num
  rw [← EReal.coe_mul]
  norm_num

theorem bot_word : Ideal.ofBits .f32 0xFF800000#32 = ⊥ := by
  simp [Ideal.ofBits, Ideal.ieee]

/-! ## A row -/

/-- The mean square of a row with the stabiliser, and the inverse of its root. -/
def ms (x : Fin 256 → ℝ) : ℝ := (∑ d, x d * x d) / 256 + eps
def rr (x : Fin 256 → ℝ) : ℝ := (√(ms x))⁻¹

theorem ms_pos (x : Fin 256 → ℝ) : 0 < ms x := by
  have h : 0 ≤ ∑ d, x d * x d := Finset.sum_nonneg fun d _ => mul_self_nonneg (x d)
  unfold ms eps
  positivity

theorem rr_sq (x : Fin 256 → ℝ) : rr x * rr x = (ms x)⁻¹ := by
  unfold rr
  rw [← mul_inv, Real.mul_self_sqrt (ms_pos x).le]

theorem rsqrt_ms (x : Fin 256 → ℝ) : Ideal.rsqrt ((ms x : ℝ) : EReal) = ((rr x : ℝ) : EReal) := by
  have h := ms_pos x
  rw [Ideal.rsqrt_coe, if_neg (by linarith), if_neg h.ne']
  rfl

/-- The maximum of finitely many real numbers is a real number. -/
theorem fold_max_real (f : Fin 256 → ℝ) :
    ∃ M : ℝ, (Finset.univ : Finset (Fin 256)).fold max (⊥ : EReal) (fun k => ((f k : ℝ) : EReal)) = (M : EReal) := by
  refine ⟨EReal.toReal _, (EReal.coe_toReal ?_ ?_).symm⟩
  · refine ne_of_lt ((Finset.fold_max_lt _).mpr ⟨bot_lt_top, fun x _ => EReal.coe_lt_top _⟩)
  · refine ne_of_gt ((Finset.lt_fold_max _).mpr (Or.inr ⟨0, Finset.mem_univ _, EReal.bot_lt_coe _⟩))

/-- A column's place in its head. -/
def lane (j : ℕ) : Fin 256 := ⟨j % 256, Nat.mod_lt _ (by decide)⟩

end Heads

end
-- ==== Proof.HeadsOut.lean ====
/- One head of the cross-attention at one row, over the extended reals: the normalised query, the attention over the memory
   and the values it weighs. -/
module

public import proofs.«01_k».proof.Proof.Heads

@[expose] public section

noncomputable section

namespace HeadsOut

open Idealize.ShloMosaic

/-- The inverse root of a row's mean square. -/
def er (x : Fin 256 → EReal) : EReal :=
  Ideal.rsqrt (Ideal.div (∑ d, x d * x d) (Ideal.ofBits .f32 0x43800000#32) + Ideal.ofBits .f32 0x358637BD#32)
/-- The normalised query, scaled by the weight. -/
def en (x w : Fin 256 → EReal) (d : Fin 256) : EReal := x d * er x * w d
/-- The scores over the memory, and the largest of them. -/
def es (x w : Fin 256 → EReal) (K : Fin 256 → Fin 256 → EReal) (m : Fin 256) : EReal :=
  (∑ d, en x w d * K m d) * Ideal.ofBits .f32 0x3D800000#32
def eM (x w : Fin 256 → EReal) (K : Fin 256 → Fin 256 → EReal) : EReal :=
  (Finset.univ : Finset (Fin 256)).fold max (Ideal.ofBits .f32 0xFF800000#32) (fun m => es x w K m)
/-- Their exponentials, the attention, and the head's result. -/
def ee (x w : Fin 256 → EReal) (K : Fin 256 → Fin 256 → EReal) (m : Fin 256) : EReal := Ideal.exp (es x w K m - eM x w K)
def ep (x w : Fin 256 → EReal) (K : Fin 256 → Fin 256 → EReal) (m : Fin 256) : EReal := Ideal.div (ee x w K m) (∑ k, ee x w K k)
def eo (x w : Fin 256 → EReal) (K V : Fin 256 → Fin 256 → EReal) (d : Fin 256) : EReal := ∑ m, ep x w K m * V m d

/-- Dividing by sixteen is multiplying by a sixteenth. -/
theorem div16 (y : EReal) : Ideal.div y (Ideal.ofBits .f32 0x41800000#32) = y * Ideal.ofBits .f32 0x3D800000#32 := by
  rw [Heads.c16_coe, Heads.sixteenth_coe, Ideal.div_coe (by norm_num)]

/-- The columns of head `h`. -/
def row (A : ℕ → ℕ → EReal) (h t : ℕ) (d : Fin 256) : EReal := A t (256 * h + d.val)
def mem (A : ℕ → ℕ → EReal) (h : ℕ) (m d : Fin 256) : EReal := A m.val (256 * h + d.val)
def wts (A : ℕ → ℕ → EReal) (d : Fin 256) : EReal := A 0 d.val

/-- The result's entry at row `t` and column `j`. -/
def out (A0 A1 A2 A3 : ℕ → ℕ → EReal) (t j : ℕ) : EReal :=
  eo (row A0 (j / 256) t) (wts A3) (mem A1 (j / 256)) (mem A2 (j / 256)) (Heads.lane j)

end HeadsOut

end
-- ==== Proof.HeadsBack.lean ====
/- One head of the cross-attention's gradient at one row, over the extended reals: the gradients of the scores, of the
   normalised query and of the query, and that the forms differentiation gives are equal to them. -/
module

public import proofs.«01_k».proof.Proof.HeadsOut

@[expose] public section

noncomputable section

namespace HeadsBack

open Idealize.ShloMosaic HeadsOut Entries

/-- The normalised query before the weight. -/
def exh (x : Fin 256 → EReal) (d : Fin 256) : EReal := x d * er x
/-- The gradients of the attention and of the scores. -/
def edp (o : Fin 256 → EReal) (V : Fin 256 → Fin 256 → EReal) (m : Fin 256) : EReal := ∑ d, o d * V m d
def eds (x w : Fin 256 → EReal) (K V : Fin 256 → Fin 256 → EReal) (o : Fin 256 → EReal) (m : Fin 256) : EReal :=
  ep x w K m * (edp o V m - ∑ k, edp o V k * ep x w K k) * Ideal.ofBits .f32 0x3D800000#32
/-- The gradients of the normalised query and of the query. -/
def eg (x w : Fin 256 → EReal) (K V : Fin 256 → Fin 256 → EReal) (o : Fin 256 → EReal) (d : Fin 256) : EReal :=
  ∑ m, eds x w K V o m * K m d
def edq (x w g : Fin 256 → EReal) (d : Fin 256) : EReal :=
  er x * (g d * w d - exh x d * Ideal.div (∑ k, g k * w k * exh x k) (Ideal.ofBits .f32 0x43800000#32))

/-! ## The forward values are real numbers -/

/-- A row's mean square with the stabiliser. -/
def ems (x : Fin 256 → EReal) : EReal :=
  Ideal.div (∑ d, x d * x d) (Ideal.ofBits .f32 0x43800000#32) + Ideal.ofBits .f32 0x358637BD#32

theorem square_nonneg (y : EReal) : 0 ≤ y * y := by
  induction y using EReal.rec with
  | bot => simp
  | top => simp
  | coe r => rw [← EReal.coe_mul]; exact_mod_cast mul_self_nonneg r

/-- A row is of real numbers, or its mean square is infinite and the inverse root zero. -/
theorem row_cases (x : Fin 256 → EReal) : (∃ X : Fin 256 → ℝ, x = fun d => ((X d : ℝ) : EReal)) ∨ (ems x = ⊤ ∧ er x = 0) := by
  by_cases h : ∀ d, x d ≠ ⊤ ∧ x d ≠ ⊥
  · exact Or.inl ⟨fun d => (x d).toReal, funext fun d => (EReal.coe_toReal (h d).1 (h d).2).symm⟩
  · right
    have ⟨d, hd⟩ : ∃ d, x d * x d = ⊤ := by
      by_contra hc
      refine h fun d => ⟨fun e => hc ⟨d, by rw [e]; simp⟩, fun e => hc ⟨d, by rw [e]; simp⟩⟩
    have s : (∑ d, x d * x d) = ⊤ := by
      refine top_le_iff.mp ?_
      rw [← hd]
      exact Finset.single_le_sum (f := fun d => x d * x d) (fun k _ => square_nonneg (x k)) (Finset.mem_univ d)
    have e : ems x = ⊤ := by
      unfold ems
      rw [s, Heads.c256_coe, Heads.eps_coe, Ideal.div_coe (by norm_num), EReal.top_mul_coe_of_pos (by norm_num)]
      exact EReal.top_add_coe _
    refine ⟨e, ?_⟩
    have u : er x = Ideal.rsqrt (ems x) := rfl
    rw [u, e]
    rfl

theorem ems_real (X : Fin 256 → ℝ) : ems (fun d => ((X d : ℝ) : EReal)) = ((Heads.ms X : ℝ) : EReal) := by
  unfold ems
  simp only [← EReal.coe_mul]
  rw [Heads.c256_coe, Heads.eps_coe, coe_sum, coe_div _ _ (by norm_num), ← EReal.coe_add]
  rfl

theorem er_real (X : Fin 256 → ℝ) : er (fun d => ((X d : ℝ) : EReal)) = ((Heads.rr X : ℝ) : EReal) := by
  have u : er (fun d => ((X d : ℝ) : EReal)) = Ideal.rsqrt (ems (fun d => ((X d : ℝ) : EReal))) := rfl
  rw [u, ems_real, Heads.rsqrt_ms]

theorem exh_real (x : Fin 256 → EReal) : ∃ Y : Fin 256 → ℝ, ∀ d, exh x d = ((Y d : ℝ) : EReal) := by
  rcases row_cases x with ⟨X, rfl⟩ | ⟨_, h⟩
  · exact ⟨fun d => X d * Heads.rr X, fun d => by unfold exh; rw [er_real, EReal.coe_mul]⟩
  · exact ⟨fun _ => 0, fun d => by unfold exh; rw [h, mul_zero]; rfl⟩

/-- With real keys and a real weight the exponentials are positive real numbers. -/
theorem ee_real (x w : Fin 256 → EReal) (K : Fin 256 → Fin 256 → EReal) (W : Fin 256 → ℝ) (L : Fin 256 → Fin 256 → ℝ)
    (hw : ∀ d, w d = ((W d : ℝ) : EReal)) (hK : ∀ m d, K m d = ((L m d : ℝ) : EReal)) :
    ∃ e : Fin 256 → ℝ, (∀ m, 0 < e m) ∧ ∀ m, ee x w K m = ((e m : ℝ) : EReal) := by
  obtain ⟨Y, hY⟩ := exh_real x
  have n : ∀ d, en x w d = ((Y d * W d : ℝ) : EReal) := fun d => by
    have u : en x w d = exh x d * w d := rfl
    rw [u, hY, hw, EReal.coe_mul]
  have s : ∀ m, es x w K m = (((∑ d, Y d * W d * L m d) * (1 / 16) : ℝ) : EReal) := fun m => by
    unfold es
    simp only [n, hK, ← EReal.coe_mul]
    rw [Heads.sixteenth_coe, coe_sum, ← EReal.coe_mul]
  obtain ⟨M, hM⟩ : ∃ M : ℝ, eM x w K = (M : EReal) := by
    unfold eM
    rw [Heads.bot_word]
    simp only [s]
    exact Heads.fold_max_real _
  exact ⟨fun m => Real.exp ((∑ d, Y d * W d * L m d) * (1 / 16) - M), fun m => Real.exp_pos _, fun m => by
    unfold ee
    rw [s, hM, ← EReal.coe_sub, Ideal.exp_coe]⟩

/-! ## What differentiation gives -/

/-- A real number that is not negative distributes over sums. -/
theorem sum_mul_real {ι : Type*} (s : Finset ι) (f : ι → EReal) (c : ℝ) (hc : 0 ≤ c) : (∑ k ∈ s, f k) * (c : EReal) = ∑ k ∈ s, f k * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

theorem add_mul_real (a b : EReal) (c : ℝ) (hc : 0 ≤ c) : (a + b) * (c : EReal) = a * (c : EReal) + b * (c : EReal) :=
  EReal.right_distrib_of_nonneg_of_ne_top (by exact_mod_cast hc) (EReal.coe_ne_top c) a b

/-- The gradient of the scores as differentiation of the quotient gives it. -/
theorem ds_quotient (e : Fin 256 → ℝ) (he : ∀ m, 0 < e m) (g : Fin 256 → EReal) (m : Fin 256) :
    Ideal.div ((Ideal.div (g m) (∑ k, ((e k : ℝ) : EReal)) +
        -(∑ k, g k * Ideal.div (Ideal.ofBits .f32 0x3F800000#32) ((∑ k, ((e k : ℝ) : EReal)) * (∑ k, ((e k : ℝ) : EReal))) * ((e k : ℝ) : EReal))) *
        ((e m : ℝ) : EReal)) (Ideal.ofBits .f32 0x41800000#32) =
      Ideal.div ((e m : ℝ) : EReal) (∑ k, ((e k : ℝ) : EReal)) *
        (g m - ∑ k, g k * Ideal.div ((e k : ℝ) : EReal) (∑ k, ((e k : ℝ) : EReal))) * Ideal.ofBits .f32 0x3D800000#32 := by
  have hs : 0 < ∑ k, e k := Finset.sum_pos (fun k _ => he k) ⟨0, Finset.mem_univ _⟩
  rw [HeadsOut.div16, coe_sum, one_coe, ← EReal.coe_mul]
  generalize (∑ k, e k) = S at *
  have ha : 0 ≤ 1 / S := by positivity
  have q : ∀ k, Ideal.div ((e k : ℝ) : EReal) (S : EReal) = ((e k * (1 / S) : ℝ) : EReal) := fun k => by
    rw [coe_div _ _ hs.ne']
    congr 1
    ring
  have t : ∀ k, g k * ((1 / (S * S) : ℝ) : EReal) * ((e k : ℝ) : EReal) = g k * ((e k * (1 / S) : ℝ) : EReal) * ((1 / S : ℝ) : EReal) := fun k => by
    rw [mul_assoc, mul_assoc, ← EReal.coe_mul, ← EReal.coe_mul]
    congr 2
    ring
  rw [coe_div _ _ (mul_pos hs hs).ne', Ideal.div_coe hs.ne']
  simp only [q, t]
  rw [← sum_mul_real _ _ _ ha, ← EReal.neg_mul, ← add_mul_real _ _ _ ha, mul_assoc (_ + _), ← EReal.coe_mul, mul_comm (_ + _), mul_comm (1 / S), sub_eq_add_neg]

/-- The gradient of the query as differentiation of the inverse root gives it. -/
theorem dq_root (x g : Fin 256 → EReal) (d : Fin 256) :
    g d * er x + x d * Ideal.div ((∑ k, x k * g k) * (Ideal.ofBits .f32 0xBF000000#32 * Ideal.div (er x) (ems x))) (Ideal.ofBits .f32 0x43800000#32)
      + Ideal.div ((∑ k, x k * g k) * (Ideal.ofBits .f32 0xBF000000#32 * Ideal.div (er x) (ems x))) (Ideal.ofBits .f32 0x43800000#32) * x d =
    er x * (g d - exh x d * Ideal.div (∑ k, g k * exh x k) (Ideal.ofBits .f32 0x43800000#32)) := by
  have d0 : ∀ y : EReal, y ≠ 0 → Ideal.div 0 y = 0 := fun y hy => by
    unfold Ideal.div
    rw [if_neg hy, zero_mul]
  rw [Heads.c256_coe, Heads.neg_half_coe]
  rcases row_cases x with ⟨X, rfl⟩ | ⟨h, h'⟩
  · have hm := Heads.ms_pos X
    have hr : 0 ≤ Heads.rr X := inv_nonneg.mpr (Real.sqrt_nonneg _)
    have hq := Heads.rr_sq X
    have s : (∑ k, g k * exh (fun d => ((X d : ℝ) : EReal)) k) = (∑ k, ((X k : ℝ) : EReal) * g k) * ((Heads.rr X : ℝ) : EReal) := by
      rw [sum_mul_real _ _ _ hr]
      refine Finset.sum_congr rfl fun k _ => ?_
      unfold exh
      rw [er_real, ← mul_assoc, mul_comm (g k)]
    rw [s]
    unfold exh
    rw [er_real, ems_real, coe_div _ _ hm.ne', ← EReal.coe_mul, ← EReal.coe_mul, Ideal.div_coe (by norm_num), Ideal.div_coe (by norm_num)]
    generalize (∑ k, ((X k : ℝ) : EReal) * g k) = T
    have z : ((X d * Heads.rr X : ℝ) : EReal) * (T * ((Heads.rr X : ℝ) : EReal) * ((1 / 256 : ℝ) : EReal)) =
        T * ((X d * Heads.rr X * Heads.rr X * (1 / 256) : ℝ) : EReal) := by
      rw [mul_assoc T, ← EReal.coe_mul, mul_left_comm, ← EReal.coe_mul]
      congr 2
      ring
    have z' : ∀ c : ℝ, ((X d : ℝ) : EReal) * (T * (c : EReal) * ((1 / 256 : ℝ) : EReal)) = T * ((X d * c * (1 / 256) : ℝ) : EReal) := fun c => by
      rw [mul_assoc T, ← EReal.coe_mul, mul_left_comm, ← EReal.coe_mul]
      congr 2
      ring
    rw [z, mul_comm (T * _ * _) ((X d : ℝ) : EReal), z', mul_comm ((Heads.rr X : ℝ) : EReal), sub_eq_add_neg, add_mul_real _ _ _ hr, add_assoc,
      ← mul_neg, mul_assoc T, ← EReal.coe_neg, ← EReal.coe_mul]
    have two : ∀ y : EReal, y + y = y * ((2 : ℝ) : EReal) := fun y => by
      have e : ((2 : ℝ) : EReal) = 1 + 1 := by
        rw [show (2 : ℝ) = 1 + 1 by norm_num, EReal.coe_add]
        rfl
      rw [e, EReal.left_distrib_of_nonneg zero_le_one zero_le_one, mul_one]
    rw [two, mul_assoc T, ← EReal.coe_mul, div_eq_mul_inv (Heads.rr X) (Heads.ms X), ← hq]
    congr 3
    ring
  · have n : ((256 : ℝ) : EReal) ≠ 0 := by norm_num
    rw [h, h', d0 ⊤ EReal.top_ne_zero]
    simp only [mul_zero, zero_mul, d0 _ n, add_zero]

/-! ## Every row, every head -/

section
variable (A0 A1 A2 A3 A4 : ℕ → ℕ → EReal)

def Pe (h i : ℕ) : Fin 256 → EReal := ep (row A0 h i) (wts A4) (mem A2 h)
def De (h i : ℕ) : Fin 256 → EReal := eds (row A0 h i) (wts A4) (mem A2 h) (mem A3 h) (row A1 h i)
def Ge (h i : ℕ) : Fin 256 → EReal := eg (row A0 h i) (wts A4) (mem A2 h) (mem A3 h) (row A1 h i)

/-- The query's gradient, and row `i`'s term of the gradients of the keys, the values and the weight. -/
def rdq (i j : ℕ) : EReal := edq (row A0 (j / 256) i) (wts A4) (Ge A0 A1 A2 A3 A4 (j / 256) i) (Heads.lane j)
def tdk (m : Fin 256) (j i : ℕ) : EReal := De A0 A1 A2 A3 A4 (j / 256) i m * en (row A0 (j / 256) i) (wts A4) (Heads.lane j)
def tdv (m : Fin 256) (j i : ℕ) : EReal := Pe A0 A2 A4 (j / 256) i m * row A1 (j / 256) i (Heads.lane j)
def tdw (d : Fin 256) (i : ℕ) : EReal := ∑ h : Fin 4, Ge A0 A1 A2 A3 A4 h.val i d * exh (row A0 h.val i) d
end

end HeadsBack

end
-- ==== Proof.AttnHead.lean ====
/- One head of the cross-attention's gradient on one block of 256 rows: what the kernel's arrays hold, entry by entry. -/
module

public import proofs.«01_k».proof.Proof.HeadsBack
public import proofs.«01_k».proof.Proof.Gen.XAttnBackIdeal.Skeleton
public import Idealize.ShloMosaic.Lib.Pointwise
public import Idealize.ShloMosaic.Lib.Pipeline.ValueKit

@[expose] public section

set_option maxRecDepth 16384

noncomputable section

namespace Cert.XAttnBackIdeal.Head

open Cert.XAttnBackIdeal Cert.XAttnBackIdeal.Gen Idealize.ShloMosaic Entries HeadsOut HeadsBack

/-! ## The arrays of a head, as the kernel computes them from its slices -/

section
variable (q : FVec Ideal S256x256 .f32) (k v o : FVec Ideal S256x256 .bf16) (w : FVec Ideal S1x256 .f32)

def lanes (x : FVec Ideal S256x256 .f32) : FVec Ideal S256x1 .f32 :=
  shapeCast S256x1 (multiReduction .add [1] S256 x 0x00000000#32 reduces_S256x256_S256 (.inl rfl) rfl) shapeCasts_S256_S256x1
def hRq : FVec Ideal S256x1 .f32 :=
  rsqrt (addf (divf (lanes (mulf q q)) (broadcast S256x1 (Scalar.ofBits .f32 0x43800000#32))) (broadcast S256x1 (Scalar.ofBits .f32 0x358637BD#32)))
def hXh : FVec Ideal S256x256 .f32 := mulf q (broadcastTo S256x256 (hRq q) broadcasts_S256x1_S256x256)
def hQn : FVec Ideal S256x256 .bf16 := truncf .bf16 (mulf (hXh q) (broadcastTo S256x256 w broadcasts_S1x256_S256x256)) bitsLt_bf16_f32
def hS : FVec Ideal S256x256 .f32 :=
  mulf (matmul dot_S256x256_S256x256_S256x256_1_1_0_0_n_n none (hQn q w) k (constant S256x256 .f32 0x00000000#32)) (broadcast S256x256 (Scalar.ofBits .f32 0x3D800000#32))
def hM : FVec Ideal S256x1 .f32 :=
  shapeCast S256x1 (multiReduction .maximumf [1] S256 (hS q k w) 0xFF800000#32 reduces_S256x256_S256 (.inl rfl) rfl) shapeCasts_S256_S256x1
def hE (s : FVec Ideal S256x256 .f32) (M : FVec Ideal S256x1 .f32) : FVec Ideal S256x256 .f32 :=
  exp (subf s (broadcastTo S256x256 M broadcasts_S256x1_S256x256))
def hP : FVec Ideal S256x256 .f32 :=
  divf (hE (hS q k w) (hM q k w)) (broadcastTo S256x256 (lanes (hE (hS q k w) (hM q k w))) broadcasts_S256x1_S256x256)
def hDp : FVec Ideal S256x256 .f32 := matmul dot_S256x256_S256x256_S256x256_1_1_0_0_n_n none o v (constant S256x256 .f32 0x00000000#32)
def hDs : FVec Ideal S256x256 .bf16 :=
  truncf .bf16 (mulf (mulf (hP q k w) (subf (hDp v o) (broadcastTo S256x256 (lanes (mulf (hDp v o) (hP q k w))) broadcasts_S256x1_S256x256)))
    (broadcast S256x256 (Scalar.ofBits .f32 0x3D800000#32))) bitsLt_bf16_f32
def hG : FVec Ideal S256x256 .f32 := matmul dot_S256x256_S256x256_S256x256_1_0_0_1_n_n none (hDs q k v o w) k (constant S256x256 .f32 0x00000000#32)
def hDk : FVec Ideal S256x256 .f32 := matmul dot_S256x256_S256x256_S256x256_0_0_1_1_n_n none (hDs q k v o w) (hQn q w) (constant S256x256 .f32 0x00000000#32)
def hDv : FVec Ideal S256x256 .f32 :=
  matmul dot_S256x256_S256x256_S256x256_0_0_1_1_n_n none (truncf .bf16 (hP q k w) bitsLt_bf16_f32) o (constant S256x256 .f32 0x00000000#32)
def hDw : FVec Ideal S1x256 .f32 :=
  shapeCast S1x256 (multiReduction .add [0] S256 (mulf (hG q k v o w) (hXh q)) 0x00000000#32 reduces_S256x256_S256_2 (.inl rfl) rfl) shapeCasts_S256_S1x256
def hX : FVec Ideal S256x256 .f32 := mulf (hG q k v o w) (broadcastTo S256x256 w broadcasts_S1x256_S256x256)
def hDq : FVec Ideal S256x256 .f32 :=
  mulf (broadcastTo S256x256 (hRq q) broadcasts_S256x1_S256x256)
    (subf (hX q k v o w) (mulf (hXh q) (broadcastTo S256x256 (divf (lanes (mulf (hX q k v o w) (hXh q))) (broadcast S256x1 (Scalar.ofBits .f32 0x43800000#32))) broadcasts_S256x1_S256x256)))
end

/-! ## Their entries -/

section
variable {q : FVec Ideal S256x256 .f32} {k v o : FVec Ideal S256x256 .bf16} {w : FVec Ideal S1x256 .f32}
  {Q K V O : Fin 256 → Fin 256 → EReal} {W : Fin 256 → EReal}
  (hq : ∀ a d, q (ix2 a d) = (Q a d)) (hk : ∀ a d, k (ix2 a d) = (K a d))
  (hv : ∀ a d, v (ix2 a d) = (V a d)) (ho : ∀ a d, o (ix2 a d) = (O a d))
  (hw : ∀ d, w (ix2 (0 : Fin 1) d) = (W d))

theorem lanes_at (x : FVec Ideal S256x256 .f32) (a : Fin 256) : lanes x (ix2 a (0 : Fin 1)) = ∑ d : Fin 256, x (ix2 a d) := by
  unfold lanes
  pointwise

include hq in
theorem hRq_at (a : Fin 256) : hRq q (ix2 a (0 : Fin 1)) = er (Q a) := by
  have e : hRq q (ix2 a (0 : Fin 1)) =
      Ideal.rsqrt (Ideal.div (∑ d : Fin 256, q (ix2 a d) * q (ix2 a d)) (Ideal.ofBits .f32 0x43800000#32) + Ideal.ofBits .f32 0x358637BD#32) := by
    have l := lanes_at (mulf q q) a
    unfold hRq
    generalize lanes (mulf q q) = y at *
    pointwise
    rw [l]
    rfl
  rw [e]
  simp only [hq]
  rfl

include hq in
theorem hXh_at (a d : Fin 256) : hXh q (ix2 a d) = exh (Q a) d := by
  have e : hXh q (ix2 a d) = q (ix2 a d) * hRq q (ix2 a (0 : Fin 1)) := by
    unfold hXh
    generalize hRq q = y
    pointwise
  rw [e, hq, hRq_at hq]
  rfl

include hq hw in
theorem hQn_at (a d : Fin 256) : hQn q w (ix2 a d) = en (Q a) W d := by
  have e : hQn q w (ix2 a d) = hXh q (ix2 a d) * w (ix2 (0 : Fin 1) d) := by
    unfold hQn
    generalize hXh q = y
    pointwise
  rw [e, hXh_at hq, hw]
  rfl

include hq hk hw in
theorem hS_at (a m : Fin 256) : hS q k w (ix2 a m) = es (Q a) W K m := by
  have e : hS q k w (ix2 a m) = (∑ d : Fin 256, hQn q w (ix2 a d) * k (ix2 m d)) * Ideal.ofBits .f32 0x3D800000#32 := by
    unfold hS
    generalize hQn q w = y
    pointwise
  rw [e]
  simp only [hQn_at hq hw, hk]
  rfl

include hq hk hw in
theorem hM_at (a : Fin 256) : hM q k w (ix2 a (0 : Fin 1)) = eM (Q a) W K := by
  have e : hM q k w (ix2 a (0 : Fin 1)) = (Finset.univ : Finset (Fin 256)).fold max (Ideal.ofBits .f32 0xFF800000#32) (fun m => hS q k w (ix2 a m)) := by
    unfold hM
    generalize hS q k w = y
    pointwise
  rw [e, funext fun m => hS_at hq hk hw a m]
  rfl

include hq hk hw in
theorem hE_at (a m : Fin 256) : hE (hS q k w) (hM q k w) (ix2 a m) = ee (Q a) W K m := by
  have e : hE (hS q k w) (hM q k w) (ix2 a m) = Ideal.exp (hS q k w (ix2 a m) - hM q k w (ix2 a (0 : Fin 1))) := by
    unfold hE
    generalize hS q k w = y
    generalize hM q k w = z
    pointwise
  rw [e, hS_at hq hk hw, hM_at hq hk hw]
  rfl

include hq hk hw in
theorem hP_at (a m : Fin 256) : hP q k w (ix2 a m) = ep (Q a) W K m := by
  have e : hP q k w (ix2 a m) = Ideal.div (hE (hS q k w) (hM q k w) (ix2 a m)) (∑ m' : Fin 256, hE (hS q k w) (hM q k w) (ix2 a m')) := by
    rw [← lanes_at]
    unfold hP
    generalize lanes (hE (hS q k w) (hM q k w)) = z
    generalize hE (hS q k w) (hM q k w) = y
    pointwise
  rw [e]
  simp only [hE_at hq hk hw]
  rfl

include hv ho in
theorem hDp_at (a m : Fin 256) : hDp v o (ix2 a m) = edp (O a) V m := by
  have e : hDp v o (ix2 a m) = ∑ d : Fin 256, o (ix2 a d) * v (ix2 m d) := by
    unfold hDp
    pointwise
  rw [e]
  simp only [hv, ho]
  rfl

include hq hk hv ho hw in
theorem hDs_at (a m : Fin 256) : hDs q k v o w (ix2 a m) = eds (Q a) W K V (O a) m := by
  have l := lanes_at (mulf (hDp v o) (hP q k w)) a
  have l' : ∀ d, mulf (hDp v o) (hP q k w) (ix2 a d) = hDp v o (ix2 a d) * hP q k w (ix2 a d) := fun _ => rfl
  have e : hDs q k v o w (ix2 a m) = hP q k w (ix2 a m) * (hDp v o (ix2 a m) - ∑ d : Fin 256, hDp v o (ix2 a d) * hP q k w (ix2 a d)) *
      Ideal.ofBits .f32 0x3D800000#32 := by
    simp only [l'] at l
    rw [← l]
    unfold hDs
    generalize lanes (mulf (hDp v o) (hP q k w)) = z
    generalize hP q k w = y
    generalize hDp v o = x
    pointwise
  rw [e]
  simp only [hP_at hq hk hw, hDp_at hv ho]
  rfl

include hq hk hv ho hw in
theorem hG_at (a d : Fin 256) : hG q k v o w (ix2 a d) = eg (Q a) W K V (O a) d := by
  have e : hG q k v o w (ix2 a d) = ∑ m : Fin 256, hDs q k v o w (ix2 a m) * k (ix2 m d) := by
    unfold hG
    generalize hDs q k v o w = y
    pointwise
  rw [e]
  simp only [hDs_at hq hk hv ho hw, hk]
  rfl

include hq hk hv ho hw in
theorem hDk_at (m d : Fin 256) : hDk q k v o w (ix2 m d) = ∑ a, eds (Q a) W K V (O a) m * en (Q a) W d := by
  have e : hDk q k v o w (ix2 m d) = ∑ a : Fin 256, hDs q k v o w (ix2 a m) * hQn q w (ix2 a d) := by
    unfold hDk
    generalize hDs q k v o w = y
    generalize hQn q w = z
    pointwise
  rw [e]
  simp only [hDs_at hq hk hv ho hw, hQn_at hq hw]

include hq hk ho hw in
theorem hDv_at (m d : Fin 256) : hDv q k o w (ix2 m d) = ∑ a, ep (Q a) W K m * O a d := by
  have e : hDv q k o w (ix2 m d) = ∑ a : Fin 256, hP q k w (ix2 a m) * o (ix2 a d) := by
    unfold hDv
    generalize hP q k w = y
    pointwise
  rw [e]
  simp only [hP_at hq hk hw, ho]

include hq hk hv ho hw in
theorem hDw_at (d : Fin 256) : hDw q k v o w (ix2 (0 : Fin 1) d) = ∑ a, eg (Q a) W K V (O a) d * exh (Q a) d := by
  have e : hDw q k v o w (ix2 (0 : Fin 1) d) = ∑ a : Fin 256, hG q k v o w (ix2 a d) * hXh q (ix2 a d) := by
    unfold hDw
    generalize hG q k v o w = y
    generalize hXh q = z
    pointwise
  rw [e]
  simp only [hG_at hq hk hv ho hw, hXh_at hq]

include hq hk hv ho hw in
theorem hDq_at (a d : Fin 256) : hDq q k v o w (ix2 a d) = edq (Q a) W (eg (Q a) W K V (O a)) d := by
  have hx (d : Fin 256) : hX q k v o w (ix2 a d) = eg (Q a) W K V (O a) d * W d := by
    have e : hX q k v o w (ix2 a d) = hG q k v o w (ix2 a d) * w (ix2 (0 : Fin 1) d) := by
      unfold hX
      generalize hG q k v o w = y
      pointwise
    rw [e, hG_at hq hk hv ho hw, hw]
  have l := lanes_at (mulf (hX q k v o w) (hXh q)) a
  have l' : ∀ d, mulf (hX q k v o w) (hXh q) (ix2 a d) = hX q k v o w (ix2 a d) * hXh q (ix2 a d) := fun _ => rfl
  have e : hDq q k v o w (ix2 a d) = hRq q (ix2 a (0 : Fin 1)) * (hX q k v o w (ix2 a d) - hXh q (ix2 a d) *
      Ideal.div (∑ d : Fin 256, hX q k v o w (ix2 a d) * hXh q (ix2 a d)) (Ideal.ofBits .f32 0x43800000#32)) := by
    simp only [l'] at l
    rw [← l]
    unfold hDq
    generalize lanes (mulf (hX q k v o w) (hXh q)) = z
    generalize hX q k v o w = y
    generalize hXh q = x
    generalize hRq q = u
    pointwise
  rw [e]
  simp only [hx, hXh_at hq, hRq_at hq]
  rfl
end

end Cert.XAttnBackIdeal.Head

end
-- ==== Proof.AttnTerms.lean ====
/- What a point of the cross-attention's gradient leaves in its blocks: the four heads' arrays side by side, the
   accumulated ones added to what the point before left. -/
module

public import proofs.«01_k».proof.Proof.AttnHead
public import proofs.«01_k».proof.Proof.Gen.XAttnBackIdeal.Value
public import Idealize.ShloMosaic.Lib.Pipeline.ValueKit
public import Idealize.ShloMosaic.Lib.Pipeline.ReadBack

@[expose] public section

set_option maxRecDepth 16384

noncomputable section

namespace Cert.XAttnBackIdeal.Head

open Cert.XAttnBackIdeal Cert.XAttnBackIdeal.Gen Idealize.ShloMosaic Idealize.ShloMosaic.TcCoe Idealize.SL.Sem

theorem hz : (![0, 0] : Fin 2 → ℕ) = fun _ => 0 := by decide

section
variable (x0 : Vec Ideal S256x1024 .f32) (x1 x2 x3 : Vec Ideal S256x1024 .bf16) (x4 : Vec Ideal S1x256 .f32)

/-- The four heads' arrays side by side, and the sum of their weight gradients. -/
def catDq : FVec Ideal S256x1024 .f32 :=
  concatenate S256x1024 1 [⟨S256x256, hDq (extractStridedSlice S256x256 ![0, 0] x0 slices_S256x1024_o0_0_S256x256) (extractStridedSlice S256x256 ![0, 0] x2 slices_S256x1024_o0_0_S256x256) (extractStridedSlice S256x256 ![0, 0] x3 slices_S256x1024_o0_0_S256x256) (extractStridedSlice S256x256 ![0, 0] x1 slices_S256x1024_o0_0_S256x256) x4⟩, ⟨S256x256, hDq (extractStridedSlice S256x256 ![0, 256] x0 slices_S256x1024_o0_256_S256x256) (extractStridedSlice S256x256 ![0, 256] x2 slices_S256x1024_o0_256_S256x256) (extractStridedSlice S256x256 ![0, 256] x3 slices_S256x1024_o0_256_S256x256) (extractStridedSlice S256x256 ![0, 256] x1 slices_S256x1024_o0_256_S256x256) x4⟩, ⟨S256x256, hDq (extractStridedSlice S256x256 ![0, 512] x0 slices_S256x1024_o0_512_S256x256) (extractStridedSlice S256x256 ![0, 512] x2 slices_S256x1024_o0_512_S256x256) (extractStridedSlice S256x256 ![0, 512] x3 slices_S256x1024_o0_512_S256x256) (extractStridedSlice S256x256 ![0, 512] x1 slices_S256x1024_o0_512_S256x256) x4⟩, ⟨S256x256, hDq (extractStridedSlice S256x256 ![0, 768] x0 slices_S256x1024_o0_768_S256x256) (extractStridedSlice S256x256 ![0, 768] x2 slices_S256x1024_o0_768_S256x256) (extractStridedSlice S256x256 ![0, 768] x3 slices_S256x1024_o0_768_S256x256) (extractStridedSlice S256x256 ![0, 768] x1 slices_S256x1024_o0_768_S256x256) x4⟩] concatenates_S256x256_S256x256_S256x256_S256x256_S256x1024_d1
def catDk : FVec Ideal S256x1024 .f32 :=
  concatenate S256x1024 1 [⟨S256x256, hDk (extractStridedSlice S256x256 ![0, 0] x0 slices_S256x1024_o0_0_S256x256) (extractStridedSlice S256x256 ![0, 0] x2 slices_S256x1024_o0_0_S256x256) (extractStridedSlice S256x256 ![0, 0] x3 slices_S256x1024_o0_0_S256x256) (extractStridedSlice S256x256 ![0, 0] x1 slices_S256x1024_o0_0_S256x256) x4⟩, ⟨S256x256, hDk (extractStridedSlice S256x256 ![0, 256] x0 slices_S256x1024_o0_256_S256x256) (extractStridedSlice S256x256 ![0, 256] x2 slices_S256x1024_o0_256_S256x256) (extractStridedSlice S256x256 ![0, 256] x3 slices_S256x1024_o0_256_S256x256) (extractStridedSlice S256x256 ![0, 256] x1 slices_S256x1024_o0_256_S256x256) x4⟩, ⟨S256x256, hDk (extractStridedSlice S256x256 ![0, 512] x0 slices_S256x1024_o0_512_S256x256) (extractStridedSlice S256x256 ![0, 512] x2 slices_S256x1024_o0_512_S256x256) (extractStridedSlice S256x256 ![0, 512] x3 slices_S256x1024_o0_512_S256x256) (extractStridedSlice S256x256 ![0, 512] x1 slices_S256x1024_o0_512_S256x256) x4⟩, ⟨S256x256, hDk (extractStridedSlice S256x256 ![0, 768] x0 slices_S256x1024_o0_768_S256x256) (extractStridedSlice S256x256 ![0, 768] x2 slices_S256x1024_o0_768_S256x256) (extractStridedSlice S256x256 ![0, 768] x3 slices_S256x1024_o0_768_S256x256) (extractStridedSlice S256x256 ![0, 768] x1 slices_S256x1024_o0_768_S256x256) x4⟩] concatenates_S256x256_S256x256_S256x256_S256x256_S256x1024_d1
def catDv : FVec Ideal S256x1024 .f32 :=
  concatenate S256x1024 1 [⟨S256x256, hDv (extractStridedSlice S256x256 ![0, 0] x0 slices_S256x1024_o0_0_S256x256) (extractStridedSlice S256x256 ![0, 0] x2 slices_S256x1024_o0_0_S256x256) (extractStridedSlice S256x256 ![0, 0] x1 slices_S256x1024_o0_0_S256x256) x4⟩, ⟨S256x256, hDv (extractStridedSlice S256x256 ![0, 256] x0 slices_S256x1024_o0_256_S256x256) (extractStridedSlice S256x256 ![0, 256] x2 slices_S256x1024_o0_256_S256x256) (extractStridedSlice S256x256 ![0, 256] x1 slices_S256x1024_o0_256_S256x256) x4⟩, ⟨S256x256, hDv (extractStridedSlice S256x256 ![0, 512] x0 slices_S256x1024_o0_512_S256x256) (extractStridedSlice S256x256 ![0, 512] x2 slices_S256x1024_o0_512_S256x256) (extractStridedSlice S256x256 ![0, 512] x1 slices_S256x1024_o0_512_S256x256) x4⟩, ⟨S256x256, hDv (extractStridedSlice S256x256 ![0, 768] x0 slices_S256x1024_o0_768_S256x256) (extractStridedSlice S256x256 ![0, 768] x2 slices_S256x1024_o0_768_S256x256) (extractStridedSlice S256x256 ![0, 768] x1 slices_S256x1024_o0_768_S256x256) x4⟩] concatenates_S256x256_S256x256_S256x256_S256x256_S256x1024_d1
def sumDw : FVec Ideal S1x256 .f32 :=
  (addf (addf (addf (addf (k0_pay3 (F := Ideal)) (hDw (extractStridedSlice S256x256 ![0, 0] x0 slices_S256x1024_o0_0_S256x256) (extractStridedSlice S256x256 ![0, 0] x2 slices_S256x1024_o0_0_S256x256) (extractStridedSlice S256x256 ![0, 0] x3 slices_S256x1024_o0_0_S256x256) (extractStridedSlice S256x256 ![0, 0] x1 slices_S256x1024_o0_0_S256x256) x4)) (hDw (extractStridedSlice S256x256 ![0, 256] x0 slices_S256x1024_o0_256_S256x256) (extractStridedSlice S256x256 ![0, 256] x2 slices_S256x1024_o0_256_S256x256) (extractStridedSlice S256x256 ![0, 256] x3 slices_S256x1024_o0_256_S256x256) (extractStridedSlice S256x256 ![0, 256] x1 slices_S256x1024_o0_256_S256x256) x4)) (hDw (extractStridedSlice S256x256 ![0, 512] x0 slices_S256x1024_o0_512_S256x256) (extractStridedSlice S256x256 ![0, 512] x2 slices_S256x1024_o0_512_S256x256) (extractStridedSlice S256x256 ![0, 512] x3 slices_S256x1024_o0_512_S256x256) (extractStridedSlice S256x256 ![0, 512] x1 slices_S256x1024_o0_512_S256x256) x4)) (hDw (extractStridedSlice S256x256 ![0, 768] x0 slices_S256x1024_o0_768_S256x256) (extractStridedSlice S256x256 ![0, 768] x2 slices_S256x1024_o0_768_S256x256) (extractStridedSlice S256x256 ![0, 768] x3 slices_S256x1024_o0_768_S256x256) (extractStridedSlice S256x256 ![0, 768] x1 slices_S256x1024_o0_768_S256x256) x4))
end

section
variable (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S1x256 .f32) (harg5 : arg5.IsWhole) (arg6 : Memref sig .tc .vmem S256x1024 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S1x256 .f32) (harg9 : arg9.IsWhole)
  (x0 : Vec Ideal S256x1024 .f32) (x1 x2 x3 : Vec Ideal S256x1024 .bf16) (x4 : Vec Ideal S1x256 .f32)
  (xo6 xo7 : Vec Ideal S256x1024 .f32) (xo8 : Vec Ideal S1x256 .f32)

theorem out_A5 (hc0 : cond0_0 i) (hc1 : cond0_1 i) (hc2 : cond0_2 i) :
    out0_A_5 (F := Ideal) c i arg1 harg1 arg2 harg2 arg3 harg3 arg4 harg4 arg5 harg5 arg6 harg6 arg7 harg7 arg8 harg8 arg9 harg9 hc0 hc1 hc2 x0 x1 x2 x3 x4 = (truncf .bf16 (catDq x0 x1 x2 x3 x4) bitsLt_bf16_f32 : FVec Ideal S256x1024 .bf16) := by
  unfold out0_A_5
  rw [View.read_writes_eq_canon _ _ _ (cover0_A_5 c i arg1 harg1 arg2 harg2 arg3 harg3 arg4 harg4 arg5 harg5 arg6 harg6 arg7 harg7 arg8 harg8 arg9 harg9 hc0 hc1 hc2 x0 x1 x2 x3 x4)]
  unfold kernelRun0_A
  dsimp only
  sl_unfold_words
  rw [View.canon_cons_unit_zero (S := S256x1024) hz]
  simp only [View.readAt_eq_ld, harg1.read_unread, harg2.read_unread, harg3.read_unread, harg4.read_unread, harg5.read_unread, harg7.read_unread, harg8.read_unread, harg9.read_unread, View.ld_unit_zero (S := S256x1024) hz, View.ld_unit_zero (S := S1x256) hz]
  rfl

theorem out_A6 (hc0 : cond0_0 i) (hc1 : cond0_1 i) (hc2 : cond0_2 i) :
    out0_A_6 (F := Ideal) c i arg1 harg1 arg2 harg2 arg3 harg3 arg4 harg4 arg5 harg5 arg6 harg6 arg7 harg7 arg8 harg8 arg9 harg9 hc0 hc1 hc2 x0 x1 x2 x3 x4 = (addf (k0_pay60 (F := Ideal)) (catDk x0 x1 x2 x3 x4) : FVec Ideal S256x1024 .f32) := by
  unfold out0_A_6
  rw [View.read_writes_eq_canon _ _ _ (cover0_A_6 c i arg1 harg1 arg2 harg2 arg3 harg3 arg4 harg4 arg5 harg5 arg6 harg6 arg7 harg7 arg8 harg8 arg9 harg9 hc0 hc1 hc2 x0 x1 x2 x3 x4)]
  unfold kernelRun0_A
  dsimp only
  sl_unfold_words
  rw [View.canon_cons_unit_zero (S := S256x1024) hz]
  rw [View.readCov_unit_zero (S := S256x1024) _ hz]
  simp only [View.readAt_eq_ld, harg1.read_unread, harg2.read_unread, harg3.read_unread, harg4.read_unread, harg5.read_unread, harg7.read_unread, harg8.read_unread, harg9.read_unread, View.ld_unit_zero (S := S256x1024) hz, View.ld_unit_zero (S := S1x256) hz]
  unfold k0_pay61
  simp only [shapeCast_self]
  rfl

theorem out_A7 (hc0 : cond0_0 i) (hc1 : cond0_1 i) (hc2 : cond0_2 i) :
    out0_A_7 (F := Ideal) c i arg1 harg1 arg2 harg2 arg3 harg3 arg4 harg4 arg5 harg5 arg6 harg6 arg7 harg7 arg8 harg8 arg9 harg9 hc0 hc1 hc2 x0 x1 x2 x3 x4 = (addf (k0_pay62 (F := Ideal)) (catDv x0 x1 x2 x4) : FVec Ideal S256x1024 .f32) := by
  unfold out0_A_7
  rw [View.read_writes_eq_canon _ _ _ (cover0_A_7 c i arg1 harg1 arg2 harg2 arg3 harg3 arg4 harg4 arg5 harg5 arg6 harg6 arg7 harg7 arg8 harg8 arg9 harg9 hc0 hc1 hc2 x0 x1 x2 x3 x4)]
  unfold kernelRun0_A
  dsimp only
  sl_unfold_words
  rw [View.canon_cons_unit_zero (S := S256x1024) hz]
  rw [View.readCov_unit_zero (S := S256x1024) _ hz]
  simp only [View.readAt_eq_ld, harg1.read_unread, harg2.read_unread, harg3.read_unread, harg4.read_unread, harg5.read_unread, harg7.read_unread, harg8.read_unread, harg9.read_unread, View.ld_unit_zero (S := S256x1024) hz, View.ld_unit_zero (S := S1x256) hz]
  unfold k0_pay63
  simp only [shapeCast_self]
  rfl

theorem out_A8 (hc0 : cond0_0 i) (hc1 : cond0_1 i) (hc2 : cond0_2 i) :
    out0_A_8 (F := Ideal) c i arg1 harg1 arg2 harg2 arg3 harg3 arg4 harg4 arg5 harg5 arg6 harg6 arg7 harg7 arg8 harg8 arg9 harg9 hc0 hc1 hc2 x0 x1 x2 x3 x4 = (addf (k0_pay1 (F := Ideal)) (sumDw x0 x1 x2 x3 x4) : FVec Ideal S1x256 .f32) := by
  unfold out0_A_8
  rw [View.read_writes_eq_canon _ _ _ (cover0_A_8 c i arg1 harg1 arg2 harg2 arg3 harg3 arg4 harg4 arg5 harg5 arg6 harg6 arg7 harg7 arg8 harg8 arg9 harg9 hc0 hc1 hc2 x0 x1 x2 x3 x4)]
  unfold kernelRun0_A
  dsimp only
  sl_unfold_words
  rw [View.canon_cons_unit_zero (S := S1x256) hz]
  rw [View.readCov_unit_zero (S := S1x256) _ hz]
  simp only [View.readAt_eq_ld, harg1.read_unread, harg2.read_unread, harg3.read_unread, harg4.read_unread, harg5.read_unread, harg7.read_unread, harg8.read_unread, harg9.read_unread, View.ld_unit_zero (S := S256x1024) hz, View.ld_unit_zero (S := S1x256) hz]
  unfold k0_pay2
  simp only [shapeCast_self]
  rfl

theorem out_B5 (hc0 : ¬cond0_0 i) (hc1 : ¬cond0_1 i) (hc2 : ¬cond0_2 i) :
    out0_B_5 (F := Ideal) c i arg1 harg1 arg2 harg2 arg3 harg3 arg4 harg4 arg5 harg5 arg6 harg6 arg7 harg7 arg8 harg8 arg9 harg9 hc0 hc1 hc2 x0 x1 x2 x3 x4 xo6 xo7 xo8 = (truncf .bf16 (catDq x0 x1 x2 x3 x4) bitsLt_bf16_f32 : FVec Ideal S256x1024 .bf16) := by
  unfold out0_B_5
  rw [View.read_writes_eq_canon _ _ _ (cover0_B_5 c i arg1 harg1 arg2 harg2 arg3 harg3 arg4 harg4 arg5 harg5 arg6 harg6 arg7 harg7 arg8 harg8 arg9 harg9 hc0 hc1 hc2 x0 x1 x2 x3 x4 xo6 xo7 xo8)]
  unfold kernelRun0_B
  dsimp only
  sl_unfold_words
  rw [View.canon_cons_unit_zero (S := S256x1024) hz]
  simp only [View.readAt_eq_ld, harg1.read_unread, harg2.read_unread, harg3.read_unread, harg4.read_unread, harg5.read_unread, harg7.read_unread, harg8.read_unread, harg9.read_unread, View.ld_unit_zero (S := S256x1024) hz, View.ld_unit_zero (S := S1x256) hz]
  rfl

theorem out_B6 (hc0 : ¬cond0_0 i) (hc1 : ¬cond0_1 i) (hc2 : ¬cond0_2 i) :
    out0_B_6 (F := Ideal) c i arg1 harg1 arg2 harg2 arg3 harg3 arg4 harg4 arg5 harg5 arg6 harg6 arg7 harg7 arg8 harg8 arg9 harg9 hc0 hc1 hc2 x0 x1 x2 x3 x4 xo6 xo7 xo8 = (addf xo6 (catDk x0 x1 x2 x3 x4) : FVec Ideal S256x1024 .f32) := by
  unfold out0_B_6
  rw [View.read_writes_eq_canon _ _ _ (cover0_B_6 c i arg1 harg1 arg2 harg2 arg3 harg3 arg4 harg4 arg5 harg5 arg6 harg6 arg7 harg7 arg8 harg8 arg9 harg9 hc0 hc1 hc2 x0 x1 x2 x3 x4 xo6 xo7 xo8)]
  unfold kernelRun0_B
  dsimp only
  sl_unfold_words
  rw [View.canon_cons_unit_zero (S := S256x1024) hz]
  simp only [View.readAt_eq_ld, harg1.read_unread, harg2.read_unread, harg3.read_unread, harg4.read_unread, harg5.read_unread, harg7.read_unread, harg8.read_unread, harg9.read_unread, View.ld_unit_zero (S := S256x1024) hz, View.ld_unit_zero (S := S1x256) hz]
  unfold k0_pay61
  simp only [shapeCast_self]
  rfl

theorem out_B7 (hc0 : ¬cond0_0 i) (hc1 : ¬cond0_1 i) (hc2 : ¬cond0_2 i) :
    out0_B_7 (F := Ideal) c i arg1 harg1 arg2 harg2 arg3 harg3 arg4 harg4 arg5 harg5 arg6 harg6 arg7 harg7 arg8 harg8 arg9 harg9 hc0 hc1 hc2 x0 x1 x2 x3 x4 xo6 xo7 xo8 = (addf xo7 (catDv x0 x1 x2 x4) : FVec Ideal S256x1024 .f32) := by
  unfold out0_B_7
  rw [View.read_writes_eq_canon _ _ _ (cover0_B_7 c i arg1 harg1 arg2 harg2 arg3 harg3 arg4 harg4 arg5 harg5 arg6 harg6 arg7 harg7 arg8 harg8 arg9 harg9 hc0 hc1 hc2 x0 x1 x2 x3 x4 xo6 xo7 xo8)]
  unfold kernelRun0_B
  dsimp only
  sl_unfold_words
  rw [View.canon_cons_unit_zero (S := S256x1024) hz]
  simp only [View.readAt_eq_ld, harg1.read_unread, harg2.read_unread, harg3.read_unread, harg4.read_unread, harg5.read_unread, harg7.read_unread, harg8.read_unread, harg9.read_unread, View.ld_unit_zero (S := S256x1024) hz, View.ld_unit_zero (S := S1x256) hz]
  unfold k0_pay63
  simp only [shapeCast_self]
  rfl

theorem out_B8 (hc0 : ¬cond0_0 i) (hc1 : ¬cond0_1 i) (hc2 : ¬cond0_2 i) :
    out0_B_8 (F := Ideal) c i arg1 harg1 arg2 harg2 arg3 harg3 arg4 harg4 arg5 harg5 arg6 harg6 arg7 harg7 arg8 harg8 arg9 harg9 hc0 hc1 hc2 x0 x1 x2 x3 x4 xo6 xo7 xo8 = (addf xo8 (sumDw x0 x1 x2 x3 x4) : FVec Ideal S1x256 .f32) := by
  unfold out0_B_8
  rw [View.read_writes_eq_canon _ _ _ (cover0_B_8 c i arg1 harg1 arg2 harg2 arg3 harg3 arg4 harg4 arg5 harg5 arg6 harg6 arg7 harg7 arg8 harg8 arg9 harg9 hc0 hc1 hc2 x0 x1 x2 x3 x4 xo6 xo7 xo8)]
  unfold kernelRun0_B
  dsimp only
  sl_unfold_words
  rw [View.canon_cons_unit_zero (S := S1x256) hz]
  simp only [View.readAt_eq_ld, harg1.read_unread, harg2.read_unread, harg3.read_unread, harg4.read_unread, harg5.read_unread, harg7.read_unread, harg8.read_unread, harg9.read_unread, View.ld_unit_zero (S := S256x1024) hz, View.ld_unit_zero (S := S1x256) hz]
  unfold k0_pay2
  simp only [shapeCast_self]
  rfl

end

end Cert.XAttnBackIdeal.Head

end
-- ==== Proof.AttnArrays.lean ====
/- The arrays the cross-attention's gradient leaves: the query's gradient block by block, the gradients of the keys, the
   values and the weight added up over the thirty-two blocks of rows. -/
module

public import proofs.«01_k».proof.Proof.AttnTerms
public import proofs.«01_k».proof.Proof.Blocked

@[expose] public section

set_option maxRecDepth 16384

open Finset

noncomputable section

namespace Cert.XAttnBackIdeal.Head

open Cert.XAttnBackIdeal Cert.XAttnBackIdeal.Gen Idealize.ShloMosaic Idealize.ShloMosaic.TcCoe Idealize.SL.Sem Blocked Entries HeadsOut HeadsBack
open Heads (lane)

/-! ## A block -/

/-- Four arrays side by side, entry by entry. -/
theorem cat_at (y0 y1 y2 y3 : FVec Ideal S256x256 .f32) (f : ℕ → Fin 256 → EReal) (a : Fin 256)
    (h0 : ∀ d, y0 (ix2 a d) = f 0 d) (h1 : ∀ d, y1 (ix2 a d) = f 1 d) (h2 : ∀ d, y2 (ix2 a d) = f 2 d) (h3 : ∀ d, y3 (ix2 a d) = f 3 d)
    (j : Fin 1024) :
    concatenate S256x1024 1 [⟨S256x256, y0⟩, ⟨S256x256, y1⟩, ⟨S256x256, y2⟩, ⟨S256x256, y3⟩]
      concatenates_S256x256_S256x256_S256x256_S256x256_S256x1024_d1 (ix2 a j) = f (j.val / 256) (lane j.val) := by
  pointwise
  simp only [h0, h1, h2, h3]
  have hj := j.isLt
  split_ifs
  all_goals first
    | (exfalso; omega)
    | exact absurd rfl (by assumption)
    | (rw [show j.val / 256 = 0 by omega]; exact congrArg (f 0) (Fin.ext (by show _ = j.val % 256; dsimp only; omega)))
    | (rw [show j.val / 256 = 1 by omega]; exact congrArg (f 1) (Fin.ext (by show _ = j.val % 256; dsimp only; omega)))
    | (rw [show j.val / 256 = 2 by omega]; exact congrArg (f 2) (Fin.ext (by show _ = j.val % 256; dsimp only; omega)))
    | (rw [show j.val / 256 = 3 by omega]; exact congrArg (f 3) (Fin.ext (by show _ = j.val % 256; dsimp only; omega)))

theorem slice0 {φ : FTy} (x : FVec Ideal S256x1024 φ) (a d : Fin 256) :
    extractStridedSlice S256x256 ![0, 0] x slices_S256x1024_o0_0_S256x256 (ix2 a d) = x (ix2 a ⟨0 + d.val, by have := d.isLt; omega⟩) := by
  pointwise
  try rfl

theorem slice1 {φ : FTy} (x : FVec Ideal S256x1024 φ) (a d : Fin 256) :
    extractStridedSlice S256x256 ![0, 256] x slices_S256x1024_o0_256_S256x256 (ix2 a d) = x (ix2 a ⟨256 + d.val, by have := d.isLt; omega⟩) := by
  pointwise
  try rfl

theorem slice2 {φ : FTy} (x : FVec Ideal S256x1024 φ) (a d : Fin 256) :
    extractStridedSlice S256x256 ![0, 512] x slices_S256x1024_o0_512_S256x256 (ix2 a d) = x (ix2 a ⟨512 + d.val, by have := d.isLt; omega⟩) := by
  pointwise
  try rfl

theorem slice3 {φ : FTy} (x : FVec Ideal S256x1024 φ) (a d : Fin 256) :
    extractStridedSlice S256x256 ![0, 768] x slices_S256x1024_o0_768_S256x256 (ix2 a d) = x (ix2 a ⟨768 + d.val, by have := d.isLt; omega⟩) := by
  pointwise
  try rfl

section
variable {x0 : Vec Ideal S256x1024 .f32} {x1 x2 x3 : Vec Ideal S256x1024 .bf16} {x4 : Vec Ideal S1x256 .f32}
  {A0 A1 A2 A3 A4 : ℕ → ℕ → EReal} {b : ℕ}
  (h0 : ∀ (a : Fin 256) (j : Fin 1024), x0 (ix2 a j) = (A0 (b + a.val) j.val))
  (h1 : ∀ (a : Fin 256) (j : Fin 1024), x1 (ix2 a j) = (A1 (b + a.val) j.val))
  (h2 : ∀ (a : Fin 256) (j : Fin 1024), x2 (ix2 a j) = (A2 a.val j.val))
  (h3 : ∀ (a : Fin 256) (j : Fin 1024), x3 (ix2 a j) = (A3 a.val j.val))
  (h4 : ∀ d : Fin 256, x4 (ix2 (0 : Fin 1) d) = (A4 0 d.val))

include h0 h1 h2 h3 h4 in
theorem catDq_at (a : Fin 256) (j : Fin 1024) : catDq x0 x1 x2 x3 x4 (ix2 a j) = (rdq A0 A1 A2 A3 A4 (b + a.val) j.val) :=
  cat_at _ _ _ _ (fun h d => (edq (row A0 h (b + a.val)) (wts A4) (Ge A0 A1 A2 A3 A4 h (b + a.val)) d)) a
    (fun d => hDq_at (Q := fun a => row A0 0 (b + a.val)) (K := mem A2 0) (V := mem A3 0) (O := fun a => row A1 0 (b + a.val)) (W := wts A4) (fun a d => (slice0 _ a d).trans (h0 a _)) (fun a d => (slice0 _ a d).trans (h2 a _)) (fun a d => (slice0 _ a d).trans (h3 a _)) (fun a d => (slice0 _ a d).trans (h1 a _)) h4 a d)
    (fun d => hDq_at (Q := fun a => row A0 1 (b + a.val)) (K := mem A2 1) (V := mem A3 1) (O := fun a => row A1 1 (b + a.val)) (W := wts A4) (fun a d => (slice1 _ a d).trans (h0 a _)) (fun a d => (slice1 _ a d).trans (h2 a _)) (fun a d => (slice1 _ a d).trans (h3 a _)) (fun a d => (slice1 _ a d).trans (h1 a _)) h4 a d)
    (fun d => hDq_at (Q := fun a => row A0 2 (b + a.val)) (K := mem A2 2) (V := mem A3 2) (O := fun a => row A1 2 (b + a.val)) (W := wts A4) (fun a d => (slice2 _ a d).trans (h0 a _)) (fun a d => (slice2 _ a d).trans (h2 a _)) (fun a d => (slice2 _ a d).trans (h3 a _)) (fun a d => (slice2 _ a d).trans (h1 a _)) h4 a d)
    (fun d => hDq_at (Q := fun a => row A0 3 (b + a.val)) (K := mem A2 3) (V := mem A3 3) (O := fun a => row A1 3 (b + a.val)) (W := wts A4) (fun a d => (slice3 _ a d).trans (h0 a _)) (fun a d => (slice3 _ a d).trans (h2 a _)) (fun a d => (slice3 _ a d).trans (h3 a _)) (fun a d => (slice3 _ a d).trans (h1 a _)) h4 a d) j

include h0 h1 h2 h3 h4 in
theorem catDk_at (m : Fin 256) (j : Fin 1024) :
    catDk x0 x1 x2 x3 x4 (ix2 m j) = (∑ a : Fin 256, tdk A0 A1 A2 A3 A4 m j.val (b + a.val)) :=
  cat_at _ _ _ _ (fun h d => (∑ a : Fin 256, De A0 A1 A2 A3 A4 h (b + a.val) m * en (row A0 h (b + a.val)) (wts A4) d)) m
    (fun d => hDk_at (Q := fun a => row A0 0 (b + a.val)) (K := mem A2 0) (V := mem A3 0) (O := fun a => row A1 0 (b + a.val)) (W := wts A4) (fun a d => (slice0 _ a d).trans (h0 a _)) (fun a d => (slice0 _ a d).trans (h2 a _)) (fun a d => (slice0 _ a d).trans (h3 a _)) (fun a d => (slice0 _ a d).trans (h1 a _)) h4 m d)
    (fun d => hDk_at (Q := fun a => row A0 1 (b + a.val)) (K := mem A2 1) (V := mem A3 1) (O := fun a => row A1 1 (b + a.val)) (W := wts A4) (fun a d => (slice1 _ a d).trans (h0 a _)) (fun a d => (slice1 _ a d).trans (h2 a _)) (fun a d => (slice1 _ a d).trans (h3 a _)) (fun a d => (slice1 _ a d).trans (h1 a _)) h4 m d)
    (fun d => hDk_at (Q := fun a => row A0 2 (b + a.val)) (K := mem A2 2) (V := mem A3 2) (O := fun a => row A1 2 (b + a.val)) (W := wts A4) (fun a d => (slice2 _ a d).trans (h0 a _)) (fun a d => (slice2 _ a d).trans (h2 a _)) (fun a d => (slice2 _ a d).trans (h3 a _)) (fun a d => (slice2 _ a d).trans (h1 a _)) h4 m d)
    (fun d => hDk_at (Q := fun a => row A0 3 (b + a.val)) (K := mem A2 3) (V := mem A3 3) (O := fun a => row A1 3 (b + a.val)) (W := wts A4) (fun a d => (slice3 _ a d).trans (h0 a _)) (fun a d => (slice3 _ a d).trans (h2 a _)) (fun a d => (slice3 _ a d).trans (h3 a _)) (fun a d => (slice3 _ a d).trans (h1 a _)) h4 m d) j

include h0 h1 h2 h4 in
theorem catDv_at (m : Fin 256) (j : Fin 1024) :
    catDv x0 x1 x2 x4 (ix2 m j) = (∑ a : Fin 256, tdv A0 A1 A2 A4 m j.val (b + a.val)) :=
  cat_at _ _ _ _ (fun h d => (∑ a : Fin 256, Pe A0 A2 A4 h (b + a.val) m * row A1 h (b + a.val) d)) m
    (fun d => hDv_at (Q := fun a => row A0 0 (b + a.val)) (K := mem A2 0) (O := fun a => row A1 0 (b + a.val)) (W := wts A4) (fun a d => (slice0 _ a d).trans (h0 a _)) (fun a d => (slice0 _ a d).trans (h2 a _)) (fun a d => (slice0 _ a d).trans (h1 a _)) h4 m d)
    (fun d => hDv_at (Q := fun a => row A0 1 (b + a.val)) (K := mem A2 1) (O := fun a => row A1 1 (b + a.val)) (W := wts A4) (fun a d => (slice1 _ a d).trans (h0 a _)) (fun a d => (slice1 _ a d).trans (h2 a _)) (fun a d => (slice1 _ a d).trans (h1 a _)) h4 m d)
    (fun d => hDv_at (Q := fun a => row A0 2 (b + a.val)) (K := mem A2 2) (O := fun a => row A1 2 (b + a.val)) (W := wts A4) (fun a d => (slice2 _ a d).trans (h0 a _)) (fun a d => (slice2 _ a d).trans (h2 a _)) (fun a d => (slice2 _ a d).trans (h1 a _)) h4 m d)
    (fun d => hDv_at (Q := fun a => row A0 3 (b + a.val)) (K := mem A2 3) (O := fun a => row A1 3 (b + a.val)) (W := wts A4) (fun a d => (slice3 _ a d).trans (h0 a _)) (fun a d => (slice3 _ a d).trans (h2 a _)) (fun a d => (slice3 _ a d).trans (h1 a _)) h4 m d) j

include h0 h1 h2 h3 h4 in
theorem sumDw_at (d : Fin 256) :
    sumDw x0 x1 x2 x3 x4 (ix2 (0 : Fin 1) d) = (∑ a : Fin 256, tdw A0 A1 A2 A3 A4 d (b + a.val)) := by
  have e0 := hDw_at (Q := fun a => row A0 0 (b + a.val)) (K := mem A2 0) (V := mem A3 0) (O := fun a => row A1 0 (b + a.val)) (W := wts A4) (fun a d => (slice0 _ a d).trans (h0 a _)) (fun a d => (slice0 _ a d).trans (h2 a _)) (fun a d => (slice0 _ a d).trans (h3 a _)) (fun a d => (slice0 _ a d).trans (h1 a _)) h4 d
  have e1 := hDw_at (Q := fun a => row A0 1 (b + a.val)) (K := mem A2 1) (V := mem A3 1) (O := fun a => row A1 1 (b + a.val)) (W := wts A4) (fun a d => (slice1 _ a d).trans (h0 a _)) (fun a d => (slice1 _ a d).trans (h2 a _)) (fun a d => (slice1 _ a d).trans (h3 a _)) (fun a d => (slice1 _ a d).trans (h1 a _)) h4 d
  have e2 := hDw_at (Q := fun a => row A0 2 (b + a.val)) (K := mem A2 2) (V := mem A3 2) (O := fun a => row A1 2 (b + a.val)) (W := wts A4) (fun a d => (slice2 _ a d).trans (h0 a _)) (fun a d => (slice2 _ a d).trans (h2 a _)) (fun a d => (slice2 _ a d).trans (h3 a _)) (fun a d => (slice2 _ a d).trans (h1 a _)) h4 d
  have e3 := hDw_at (Q := fun a => row A0 3 (b + a.val)) (K := mem A2 3) (V := mem A3 3) (O := fun a => row A1 3 (b + a.val)) (W := wts A4) (fun a d => (slice3 _ a d).trans (h0 a _)) (fun a d => (slice3 _ a d).trans (h2 a _)) (fun a d => (slice3 _ a d).trans (h3 a _)) (fun a d => (slice3 _ a d).trans (h1 a _)) h4 d
  have e : ∀ u0 u1 u2 u3 : FVec Ideal S1x256 .f32, addf (addf (addf (addf (k0_pay3 (F := Ideal)) u0) u1) u2) u3 (ix2 (0 : Fin 1) d) =
      Ideal.ofBits .f32 0x00000000#32 + u0 (ix2 (0 : Fin 1) d) + u1 (ix2 (0 : Fin 1) d) + u2 (ix2 (0 : Fin 1) d) + u3 (ix2 (0 : Fin 1) d) :=
    fun _ _ _ _ => rfl
  unfold sumDw
  rw [e, e0, e1, e2, e3, zero_coe]
  unfold tdw
  simp only [Fin.sum_univ_four, Finset.sum_add_distrib]
  rw [EReal.coe_zero, zero_add]
  rfl
end

/-! ## The points -/

theorem idx : ∀ t : Fin cfg0.N, win0_0.index t = ![t.val, 0] ∧ win0_1.index t = ![t.val, 0] ∧
    win0_2.index t = ![0, 0] ∧ win0_3.index t = ![0, 0] ∧ win0_4.index t = ![0, 0] :=
  (by decide +kernel : ∀ t : Fin grid0.N, _)

theorem idx_out : ∀ t : Fin cfg0.N, win0_5.index t 0 = t.val ∧ win0_5.index t 1 = 0 ∧ win0_6.index t 0 = 0 ∧ win0_6.index t 1 = 0 ∧
    win0_7.index t 0 = 0 ∧ win0_7.index t 1 = 0 ∧ win0_8.index t 0 = 0 ∧ win0_8.index t 1 = 0 :=
  (by decide +kernel : ∀ t : Fin grid0.N, _)

/-- The accumulated arrays are written back at the last point. -/
theorem last : ∀ t : Fin cfg0.N, (win0_6.flush t = true → t.val = 31) ∧ (win0_7.flush t = true → t.val = 31) ∧ (win0_8.flush t = true → t.val = 31) :=
  (by decide +kernel : ∀ t : Fin grid0.N, _)

variable (m : (ℓ : Loc nD τ sig) → Buf (Elt Ideal) ℓ) (c : Dev nD)

/-- The arguments: the queries, the incoming gradient, the keys, the values, and the normalisation's weight. -/
abbrev X0 : FVec Ideal S8192x1024 .f32 := m ((c : Thread nD τ).loc main_arg0)
abbrev X1 : FVec Ideal S8192x1024 .bf16 := m ((c : Thread nD τ).loc main_arg1)
abbrev X2 : FVec Ideal S256x1024 .bf16 := m ((c : Thread nD τ).loc main_arg2)
abbrev X3 : FVec Ideal S256x1024 .bf16 := m ((c : Thread nD τ).loc main_arg3)
abbrev X4 : FVec Ideal S1x256 .f32 := m ((c : Thread nD τ).loc main_arg4)

theorem read0 (t : Fin cfg0.N) (a : Fin 256) (j : Fin 1024) :
    iblk m c 0 t (ix2 a j) = at2 (X0 m c) (256 * t.val + a.val) j.val := by
  have ht : t.val < 32 := lt_of_lt_of_eq t.isLt (show cfg0.N = 32 from N_0)
  rw [at2_of _ (by omega) (by omega)]
  blk_ext [iblk, V_main_arg0, idx t]
theorem read1 (t : Fin cfg0.N) (a : Fin 256) (j : Fin 1024) :
    iblk m c 1 t (ix2 a j) = at2 (X1 m c) (256 * t.val + a.val) j.val := by
  have ht : t.val < 32 := lt_of_lt_of_eq t.isLt (show cfg0.N = 32 from N_0)
  rw [at2_of _ (by omega) (by omega)]
  blk_ext [iblk, V_main_arg1, idx t]
theorem read2 (t : Fin cfg0.N) (a : Fin 256) (j : Fin 1024) :
    iblk m c 2 t (ix2 a j) = at2 (X2 m c) a.val j.val := by
  rw [at2_of _ (by omega) (by omega)]
  blk_ext [iblk, V_main_arg2, idx t]
theorem read3 (t : Fin cfg0.N) (a : Fin 256) (j : Fin 1024) :
    iblk m c 3 t (ix2 a j) = at2 (X3 m c) a.val j.val := by
  rw [at2_of _ (by omega) (by omega)]
  blk_ext [iblk, V_main_arg3, idx t]
theorem read4 (t : Fin cfg0.N) (d : Fin 256) :
    iblk m c 4 t (ix2 (0 : Fin 1) d) = at2 (X4 m c) 0 d.val := by
  rw [at2_of _ (by omega) (by omega)]
  blk_ext [iblk, V_main_arg4, idx t]

/-- The arguments' entries. -/
def A0 (i j : ℕ) : EReal := at2 (X0 m c) i j
def A1 (i j : ℕ) : EReal := at2 (X1 m c) i j
def A2 (i j : ℕ) : EReal := at2 (X2 m c) i j
def A3 (i j : ℕ) : EReal := at2 (X3 m c) i j
def A4 (i j : ℕ) : EReal := at2 (X4 m c) i j

/-- The results' entries. -/
def qGrad (i j : ℕ) : EReal := rdq (A0 m c) (A1 m c) (A2 m c) (A3 m c) (A4 m c) i j
def kTerm (k : Fin 256) (j i : ℕ) : EReal := tdk (A0 m c) (A1 m c) (A2 m c) (A3 m c) (A4 m c) k j i
def vTerm (k : Fin 256) (j i : ℕ) : EReal := tdv (A0 m c) (A1 m c) (A2 m c) (A4 m c) k j i
def wTerm (d : Fin 256) (i : ℕ) : EReal := tdw (A0 m c) (A1 m c) (A2 m c) (A3 m c) (A4 m c) d i

variable {m c}

theorem block_q (t : Fin cfg0.N) (a : Fin 256) (j : Fin 1024) :
    catDq (iblk m c 0 t) (iblk m c 1 t) (iblk m c 2 t) (iblk m c 3 t) (iblk m c 4 t) (ix2 a j) = (qGrad m c (256 * t.val + a.val) j.val) :=
  catDq_at (A0 := A0 m c) (A1 := A1 m c) (A2 := A2 m c) (A3 := A3 m c) (A4 := A4 m c) (b := 256 * t.val) (read0 m c t) (read1 m c t) (read2 m c t) (read3 m c t) (fun d => (read4 m c t d)) a j
theorem block_k (t : Fin cfg0.N) (k : Fin 256) (j : Fin 1024) :
    catDk (iblk m c 0 t) (iblk m c 1 t) (iblk m c 2 t) (iblk m c 3 t) (iblk m c 4 t) (ix2 k j) = (∑ a : Fin 256, kTerm m c k j.val (256 * t.val + a.val)) :=
  catDk_at (A0 := A0 m c) (A1 := A1 m c) (A2 := A2 m c) (A3 := A3 m c) (A4 := A4 m c) (b := 256 * t.val) (read0 m c t) (read1 m c t) (read2 m c t) (read3 m c t) (fun d => (read4 m c t d)) k j
theorem block_v (t : Fin cfg0.N) (k : Fin 256) (j : Fin 1024) :
    catDv (iblk m c 0 t) (iblk m c 1 t) (iblk m c 2 t) (iblk m c 4 t) (ix2 k j) = (∑ a : Fin 256, vTerm m c k j.val (256 * t.val + a.val)) :=
  catDv_at (A0 := A0 m c) (A1 := A1 m c) (A2 := A2 m c) (A4 := A4 m c) (b := 256 * t.val) (read0 m c t) (read1 m c t) (read2 m c t) (fun d => (read4 m c t d)) k j
theorem block_w (t : Fin cfg0.N) (d : Fin 256) :
    sumDw (iblk m c 0 t) (iblk m c 1 t) (iblk m c 2 t) (iblk m c 3 t) (iblk m c 4 t) (ix2 (0 : Fin 1) d) = (∑ a : Fin 256, wTerm m c d (256 * t.val + a.val)) :=
  sumDw_at (A0 := A0 m c) (A1 := A1 m c) (A2 := A2 m c) (A3 := A3 m c) (A4 := A4 m c) (b := 256 * t.val) (read0 m c t) (read1 m c t) (read2 m c t) (read3 m c t) (fun d => (read4 m c t d)) d

/-- What a point writes out of the query's gradient. -/
theorem flushed5 (t : Fin cfg0.N) (a : Fin 256) (j : Fin 1024) :
    (outsAt0 m c t.val t.isLt).1 (ix2 a j) = (qGrad m c (256 * t.val + a.val) j.val) := by
  by_cases h0 : t.val % 32 = 0
  · rw [outsAt0_A m c t h0 h0 h0]
    dsimp only
    rw [out_A5]
    exact block_q t a j
  · rw [outsAt0_B m c t h0 h0 h0]
    dsimp only
    rw [out_B5]
    exact block_q t a j

/-- The sum over the first block of rows. -/
theorem first (f : ℕ → EReal) : Ideal.ofBits .f32 0x00000000#32 + ∑ a : Fin 256, f (256 * 0 + a.val) = ∑ i ∈ range (256 * (0 + 1)), f i := by
  rw [zero_coe, EReal.coe_zero, zero_add]
  exact sum_first f

theorem accum6 (n : ℕ) (hn : n < cfg0.N) (k : Fin 256) (j : Fin 1024) :
    (outsAt0 m c n hn).2.1 (ix2 k j) = (∑ i ∈ range (256 * (n + 1)), kTerm m c k j.val i) := by
  induction n with
  | zero =>
    have e := outsAt0_A m c ⟨0, hn⟩ (by simp) (by simp) (by simp)
    dsimp only at e
    rw [e]
    dsimp only
    rw [out_A6]
    exact (congrArg (Ideal.ofBits .f32 0x00000000#32 + ·) (block_k ⟨0, hn⟩ k j)).trans (first (kTerm m c k j.val))
  | succ n ih =>
    have hN : n + 1 < 32 := lt_of_lt_of_eq hn (show cfg0.N = 32 from N_0)
    have h0 : ¬(n + 1) % 32 = 0 := by omega
    have e := outsAt0_B m c ⟨n + 1, hn⟩ h0 h0 h0
    dsimp only at e
    rw [e]
    dsimp only
    rw [out_B6]
    exact (congrArg₂ (· + ·) (ih (by omega)) (block_k ⟨n + 1, hn⟩ k j)).trans (sum_next (kTerm m c k j.val) (n + 1))

theorem accum7 (n : ℕ) (hn : n < cfg0.N) (k : Fin 256) (j : Fin 1024) :
    (outsAt0 m c n hn).2.2.1 (ix2 k j) = (∑ i ∈ range (256 * (n + 1)), vTerm m c k j.val i) := by
  induction n with
  | zero =>
    have e := outsAt0_A m c ⟨0, hn⟩ (by simp) (by simp) (by simp)
    dsimp only at e
    rw [e]
    dsimp only
    rw [out_A7]
    exact (congrArg (Ideal.ofBits .f32 0x00000000#32 + ·) (block_v ⟨0, hn⟩ k j)).trans (first (vTerm m c k j.val))
  | succ n ih =>
    have hN : n + 1 < 32 := lt_of_lt_of_eq hn (show cfg0.N = 32 from N_0)
    have h0 : ¬(n + 1) % 32 = 0 := by omega
    have e := outsAt0_B m c ⟨n + 1, hn⟩ h0 h0 h0
    dsimp only at e
    rw [e]
    dsimp only
    rw [out_B7]
    exact (congrArg₂ (· + ·) (ih (by omega)) (block_v ⟨n + 1, hn⟩ k j)).trans (sum_next (vTerm m c k j.val) (n + 1))

theorem accum8 (n : ℕ) (hn : n < cfg0.N) (d : Fin 256) :
    (outsAt0 m c n hn).2.2.2 (ix2 (0 : Fin 1) d) = (∑ i ∈ range (256 * (n + 1)), wTerm m c d i) := by
  induction n with
  | zero =>
    have e := outsAt0_A m c ⟨0, hn⟩ (by simp) (by simp) (by simp)
    dsimp only at e
    rw [e]
    dsimp only
    rw [out_A8]
    exact (congrArg (Ideal.ofBits .f32 0x00000000#32 + ·) (block_w ⟨0, hn⟩ d)).trans (first (wTerm m c d))
  | succ n ih =>
    have hN : n + 1 < 32 := lt_of_lt_of_eq hn (show cfg0.N = 32 from N_0)
    have h0 : ¬(n + 1) % 32 = 0 := by omega
    have e := outsAt0_B m c ⟨n + 1, hn⟩ h0 h0 h0
    dsimp only at e
    rw [e]
    dsimp only
    rw [out_B8]
    exact (congrArg₂ (· + ·) (ih (by omega)) (block_w ⟨n + 1, hn⟩ d)).trans (sum_next (wTerm m c d) (n + 1))

theorem lane_val (k : Fin 256) : lane k.val = k := Fin.ext (Nat.mod_eq_of_lt k.isLt)

/-- The result arrays. -/
theorem final5 : (dats m 0 c).arrAt 5 cfg0.N =
    (fun y => (qGrad m c (y 0).val (y 1).val) : FVec Ideal S8192x1024 .bf16) := by
  refine (dats m 0 c).arrAt_eq_of_covers 5 _ (by decide +kernel) fun t hf y => ?_
  blk_simp
  rw [after0_5]
  have e0 : win0_5.index t 0 * 256 + (y 0).val = 256 * t.val + (y 0).val := by have h := (idx_out t).1; omega
  have e1 : win0_5.index t 1 * 1024 + (y 1).val = (y 1).val := by have h := (idx_out t).2.1; omega
  rw [e0, e1]
  refine Eq.trans ?_ (flushed5 t (y 0) (y 1))
  refine congrArg _ ?_
  funext d
  match d with
  | ⟨0, _⟩ => rfl
  | ⟨1, _⟩ => rfl

theorem final6 : (dats m 0 c).arrAt 6 cfg0.N =
    (fun y => (∑ i ∈ range 8192, kTerm m c (lane (y 0).val) (y 1).val i) : FVec Ideal S256x1024 .f32) := by
  refine (dats m 0 c).arrAt_eq_of_covers 6 _ (by decide +kernel) fun t hf y => ?_
  have hl : t.val = 31 := (last t).1 hf
  blk_simp
  rw [after0_6]
  have e0 : win0_6.index t 0 * 256 + (y 0).val = (y 0).val := by have h := (idx_out t).2.2.1; omega
  have e1 : win0_6.index t 1 * 1024 + (y 1).val = (y 1).val := by have h := (idx_out t).2.2.2.1; omega
  rw [e0, e1]
  refine Eq.trans ?_ ((accum6 t.val t.isLt (y 0) (y 1)).trans (by rw [hl, lane_val (y 0)]))
  refine congrArg _ ?_
  funext d
  match d with
  | ⟨0, _⟩ => rfl
  | ⟨1, _⟩ => rfl

theorem final7 : (dats m 0 c).arrAt 7 cfg0.N =
    (fun y => (∑ i ∈ range 8192, vTerm m c (lane (y 0).val) (y 1).val i) : FVec Ideal S256x1024 .f32) := by
  refine (dats m 0 c).arrAt_eq_of_covers 7 _ (by decide +kernel) fun t hf y => ?_
  have hl : t.val = 31 := (last t).2.1 hf
  blk_simp
  rw [after0_7]
  have e0 : win0_7.index t 0 * 256 + (y 0).val = (y 0).val := by have h := (idx_out t).2.2.2.2.1; omega
  have e1 : win0_7.index t 1 * 1024 + (y 1).val = (y 1).val := by have h := (idx_out t).2.2.2.2.2.1; omega
  rw [e0, e1]
  refine Eq.trans ?_ ((accum7 t.val t.isLt (y 0) (y 1)).trans (by rw [hl, lane_val (y 0)]))
  refine congrArg _ ?_
  funext d
  match d with
  | ⟨0, _⟩ => rfl
  | ⟨1, _⟩ => rfl

theorem final8 : (dats m 0 c).arrAt 8 cfg0.N =
    (fun y => (∑ i ∈ range 8192, wTerm m c (lane (y 1).val) i) : FVec Ideal S1x256 .f32) := by
  refine (dats m 0 c).arrAt_eq_of_covers 8 _ (by decide +kernel) fun t hf y => ?_
  have hl : t.val = 31 := (last t).2.2 hf
  blk_simp
  rw [after0_8]
  have e1 : win0_8.index t 1 * 256 + (y 1).val = (y 1).val := by have h := (idx_out t).2.2.2.2.2.2.2; omega
  rw [e1]
  refine Eq.trans ?_ ((accum8 t.val t.isLt (y 1)).trans (by rw [hl, lane_val (y 1)]))
  refine congrArg _ ?_
  funext d
  match d with
  | ⟨0, _⟩ => exact Fin.ext (by have h := (y 0).isLt; show (y 0).val = 0; change (y 0).val < 1 at h; omega)
  | ⟨1, _⟩ => rfl

end Cert.XAttnBackIdeal.Head

end
-- ==== Proof.AttnRef.lean ====
/- The reference's values at an entry: the forward values. -/
module

public import proofs.«01_k».proof.Proof.Gen.XAttnBackRefIdeal.Read
public import proofs.«01_k».proof.Proof.HeadsBack

@[expose] public section

set_option maxRecDepth 16384

open Finset

noncomputable section

namespace Cert.XAttnBackRefIdeal.Entry

open Cert.XAttnBackRefIdeal Cert.XAttnBackRefIdeal.Gen Cert.XAttnBackRefIdeal.Read Idealize.ShloMosaic Entries HeadsOut HeadsBack
open Heads (lane bot_word)

/-! ## Indices and sums -/

theorem i2 {p n : ℕ} (i : (⟨2, ![p, n]⟩ : Shape).Idx) (a : Fin p) (b : Fin n) (e0 : (i 0).val = a.val) (e1 : (i 1).val = b.val) : i = ix2 a b := by
  funext d
  match d with
  | ⟨0, _⟩ => exact Fin.ext e0
  | ⟨1, _⟩ => exact Fin.ext e1

theorem i3 {p n q : ℕ} (i : (⟨3, ![p, n, q]⟩ : Shape).Idx) (a : Fin p) (b : Fin n) (c : Fin q) (e0 : (i 0).val = a.val) (e1 : (i 1).val = b.val)
    (e2 : (i 2).val = c.val) : i = ix3 a b c := by
  funext d
  match d with
  | ⟨0, _⟩ => exact Fin.ext e0
  | ⟨1, _⟩ => exact Fin.ext e1
  | ⟨2, _⟩ => exact Fin.ext e2

theorem zsum {n : ℕ} {z : EReal} {f g : Fin n → EReal} (hz : z = Ideal.ofBits .f32 0x00000000#32) (h : ∀ k, f k = g k) :
    z + ∑ k, f k = ∑ k, g k := by
  rw [hz, zero_coe, EReal.coe_zero, zero_add]
  exact Finset.sum_congr rfl fun k _ => h k

theorem dsum {n : ℕ} {a b f g : Fin n → EReal} (ha : ∀ k, a k = f k) (hb : ∀ k, b k = g k) : ∑ k, a k * b k = ∑ k, f k * g k :=
  Finset.sum_congr rfl fun k _ => by rw [ha, hb]

/-- A column of head `h`. -/
def col (h : Fin 4) (d : Fin 256) : Fin 1024 := ⟨256 * h.val + d.val, by have := h.isLt; have := d.isLt; omega⟩

/-! ## The entries -/

section
variable {x0 : FVec Ideal S8192x1024 .f32} {x1 : FVec Ideal S8192x1024 .bf16} {x2 x3 : FVec Ideal S256x1024 .bf16} {x4 : FVec Ideal S1x256 .f32}
  {A0 A1 A2 A3 A4 : ℕ → ℕ → EReal}
  (h0 : ∀ (i : Fin 8192) (j : Fin 1024), x0 (ix2 i j) = (A0 i.val j.val))
  (h1 : ∀ (i : Fin 8192) (j : Fin 1024), x1 (ix2 i j) = (A1 i.val j.val))
  (h2 : ∀ (i : Fin 256) (j : Fin 1024), x2 (ix2 i j) = (A2 i.val j.val))
  (h3 : ∀ (i : Fin 256) (j : Fin 1024), x3 (ix2 i j) = (A3 i.val j.val))
  (h4 : ∀ d : Fin 256, x4 (ix2 (0 : Fin 1) d) = (A4 0 d.val))

include h0 in
theorem q_at (t : Fin 8192) (h : Fin 4) (d : Fin 256) : val_main_v2 (F := Ideal) x0 (ix3 t h d) = (row A0 h.val t.val d) := by
  have e0 : (idx_main_v2 (ix3 t h d) 0).val = t.val := by
    show ((t.val * 4 + h.val) * 256 + d.val) / 1024 = t.val
    omega
  have e1 : (idx_main_v2 (ix3 t h d) 1).val = (col h d).val := by
    show ((t.val * 4 + h.val) * 256 + d.val) % 1024 = 256 * h.val + d.val
    omega
  rw [val_main_v2_apply, i2 _ t (col h d) e0 e1]
  exact h0 _ _

include h0 in
theorem ms_at (t : Fin 8192) (h : Fin 4) : val_main_v9 (F := Ideal) x0 (ix3 t h (0 : Fin 1)) = ems (row A0 h.val t.val) := by
  have s : val_main_v4 (F := Ideal) x0 (ix2 t h) = (∑ d, row A0 h.val t.val d * row A0 h.val t.val d) :=
    (val_main_v4_apply x0 _).trans (zsum rfl fun k => by
      rw [i3 (idx_main_v4 (ix2 t h) k) t h k rfl rfl rfl, val_main_v3_apply, q_at h0]
      rfl)
  have e : val_main_v9 (F := Ideal) x0 (ix3 t h (0 : Fin 1)) = Ideal.div (val_main_v4 (F := Ideal) x0 (ix2 t h)) (Ideal.ofBits .f32 0x43800000#32) + Ideal.ofBits .f32 0x358637BD#32 := by
    rw [val_main_v9_apply, val_main_v7_apply, val_main_v5_apply, i2 (idx_main_v5 (ix3 t h (0 : Fin 1))) t h rfl rfl]
    rfl
  rw [e, s]
  rfl

include h0 in
theorem rr_at (t : Fin 8192) (h : Fin 4) : val_main_v10 (F := Ideal) x0 (ix3 t h (0 : Fin 1)) = er (row A0 h.val t.val) := by
  have e : val_main_v10 (F := Ideal) x0 (ix3 t h (0 : Fin 1)) = Ideal.rsqrt (val_main_v9 (F := Ideal) x0 (ix3 t h (0 : Fin 1))) := rfl
  rw [e, ms_at h0]
  rfl

include h0 in
theorem root_at (t : Fin 8192) (h : Fin 4) : val_main_v13 (F := Ideal) x0 (ix3 t h (0 : Fin 1)) =
    Ideal.ofBits .f32 0xBF000000#32 * Ideal.div (er (row A0 h.val t.val)) (ems (row A0 h.val t.val)) := by
  have e : val_main_v13 (F := Ideal) x0 (ix3 t h (0 : Fin 1)) = Ideal.ofBits .f32 0xBF000000#32 * Ideal.div (val_main_v10 (F := Ideal) x0 (ix3 t h (0 : Fin 1))) (val_main_v9 (F := Ideal) x0 (ix3 t h (0 : Fin 1))) := rfl
  rw [e, rr_at h0, ms_at h0]

include h0 in
theorem xh_at (t : Fin 8192) (h : Fin 4) (d : Fin 256) : val_main_v15 (F := Ideal) x0 (ix3 t h d) = exh (row A0 h.val t.val) d := by
  rw [val_main_v15_apply, val_main_v14_apply, i3 (idx_main_v14 (ix3 t h d)) t h (0 : Fin 1) rfl rfl rfl, q_at h0, rr_at h0]
  rfl

include h4 in
theorem w_at (t : Fin 8192) (h : Fin 4) (d : Fin 256) : val_main_v18 (F := Ideal) x4 (ix3 t h d) = (wts A4 d) := by
  have e1 : (idx_main_v16 (idx_main_v17 (idx_main_v18 (ix3 t h d))) 1).val = d.val := by
    show d.val % 256 = d.val
    omega
  rw [val_main_v18_apply, val_main_v17_apply, val_main_v16_apply, i2 _ (0 : Fin 1) d rfl e1]
  exact h4 d

include h0 h4 in
theorem qn_at (t : Fin 8192) (h : Fin 4) (d : Fin 256) : val_main_v19 (F := Ideal) x0 x4 (ix3 t h d) = (en (row A0 h.val t.val) (wts A4) d) := by
  rw [val_main_v19_apply, xh_at h0, w_at h4]
  rfl

include h2 in
theorem k_at (m : Fin 256) (h : Fin 4) (d : Fin 256) : val_main_v20 (F := Ideal) x2 (ix3 m h d) = (mem A2 h.val m d) := by
  have e0 : (idx_main_v20 (ix3 m h d) 0).val = m.val := by
    show ((m.val * 4 + h.val) * 256 + d.val) / 1024 = m.val
    omega
  have e1 : (idx_main_v20 (ix3 m h d) 1).val = (col h d).val := by
    show ((m.val * 4 + h.val) * 256 + d.val) % 1024 = 256 * h.val + d.val
    omega
  rw [val_main_v20_apply, i2 _ m (col h d) e0 e1]
  exact h2 _ _

include h3 in
theorem v_at (m : Fin 256) (h : Fin 4) (d : Fin 256) : val_main_v21 (F := Ideal) x3 (ix3 m h d) = (mem A3 h.val m d) := by
  have e0 : (idx_main_v21 (ix3 m h d) 0).val = m.val := by
    show ((m.val * 4 + h.val) * 256 + d.val) / 1024 = m.val
    omega
  have e1 : (idx_main_v21 (ix3 m h d) 1).val = (col h d).val := by
    show ((m.val * 4 + h.val) * 256 + d.val) % 1024 = 256 * h.val + d.val
    omega
  rw [val_main_v21_apply, i2 _ m (col h d) e0 e1]
  exact h3 _ _

include h1 in
theorem o_at (t : Fin 8192) (h : Fin 4) (d : Fin 256) : val_main_v58 (F := Ideal) x1 (ix3 h d t) = (row A1 h.val t.val d) := by
  have e0 : (idx_main_v57 (ix3 t h d) 0).val = t.val := by
    show ((t.val * 4 + h.val) * 256 + d.val) / 1024 = t.val
    omega
  have e1 : (idx_main_v57 (ix3 t h d) 1).val = (col h d).val := by
    show ((t.val * 4 + h.val) * 256 + d.val) % 1024 = 256 * h.val + d.val
    omega
  rw [val_main_v58_apply, i3 (idx_main_v58 (ix3 h d t)) t h d rfl rfl rfl, val_main_v57_apply, i2 _ t (col h d) e0 e1]
  exact h1 _ _

include h0 h2 h4 in
theorem s_at (t : Fin 8192) (h : Fin 4) (m : Fin 256) : val_main_v24 (F := Ideal) x0 x2 x4 (ix3 h t m) = es (row A0 h.val t.val) (wts A4) (mem A2 h.val) m := by
  have s : val_main_v22 (F := Ideal) x0 x2 x4 (ix3 h t m) = ∑ d, en (row A0 h.val t.val) (wts A4) d * mem A2 h.val m d :=
    (val_main_v22_apply x0 x2 x4 _).trans (dsum
      (fun k => by rw [i3 (lidx_main_v22 (ix3 h t m) k) t h k rfl rfl rfl]; exact qn_at h0 h4 t h k)
      (fun k => by rw [i3 (ridx_main_v22 (ix3 h t m) k) m h k rfl rfl rfl]; exact k_at h2 m h k))
  have e : val_main_v24 (F := Ideal) x0 x2 x4 (ix3 h t m) = Ideal.div (val_main_v22 (F := Ideal) x0 x2 x4 (ix3 h t m)) (Ideal.ofBits .f32 0x41800000#32) := rfl
  rw [e, s, div16]
  rfl

include h0 h2 h4 in
theorem max_at (t : Fin 8192) (h : Fin 4) : val_main_v25 (F := Ideal) x0 x2 x4 (ix2 h t) = eM (row A0 h.val t.val) (wts A4) (mem A2 h.val) := by
  have e : val_main_v25 (F := Ideal) x0 x2 x4 (ix2 h t) = (Finset.univ : Finset (Fin 256)).fold max (Ideal.ofBits .f32 0xFF800000#32) (fun m => val_main_v24 (F := Ideal) x0 x2 x4 (ix3 h t m)) := by
    unfold val_main_v25 val_main_cst_4
    generalize val_main_v24 (F := Ideal) x0 x2 x4 = y
    pointwise
    try rfl
  rw [e, (funext fun m => s_at h0 h2 h4 t h m :
    (fun m => val_main_v24 (F := Ideal) x0 x2 x4 (ix3 h t m)) = fun m => es (row A0 h.val t.val) (wts A4) (mem A2 h.val) m)]
  unfold eM
  rfl

include h0 h2 h4 in
theorem e_at (t : Fin 8192) (h : Fin 4) (m : Fin 256) : val_main_v45 (F := Ideal) x0 x2 x4 (ix3 h t m) = ee (row A0 h.val t.val) (wts A4) (mem A2 h.val) m := by
  have e : val_main_v43 (F := Ideal) x0 x2 x4 (ix3 h t m) = max (Ideal.ofBits .f32 0xFF800000#32) (val_main_v25 (F := Ideal) x0 x2 x4 (ix2 h t)) := by
    rw [val_main_v43_apply, i3 (idx_main_v43 (ix3 h t m)) h t (0 : Fin 1) rfl rfl rfl, val_main_v42_apply,
      i2 (idx_main_v42 (ix3 h t (0 : Fin 1))) h t rfl rfl, val_main_v32_apply, val_main_v31_apply]
    generalize val_main_v25 (F := Ideal) x0 x2 x4 (ix2 h t) = z
    rfl
  have e' : val_main_v45 (F := Ideal) x0 x2 x4 (ix3 h t m) = Ideal.exp (val_main_v24 (F := Ideal) x0 x2 x4 (ix3 h t m) - val_main_v43 (F := Ideal) x0 x2 x4 (ix3 h t m)) := by
    rw [val_main_v45_apply, val_main_v44_apply]
    generalize val_main_v24 (F := Ideal) x0 x2 x4 (ix3 h t m) = y
    generalize val_main_v43 (F := Ideal) x0 x2 x4 (ix3 h t m) = z
    rfl
  rw [e', e, bot_word, max_at h0 h2 h4, s_at h0 h2 h4, max_eq_right bot_le]
  unfold ee
  rfl

include h0 h2 h4 in
theorem S_at (t : Fin 8192) (h : Fin 4) : val_main_v47 (F := Ideal) x0 x2 x4 (ix3 h t (0 : Fin 1)) = ∑ k, ee (row A0 h.val t.val) (wts A4) (mem A2 h.val) k := by
  rw [val_main_v47_apply, i2 (idx_main_v47 (ix3 h t (0 : Fin 1))) h t rfl rfl]
  exact (val_main_v46_apply x0 x2 x4 _).trans (zsum rfl fun k => by
    rw [i3 (idx_main_v46 (ix2 h t) k) h t k rfl rfl rfl]; exact e_at h0 h2 h4 t h k)

include h0 h2 h4 in
theorem p_at (t : Fin 8192) (h : Fin 4) (m : Fin 256) : val_main_v49 (F := Ideal) x0 x2 x4 (ix3 h t m) = Pe A0 A2 A4 h.val t.val m := by
  have s : val_main_v48 (F := Ideal) x0 x2 x4 (ix3 h t m) = ∑ k, ee (row A0 h.val t.val) (wts A4) (mem A2 h.val) k := by
    rw [val_main_v48_apply, i3 (idx_main_v48 (ix3 h t m)) h t (0 : Fin 1) rfl rfl rfl]
    exact S_at h0 h2 h4 t h
  have e : val_main_v49 (F := Ideal) x0 x2 x4 (ix3 h t m) = Ideal.div (val_main_v45 (F := Ideal) x0 x2 x4 (ix3 h t m)) (val_main_v48 (F := Ideal) x0 x2 x4 (ix3 h t m)) := rfl
  rw [e, s, e_at h0 h2 h4]
  rfl

end

end Cert.XAttnBackRefIdeal.Entry

end
-- ==== Proof.AttnRefGrad.lean ====
/- The reference's values at an entry: the gradients. -/
module

public import proofs.«01_k».proof.Proof.AttnRef
public import proofs.«01_k».proof.Proof.HeadsBack

@[expose] public section

set_option maxRecDepth 16384

open Finset

noncomputable section

namespace Cert.XAttnBackRefIdeal.Entry

open Cert.XAttnBackRefIdeal Cert.XAttnBackRefIdeal.Gen Cert.XAttnBackRefIdeal.Read Idealize.ShloMosaic Entries HeadsOut HeadsBack
open Heads (lane)

section
variable {x0 : FVec Ideal S8192x1024 .f32} {x1 : FVec Ideal S8192x1024 .bf16} {x2 x3 : FVec Ideal S256x1024 .bf16} {x4 : FVec Ideal S1x256 .f32}
  {A0 A1 A2 A3 A4 : ℕ → ℕ → EReal}
  (h0 : ∀ (i : Fin 8192) (j : Fin 1024), x0 (ix2 i j) = (A0 i.val j.val))
  (h1 : ∀ (i : Fin 8192) (j : Fin 1024), x1 (ix2 i j) = (A1 i.val j.val))
  (h2 : ∀ (i : Fin 256) (j : Fin 1024), x2 (ix2 i j) = (A2 i.val j.val))
  (h3 : ∀ (i : Fin 256) (j : Fin 1024), x3 (ix2 i j) = (A3 i.val j.val))
  (h4 : ∀ d : Fin 256, x4 (ix2 (0 : Fin 1) d) = (A4 0 d.val))
  (hK : ∃ L : ℕ → ℕ → ℝ, ∀ i j, A2 i j = ((L i j : ℝ) : EReal)) (hW : ∃ W : ℕ → ℝ, ∀ d, A4 0 d = ((W d : ℝ) : EReal))

include h1 h3 in
theorem dp_at (t : Fin 8192) (h : Fin 4) (m : Fin 256) : val_main_v59 (F := Ideal) x1 x3 (ix3 h t m) = (edp (row A1 h.val t.val) (mem A3 h.val) m) :=
  (val_main_v59_apply x1 x3 _).trans (dsum
    (fun k => by rw [i3 (lidx_main_v59 (ix3 h t m) k) h k t rfl rfl rfl]; exact o_at h1 t h k)
    (fun k => by rw [i3 (ridx_main_v59 (ix3 h t m) k) m h k rfl rfl rfl]; exact v_at h3 m h k))

include h0 h1 h2 h3 h4 hK hW in
theorem ds_at (t : Fin 8192) (h : Fin 4) (m : Fin 256) : val_main_v75 (F := Ideal) x0 x1 x2 x3 x4 (ix3 h t m) = De A0 A1 A2 A3 A4 h.val t.val m := by
  have hS := S_at h0 h2 h4 t h
  have f52 : val_main_v52 (F := Ideal) x0 x2 x4 (ix3 h t (0 : Fin 1)) = Ideal.div (Ideal.ofBits .f32 0x3F800000#32) ((∑ k, ee (row A0 h.val t.val) (wts A4) (mem A2 h.val) k) * (∑ k, ee (row A0 h.val t.val) (wts A4) (mem A2 h.val) k)) := by
    have u : val_main_v52 (F := Ideal) x0 x2 x4 (ix3 h t (0 : Fin 1)) = Ideal.div (Ideal.ofBits .f32 0x3F800000#32) (val_main_v47 (F := Ideal) x0 x2 x4 (ix3 h t (0 : Fin 1)) * val_main_v47 (F := Ideal) x0 x2 x4 (ix3 h t (0 : Fin 1))) := rfl
    rw [u, hS]
  have f64 : ∀ k, val_main_v64 (F := Ideal) x0 x1 x2 x3 x4 (ix3 h t k) = edp (row A1 h.val t.val) (mem A3 h.val) k * Ideal.div (Ideal.ofBits .f32 0x3F800000#32) ((∑ k, ee (row A0 h.val t.val) (wts A4) (mem A2 h.val) k) * (∑ k, ee (row A0 h.val t.val) (wts A4) (mem A2 h.val) k)) * ee (row A0 h.val t.val) (wts A4) (mem A2 h.val) k := fun k => by
    rw [val_main_v64_apply, val_main_v63_apply, val_main_v62_apply, i3 (idx_main_v62 (ix3 h t k)) h t (0 : Fin 1) rfl rfl rfl, f52, e_at h0 h2 h4, dp_at h1 h3]
    rfl
  have f65 : val_main_v65 (F := Ideal) x0 x1 x2 x3 x4 (ix2 h t) = ∑ k, edp (row A1 h.val t.val) (mem A3 h.val) k * Ideal.div (Ideal.ofBits .f32 0x3F800000#32) ((∑ k, ee (row A0 h.val t.val) (wts A4) (mem A2 h.val) k) * (∑ k, ee (row A0 h.val t.val) (wts A4) (mem A2 h.val) k)) * ee (row A0 h.val t.val) (wts A4) (mem A2 h.val) k :=
    (val_main_v65_apply x0 x1 x2 x3 x4 _).trans (zsum rfl fun k => by
      rw [i3 (idx_main_v65 (ix2 h t) k) h t k rfl rfl rfl]; exact f64 k)
  have f66 : val_main_v66 (F := Ideal) x0 x1 x2 x3 x4 (ix3 h t (0 : Fin 1)) = val_main_v65 (F := Ideal) x0 x1 x2 x3 x4 (ix2 h t) := by
    have e0 : (idx_main_v66 (ix3 h t (0 : Fin 1)) 0).val = h.val := by
      show ((h.val * 8192 + t.val) * 1 + 0) / 8192 = h.val
      omega
    have e1 : (idx_main_v66 (ix3 h t (0 : Fin 1)) 1).val = t.val := by
      show ((h.val * 8192 + t.val) * 1 + 0) % 8192 = t.val
      omega
    rw [val_main_v66_apply, i2 _ h t e0 e1]
  have f67 : val_main_v67 (F := Ideal) x0 x1 x2 x3 x4 (ix3 h t (0 : Fin 1)) = -(∑ k, edp (row A1 h.val t.val) (mem A3 h.val) k * Ideal.div (Ideal.ofBits .f32 0x3F800000#32) ((∑ k, ee (row A0 h.val t.val) (wts A4) (mem A2 h.val) k) * (∑ k, ee (row A0 h.val t.val) (wts A4) (mem A2 h.val) k)) * ee (row A0 h.val t.val) (wts A4) (mem A2 h.val) k) := by
    have u : val_main_v67 (F := Ideal) x0 x1 x2 x3 x4 (ix3 h t (0 : Fin 1)) = -(val_main_v66 (F := Ideal) x0 x1 x2 x3 x4 (ix3 h t (0 : Fin 1))) := rfl
    rw [u, f66, f65]
  have f71 : val_main_v71 (F := Ideal) x0 x1 x2 x3 x4 (ix3 h t m) = -(∑ k, edp (row A1 h.val t.val) (mem A3 h.val) k * Ideal.div (Ideal.ofBits .f32 0x3F800000#32) ((∑ k, ee (row A0 h.val t.val) (wts A4) (mem A2 h.val) k) * (∑ k, ee (row A0 h.val t.val) (wts A4) (mem A2 h.val) k)) * ee (row A0 h.val t.val) (wts A4) (mem A2 h.val) k) := by
    rw [val_main_v71_apply, i2 (idx_main_v71 (ix3 h t m)) h t rfl rfl]
    refine (val_main_v70_apply x0 x1 x2 x3 x4 _).trans ((zsum (g := fun _ => -(∑ k, edp (row A1 h.val t.val) (mem A3 h.val) k * Ideal.div (Ideal.ofBits .f32 0x3F800000#32) ((∑ k, ee (row A0 h.val t.val) (wts A4) (mem A2 h.val) k) * (∑ k, ee (row A0 h.val t.val) (wts A4) (mem A2 h.val) k)) * ee (row A0 h.val t.val) (wts A4) (mem A2 h.val) k)) rfl fun k => ?_).trans ?_)
    · rw [i3 (idx_main_v70 (ix2 h t) k) h t (0 : Fin 1) rfl rfl (by have := k.isLt; show k.val = 0; omega)]
      exact f67
    · rw [Fin.sum_univ_one]
  have f69 : val_main_v69 (F := Ideal) x0 x1 x2 x3 x4 (ix3 h t m) = Ideal.div (edp (row A1 h.val t.val) (mem A3 h.val) m) (∑ k, ee (row A0 h.val t.val) (wts A4) (mem A2 h.val) k) := by
    have s : val_main_v68 (F := Ideal) x0 x2 x4 (ix3 h t m) = (∑ k, ee (row A0 h.val t.val) (wts A4) (mem A2 h.val) k) := by
      rw [val_main_v68_apply, i3 (idx_main_v68 (ix3 h t m)) h t (0 : Fin 1) rfl rfl rfl]
      exact hS
    have u : val_main_v69 (F := Ideal) x0 x1 x2 x3 x4 (ix3 h t m) = Ideal.div (val_main_v59 (F := Ideal) x1 x3 (ix3 h t m)) (val_main_v68 (F := Ideal) x0 x2 x4 (ix3 h t m)) := rfl
    rw [u, s, dp_at h1 h3]
  have u : val_main_v75 (F := Ideal) x0 x1 x2 x3 x4 (ix3 h t m) = Ideal.div ((val_main_v69 (F := Ideal) x0 x1 x2 x3 x4 (ix3 h t m) + val_main_v71 (F := Ideal) x0 x1 x2 x3 x4 (ix3 h t m)) * val_main_v45 (F := Ideal) x0 x2 x4 (ix3 h t m)) (Ideal.ofBits .f32 0x41800000#32) := rfl
  rw [u, f69, f71, e_at h0 h2 h4]
  obtain ⟨L, hL⟩ := hK
  obtain ⟨W, hV⟩ := hW
  obtain ⟨e, he, hE⟩ := ee_real (row A0 h.val t.val) (wts A4) (mem A2 h.val) (fun d => W d.val) (fun m d => L m.val (256 * h.val + d.val))
    (fun d => hV d.val) (fun m d => hL m.val (256 * h.val + d.val))
  unfold De eds ep
  simp only [hE]
  exact ds_quotient e he _ m

include h0 h1 h2 h3 h4 hK hW hK hW in
theorem g_at (t : Fin 8192) (h : Fin 4) (d : Fin 256) : val_main_v79 (F := Ideal) x0 x1 x2 x3 x4 (ix3 t h d) = (Ge A0 A1 A2 A3 A4 h.val t.val d) := by
  rw [val_main_v79_apply, i3 (idx_main_v79 (ix3 t h d)) h t d rfl rfl rfl]
  have s : val_main_v78 (F := Ideal) x0 x1 x2 x3 x4 (ix3 h t d) = (∑ m, De A0 A1 A2 A3 A4 h.val t.val m * mem A2 h.val m d) := (val_main_v78_apply x0 x1 x2 x3 x4 _).trans (dsum
    (fun k => by rw [i3 (lidx_main_v78 (ix3 h t d) k) h t k rfl rfl rfl]; exact ds_at h0 h1 h2 h3 h4 hK hW t h k)
    (fun k => by rw [i3 (ridx_main_v78 (ix3 h t d) k) k h d rfl rfl rfl]; exact k_at h2 k h d))
  exact s

include h0 h1 h2 h3 h4 hK hW hK hW in
theorem dq_at (t : Fin 8192) (h : Fin 4) (d : Fin 256) : val_main_v102 (F := Ideal) x0 x1 x2 x3 x4 (ix3 t h d) =
    (edq (row A0 h.val t.val) (wts A4) (Ge A0 A1 A2 A3 A4 h.val t.val) d) := by
  have f86 : ∀ k, val_main_v86 (F := Ideal) x0 x1 x2 x3 x4 (ix3 t h k) = (Ge A0 A1 A2 A3 A4 h.val t.val k * wts A4 k) := fun k => by
    have s : val_main_v85 (F := Ideal) x4 (ix3 t h k) = (wts A4 k) := w_at h4 t h k
    rw [val_main_v86_apply, s, g_at h0 h1 h2 h3 h4 hK hW]
    rfl
  have f90 : val_main_v90 (F := Ideal) x0 x1 x2 x3 x4 (ix2 t h) = (∑ k, row A0 h.val t.val k * (Ge A0 A1 A2 A3 A4 h.val t.val k * wts A4 k)) :=
    (val_main_v90_apply x0 x1 x2 x3 x4 _).trans (zsum rfl fun k => by
      rw [i3 (idx_main_v90 (ix2 t h) k) t h k rfl rfl rfl, val_main_v89_apply, q_at h0, f86]
      rfl)
  have f91 : val_main_v91 (F := Ideal) x0 x1 x2 x3 x4 (ix3 t h (0 : Fin 1)) = val_main_v90 (F := Ideal) x0 x1 x2 x3 x4 (ix2 t h) := by
    have e0 : (idx_main_v91 (ix3 t h (0 : Fin 1)) 0).val = t.val := by
      show ((t.val * 4 + h.val) * 1 + 0) / 4 = t.val
      omega
    have e1 : (idx_main_v91 (ix3 t h (0 : Fin 1)) 1).val = h.val := by
      show ((t.val * 4 + h.val) * 1 + 0) % 4 = h.val
      omega
    rw [val_main_v91_apply, i2 _ t h e0 e1]
  have f96 : val_main_v96 (F := Ideal) x0 x1 x2 x3 x4 (ix3 t h (0 : Fin 1)) = Ideal.div ((∑ k, row A0 h.val t.val k * (Ge A0 A1 A2 A3 A4 h.val t.val k * wts A4 k)) * (Ideal.ofBits .f32 0xBF000000#32 * Ideal.div (er (row A0 h.val t.val)) (ems (row A0 h.val t.val)))) (Ideal.ofBits .f32 0x43800000#32) := by
    have u : val_main_v96 (F := Ideal) x0 x1 x2 x3 x4 (ix3 t h (0 : Fin 1)) = Ideal.div (val_main_v91 (F := Ideal) x0 x1 x2 x3 x4 (ix3 t h (0 : Fin 1)) * val_main_v13 (F := Ideal) x0 (ix3 t h (0 : Fin 1))) (Ideal.ofBits .f32 0x43800000#32) := rfl
    rw [u, f91, f90, root_at h0]
  have f98 : val_main_v98 (F := Ideal) x0 x1 x2 x3 x4 (ix3 t h d) = Ideal.div ((∑ k, row A0 h.val t.val k * (Ge A0 A1 A2 A3 A4 h.val t.val k * wts A4 k)) * (Ideal.ofBits .f32 0xBF000000#32 * Ideal.div (er (row A0 h.val t.val)) (ems (row A0 h.val t.val)))) (Ideal.ofBits .f32 0x43800000#32) := by
    rw [val_main_v98_apply, i2 (idx_main_v98 (ix3 t h d)) t h rfl rfl]
    refine (val_main_v97_apply x0 x1 x2 x3 x4 _).trans ((zsum (g := fun _ => Ideal.div ((∑ k, row A0 h.val t.val k * (Ge A0 A1 A2 A3 A4 h.val t.val k * wts A4 k)) * (Ideal.ofBits .f32 0xBF000000#32 * Ideal.div (er (row A0 h.val t.val)) (ems (row A0 h.val t.val)))) (Ideal.ofBits .f32 0x43800000#32)) rfl fun k => ?_).trans ?_)
    · rw [i3 (idx_main_v97 (ix2 t h) k) t h (0 : Fin 1) rfl rfl (by have := k.isLt; show k.val = 0; omega)]
      exact f96
    · rw [Fin.sum_univ_one]
  have f92 : val_main_v92 (F := Ideal) x0 (ix3 t h d) = er (row A0 h.val t.val) := by
    rw [val_main_v92_apply, i3 (idx_main_v92 (ix3 t h d)) t h (0 : Fin 1) rfl rfl rfl, rr_at h0]
  have u : val_main_v102 (F := Ideal) x0 x1 x2 x3 x4 (ix3 t h d) = val_main_v86 (F := Ideal) x0 x1 x2 x3 x4 (ix3 t h d) * val_main_v92 (F := Ideal) x0 (ix3 t h d) + val_main_v2 (F := Ideal) x0 (ix3 t h d) * val_main_v98 (F := Ideal) x0 x1 x2 x3 x4 (ix3 t h d) + val_main_v98 (F := Ideal) x0 x1 x2 x3 x4 (ix3 t h d) * val_main_v2 (F := Ideal) x0 (ix3 t h d) := rfl
  rw [u, f86, f92, f98, q_at h0]
  exact dq_root (row A0 h.val t.val) (fun k => Ge A0 A1 A2 A3 A4 h.val t.val k * wts A4 k) d

/-! ## The results -/

include h0 h1 h2 h3 h4 hK hW hK hW in
theorem q_grad (i : Fin 8192) (j : Fin 1024) : val_main_v104 (F := Ideal) x0 x1 x2 x3 x4 (ix2 i j) = (rdq A0 A1 A2 A3 A4 i.val j.val) := by
  have hj := j.isLt
  have e0 : (idx_main_v103 (ix2 i j) 0).val = i.val := by
    show (i.val * 1024 + j.val) / 1024 = i.val
    omega
  have e1 : (idx_main_v103 (ix2 i j) 1).val = (⟨j.val / 256, by omega⟩ : Fin 4).val := by
    show (i.val * 1024 + j.val) / 256 % 4 = j.val / 256
    omega
  have e2 : (idx_main_v103 (ix2 i j) 2).val = (lane j.val).val := by
    show (i.val * 1024 + j.val) % 256 = j.val % 256
    omega
  have u : val_main_v104 (F := Ideal) x0 x1 x2 x3 x4 (ix2 i j) = val_main_v103 (F := Ideal) x0 x1 x2 x3 x4 (ix2 i j) := rfl
  rw [u, val_main_v103_apply, i3 _ i _ (lane j.val) e0 e1 e2]
  exact dq_at h0 h1 h2 h3 h4 hK hW i _ _

include h0 h1 h2 h3 h4 hK hW hK hW in
theorem k_grad (m : Fin 256) (j : Fin 1024) : val_main_v81 (F := Ideal) x0 x1 x2 x3 x4 (ix2 m j) = (∑ i : Fin 8192, tdk A0 A1 A2 A3 A4 m j.val i.val) := by
  have hj := j.isLt
  have e0 : (idx_main_v81 (ix2 m j) 0).val = m.val := by
    show (m.val * 1024 + j.val) / 1024 = m.val
    omega
  have e1 : (idx_main_v81 (ix2 m j) 1).val = (⟨j.val / 256, by omega⟩ : Fin 4).val := by
    show (m.val * 1024 + j.val) / 256 % 4 = j.val / 256
    omega
  have e2 : (idx_main_v81 (ix2 m j) 2).val = (lane j.val).val := by
    show (m.val * 1024 + j.val) % 256 = j.val % 256
    omega
  rw [val_main_v81_apply, i3 _ m _ (lane j.val) e0 e1 e2]
  rw [val_main_v77_apply, i3 (idx_main_v77 (ix3 m (⟨j.val / 256, by omega⟩ : Fin 4) (lane j.val))) (⟨j.val / 256, by omega⟩ : Fin 4) m (lane j.val) rfl rfl rfl]
  exact (val_main_v76_apply x0 x1 x2 x3 x4 _).trans (dsum
    (fun k => by rw [i3 (lidx_main_v76 (ix3 (⟨j.val / 256, by omega⟩ : Fin 4) m (lane j.val)) k) (⟨j.val / 256, by omega⟩ : Fin 4) k m rfl rfl rfl]; exact ds_at h0 h1 h2 h3 h4 hK hW k _ m)
    (fun k => by rw [i3 (ridx_main_v76 (ix3 (⟨j.val / 256, by omega⟩ : Fin 4) m (lane j.val)) k) k (⟨j.val / 256, by omega⟩ : Fin 4) (lane j.val) rfl rfl rfl]; exact qn_at h0 h4 k _ _))

include h0 h1 h2 h4 in
theorem v_grad (m : Fin 256) (j : Fin 1024) : val_main_v80 (F := Ideal) x0 x1 x2 x4 (ix2 m j) = (∑ i : Fin 8192, tdv A0 A1 A2 A4 m j.val i.val) := by
  have hj := j.isLt
  have e0 : (idx_main_v80 (ix2 m j) 0).val = m.val := by
    show (m.val * 1024 + j.val) / 1024 = m.val
    omega
  have e1 : (idx_main_v80 (ix2 m j) 1).val = (⟨j.val / 256, by omega⟩ : Fin 4).val := by
    show (m.val * 1024 + j.val) / 256 % 4 = j.val / 256
    omega
  have e2 : (idx_main_v80 (ix2 m j) 2).val = (lane j.val).val := by
    show (m.val * 1024 + j.val) % 256 = j.val % 256
    omega
  rw [val_main_v80_apply, i3 _ m _ (lane j.val) e0 e1 e2]
  rw [val_main_v61_apply, i3 (idx_main_v61 (ix3 m (⟨j.val / 256, by omega⟩ : Fin 4) (lane j.val))) (⟨j.val / 256, by omega⟩ : Fin 4) (lane j.val) m rfl rfl rfl]
  refine ((val_main_v60_apply x0 x1 x2 x4 _).trans (dsum (f := fun k : Fin 8192 => row A1 (j.val / 256) k.val (lane j.val)) (g := fun k : Fin 8192 => Pe A0 A2 A4 (j.val / 256) k.val m)
    (fun k => by rw [i3 (lidx_main_v60 (ix3 (⟨j.val / 256, by omega⟩ : Fin 4) (lane j.val) m) k) (⟨j.val / 256, by omega⟩ : Fin 4) (lane j.val) k rfl rfl rfl]; exact o_at h1 k _ _)
    (fun k => by rw [i3 (ridx_main_v60 (ix3 (⟨j.val / 256, by omega⟩ : Fin 4) (lane j.val) m) k) (⟨j.val / 256, by omega⟩ : Fin 4) k m rfl rfl rfl]; exact p_at h0 h2 h4 k _ m))).trans ?_
  exact Finset.sum_congr rfl fun k _ => mul_comm _ _

omit h0 h1 h2 h3 h4 in
/-- A sum over the first two coordinates. -/
theorem sum01 {n0 n1 n2 : ℕ} {t : Shape} (ht : t = ⟨1, ![n2]⟩) (h : (⟨3, ![n0, n1, n2]⟩ : Shape).ReducesTo [0, 1] t) (y : (⟨3, ![n0, n1, n2]⟩ : Shape).Idx → EReal) (z : EReal) (d : Fin n2) :
    Ideal.hostReduceAdd h y z (ht ▸ ix1 d) = z + ∑ i : Fin n0, ∑ k : Fin n1, y (ix3 i k d) := by
  subst ht
  refine congrArg (z + ·) ((Finset.sum_filter_eq_sum_of_fiber _ (fun k : Fin n0 × Fin n1 => ix3 k.1 k.2 d)
    (fun _ _ e => Prod.ext (congrFun e 0) (congrFun e 1)) (fun i => ?_) y).trans ?_)
  · constructor
    · intro e
      refine ⟨(i 0, i 1), ?_⟩
      funext a; apply Fin.ext
      match a with
      | ⟨0, _⟩ => rfl
      | ⟨1, _⟩ => rfl
      | ⟨2, _⟩ => exact (congrArg Fin.val (congrFun e ⟨0, Nat.one_pos⟩)).symm
    · rintro ⟨k, rfl⟩
      funext b
      apply Fin.ext
      match b with
      | ⟨0, _⟩ => rfl
  · simp only [Fintype.sum_prod_type]

include h0 h1 h2 h3 h4 hK hW hK hW in
theorem w_grad (d : Fin 256) : val_main_v88 (F := Ideal) x0 x1 x2 x3 x4 (ix2 (0 : Fin 1) d) = (∑ i : Fin 8192, tdw A0 A1 A2 A3 A4 d i.val) := by
  have i1 : ∀ i : (⟨1, ![256]⟩ : Shape).Idx, (i 0).val = d.val → i = ix1 d := fun i e => by
    funext a
    match a with
    | ⟨0, _⟩ => exact Fin.ext e
  have f82 : ∀ (t : Fin 8192) (h : Fin 4), val_main_v82 (F := Ideal) x0 x1 x2 x3 x4 (ix3 t h d) =
      (Ge A0 A1 A2 A3 A4 h.val t.val d * exh (row A0 h.val t.val) d) := fun t h => by
    rw [val_main_v82_apply, xh_at h0, g_at h0 h1 h2 h3 h4 hK hW]
    exact mul_comm _ _
  have f83 : val_main_v83 (F := Ideal) x0 x1 x2 x3 x4 (ix1 d) = (∑ i : Fin 8192, tdw A0 A1 A2 A3 A4 d i.val) := by
    have u : val_main_v83 (F := Ideal) x0 x1 x2 x3 x4 (ix1 d) = Ideal.ofBits .f32 0x00000000#32 + ∑ i : Fin 8192, ∑ k : Fin 4, val_main_v82 (F := Ideal) x0 x1 x2 x3 x4 (ix3 i k d) :=
      sum01 rfl reducesTo_S8192x4x256_S256_d0_1 _ _ d
    rw [u]
    refine zsum rfl fun i => ?_
    rw [Finset.sum_congr rfl (fun k _ => f82 i k)]
    rfl
  have f84 : val_main_v84 (F := Ideal) x0 x1 x2 x3 x4 (ix3 (0 : Fin 1) (0 : Fin 1) d) = val_main_v83 (F := Ideal) x0 x1 x2 x3 x4 (ix1 d) := by
    rw [val_main_v84_apply, i1 (idx_main_v84 (ix3 (0 : Fin 1) (0 : Fin 1) d)) (by show (0 * 1 + 0) * 256 + d.val = d.val; omega)]
  have f87 : val_main_v87 (F := Ideal) x0 x1 x2 x3 x4 (ix1 d) = (∑ i : Fin 8192, tdw A0 A1 A2 A3 A4 d i.val) := by
    have u : val_main_v87 (F := Ideal) x0 x1 x2 x3 x4 (ix1 d) = Ideal.ofBits .f32 0x00000000#32 + ∑ i : Fin 1, ∑ k : Fin 1, val_main_v84 (F := Ideal) x0 x1 x2 x3 x4 (ix3 i k d) :=
      sum01 rfl reducesTo_S1x1x256_S256_d0_1 _ _ d
    rw [u, Fin.sum_univ_one, Fin.sum_univ_one, f84, f83, zero_coe, EReal.coe_zero, zero_add]
  rw [val_main_v88_apply, i1 (idx_main_v88 (ix2 (0 : Fin 1) d)) rfl, f87]

end

end Cert.XAttnBackRefIdeal.Entry

end
-- ==== Proof.XAttnBack.lean ====
/- The gradient of the cross-attention over the memory: the queries normalised head by head, the softmax of their products
   with the keys over sixteen, the mix of the values. The kernel's four results are the reference's. -/
module

public import proofs.«01_k».proof.Defs
public import proofs.«01_k».proof.Proof.AttnArrays
public import proofs.«01_k».proof.Proof.AttnRefGrad
public import proofs.«01_k».proof.Proof.Gen.Pre_xattn_finite
public import proofs.«01_k».proof.Proof.Gen.XAttnBackRefIdeal.Run
public import Idealize.ShloMosaic.Lib.Claim

@[expose] public section

set_option maxRecDepth 16384

open Finset

noncomputable section

namespace Cert.XAttnBackIdeal.Head

open Cert.XAttnBackIdeal Cert.XAttnBackIdeal.Gen Idealize.ShloMosaic Idealize.ShloMosaic.TcCoe Idealize.SL.Sem Blocked Entries HeadsOut HeadsBack
open Heads (lane)

variable {m : (ℓ : Loc nD τ sig) → Buf (Elt Ideal) ℓ} {c : Dev nD}

theorem entry0 (i : Fin 8192) (j : Fin 1024) : X0 m c (ix2 i j) = A0 m c i.val j.val := (at2_of _ i.isLt j.isLt).symm
theorem entry1 (i : Fin 8192) (j : Fin 1024) : X1 m c (ix2 i j) = A1 m c i.val j.val := (at2_of _ i.isLt j.isLt).symm
theorem entry2 (i : Fin 256) (j : Fin 1024) : X2 m c (ix2 i j) = A2 m c i.val j.val := (at2_of _ i.isLt j.isLt).symm
theorem entry3 (i : Fin 256) (j : Fin 1024) : X3 m c (ix2 i j) = A3 m c i.val j.val := (at2_of _ i.isLt j.isLt).symm
theorem entry4 (d : Fin 256) : X4 m c (ix2 (0 : Fin 1) d) = A4 m c 0 d.val := (at2_of _ Nat.one_pos d.isLt).symm

variable (m c) in
/-- The keys and the weight are real numbers. -/
structure Reals : Prop where
  h2 : ∀ i j, X2 m c (ix2 i j) = (((X2 m c (ix2 i j)).toReal : ℝ) : EReal)
  h4 : ∀ i j, X4 m c (ix2 i j) = (((X4 m c (ix2 i j)).toReal : ℝ) : EReal)

theorem at2_real {p n : ℕ} {φ : FTy} {x : FVec Ideal ⟨2, ![p, n]⟩ φ} (h : ∀ i j, x (ix2 i j) = (((x (ix2 i j)).toReal : ℝ) : EReal)) (i j : ℕ) :
    at2 x i j = (((at2 x i j).toReal : ℝ) : EReal) := by
  unfold at2
  split_ifs
  · exact h _ _
  · simp

theorem keys (H : Reals m c) : ∃ L : ℕ → ℕ → ℝ, ∀ i j, A2 m c i j = ((L i j : ℝ) : EReal) :=
  ⟨fun i j => (A2 m c i j).toReal, fun i j => at2_real H.h2 i j⟩
theorem weight (H : Reals m c) : ∃ W : ℕ → ℝ, ∀ d, A4 m c 0 d = ((W d : ℝ) : EReal) :=
  ⟨fun d => (A4 m c 0 d).toReal, fun d => at2_real H.h4 0 d⟩

/-! ## The reference's results are the kernel's arrays -/

theorem ref5 (H : Reals m c) : XAttnBackRefIdeal.Read.val_main_v104 (F := Ideal) (X0 m c) (X1 m c) (X2 m c) (X3 m c) (X4 m c) = (dats m 0 c).arrAt 5 cfg0.N := by
  rw [final5]
  funext y
  idx_vars y
  exact XAttnBackRefIdeal.Entry.q_grad entry0 entry1 entry2 entry3 entry4 (keys H) (weight H) y0 y1

theorem ref6 (H : Reals m c) : XAttnBackRefIdeal.Read.val_main_v81 (F := Ideal) (X0 m c) (X1 m c) (X2 m c) (X3 m c) (X4 m c) = (dats m 0 c).arrAt 6 cfg0.N := by
  rw [final6]
  funext y
  idx_vars y
  refine (XAttnBackRefIdeal.Entry.k_grad entry0 entry1 entry2 entry3 entry4 (keys H) (weight H) y0 y1).trans ?_
  rw [Fin.sum_univ_eq_sum_range (fun i => tdk (A0 m c) (A1 m c) (A2 m c) (A3 m c) (A4 m c) y0 y1.val i)]
  refine Eq.trans ?_ (congrArg (fun k => (∑ i ∈ range 8192, kTerm m c k y1.val i)) (lane_val y0).symm)
  rfl

theorem ref7 : XAttnBackRefIdeal.Read.val_main_v80 (F := Ideal) (X0 m c) (X1 m c) (X2 m c) (X4 m c) = (dats m 0 c).arrAt 7 cfg0.N := by
  rw [final7]
  funext y
  idx_vars y
  refine (XAttnBackRefIdeal.Entry.v_grad entry0 entry1 entry2 entry4 y0 y1).trans ?_
  rw [Fin.sum_univ_eq_sum_range (fun i => tdv (A0 m c) (A1 m c) (A2 m c) (A4 m c) y0 y1.val i)]
  refine Eq.trans ?_ (congrArg (fun k => (∑ i ∈ range 8192, vTerm m c k y1.val i)) (lane_val y0).symm)
  rfl

theorem ref8 (H : Reals m c) : XAttnBackRefIdeal.Read.val_main_v88 (F := Ideal) (X0 m c) (X1 m c) (X2 m c) (X3 m c) (X4 m c) = (dats m 0 c).arrAt 8 cfg0.N := by
  rw [final8]
  funext y
  idx_vars y
  obtain rfl : y0 = 0 := Subsingleton.elim _ _
  refine (XAttnBackRefIdeal.Entry.w_grad entry0 entry1 entry2 entry3 entry4 (keys H) (weight H) y1).trans ?_
  rw [Fin.sum_univ_eq_sum_range (fun i => tdw (A0 m c) (A1 m c) (A2 m c) (A3 m c) (A4 m c) y1 i)]
  refine Eq.trans ?_ (congrArg (fun k => (∑ i ∈ range 8192, wTerm m c k i)) (lane_val y1).symm)
  rfl

end Cert.XAttnBackIdeal.Head

namespace Cert.Proof.XAttnBack

open Cert.XAttnBackIdeal.Head Entries Idealize.ShloMosaic Idealize.ShloMosaic.TcCoe Idealize.SL.Sem

section
open Cert.XAttnBackIdeal

/-- What the precondition says of one device's memory. -/
theorem reals {m : (ℓ : Loc nD τ sig) → Buf (Elt Ideal) ℓ} (h : Cert.Pre_XAttnBackIdeal_xattn_finite m) (c : Dev nD) : Reals m c := by
  obtain ⟨p2, p4⟩ := h c
  constructor
  · intro i j
    have e := congrFun p2 (ix2 i j)
    simp only [Cert.Pre_xattn_finite.fn] at e
    refine real_of_abs _ (Eq.trans ?_ e)
    pointwise
    rfl
  · intro i j
    have e := congrFun p4 (ix2 i j)
    simp only [Cert.Pre_xattn_finite.fn] at e
    refine real_of_abs _ (Eq.trans ?_ e)
    pointwise
    rfl

end

section
open Cert.XAttnBackRefIdeal

/-- The reference's run, its results named. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v104) = Read.val_main_v104 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v81) = Read.val_main_v81 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v80) = Read.val_main_v80 (m ((c : Thread nD τ).loc main_arg0)) (m ((c : Thread nD τ).loc main_arg1)) (m ((c : Thread nD τ).loc main_arg2)) (m ((c : Thread nD τ).loc main_arg4))
      ∧ r.2.mem ((c : Thread nD τ).loc main_v88) = Read.val_main_v88 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (Value.run (F := Ideal) m ρ)
  obtain ⟨h0, h1, h2, h3, h4⟩ := h c
  exact ⟨h0.trans (Read.val_main_v104_eq _ _), h1.trans (Read.val_main_v81_eq _ _), h2.trans (Read.val_main_v80_eq _ _),
    h3.trans (Read.val_main_v88_eq _ _), h4⟩

end

/-- On finite keys and a finite weight the kernel's results are the reference's. -/
theorem algebraic : Cert.algebraic_XAttnBackIdeal_XAttnBackRefIdeal_pre_xattn_finite := by
  intro m g m' g' hpre hagree
  refine ⟨fun c => (Cert.XAttnBackIdeal.Gen.dats m 0 c).arrAt 5 Cert.XAttnBackIdeal.cfg0.N,
    fun c => (Cert.XAttnBackIdeal.Gen.dats m 0 c).arrAt 6 Cert.XAttnBackIdeal.cfg0.N,
    fun c => (Cert.XAttnBackIdeal.Gen.dats m 0 c).arrAt 7 Cert.XAttnBackIdeal.cfg0.N,
    fun c => (Cert.XAttnBackIdeal.Gen.dats m 0 c).arrAt 8 Cert.XAttnBackIdeal.cfg0.N, ?_, ?_⟩
  · exact Cert.XAttnBackIdeal.Value.run_blocks m g
  · refine (θ_run Cert.XAttnBackRefIdeal.defs _ _).mono (fun r h c => ?_) (ref_run m' g')
    obtain ⟨h5, h6, h7, h8, h9⟩ := h c
    obtain ⟨a0, a1, a2, a3, a4⟩ := hagree c
    rw [a0, a1, a2, a3, a4] at h5 h6 h8
    rw [a0, a1, a2, a4] at h7
    have H := reals hpre c
    exact ⟨h5.trans (ref5 H), h6.trans (ref6 H), h7.trans ref7, h8.trans (ref8 H), h9⟩

end Cert.Proof.XAttnBack

end
-- ==== Proof.XAttnOut.lean ====
/- The cross-attention's kernel: what it leaves, entry by entry. -/
module

public import proofs.«01_k».proof.Proof.HeadsOut
public import proofs.«01_k».proof.Proof.Blocked
public import proofs.«01_k».proof.Proof.Gen.XAttnFwdIdeal.Value
public import Idealize.ShloMosaic.Lib.Pointwise
public import Idealize.ShloMosaic.Lib.Pipeline.ValueKit

@[expose] public section

set_option maxRecDepth 16384

open Finset

noncomputable section

namespace Cert.XAttnFwdIdeal.Head

open Cert.XAttnFwdIdeal Cert.XAttnFwdIdeal.Gen Idealize.ShloMosaic Idealize.ShloMosaic.TcCoe Idealize.SL.Sem Blocked Entries Heads HeadsOut

theorem hz : (![0, 0] : Fin 2 → ℕ) = fun _ => 0 := by decide

/-! ## The arrays of a head, as the kernel computes them from its slices -/

section
variable (q : FVec Ideal S256x256 .f32) (k v : FVec Ideal S256x256 .bf16) (w : FVec Ideal S1x256 .f32)

def lanes (x : FVec Ideal S256x256 .f32) : FVec Ideal S256x1 .f32 :=
  shapeCast S256x1 (multiReduction .add [1] S256 x 0x00000000#32 reduces_S256x256_S256 (.inl rfl) rfl) shapeCasts_S256_S256x1
def hRq : FVec Ideal S256x1 .f32 :=
  rsqrt (addf (divf (lanes (mulf q q)) (broadcast S256x1 (Scalar.ofBits .f32 0x43800000#32))) (broadcast S256x1 (Scalar.ofBits .f32 0x358637BD#32)))
def hXh : FVec Ideal S256x256 .f32 := mulf q (broadcastTo S256x256 (hRq q) broadcasts_S256x1_S256x256)
def hQn : FVec Ideal S256x256 .bf16 := truncf .bf16 (mulf (hXh q) (broadcastTo S256x256 w broadcasts_S1x256_S256x256)) bitsLt_bf16_f32
def hS : FVec Ideal S256x256 .f32 :=
  mulf (matmul dot_S256x256_S256x256_S256x256_1_1_0_0_n_n none (hQn q w) k (constant S256x256 .f32 0x00000000#32)) (broadcast S256x256 (Scalar.ofBits .f32 0x3D800000#32))
def hM : FVec Ideal S256x1 .f32 :=
  shapeCast S256x1 (multiReduction .maximumf [1] S256 (hS q k w) 0xFF800000#32 reduces_S256x256_S256 (.inl rfl) rfl) shapeCasts_S256_S256x1
def hE (s : FVec Ideal S256x256 .f32) (M : FVec Ideal S256x1 .f32) : FVec Ideal S256x256 .f32 :=
  exp (subf s (broadcastTo S256x256 M broadcasts_S256x1_S256x256))
def hP : FVec Ideal S256x256 .f32 :=
  divf (hE (hS q k w) (hM q k w)) (broadcastTo S256x256 (lanes (hE (hS q k w) (hM q k w))) broadcasts_S256x1_S256x256)
def hO : FVec Ideal S256x256 .f32 :=
  matmul dot_S256x256_S256x256_S256x256_1_0_0_1_n_n none (truncf .bf16 (hP q k w) bitsLt_bf16_f32) v (constant S256x256 .f32 0x00000000#32)
end

/-! ## Their entries -/

section
variable {q : FVec Ideal S256x256 .f32} {k v : FVec Ideal S256x256 .bf16} {w : FVec Ideal S1x256 .f32}
  {Q K V : Fin 256 → Fin 256 → EReal} {W : Fin 256 → EReal}
  (hq : ∀ a d, q (ix2 a d) = Q a d) (hk : ∀ a d, k (ix2 a d) = K a d)
  (hv : ∀ a d, v (ix2 a d) = V a d) (hw : ∀ d, w (ix2 (0 : Fin 1) d) = W d)

theorem lanes_at (x : FVec Ideal S256x256 .f32) (a : Fin 256) : lanes x (ix2 a (0 : Fin 1)) = ∑ d : Fin 256, x (ix2 a d) := by
  unfold lanes
  pointwise

include hq in
theorem hRq_at (a : Fin 256) : hRq q (ix2 a (0 : Fin 1)) = er (Q a) := by
  have e : hRq q (ix2 a (0 : Fin 1)) =
      Ideal.rsqrt (Ideal.div (∑ d : Fin 256, q (ix2 a d) * q (ix2 a d)) (Ideal.ofBits .f32 0x43800000#32) + Ideal.ofBits .f32 0x358637BD#32) := by
    have l := lanes_at (mulf q q) a
    unfold hRq
    generalize lanes (mulf q q) = y at *
    pointwise
    rw [l]
    rfl
  rw [e]
  simp only [hq]
  rfl

include hq hw in
theorem hQn_at (a d : Fin 256) : hQn q w (ix2 a d) = en (Q a) W d := by
  have e : hQn q w (ix2 a d) = hXh q (ix2 a d) * w (ix2 (0 : Fin 1) d) := by
    unfold hQn
    generalize hXh q = y
    pointwise
  have e' : hXh q (ix2 a d) = q (ix2 a d) * hRq q (ix2 a (0 : Fin 1)) := by
    unfold hXh
    generalize hRq q = y
    pointwise
  rw [e, e', hq, hRq_at hq, hw]
  rfl

include hq hk hw in
theorem hS_at (a m : Fin 256) : hS q k w (ix2 a m) = es (Q a) W K m := by
  have e : hS q k w (ix2 a m) = (∑ d : Fin 256, hQn q w (ix2 a d) * k (ix2 m d)) * Ideal.ofBits .f32 0x3D800000#32 := by
    unfold hS
    generalize hQn q w = y
    pointwise
  rw [e]
  simp only [hQn_at hq hw, hk]
  rfl

include hq hk hw in
theorem hM_at (a : Fin 256) : hM q k w (ix2 a (0 : Fin 1)) = eM (Q a) W K := by
  have e : hM q k w (ix2 a (0 : Fin 1)) = (Finset.univ : Finset (Fin 256)).fold max (Ideal.ofBits .f32 0xFF800000#32) (fun m => hS q k w (ix2 a m)) := by
    unfold hM
    generalize hS q k w = y
    pointwise
  rw [e]
  simp only [hS_at hq hk hw]
  unfold eM
  rfl

include hq hk hw in
theorem hE_at (a m : Fin 256) : hE (hS q k w) (hM q k w) (ix2 a m) = ee (Q a) W K m := by
  have e : hE (hS q k w) (hM q k w) (ix2 a m) = Ideal.exp (hS q k w (ix2 a m) - hM q k w (ix2 a (0 : Fin 1))) := by
    unfold hE
    generalize hS q k w = y
    generalize hM q k w = z
    pointwise
  rw [e, hS_at hq hk hw, hM_at hq hk hw]
  unfold ee
  rfl

include hq hk hw in
theorem hP_at (a m : Fin 256) : hP q k w (ix2 a m) = ep (Q a) W K m := by
  have e : hP q k w (ix2 a m) = Ideal.div (hE (hS q k w) (hM q k w) (ix2 a m)) (∑ m' : Fin 256, hE (hS q k w) (hM q k w) (ix2 a m')) := by
    rw [← lanes_at]
    unfold hP
    generalize lanes (hE (hS q k w) (hM q k w)) = z
    generalize hE (hS q k w) (hM q k w) = y
    pointwise
  rw [e]
  simp only [hE_at hq hk hw]
  unfold ep
  rfl

include hq hk hv hw in
theorem hO_at (a d : Fin 256) : hO q k v w (ix2 a d) = eo (Q a) W K V d := by
  have e : hO q k v w (ix2 a d) = ∑ m : Fin 256, hP q k w (ix2 a m) * v (ix2 m d) := by
    unfold hO
    generalize hP q k w = y
    pointwise
  rw [e]
  simp only [hP_at hq hk hw, hv]
  unfold eo
  rfl
end

/-! ## A block -/

/-- Four arrays side by side, entry by entry. -/
theorem cat_at (y0 y1 y2 y3 : FVec Ideal S256x256 .f32) (f : ℕ → Fin 256 → EReal) (a : Fin 256)
    (h0 : ∀ d, y0 (ix2 a d) = f 0 d) (h1 : ∀ d, y1 (ix2 a d) = f 1 d) (h2 : ∀ d, y2 (ix2 a d) = f 2 d) (h3 : ∀ d, y3 (ix2 a d) = f 3 d)
    (j : Fin 1024) :
    concatenate S256x1024 1 [⟨S256x256, y0⟩, ⟨S256x256, y1⟩, ⟨S256x256, y2⟩, ⟨S256x256, y3⟩]
      concatenates_S256x256_S256x256_S256x256_S256x256_S256x1024_d1 (ix2 a j) = f (j.val / 256) (lane j.val) := by
  pointwise
  simp only [h0, h1, h2, h3]
  have hj := j.isLt
  split_ifs
  all_goals first
    | (exfalso; omega)
    | exact absurd rfl (by assumption)
    | (rw [show j.val / 256 = 0 by omega]; exact congrArg (f 0) (Fin.ext (by show _ = j.val % 256; dsimp only; omega)))
    | (rw [show j.val / 256 = 1 by omega]; exact congrArg (f 1) (Fin.ext (by show _ = j.val % 256; dsimp only; omega)))
    | (rw [show j.val / 256 = 2 by omega]; exact congrArg (f 2) (Fin.ext (by show _ = j.val % 256; dsimp only; omega)))
    | (rw [show j.val / 256 = 3 by omega]; exact congrArg (f 3) (Fin.ext (by show _ = j.val % 256; dsimp only; omega)))

theorem slice0 {φ : FTy} (x : FVec Ideal S256x1024 φ) (a d : Fin 256) :
    extractStridedSlice S256x256 ![0, 0] x slices_S256x1024_o0_0_S256x256 (ix2 a d) = x (ix2 a ⟨0 + d.val, by have := d.isLt; omega⟩) := by
  pointwise
  try rfl

theorem slice1 {φ : FTy} (x : FVec Ideal S256x1024 φ) (a d : Fin 256) :
    extractStridedSlice S256x256 ![0, 256] x slices_S256x1024_o0_256_S256x256 (ix2 a d) = x (ix2 a ⟨256 + d.val, by have := d.isLt; omega⟩) := by
  pointwise
  try rfl

theorem slice2 {φ : FTy} (x : FVec Ideal S256x1024 φ) (a d : Fin 256) :
    extractStridedSlice S256x256 ![0, 512] x slices_S256x1024_o0_512_S256x256 (ix2 a d) = x (ix2 a ⟨512 + d.val, by have := d.isLt; omega⟩) := by
  pointwise
  try rfl

theorem slice3 {φ : FTy} (x : FVec Ideal S256x1024 φ) (a d : Fin 256) :
    extractStridedSlice S256x256 ![0, 768] x slices_S256x1024_o0_768_S256x256 (ix2 a d) = x (ix2 a ⟨768 + d.val, by have := d.isLt; omega⟩) := by
  pointwise
  try rfl

/-- The four heads' results side by side. -/
def catO (x0 : Vec Ideal S256x1024 .f32) (x1 x2 : Vec Ideal S256x1024 .bf16) (x3 : Vec Ideal S1x256 .f32) : FVec Ideal S256x1024 .f32 :=
  concatenate S256x1024 1 [⟨S256x256, hO (extractStridedSlice S256x256 ![0, 0] x0 slices_S256x1024_o0_0_S256x256) (extractStridedSlice S256x256 ![0, 0] x1 slices_S256x1024_o0_0_S256x256) (extractStridedSlice S256x256 ![0, 0] x2 slices_S256x1024_o0_0_S256x256) x3⟩,
    ⟨S256x256, hO (extractStridedSlice S256x256 ![0, 256] x0 slices_S256x1024_o0_256_S256x256) (extractStridedSlice S256x256 ![0, 256] x1 slices_S256x1024_o0_256_S256x256) (extractStridedSlice S256x256 ![0, 256] x2 slices_S256x1024_o0_256_S256x256) x3⟩,
    ⟨S256x256, hO (extractStridedSlice S256x256 ![0, 512] x0 slices_S256x1024_o0_512_S256x256) (extractStridedSlice S256x256 ![0, 512] x1 slices_S256x1024_o0_512_S256x256) (extractStridedSlice S256x256 ![0, 512] x2 slices_S256x1024_o0_512_S256x256) x3⟩,
    ⟨S256x256, hO (extractStridedSlice S256x256 ![0, 768] x0 slices_S256x1024_o0_768_S256x256) (extractStridedSlice S256x256 ![0, 768] x1 slices_S256x1024_o0_768_S256x256) (extractStridedSlice S256x256 ![0, 768] x2 slices_S256x1024_o0_768_S256x256) x3⟩]
    concatenates_S256x256_S256x256_S256x256_S256x256_S256x1024_d1

theorem out_block (x0 : Vec Ideal S256x1024 .f32) (x1 x2 : Vec Ideal S256x1024 .bf16) (x3 : Vec Ideal S1x256 .f32) :
    out0_4 x0 x1 x2 x3 = (truncf .bf16 (catO x0 x1 x2 x3) bitsLt_bf16_f32 : FVec Ideal S256x1024 .bf16) := by
  unfold out0_4
  rw [View.canon_unit_zero (S := S256x1024) hz]
  simp only [View.ld_unit_zero (S := S256x1024) hz, View.ld_unit_zero (S := S1x256) hz]
  rfl

section
variable {x0 : Vec Ideal S256x1024 .f32} {x1 x2 : Vec Ideal S256x1024 .bf16} {x3 : Vec Ideal S1x256 .f32}
  {A0 A1 A2 A3 : ℕ → ℕ → EReal} {b : ℕ}
  (h0 : ∀ (a : Fin 256) (j : Fin 1024), x0 (ix2 a j) = A0 (b + a.val) j.val)
  (h1 : ∀ (a : Fin 256) (j : Fin 1024), x1 (ix2 a j) = A1 a.val j.val)
  (h2 : ∀ (a : Fin 256) (j : Fin 1024), x2 (ix2 a j) = A2 a.val j.val)
  (h3 : ∀ d : Fin 256, x3 (ix2 (0 : Fin 1) d) = A3 0 d.val)

include h0 h1 h2 h3 in
theorem catO_at (a : Fin 256) (j : Fin 1024) : catO x0 x1 x2 x3 (ix2 a j) = out A0 A1 A2 A3 (b + a.val) j.val :=
  cat_at _ _ _ _ (fun h d => eo (row A0 h (b + a.val)) (wts A3) (mem A1 h) (mem A2 h) d) a
    (fun d => hO_at (Q := fun a => row A0 0 (b + a.val)) (K := mem A1 0) (V := mem A2 0) (W := wts A3) (fun a d => (slice0 _ a d).trans (h0 a _)) (fun a d => (slice0 _ a d).trans (h1 a _)) (fun a d => (slice0 _ a d).trans (h2 a _)) h3 a d)
    (fun d => hO_at (Q := fun a => row A0 1 (b + a.val)) (K := mem A1 1) (V := mem A2 1) (W := wts A3) (fun a d => (slice1 _ a d).trans (h0 a _)) (fun a d => (slice1 _ a d).trans (h1 a _)) (fun a d => (slice1 _ a d).trans (h2 a _)) h3 a d)
    (fun d => hO_at (Q := fun a => row A0 2 (b + a.val)) (K := mem A1 2) (V := mem A2 2) (W := wts A3) (fun a d => (slice2 _ a d).trans (h0 a _)) (fun a d => (slice2 _ a d).trans (h1 a _)) (fun a d => (slice2 _ a d).trans (h2 a _)) h3 a d)
    (fun d => hO_at (Q := fun a => row A0 3 (b + a.val)) (K := mem A1 3) (V := mem A2 3) (W := wts A3) (fun a d => (slice3 _ a d).trans (h0 a _)) (fun a d => (slice3 _ a d).trans (h1 a _)) (fun a d => (slice3 _ a d).trans (h2 a _)) h3 a d) j
end

/-! ## The points -/

theorem idx : ∀ t : Fin cfg0.N, win0_0.index t = ![t.val, 0] ∧ win0_1.index t = ![0, 0] ∧
    win0_2.index t = ![0, 0] ∧ win0_3.index t = ![0, 0] :=
  (by decide +kernel : ∀ t : Fin grid0.N, _)

theorem idx_out : ∀ t : Fin cfg0.N, win0_4.index t 0 = t.val ∧ win0_4.index t 1 = 0 :=
  (by decide +kernel : ∀ t : Fin grid0.N, _)

variable (m : (ℓ : Loc nD τ sig) → Buf (Elt Ideal) ℓ) (c : Dev nD)

/-- The arguments: the queries, the keys, the values, and the normalisation's weight. -/
abbrev X0 : FVec Ideal S8192x1024 .f32 := m ((c : Thread nD τ).loc main_arg0)
abbrev X1 : FVec Ideal S256x1024 .bf16 := m ((c : Thread nD τ).loc main_arg1)
abbrev X2 : FVec Ideal S256x1024 .bf16 := m ((c : Thread nD τ).loc main_arg2)
abbrev X3 : FVec Ideal S1x256 .f32 := m ((c : Thread nD τ).loc main_arg3)

theorem read0 (t : Fin cfg0.N) (a : Fin 256) (j : Fin 1024) :
    iblk m c 0 t (ix2 a j) = at2 (X0 m c) (256 * t.val + a.val) j.val := by
  have ht : t.val < 32 := lt_of_lt_of_eq t.isLt (show cfg0.N = 32 from N_0)
  rw [at2_of _ (by omega) (by omega)]
  blk_ext [iblk, V_main_arg0, idx t]
theorem read1 (t : Fin cfg0.N) (a : Fin 256) (j : Fin 1024) : iblk m c 1 t (ix2 a j) = at2 (X1 m c) a.val j.val := by
  rw [at2_of _ (by omega) (by omega)]
  blk_ext [iblk, V_main_arg1, idx t]
theorem read2 (t : Fin cfg0.N) (a : Fin 256) (j : Fin 1024) : iblk m c 2 t (ix2 a j) = at2 (X2 m c) a.val j.val := by
  rw [at2_of _ (by omega) (by omega)]
  blk_ext [iblk, V_main_arg2, idx t]
theorem read3 (t : Fin cfg0.N) (d : Fin 256) : iblk m c 3 t (ix2 (0 : Fin 1) d) = at2 (X3 m c) 0 d.val := by
  rw [at2_of _ (by omega) (by omega)]
  blk_ext [iblk, V_main_arg3, idx t]

/-- The result array. -/
theorem final : (dats m 0 c).arrAt 4 cfg0.N =
    (fun y => out (at2 (X0 m c)) (at2 (X1 m c)) (at2 (X2 m c)) (at2 (X3 m c)) (y 0).val (y 1).val : FVec Ideal S8192x1024 .bf16) := by
  refine (dats m 0 c).arrAt_eq_of_covers 4 _ (by decide +kernel) fun t hf y => ?_
  blk_simp
  rw [after0_4]
  have e0 : win0_4.index t 0 * 256 + (y 0).val = 256 * t.val + (y 0).val := by have h := (idx_out t).1; omega
  have e1 : win0_4.index t 1 * 1024 + (y 1).val = (y 1).val := by have h := (idx_out t).2; omega
  rw [e0, e1, out_block]
  have h := catO_at (read0 m c t) (read1 m c t) (read2 m c t) (read3 m c t) (y 0) (y 1)
  generalize catO (iblk m c 0 t) (iblk m c 1 t) (iblk m c 2 t) (iblk m c 3 t) = z at h ⊢
  refine Eq.trans ?_ h
  refine congrArg z ?_
  funext d
  match d with
  | ⟨0, _⟩ => rfl
  | ⟨1, _⟩ => rfl

end Cert.XAttnFwdIdeal.Head

end
-- ==== Proof.XAttnFwd.lean ====
/- The cross-attention: the kernel takes thirty-two blocks of 256 rows, and leaves for each of the four heads the values
   weighed by the attention of its normalised queries, as the reference does. -/
module

public import proofs.«01_k».proof.Defs
public import proofs.«01_k».proof.Proof.XAttnOut
public import proofs.«01_k».proof.Proof.Gen.XAttnFwdRefIdeal.Run
public import proofs.«01_k».proof.Proof.Gen.XAttnFwdRefIdeal.Read
public import Idealize.ShloMosaic.Lib.Claim

@[expose] public section

set_option maxRecDepth 16384

open Finset

noncomputable section

namespace Cert.XAttnFwdRefIdeal.Entry

open Cert.XAttnFwdRefIdeal Cert.XAttnFwdRefIdeal.Gen Cert.XAttnFwdRefIdeal.Read Idealize.ShloMosaic Entries Heads HeadsOut

/-! ## Indices and sums -/

theorem i2 {p n : ℕ} (i : (⟨2, ![p, n]⟩ : Shape).Idx) (a : Fin p) (b : Fin n) (e0 : (i 0).val = a.val) (e1 : (i 1).val = b.val) : i = ix2 a b := by
  funext d
  match d with
  | ⟨0, _⟩ => exact Fin.ext e0
  | ⟨1, _⟩ => exact Fin.ext e1

theorem i3 {p n q : ℕ} (i : (⟨3, ![p, n, q]⟩ : Shape).Idx) (a : Fin p) (b : Fin n) (c : Fin q) (e0 : (i 0).val = a.val) (e1 : (i 1).val = b.val)
    (e2 : (i 2).val = c.val) : i = ix3 a b c := by
  funext d
  match d with
  | ⟨0, _⟩ => exact Fin.ext e0
  | ⟨1, _⟩ => exact Fin.ext e1
  | ⟨2, _⟩ => exact Fin.ext e2

theorem zsum {n : ℕ} {z : EReal} {f g : Fin n → EReal} (hz : z = Ideal.ofBits .f32 0x00000000#32) (h : ∀ k, f k = g k) :
    z + ∑ k, f k = ∑ k, g k := by
  rw [hz, zero_coe, EReal.coe_zero, zero_add]
  exact Finset.sum_congr rfl fun k _ => h k

theorem dsum {n : ℕ} {a b f g : Fin n → EReal} (ha : ∀ k, a k = f k) (hb : ∀ k, b k = g k) : ∑ k, a k * b k = ∑ k, f k * g k :=
  Finset.sum_congr rfl fun k _ => by rw [ha, hb]

/-- A column of head `h`. -/
def col (h : Fin 4) (d : Fin 256) : Fin 1024 := ⟨256 * h.val + d.val, by have := h.isLt; have := d.isLt; omega⟩

/-! ## The entries -/

section
variable {x0 : FVec Ideal S8192x1024 .f32} {x1 x2 : FVec Ideal S256x1024 .bf16} {x3 : FVec Ideal S1x256 .f32}
  {A0 A1 A2 A3 : ℕ → ℕ → EReal}
  (h0 : ∀ (i : Fin 8192) (j : Fin 1024), x0 (ix2 i j) = A0 i.val j.val)
  (h1 : ∀ (i : Fin 256) (j : Fin 1024), x1 (ix2 i j) = A1 i.val j.val)
  (h2 : ∀ (i : Fin 256) (j : Fin 1024), x2 (ix2 i j) = A2 i.val j.val)
  (h3 : ∀ d : Fin 256, x3 (ix2 (0 : Fin 1) d) = A3 0 d.val)

include h0 in
theorem q_at (t : Fin 8192) (h : Fin 4) (d : Fin 256) : val_main_v2 (F := Ideal) x0 (ix3 t h d) = row A0 h.val t.val d := by
  have e0 : (idx_main_v2 (ix3 t h d) 0).val = t.val := by
    show ((t.val * 4 + h.val) * 256 + d.val) / 1024 = t.val
    omega
  have e1 : (idx_main_v2 (ix3 t h d) 1).val = (col h d).val := by
    show ((t.val * 4 + h.val) * 256 + d.val) % 1024 = 256 * h.val + d.val
    omega
  rw [val_main_v2_apply, i2 _ t (col h d) e0 e1]
  exact h0 _ _

include h0 in
theorem r_at (t : Fin 8192) (h : Fin 4) : val_main_v10 (F := Ideal) x0 (ix3 t h (0 : Fin 1)) = er (row A0 h.val t.val) := by
  have s : val_main_v4 (F := Ideal) x0 (ix2 t h) = ∑ d, row A0 h.val t.val d * row A0 h.val t.val d :=
    (val_main_v4_apply x0 _).trans (zsum rfl fun k => by
      rw [i3 (idx_main_v4 (ix2 t h) k) t h k rfl rfl rfl, val_main_v3_apply, q_at h0]
      rfl)
  have e : val_main_v10 (F := Ideal) x0 (ix3 t h (0 : Fin 1)) = Ideal.rsqrt (Ideal.div (val_main_v4 (F := Ideal) x0 (ix2 t h)) (Ideal.ofBits .f32 0x43800000#32) + Ideal.ofBits .f32 0x358637BD#32) := by
    rw [val_main_v10_apply, val_main_v9_apply, val_main_v7_apply, val_main_v5_apply, i2 (idx_main_v5 (ix3 t h (0 : Fin 1))) t h rfl rfl]
    rfl
  rw [e, s]
  rfl

include h3 in
theorem w_at (t : Fin 8192) (h : Fin 4) (d : Fin 256) : val_main_v15 (F := Ideal) x3 (ix3 t h d) = wts A3 d := by
  have e1 : (idx_main_v13 (idx_main_v14 (idx_main_v15 (ix3 t h d))) 1).val = d.val := by
    show d.val % 256 = d.val
    omega
  rw [val_main_v15_apply, val_main_v14_apply, val_main_v13_apply, i2 _ (0 : Fin 1) d rfl e1]
  exact h3 d

include h0 h3 in
theorem n_at (t : Fin 8192) (h : Fin 4) (d : Fin 256) : val_main_v16 (F := Ideal) x0 x3 (ix3 t h d) = en (row A0 h.val t.val) (wts A3) d := by
  rw [val_main_v16_apply, val_main_v12_apply, val_main_v11_apply, i3 (idx_main_v11 (ix3 t h d)) t h (0 : Fin 1) rfl rfl rfl, q_at h0, r_at h0, w_at h3]
  rfl

include h1 in
theorem k_at (m : Fin 256) (h : Fin 4) (d : Fin 256) : val_main_v17 (F := Ideal) x1 (ix3 m h d) = mem A1 h.val m d := by
  have e0 : (idx_main_v17 (ix3 m h d) 0).val = m.val := by
    show ((m.val * 4 + h.val) * 256 + d.val) / 1024 = m.val
    omega
  have e1 : (idx_main_v17 (ix3 m h d) 1).val = (col h d).val := by
    show ((m.val * 4 + h.val) * 256 + d.val) % 1024 = 256 * h.val + d.val
    omega
  rw [val_main_v17_apply, i2 _ m (col h d) e0 e1]
  exact h1 _ _

include h2 in
theorem v_at (m : Fin 256) (h : Fin 4) (d : Fin 256) : val_main_v18 (F := Ideal) x2 (ix3 m h d) = mem A2 h.val m d := by
  have e0 : (idx_main_v18 (ix3 m h d) 0).val = m.val := by
    show ((m.val * 4 + h.val) * 256 + d.val) / 1024 = m.val
    omega
  have e1 : (idx_main_v18 (ix3 m h d) 1).val = (col h d).val := by
    show ((m.val * 4 + h.val) * 256 + d.val) % 1024 = 256 * h.val + d.val
    omega
  rw [val_main_v18_apply, i2 _ m (col h d) e0 e1]
  exact h2 _ _

include h0 h1 h3 in
theorem s_at (t : Fin 8192) (h : Fin 4) (m : Fin 256) : val_main_v21 (F := Ideal) x0 x1 x3 (ix3 h t m) = es (row A0 h.val t.val) (wts A3) (mem A1 h.val) m := by
  have s : val_main_v19 (F := Ideal) x0 x1 x3 (ix3 h t m) = ∑ d, en (row A0 h.val t.val) (wts A3) d * mem A1 h.val m d :=
    (val_main_v19_apply x0 x1 x3 _).trans (dsum
      (fun k => by rw [i3 (lidx_main_v19 (ix3 h t m) k) t h k rfl rfl rfl]; exact n_at h0 h3 t h k)
      (fun k => by rw [i3 (ridx_main_v19 (ix3 h t m) k) m h k rfl rfl rfl]; exact k_at h1 m h k))
  have e : val_main_v21 (F := Ideal) x0 x1 x3 (ix3 h t m) = Ideal.div (val_main_v19 (F := Ideal) x0 x1 x3 (ix3 h t m)) (Ideal.ofBits .f32 0x41800000#32) := rfl
  rw [e, s, div16]
  rfl

include h0 h1 h3 in
theorem max_at (t : Fin 8192) (h : Fin 4) : val_main_v22 (F := Ideal) x0 x1 x3 (ix2 h t) = eM (row A0 h.val t.val) (wts A3) (mem A1 h.val) := by
  have e : val_main_v22 (F := Ideal) x0 x1 x3 (ix2 h t) = (Finset.univ : Finset (Fin 256)).fold max (Ideal.ofBits .f32 0xFF800000#32) (fun m => val_main_v21 (F := Ideal) x0 x1 x3 (ix3 h t m)) := by
    unfold val_main_v22 val_main_cst_3
    generalize val_main_v21 (F := Ideal) x0 x1 x3 = y
    pointwise
    try rfl
  rw [e, (funext fun m => s_at h0 h1 h3 t h m :
    (fun m => val_main_v21 (F := Ideal) x0 x1 x3 (ix3 h t m)) = fun m => es (row A0 h.val t.val) (wts A3) (mem A1 h.val) m)]
  unfold eM
  rfl

include h0 h1 h3 in
theorem e_at (t : Fin 8192) (h : Fin 4) (m : Fin 256) : val_main_v28 (F := Ideal) x0 x1 x3 (ix3 h t m) = ee (row A0 h.val t.val) (wts A3) (mem A1 h.val) m := by
  have e : val_main_v26 (F := Ideal) x0 x1 x3 (ix3 h t m) = max (Ideal.ofBits .f32 0xFF800000#32) (val_main_v22 (F := Ideal) x0 x1 x3 (ix2 h t)) := by
    rw [val_main_v26_apply, i3 (idx_main_v26 (ix3 h t m)) h t (0 : Fin 1) rfl rfl rfl, val_main_v25_apply,
      i2 (idx_main_v25 (ix3 h t (0 : Fin 1))) h t rfl rfl, val_main_v24_apply, val_main_v23_apply]
    generalize val_main_v22 (F := Ideal) x0 x1 x3 (ix2 h t) = z
    rfl
  have e' : val_main_v28 (F := Ideal) x0 x1 x3 (ix3 h t m) = Ideal.exp (val_main_v21 (F := Ideal) x0 x1 x3 (ix3 h t m) - val_main_v26 (F := Ideal) x0 x1 x3 (ix3 h t m)) := by
    rw [val_main_v28_apply, val_main_v27_apply]
    generalize val_main_v21 (F := Ideal) x0 x1 x3 (ix3 h t m) = y
    generalize val_main_v26 (F := Ideal) x0 x1 x3 (ix3 h t m) = z
    rfl
  rw [e', e, bot_word, max_at h0 h1 h3, s_at h0 h1 h3, max_eq_right bot_le]
  unfold ee
  rfl

include h0 h1 h3 in
theorem p_at (t : Fin 8192) (h : Fin 4) (m : Fin 256) : val_main_v32 (F := Ideal) x0 x1 x3 (ix3 h t m) = ep (row A0 h.val t.val) (wts A3) (mem A1 h.val) m := by
  have s : val_main_v29 (F := Ideal) x0 x1 x3 (ix2 h t) = ∑ k, ee (row A0 h.val t.val) (wts A3) (mem A1 h.val) k :=
    (val_main_v29_apply x0 x1 x3 _).trans (zsum rfl fun k => by
      rw [i3 (idx_main_v29 (ix2 h t) k) h t k rfl rfl rfl]
      exact e_at h0 h1 h3 t h k)
  have e : val_main_v31 (F := Ideal) x0 x1 x3 (ix3 h t m) = val_main_v29 (F := Ideal) x0 x1 x3 (ix2 h t) := by
    rw [val_main_v31_apply, i3 (idx_main_v31 (ix3 h t m)) h t (0 : Fin 1) rfl rfl rfl, val_main_v30_apply,
      i2 (idx_main_v30 (ix3 h t (0 : Fin 1))) h t rfl rfl]
  rw [val_main_v32_apply, e, s, e_at h0 h1 h3]
  unfold ep
  generalize ee (row A0 h.val t.val) (wts A3) (mem A1 h.val) = y
  rfl

include h0 h1 h2 h3 in
theorem o_at (t : Fin 8192) (h : Fin 4) (d : Fin 256) : val_main_v33 (F := Ideal) x0 x1 x2 x3 (ix3 h d t) =
    eo (row A0 h.val t.val) (wts A3) (mem A1 h.val) (mem A2 h.val) d := by
  have s : val_main_v33 (F := Ideal) x0 x1 x2 x3 (ix3 h d t) = ∑ m, mem A2 h.val m d * ep (row A0 h.val t.val) (wts A3) (mem A1 h.val) m :=
    (val_main_v33_apply x0 x1 x2 x3 _).trans (dsum
      (fun k => by rw [i3 (lidx_main_v33 (ix3 h d t) k) k h d rfl rfl rfl]; exact v_at h2 k h d)
      (fun k => by rw [i3 (ridx_main_v33 (ix3 h d t) k) h t k rfl rfl rfl]; exact p_at h0 h1 h3 t h k))
  rw [s]
  unfold eo
  exact Finset.sum_congr rfl fun k _ => mul_comm _ _

include h0 h1 h2 h3 in
/-- The reference's result. -/
theorem out_at (t : Fin 8192) (j : Fin 1024) : val_main_v36 (F := Ideal) x0 x1 x2 x3 (ix2 t j) = out A0 A1 A2 A3 t.val j.val := by
  have hj := j.isLt
  have e0 : (idx_main_v35 (ix2 t j) 0).val = t.val := by
    show (t.val * 1024 + j.val) / 1024 = t.val
    omega
  have e1 : (idx_main_v35 (ix2 t j) 1).val = j.val / 256 := by
    show (t.val * 1024 + j.val) / 256 % 4 = j.val / 256
    omega
  have e2 : (idx_main_v35 (ix2 t j) 2).val = j.val % 256 := by
    show (t.val * 1024 + j.val) % 256 = j.val % 256
    omega
  have e : val_main_v36 (F := Ideal) x0 x1 x2 x3 (ix2 t j) = val_main_v35 (F := Ideal) x0 x1 x2 x3 (ix2 t j) := by
    rw [val_main_v36_apply]
    generalize val_main_v35 (F := Ideal) x0 x1 x2 x3 (ix2 t j) = y
    rfl
  rw [e, val_main_v35_apply, i3 (idx_main_v35 (ix2 t j)) t (⟨j.val / 256, by omega⟩ : Fin 4) (lane j.val) e0 e1 e2, val_main_v34_apply,
    i3 (idx_main_v34 (ix3 t (⟨j.val / 256, by omega⟩ : Fin 4) (lane j.val))) (⟨j.val / 256, by omega⟩ : Fin 4) (lane j.val) t rfl rfl rfl, o_at h0 h1 h2 h3]
  unfold out
  rfl
end

end Cert.XAttnFwdRefIdeal.Entry

namespace Cert.Proof.XAttnFwd

open Idealize.ShloMosaic Idealize.ShloMosaic.TcCoe Idealize.SL.Sem Blocked

section
open Cert.XAttnFwdRefIdeal

/-- The reference's run, its result named. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v36) =
        Read.val_main_v36 (m ((c : Thread nD τ).loc main_arg0)) (m ((c : Thread nD τ).loc main_arg1)) (m ((c : Thread nD τ).loc main_arg2))
          (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (Value.run (F := Ideal) m ρ)
  obtain ⟨h1, h2⟩ := h c
  exact ⟨h1.trans (Read.val_main_v36_eq _ _), h2⟩

end

/-- On every argument the kernel's result is the reference's. -/
theorem algebraic : Cert.algebraic_XAttnFwdIdeal_XAttnFwdRefIdeal := by
  intro m g m' g' _ hagree
  refine ⟨fun c => (Cert.XAttnFwdIdeal.Gen.dats m 0 c).arrAt 4 Cert.XAttnFwdIdeal.cfg0.N, ?_, ?_⟩
  · exact Cert.XAttnFwdIdeal.Value.run_blocks m g
  · refine (θ_run Cert.XAttnFwdRefIdeal.defs _ _).mono (fun r h c => ?_) (ref_run m' g')
    obtain ⟨h1, h2⟩ := h c
    obtain ⟨a0, a1, a2, a3⟩ := hagree c
    rw [a0, a1, a2, a3] at h1
    refine ⟨h1.trans (Eq.trans ?_ (Cert.XAttnFwdIdeal.Head.final m c).symm), h2⟩
    funext y
    idx_vars y
    exact Cert.XAttnFwdRefIdeal.Entry.out_at (fun i j => (at2_of _ i.isLt j.isLt).symm) (fun i j => (at2_of _ i.isLt j.isLt).symm)
      (fun i j => (at2_of _ i.isLt j.isLt).symm) (fun d => (at2_of _ (by decide) d.isLt).symm) y0 y1

end Cert.Proof.XAttnFwd

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.DownGrad
public import proofs.«01_k».proof.Proof.Gen.DownGrad.Frame
public import proofs.«01_k».proof.Proof.Gen.DownGradIdeal
public import proofs.«01_k».proof.Proof.Gen.DownGradIdeal.Frame
public import proofs.«01_k».proof.Proof.Gen.DownGradIdeal.Value
public import proofs.«01_k».proof.Proof.Gen.DownGradRefIdeal
public import proofs.«01_k».proof.Proof.Gen.DownGradRefIdeal.Run
public import proofs.«01_k».proof.Proof.Gen.DownGradRefIdeal.Read
public import proofs.«01_k».proof.Proof.Gen.UpBack
public import proofs.«01_k».proof.Proof.Gen.UpBack.Frame
public import proofs.«01_k».proof.Proof.Gen.UpBackIdeal
public import proofs.«01_k».proof.Proof.Gen.UpBackIdeal.Frame
public import proofs.«01_k».proof.Proof.Gen.UpBackIdeal.Value
public import proofs.«01_k».proof.Proof.Gen.UpBackRefIdeal
public import proofs.«01_k».proof.Proof.Gen.UpBackRefIdeal.Run
public import proofs.«01_k».proof.Proof.Gen.UpBackRefIdeal.Read
public import proofs.«01_k».proof.Proof.Gen.UpGrad
public import proofs.«01_k».proof.Proof.Gen.UpGrad.Frame
public import proofs.«01_k».proof.Proof.Gen.UpGradIdeal
public import proofs.«01_k».proof.Proof.Gen.UpGradIdeal.Frame
public import proofs.«01_k».proof.Proof.Gen.UpGradIdeal.Value
public import proofs.«01_k».proof.Proof.Gen.UpGradRefIdeal
public import proofs.«01_k».proof.Proof.Gen.UpGradRefIdeal.Run
public import proofs.«01_k».proof.Proof.Gen.UpGradRefIdeal.Read
public import proofs.«01_k».proof.Proof.Gen.ActBack
public import proofs.«01_k».proof.Proof.Gen.ActBack.Frame
public import proofs.«01_k».proof.Proof.Gen.ActBackIdeal
public import proofs.«01_k».proof.Proof.Gen.ActBackIdeal.Frame
public import proofs.«01_k».proof.Proof.Gen.ActBackIdeal.Value
public import proofs.«01_k».proof.Proof.Gen.ActBackRefIdeal
public import proofs.«01_k».proof.Proof.Gen.ActBackRefIdeal.Run
public import proofs.«01_k».proof.Proof.Gen.ActBackRefIdeal.Read
public import proofs.«01_k».proof.Proof.Gen.MoBack
public import proofs.«01_k».proof.Proof.Gen.MoBack.Frame
public import proofs.«01_k».proof.Proof.Gen.MoBackIdeal
public import proofs.«01_k».proof.Proof.Gen.MoBackIdeal.Frame
public import proofs.«01_k».proof.Proof.Gen.MoBackIdeal.Value
public import proofs.«01_k».proof.Proof.Gen.MoBackRefIdeal
public import proofs.«01_k».proof.Proof.Gen.MoBackRefIdeal.Run
public import proofs.«01_k».proof.Proof.Gen.MoBackRefIdeal.Read
public import proofs.«01_k».proof.Proof.Gen.MoGrad
public import proofs.«01_k».proof.Proof.Gen.MoGrad.Frame
public import proofs.«01_k».proof.Proof.Gen.MoGradIdeal
public import proofs.«01_k».proof.Proof.Gen.MoGradIdeal.Frame
public import proofs.«01_k».proof.Proof.Gen.MoGradIdeal.Value
public import proofs.«01_k».proof.Proof.Gen.MoGradRefIdeal
public import proofs.«01_k».proof.Proof.Gen.MoGradRefIdeal.Run
public import proofs.«01_k».proof.Proof.Gen.MoGradRefIdeal.Read
public import proofs.«01_k».proof.Proof.Gen.MqBack
public import proofs.«01_k».proof.Proof.Gen.MqBack.Frame
public import proofs.«01_k».proof.Proof.Gen.MqBackIdeal
public import proofs.«01_k».proof.Proof.Gen.MqBackIdeal.Frame
public import proofs.«01_k».proof.Proof.Gen.MqBackIdeal.Value
public import proofs.«01_k».proof.Proof.Gen.MqBackRefIdeal
public import proofs.«01_k».proof.Proof.Gen.MqBackRefIdeal.Run
public import proofs.«01_k».proof.Proof.Gen.MqBackRefIdeal.Read
public import proofs.«01_k».proof.Proof.Gen.MqGrad
public import proofs.«01_k».proof.Proof.Gen.MqGrad.Frame
public import proofs.«01_k».proof.Proof.Gen.MqGradIdeal
public import proofs.«01_k».proof.Proof.Gen.MqGradIdeal.Frame
public import proofs.«01_k».proof.Proof.Gen.MqGradIdeal.Value
public import proofs.«01_k».proof.Proof.Gen.MqGradRefIdeal
public import proofs.«01_k».proof.Proof.Gen.MqGradRefIdeal.Run
public import proofs.«01_k».proof.Proof.Gen.MqGradRefIdeal.Read
public import proofs.«01_k».proof.Proof.Gen.OutBack
public import proofs.«01_k».proof.Proof.Gen.OutBack.Frame
public import proofs.«01_k».proof.Proof.Gen.OutBackIdeal
public import proofs.«01_k».proof.Proof.Gen.OutBackIdeal.Frame
public import proofs.«01_k».proof.Proof.Gen.OutBackIdeal.Value
public import proofs.«01_k».proof.Proof.Gen.OutBackRefIdeal
public import proofs.«01_k».proof.Proof.Gen.OutBackRefIdeal.Run
public import proofs.«01_k».proof.Proof.Gen.OutBackRefIdeal.Read
public import proofs.«01_k».proof.Proof.Gen.OutGrad
public import proofs.«01_k».proof.Proof.Gen.OutGrad.Frame
public import proofs.«01_k».proof.Proof.Gen.OutGradIdeal
public import proofs.«01_k».proof.Proof.Gen.OutGradIdeal.Frame
public import proofs.«01_k».proof.Proof.Gen.OutGradIdeal.Value
public import proofs.«01_k».proof.Proof.Gen.OutGradRefIdeal
public import proofs.«01_k».proof.Proof.Gen.OutGradRefIdeal.Run
public import proofs.«01_k».proof.Proof.Gen.OutGradRefIdeal.Read
public import proofs.«01_k».proof.Proof.Gen.InGrad
public import proofs.«01_k».proof.Proof.Gen.InGrad.Frame
public import proofs.«01_k».proof.Proof.Gen.InGradIdeal
public import proofs.«01_k».proof.Proof.Gen.InGradIdeal.Frame
public import proofs.«01_k».proof.Proof.Gen.InGradIdeal.Value
public import proofs.«01_k».proof.Proof.Gen.InGradRefIdeal
public import proofs.«01_k».proof.Proof.Gen.InGradRefIdeal.Run
public import proofs.«01_k».proof.Proof.Gen.InGradRefIdeal.Read
public import proofs.«01_k».proof.Proof.Gen.InBack
public import proofs.«01_k».proof.Proof.Gen.InBack.Frame
public import proofs.«01_k».proof.Proof.Gen.InBackIdeal
public import proofs.«01_k».proof.Proof.Gen.InBackIdeal.Frame
public import proofs.«01_k».proof.Proof.Gen.InBackIdeal.Value
public import proofs.«01_k».proof.Proof.Gen.InBackRefIdeal
public import proofs.«01_k».proof.Proof.Gen.InBackRefIdeal.Run
public import proofs.«01_k».proof.Proof.Gen.InBackRefIdeal.Read
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.MqProj
public import proofs.«01_k».proof.Proof.Gen.MqProj.Frame
public import proofs.«01_k».proof.Proof.Gen.MqProjIdeal
public import proofs.«01_k».proof.Proof.Gen.MqProjIdeal.Frame
public import proofs.«01_k».proof.Proof.Gen.MqProjIdeal.Value
public import proofs.«01_k».proof.Proof.Gen.MqProjRefIdeal
public import proofs.«01_k».proof.Proof.Gen.MqProjRefIdeal.Run
public import proofs.«01_k».proof.Proof.Gen.MqProjRefIdeal.Read
public import proofs.«01_k».proof.Proof.Gen.MoProj
public import proofs.«01_k».proof.Proof.Gen.MoProj.Frame
public import proofs.«01_k».proof.Proof.Gen.MoProjIdeal
public import proofs.«01_k».proof.Proof.Gen.MoProjIdeal.Frame
public import proofs.«01_k».proof.Proof.Gen.MoProjIdeal.Value
public import proofs.«01_k».proof.Proof.Gen.MoProjRefIdeal
public import proofs.«01_k».proof.Proof.Gen.MoProjRefIdeal.Run
public import proofs.«01_k».proof.Proof.Gen.MoProjRefIdeal.Read
public import proofs.«01_k».proof.Proof.Gen.FfnUp
public import proofs.«01_k».proof.Proof.Gen.FfnUp.Frame
public import proofs.«01_k».proof.Proof.Gen.FfnUpIdeal
public import proofs.«01_k».proof.Proof.Gen.FfnUpIdeal.Frame
public import proofs.«01_k».proof.Proof.Gen.FfnUpIdeal.Value
public import proofs.«01_k».proof.Proof.Gen.FfnUpRefIdeal
public import proofs.«01_k».proof.Proof.Gen.FfnUpRefIdeal.Run
public import proofs.«01_k».proof.Proof.Gen.FfnUpRefIdeal.Read
public import proofs.«01_k».proof.Proof.Gen.FfnDown
public import proofs.«01_k».proof.Proof.Gen.FfnDown.Frame
public import proofs.«01_k».proof.Proof.Gen.FfnDownIdeal
public import proofs.«01_k».proof.Proof.Gen.FfnDownIdeal.Frame
public import proofs.«01_k».proof.Proof.Gen.FfnDownIdeal.Value
public import proofs.«01_k».proof.Proof.Gen.FfnDownRefIdeal
public import proofs.«01_k».proof.Proof.Gen.FfnDownRefIdeal.Run
public import proofs.«01_k».proof.Proof.Gen.FfnDownRefIdeal.Read
public import proofs.«01_k».proof.Proof.Gen.XAttnBack
public import proofs.«01_k».proof.Proof.Gen.XAttnBack.Frame
public import proofs.«01_k».proof.Proof.Gen.XAttnBackIdeal
public import proofs.«01_k».proof.Proof.Gen.XAttnBackIdeal.Frame
public import proofs.«01_k».proof.Proof.Gen.XAttnBackIdeal.Value
public import proofs.«01_k».proof.Proof.Gen.XAttnBackRefIdeal
public import proofs.«01_k».proof.Proof.Gen.XAttnBackRefIdeal.Run
public import proofs.«01_k».proof.Proof.Gen.XAttnBackRefIdeal.Read
public import proofs.«01_k».proof.Proof.Gen.XAttnFwd
public import proofs.«01_k».proof.Proof.Gen.XAttnFwd.Frame
public import proofs.«01_k».proof.Proof.Gen.XAttnFwdIdeal
public import proofs.«01_k».proof.Proof.Gen.XAttnFwdIdeal.Frame
public import proofs.«01_k».proof.Proof.Gen.XAttnFwdIdeal.Value
public import proofs.«01_k».proof.Proof.Gen.XAttnFwdRefIdeal
public import proofs.«01_k».proof.Proof.Gen.XAttnFwdRefIdeal.Run
public import proofs.«01_k».proof.Proof.Gen.XAttnFwdRefIdeal.Read
public import proofs.«01_k».proof.Proof.Gen.Pre_finite
public import proofs.«01_k».proof.Proof.Gen.Pre_act_finite
public import proofs.«01_k».proof.Proof.Gen.Pre_xattn_finite
public import proofs.«01_k».proof.Proof.Final
public import proofs.«01_k».proof.Proof.DownGrad
public import proofs.«01_k».proof.Proof.UpBack
public import proofs.«01_k».proof.Proof.UpGrad
public import proofs.«01_k».proof.Proof.ActBack
public import proofs.«01_k».proof.Proof.MoBack
public import proofs.«01_k».proof.Proof.MoGrad
public import proofs.«01_k».proof.Proof.MqBack
public import proofs.«01_k».proof.Proof.MqGrad
public import proofs.«01_k».proof.Proof.OutBack
public import proofs.«01_k».proof.Proof.OutGrad
public import proofs.«01_k».proof.Proof.InGrad
public import proofs.«01_k».proof.Proof.InBack
public import proofs.«01_k».proof.Proof.InProj
public import proofs.«01_k».proof.Proof.OutProj
public import proofs.«01_k».proof.Proof.MqProj
public import proofs.«01_k».proof.Proof.MoProj
public import proofs.«01_k».proof.Proof.FfnUp
public import proofs.«01_k».proof.Proof.FfnDown
public import proofs.«01_k».proof.Proof.XAttnBack
public import proofs.«01_k».proof.Proof.XAttnFwd
public import Idealize.ShloMosaic.Adequacy
public import Idealize.ShloMosaic.Init

@[expose] public section

noncomputable section

namespace Cert.Proof

open Idealize.ShloMosaic Idealize.SL.Sem Cert.Kernel

/-! Each reference runs and leaves its arguments: a program of host operations only. -/

theorem frame_ReferenceIdeal : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

theorem frame_DownGradRefIdeal : Cert.quiescent_DownGradRefIdeal := fun m ρ _ =>
  (θ_run Cert.DownGradRefIdeal.defs _ _).mono (fun r h => ⟨fun c => (h c).2, sem_eq_zero_of_no_sems (by decide) r.2⟩)
    (Cert.DownGradRefIdeal.Value.run (F := Ideal) m ρ)

theorem frame_UpBackRefIdeal : Cert.quiescent_UpBackRefIdeal := fun m ρ _ =>
  (θ_run Cert.UpBackRefIdeal.defs _ _).mono (fun r h => ⟨fun c => (h c).2, sem_eq_zero_of_no_sems (by decide) r.2⟩)
    (Cert.UpBackRefIdeal.Value.run (F := Ideal) m ρ)

theorem frame_UpGradRefIdeal : Cert.quiescent_UpGradRefIdeal := fun m ρ _ =>
  (θ_run Cert.UpGradRefIdeal.defs _ _).mono (fun r h => ⟨fun c => (h c).2, sem_eq_zero_of_no_sems (by decide) r.2⟩)
    (Cert.UpGradRefIdeal.Value.run (F := Ideal) m ρ)

theorem frame_ActBackRefIdeal : Cert.quiescent_ActBackRefIdeal := fun m ρ _ =>
  (θ_run Cert.ActBackRefIdeal.defs _ _).mono (fun r h => ⟨fun c => (h c).2, sem_eq_zero_of_no_sems (by decide) r.2⟩)
    (Cert.ActBackRefIdeal.Value.run (F := Ideal) m ρ)

theorem frame_MoBackRefIdeal : Cert.quiescent_MoBackRefIdeal := fun m ρ _ =>
  (θ_run Cert.MoBackRefIdeal.defs _ _).mono (fun r h => ⟨fun c => (h c).2, sem_eq_zero_of_no_sems (by decide) r.2⟩)
    (Cert.MoBackRefIdeal.Value.run (F := Ideal) m ρ)

theorem frame_MoGradRefIdeal : Cert.quiescent_MoGradRefIdeal := fun m ρ _ =>
  (θ_run Cert.MoGradRefIdeal.defs _ _).mono (fun r h => ⟨fun c => (h c).2, sem_eq_zero_of_no_sems (by decide) r.2⟩)
    (Cert.MoGradRefIdeal.Value.run (F := Ideal) m ρ)

theorem frame_MqBackRefIdeal : Cert.quiescent_MqBackRefIdeal := fun m ρ _ =>
  (θ_run Cert.MqBackRefIdeal.defs _ _).mono (fun r h => ⟨fun c => (h c).2, sem_eq_zero_of_no_sems (by decide) r.2⟩)
    (Cert.MqBackRefIdeal.Value.run (F := Ideal) m ρ)

theorem frame_MqGradRefIdeal : Cert.quiescent_MqGradRefIdeal := fun m ρ _ =>
  (θ_run Cert.MqGradRefIdeal.defs _ _).mono (fun r h => ⟨fun c => (h c).2, sem_eq_zero_of_no_sems (by decide) r.2⟩)
    (Cert.MqGradRefIdeal.Value.run (F := Ideal) m ρ)

theorem frame_OutBackRefIdeal : Cert.quiescent_OutBackRefIdeal := fun m ρ _ =>
  (θ_run Cert.OutBackRefIdeal.defs _ _).mono (fun r h => ⟨fun c => (h c).2, sem_eq_zero_of_no_sems (by decide) r.2⟩)
    (Cert.OutBackRefIdeal.Value.run (F := Ideal) m ρ)

theorem frame_OutGradRefIdeal : Cert.quiescent_OutGradRefIdeal := fun m ρ _ =>
  (θ_run Cert.OutGradRefIdeal.defs _ _).mono (fun r h => ⟨fun c => (h c).2, sem_eq_zero_of_no_sems (by decide) r.2⟩)
    (Cert.OutGradRefIdeal.Value.run (F := Ideal) m ρ)

theorem frame_InGradRefIdeal : Cert.quiescent_InGradRefIdeal := fun m ρ _ =>
  (θ_run Cert.InGradRefIdeal.defs _ _).mono (fun r h => ⟨fun c => (h c).2, sem_eq_zero_of_no_sems (by decide) r.2⟩)
    (Cert.InGradRefIdeal.Value.run (F := Ideal) m ρ)

theorem frame_InBackRefIdeal : Cert.quiescent_InBackRefIdeal := fun m ρ _ =>
  (θ_run Cert.InBackRefIdeal.defs _ _).mono (fun r h => ⟨fun c => (h c).2, sem_eq_zero_of_no_sems (by decide) r.2⟩)
    (Cert.InBackRefIdeal.Value.run (F := Ideal) m ρ)

theorem frame_InProjRefIdeal : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

theorem frame_OutProjRefIdeal : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)

theorem frame_MqProjRefIdeal : Cert.quiescent_MqProjRefIdeal := fun m ρ _ =>
  (θ_run Cert.MqProjRefIdeal.defs _ _).mono (fun r h => ⟨fun c => (h c).2, sem_eq_zero_of_no_sems (by decide) r.2⟩)
    (Cert.MqProjRefIdeal.Value.run (F := Ideal) m ρ)

theorem frame_MoProjRefIdeal : Cert.quiescent_MoProjRefIdeal := fun m ρ _ =>
  (θ_run Cert.MoProjRefIdeal.defs _ _).mono (fun r h => ⟨fun c => (h c).2, sem_eq_zero_of_no_sems (by decide) r.2⟩)
    (Cert.MoProjRefIdeal.Value.run (F := Ideal) m ρ)

theorem frame_FfnUpRefIdeal : Cert.quiescent_FfnUpRefIdeal := fun m ρ _ =>
  (θ_run Cert.FfnUpRefIdeal.defs _ _).mono (fun r h => ⟨fun c => (h c).2.2.2, sem_eq_zero_of_no_sems (by decide) r.2⟩)
    (Cert.FfnUpRefIdeal.Value.run (F := Ideal) m ρ)

theorem frame_FfnDownRefIdeal : Cert.quiescent_FfnDownRefIdeal := fun m ρ _ =>
  (θ_run Cert.FfnDownRefIdeal.defs _ _).mono (fun r h => ⟨fun c => (h c).2, sem_eq_zero_of_no_sems (by decide) r.2⟩)
    (Cert.FfnDownRefIdeal.Value.run (F := Ideal) m ρ)

theorem frame_XAttnBackRefIdeal : Cert.quiescent_XAttnBackRefIdeal := fun m ρ _ =>
  (θ_run Cert.XAttnBackRefIdeal.defs _ _).mono (fun r h => ⟨fun c => (h c).2.2.2.2, sem_eq_zero_of_no_sems (by decide) r.2⟩)
    (Cert.XAttnBackRefIdeal.Value.run (F := Ideal) m ρ)

theorem frame_XAttnFwdRefIdeal : Cert.quiescent_XAttnFwdRefIdeal := fun m ρ _ =>
  (θ_run Cert.XAttnFwdRefIdeal.defs _ _).mono (fun r h => ⟨fun c => (h c).2, sem_eq_zero_of_no_sems (by decide) r.2⟩)
    (Cert.XAttnFwdRefIdeal.Value.run (F := Ideal) m ρ)

/-- Every claim. -/
theorem claim : Cert.Claim :=
  ⟨Cert.Kernel.Gen.facts,
    Cert.KernelIdeal.Gen.facts,
    Cert.ReferenceIdeal.Gen.facts,
    Cert.DownGrad.Gen.facts,
    Cert.DownGradIdeal.Gen.facts,
    Cert.DownGradRefIdeal.Gen.facts,
    Cert.UpBack.Gen.facts,
    Cert.UpBackIdeal.Gen.facts,
    Cert.UpBackRefIdeal.Gen.facts,
    Cert.UpGrad.Gen.facts,
    Cert.UpGradIdeal.Gen.facts,
    Cert.UpGradRefIdeal.Gen.facts,
    Cert.ActBack.Gen.facts,
    Cert.ActBackIdeal.Gen.facts,
    Cert.ActBackRefIdeal.Gen.facts,
    Cert.MoBack.Gen.facts,
    Cert.MoBackIdeal.Gen.facts,
    Cert.MoBackRefIdeal.Gen.facts,
    Cert.MoGrad.Gen.facts,
    Cert.MoGradIdeal.Gen.facts,
    Cert.MoGradRefIdeal.Gen.facts,
    Cert.MqBack.Gen.facts,
    Cert.MqBackIdeal.Gen.facts,
    Cert.MqBackRefIdeal.Gen.facts,
    Cert.MqGrad.Gen.facts,
    Cert.MqGradIdeal.Gen.facts,
    Cert.MqGradRefIdeal.Gen.facts,
    Cert.OutBack.Gen.facts,
    Cert.OutBackIdeal.Gen.facts,
    Cert.OutBackRefIdeal.Gen.facts,
    Cert.OutGrad.Gen.facts,
    Cert.OutGradIdeal.Gen.facts,
    Cert.OutGradRefIdeal.Gen.facts,
    Cert.InGrad.Gen.facts,
    Cert.InGradIdeal.Gen.facts,
    Cert.InGradRefIdeal.Gen.facts,
    Cert.InBack.Gen.facts,
    Cert.InBackIdeal.Gen.facts,
    Cert.InBackRefIdeal.Gen.facts,
    Cert.InProj.Gen.facts,
    Cert.InProjIdeal.Gen.facts,
    Cert.InProjRefIdeal.Gen.facts,
    Cert.OutProj.Gen.facts,
    Cert.OutProjIdeal.Gen.facts,
    Cert.OutProjRefIdeal.Gen.facts,
    Cert.MqProj.Gen.facts,
    Cert.MqProjIdeal.Gen.facts,
    Cert.MqProjRefIdeal.Gen.facts,
    Cert.MoProj.Gen.facts,
    Cert.MoProjIdeal.Gen.facts,
    Cert.MoProjRefIdeal.Gen.facts,
    Cert.FfnUp.Gen.facts,
    Cert.FfnUpIdeal.Gen.facts,
    Cert.FfnUpRefIdeal.Gen.facts,
    Cert.FfnDown.Gen.facts,
    Cert.FfnDownIdeal.Gen.facts,
    Cert.FfnDownRefIdeal.Gen.facts,
    Cert.XAttnBack.Gen.facts,
    Cert.XAttnBackIdeal.Gen.facts,
    Cert.XAttnBackRefIdeal.Gen.facts,
    Cert.XAttnFwd.Gen.facts,
    Cert.XAttnFwdIdeal.Gen.facts,
    Cert.XAttnFwdRefIdeal.Gen.facts,
    Cert.Pre_finite.Gen.facts,
    Cert.Pre_act_finite.Gen.facts,
    Cert.Pre_xattn_finite.Gen.facts,
    fun m ρ _ => Cert.Kernel.Gen.frame m ρ, fun m ρ _ => Cert.KernelIdeal.Gen.frame m ρ, fun m ρ _ => Cert.KernelIdeal.Gen.frame m ρ,
    fun m ρ h => frame_ReferenceIdeal m ρ h, fun m ρ _ => frame_ReferenceIdeal m ρ trivial,
    fun m ρ _ => Cert.DownGrad.Gen.frame m ρ, fun m ρ _ => Cert.DownGradIdeal.Gen.frame m ρ,
    fun m ρ h => frame_DownGradRefIdeal m ρ h,
    fun m ρ _ => Cert.UpBack.Gen.frame m ρ, fun m ρ _ => Cert.UpBackIdeal.Gen.frame m ρ,
    fun m ρ h => frame_UpBackRefIdeal m ρ h,
    fun m ρ _ => Cert.UpGrad.Gen.frame m ρ, fun m ρ _ => Cert.UpGradIdeal.Gen.frame m ρ,
    fun m ρ h => frame_UpGradRefIdeal m ρ h,
    fun m ρ _ => Cert.ActBack.Gen.frame m ρ, fun m ρ _ => Cert.ActBackIdeal.Gen.frame m ρ, fun m ρ _ => Cert.ActBackIdeal.Gen.frame m ρ,
    fun m ρ h => frame_ActBackRefIdeal m ρ h, fun m ρ _ => frame_ActBackRefIdeal m ρ trivial,
    fun m ρ _ => Cert.MoBack.Gen.frame m ρ, fun m ρ _ => Cert.MoBackIdeal.Gen.frame m ρ,
    fun m ρ h => frame_MoBackRefIdeal m ρ h,
    fun m ρ _ => Cert.MoGrad.Gen.frame m ρ, fun m ρ _ => Cert.MoGradIdeal.Gen.frame m ρ,
    fun m ρ h => frame_MoGradRefIdeal m ρ h,
    fun m ρ _ => Cert.MqBack.Gen.frame m ρ, fun m ρ _ => Cert.MqBackIdeal.Gen.frame m ρ,
    fun m ρ h => frame_MqBackRefIdeal m ρ h,
    fun m ρ _ => Cert.MqGrad.Gen.frame m ρ, fun m ρ _ => Cert.MqGradIdeal.Gen.frame m ρ,
    fun m ρ h => frame_MqGradRefIdeal m ρ h,
    fun m ρ _ => Cert.OutBack.Gen.frame m ρ, fun m ρ _ => Cert.OutBackIdeal.Gen.frame m ρ,
    fun m ρ h => frame_OutBackRefIdeal m ρ h,
    fun m ρ _ => Cert.OutGrad.Gen.frame m ρ, fun m ρ _ => Cert.OutGradIdeal.Gen.frame m ρ,
    fun m ρ h => frame_OutGradRefIdeal m ρ h,
    fun m ρ _ => Cert.InGrad.Gen.frame m ρ, fun m ρ _ => Cert.InGradIdeal.Gen.frame m ρ,
    fun m ρ h => frame_InGradRefIdeal m ρ h,
    fun m ρ _ => Cert.InBack.Gen.frame m ρ, fun m ρ _ => Cert.InBackIdeal.Gen.frame m ρ,
    fun m ρ h => frame_InBackRefIdeal m ρ h,
    fun m ρ _ => Cert.InProj.Gen.frame m ρ, fun m ρ _ => Cert.InProjIdeal.Gen.frame m ρ,
    fun m ρ h => frame_InProjRefIdeal m ρ h,
    fun m ρ _ => Cert.OutProj.Gen.frame m ρ, fun m ρ _ => Cert.OutProjIdeal.Gen.frame m ρ,
    fun m ρ h => frame_OutProjRefIdeal m ρ h,
    fun m ρ _ => Cert.MqProj.Gen.frame m ρ, fun m ρ _ => Cert.MqProjIdeal.Gen.frame m ρ,
    fun m ρ h => frame_MqProjRefIdeal m ρ h,
    fun m ρ _ => Cert.MoProj.Gen.frame m ρ, fun m ρ _ => Cert.MoProjIdeal.Gen.frame m ρ,
    fun m ρ h => frame_MoProjRefIdeal m ρ h,
    fun m ρ _ => Cert.FfnUp.Gen.frame m ρ, fun m ρ _ => Cert.FfnUpIdeal.Gen.frame m ρ,
    fun m ρ h => frame_FfnUpRefIdeal m ρ h,
    fun m ρ _ => Cert.FfnDown.Gen.frame m ρ, fun m ρ _ => Cert.FfnDownIdeal.Gen.frame m ρ,
    fun m ρ h => frame_FfnDownRefIdeal m ρ h,
    fun m ρ _ => Cert.XAttnBack.Gen.frame m ρ, fun m ρ _ => Cert.XAttnBackIdeal.Gen.frame m ρ, fun m ρ _ => Cert.XAttnBackIdeal.Gen.frame m ρ,
    fun m ρ h => frame_XAttnBackRefIdeal m ρ h, fun m ρ _ => frame_XAttnBackRefIdeal m ρ trivial,
    fun m ρ _ => Cert.XAttnFwd.Gen.frame m ρ, fun m ρ _ => Cert.XAttnFwdIdeal.Gen.frame m ρ,
    fun m ρ h => frame_XAttnFwdRefIdeal m ρ h,
    trivial, Final.algebraic,
    trivial, DownGrad.algebraic,
    trivial, UpBack.algebraic,
    trivial, UpGrad.algebraic,
    trivial, ActBack.algebraic,
    trivial, MoBack.algebraic,
    trivial, MoGrad.algebraic,
    trivial, MqBack.algebraic,
    trivial, MqGrad.algebraic,
    trivial, OutBack.algebraic,
    trivial, OutGrad.algebraic,
    trivial, InGrad.algebraic,
    trivial, InBack.algebraic,
    trivial, InProj.algebraic,
    trivial, OutProj.algebraic,
    trivial, MqProj.algebraic,
    trivial, MoProj.algebraic,
    trivial, FfnUp.algebraic,
    trivial, FfnDown.algebraic,
    trivial, XAttnBack.algebraic,
    trivial, XAttnFwd.algebraic⟩

end Cert.Proof

end
